-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownWKernel (m : (ℓ : Loc Cert.DownWKernel.nD Cert.DownWKernel.τ Cert.DownWKernel.sig) → Buf (Elt Bits) ℓ) : Prop :=
  True

def Pre_DownWKernelIdeal (m : (ℓ : Loc Cert.DownWKernelIdeal.nD Cert.DownWKernelIdeal.τ Cert.DownWKernelIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_DownXKernel (m : (ℓ : Loc Cert.DownXKernel.nD Cert.DownXKernel.τ Cert.DownXKernel.sig) → Buf (Elt Bits) ℓ) : Prop :=
  True

def Pre_DownXKernelIdeal (m : (ℓ : Loc Cert.DownXKernelIdeal.nD Cert.DownXKernelIdeal.τ Cert.DownXKernelIdeal.sig) → Buf (Elt Ideal) ℓ) : Prop :=
  True

def Pre_DownXReferenceIdeal (m : (ℓ : Loc Cert.DownXReferenceIdeal.nD Cert.DownXReferenceIdeal.τ Cert.DownXReferenceIdeal.sig) → Buf (Elt Ideal) ℓ) : Prop :=
  True

def Pre_OutWKernel (m : (ℓ : Loc Cert.OutWKernel.nD Cert.OutWKernel.τ Cert.OutWKernel.sig) → Buf (Elt Bits) ℓ) : Prop :=
  True

def Pre_OutWKernelIdeal (m : (ℓ : Loc Cert.OutWKernelIdeal.nD Cert.OutWKernelIdeal.τ Cert.OutWKernelIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_OutXKernel (m : (ℓ : Loc Cert.OutXKernel.nD Cert.OutXKernel.τ Cert.OutXKernel.sig) → Buf (Elt Bits) ℓ) : Prop :=
  True

def Pre_OutXKernelIdeal (m : (ℓ : Loc Cert.OutXKernelIdeal.nD Cert.OutXKernelIdeal.τ Cert.OutXKernelIdeal.sig) → Buf (Elt Ideal) ℓ) : Prop :=
  True

def Pre_OutXReferenceIdeal (m : (ℓ : Loc Cert.OutXReferenceIdeal.nD Cert.OutXReferenceIdeal.τ Cert.OutXReferenceIdeal.sig) → Buf (Elt Ideal) ℓ) : Prop :=
  True

def Pre_UpWKernel (m : (ℓ : Loc Cert.UpWKernel.nD Cert.UpWKernel.τ Cert.UpWKernel.sig) → Buf (Elt Bits) ℓ) : Prop :=
  True

def Pre_UpWKernelIdeal (m : (ℓ : Loc Cert.UpWKernelIdeal.nD Cert.UpWKernelIdeal.τ Cert.UpWKernelIdeal.sig) → Buf (Elt Ideal) ℓ) : Prop :=
  True

def Pre_UpWReferenceIdeal (m : (ℓ : Loc Cert.UpWReferenceIdeal.nD Cert.UpWReferenceIdeal.τ Cert.UpWReferenceIdeal.sig) → Buf (Elt Ideal) ℓ) : Prop :=
  True

def Pre_InWKernel (m : (ℓ : Loc Cert.InWKernel.nD Cert.InWKernel.τ Cert.InWKernel.sig) → Buf (Elt Bits) ℓ) : Prop :=
  True

def Pre_InWKernelIdeal (m : (ℓ : Loc Cert.InWKernelIdeal.nD Cert.InWKernelIdeal.τ Cert.InWKernelIdeal.sig) → Buf (Elt Ideal) ℓ) : Prop :=
  True

def Pre_InWReferenceIdeal (m : (ℓ : Loc Cert.InWReferenceIdeal.nD Cert.InWReferenceIdeal.τ Cert.InWReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxKernelIdeal_finite [hPre_finite : Cert.Pre_finite.Facts] (m : (ℓ : Loc Cert.UpDxKernelIdeal.nD Cert.UpDxKernelIdeal.τ Cert.UpDxKernelIdeal.sig) → Buf (Elt Ideal) ℓ) : Prop :=
  ∀ c : Dev Cert.UpDxKernelIdeal.nD,
    (Cert.Pre_finite.fn (F := Ideal) (m ((c.tc : Thread Cert.UpDxKernelIdeal.nD Cert.UpDxKernelIdeal.τ).loc Cert.UpDxKernelIdeal.main_arg0)) (m ((c.tc : Thread Cert.UpDxKernelIdeal.nD Cert.UpDxKernelIdeal.τ).loc Cert.UpDxKernelIdeal.main_arg1)) (m ((c.tc : Thread Cert.UpDxKernelIdeal.nD Cert.UpDxKernelIdeal.τ).loc Cert.UpDxKernelIdeal.main_arg2)) (m ((c.tc : Thread Cert.UpDxKernelIdeal.nD Cert.UpDxKernelIdeal.τ).loc Cert.UpDxKernelIdeal.main_arg3)) (m ((c.tc : Thread Cert.UpDxKernelIdeal.nD Cert.UpDxKernelIdeal.τ).loc Cert.UpDxKernelIdeal.main_arg4)) (m ((c.tc : Thread Cert.UpDxKernelIdeal.nD Cert.UpDxKernelIdeal.τ).loc Cert.UpDxKernelIdeal.main_arg5)) (m ((c.tc : Thread Cert.UpDxKernelIdeal.nD Cert.UpDxKernelIdeal.τ).loc Cert.UpDxKernelIdeal.main_arg6)) (m ((c.tc : Thread Cert.UpDxKernelIdeal.nD Cert.UpDxKernelIdeal.τ).loc Cert.UpDxKernelIdeal.main_arg7)) (m ((c.tc : Thread Cert.UpDxKernelIdeal.nD Cert.UpDxKernelIdeal.τ).loc Cert.UpDxKernelIdeal.main_arg8)) (m ((c.tc : Thread Cert.UpDxKernelIdeal.nD Cert.UpDxKernelIdeal.τ).loc Cert.UpDxKernelIdeal.main_arg9))) = (fun _ => 1#1)

def Pre_UpDxReferenceIdeal (m : (ℓ : Loc Cert.UpDxReferenceIdeal.nD Cert.UpDxReferenceIdeal.τ Cert.UpDxReferenceIdeal.sig) → Buf (Elt Ideal) ℓ) : Prop :=
  True

def Pre_UpDxReferenceIdeal_finite [hPre_finite : Cert.Pre_finite.Facts] (m : (ℓ : Loc Cert.UpDxReferenceIdeal.nD Cert.UpDxReferenceIdeal.τ Cert.UpDxReferenceIdeal.sig) → Buf (Elt Ideal) ℓ) : Prop :=
  ∀ c : Dev Cert.UpDxReferenceIdeal.nD,
    (Cert.Pre_finite.fn (F := Ideal) (m ((c.tc : Thread Cert.UpDxReferenceIdeal.nD Cert.UpDxReferenceIdeal.τ).loc Cert.UpDxReferenceIdeal.main_arg0)) (m ((c.tc : Thread Cert.UpDxReferenceIdeal.nD Cert.UpDxReferenceIdeal.τ).loc Cert.UpDxReferenceIdeal.main_arg1)) (m ((c.tc : Thread Cert.UpDxReferenceIdeal.nD Cert.UpDxReferenceIdeal.τ).loc Cert.UpDxReferenceIdeal.main_arg2)) (m ((c.tc : Thread Cert.UpDxReferenceIdeal.nD Cert.UpDxReferenceIdeal.τ).loc Cert.UpDxReferenceIdeal.main_arg3)) (m ((c.tc : Thread Cert.UpDxReferenceIdeal.nD Cert.UpDxReferenceIdeal.τ).loc Cert.UpDxReferenceIdeal.main_arg4)) (m ((c.tc : Thread Cert.UpDxReferenceIdeal.nD Cert.UpDxReferenceIdeal.τ).loc Cert.UpDxReferenceIdeal.main_arg5)) (m ((c.tc : Thread Cert.UpDxReferenceIdeal.nD Cert.UpDxReferenceIdeal.τ).loc Cert.UpDxReferenceIdeal.main_arg6)) (m ((c.tc : Thread Cert.UpDxReferenceIdeal.nD Cert.UpDxReferenceIdeal.τ).loc Cert.UpDxReferenceIdeal.main_arg7)) (m ((c.tc : Thread Cert.UpDxReferenceIdeal.nD Cert.UpDxReferenceIdeal.τ).loc Cert.UpDxReferenceIdeal.main_arg8)) (m ((c.tc : Thread Cert.UpDxReferenceIdeal.nD Cert.UpDxReferenceIdeal.τ).loc Cert.UpDxReferenceIdeal.main_arg9))) = (fun _ => 1#1)

def Pre_InDxKernel (m : (ℓ : Loc Cert.InDxKernel.nD Cert.InDxKernel.τ Cert.InDxKernel.sig) → Buf (Elt Bits) ℓ) : Prop :=
  True

def Pre_InDxKernelIdeal (m : (ℓ : Loc Cert.InDxKernelIdeal.nD Cert.InDxKernelIdeal.τ Cert.InDxKernelIdeal.sig) → Buf (Elt Ideal) ℓ) : Prop :=
  True

def Pre_InDxKernelIdeal_finite_in [hPre_finite_in : Cert.Pre_finite_in.Facts] (m : (ℓ : Loc Cert.InDxKernelIdeal.nD Cert.InDxKernelIdeal.τ Cert.InDxKernelIdeal.sig) → Buf (Elt Ideal) ℓ) : Prop :=
  ∀ c : Dev Cert.InDxKernelIdeal.nD,
    (Cert.Pre_finite_in.fn (F := Ideal) (m ((c.tc : Thread Cert.InDxKernelIdeal.nD Cert.InDxKernelIdeal.τ).loc Cert.InDxKernelIdeal.main_arg0)) (m ((c.tc : Thread Cert.InDxKernelIdeal.nD Cert.InDxKernelIdeal.τ).loc Cert.InDxKernelIdeal.main_arg1)) (m ((c.tc : Thread Cert.InDxKernelIdeal.nD Cert.InDxKernelIdeal.τ).loc Cert.InDxKernelIdeal.main_arg2)) (m ((c.tc : Thread Cert.InDxKernelIdeal.nD Cert.InDxKernelIdeal.τ).loc Cert.InDxKernelIdeal.main_arg3)) (m ((c.tc : Thread Cert.InDxKernelIdeal.nD Cert.InDxKernelIdeal.τ).loc Cert.InDxKernelIdeal.main_arg4)) (m ((c.tc : Thread Cert.InDxKernelIdeal.nD Cert.InDxKernelIdeal.τ).loc Cert.InDxKernelIdeal.main_arg5)) (m ((c.tc : Thread Cert.InDxKernelIdeal.nD Cert.InDxKernelIdeal.τ).loc Cert.InDxKernelIdeal.main_arg6))) = (fun _ => 1#1)

def Pre_InDxReferenceIdeal (m : (ℓ : Loc Cert.InDxReferenceIdeal.nD Cert.InDxReferenceIdeal.τ Cert.InDxReferenceIdeal.sig) → Buf (Elt Ideal) ℓ) : Prop :=
  True

def Pre_InDxReferenceIdeal_finite_in [hPre_finite_in : Cert.Pre_finite_in.Facts] (m : (ℓ : Loc Cert.InDxReferenceIdeal.nD Cert.InDxReferenceIdeal.τ Cert.InDxReferenceIdeal.sig) → Buf (Elt Ideal) ℓ) : Prop :=
  ∀ c : Dev Cert.InDxReferenceIdeal.nD,
    (Cert.Pre_finite_in.fn (F := Ideal) (m ((c.tc : Thread Cert.InDxReferenceIdeal.nD Cert.InDxReferenceIdeal.τ).loc Cert.InDxReferenceIdeal.main_arg0)) (m ((c.tc : Thread Cert.InDxReferenceIdeal.nD Cert.InDxReferenceIdeal.τ).loc Cert.InDxReferenceIdeal.main_arg1)) (m ((c.tc : Thread Cert.InDxReferenceIdeal.nD Cert.InDxReferenceIdeal.τ).loc Cert.InDxReferenceIdeal.main_arg2)) (m ((c.tc : Thread Cert.InDxReferenceIdeal.nD Cert.InDxReferenceIdeal.τ).loc Cert.InDxReferenceIdeal.main_arg3)) (m ((c.tc : Thread Cert.InDxReferenceIdeal.nD Cert.InDxReferenceIdeal.τ).loc Cert.InDxReferenceIdeal.main_arg4)) (m ((c.tc : Thread Cert.InDxReferenceIdeal.nD Cert.InDxReferenceIdeal.τ).loc Cert.InDxReferenceIdeal.main_arg5)) (m ((c.tc : Thread Cert.InDxReferenceIdeal.nD Cert.InDxReferenceIdeal.τ).loc Cert.InDxReferenceIdeal.main_arg6))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_ScwKernel (m : (ℓ : Loc Cert.ScwKernel.nD Cert.ScwKernel.τ Cert.ScwKernel.sig) → Buf (Elt Bits) ℓ) : Prop :=
  True

def Pre_ScwKernelIdeal (m : (ℓ : Loc Cert.ScwKernelIdeal.nD Cert.ScwKernelIdeal.τ Cert.ScwKernelIdeal.sig) → Buf (Elt Ideal) ℓ) : Prop :=
  True

def Pre_ScwReferenceIdeal (m : (ℓ : Loc Cert.ScwReferenceIdeal.nD Cert.ScwReferenceIdeal.τ Cert.ScwReferenceIdeal.sig) → Buf (Elt Ideal) ℓ) : Prop :=
  True

def Pre_FcwKernel (m : (ℓ : Loc Cert.FcwKernel.nD Cert.FcwKernel.τ Cert.FcwKernel.sig) → Buf (Elt Bits) ℓ) : Prop :=
  True

def Pre_FcwKernelIdeal (m : (ℓ : Loc Cert.FcwKernelIdeal.nD Cert.FcwKernelIdeal.τ Cert.FcwKernelIdeal.sig) → Buf (Elt Ideal) ℓ) : Prop :=
  True

def Pre_FcwReferenceIdeal (m : (ℓ : Loc Cert.FcwReferenceIdeal.nD Cert.FcwReferenceIdeal.τ Cert.FcwReferenceIdeal.sig) → Buf (Elt Ideal) ℓ) : Prop :=
  True

def Pre_AdaWKernel (m : (ℓ : Loc Cert.AdaWKernel.nD Cert.AdaWKernel.τ Cert.AdaWKernel.sig) → Buf (Elt Bits) ℓ) : Prop :=
  True

def Pre_AdaWKernelIdeal (m : (ℓ : Loc Cert.AdaWKernelIdeal.nD Cert.AdaWKernelIdeal.τ Cert.AdaWKernelIdeal.sig) → Buf (Elt Ideal) ℓ) : Prop :=
  True

def Pre_AdaWReferenceIdeal (m : (ℓ : Loc Cert.AdaWReferenceIdeal.nD Cert.AdaWReferenceIdeal.τ Cert.AdaWReferenceIdeal.sig) → Buf (Elt Ideal) ℓ) : Prop :=
  True

def Pre_WinKernel [hPre_device_w_in : Cert.Pre_device_w_in.Facts] (m : (ℓ : Loc Cert.WinKernel.nD Cert.WinKernel.τ Cert.WinKernel.sig) → Buf (Elt Bits) ℓ) : Prop :=
  ∀ c : Dev Cert.WinKernel.nD,
    (Cert.Pre_device_w_in.fn (F := Bits) (m ((c.tc : Thread Cert.WinKernel.nD Cert.WinKernel.τ).loc Cert.WinKernel.main_arg0)) (m ((c.tc : Thread Cert.WinKernel.nD Cert.WinKernel.τ).loc Cert.WinKernel.main_arg1)) (m ((c.tc : Thread Cert.WinKernel.nD Cert.WinKernel.τ).loc Cert.WinKernel.main_arg2)) (m ((c.tc : Thread Cert.WinKernel.nD Cert.WinKernel.τ).loc Cert.WinKernel.main_arg3)) (m ((c.tc : Thread Cert.WinKernel.nD Cert.WinKernel.τ).loc Cert.WinKernel.main_arg4)) (m ((c.tc : Thread Cert.WinKernel.nD Cert.WinKernel.τ).loc Cert.WinKernel.main_arg5)) (m ((c.tc : Thread Cert.WinKernel.nD Cert.WinKernel.τ).loc Cert.WinKernel.main_arg6)) (m ((c.tc : Thread Cert.WinKernel.nD Cert.WinKernel.τ).loc Cert.WinKernel.main_arg7))) = (fun _ => 1#1)

def Pre_WinKernelIdeal [hPre_device_w_in : Cert.Pre_device_w_in.Facts] (m : (ℓ : Loc Cert.WinKernelIdeal.nD Cert.WinKernelIdeal.τ Cert.WinKernelIdeal.sig) → Buf (Elt Ideal) ℓ) : Prop :=
  ∀ c : Dev Cert.WinKernelIdeal.nD,
    (Cert.Pre_device_w_in.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7))) = (fun _ => 1#1)

def Pre_WinReferenceIdeal (m : (ℓ : Loc Cert.WinReferenceIdeal.nD Cert.WinReferenceIdeal.τ Cert.WinReferenceIdeal.sig) → Buf (Elt Ideal) ℓ) : Prop :=
  True

def Pre_WinReferenceIdeal_device_w_in [hPre_device_w_in : Cert.Pre_device_w_in.Facts] (m : (ℓ : Loc Cert.WinReferenceIdeal.nD Cert.WinReferenceIdeal.τ Cert.WinReferenceIdeal.sig) → Buf (Elt Ideal) ℓ) : Prop :=
  ∀ c : Dev Cert.WinReferenceIdeal.nD,
    (Cert.Pre_device_w_in.fn (F := Ideal) (m ((c.tc : Thread Cert.WinReferenceIdeal.nD Cert.WinReferenceIdeal.τ).loc Cert.WinReferenceIdeal.main_arg0)) (m ((c.tc : Thread Cert.WinReferenceIdeal.nD Cert.WinReferenceIdeal.τ).loc Cert.WinReferenceIdeal.main_arg1)) (m ((c.tc : Thread Cert.WinReferenceIdeal.nD Cert.WinReferenceIdeal.τ).loc Cert.WinReferenceIdeal.main_arg2)) (m ((c.tc : Thread Cert.WinReferenceIdeal.nD Cert.WinReferenceIdeal.τ).loc Cert.WinReferenceIdeal.main_arg3)) (m ((c.tc : Thread Cert.WinReferenceIdeal.nD Cert.WinReferenceIdeal.τ).loc Cert.WinReferenceIdeal.main_arg4)) (m ((c.tc : Thread Cert.WinReferenceIdeal.nD Cert.WinReferenceIdeal.τ).loc Cert.WinReferenceIdeal.main_arg5)) (m ((c.tc : Thread Cert.WinReferenceIdeal.nD Cert.WinReferenceIdeal.τ).loc Cert.WinReferenceIdeal.main_arg6)) (m ((c.tc : Thread Cert.WinReferenceIdeal.nD Cert.WinReferenceIdeal.τ).loc Cert.WinReferenceIdeal.main_arg7))) = (fun _ => 1#1)

def Pre_WoutKernel [hPre_device_w_out : Cert.Pre_device_w_out.Facts] (m : (ℓ : Loc Cert.WoutKernel.nD Cert.WoutKernel.τ Cert.WoutKernel.sig) → Buf (Elt Bits) ℓ) : Prop :=
  ∀ c : Dev Cert.WoutKernel.nD,
    (Cert.Pre_device_w_out.fn (F := Bits) (m ((c.tc : Thread Cert.WoutKernel.nD Cert.WoutKernel.τ).loc Cert.WoutKernel.main_arg0)) (m ((c.tc : Thread Cert.WoutKernel.nD Cert.WoutKernel.τ).loc Cert.WoutKernel.main_arg1)) (m ((c.tc : Thread Cert.WoutKernel.nD Cert.WoutKernel.τ).loc Cert.WoutKernel.main_arg2)) (m ((c.tc : Thread Cert.WoutKernel.nD Cert.WoutKernel.τ).loc Cert.WoutKernel.main_arg3)) (m ((c.tc : Thread Cert.WoutKernel.nD Cert.WoutKernel.τ).loc Cert.WoutKernel.main_arg4)) (m ((c.tc : Thread Cert.WoutKernel.nD Cert.WoutKernel.τ).loc Cert.WoutKernel.main_arg5)) (m ((c.tc : Thread Cert.WoutKernel.nD Cert.WoutKernel.τ).loc Cert.WoutKernel.main_arg6)) (m ((c.tc : Thread Cert.WoutKernel.nD Cert.WoutKernel.τ).loc Cert.WoutKernel.main_arg7)) (m ((c.tc : Thread Cert.WoutKernel.nD Cert.WoutKernel.τ).loc Cert.WoutKernel.main_arg8)) (m ((c.tc : Thread Cert.WoutKernel.nD Cert.WoutKernel.τ).loc Cert.WoutKernel.main_arg9))) = (fun _ => 1#1)

def Pre_WoutKernelIdeal [hPre_device_w_out : Cert.Pre_device_w_out.Facts] (m : (ℓ : Loc Cert.WoutKernelIdeal.nD Cert.WoutKernelIdeal.τ Cert.WoutKernelIdeal.sig) → Buf (Elt Ideal) ℓ) : Prop :=
  ∀ c : Dev Cert.WoutKernelIdeal.nD,
    (Cert.Pre_device_w_out.fn (F := Ideal) (m ((c.tc : Thread Cert.WoutKernelIdeal.nD Cert.WoutKernelIdeal.τ).loc Cert.WoutKernelIdeal.main_arg0)) (m ((c.tc : Thread Cert.WoutKernelIdeal.nD Cert.WoutKernelIdeal.τ).loc Cert.WoutKernelIdeal.main_arg1)) (m ((c.tc : Thread Cert.WoutKernelIdeal.nD Cert.WoutKernelIdeal.τ).loc Cert.WoutKernelIdeal.main_arg2)) (m ((c.tc : Thread Cert.WoutKernelIdeal.nD Cert.WoutKernelIdeal.τ).loc Cert.WoutKernelIdeal.main_arg3)) (m ((c.tc : Thread Cert.WoutKernelIdeal.nD Cert.WoutKernelIdeal.τ).loc Cert.WoutKernelIdeal.main_arg4)) (m ((c.tc : Thread Cert.WoutKernelIdeal.nD Cert.WoutKernelIdeal.τ).loc Cert.WoutKernelIdeal.main_arg5)) (m ((c.tc : Thread Cert.WoutKernelIdeal.nD Cert.WoutKernelIdeal.τ).loc Cert.WoutKernelIdeal.main_arg6)) (m ((c.tc : Thread Cert.WoutKernelIdeal.nD Cert.WoutKernelIdeal.τ).loc Cert.WoutKernelIdeal.main_arg7)) (m ((c.tc : Thread Cert.WoutKernelIdeal.nD Cert.WoutKernelIdeal.τ).loc Cert.WoutKernelIdeal.main_arg8)) (m ((c.tc : Thread Cert.WoutKernelIdeal.nD Cert.WoutKernelIdeal.τ).loc Cert.WoutKernelIdeal.main_arg9))) = (fun _ => 1#1)

def Pre_WoutReferenceIdeal (m : (ℓ : Loc Cert.WoutReferenceIdeal.nD Cert.WoutReferenceIdeal.τ Cert.WoutReferenceIdeal.sig) → Buf (Elt Ideal) ℓ) : Prop :=
  True

def Pre_WoutReferenceIdeal_device_w_out [hPre_device_w_out : Cert.Pre_device_w_out.Facts] (m : (ℓ : Loc Cert.WoutReferenceIdeal.nD Cert.WoutReferenceIdeal.τ Cert.WoutReferenceIdeal.sig) → Buf (Elt Ideal) ℓ) : Prop :=
  ∀ c : Dev Cert.WoutReferenceIdeal.nD,
    (Cert.Pre_device_w_out.fn (F := Ideal) (m ((c.tc : Thread Cert.WoutReferenceIdeal.nD Cert.WoutReferenceIdeal.τ).loc Cert.WoutReferenceIdeal.main_arg0)) (m ((c.tc : Thread Cert.WoutReferenceIdeal.nD Cert.WoutReferenceIdeal.τ).loc Cert.WoutReferenceIdeal.main_arg1)) (m ((c.tc : Thread Cert.WoutReferenceIdeal.nD Cert.WoutReferenceIdeal.τ).loc Cert.WoutReferenceIdeal.main_arg2)) (m ((c.tc : Thread Cert.WoutReferenceIdeal.nD Cert.WoutReferenceIdeal.τ).loc Cert.WoutReferenceIdeal.main_arg3)) (m ((c.tc : Thread Cert.WoutReferenceIdeal.nD Cert.WoutReferenceIdeal.τ).loc Cert.WoutReferenceIdeal.main_arg4)) (m ((c.tc : Thread Cert.WoutReferenceIdeal.nD Cert.WoutReferenceIdeal.τ).loc Cert.WoutReferenceIdeal.main_arg5)) (m ((c.tc : Thread Cert.WoutReferenceIdeal.nD Cert.WoutReferenceIdeal.τ).loc Cert.WoutReferenceIdeal.main_arg6)) (m ((c.tc : Thread Cert.WoutReferenceIdeal.nD Cert.WoutReferenceIdeal.τ).loc Cert.WoutReferenceIdeal.main_arg7)) (m ((c.tc : Thread Cert.WoutReferenceIdeal.nD Cert.WoutReferenceIdeal.τ).loc Cert.WoutReferenceIdeal.main_arg8)) (m ((c.tc : Thread Cert.WoutReferenceIdeal.nD Cert.WoutReferenceIdeal.τ).loc Cert.WoutReferenceIdeal.main_arg9))) = (fun _ => 1#1)

def Pre_FupKernel [hPre_device_ff_up : Cert.Pre_device_ff_up.Facts] (m : (ℓ : Loc Cert.FupKernel.nD Cert.FupKernel.τ Cert.FupKernel.sig) → Buf (Elt Bits) ℓ) : Prop :=
  ∀ c : Dev Cert.FupKernel.nD,
    (Cert.Pre_device_ff_up.fn (F := Bits) (m ((c.tc : Thread Cert.FupKernel.nD Cert.FupKernel.τ).loc Cert.FupKernel.main_arg0)) (m ((c.tc : Thread Cert.FupKernel.nD Cert.FupKernel.τ).loc Cert.FupKernel.main_arg1)) (m ((c.tc : Thread Cert.FupKernel.nD Cert.FupKernel.τ).loc Cert.FupKernel.main_arg2)) (m ((c.tc : Thread Cert.FupKernel.nD Cert.FupKernel.τ).loc Cert.FupKernel.main_arg3)) (m ((c.tc : Thread Cert.FupKernel.nD Cert.FupKernel.τ).loc Cert.FupKernel.main_arg4)) (m ((c.tc : Thread Cert.FupKernel.nD Cert.FupKernel.τ).loc Cert.FupKernel.main_arg5)) (m ((c.tc : Thread Cert.FupKernel.nD Cert.FupKernel.τ).loc Cert.FupKernel.main_arg6)) (m ((c.tc : Thread Cert.FupKernel.nD Cert.FupKernel.τ).loc Cert.FupKernel.main_arg7)) (m ((c.tc : Thread Cert.FupKernel.nD Cert.FupKernel.τ).loc Cert.FupKernel.main_arg8)) (m ((c.tc : Thread Cert.FupKernel.nD Cert.FupKernel.τ).loc Cert.FupKernel.main_arg9))) = (fun _ => 1#1)

def Pre_FupKernelIdeal [hPre_device_ff_up : Cert.Pre_device_ff_up.Facts] (m : (ℓ : Loc Cert.FupKernelIdeal.nD Cert.FupKernelIdeal.τ Cert.FupKernelIdeal.sig) → Buf (Elt Ideal) ℓ) : Prop :=
  ∀ c : Dev Cert.FupKernelIdeal.nD,
    (Cert.Pre_device_ff_up.fn (F := Ideal) (m ((c.tc : Thread Cert.FupKernelIdeal.nD Cert.FupKernelIdeal.τ).loc Cert.FupKernelIdeal.main_arg0)) (m ((c.tc : Thread Cert.FupKernelIdeal.nD Cert.FupKernelIdeal.τ).loc Cert.FupKernelIdeal.main_arg1)) (m ((c.tc : Thread Cert.FupKernelIdeal.nD Cert.FupKernelIdeal.τ).loc Cert.FupKernelIdeal.main_arg2)) (m ((c.tc : Thread Cert.FupKernelIdeal.nD Cert.FupKernelIdeal.τ).loc Cert.FupKernelIdeal.main_arg3)) (m ((c.tc : Thread Cert.FupKernelIdeal.nD Cert.FupKernelIdeal.τ).loc Cert.FupKernelIdeal.main_arg4)) (m ((c.tc : Thread Cert.FupKernelIdeal.nD Cert.FupKernelIdeal.τ).loc Cert.FupKernelIdeal.main_arg5)) (m ((c.tc : Thread Cert.FupKernelIdeal.nD Cert.FupKernelIdeal.τ).loc Cert.FupKernelIdeal.main_arg6)) (m ((c.tc : Thread Cert.FupKernelIdeal.nD Cert.FupKernelIdeal.τ).loc Cert.FupKernelIdeal.main_arg7)) (m ((c.tc : Thread Cert.FupKernelIdeal.nD Cert.FupKernelIdeal.τ).loc Cert.FupKernelIdeal.main_arg8)) (m ((c.tc : Thread Cert.FupKernelIdeal.nD Cert.FupKernelIdeal.τ).loc Cert.FupKernelIdeal.main_arg9))) = (fun _ => 1#1)

def Pre_FupReferenceIdeal (m : (ℓ : Loc Cert.FupReferenceIdeal.nD Cert.FupReferenceIdeal.τ Cert.FupReferenceIdeal.sig) → Buf (Elt Ideal) ℓ) : Prop :=
  True

def Pre_FupReferenceIdeal_device_ff_up [hPre_device_ff_up : Cert.Pre_device_ff_up.Facts] (m : (ℓ : Loc Cert.FupReferenceIdeal.nD Cert.FupReferenceIdeal.τ Cert.FupReferenceIdeal.sig) → Buf (Elt Ideal) ℓ) : Prop :=
  ∀ c : Dev Cert.FupReferenceIdeal.nD,
    (Cert.Pre_device_ff_up.fn (F := Ideal) (m ((c.tc : Thread Cert.FupReferenceIdeal.nD Cert.FupReferenceIdeal.τ).loc Cert.FupReferenceIdeal.main_arg0)) (m ((c.tc : Thread Cert.FupReferenceIdeal.nD Cert.FupReferenceIdeal.τ).loc Cert.FupReferenceIdeal.main_arg1)) (m ((c.tc : Thread Cert.FupReferenceIdeal.nD Cert.FupReferenceIdeal.τ).loc Cert.FupReferenceIdeal.main_arg2)) (m ((c.tc : Thread Cert.FupReferenceIdeal.nD Cert.FupReferenceIdeal.τ).loc Cert.FupReferenceIdeal.main_arg3)) (m ((c.tc : Thread Cert.FupReferenceIdeal.nD Cert.FupReferenceIdeal.τ).loc Cert.FupReferenceIdeal.main_arg4)) (m ((c.tc : Thread Cert.FupReferenceIdeal.nD Cert.FupReferenceIdeal.τ).loc Cert.FupReferenceIdeal.main_arg5)) (m ((c.tc : Thread Cert.FupReferenceIdeal.nD Cert.FupReferenceIdeal.τ).loc Cert.FupReferenceIdeal.main_arg6)) (m ((c.tc : Thread Cert.FupReferenceIdeal.nD Cert.FupReferenceIdeal.τ).loc Cert.FupReferenceIdeal.main_arg7)) (m ((c.tc : Thread Cert.FupReferenceIdeal.nD Cert.FupReferenceIdeal.τ).loc Cert.FupReferenceIdeal.main_arg8)) (m ((c.tc : Thread Cert.FupReferenceIdeal.nD Cert.FupReferenceIdeal.τ).loc Cert.FupReferenceIdeal.main_arg9))) = (fun _ => 1#1)

def Pre_FdnKernel [hPre_device_ff_down : Cert.Pre_device_ff_down.Facts] (m : (ℓ : Loc Cert.FdnKernel.nD Cert.FdnKernel.τ Cert.FdnKernel.sig) → Buf (Elt Bits) ℓ) : Prop :=
  ∀ c : Dev Cert.FdnKernel.nD,
    (Cert.Pre_device_ff_down.fn (F := Bits) (m ((c.tc : Thread Cert.FdnKernel.nD Cert.FdnKernel.τ).loc Cert.FdnKernel.main_arg0)) (m ((c.tc : Thread Cert.FdnKernel.nD Cert.FdnKernel.τ).loc Cert.FdnKernel.main_arg1)) (m ((c.tc : Thread Cert.FdnKernel.nD Cert.FdnKernel.τ).loc Cert.FdnKernel.main_arg2)) (m ((c.tc : Thread Cert.FdnKernel.nD Cert.FdnKernel.τ).loc Cert.FdnKernel.main_arg3)) (m ((c.tc : Thread Cert.FdnKernel.nD Cert.FdnKernel.τ).loc Cert.FdnKernel.main_arg4)) (m ((c.tc : Thread Cert.FdnKernel.nD Cert.FdnKernel.τ).loc Cert.FdnKernel.main_arg5)) (m ((c.tc : Thread Cert.FdnKernel.nD Cert.FdnKernel.τ).loc Cert.FdnKernel.main_arg6)) (m ((c.tc : Thread Cert.FdnKernel.nD Cert.FdnKernel.τ).loc Cert.FdnKernel.main_arg7)) (m ((c.tc : Thread Cert.FdnKernel.nD Cert.FdnKernel.τ).loc Cert.FdnKernel.main_arg8)) (m ((c.tc : Thread Cert.FdnKernel.nD Cert.FdnKernel.τ).loc Cert.FdnKernel.main_arg9))) = (fun _ => 1#1)

def Pre_FdnKernelIdeal [hPre_device_ff_down : Cert.Pre_device_ff_down.Facts] (m : (ℓ : Loc Cert.FdnKernelIdeal.nD Cert.FdnKernelIdeal.τ Cert.FdnKernelIdeal.sig) → Buf (Elt Ideal) ℓ) : Prop :=
  ∀ c : Dev Cert.FdnKernelIdeal.nD,
    (Cert.Pre_device_ff_down.fn (F := Ideal) (m ((c.tc : Thread Cert.FdnKernelIdeal.nD Cert.FdnKernelIdeal.τ).loc Cert.FdnKernelIdeal.main_arg0)) (m ((c.tc : Thread Cert.FdnKernelIdeal.nD Cert.FdnKernelIdeal.τ).loc Cert.FdnKernelIdeal.main_arg1)) (m ((c.tc : Thread Cert.FdnKernelIdeal.nD Cert.FdnKernelIdeal.τ).loc Cert.FdnKernelIdeal.main_arg2)) (m ((c.tc : Thread Cert.FdnKernelIdeal.nD Cert.FdnKernelIdeal.τ).loc Cert.FdnKernelIdeal.main_arg3)) (m ((c.tc : Thread Cert.FdnKernelIdeal.nD Cert.FdnKernelIdeal.τ).loc Cert.FdnKernelIdeal.main_arg4)) (m ((c.tc : Thread Cert.FdnKernelIdeal.nD Cert.FdnKernelIdeal.τ).loc Cert.FdnKernelIdeal.main_arg5)) (m ((c.tc : Thread Cert.FdnKernelIdeal.nD Cert.FdnKernelIdeal.τ).loc Cert.FdnKernelIdeal.main_arg6)) (m ((c.tc : Thread Cert.FdnKernelIdeal.nD Cert.FdnKernelIdeal.τ).loc Cert.FdnKernelIdeal.main_arg7)) (m ((c.tc : Thread Cert.FdnKernelIdeal.nD Cert.FdnKernelIdeal.τ).loc Cert.FdnKernelIdeal.main_arg8)) (m ((c.tc : Thread Cert.FdnKernelIdeal.nD Cert.FdnKernelIdeal.τ).loc Cert.FdnKernelIdeal.main_arg9))) = (fun _ => 1#1)

def Pre_FdnReferenceIdeal (m : (ℓ : Loc Cert.FdnReferenceIdeal.nD Cert.FdnReferenceIdeal.τ Cert.FdnReferenceIdeal.sig) → Buf (Elt Ideal) ℓ) : Prop :=
  True

def Pre_FdnReferenceIdeal_device_ff_down [hPre_device_ff_down : Cert.Pre_device_ff_down.Facts] (m : (ℓ : Loc Cert.FdnReferenceIdeal.nD Cert.FdnReferenceIdeal.τ Cert.FdnReferenceIdeal.sig) → Buf (Elt Ideal) ℓ) : Prop :=
  ∀ c : Dev Cert.FdnReferenceIdeal.nD,
    (Cert.Pre_device_ff_down.fn (F := Ideal) (m ((c.tc : Thread Cert.FdnReferenceIdeal.nD Cert.FdnReferenceIdeal.τ).loc Cert.FdnReferenceIdeal.main_arg0)) (m ((c.tc : Thread Cert.FdnReferenceIdeal.nD Cert.FdnReferenceIdeal.τ).loc Cert.FdnReferenceIdeal.main_arg1)) (m ((c.tc : Thread Cert.FdnReferenceIdeal.nD Cert.FdnReferenceIdeal.τ).loc Cert.FdnReferenceIdeal.main_arg2)) (m ((c.tc : Thread Cert.FdnReferenceIdeal.nD Cert.FdnReferenceIdeal.τ).loc Cert.FdnReferenceIdeal.main_arg3)) (m ((c.tc : Thread Cert.FdnReferenceIdeal.nD Cert.FdnReferenceIdeal.τ).loc Cert.FdnReferenceIdeal.main_arg4)) (m ((c.tc : Thread Cert.FdnReferenceIdeal.nD Cert.FdnReferenceIdeal.τ).loc Cert.FdnReferenceIdeal.main_arg5)) (m ((c.tc : Thread Cert.FdnReferenceIdeal.nD Cert.FdnReferenceIdeal.τ).loc Cert.FdnReferenceIdeal.main_arg6)) (m ((c.tc : Thread Cert.FdnReferenceIdeal.nD Cert.FdnReferenceIdeal.τ).loc Cert.FdnReferenceIdeal.main_arg7)) (m ((c.tc : Thread Cert.FdnReferenceIdeal.nD Cert.FdnReferenceIdeal.τ).loc Cert.FdnReferenceIdeal.main_arg8)) (m ((c.tc : Thread Cert.FdnReferenceIdeal.nD Cert.FdnReferenceIdeal.τ).loc Cert.FdnReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DownWKernel [hDownWKernel : Cert.DownWKernel.Facts] : Prop :=
  ∀ (m : (ℓ : Loc Cert.DownWKernel.nD Cert.DownWKernel.τ Cert.DownWKernel.sig) → Buf (Elt Bits) ℓ) (g : Dev Cert.DownWKernel.nD → PrngReg), Pre_DownWKernel m →
    θ_run (Cert.DownWKernel.defs (F := Bits)) (onTc (τ := Cert.DownWKernel.τ) (Cert.DownWKernel.main (F := Bits))) ⟨m, fun _ => 0, g⟩ (fun r => (∀ c : Dev Cert.DownWKernel.nD,
      r.2.mem ((c.tc : Thread Cert.DownWKernel.nD Cert.DownWKernel.τ).loc Cert.DownWKernel.main_arg0) = m ((c.tc : Thread Cert.DownWKernel.nD Cert.DownWKernel.τ).loc Cert.DownWKernel.main_arg0)
      ∧ r.2.mem ((c.tc : Thread Cert.DownWKernel.nD Cert.DownWKernel.τ).loc Cert.DownWKernel.main_arg1) = m ((c.tc : Thread Cert.DownWKernel.nD Cert.DownWKernel.τ).loc Cert.DownWKernel.main_arg1))
      ∧ r.2.sem = fun _ => 0)

def quiescent_DownWKernelIdeal [hDownWKernelIdeal : Cert.DownWKernelIdeal.Facts] : Prop :=
  ∀ (m : (ℓ : Loc Cert.DownWKernelIdeal.nD Cert.DownWKernelIdeal.τ Cert.DownWKernelIdeal.sig) → Buf (Elt Ideal) ℓ) (g : Dev Cert.DownWKernelIdeal.nD → PrngReg), Pre_DownWKernelIdeal m →
    θ_run (Cert.DownWKernelIdeal.defs (F := Ideal)) (onTc (τ := Cert.DownWKernelIdeal.τ) (Cert.DownWKernelIdeal.main (F := Ideal))) ⟨m, fun _ => 0, g⟩ (fun r => (∀ c : Dev Cert.DownWKernelIdeal.nD,
      r.2.mem ((c.tc : Thread Cert.DownWKernelIdeal.nD Cert.DownWKernelIdeal.τ).loc Cert.DownWKernelIdeal.main_arg0) = m ((c.tc : Thread Cert.DownWKernelIdeal.nD Cert.DownWKernelIdeal.τ).loc Cert.DownWKernelIdeal.main_arg0)
      ∧ r.2.mem ((c.tc : Thread Cert.DownWKernelIdeal.nD Cert.DownWKernelIdeal.τ).loc Cert.DownWKernelIdeal.main_arg1) = m ((c.tc : Thread Cert.DownWKernelIdeal.nD Cert.DownWKernelIdeal.τ).loc Cert.DownWKernelIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_DownXKernel [hDownXKernel : Cert.DownXKernel.Facts] : Prop :=
  ∀ (m : (ℓ : Loc Cert.DownXKernel.nD Cert.DownXKernel.τ Cert.DownXKernel.sig) → Buf (Elt Bits) ℓ) (g : Dev Cert.DownXKernel.nD → PrngReg), Pre_DownXKernel m →
    θ_run (Cert.DownXKernel.defs (F := Bits)) (onTc (τ := Cert.DownXKernel.τ) (Cert.DownXKernel.main (F := Bits))) ⟨m, fun _ => 0, g⟩ (fun r => (∀ c : Dev Cert.DownXKernel.nD,
      r.2.mem ((c.tc : Thread Cert.DownXKernel.nD Cert.DownXKernel.τ).loc Cert.DownXKernel.main_arg0) = m ((c.tc : Thread Cert.DownXKernel.nD Cert.DownXKernel.τ).loc Cert.DownXKernel.main_arg0)
      ∧ r.2.mem ((c.tc : Thread Cert.DownXKernel.nD Cert.DownXKernel.τ).loc Cert.DownXKernel.main_arg1) = m ((c.tc : Thread Cert.DownXKernel.nD Cert.DownXKernel.τ).loc Cert.DownXKernel.main_arg1))
      ∧ r.2.sem = fun _ => 0)

def quiescent_DownXKernelIdeal [hDownXKernelIdeal : Cert.DownXKernelIdeal.Facts] : Prop :=
  ∀ (m : (ℓ : Loc Cert.DownXKernelIdeal.nD Cert.DownXKernelIdeal.τ Cert.DownXKernelIdeal.sig) → Buf (Elt Ideal) ℓ) (g : Dev Cert.DownXKernelIdeal.nD → PrngReg), Pre_DownXKernelIdeal m →
    θ_run (Cert.DownXKernelIdeal.defs (F := Ideal)) (onTc (τ := Cert.DownXKernelIdeal.τ) (Cert.DownXKernelIdeal.main (F := Ideal))) ⟨m, fun _ => 0, g⟩ (fun r => (∀ c : Dev Cert.DownXKernelIdeal.nD,
      r.2.mem ((c.tc : Thread Cert.DownXKernelIdeal.nD Cert.DownXKernelIdeal.τ).loc Cert.DownXKernelIdeal.main_arg0) = m ((c.tc : Thread Cert.DownXKernelIdeal.nD Cert.DownXKernelIdeal.τ).loc Cert.DownXKernelIdeal.main_arg0)
      ∧ r.2.mem ((c.tc : Thread Cert.DownXKernelIdeal.nD Cert.DownXKernelIdeal.τ).loc Cert.DownXKernelIdeal.main_arg1) = m ((c.tc : Thread Cert.DownXKernelIdeal.nD Cert.DownXKernelIdeal.τ).loc Cert.DownXKernelIdeal.main_arg1))
      ∧ r.2.sem = fun _ => 0)

def quiescent_DownXReferenceIdeal [hDownXReferenceIdeal : Cert.DownXReferenceIdeal.Facts] : Prop :=
  ∀ (m : (ℓ : Loc Cert.DownXReferenceIdeal.nD Cert.DownXReferenceIdeal.τ Cert.DownXReferenceIdeal.sig) → Buf (Elt Ideal) ℓ) (g : Dev Cert.DownXReferenceIdeal.nD → PrngReg), Pre_DownXReferenceIdeal m →
    θ_run (Cert.DownXReferenceIdeal.defs (F := Ideal)) (onTc (τ := Cert.DownXReferenceIdeal.τ) (Cert.DownXReferenceIdeal.main (F := Ideal))) ⟨m, fun _ => 0, g⟩ (fun r => (∀ c : Dev Cert.DownXReferenceIdeal.nD,
      r.2.mem ((c.tc : Thread Cert.DownXReferenceIdeal.nD Cert.DownXReferenceIdeal.τ).loc Cert.DownXReferenceIdeal.main_arg0) = m ((c.tc : Thread Cert.DownXReferenceIdeal.nD Cert.DownXReferenceIdeal.τ).loc Cert.DownXReferenceIdeal.main_arg0)
      ∧ r.2.mem ((c.tc : Thread Cert.DownXReferenceIdeal.nD Cert.DownXReferenceIdeal.τ).loc Cert.DownXReferenceIdeal.main_arg1) = m ((c.tc : Thread Cert.DownXReferenceIdeal.nD Cert.DownXReferenceIdeal.τ).loc Cert.DownXReferenceIdeal.main_arg1))
      ∧ r.2.sem = fun _ => 0)

def quiescent_OutWKernel [hOutWKernel : Cert.OutWKernel.Facts] : Prop :=
  ∀ (m : (ℓ : Loc Cert.OutWKernel.nD Cert.OutWKernel.τ Cert.OutWKernel.sig) → Buf (Elt Bits) ℓ) (g : Dev Cert.OutWKernel.nD → PrngReg), Pre_OutWKernel m →
    θ_run (Cert.OutWKernel.defs (F := Bits)) (onTc (τ := Cert.OutWKernel.τ) (Cert.OutWKernel.main (F := Bits))) ⟨m, fun _ => 0, g⟩ (fun r => (∀ c : Dev Cert.OutWKernel.nD,
      r.2.mem ((c.tc : Thread Cert.OutWKernel.nD Cert.OutWKernel.τ).loc Cert.OutWKernel.main_arg0) = m ((c.tc : Thread Cert.OutWKernel.nD Cert.OutWKernel.τ).loc Cert.OutWKernel.main_arg0)
      ∧ r.2.mem ((c.tc : Thread Cert.OutWKernel.nD Cert.OutWKernel.τ).loc Cert.OutWKernel.main_arg1) = m ((c.tc : Thread Cert.OutWKernel.nD Cert.OutWKernel.τ).loc Cert.OutWKernel.main_arg1))
      ∧ r.2.sem = fun _ => 0)

def quiescent_OutWKernelIdeal [hOutWKernelIdeal : Cert.OutWKernelIdeal.Facts] : Prop :=
  ∀ (m : (ℓ : Loc Cert.OutWKernelIdeal.nD Cert.OutWKernelIdeal.τ Cert.OutWKernelIdeal.sig) → Buf (Elt Ideal) ℓ) (g : Dev Cert.OutWKernelIdeal.nD → PrngReg), Pre_OutWKernelIdeal m →
    θ_run (Cert.OutWKernelIdeal.defs (F := Ideal)) (onTc (τ := Cert.OutWKernelIdeal.τ) (Cert.OutWKernelIdeal.main (F := Ideal))) ⟨m, fun _ => 0, g⟩ (fun r => (∀ c : Dev Cert.OutWKernelIdeal.nD,
      r.2.mem ((c.tc : Thread Cert.OutWKernelIdeal.nD Cert.OutWKernelIdeal.τ).loc Cert.OutWKernelIdeal.main_arg0) = m ((c.tc : Thread Cert.OutWKernelIdeal.nD Cert.OutWKernelIdeal.τ).loc Cert.OutWKernelIdeal.main_arg0)
      ∧ r.2.mem ((c.tc : Thread Cert.OutWKernelIdeal.nD Cert.OutWKernelIdeal.τ).loc Cert.OutWKernelIdeal.main_arg1) = m ((c.tc : Thread Cert.OutWKernelIdeal.nD Cert.OutWKernelIdeal.τ).loc Cert.OutWKernelIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_OutXKernel [hOutXKernel : Cert.OutXKernel.Facts] : Prop :=
  ∀ (m : (ℓ : Loc Cert.OutXKernel.nD Cert.OutXKernel.τ Cert.OutXKernel.sig) → Buf (Elt Bits) ℓ) (g : Dev Cert.OutXKernel.nD → PrngReg), Pre_OutXKernel m →
    θ_run (Cert.OutXKernel.defs (F := Bits)) (onTc (τ := Cert.OutXKernel.τ) (Cert.OutXKernel.main (F := Bits))) ⟨m, fun _ => 0, g⟩ (fun r => (∀ c : Dev Cert.OutXKernel.nD,
      r.2.mem ((c.tc : Thread Cert.OutXKernel.nD Cert.OutXKernel.τ).loc Cert.OutXKernel.main_arg0) = m ((c.tc : Thread Cert.OutXKernel.nD Cert.OutXKernel.τ).loc Cert.OutXKernel.main_arg0)
      ∧ r.2.mem ((c.tc : Thread Cert.OutXKernel.nD Cert.OutXKernel.τ).loc Cert.OutXKernel.main_arg1) = m ((c.tc : Thread Cert.OutXKernel.nD Cert.OutXKernel.τ).loc Cert.OutXKernel.main_arg1)
      ∧ r.2.mem ((c.tc : Thread Cert.OutXKernel.nD Cert.OutXKernel.τ).loc Cert.OutXKernel.main_arg2) = m ((c.tc : Thread Cert.OutXKernel.nD Cert.OutXKernel.τ).loc Cert.OutXKernel.main_arg2))
      ∧ r.2.sem = fun _ => 0)

def quiescent_OutXKernelIdeal [hOutXKernelIdeal : Cert.OutXKernelIdeal.Facts] : Prop :=
  ∀ (m : (ℓ : Loc Cert.OutXKernelIdeal.nD Cert.OutXKernelIdeal.τ Cert.OutXKernelIdeal.sig) → Buf (Elt Ideal) ℓ) (g : Dev Cert.OutXKernelIdeal.nD → PrngReg), Pre_OutXKernelIdeal m →
    θ_run (Cert.OutXKernelIdeal.defs (F := Ideal)) (onTc (τ := Cert.OutXKernelIdeal.τ) (Cert.OutXKernelIdeal.main (F := Ideal))) ⟨m, fun _ => 0, g⟩ (fun r => (∀ c : Dev Cert.OutXKernelIdeal.nD,
      r.2.mem ((c.tc : Thread Cert.OutXKernelIdeal.nD Cert.OutXKernelIdeal.τ).loc Cert.OutXKernelIdeal.main_arg0) = m ((c.tc : Thread Cert.OutXKernelIdeal.nD Cert.OutXKernelIdeal.τ).loc Cert.OutXKernelIdeal.main_arg0)
      ∧ r.2.mem ((c.tc : Thread Cert.OutXKernelIdeal.nD Cert.OutXKernelIdeal.τ).loc Cert.OutXKernelIdeal.main_arg1) = m ((c.tc : Thread Cert.OutXKernelIdeal.nD Cert.OutXKernelIdeal.τ).loc Cert.OutXKernelIdeal.main_arg1)
      ∧ r.2.mem ((c.tc : Thread Cert.OutXKernelIdeal.nD Cert.OutXKernelIdeal.τ).loc Cert.OutXKernelIdeal.main_arg2) = m ((c.tc : Thread Cert.OutXKernelIdeal.nD Cert.OutXKernelIdeal.τ).loc Cert.OutXKernelIdeal.main_arg2))
      ∧ r.2.sem = fun _ => 0)

def quiescent_OutXReferenceIdeal [hOutXReferenceIdeal : Cert.OutXReferenceIdeal.Facts] : Prop :=
  ∀ (m : (ℓ : Loc Cert.OutXReferenceIdeal.nD Cert.OutXReferenceIdeal.τ Cert.OutXReferenceIdeal.sig) → Buf (Elt Ideal) ℓ) (g : Dev Cert.OutXReferenceIdeal.nD → PrngReg), Pre_OutXReferenceIdeal m →
    θ_run (Cert.OutXReferenceIdeal.defs (F := Ideal)) (onTc (τ := Cert.OutXReferenceIdeal.τ) (Cert.OutXReferenceIdeal.main (F := Ideal))) ⟨m, fun _ => 0, g⟩ (fun r => (∀ c : Dev Cert.OutXReferenceIdeal.nD,
      r.2.mem ((c.tc : Thread Cert.OutXReferenceIdeal.nD Cert.OutXReferenceIdeal.τ).loc Cert.OutXReferenceIdeal.main_arg0) = m ((c.tc : Thread Cert.OutXReferenceIdeal.nD Cert.OutXReferenceIdeal.τ).loc Cert.OutXReferenceIdeal.main_arg0)
      ∧ r.2.mem ((c.tc : Thread Cert.OutXReferenceIdeal.nD Cert.OutXReferenceIdeal.τ).loc Cert.OutXReferenceIdeal.main_arg1) = m ((c.tc : Thread Cert.OutXReferenceIdeal.nD Cert.OutXReferenceIdeal.τ).loc Cert.OutXReferenceIdeal.main_arg1)
      ∧ r.2.mem ((c.tc : Thread Cert.OutXReferenceIdeal.nD Cert.OutXReferenceIdeal.τ).loc Cert.OutXReferenceIdeal.main_arg2) = m ((c.tc : Thread Cert.OutXReferenceIdeal.nD Cert.OutXReferenceIdeal.τ).loc Cert.OutXReferenceIdeal.main_arg2))
      ∧ r.2.sem = fun _ => 0)

def quiescent_UpWKernel [hUpWKernel : Cert.UpWKernel.Facts] : Prop :=
  ∀ (m : (ℓ : Loc Cert.UpWKernel.nD Cert.UpWKernel.τ Cert.UpWKernel.sig) → Buf (Elt Bits) ℓ) (g : Dev Cert.UpWKernel.nD → PrngReg), Pre_UpWKernel m →
    θ_run (Cert.UpWKernel.defs (F := Bits)) (onTc (τ := Cert.UpWKernel.τ) (Cert.UpWKernel.main (F := Bits))) ⟨m, fun _ => 0, g⟩ (fun r => (∀ c : Dev Cert.UpWKernel.nD,
      r.2.mem ((c.tc : Thread Cert.UpWKernel.nD Cert.UpWKernel.τ).loc Cert.UpWKernel.main_arg0) = m ((c.tc : Thread Cert.UpWKernel.nD Cert.UpWKernel.τ).loc Cert.UpWKernel.main_arg0)
      ∧ r.2.mem ((c.tc : Thread Cert.UpWKernel.nD Cert.UpWKernel.τ).loc Cert.UpWKernel.main_arg1) = m ((c.tc : Thread Cert.UpWKernel.nD Cert.UpWKernel.τ).loc Cert.UpWKernel.main_arg1)
      ∧ r.2.mem ((c.tc : Thread Cert.UpWKernel.nD Cert.UpWKernel.τ).loc Cert.UpWKernel.main_arg2) = m ((c.tc : Thread Cert.UpWKernel.nD Cert.UpWKernel.τ).loc Cert.UpWKernel.main_arg2))
      ∧ r.2.sem = fun _ => 0)

def quiescent_UpWKernelIdeal [hUpWKernelIdeal : Cert.UpWKernelIdeal.Facts] : Prop :=
  ∀ (m : (ℓ : Loc Cert.UpWKernelIdeal.nD Cert.UpWKernelIdeal.τ Cert.UpWKernelIdeal.sig) → Buf (Elt Ideal) ℓ) (g : Dev Cert.UpWKernelIdeal.nD → PrngReg), Pre_UpWKernelIdeal m →
    θ_run (Cert.UpWKernelIdeal.defs (F := Ideal)) (onTc (τ := Cert.UpWKernelIdeal.τ) (Cert.UpWKernelIdeal.main (F := Ideal))) ⟨m, fun _ => 0, g⟩ (fun r => (∀ c : Dev Cert.UpWKernelIdeal.nD,
      r.2.mem ((c.tc : Thread Cert.UpWKernelIdeal.nD Cert.UpWKernelIdeal.τ).loc Cert.UpWKernelIdeal.main_arg0) = m ((c.tc : Thread Cert.UpWKernelIdeal.nD Cert.UpWKernelIdeal.τ).loc Cert.UpWKernelIdeal.main_arg0)
      ∧ r.2.mem ((c.tc : Thread Cert.UpWKernelIdeal.nD Cert.UpWKernelIdeal.τ).loc Cert.UpWKernelIdeal.main_arg1) = m ((c.tc : Thread Cert.UpWKernelIdeal.nD Cert.UpWKernelIdeal.τ).loc Cert.UpWKernelIdeal.main_arg1)
      ∧ r.2.mem ((c.tc : Thread Cert.UpWKernelIdeal.nD Cert.UpWKernelIdeal.τ).loc Cert.UpWKernelIdeal.main_arg2) = m ((c.tc : Thread Cert.UpWKernelIdeal.nD Cert.UpWKernelIdeal.τ).loc Cert.UpWKernelIdeal.main_arg2))
      ∧ r.2.sem = fun _ => 0)

def quiescent_UpWReferenceIdeal [hUpWReferenceIdeal : Cert.UpWReferenceIdeal.Facts] : Prop :=
  ∀ (m : (ℓ : Loc Cert.UpWReferenceIdeal.nD Cert.UpWReferenceIdeal.τ Cert.UpWReferenceIdeal.sig) → Buf (Elt Ideal) ℓ) (g : Dev Cert.UpWReferenceIdeal.nD → PrngReg), Pre_UpWReferenceIdeal m →
    θ_run (Cert.UpWReferenceIdeal.defs (F := Ideal)) (onTc (τ := Cert.UpWReferenceIdeal.τ) (Cert.UpWReferenceIdeal.main (F := Ideal))) ⟨m, fun _ => 0, g⟩ (fun r => (∀ c : Dev Cert.UpWReferenceIdeal.nD,
      r.2.mem ((c.tc : Thread Cert.UpWReferenceIdeal.nD Cert.UpWReferenceIdeal.τ).loc Cert.UpWReferenceIdeal.main_arg0) = m ((c.tc : Thread Cert.UpWReferenceIdeal.nD Cert.UpWReferenceIdeal.τ).loc Cert.UpWReferenceIdeal.main_arg0)
      ∧ r.2.mem ((c.tc : Thread Cert.UpWReferenceIdeal.nD Cert.UpWReferenceIdeal.τ).loc Cert.UpWReferenceIdeal.main_arg1) = m ((c.tc : Thread Cert.UpWReferenceIdeal.nD Cert.UpWReferenceIdeal.τ).loc Cert.UpWReferenceIdeal.main_arg1)
      ∧ r.2.mem ((c.tc : Thread Cert.UpWReferenceIdeal.nD Cert.UpWReferenceIdeal.τ).loc Cert.UpWReferenceIdeal.main_arg2) = m ((c.tc : Thread Cert.UpWReferenceIdeal.nD Cert.UpWReferenceIdeal.τ).loc Cert.UpWReferenceIdeal.main_arg2))
      ∧ r.2.sem = fun _ => 0)

def quiescent_InWKernel [hInWKernel : Cert.InWKernel.Facts] : Prop :=
  ∀ (m : (ℓ : Loc Cert.InWKernel.nD Cert.InWKernel.τ Cert.InWKernel.sig) → Buf (Elt Bits) ℓ) (g : Dev Cert.InWKernel.nD → PrngReg), Pre_InWKernel m →
    θ_run (Cert.InWKernel.defs (F := Bits)) (onTc (τ := Cert.InWKernel.τ) (Cert.InWKernel.main (F := Bits))) ⟨m, fun _ => 0, g⟩ (fun r => (∀ c : Dev Cert.InWKernel.nD,
      r.2.mem ((c.tc : Thread Cert.InWKernel.nD Cert.InWKernel.τ).loc Cert.InWKernel.main_arg0) = m ((c.tc : Thread Cert.InWKernel.nD Cert.InWKernel.τ).loc Cert.InWKernel.main_arg0)
      ∧ r.2.mem ((c.tc : Thread Cert.InWKernel.nD Cert.InWKernel.τ).loc Cert.InWKernel.main_arg1) = m ((c.tc : Thread Cert.InWKernel.nD Cert.InWKernel.τ).loc Cert.InWKernel.main_arg1)
      ∧ r.2.mem ((c.tc : Thread Cert.InWKernel.nD Cert.InWKernel.τ).loc Cert.InWKernel.main_arg2) = m ((c.tc : Thread Cert.InWKernel.nD Cert.InWKernel.τ).loc Cert.InWKernel.main_arg2))
      ∧ r.2.sem = fun _ => 0)

def quiescent_InWKernelIdeal [hInWKernelIdeal : Cert.InWKernelIdeal.Facts] : Prop :=
  ∀ (m : (ℓ : Loc Cert.InWKernelIdeal.nD Cert.InWKernelIdeal.τ Cert.InWKernelIdeal.sig) → Buf (Elt Ideal) ℓ) (g : Dev Cert.InWKernelIdeal.nD → PrngReg), Pre_InWKernelIdeal m →
    θ_run (Cert.InWKernelIdeal.defs (F := Ideal)) (onTc (τ := Cert.InWKernelIdeal.τ) (Cert.InWKernelIdeal.main (F := Ideal))) ⟨m, fun _ => 0, g⟩ (fun r => (∀ c : Dev Cert.InWKernelIdeal.nD,
      r.2.mem ((c.tc : Thread Cert.InWKernelIdeal.nD Cert.InWKernelIdeal.τ).loc Cert.InWKernelIdeal.main_arg0) = m ((c.tc : Thread Cert.InWKernelIdeal.nD Cert.InWKernelIdeal.τ).loc Cert.InWKernelIdeal.main_arg0)
      ∧ r.2.mem ((c.tc : Thread Cert.InWKernelIdeal.nD Cert.InWKernelIdeal.τ).loc Cert.InWKernelIdeal.main_arg1) = m ((c.tc : Thread Cert.InWKernelIdeal.nD Cert.InWKernelIdeal.τ).loc Cert.InWKernelIdeal.main_arg1)
      ∧ r.2.mem ((c.tc : Thread Cert.InWKernelIdeal.nD Cert.InWKernelIdeal.τ).loc Cert.InWKernelIdeal.main_arg2) = m ((c.tc : Thread Cert.InWKernelIdeal.nD Cert.InWKernelIdeal.τ).loc Cert.InWKernelIdeal.main_arg2))
      ∧ r.2.sem = fun _ => 0)

def quiescent_InWReferenceIdeal [hInWReferenceIdeal : Cert.InWReferenceIdeal.Facts] : Prop :=
  ∀ (m : (ℓ : Loc Cert.InWReferenceIdeal.nD Cert.InWReferenceIdeal.τ Cert.InWReferenceIdeal.sig) → Buf (Elt Ideal) ℓ) (g : Dev Cert.InWReferenceIdeal.nD → PrngReg), Pre_InWReferenceIdeal m →
    θ_run (Cert.InWReferenceIdeal.defs (F := Ideal)) (onTc (τ := Cert.InWReferenceIdeal.τ) (Cert.InWReferenceIdeal.main (F := Ideal))) ⟨m, fun _ => 0, g⟩ (fun r => (∀ c : Dev Cert.InWReferenceIdeal.nD,
      r.2.mem ((c.tc : Thread Cert.InWReferenceIdeal.nD Cert.InWReferenceIdeal.τ).loc Cert.InWReferenceIdeal.main_arg0) = m ((c.tc : Thread Cert.InWReferenceIdeal.nD Cert.InWReferenceIdeal.τ).loc Cert.InWReferenceIdeal.main_arg0)
      ∧ r.2.mem ((c.tc : Thread Cert.InWReferenceIdeal.nD Cert.InWReferenceIdeal.τ).loc Cert.InWReferenceIdeal.main_arg1) = m ((c.tc : Thread Cert.InWReferenceIdeal.nD Cert.InWReferenceIdeal.τ).loc Cert.InWReferenceIdeal.main_arg1)
      ∧ r.2.mem ((c.tc : Thread Cert.InWReferenceIdeal.nD Cert.InWReferenceIdeal.τ).loc Cert.InWReferenceIdeal.main_arg2) = m ((c.tc : Thread Cert.InWReferenceIdeal.nD Cert.InWReferenceIdeal.τ).loc Cert.InWReferenceIdeal.main_arg2))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1)
      ∧ r.2.mem ((c.tc : Thread Cert.UpDxKernel.nD Cert.UpDxKernel.τ).loc Cert.UpDxKernel.main_arg2) = m ((c.tc : Thread Cert.UpDxKernel.nD Cert.UpDxKernel.τ).loc Cert.UpDxKernel.main_arg2)
      ∧ r.2.mem ((c.tc : Thread Cert.UpDxKernel.nD Cert.UpDxKernel.τ).loc Cert.UpDxKernel.main_arg3) = m ((c.tc : Thread Cert.UpDxKernel.nD Cert.UpDxKernel.τ).loc Cert.UpDxKernel.main_arg3)
      ∧ r.2.mem ((c.tc : Thread Cert.UpDxKernel.nD Cert.UpDxKernel.τ).loc Cert.UpDxKernel.main_arg4) = m ((c.tc : Thread Cert.UpDxKernel.nD Cert.UpDxKernel.τ).loc Cert.UpDxKernel.main_arg4)
      ∧ r.2.mem ((c.tc : Thread Cert.UpDxKernel.nD Cert.UpDxKernel.τ).loc Cert.UpDxKernel.main_arg5) = m ((c.tc : Thread Cert.UpDxKernel.nD Cert.UpDxKernel.τ).loc Cert.UpDxKernel.main_arg5)
      ∧ r.2.mem ((c.tc : Thread Cert.UpDxKernel.nD Cert.UpDxKernel.τ).loc Cert.UpDxKernel.main_arg6) = m ((c.tc : Thread Cert.UpDxKernel.nD Cert.UpDxKernel.τ).loc Cert.UpDxKernel.main_arg6)
      ∧ r.2.mem ((c.tc : Thread Cert.UpDxKernel.nD Cert.UpDxKernel.τ).loc Cert.UpDxKernel.main_arg7) = m ((c.tc : Thread Cert.UpDxKernel.nD Cert.UpDxKernel.τ).loc Cert.UpDxKernel.main_arg7)
      ∧ r.2.mem ((c.tc : Thread Cert.UpDxKernel.nD Cert.UpDxKernel.τ).loc Cert.UpDxKernel.main_arg8) = m ((c.tc : Thread Cert.UpDxKernel.nD Cert.UpDxKernel.τ).loc Cert.UpDxKernel.main_arg8)
      ∧ r.2.mem ((c.tc : Thread Cert.UpDxKernel.nD Cert.UpDxKernel.τ).loc Cert.UpDxKernel.main_arg9) = m ((c.tc : Thread Cert.UpDxKernel.nD Cert.UpDxKernel.τ).loc Cert.UpDxKernel.main_arg9))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
      ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
      ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3)
      ∧ r.2.mem ((c.tc : Thread Cert.UpDxKernelIdeal.nD Cert.UpDxKernelIdeal.τ).loc Cert.UpDxKernelIdeal.main_arg4) = m ((c.tc : Thread Cert.UpDxKernelIdeal.nD Cert.UpDxKernelIdeal.τ).loc Cert.UpDxKernelIdeal.main_arg4)
      ∧ r.2.mem ((c.tc : Thread Cert.UpDxKernelIdeal.nD Cert.UpDxKernelIdeal.τ).loc Cert.UpDxKernelIdeal.main_arg5) = m ((c.tc : Thread Cert.UpDxKernelIdeal.nD Cert.UpDxKernelIdeal.τ).loc Cert.UpDxKernelIdeal.main_arg5)
      ∧ r.2.mem ((c.tc : Thread Cert.UpDxKernelIdeal.nD Cert.UpDxKernelIdeal.τ).loc Cert.UpDxKernelIdeal.main_arg6) = m ((c.tc : Thread Cert.UpDxKernelIdeal.nD Cert.UpDxKernelIdeal.τ).loc Cert.UpDxKernelIdeal.main_arg6)
      ∧ r.2.mem ((c.tc : Thread Cert.UpDxKernelIdeal.nD Cert.UpDxKernelIdeal.τ).loc Cert.UpDxKernelIdeal.main_arg7) = m ((c.tc : Thread Cert.UpDxKernelIdeal.nD Cert.UpDxKernelIdeal.τ).loc Cert.UpDxKernelIdeal.main_arg7)
      ∧ r.2.mem ((c.tc : Thread Cert.UpDxKernelIdeal.nD Cert.UpDxKernelIdeal.τ).loc Cert.UpDxKernelIdeal.main_arg8) = m ((c.tc : Thread Cert.UpDxKernelIdeal.nD Cert.UpDxKernelIdeal.τ).loc Cert.UpDxKernelIdeal.main_arg8)
      ∧ r.2.mem ((c.tc : Thread Cert.UpDxKernelIdeal.nD Cert.UpDxKernelIdeal.τ).loc Cert.UpDxKernelIdeal.main_arg9) = m ((c.tc : Thread Cert.UpDxKernelIdeal.nD Cert.UpDxKernelIdeal.τ).loc Cert.UpDxKernelIdeal.main_arg9))
      ∧ r.2.sem = fun _ => 0)

def quiescent_UpDxKernelIdeal_pre_finite [hUpDxKernelIdeal : Cert.UpDxKernelIdeal.Facts] [hPre_finite : Cert.Pre_finite.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal_finite m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
      ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
      ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3)
      ∧ r.2.mem ((c.tc : Thread Cert.UpDxKernelIdeal.nD Cert.UpDxKernelIdeal.τ).loc Cert.UpDxKernelIdeal.main_arg4) = m ((c.tc : Thread Cert.UpDxKernelIdeal.nD Cert.UpDxKernelIdeal.τ).loc Cert.UpDxKernelIdeal.main_arg4)
      ∧ r.2.mem ((c.tc : Thread Cert.UpDxKernelIdeal.nD Cert.UpDxKernelIdeal.τ).loc Cert.UpDxKernelIdeal.main_arg5) = m ((c.tc : Thread Cert.UpDxKernelIdeal.nD Cert.UpDxKernelIdeal.τ).loc Cert.UpDxKernelIdeal.main_arg5)
      ∧ r.2.mem ((c.tc : Thread Cert.UpDxKernelIdeal.nD Cert.UpDxKernelIdeal.τ).loc Cert.UpDxKernelIdeal.main_arg6) = m ((c.tc : Thread Cert.UpDxKernelIdeal.nD Cert.UpDxKernelIdeal.τ).loc Cert.UpDxKernelIdeal.main_arg6)
      ∧ r.2.mem ((c.tc : Thread Cert.UpDxKernelIdeal.nD Cert.UpDxKernelIdeal.τ).loc Cert.UpDxKernelIdeal.main_arg7) = m ((c.tc : Thread Cert.UpDxKernelIdeal.nD Cert.UpDxKernelIdeal.τ).loc Cert.UpDxKernelIdeal.main_arg7)
      ∧ r.2.mem ((c.tc : Thread Cert.UpDxKernelIdeal.nD Cert.UpDxKernelIdeal.τ).loc Cert.UpDxKernelIdeal.main_arg8) = m ((c.tc : Thread Cert.UpDxKernelIdeal.nD Cert.UpDxKernelIdeal.τ).loc Cert.UpDxKernelIdeal.main_arg8)
      ∧ r.2.mem ((c.tc : Thread Cert.UpDxKernelIdeal.nD Cert.UpDxKernelIdeal.τ).loc Cert.UpDxKernelIdeal.main_arg9) = m ((c.tc : Thread Cert.UpDxKernelIdeal.nD Cert.UpDxKernelIdeal.τ).loc Cert.UpDxKernelIdeal.main_arg9))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3)
      ∧ r.2.mem ((c.tc : Thread Cert.UpDxReferenceIdeal.nD Cert.UpDxReferenceIdeal.τ).loc Cert.UpDxReferenceIdeal.main_arg4) = m ((c.tc : Thread Cert.UpDxReferenceIdeal.nD Cert.UpDxReferenceIdeal.τ).loc Cert.UpDxReferenceIdeal.main_arg4)
      ∧ r.2.mem ((c.tc : Thread Cert.UpDxReferenceIdeal.nD Cert.UpDxReferenceIdeal.τ).loc Cert.UpDxReferenceIdeal.main_arg5) = m ((c.tc : Thread Cert.UpDxReferenceIdeal.nD Cert.UpDxReferenceIdeal.τ).loc Cert.UpDxReferenceIdeal.main_arg5)
      ∧ r.2.mem ((c.tc : Thread Cert.UpDxReferenceIdeal.nD Cert.UpDxReferenceIdeal.τ).loc Cert.UpDxReferenceIdeal.main_arg6) = m ((c.tc : Thread Cert.UpDxReferenceIdeal.nD Cert.UpDxReferenceIdeal.τ).loc Cert.UpDxReferenceIdeal.main_arg6)
      ∧ r.2.mem ((c.tc : Thread Cert.UpDxReferenceIdeal.nD Cert.UpDxReferenceIdeal.τ).loc Cert.UpDxReferenceIdeal.main_arg7) = m ((c.tc : Thread Cert.UpDxReferenceIdeal.nD Cert.UpDxReferenceIdeal.τ).loc Cert.UpDxReferenceIdeal.main_arg7)
      ∧ r.2.mem ((c.tc : Thread Cert.UpDxReferenceIdeal.nD Cert.UpDxReferenceIdeal.τ).loc Cert.UpDxReferenceIdeal.main_arg8) = m ((c.tc : Thread Cert.UpDxReferenceIdeal.nD Cert.UpDxReferenceIdeal.τ).loc Cert.UpDxReferenceIdeal.main_arg8)
      ∧ r.2.mem ((c.tc : Thread Cert.UpDxReferenceIdeal.nD Cert.UpDxReferenceIdeal.τ).loc Cert.UpDxReferenceIdeal.main_arg9) = m ((c.tc : Thread Cert.UpDxReferenceIdeal.nD Cert.UpDxReferenceIdeal.τ).loc Cert.UpDxReferenceIdeal.main_arg9))
      ∧ r.2.sem = fun _ => 0)

def quiescent_UpDxReferenceIdeal_pre_finite [hUpDxReferenceIdeal : Cert.UpDxReferenceIdeal.Facts] [hPre_finite : Cert.Pre_finite.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal_finite m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3)
      ∧ r.2.mem ((c.tc : Thread Cert.UpDxReferenceIdeal.nD Cert.UpDxReferenceIdeal.τ).loc Cert.UpDxReferenceIdeal.main_arg4) = m ((c.tc : Thread Cert.UpDxReferenceIdeal.nD Cert.UpDxReferenceIdeal.τ).loc Cert.UpDxReferenceIdeal.main_arg4)
      ∧ r.2.mem ((c.tc : Thread Cert.UpDxReferenceIdeal.nD Cert.UpDxReferenceIdeal.τ).loc Cert.UpDxReferenceIdeal.main_arg5) = m ((c.tc : Thread Cert.UpDxReferenceIdeal.nD Cert.UpDxReferenceIdeal.τ).loc Cert.UpDxReferenceIdeal.main_arg5)
      ∧ r.2.mem ((c.tc : Thread Cert.UpDxReferenceIdeal.nD Cert.UpDxReferenceIdeal.τ).loc Cert.UpDxReferenceIdeal.main_arg6) = m ((c.tc : Thread Cert.UpDxReferenceIdeal.nD Cert.UpDxReferenceIdeal.τ).loc Cert.UpDxReferenceIdeal.main_arg6)
      ∧ r.2.mem ((c.tc : Thread Cert.UpDxReferenceIdeal.nD Cert.UpDxReferenceIdeal.τ).loc Cert.UpDxReferenceIdeal.main_arg7) = m ((c.tc : Thread Cert.UpDxReferenceIdeal.nD Cert.UpDxReferenceIdeal.τ).loc Cert.UpDxReferenceIdeal.main_arg7)
      ∧ r.2.mem ((c.tc : Thread Cert.UpDxReferenceIdeal.nD Cert.UpDxReferenceIdeal.τ).loc Cert.UpDxReferenceIdeal.main_arg8) = m ((c.tc : Thread Cert.UpDxReferenceIdeal.nD Cert.UpDxReferenceIdeal.τ).loc Cert.UpDxReferenceIdeal.main_arg8)
      ∧ r.2.mem ((c.tc : Thread Cert.UpDxReferenceIdeal.nD Cert.UpDxReferenceIdeal.τ).loc Cert.UpDxReferenceIdeal.main_arg9) = m ((c.tc : Thread Cert.UpDxReferenceIdeal.nD Cert.UpDxReferenceIdeal.τ).loc Cert.UpDxReferenceIdeal.main_arg9))
      ∧ r.2.sem = fun _ => 0)

def quiescent_InDxKernel [hInDxKernel : Cert.InDxKernel.Facts] : Prop :=
  ∀ (m : (ℓ : Loc Cert.InDxKernel.nD Cert.InDxKernel.τ Cert.InDxKernel.sig) → Buf (Elt Bits) ℓ) (g : Dev Cert.InDxKernel.nD → PrngReg), Pre_InDxKernel m →
    θ_run (Cert.InDxKernel.defs (F := Bits)) (onTc (τ := Cert.InDxKernel.τ) (Cert.InDxKernel.main (F := Bits))) ⟨m, fun _ => 0, g⟩ (fun r => (∀ c : Dev Cert.InDxKernel.nD,
      r.2.mem ((c.tc : Thread Cert.InDxKernel.nD Cert.InDxKernel.τ).loc Cert.InDxKernel.main_arg0) = m ((c.tc : Thread Cert.InDxKernel.nD Cert.InDxKernel.τ).loc Cert.InDxKernel.main_arg0)
      ∧ r.2.mem ((c.tc : Thread Cert.InDxKernel.nD Cert.InDxKernel.τ).loc Cert.InDxKernel.main_arg1) = m ((c.tc : Thread Cert.InDxKernel.nD Cert.InDxKernel.τ).loc Cert.InDxKernel.main_arg1)
      ∧ r.2.mem ((c.tc : Thread Cert.InDxKernel.nD Cert.InDxKernel.τ).loc Cert.InDxKernel.main_arg2) = m ((c.tc : Thread Cert.InDxKernel.nD Cert.InDxKernel.τ).loc Cert.InDxKernel.main_arg2)
      ∧ r.2.mem ((c.tc : Thread Cert.InDxKernel.nD Cert.InDxKernel.τ).loc Cert.InDxKernel.main_arg3) = m ((c.tc : Thread Cert.InDxKernel.nD Cert.InDxKernel.τ).loc Cert.InDxKernel.main_arg3)
      ∧ r.2.mem ((c.tc : Thread Cert.InDxKernel.nD Cert.InDxKernel.τ).loc Cert.InDxKernel.main_arg4) = m ((c.tc : Thread Cert.InDxKernel.nD Cert.InDxKernel.τ).loc Cert.InDxKernel.main_arg4)
      ∧ r.2.mem ((c.tc : Thread Cert.InDxKernel.nD Cert.InDxKernel.τ).loc Cert.InDxKernel.main_arg5) = m ((c.tc : Thread Cert.InDxKernel.nD Cert.InDxKernel.τ).loc Cert.InDxKernel.main_arg5)
      ∧ r.2.mem ((c.tc : Thread Cert.InDxKernel.nD Cert.InDxKernel.τ).loc Cert.InDxKernel.main_arg6) = m ((c.tc : Thread Cert.InDxKernel.nD Cert.InDxKernel.τ).loc Cert.InDxKernel.main_arg6))
      ∧ r.2.sem = fun _ => 0)

def quiescent_InDxKernelIdeal [hInDxKernelIdeal : Cert.InDxKernelIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg), Pre_InDxKernelIdeal m →
    θ_run (Cert.InDxKernelIdeal.defs (F := Ideal)) (onTc (τ := Cert.InDxKernelIdeal.τ) (Cert.InDxKernelIdeal.main (F := Ideal))) ⟨m, fun _ => 0, g⟩ (fun r => (∀ c : Dev Cert.InDxKernelIdeal.nD,
      r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
      ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1)
      ∧ r.2.mem ((c.tc : Thread Cert.InDxKernelIdeal.nD Cert.InDxKernelIdeal.τ).loc Cert.InDxKernelIdeal.main_arg2) = m ((c.tc : Thread Cert.InDxKernelIdeal.nD Cert.InDxKernelIdeal.τ).loc Cert.InDxKernelIdeal.main_arg2)
      ∧ r.2.mem ((c.tc : Thread Cert.InDxKernelIdeal.nD Cert.InDxKernelIdeal.τ).loc Cert.InDxKernelIdeal.main_arg3) = m ((c.tc : Thread Cert.InDxKernelIdeal.nD Cert.InDxKernelIdeal.τ).loc Cert.InDxKernelIdeal.main_arg3)
      ∧ r.2.mem ((c.tc : Thread Cert.InDxKernelIdeal.nD Cert.InDxKernelIdeal.τ).loc Cert.InDxKernelIdeal.main_arg4) = m ((c.tc : Thread Cert.InDxKernelIdeal.nD Cert.InDxKernelIdeal.τ).loc Cert.InDxKernelIdeal.main_arg4)
      ∧ r.2.mem ((c.tc : Thread Cert.InDxKernelIdeal.nD Cert.InDxKernelIdeal.τ).loc Cert.InDxKernelIdeal.main_arg5) = m ((c.tc : Thread Cert.InDxKernelIdeal.nD Cert.InDxKernelIdeal.τ).loc Cert.InDxKernelIdeal.main_arg5)
      ∧ r.2.mem ((c.tc : Thread Cert.InDxKernelIdeal.nD Cert.InDxKernelIdeal.τ).loc Cert.InDxKernelIdeal.main_arg6) = m ((c.tc : Thread Cert.InDxKernelIdeal.nD Cert.InDxKernelIdeal.τ).loc Cert.InDxKernelIdeal.main_arg6))
      ∧ r.2.sem = fun _ => 0)

def quiescent_InDxKernelIdeal_pre_finite_in [hInDxKernelIdeal : Cert.InDxKernelIdeal.Facts] [hPre_finite_in : Cert.Pre_finite_in.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg), Pre_InDxKernelIdeal_finite_in m →
    θ_run (Cert.InDxKernelIdeal.defs (F := Ideal)) (onTc (τ := Cert.InDxKernelIdeal.τ) (Cert.InDxKernelIdeal.main (F := Ideal))) ⟨m, fun _ => 0, g⟩ (fun r => (∀ c : Dev Cert.InDxKernelIdeal.nD,
      r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
      ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1)
      ∧ r.2.mem ((c.tc : Thread Cert.InDxKernelIdeal.nD Cert.InDxKernelIdeal.τ).loc Cert.InDxKernelIdeal.main_arg2) = m ((c.tc : Thread Cert.InDxKernelIdeal.nD Cert.InDxKernelIdeal.τ).loc Cert.InDxKernelIdeal.main_arg2)
      ∧ r.2.mem ((c.tc : Thread Cert.InDxKernelIdeal.nD Cert.InDxKernelIdeal.τ).loc Cert.InDxKernelIdeal.main_arg3) = m ((c.tc : Thread Cert.InDxKernelIdeal.nD Cert.InDxKernelIdeal.τ).loc Cert.InDxKernelIdeal.main_arg3)
      ∧ r.2.mem ((c.tc : Thread Cert.InDxKernelIdeal.nD Cert.InDxKernelIdeal.τ).loc Cert.InDxKernelIdeal.main_arg4) = m ((c.tc : Thread Cert.InDxKernelIdeal.nD Cert.InDxKernelIdeal.τ).loc Cert.InDxKernelIdeal.main_arg4)
      ∧ r.2.mem ((c.tc : Thread Cert.InDxKernelIdeal.nD Cert.InDxKernelIdeal.τ).loc Cert.InDxKernelIdeal.main_arg5) = m ((c.tc : Thread Cert.InDxKernelIdeal.nD Cert.InDxKernelIdeal.τ).loc Cert.InDxKernelIdeal.main_arg5)
      ∧ r.2.mem ((c.tc : Thread Cert.InDxKernelIdeal.nD Cert.InDxKernelIdeal.τ).loc Cert.InDxKernelIdeal.main_arg6) = m ((c.tc : Thread Cert.InDxKernelIdeal.nD Cert.InDxKernelIdeal.τ).loc Cert.InDxKernelIdeal.main_arg6))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2)
      ∧ r.2.mem ((c.tc : Thread Cert.InDxReferenceIdeal.nD Cert.InDxReferenceIdeal.τ).loc Cert.InDxReferenceIdeal.main_arg3) = m ((c.tc : Thread Cert.InDxReferenceIdeal.nD Cert.InDxReferenceIdeal.τ).loc Cert.InDxReferenceIdeal.main_arg3)
      ∧ r.2.mem ((c.tc : Thread Cert.InDxReferenceIdeal.nD Cert.InDxReferenceIdeal.τ).loc Cert.InDxReferenceIdeal.main_arg4) = m ((c.tc : Thread Cert.InDxReferenceIdeal.nD Cert.InDxReferenceIdeal.τ).loc Cert.InDxReferenceIdeal.main_arg4)
      ∧ r.2.mem ((c.tc : Thread Cert.InDxReferenceIdeal.nD Cert.InDxReferenceIdeal.τ).loc Cert.InDxReferenceIdeal.main_arg5) = m ((c.tc : Thread Cert.InDxReferenceIdeal.nD Cert.InDxReferenceIdeal.τ).loc Cert.InDxReferenceIdeal.main_arg5)
      ∧ r.2.mem ((c.tc : Thread Cert.InDxReferenceIdeal.nD Cert.InDxReferenceIdeal.τ).loc Cert.InDxReferenceIdeal.main_arg6) = m ((c.tc : Thread Cert.InDxReferenceIdeal.nD Cert.InDxReferenceIdeal.τ).loc Cert.InDxReferenceIdeal.main_arg6))
      ∧ r.2.sem = fun _ => 0)

def quiescent_InDxReferenceIdeal_pre_finite_in [hInDxReferenceIdeal : Cert.InDxReferenceIdeal.Facts] [hPre_finite_in : Cert.Pre_finite_in.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal_finite_in m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2)
      ∧ r.2.mem ((c.tc : Thread Cert.InDxReferenceIdeal.nD Cert.InDxReferenceIdeal.τ).loc Cert.InDxReferenceIdeal.main_arg3) = m ((c.tc : Thread Cert.InDxReferenceIdeal.nD Cert.InDxReferenceIdeal.τ).loc Cert.InDxReferenceIdeal.main_arg3)
      ∧ r.2.mem ((c.tc : Thread Cert.InDxReferenceIdeal.nD Cert.InDxReferenceIdeal.τ).loc Cert.InDxReferenceIdeal.main_arg4) = m ((c.tc : Thread Cert.InDxReferenceIdeal.nD Cert.InDxReferenceIdeal.τ).loc Cert.InDxReferenceIdeal.main_arg4)
      ∧ r.2.mem ((c.tc : Thread Cert.InDxReferenceIdeal.nD Cert.InDxReferenceIdeal.τ).loc Cert.InDxReferenceIdeal.main_arg5) = m ((c.tc : Thread Cert.InDxReferenceIdeal.nD Cert.InDxReferenceIdeal.τ).loc Cert.InDxReferenceIdeal.main_arg5)
      ∧ r.2.mem ((c.tc : Thread Cert.InDxReferenceIdeal.nD Cert.InDxReferenceIdeal.τ).loc Cert.InDxReferenceIdeal.main_arg6) = m ((c.tc : Thread Cert.InDxReferenceIdeal.nD Cert.InDxReferenceIdeal.τ).loc Cert.InDxReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4)
      ∧ r.2.mem ((c.tc : Thread Cert.DownKernel.nD Cert.DownKernel.τ).loc Cert.DownKernel.main_arg5) = m ((c.tc : Thread Cert.DownKernel.nD Cert.DownKernel.τ).loc Cert.DownKernel.main_arg5)
      ∧ r.2.mem ((c.tc : Thread Cert.DownKernel.nD Cert.DownKernel.τ).loc Cert.DownKernel.main_arg6) = m ((c.tc : Thread Cert.DownKernel.nD Cert.DownKernel.τ).loc Cert.DownKernel.main_arg6))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
      ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
      ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3)
      ∧ r.2.mem ((c.tc : Thread Cert.AdaKernel.nD Cert.AdaKernel.τ).loc Cert.AdaKernel.main_arg4) = m ((c.tc : Thread Cert.AdaKernel.nD Cert.AdaKernel.τ).loc Cert.AdaKernel.main_arg4))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
      ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def quiescent_ScwKernel [hScwKernel : Cert.ScwKernel.Facts] : Prop :=
  ∀ (m : (ℓ : Loc Cert.ScwKernel.nD Cert.ScwKernel.τ Cert.ScwKernel.sig) → Buf (Elt Bits) ℓ) (g : Dev Cert.ScwKernel.nD → PrngReg), Pre_ScwKernel m →
    θ_run (Cert.ScwKernel.defs (F := Bits)) (onTc (τ := Cert.ScwKernel.τ) (Cert.ScwKernel.main (F := Bits))) ⟨m, fun _ => 0, g⟩ (fun r => (∀ c : Dev Cert.ScwKernel.nD,
      r.2.mem ((c.tc : Thread Cert.ScwKernel.nD Cert.ScwKernel.τ).loc Cert.ScwKernel.main_arg0) = m ((c.tc : Thread Cert.ScwKernel.nD Cert.ScwKernel.τ).loc Cert.ScwKernel.main_arg0)
      ∧ r.2.mem ((c.tc : Thread Cert.ScwKernel.nD Cert.ScwKernel.τ).loc Cert.ScwKernel.main_arg1) = m ((c.tc : Thread Cert.ScwKernel.nD Cert.ScwKernel.τ).loc Cert.ScwKernel.main_arg1)
      ∧ r.2.mem ((c.tc : Thread Cert.ScwKernel.nD Cert.ScwKernel.τ).loc Cert.ScwKernel.main_arg2) = m ((c.tc : Thread Cert.ScwKernel.nD Cert.ScwKernel.τ).loc Cert.ScwKernel.main_arg2)
      ∧ r.2.mem ((c.tc : Thread Cert.ScwKernel.nD Cert.ScwKernel.τ).loc Cert.ScwKernel.main_arg3) = m ((c.tc : Thread Cert.ScwKernel.nD Cert.ScwKernel.τ).loc Cert.ScwKernel.main_arg3)
      ∧ r.2.mem ((c.tc : Thread Cert.ScwKernel.nD Cert.ScwKernel.τ).loc Cert.ScwKernel.main_arg4) = m ((c.tc : Thread Cert.ScwKernel.nD Cert.ScwKernel.τ).loc Cert.ScwKernel.main_arg4))
      ∧ r.2.sem = fun _ => 0)

def quiescent_ScwKernelIdeal [hScwKernelIdeal : Cert.ScwKernelIdeal.Facts] : Prop :=
  ∀ (m : (ℓ : Loc Cert.ScwKernelIdeal.nD Cert.ScwKernelIdeal.τ Cert.ScwKernelIdeal.sig) → Buf (Elt Ideal) ℓ) (g : Dev Cert.ScwKernelIdeal.nD → PrngReg), Pre_ScwKernelIdeal m →
    θ_run (Cert.ScwKernelIdeal.defs (F := Ideal)) (onTc (τ := Cert.ScwKernelIdeal.τ) (Cert.ScwKernelIdeal.main (F := Ideal))) ⟨m, fun _ => 0, g⟩ (fun r => (∀ c : Dev Cert.ScwKernelIdeal.nD,
      r.2.mem ((c.tc : Thread Cert.ScwKernelIdeal.nD Cert.ScwKernelIdeal.τ).loc Cert.ScwKernelIdeal.main_arg0) = m ((c.tc : Thread Cert.ScwKernelIdeal.nD Cert.ScwKernelIdeal.τ).loc Cert.ScwKernelIdeal.main_arg0)
      ∧ r.2.mem ((c.tc : Thread Cert.ScwKernelIdeal.nD Cert.ScwKernelIdeal.τ).loc Cert.ScwKernelIdeal.main_arg1) = m ((c.tc : Thread Cert.ScwKernelIdeal.nD Cert.ScwKernelIdeal.τ).loc Cert.ScwKernelIdeal.main_arg1)
      ∧ r.2.mem ((c.tc : Thread Cert.ScwKernelIdeal.nD Cert.ScwKernelIdeal.τ).loc Cert.ScwKernelIdeal.main_arg2) = m ((c.tc : Thread Cert.ScwKernelIdeal.nD Cert.ScwKernelIdeal.τ).loc Cert.ScwKernelIdeal.main_arg2)
      ∧ r.2.mem ((c.tc : Thread Cert.ScwKernelIdeal.nD Cert.ScwKernelIdeal.τ).loc Cert.ScwKernelIdeal.main_arg3) = m ((c.tc : Thread Cert.ScwKernelIdeal.nD Cert.ScwKernelIdeal.τ).loc Cert.ScwKernelIdeal.main_arg3)
      ∧ r.2.mem ((c.tc : Thread Cert.ScwKernelIdeal.nD Cert.ScwKernelIdeal.τ).loc Cert.ScwKernelIdeal.main_arg4) = m ((c.tc : Thread Cert.ScwKernelIdeal.nD Cert.ScwKernelIdeal.τ).loc Cert.ScwKernelIdeal.main_arg4))
      ∧ r.2.sem = fun _ => 0)

def quiescent_ScwReferenceIdeal [hScwReferenceIdeal : Cert.ScwReferenceIdeal.Facts] : Prop :=
  ∀ (m : (ℓ : Loc Cert.ScwReferenceIdeal.nD Cert.ScwReferenceIdeal.τ Cert.ScwReferenceIdeal.sig) → Buf (Elt Ideal) ℓ) (g : Dev Cert.ScwReferenceIdeal.nD → PrngReg), Pre_ScwReferenceIdeal m →
    θ_run (Cert.ScwReferenceIdeal.defs (F := Ideal)) (onTc (τ := Cert.ScwReferenceIdeal.τ) (Cert.ScwReferenceIdeal.main (F := Ideal))) ⟨m, fun _ => 0, g⟩ (fun r => (∀ c : Dev Cert.ScwReferenceIdeal.nD,
      r.2.mem ((c.tc : Thread Cert.ScwReferenceIdeal.nD Cert.ScwReferenceIdeal.τ).loc Cert.ScwReferenceIdeal.main_arg0) = m ((c.tc : Thread Cert.ScwReferenceIdeal.nD Cert.ScwReferenceIdeal.τ).loc Cert.ScwReferenceIdeal.main_arg0)
      ∧ r.2.mem ((c.tc : Thread Cert.ScwReferenceIdeal.nD Cert.ScwReferenceIdeal.τ).loc Cert.ScwReferenceIdeal.main_arg1) = m ((c.tc : Thread Cert.ScwReferenceIdeal.nD Cert.ScwReferenceIdeal.τ).loc Cert.ScwReferenceIdeal.main_arg1)
      ∧ r.2.mem ((c.tc : Thread Cert.ScwReferenceIdeal.nD Cert.ScwReferenceIdeal.τ).loc Cert.ScwReferenceIdeal.main_arg2) = m ((c.tc : Thread Cert.ScwReferenceIdeal.nD Cert.ScwReferenceIdeal.τ).loc Cert.ScwReferenceIdeal.main_arg2)
      ∧ r.2.mem ((c.tc : Thread Cert.ScwReferenceIdeal.nD Cert.ScwReferenceIdeal.τ).loc Cert.ScwReferenceIdeal.main_arg3) = m ((c.tc : Thread Cert.ScwReferenceIdeal.nD Cert.ScwReferenceIdeal.τ).loc Cert.ScwReferenceIdeal.main_arg3)
      ∧ r.2.mem ((c.tc : Thread Cert.ScwReferenceIdeal.nD Cert.ScwReferenceIdeal.τ).loc Cert.ScwReferenceIdeal.main_arg4) = m ((c.tc : Thread Cert.ScwReferenceIdeal.nD Cert.ScwReferenceIdeal.τ).loc Cert.ScwReferenceIdeal.main_arg4))
      ∧ r.2.sem = fun _ => 0)

def quiescent_FcwKernel [hFcwKernel : Cert.FcwKernel.Facts] : Prop :=
  ∀ (m : (ℓ : Loc Cert.FcwKernel.nD Cert.FcwKernel.τ Cert.FcwKernel.sig) → Buf (Elt Bits) ℓ) (g : Dev Cert.FcwKernel.nD → PrngReg), Pre_FcwKernel m →
    θ_run (Cert.FcwKernel.defs (F := Bits)) (onTc (τ := Cert.FcwKernel.τ) (Cert.FcwKernel.main (F := Bits))) ⟨m, fun _ => 0, g⟩ (fun r => (∀ c : Dev Cert.FcwKernel.nD,
      r.2.mem ((c.tc : Thread Cert.FcwKernel.nD Cert.FcwKernel.τ).loc Cert.FcwKernel.main_arg0) = m ((c.tc : Thread Cert.FcwKernel.nD Cert.FcwKernel.τ).loc Cert.FcwKernel.main_arg0)
      ∧ r.2.mem ((c.tc : Thread Cert.FcwKernel.nD Cert.FcwKernel.τ).loc Cert.FcwKernel.main_arg1) = m ((c.tc : Thread Cert.FcwKernel.nD Cert.FcwKernel.τ).loc Cert.FcwKernel.main_arg1)
      ∧ r.2.mem ((c.tc : Thread Cert.FcwKernel.nD Cert.FcwKernel.τ).loc Cert.FcwKernel.main_arg2) = m ((c.tc : Thread Cert.FcwKernel.nD Cert.FcwKernel.τ).loc Cert.FcwKernel.main_arg2)
      ∧ r.2.mem ((c.tc : Thread Cert.FcwKernel.nD Cert.FcwKernel.τ).loc Cert.FcwKernel.main_arg3) = m ((c.tc : Thread Cert.FcwKernel.nD Cert.FcwKernel.τ).loc Cert.FcwKernel.main_arg3)
      ∧ r.2.mem ((c.tc : Thread Cert.FcwKernel.nD Cert.FcwKernel.τ).loc Cert.FcwKernel.main_arg4) = m ((c.tc : Thread Cert.FcwKernel.nD Cert.FcwKernel.τ).loc Cert.FcwKernel.main_arg4))
      ∧ r.2.sem = fun _ => 0)

def quiescent_FcwKernelIdeal [hFcwKernelIdeal : Cert.FcwKernelIdeal.Facts] : Prop :=
  ∀ (m : (ℓ : Loc Cert.FcwKernelIdeal.nD Cert.FcwKernelIdeal.τ Cert.FcwKernelIdeal.sig) → Buf (Elt Ideal) ℓ) (g : Dev Cert.FcwKernelIdeal.nD → PrngReg), Pre_FcwKernelIdeal m →
    θ_run (Cert.FcwKernelIdeal.defs (F := Ideal)) (onTc (τ := Cert.FcwKernelIdeal.τ) (Cert.FcwKernelIdeal.main (F := Ideal))) ⟨m, fun _ => 0, g⟩ (fun r => (∀ c : Dev Cert.FcwKernelIdeal.nD,
      r.2.mem ((c.tc : Thread Cert.FcwKernelIdeal.nD Cert.FcwKernelIdeal.τ).loc Cert.FcwKernelIdeal.main_arg0) = m ((c.tc : Thread Cert.FcwKernelIdeal.nD Cert.FcwKernelIdeal.τ).loc Cert.FcwKernelIdeal.main_arg0)
      ∧ r.2.mem ((c.tc : Thread Cert.FcwKernelIdeal.nD Cert.FcwKernelIdeal.τ).loc Cert.FcwKernelIdeal.main_arg1) = m ((c.tc : Thread Cert.FcwKernelIdeal.nD Cert.FcwKernelIdeal.τ).loc Cert.FcwKernelIdeal.main_arg1)
      ∧ r.2.mem ((c.tc : Thread Cert.FcwKernelIdeal.nD Cert.FcwKernelIdeal.τ).loc Cert.FcwKernelIdeal.main_arg2) = m ((c.tc : Thread Cert.FcwKernelIdeal.nD Cert.FcwKernelIdeal.τ).loc Cert.FcwKernelIdeal.main_arg2)
      ∧ r.2.mem ((c.tc : Thread Cert.FcwKernelIdeal.nD Cert.FcwKernelIdeal.τ).loc Cert.FcwKernelIdeal.main_arg3) = m ((c.tc : Thread Cert.FcwKernelIdeal.nD Cert.FcwKernelIdeal.τ).loc Cert.FcwKernelIdeal.main_arg3)
      ∧ r.2.mem ((c.tc : Thread Cert.FcwKernelIdeal.nD Cert.FcwKernelIdeal.τ).loc Cert.FcwKernelIdeal.main_arg4) = m ((c.tc : Thread Cert.FcwKernelIdeal.nD Cert.FcwKernelIdeal.τ).loc Cert.FcwKernelIdeal.main_arg4))
      ∧ r.2.sem = fun _ => 0)

def quiescent_FcwReferenceIdeal [hFcwReferenceIdeal : Cert.FcwReferenceIdeal.Facts] : Prop :=
  ∀ (m : (ℓ : Loc Cert.FcwReferenceIdeal.nD Cert.FcwReferenceIdeal.τ Cert.FcwReferenceIdeal.sig) → Buf (Elt Ideal) ℓ) (g : Dev Cert.FcwReferenceIdeal.nD → PrngReg), Pre_FcwReferenceIdeal m →
    θ_run (Cert.FcwReferenceIdeal.defs (F := Ideal)) (onTc (τ := Cert.FcwReferenceIdeal.τ) (Cert.FcwReferenceIdeal.main (F := Ideal))) ⟨m, fun _ => 0, g⟩ (fun r => (∀ c : Dev Cert.FcwReferenceIdeal.nD,
      r.2.mem ((c.tc : Thread Cert.FcwReferenceIdeal.nD Cert.FcwReferenceIdeal.τ).loc Cert.FcwReferenceIdeal.main_arg0) = m ((c.tc : Thread Cert.FcwReferenceIdeal.nD Cert.FcwReferenceIdeal.τ).loc Cert.FcwReferenceIdeal.main_arg0)
      ∧ r.2.mem ((c.tc : Thread Cert.FcwReferenceIdeal.nD Cert.FcwReferenceIdeal.τ).loc Cert.FcwReferenceIdeal.main_arg1) = m ((c.tc : Thread Cert.FcwReferenceIdeal.nD Cert.FcwReferenceIdeal.τ).loc Cert.FcwReferenceIdeal.main_arg1)
      ∧ r.2.mem ((c.tc : Thread Cert.FcwReferenceIdeal.nD Cert.FcwReferenceIdeal.τ).loc Cert.FcwReferenceIdeal.main_arg2) = m ((c.tc : Thread Cert.FcwReferenceIdeal.nD Cert.FcwReferenceIdeal.τ).loc Cert.FcwReferenceIdeal.main_arg2)
      ∧ r.2.mem ((c.tc : Thread Cert.FcwReferenceIdeal.nD Cert.FcwReferenceIdeal.τ).loc Cert.FcwReferenceIdeal.main_arg3) = m ((c.tc : Thread Cert.FcwReferenceIdeal.nD Cert.FcwReferenceIdeal.τ).loc Cert.FcwReferenceIdeal.main_arg3)
      ∧ r.2.mem ((c.tc : Thread Cert.FcwReferenceIdeal.nD Cert.FcwReferenceIdeal.τ).loc Cert.FcwReferenceIdeal.main_arg4) = m ((c.tc : Thread Cert.FcwReferenceIdeal.nD Cert.FcwReferenceIdeal.τ).loc Cert.FcwReferenceIdeal.main_arg4))
      ∧ r.2.sem = fun _ => 0)

def quiescent_AdaWKernel [hAdaWKernel : Cert.AdaWKernel.Facts] : Prop :=
  ∀ (m : (ℓ : Loc Cert.AdaWKernel.nD Cert.AdaWKernel.τ Cert.AdaWKernel.sig) → Buf (Elt Bits) ℓ) (g : Dev Cert.AdaWKernel.nD → PrngReg), Pre_AdaWKernel m →
    θ_run (Cert.AdaWKernel.defs (F := Bits)) (onTc (τ := Cert.AdaWKernel.τ) (Cert.AdaWKernel.main (F := Bits))) ⟨m, fun _ => 0, g⟩ (fun r => (∀ c : Dev Cert.AdaWKernel.nD,
      r.2.mem ((c.tc : Thread Cert.AdaWKernel.nD Cert.AdaWKernel.τ).loc Cert.AdaWKernel.main_arg0) = m ((c.tc : Thread Cert.AdaWKernel.nD Cert.AdaWKernel.τ).loc Cert.AdaWKernel.main_arg0)
      ∧ r.2.mem ((c.tc : Thread Cert.AdaWKernel.nD Cert.AdaWKernel.τ).loc Cert.AdaWKernel.main_arg1) = m ((c.tc : Thread Cert.AdaWKernel.nD Cert.AdaWKernel.τ).loc Cert.AdaWKernel.main_arg1))
      ∧ r.2.sem = fun _ => 0)

def quiescent_AdaWKernelIdeal [hAdaWKernelIdeal : Cert.AdaWKernelIdeal.Facts] : Prop :=
  ∀ (m : (ℓ : Loc Cert.AdaWKernelIdeal.nD Cert.AdaWKernelIdeal.τ Cert.AdaWKernelIdeal.sig) → Buf (Elt Ideal) ℓ) (g : Dev Cert.AdaWKernelIdeal.nD → PrngReg), Pre_AdaWKernelIdeal m →
    θ_run (Cert.AdaWKernelIdeal.defs (F := Ideal)) (onTc (τ := Cert.AdaWKernelIdeal.τ) (Cert.AdaWKernelIdeal.main (F := Ideal))) ⟨m, fun _ => 0, g⟩ (fun r => (∀ c : Dev Cert.AdaWKernelIdeal.nD,
      r.2.mem ((c.tc : Thread Cert.AdaWKernelIdeal.nD Cert.AdaWKernelIdeal.τ).loc Cert.AdaWKernelIdeal.main_arg0) = m ((c.tc : Thread Cert.AdaWKernelIdeal.nD Cert.AdaWKernelIdeal.τ).loc Cert.AdaWKernelIdeal.main_arg0)
      ∧ r.2.mem ((c.tc : Thread Cert.AdaWKernelIdeal.nD Cert.AdaWKernelIdeal.τ).loc Cert.AdaWKernelIdeal.main_arg1) = m ((c.tc : Thread Cert.AdaWKernelIdeal.nD Cert.AdaWKernelIdeal.τ).loc Cert.AdaWKernelIdeal.main_arg1))
      ∧ r.2.sem = fun _ => 0)

def quiescent_AdaWReferenceIdeal [hAdaWReferenceIdeal : Cert.AdaWReferenceIdeal.Facts] : Prop :=
  ∀ (m : (ℓ : Loc Cert.AdaWReferenceIdeal.nD Cert.AdaWReferenceIdeal.τ Cert.AdaWReferenceIdeal.sig) → Buf (Elt Ideal) ℓ) (g : Dev Cert.AdaWReferenceIdeal.nD → PrngReg), Pre_AdaWReferenceIdeal m →
    θ_run (Cert.AdaWReferenceIdeal.defs (F := Ideal)) (onTc (τ := Cert.AdaWReferenceIdeal.τ) (Cert.AdaWReferenceIdeal.main (F := Ideal))) ⟨m, fun _ => 0, g⟩ (fun r => (∀ c : Dev Cert.AdaWReferenceIdeal.nD,
      r.2.mem ((c.tc : Thread Cert.AdaWReferenceIdeal.nD Cert.AdaWReferenceIdeal.τ).loc Cert.AdaWReferenceIdeal.main_arg0) = m ((c.tc : Thread Cert.AdaWReferenceIdeal.nD Cert.AdaWReferenceIdeal.τ).loc Cert.AdaWReferenceIdeal.main_arg0)
      ∧ r.2.mem ((c.tc : Thread Cert.AdaWReferenceIdeal.nD Cert.AdaWReferenceIdeal.τ).loc Cert.AdaWReferenceIdeal.main_arg1) = m ((c.tc : Thread Cert.AdaWReferenceIdeal.nD Cert.AdaWReferenceIdeal.τ).loc Cert.AdaWReferenceIdeal.main_arg1))
      ∧ r.2.sem = fun _ => 0)

def quiescent_WinKernel [hWinKernel : Cert.WinKernel.Facts] [hPre_device_w_in : Cert.Pre_device_w_in.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2)
      ∧ r.2.mem ((c.tc : Thread Cert.WinKernel.nD Cert.WinKernel.τ).loc Cert.WinKernel.main_arg3) = m ((c.tc : Thread Cert.WinKernel.nD Cert.WinKernel.τ).loc Cert.WinKernel.main_arg3)
      ∧ r.2.mem ((c.tc : Thread Cert.WinKernel.nD Cert.WinKernel.τ).loc Cert.WinKernel.main_arg4) = m ((c.tc : Thread Cert.WinKernel.nD Cert.WinKernel.τ).loc Cert.WinKernel.main_arg4)
      ∧ r.2.mem ((c.tc : Thread Cert.WinKernel.nD Cert.WinKernel.τ).loc Cert.WinKernel.main_arg5) = m ((c.tc : Thread Cert.WinKernel.nD Cert.WinKernel.τ).loc Cert.WinKernel.main_arg5)
      ∧ r.2.mem ((c.tc : Thread Cert.WinKernel.nD Cert.WinKernel.τ).loc Cert.WinKernel.main_arg6) = m ((c.tc : Thread Cert.WinKernel.nD Cert.WinKernel.τ).loc Cert.WinKernel.main_arg6)
      ∧ r.2.mem ((c.tc : Thread Cert.WinKernel.nD Cert.WinKernel.τ).loc Cert.WinKernel.main_arg7) = m ((c.tc : Thread Cert.WinKernel.nD Cert.WinKernel.τ).loc Cert.WinKernel.main_arg7))
      ∧ r.2.sem = fun _ => 0)

def quiescent_WinKernelIdeal [hWinKernelIdeal : Cert.WinKernelIdeal.Facts] [hPre_device_w_in : Cert.Pre_device_w_in.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
      ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
      ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5)
      ∧ r.2.mem ((c.tc : Thread Cert.WinKernelIdeal.nD Cert.WinKernelIdeal.τ).loc Cert.WinKernelIdeal.main_arg6) = m ((c.tc : Thread Cert.WinKernelIdeal.nD Cert.WinKernelIdeal.τ).loc Cert.WinKernelIdeal.main_arg6)
      ∧ r.2.mem ((c.tc : Thread Cert.WinKernelIdeal.nD Cert.WinKernelIdeal.τ).loc Cert.WinKernelIdeal.main_arg7) = m ((c.tc : Thread Cert.WinKernelIdeal.nD Cert.WinKernelIdeal.τ).loc Cert.WinKernelIdeal.main_arg7))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4)
      ∧ r.2.mem ((c.tc : Thread Cert.WinReferenceIdeal.nD Cert.WinReferenceIdeal.τ).loc Cert.WinReferenceIdeal.main_arg5) = m ((c.tc : Thread Cert.WinReferenceIdeal.nD Cert.WinReferenceIdeal.τ).loc Cert.WinReferenceIdeal.main_arg5)
      ∧ r.2.mem ((c.tc : Thread Cert.WinReferenceIdeal.nD Cert.WinReferenceIdeal.τ).loc Cert.WinReferenceIdeal.main_arg6) = m ((c.tc : Thread Cert.WinReferenceIdeal.nD Cert.WinReferenceIdeal.τ).loc Cert.WinReferenceIdeal.main_arg6)
      ∧ r.2.mem ((c.tc : Thread Cert.WinReferenceIdeal.nD Cert.WinReferenceIdeal.τ).loc Cert.WinReferenceIdeal.main_arg7) = m ((c.tc : Thread Cert.WinReferenceIdeal.nD Cert.WinReferenceIdeal.τ).loc Cert.WinReferenceIdeal.main_arg7))
      ∧ r.2.sem = fun _ => 0)

def quiescent_WinReferenceIdeal_pre_device_w_in [hWinReferenceIdeal : Cert.WinReferenceIdeal.Facts] [hPre_device_w_in : Cert.Pre_device_w_in.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal_device_w_in m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4)
      ∧ r.2.mem ((c.tc : Thread Cert.WinReferenceIdeal.nD Cert.WinReferenceIdeal.τ).loc Cert.WinReferenceIdeal.main_arg5) = m ((c.tc : Thread Cert.WinReferenceIdeal.nD Cert.WinReferenceIdeal.τ).loc Cert.WinReferenceIdeal.main_arg5)
      ∧ r.2.mem ((c.tc : Thread Cert.WinReferenceIdeal.nD Cert.WinReferenceIdeal.τ).loc Cert.WinReferenceIdeal.main_arg6) = m ((c.tc : Thread Cert.WinReferenceIdeal.nD Cert.WinReferenceIdeal.τ).loc Cert.WinReferenceIdeal.main_arg6)
      ∧ r.2.mem ((c.tc : Thread Cert.WinReferenceIdeal.nD Cert.WinReferenceIdeal.τ).loc Cert.WinReferenceIdeal.main_arg7) = m ((c.tc : Thread Cert.WinReferenceIdeal.nD Cert.WinReferenceIdeal.τ).loc Cert.WinReferenceIdeal.main_arg7))
      ∧ r.2.sem = fun _ => 0)

def quiescent_WoutKernel [hWoutKernel : Cert.WoutKernel.Facts] [hPre_device_w_out : Cert.Pre_device_w_out.Facts] : Prop :=
  ∀ (m : (ℓ : Loc Cert.WoutKernel.nD Cert.WoutKernel.τ Cert.WoutKernel.sig) → Buf (Elt Bits) ℓ) (g : Dev Cert.WoutKernel.nD → PrngReg), Pre_WoutKernel m →
    θ_run (Cert.WoutKernel.defs (F := Bits)) (onTc (τ := Cert.WoutKernel.τ) (Cert.WoutKernel.main (F := Bits))) ⟨m, fun _ => 0, g⟩ (fun r => (∀ c : Dev Cert.WoutKernel.nD,
      r.2.mem ((c.tc : Thread Cert.WoutKernel.nD Cert.WoutKernel.τ).loc Cert.WoutKernel.main_arg0) = m ((c.tc : Thread Cert.WoutKernel.nD Cert.WoutKernel.τ).loc Cert.WoutKernel.main_arg0)
      ∧ r.2.mem ((c.tc : Thread Cert.WoutKernel.nD Cert.WoutKernel.τ).loc Cert.WoutKernel.main_arg1) = m ((c.tc : Thread Cert.WoutKernel.nD Cert.WoutKernel.τ).loc Cert.WoutKernel.main_arg1)
      ∧ r.2.mem ((c.tc : Thread Cert.WoutKernel.nD Cert.WoutKernel.τ).loc Cert.WoutKernel.main_arg2) = m ((c.tc : Thread Cert.WoutKernel.nD Cert.WoutKernel.τ).loc Cert.WoutKernel.main_arg2)
      ∧ r.2.mem ((c.tc : Thread Cert.WoutKernel.nD Cert.WoutKernel.τ).loc Cert.WoutKernel.main_arg3) = m ((c.tc : Thread Cert.WoutKernel.nD Cert.WoutKernel.τ).loc Cert.WoutKernel.main_arg3)
      ∧ r.2.mem ((c.tc : Thread Cert.WoutKernel.nD Cert.WoutKernel.τ).loc Cert.WoutKernel.main_arg4) = m ((c.tc : Thread Cert.WoutKernel.nD Cert.WoutKernel.τ).loc Cert.WoutKernel.main_arg4)
      ∧ r.2.mem ((c.tc : Thread Cert.WoutKernel.nD Cert.WoutKernel.τ).loc Cert.WoutKernel.main_arg5) = m ((c.tc : Thread Cert.WoutKernel.nD Cert.WoutKernel.τ).loc Cert.WoutKernel.main_arg5)
      ∧ r.2.mem ((c.tc : Thread Cert.WoutKernel.nD Cert.WoutKernel.τ).loc Cert.WoutKernel.main_arg6) = m ((c.tc : Thread Cert.WoutKernel.nD Cert.WoutKernel.τ).loc Cert.WoutKernel.main_arg6)
      ∧ r.2.mem ((c.tc : Thread Cert.WoutKernel.nD Cert.WoutKernel.τ).loc Cert.WoutKernel.main_arg7) = m ((c.tc : Thread Cert.WoutKernel.nD Cert.WoutKernel.τ).loc Cert.WoutKernel.main_arg7)
      ∧ r.2.mem ((c.tc : Thread Cert.WoutKernel.nD Cert.WoutKernel.τ).loc Cert.WoutKernel.main_arg8) = m ((c.tc : Thread Cert.WoutKernel.nD Cert.WoutKernel.τ).loc Cert.WoutKernel.main_arg8)
      ∧ r.2.mem ((c.tc : Thread Cert.WoutKernel.nD Cert.WoutKernel.τ).loc Cert.WoutKernel.main_arg9) = m ((c.tc : Thread Cert.WoutKernel.nD Cert.WoutKernel.τ).loc Cert.WoutKernel.main_arg9))
      ∧ r.2.sem = fun _ => 0)

def quiescent_WoutKernelIdeal [hWoutKernelIdeal : Cert.WoutKernelIdeal.Facts] [hPre_device_w_out : Cert.Pre_device_w_out.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg), Pre_WoutKernelIdeal m →
    θ_run (Cert.WoutKernelIdeal.defs (F := Ideal)) (onTc (τ := Cert.WoutKernelIdeal.τ) (Cert.WoutKernelIdeal.main (F := Ideal))) ⟨m, fun _ => 0, g⟩ (fun r => (∀ c : Dev Cert.WoutKernelIdeal.nD,
      r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
      ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1)
      ∧ r.2.mem ((c.tc : Thread Cert.WoutKernelIdeal.nD Cert.WoutKernelIdeal.τ).loc Cert.WoutKernelIdeal.main_arg2) = m ((c.tc : Thread Cert.WoutKernelIdeal.nD Cert.WoutKernelIdeal.τ).loc Cert.WoutKernelIdeal.main_arg2)
      ∧ r.2.mem ((c.tc : Thread Cert.WoutKernelIdeal.nD Cert.WoutKernelIdeal.τ).loc Cert.WoutKernelIdeal.main_arg3) = m ((c.tc : Thread Cert.WoutKernelIdeal.nD Cert.WoutKernelIdeal.τ).loc Cert.WoutKernelIdeal.main_arg3)
      ∧ r.2.mem ((c.tc : Thread Cert.WoutKernelIdeal.nD Cert.WoutKernelIdeal.τ).loc Cert.WoutKernelIdeal.main_arg4) = m ((c.tc : Thread Cert.WoutKernelIdeal.nD Cert.WoutKernelIdeal.τ).loc Cert.WoutKernelIdeal.main_arg4)
      ∧ r.2.mem ((c.tc : Thread Cert.WoutKernelIdeal.nD Cert.WoutKernelIdeal.τ).loc Cert.WoutKernelIdeal.main_arg5) = m ((c.tc : Thread Cert.WoutKernelIdeal.nD Cert.WoutKernelIdeal.τ).loc Cert.WoutKernelIdeal.main_arg5)
      ∧ r.2.mem ((c.tc : Thread Cert.WoutKernelIdeal.nD Cert.WoutKernelIdeal.τ).loc Cert.WoutKernelIdeal.main_arg6) = m ((c.tc : Thread Cert.WoutKernelIdeal.nD Cert.WoutKernelIdeal.τ).loc Cert.WoutKernelIdeal.main_arg6)
      ∧ r.2.mem ((c.tc : Thread Cert.WoutKernelIdeal.nD Cert.WoutKernelIdeal.τ).loc Cert.WoutKernelIdeal.main_arg7) = m ((c.tc : Thread Cert.WoutKernelIdeal.nD Cert.WoutKernelIdeal.τ).loc Cert.WoutKernelIdeal.main_arg7)
      ∧ r.2.mem ((c.tc : Thread Cert.WoutKernelIdeal.nD Cert.WoutKernelIdeal.τ).loc Cert.WoutKernelIdeal.main_arg8) = m ((c.tc : Thread Cert.WoutKernelIdeal.nD Cert.WoutKernelIdeal.τ).loc Cert.WoutKernelIdeal.main_arg8)
      ∧ r.2.mem ((c.tc : Thread Cert.WoutKernelIdeal.nD Cert.WoutKernelIdeal.τ).loc Cert.WoutKernelIdeal.main_arg9) = m ((c.tc : Thread Cert.WoutKernelIdeal.nD Cert.WoutKernelIdeal.τ).loc Cert.WoutKernelIdeal.main_arg9))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1)
      ∧ r.2.mem ((c.tc : Thread Cert.WoutReferenceIdeal.nD Cert.WoutReferenceIdeal.τ).loc Cert.WoutReferenceIdeal.main_arg2) = m ((c.tc : Thread Cert.WoutReferenceIdeal.nD Cert.WoutReferenceIdeal.τ).loc Cert.WoutReferenceIdeal.main_arg2)
      ∧ r.2.mem ((c.tc : Thread Cert.WoutReferenceIdeal.nD Cert.WoutReferenceIdeal.τ).loc Cert.WoutReferenceIdeal.main_arg3) = m ((c.tc : Thread Cert.WoutReferenceIdeal.nD Cert.WoutReferenceIdeal.τ).loc Cert.WoutReferenceIdeal.main_arg3)
      ∧ r.2.mem ((c.tc : Thread Cert.WoutReferenceIdeal.nD Cert.WoutReferenceIdeal.τ).loc Cert.WoutReferenceIdeal.main_arg4) = m ((c.tc : Thread Cert.WoutReferenceIdeal.nD Cert.WoutReferenceIdeal.τ).loc Cert.WoutReferenceIdeal.main_arg4)
      ∧ r.2.mem ((c.tc : Thread Cert.WoutReferenceIdeal.nD Cert.WoutReferenceIdeal.τ).loc Cert.WoutReferenceIdeal.main_arg5) = m ((c.tc : Thread Cert.WoutReferenceIdeal.nD Cert.WoutReferenceIdeal.τ).loc Cert.WoutReferenceIdeal.main_arg5)
      ∧ r.2.mem ((c.tc : Thread Cert.WoutReferenceIdeal.nD Cert.WoutReferenceIdeal.τ).loc Cert.WoutReferenceIdeal.main_arg6) = m ((c.tc : Thread Cert.WoutReferenceIdeal.nD Cert.WoutReferenceIdeal.τ).loc Cert.WoutReferenceIdeal.main_arg6)
      ∧ r.2.mem ((c.tc : Thread Cert.WoutReferenceIdeal.nD Cert.WoutReferenceIdeal.τ).loc Cert.WoutReferenceIdeal.main_arg7) = m ((c.tc : Thread Cert.WoutReferenceIdeal.nD Cert.WoutReferenceIdeal.τ).loc Cert.WoutReferenceIdeal.main_arg7)
      ∧ r.2.mem ((c.tc : Thread Cert.WoutReferenceIdeal.nD Cert.WoutReferenceIdeal.τ).loc Cert.WoutReferenceIdeal.main_arg8) = m ((c.tc : Thread Cert.WoutReferenceIdeal.nD Cert.WoutReferenceIdeal.τ).loc Cert.WoutReferenceIdeal.main_arg8)
      ∧ r.2.mem ((c.tc : Thread Cert.WoutReferenceIdeal.nD Cert.WoutReferenceIdeal.τ).loc Cert.WoutReferenceIdeal.main_arg9) = m ((c.tc : Thread Cert.WoutReferenceIdeal.nD Cert.WoutReferenceIdeal.τ).loc Cert.WoutReferenceIdeal.main_arg9))
      ∧ r.2.sem = fun _ => 0)

def quiescent_WoutReferenceIdeal_pre_device_w_out [hWoutReferenceIdeal : Cert.WoutReferenceIdeal.Facts] [hPre_device_w_out : Cert.Pre_device_w_out.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal_device_w_out m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1)
      ∧ r.2.mem ((c.tc : Thread Cert.WoutReferenceIdeal.nD Cert.WoutReferenceIdeal.τ).loc Cert.WoutReferenceIdeal.main_arg2) = m ((c.tc : Thread Cert.WoutReferenceIdeal.nD Cert.WoutReferenceIdeal.τ).loc Cert.WoutReferenceIdeal.main_arg2)
      ∧ r.2.mem ((c.tc : Thread Cert.WoutReferenceIdeal.nD Cert.WoutReferenceIdeal.τ).loc Cert.WoutReferenceIdeal.main_arg3) = m ((c.tc : Thread Cert.WoutReferenceIdeal.nD Cert.WoutReferenceIdeal.τ).loc Cert.WoutReferenceIdeal.main_arg3)
      ∧ r.2.mem ((c.tc : Thread Cert.WoutReferenceIdeal.nD Cert.WoutReferenceIdeal.τ).loc Cert.WoutReferenceIdeal.main_arg4) = m ((c.tc : Thread Cert.WoutReferenceIdeal.nD Cert.WoutReferenceIdeal.τ).loc Cert.WoutReferenceIdeal.main_arg4)
      ∧ r.2.mem ((c.tc : Thread Cert.WoutReferenceIdeal.nD Cert.WoutReferenceIdeal.τ).loc Cert.WoutReferenceIdeal.main_arg5) = m ((c.tc : Thread Cert.WoutReferenceIdeal.nD Cert.WoutReferenceIdeal.τ).loc Cert.WoutReferenceIdeal.main_arg5)
      ∧ r.2.mem ((c.tc : Thread Cert.WoutReferenceIdeal.nD Cert.WoutReferenceIdeal.τ).loc Cert.WoutReferenceIdeal.main_arg6) = m ((c.tc : Thread Cert.WoutReferenceIdeal.nD Cert.WoutReferenceIdeal.τ).loc Cert.WoutReferenceIdeal.main_arg6)
      ∧ r.2.mem ((c.tc : Thread Cert.WoutReferenceIdeal.nD Cert.WoutReferenceIdeal.τ).loc Cert.WoutReferenceIdeal.main_arg7) = m ((c.tc : Thread Cert.WoutReferenceIdeal.nD Cert.WoutReferenceIdeal.τ).loc Cert.WoutReferenceIdeal.main_arg7)
      ∧ r.2.mem ((c.tc : Thread Cert.WoutReferenceIdeal.nD Cert.WoutReferenceIdeal.τ).loc Cert.WoutReferenceIdeal.main_arg8) = m ((c.tc : Thread Cert.WoutReferenceIdeal.nD Cert.WoutReferenceIdeal.τ).loc Cert.WoutReferenceIdeal.main_arg8)
      ∧ r.2.mem ((c.tc : Thread Cert.WoutReferenceIdeal.nD Cert.WoutReferenceIdeal.τ).loc Cert.WoutReferenceIdeal.main_arg9) = m ((c.tc : Thread Cert.WoutReferenceIdeal.nD Cert.WoutReferenceIdeal.τ).loc Cert.WoutReferenceIdeal.main_arg9))
      ∧ r.2.sem = fun _ => 0)

def quiescent_FupKernel [hFupKernel : Cert.FupKernel.Facts] [hPre_device_ff_up : Cert.Pre_device_ff_up.Facts] : Prop :=
  ∀ (m : (ℓ : Loc Cert.FupKernel.nD Cert.FupKernel.τ Cert.FupKernel.sig) → Buf (Elt Bits) ℓ) (g : Dev Cert.FupKernel.nD → PrngReg), Pre_FupKernel m →
    θ_run (Cert.FupKernel.defs (F := Bits)) (onTc (τ := Cert.FupKernel.τ) (Cert.FupKernel.main (F := Bits))) ⟨m, fun _ => 0, g⟩ (fun r => (∀ c : Dev Cert.FupKernel.nD,
      r.2.mem ((c.tc : Thread Cert.FupKernel.nD Cert.FupKernel.τ).loc Cert.FupKernel.main_arg0) = m ((c.tc : Thread Cert.FupKernel.nD Cert.FupKernel.τ).loc Cert.FupKernel.main_arg0)
      ∧ r.2.mem ((c.tc : Thread Cert.FupKernel.nD Cert.FupKernel.τ).loc Cert.FupKernel.main_arg1) = m ((c.tc : Thread Cert.FupKernel.nD Cert.FupKernel.τ).loc Cert.FupKernel.main_arg1)
      ∧ r.2.mem ((c.tc : Thread Cert.FupKernel.nD Cert.FupKernel.τ).loc Cert.FupKernel.main_arg2) = m ((c.tc : Thread Cert.FupKernel.nD Cert.FupKernel.τ).loc Cert.FupKernel.main_arg2)
      ∧ r.2.mem ((c.tc : Thread Cert.FupKernel.nD Cert.FupKernel.τ).loc Cert.FupKernel.main_arg3) = m ((c.tc : Thread Cert.FupKernel.nD Cert.FupKernel.τ).loc Cert.FupKernel.main_arg3)
      ∧ r.2.mem ((c.tc : Thread Cert.FupKernel.nD Cert.FupKernel.τ).loc Cert.FupKernel.main_arg4) = m ((c.tc : Thread Cert.FupKernel.nD Cert.FupKernel.τ).loc Cert.FupKernel.main_arg4)
      ∧ r.2.mem ((c.tc : Thread Cert.FupKernel.nD Cert.FupKernel.τ).loc Cert.FupKernel.main_arg5) = m ((c.tc : Thread Cert.FupKernel.nD Cert.FupKernel.τ).loc Cert.FupKernel.main_arg5)
      ∧ r.2.mem ((c.tc : Thread Cert.FupKernel.nD Cert.FupKernel.τ).loc Cert.FupKernel.main_arg6) = m ((c.tc : Thread Cert.FupKernel.nD Cert.FupKernel.τ).loc Cert.FupKernel.main_arg6)
      ∧ r.2.mem ((c.tc : Thread Cert.FupKernel.nD Cert.FupKernel.τ).loc Cert.FupKernel.main_arg7) = m ((c.tc : Thread Cert.FupKernel.nD Cert.FupKernel.τ).loc Cert.FupKernel.main_arg7)
      ∧ r.2.mem ((c.tc : Thread Cert.FupKernel.nD Cert.FupKernel.τ).loc Cert.FupKernel.main_arg8) = m ((c.tc : Thread Cert.FupKernel.nD Cert.FupKernel.τ).loc Cert.FupKernel.main_arg8)
      ∧ r.2.mem ((c.tc : Thread Cert.FupKernel.nD Cert.FupKernel.τ).loc Cert.FupKernel.main_arg9) = m ((c.tc : Thread Cert.FupKernel.nD Cert.FupKernel.τ).loc Cert.FupKernel.main_arg9))
      ∧ r.2.sem = fun _ => 0)

def quiescent_FupKernelIdeal [hFupKernelIdeal : Cert.FupKernelIdeal.Facts] [hPre_device_ff_up : Cert.Pre_device_ff_up.Facts] : Prop :=
  ∀ (m : (ℓ : Loc Cert.FupKernelIdeal.nD Cert.FupKernelIdeal.τ Cert.FupKernelIdeal.sig) → Buf (Elt Ideal) ℓ) (g : Dev Cert.FupKernelIdeal.nD → PrngReg), Pre_FupKernelIdeal m →
    θ_run (Cert.FupKernelIdeal.defs (F := Ideal)) (onTc (τ := Cert.FupKernelIdeal.τ) (Cert.FupKernelIdeal.main (F := Ideal))) ⟨m, fun _ => 0, g⟩ (fun r => (∀ c : Dev Cert.FupKernelIdeal.nD,
      r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
      ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1)
      ∧ r.2.mem ((c.tc : Thread Cert.FupKernelIdeal.nD Cert.FupKernelIdeal.τ).loc Cert.FupKernelIdeal.main_arg2) = m ((c.tc : Thread Cert.FupKernelIdeal.nD Cert.FupKernelIdeal.τ).loc Cert.FupKernelIdeal.main_arg2)
      ∧ r.2.mem ((c.tc : Thread Cert.FupKernelIdeal.nD Cert.FupKernelIdeal.τ).loc Cert.FupKernelIdeal.main_arg3) = m ((c.tc : Thread Cert.FupKernelIdeal.nD Cert.FupKernelIdeal.τ).loc Cert.FupKernelIdeal.main_arg3)
      ∧ r.2.mem ((c.tc : Thread Cert.FupKernelIdeal.nD Cert.FupKernelIdeal.τ).loc Cert.FupKernelIdeal.main_arg4) = m ((c.tc : Thread Cert.FupKernelIdeal.nD Cert.FupKernelIdeal.τ).loc Cert.FupKernelIdeal.main_arg4)
      ∧ r.2.mem ((c.tc : Thread Cert.FupKernelIdeal.nD Cert.FupKernelIdeal.τ).loc Cert.FupKernelIdeal.main_arg5) = m ((c.tc : Thread Cert.FupKernelIdeal.nD Cert.FupKernelIdeal.τ).loc Cert.FupKernelIdeal.main_arg5)
      ∧ r.2.mem ((c.tc : Thread Cert.FupKernelIdeal.nD Cert.FupKernelIdeal.τ).loc Cert.FupKernelIdeal.main_arg6) = m ((c.tc : Thread Cert.FupKernelIdeal.nD Cert.FupKernelIdeal.τ).loc Cert.FupKernelIdeal.main_arg6)
      ∧ r.2.mem ((c.tc : Thread Cert.FupKernelIdeal.nD Cert.FupKernelIdeal.τ).loc Cert.FupKernelIdeal.main_arg7) = m ((c.tc : Thread Cert.FupKernelIdeal.nD Cert.FupKernelIdeal.τ).loc Cert.FupKernelIdeal.main_arg7)
      ∧ r.2.mem ((c.tc : Thread Cert.FupKernelIdeal.nD Cert.FupKernelIdeal.τ).loc Cert.FupKernelIdeal.main_arg8) = m ((c.tc : Thread Cert.FupKernelIdeal.nD Cert.FupKernelIdeal.τ).loc Cert.FupKernelIdeal.main_arg8)
      ∧ r.2.mem ((c.tc : Thread Cert.FupKernelIdeal.nD Cert.FupKernelIdeal.τ).loc Cert.FupKernelIdeal.main_arg9) = m ((c.tc : Thread Cert.FupKernelIdeal.nD Cert.FupKernelIdeal.τ).loc Cert.FupKernelIdeal.main_arg9))
      ∧ r.2.sem = fun _ => 0)

def quiescent_FupReferenceIdeal [hFupReferenceIdeal : Cert.FupReferenceIdeal.Facts] : Prop :=
  ∀ (m : (ℓ : Loc Cert.FupReferenceIdeal.nD Cert.FupReferenceIdeal.τ Cert.FupReferenceIdeal.sig) → Buf (Elt Ideal) ℓ) (g : Dev Cert.FupReferenceIdeal.nD → PrngReg), Pre_FupReferenceIdeal m →
    θ_run (Cert.FupReferenceIdeal.defs (F := Ideal)) (onTc (τ := Cert.FupReferenceIdeal.τ) (Cert.FupReferenceIdeal.main (F := Ideal))) ⟨m, fun _ => 0, g⟩ (fun r => (∀ c : Dev Cert.FupReferenceIdeal.nD,
      r.2.mem ((c.tc : Thread Cert.FupReferenceIdeal.nD Cert.FupReferenceIdeal.τ).loc Cert.FupReferenceIdeal.main_arg0) = m ((c.tc : Thread Cert.FupReferenceIdeal.nD Cert.FupReferenceIdeal.τ).loc Cert.FupReferenceIdeal.main_arg0)
      ∧ r.2.mem ((c.tc : Thread Cert.FupReferenceIdeal.nD Cert.FupReferenceIdeal.τ).loc Cert.FupReferenceIdeal.main_arg1) = m ((c.tc : Thread Cert.FupReferenceIdeal.nD Cert.FupReferenceIdeal.τ).loc Cert.FupReferenceIdeal.main_arg1)
      ∧ r.2.mem ((c.tc : Thread Cert.FupReferenceIdeal.nD Cert.FupReferenceIdeal.τ).loc Cert.FupReferenceIdeal.main_arg2) = m ((c.tc : Thread Cert.FupReferenceIdeal.nD Cert.FupReferenceIdeal.τ).loc Cert.FupReferenceIdeal.main_arg2)
      ∧ r.2.mem ((c.tc : Thread Cert.FupReferenceIdeal.nD Cert.FupReferenceIdeal.τ).loc Cert.FupReferenceIdeal.main_arg3) = m ((c.tc : Thread Cert.FupReferenceIdeal.nD Cert.FupReferenceIdeal.τ).loc Cert.FupReferenceIdeal.main_arg3)
      ∧ r.2.mem ((c.tc : Thread Cert.FupReferenceIdeal.nD Cert.FupReferenceIdeal.τ).loc Cert.FupReferenceIdeal.main_arg4) = m ((c.tc : Thread Cert.FupReferenceIdeal.nD Cert.FupReferenceIdeal.τ).loc Cert.FupReferenceIdeal.main_arg4)
      ∧ r.2.mem ((c.tc : Thread Cert.FupReferenceIdeal.nD Cert.FupReferenceIdeal.τ).loc Cert.FupReferenceIdeal.main_arg5) = m ((c.tc : Thread Cert.FupReferenceIdeal.nD Cert.FupReferenceIdeal.τ).loc Cert.FupReferenceIdeal.main_arg5)
      ∧ r.2.mem ((c.tc : Thread Cert.FupReferenceIdeal.nD Cert.FupReferenceIdeal.τ).loc Cert.FupReferenceIdeal.main_arg6) = m ((c.tc : Thread Cert.FupReferenceIdeal.nD Cert.FupReferenceIdeal.τ).loc Cert.FupReferenceIdeal.main_arg6)
      ∧ r.2.mem ((c.tc : Thread Cert.FupReferenceIdeal.nD Cert.FupReferenceIdeal.τ).loc Cert.FupReferenceIdeal.main_arg7) = m ((c.tc : Thread Cert.FupReferenceIdeal.nD Cert.FupReferenceIdeal.τ).loc Cert.FupReferenceIdeal.main_arg7)
      ∧ r.2.mem ((c.tc : Thread Cert.FupReferenceIdeal.nD Cert.FupReferenceIdeal.τ).loc Cert.FupReferenceIdeal.main_arg8) = m ((c.tc : Thread Cert.FupReferenceIdeal.nD Cert.FupReferenceIdeal.τ).loc Cert.FupReferenceIdeal.main_arg8)
      ∧ r.2.mem ((c.tc : Thread Cert.FupReferenceIdeal.nD Cert.FupReferenceIdeal.τ).loc Cert.FupReferenceIdeal.main_arg9) = m ((c.tc : Thread Cert.FupReferenceIdeal.nD Cert.FupReferenceIdeal.τ).loc Cert.FupReferenceIdeal.main_arg9))
      ∧ r.2.sem = fun _ => 0)

def quiescent_FupReferenceIdeal_pre_device_ff_up [hFupReferenceIdeal : Cert.FupReferenceIdeal.Facts] [hPre_device_ff_up : Cert.Pre_device_ff_up.Facts] : Prop :=
  ∀ (m : (ℓ : Loc Cert.FupReferenceIdeal.nD Cert.FupReferenceIdeal.τ Cert.FupReferenceIdeal.sig) → Buf (Elt Ideal) ℓ) (g : Dev Cert.FupReferenceIdeal.nD → PrngReg), Pre_FupReferenceIdeal_device_ff_up m →
    θ_run (Cert.FupReferenceIdeal.defs (F := Ideal)) (onTc (τ := Cert.FupReferenceIdeal.τ) (Cert.FupReferenceIdeal.main (F := Ideal))) ⟨m, fun _ => 0, g⟩ (fun r => (∀ c : Dev Cert.FupReferenceIdeal.nD,
      r.2.mem ((c.tc : Thread Cert.FupReferenceIdeal.nD Cert.FupReferenceIdeal.τ).loc Cert.FupReferenceIdeal.main_arg0) = m ((c.tc : Thread Cert.FupReferenceIdeal.nD Cert.FupReferenceIdeal.τ).loc Cert.FupReferenceIdeal.main_arg0)
      ∧ r.2.mem ((c.tc : Thread Cert.FupReferenceIdeal.nD Cert.FupReferenceIdeal.τ).loc Cert.FupReferenceIdeal.main_arg1) = m ((c.tc : Thread Cert.FupReferenceIdeal.nD Cert.FupReferenceIdeal.τ).loc Cert.FupReferenceIdeal.main_arg1)
      ∧ r.2.mem ((c.tc : Thread Cert.FupReferenceIdeal.nD Cert.FupReferenceIdeal.τ).loc Cert.FupReferenceIdeal.main_arg2) = m ((c.tc : Thread Cert.FupReferenceIdeal.nD Cert.FupReferenceIdeal.τ).loc Cert.FupReferenceIdeal.main_arg2)
      ∧ r.2.mem ((c.tc : Thread Cert.FupReferenceIdeal.nD Cert.FupReferenceIdeal.τ).loc Cert.FupReferenceIdeal.main_arg3) = m ((c.tc : Thread Cert.FupReferenceIdeal.nD Cert.FupReferenceIdeal.τ).loc Cert.FupReferenceIdeal.main_arg3)
      ∧ r.2.mem ((c.tc : Thread Cert.FupReferenceIdeal.nD Cert.FupReferenceIdeal.τ).loc Cert.FupReferenceIdeal.main_arg4) = m ((c.tc : Thread Cert.FupReferenceIdeal.nD Cert.FupReferenceIdeal.τ).loc Cert.FupReferenceIdeal.main_arg4)
      ∧ r.2.mem ((c.tc : Thread Cert.FupReferenceIdeal.nD Cert.FupReferenceIdeal.τ).loc Cert.FupReferenceIdeal.main_arg5) = m ((c.tc : Thread Cert.FupReferenceIdeal.nD Cert.FupReferenceIdeal.τ).loc Cert.FupReferenceIdeal.main_arg5)
      ∧ r.2.mem ((c.tc : Thread Cert.FupReferenceIdeal.nD Cert.FupReferenceIdeal.τ).loc Cert.FupReferenceIdeal.main_arg6) = m ((c.tc : Thread Cert.FupReferenceIdeal.nD Cert.FupReferenceIdeal.τ).loc Cert.FupReferenceIdeal.main_arg6)
      ∧ r.2.mem ((c.tc : Thread Cert.FupReferenceIdeal.nD Cert.FupReferenceIdeal.τ).loc Cert.FupReferenceIdeal.main_arg7) = m ((c.tc : Thread Cert.FupReferenceIdeal.nD Cert.FupReferenceIdeal.τ).loc Cert.FupReferenceIdeal.main_arg7)
      ∧ r.2.mem ((c.tc : Thread Cert.FupReferenceIdeal.nD Cert.FupReferenceIdeal.τ).loc Cert.FupReferenceIdeal.main_arg8) = m ((c.tc : Thread Cert.FupReferenceIdeal.nD Cert.FupReferenceIdeal.τ).loc Cert.FupReferenceIdeal.main_arg8)
      ∧ r.2.mem ((c.tc : Thread Cert.FupReferenceIdeal.nD Cert.FupReferenceIdeal.τ).loc Cert.FupReferenceIdeal.main_arg9) = m ((c.tc : Thread Cert.FupReferenceIdeal.nD Cert.FupReferenceIdeal.τ).loc Cert.FupReferenceIdeal.main_arg9))
      ∧ r.2.sem = fun _ => 0)

def quiescent_FdnKernel [hFdnKernel : Cert.FdnKernel.Facts] [hPre_device_ff_down : Cert.Pre_device_ff_down.Facts] : Prop :=
  ∀ (m : (ℓ : Loc Cert.FdnKernel.nD Cert.FdnKernel.τ Cert.FdnKernel.sig) → Buf (Elt Bits) ℓ) (g : Dev Cert.FdnKernel.nD → PrngReg), Pre_FdnKernel m →
    θ_run (Cert.FdnKernel.defs (F := Bits)) (onTc (τ := Cert.FdnKernel.τ) (Cert.FdnKernel.main (F := Bits))) ⟨m, fun _ => 0, g⟩ (fun r => (∀ c : Dev Cert.FdnKernel.nD,
      r.2.mem ((c.tc : Thread Cert.FdnKernel.nD Cert.FdnKernel.τ).loc Cert.FdnKernel.main_arg0) = m ((c.tc : Thread Cert.FdnKernel.nD Cert.FdnKernel.τ).loc Cert.FdnKernel.main_arg0)
      ∧ r.2.mem ((c.tc : Thread Cert.FdnKernel.nD Cert.FdnKernel.τ).loc Cert.FdnKernel.main_arg1) = m ((c.tc : Thread Cert.FdnKernel.nD Cert.FdnKernel.τ).loc Cert.FdnKernel.main_arg1)
      ∧ r.2.mem ((c.tc : Thread Cert.FdnKernel.nD Cert.FdnKernel.τ).loc Cert.FdnKernel.main_arg2) = m ((c.tc : Thread Cert.FdnKernel.nD Cert.FdnKernel.τ).loc Cert.FdnKernel.main_arg2)
      ∧ r.2.mem ((c.tc : Thread Cert.FdnKernel.nD Cert.FdnKernel.τ).loc Cert.FdnKernel.main_arg3) = m ((c.tc : Thread Cert.FdnKernel.nD Cert.FdnKernel.τ).loc Cert.FdnKernel.main_arg3)
      ∧ r.2.mem ((c.tc : Thread Cert.FdnKernel.nD Cert.FdnKernel.τ).loc Cert.FdnKernel.main_arg4) = m ((c.tc : Thread Cert.FdnKernel.nD Cert.FdnKernel.τ).loc Cert.FdnKernel.main_arg4)
      ∧ r.2.mem ((c.tc : Thread Cert.FdnKernel.nD Cert.FdnKernel.τ).loc Cert.FdnKernel.main_arg5) = m ((c.tc : Thread Cert.FdnKernel.nD Cert.FdnKernel.τ).loc Cert.FdnKernel.main_arg5)
      ∧ r.2.mem ((c.tc : Thread Cert.FdnKernel.nD Cert.FdnKernel.τ).loc Cert.FdnKernel.main_arg6) = m ((c.tc : Thread Cert.FdnKernel.nD Cert.FdnKernel.τ).loc Cert.FdnKernel.main_arg6)
      ∧ r.2.mem ((c.tc : Thread Cert.FdnKernel.nD Cert.FdnKernel.τ).loc Cert.FdnKernel.main_arg7) = m ((c.tc : Thread Cert.FdnKernel.nD Cert.FdnKernel.τ).loc Cert.FdnKernel.main_arg7)
      ∧ r.2.mem ((c.tc : Thread Cert.FdnKernel.nD Cert.FdnKernel.τ).loc Cert.FdnKernel.main_arg8) = m ((c.tc : Thread Cert.FdnKernel.nD Cert.FdnKernel.τ).loc Cert.FdnKernel.main_arg8)
      ∧ r.2.mem ((c.tc : Thread Cert.FdnKernel.nD Cert.FdnKernel.τ).loc Cert.FdnKernel.main_arg9) = m ((c.tc : Thread Cert.FdnKernel.nD Cert.FdnKernel.τ).loc Cert.FdnKernel.main_arg9))
      ∧ r.2.sem = fun _ => 0)

def quiescent_FdnKernelIdeal [hFdnKernelIdeal : Cert.FdnKernelIdeal.Facts] [hPre_device_ff_down : Cert.Pre_device_ff_down.Facts] : Prop :=
  ∀ (m : (ℓ : Loc Cert.FdnKernelIdeal.nD Cert.FdnKernelIdeal.τ Cert.FdnKernelIdeal.sig) → Buf (Elt Ideal) ℓ) (g : Dev Cert.FdnKernelIdeal.nD → PrngReg), Pre_FdnKernelIdeal m →
    θ_run (Cert.FdnKernelIdeal.defs (F := Ideal)) (onTc (τ := Cert.FdnKernelIdeal.τ) (Cert.FdnKernelIdeal.main (F := Ideal))) ⟨m, fun _ => 0, g⟩ (fun r => (∀ c : Dev Cert.FdnKernelIdeal.nD,
      r.2.mem ((c.tc : Thread Cert.FdnKernelIdeal.nD Cert.FdnKernelIdeal.τ).loc Cert.FdnKernelIdeal.main_arg0) = m ((c.tc : Thread Cert.FdnKernelIdeal.nD Cert.FdnKernelIdeal.τ).loc Cert.FdnKernelIdeal.main_arg0)
      ∧ r.2.mem ((c.tc : Thread Cert.FdnKernelIdeal.nD Cert.FdnKernelIdeal.τ).loc Cert.FdnKernelIdeal.main_arg1) = m ((c.tc : Thread Cert.FdnKernelIdeal.nD Cert.FdnKernelIdeal.τ).loc Cert.FdnKernelIdeal.main_arg1)
      ∧ r.2.mem ((c.tc : Thread Cert.FdnKernelIdeal.nD Cert.FdnKernelIdeal.τ).loc Cert.FdnKernelIdeal.main_arg2) = m ((c.tc : Thread Cert.FdnKernelIdeal.nD Cert.FdnKernelIdeal.τ).loc Cert.FdnKernelIdeal.main_arg2)
      ∧ r.2.mem ((c.tc : Thread Cert.FdnKernelIdeal.nD Cert.FdnKernelIdeal.τ).loc Cert.FdnKernelIdeal.main_arg3) = m ((c.tc : Thread Cert.FdnKernelIdeal.nD Cert.FdnKernelIdeal.τ).loc Cert.FdnKernelIdeal.main_arg3)
      ∧ r.2.mem ((c.tc : Thread Cert.FdnKernelIdeal.nD Cert.FdnKernelIdeal.τ).loc Cert.FdnKernelIdeal.main_arg4) = m ((c.tc : Thread Cert.FdnKernelIdeal.nD Cert.FdnKernelIdeal.τ).loc Cert.FdnKernelIdeal.main_arg4)
      ∧ r.2.mem ((c.tc : Thread Cert.FdnKernelIdeal.nD Cert.FdnKernelIdeal.τ).loc Cert.FdnKernelIdeal.main_arg5) = m ((c.tc : Thread Cert.FdnKernelIdeal.nD Cert.FdnKernelIdeal.τ).loc Cert.FdnKernelIdeal.main_arg5)
      ∧ r.2.mem ((c.tc : Thread Cert.FdnKernelIdeal.nD Cert.FdnKernelIdeal.τ).loc Cert.FdnKernelIdeal.main_arg6) = m ((c.tc : Thread Cert.FdnKernelIdeal.nD Cert.FdnKernelIdeal.τ).loc Cert.FdnKernelIdeal.main_arg6)
      ∧ r.2.mem ((c.tc : Thread Cert.FdnKernelIdeal.nD Cert.FdnKernelIdeal.τ).loc Cert.FdnKernelIdeal.main_arg7) = m ((c.tc : Thread Cert.FdnKernelIdeal.nD Cert.FdnKernelIdeal.τ).loc Cert.FdnKernelIdeal.main_arg7)
      ∧ r.2.mem ((c.tc : Thread Cert.FdnKernelIdeal.nD Cert.FdnKernelIdeal.τ).loc Cert.FdnKernelIdeal.main_arg8) = m ((c.tc : Thread Cert.FdnKernelIdeal.nD Cert.FdnKernelIdeal.τ).loc Cert.FdnKernelIdeal.main_arg8)
      ∧ r.2.mem ((c.tc : Thread Cert.FdnKernelIdeal.nD Cert.FdnKernelIdeal.τ).loc Cert.FdnKernelIdeal.main_arg9) = m ((c.tc : Thread Cert.FdnKernelIdeal.nD Cert.FdnKernelIdeal.τ).loc Cert.FdnKernelIdeal.main_arg9))
      ∧ r.2.sem = fun _ => 0)

def quiescent_FdnReferenceIdeal [hFdnReferenceIdeal : Cert.FdnReferenceIdeal.Facts] : Prop :=
  ∀ (m : (ℓ : Loc Cert.FdnReferenceIdeal.nD Cert.FdnReferenceIdeal.τ Cert.FdnReferenceIdeal.sig) → Buf (Elt Ideal) ℓ) (g : Dev Cert.FdnReferenceIdeal.nD → PrngReg), Pre_FdnReferenceIdeal m →
    θ_run (Cert.FdnReferenceIdeal.defs (F := Ideal)) (onTc (τ := Cert.FdnReferenceIdeal.τ) (Cert.FdnReferenceIdeal.main (F := Ideal))) ⟨m, fun _ => 0, g⟩ (fun r => (∀ c : Dev Cert.FdnReferenceIdeal.nD,
      r.2.mem ((c.tc : Thread Cert.FdnReferenceIdeal.nD Cert.FdnReferenceIdeal.τ).loc Cert.FdnReferenceIdeal.main_arg0) = m ((c.tc : Thread Cert.FdnReferenceIdeal.nD Cert.FdnReferenceIdeal.τ).loc Cert.FdnReferenceIdeal.main_arg0)
      ∧ r.2.mem ((c.tc : Thread Cert.FdnReferenceIdeal.nD Cert.FdnReferenceIdeal.τ).loc Cert.FdnReferenceIdeal.main_arg1) = m ((c.tc : Thread Cert.FdnReferenceIdeal.nD Cert.FdnReferenceIdeal.τ).loc Cert.FdnReferenceIdeal.main_arg1)
      ∧ r.2.mem ((c.tc : Thread Cert.FdnReferenceIdeal.nD Cert.FdnReferenceIdeal.τ).loc Cert.FdnReferenceIdeal.main_arg2) = m ((c.tc : Thread Cert.FdnReferenceIdeal.nD Cert.FdnReferenceIdeal.τ).loc Cert.FdnReferenceIdeal.main_arg2)
      ∧ r.2.mem ((c.tc : Thread Cert.FdnReferenceIdeal.nD Cert.FdnReferenceIdeal.τ).loc Cert.FdnReferenceIdeal.main_arg3) = m ((c.tc : Thread Cert.FdnReferenceIdeal.nD Cert.FdnReferenceIdeal.τ).loc Cert.FdnReferenceIdeal.main_arg3)
      ∧ r.2.mem ((c.tc : Thread Cert.FdnReferenceIdeal.nD Cert.FdnReferenceIdeal.τ).loc Cert.FdnReferenceIdeal.main_arg4) = m ((c.tc : Thread Cert.FdnReferenceIdeal.nD Cert.FdnReferenceIdeal.τ).loc Cert.FdnReferenceIdeal.main_arg4)
      ∧ r.2.mem ((c.tc : Thread Cert.FdnReferenceIdeal.nD Cert.FdnReferenceIdeal.τ).loc Cert.FdnReferenceIdeal.main_arg5) = m ((c.tc : Thread Cert.FdnReferenceIdeal.nD Cert.FdnReferenceIdeal.τ).loc Cert.FdnReferenceIdeal.main_arg5)
      ∧ r.2.mem ((c.tc : Thread Cert.FdnReferenceIdeal.nD Cert.FdnReferenceIdeal.τ).loc Cert.FdnReferenceIdeal.main_arg6) = m ((c.tc : Thread Cert.FdnReferenceIdeal.nD Cert.FdnReferenceIdeal.τ).loc Cert.FdnReferenceIdeal.main_arg6)
      ∧ r.2.mem ((c.tc : Thread Cert.FdnReferenceIdeal.nD Cert.FdnReferenceIdeal.τ).loc Cert.FdnReferenceIdeal.main_arg7) = m ((c.tc : Thread Cert.FdnReferenceIdeal.nD Cert.FdnReferenceIdeal.τ).loc Cert.FdnReferenceIdeal.main_arg7)
      ∧ r.2.mem ((c.tc : Thread Cert.FdnReferenceIdeal.nD Cert.FdnReferenceIdeal.τ).loc Cert.FdnReferenceIdeal.main_arg8) = m ((c.tc : Thread Cert.FdnReferenceIdeal.nD Cert.FdnReferenceIdeal.τ).loc Cert.FdnReferenceIdeal.main_arg8)
      ∧ r.2.mem ((c.tc : Thread Cert.FdnReferenceIdeal.nD Cert.FdnReferenceIdeal.τ).loc Cert.FdnReferenceIdeal.main_arg9) = m ((c.tc : Thread Cert.FdnReferenceIdeal.nD Cert.FdnReferenceIdeal.τ).loc Cert.FdnReferenceIdeal.main_arg9))
      ∧ r.2.sem = fun _ => 0)

def quiescent_FdnReferenceIdeal_pre_device_ff_down [hFdnReferenceIdeal : Cert.FdnReferenceIdeal.Facts] [hPre_device_ff_down : Cert.Pre_device_ff_down.Facts] : Prop :=
  ∀ (m : (ℓ : Loc Cert.FdnReferenceIdeal.nD Cert.FdnReferenceIdeal.τ Cert.FdnReferenceIdeal.sig) → Buf (Elt Ideal) ℓ) (g : Dev Cert.FdnReferenceIdeal.nD → PrngReg), Pre_FdnReferenceIdeal_device_ff_down m →
    θ_run (Cert.FdnReferenceIdeal.defs (F := Ideal)) (onTc (τ := Cert.FdnReferenceIdeal.τ) (Cert.FdnReferenceIdeal.main (F := Ideal))) ⟨m, fun _ => 0, g⟩ (fun r => (∀ c : Dev Cert.FdnReferenceIdeal.nD,
      r.2.mem ((c.tc : Thread Cert.FdnReferenceIdeal.nD Cert.FdnReferenceIdeal.τ).loc Cert.FdnReferenceIdeal.main_arg0) = m ((c.tc : Thread Cert.FdnReferenceIdeal.nD Cert.FdnReferenceIdeal.τ).loc Cert.FdnReferenceIdeal.main_arg0)
      ∧ r.2.mem ((c.tc : Thread Cert.FdnReferenceIdeal.nD Cert.FdnReferenceIdeal.τ).loc Cert.FdnReferenceIdeal.main_arg1) = m ((c.tc : Thread Cert.FdnReferenceIdeal.nD Cert.FdnReferenceIdeal.τ).loc Cert.FdnReferenceIdeal.main_arg1)
      ∧ r.2.mem ((c.tc : Thread Cert.FdnReferenceIdeal.nD Cert.FdnReferenceIdeal.τ).loc Cert.FdnReferenceIdeal.main_arg2) = m ((c.tc : Thread Cert.FdnReferenceIdeal.nD Cert.FdnReferenceIdeal.τ).loc Cert.FdnReferenceIdeal.main_arg2)
      ∧ r.2.mem ((c.tc : Thread Cert.FdnReferenceIdeal.nD Cert.FdnReferenceIdeal.τ).loc Cert.FdnReferenceIdeal.main_arg3) = m ((c.tc : Thread Cert.FdnReferenceIdeal.nD Cert.FdnReferenceIdeal.τ).loc Cert.FdnReferenceIdeal.main_arg3)
      ∧ r.2.mem ((c.tc : Thread Cert.FdnReferenceIdeal.nD Cert.FdnReferenceIdeal.τ).loc Cert.FdnReferenceIdeal.main_arg4) = m ((c.tc : Thread Cert.FdnReferenceIdeal.nD Cert.FdnReferenceIdeal.τ).loc Cert.FdnReferenceIdeal.main_arg4)
      ∧ r.2.mem ((c.tc : Thread Cert.FdnReferenceIdeal.nD Cert.FdnReferenceIdeal.τ).loc Cert.FdnReferenceIdeal.main_arg5) = m ((c.tc : Thread Cert.FdnReferenceIdeal.nD Cert.FdnReferenceIdeal.τ).loc Cert.FdnReferenceIdeal.main_arg5)
      ∧ r.2.mem ((c.tc : Thread Cert.FdnReferenceIdeal.nD Cert.FdnReferenceIdeal.τ).loc Cert.FdnReferenceIdeal.main_arg6) = m ((c.tc : Thread Cert.FdnReferenceIdeal.nD Cert.FdnReferenceIdeal.τ).loc Cert.FdnReferenceIdeal.main_arg6)
      ∧ r.2.mem ((c.tc : Thread Cert.FdnReferenceIdeal.nD Cert.FdnReferenceIdeal.τ).loc Cert.FdnReferenceIdeal.main_arg7) = m ((c.tc : Thread Cert.FdnReferenceIdeal.nD Cert.FdnReferenceIdeal.τ).loc Cert.FdnReferenceIdeal.main_arg7)
      ∧ r.2.mem ((c.tc : Thread Cert.FdnReferenceIdeal.nD Cert.FdnReferenceIdeal.τ).loc Cert.FdnReferenceIdeal.main_arg8) = m ((c.tc : Thread Cert.FdnReferenceIdeal.nD Cert.FdnReferenceIdeal.τ).loc Cert.FdnReferenceIdeal.main_arg8)
      ∧ r.2.mem ((c.tc : Thread Cert.FdnReferenceIdeal.nD Cert.FdnReferenceIdeal.τ).loc Cert.FdnReferenceIdeal.main_arg9) = m ((c.tc : Thread Cert.FdnReferenceIdeal.nD Cert.FdnReferenceIdeal.τ).loc Cert.FdnReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v142) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DownWKernel_DownWKernelIdeal : Prop :=
  True

def algebraic_DownWKernelIdeal_DownWReferenceIdeal [hDownWKernelIdeal : Cert.DownWKernelIdeal.Facts] [hDownWReferenceIdeal : Cert.DownWReferenceIdeal.Facts] : Prop :=
  ∀ (m : (ℓ : Loc Cert.DownWKernelIdeal.nD Cert.DownWKernelIdeal.τ Cert.DownWKernelIdeal.sig) → Buf (Elt Ideal) ℓ) (g : Dev Cert.DownWKernelIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWKernelIdeal m →
    (∀ c : Dev Cert.DownWKernelIdeal.nD,
      m' ((c.tc : Thread Cert.DownWReferenceIdeal.nD Cert.DownWReferenceIdeal.τ).loc Cert.DownWReferenceIdeal.main_arg0) = m ((c.tc : Thread Cert.DownWKernelIdeal.nD Cert.DownWKernelIdeal.τ).loc Cert.DownWKernelIdeal.main_arg0)
      ∧ m' ((c.tc : Thread Cert.DownWReferenceIdeal.nD Cert.DownWReferenceIdeal.τ).loc Cert.DownWReferenceIdeal.main_arg1) = m ((c.tc : Thread Cert.DownWKernelIdeal.nD Cert.DownWKernelIdeal.τ).loc Cert.DownWKernelIdeal.main_arg1)) →
    ∃ (v0 : (c : Dev Cert.DownWKernelIdeal.nD) → Buf (Elt Ideal) ((c.tc : Thread Cert.DownWKernelIdeal.nD Cert.DownWKernelIdeal.τ).loc Cert.DownWKernelIdeal.main_v0)),
      θ_run (Cert.DownWKernelIdeal.defs (F := Ideal)) (onTc (τ := Cert.DownWKernelIdeal.τ) (Cert.DownWKernelIdeal.main (F := Ideal))) ⟨m, fun _ => 0, g⟩ (fun r => ∀ c : Dev Cert.DownWKernelIdeal.nD,
          r.2.mem ((c.tc : Thread Cert.DownWKernelIdeal.nD Cert.DownWKernelIdeal.τ).loc Cert.DownWKernelIdeal.main_v0) = v0 c
          ∧ r.2.mem ((c.tc : Thread Cert.DownWKernelIdeal.nD Cert.DownWKernelIdeal.τ).loc Cert.DownWKernelIdeal.main_arg0) = m ((c.tc : Thread Cert.DownWKernelIdeal.nD Cert.DownWKernelIdeal.τ).loc Cert.DownWKernelIdeal.main_arg0)
          ∧ r.2.mem ((c.tc : Thread Cert.DownWKernelIdeal.nD Cert.DownWKernelIdeal.τ).loc Cert.DownWKernelIdeal.main_arg1) = m ((c.tc : Thread Cert.DownWKernelIdeal.nD Cert.DownWKernelIdeal.τ).loc Cert.DownWKernelIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v7) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_DownXKernel_DownXKernelIdeal : Prop :=
  True

def algebraic_DownXKernelIdeal_DownXReferenceIdeal [hDownXKernelIdeal : Cert.DownXKernelIdeal.Facts] [hDownXReferenceIdeal : Cert.DownXReferenceIdeal.Facts] : Prop :=
  ∀ (m : (ℓ : Loc Cert.DownXKernelIdeal.nD Cert.DownXKernelIdeal.τ Cert.DownXKernelIdeal.sig) → Buf (Elt Ideal) ℓ) (g : Dev Cert.DownXKernelIdeal.nD → PrngReg)
    (m' : (ℓ : Loc Cert.DownXReferenceIdeal.nD Cert.DownXReferenceIdeal.τ Cert.DownXReferenceIdeal.sig) → Buf (Elt Ideal) ℓ) (g' : Dev Cert.DownXReferenceIdeal.nD → PrngReg), Pre_DownXKernelIdeal m →
    (∀ c : Dev Cert.DownXKernelIdeal.nD,
      m' ((c.tc : Thread Cert.DownXReferenceIdeal.nD Cert.DownXReferenceIdeal.τ).loc Cert.DownXReferenceIdeal.main_arg0) = m ((c.tc : Thread Cert.DownXKernelIdeal.nD Cert.DownXKernelIdeal.τ).loc Cert.DownXKernelIdeal.main_arg0)
      ∧ m' ((c.tc : Thread Cert.DownXReferenceIdeal.nD Cert.DownXReferenceIdeal.τ).loc Cert.DownXReferenceIdeal.main_arg1) = m ((c.tc : Thread Cert.DownXKernelIdeal.nD Cert.DownXKernelIdeal.τ).loc Cert.DownXKernelIdeal.main_arg1)) →
    ∃ (v0 : (c : Dev Cert.DownXKernelIdeal.nD) → Buf (Elt Ideal) ((c.tc : Thread Cert.DownXKernelIdeal.nD Cert.DownXKernelIdeal.τ).loc Cert.DownXKernelIdeal.main_v0)),
      θ_run (Cert.DownXKernelIdeal.defs (F := Ideal)) (onTc (τ := Cert.DownXKernelIdeal.τ) (Cert.DownXKernelIdeal.main (F := Ideal))) ⟨m, fun _ => 0, g⟩ (fun r => ∀ c : Dev Cert.DownXKernelIdeal.nD,
          r.2.mem ((c.tc : Thread Cert.DownXKernelIdeal.nD Cert.DownXKernelIdeal.τ).loc Cert.DownXKernelIdeal.main_v0) = v0 c
          ∧ r.2.mem ((c.tc : Thread Cert.DownXKernelIdeal.nD Cert.DownXKernelIdeal.τ).loc Cert.DownXKernelIdeal.main_arg0) = m ((c.tc : Thread Cert.DownXKernelIdeal.nD Cert.DownXKernelIdeal.τ).loc Cert.DownXKernelIdeal.main_arg0)
          ∧ r.2.mem ((c.tc : Thread Cert.DownXKernelIdeal.nD Cert.DownXKernelIdeal.τ).loc Cert.DownXKernelIdeal.main_arg1) = m ((c.tc : Thread Cert.DownXKernelIdeal.nD Cert.DownXKernelIdeal.τ).loc Cert.DownXKernelIdeal.main_arg1))
      ∧ θ_run (Cert.DownXReferenceIdeal.defs (F := Ideal)) (onTc (τ := Cert.DownXReferenceIdeal.τ) (Cert.DownXReferenceIdeal.main (F := Ideal))) ⟨m', fun _ => 0, g'⟩ (fun r => ∀ c : Dev Cert.DownXReferenceIdeal.nD,
          r.2.mem ((c.tc : Thread Cert.DownXReferenceIdeal.nD Cert.DownXReferenceIdeal.τ).loc Cert.DownXReferenceIdeal.main_v6) = v0 c
          ∧ r.2.mem ((c.tc : Thread Cert.DownXReferenceIdeal.nD Cert.DownXReferenceIdeal.τ).loc Cert.DownXReferenceIdeal.main_arg0) = m' ((c.tc : Thread Cert.DownXReferenceIdeal.nD Cert.DownXReferenceIdeal.τ).loc Cert.DownXReferenceIdeal.main_arg0)
          ∧ r.2.mem ((c.tc : Thread Cert.DownXReferenceIdeal.nD Cert.DownXReferenceIdeal.τ).loc Cert.DownXReferenceIdeal.main_arg1) = m' ((c.tc : Thread Cert.DownXReferenceIdeal.nD Cert.DownXReferenceIdeal.τ).loc Cert.DownXReferenceIdeal.main_arg1))

def preserves_OutWKernel_OutWKernelIdeal : Prop :=
  True

def algebraic_OutWKernelIdeal_OutWReferenceIdeal [hOutWKernelIdeal : Cert.OutWKernelIdeal.Facts] [hOutWReferenceIdeal : Cert.OutWReferenceIdeal.Facts] : Prop :=
  ∀ (m : (ℓ : Loc Cert.OutWKernelIdeal.nD Cert.OutWKernelIdeal.τ Cert.OutWKernelIdeal.sig) → Buf (Elt Ideal) ℓ) (g : Dev Cert.OutWKernelIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWKernelIdeal m →
    (∀ c : Dev Cert.OutWKernelIdeal.nD,
      m' ((c.tc : Thread Cert.OutWReferenceIdeal.nD Cert.OutWReferenceIdeal.τ).loc Cert.OutWReferenceIdeal.main_arg0) = m ((c.tc : Thread Cert.OutWKernelIdeal.nD Cert.OutWKernelIdeal.τ).loc Cert.OutWKernelIdeal.main_arg0)
      ∧ m' ((c.tc : Thread Cert.OutWReferenceIdeal.nD Cert.OutWReferenceIdeal.τ).loc Cert.OutWReferenceIdeal.main_arg1) = m ((c.tc : Thread Cert.OutWKernelIdeal.nD Cert.OutWKernelIdeal.τ).loc Cert.OutWKernelIdeal.main_arg1)) →
    ∃ (v0 : (c : Dev Cert.OutWKernelIdeal.nD) → Buf (Elt Ideal) ((c.tc : Thread Cert.OutWKernelIdeal.nD Cert.OutWKernelIdeal.τ).loc Cert.OutWKernelIdeal.main_v0)),
      θ_run (Cert.OutWKernelIdeal.defs (F := Ideal)) (onTc (τ := Cert.OutWKernelIdeal.τ) (Cert.OutWKernelIdeal.main (F := Ideal))) ⟨m, fun _ => 0, g⟩ (fun r => ∀ c : Dev Cert.OutWKernelIdeal.nD,
          r.2.mem ((c.tc : Thread Cert.OutWKernelIdeal.nD Cert.OutWKernelIdeal.τ).loc Cert.OutWKernelIdeal.main_v0) = v0 c
          ∧ r.2.mem ((c.tc : Thread Cert.OutWKernelIdeal.nD Cert.OutWKernelIdeal.τ).loc Cert.OutWKernelIdeal.main_arg0) = m ((c.tc : Thread Cert.OutWKernelIdeal.nD Cert.OutWKernelIdeal.τ).loc Cert.OutWKernelIdeal.main_arg0)
          ∧ r.2.mem ((c.tc : Thread Cert.OutWKernelIdeal.nD Cert.OutWKernelIdeal.τ).loc Cert.OutWKernelIdeal.main_arg1) = m ((c.tc : Thread Cert.OutWKernelIdeal.nD Cert.OutWKernelIdeal.τ).loc Cert.OutWKernelIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v7) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_OutXKernel_OutXKernelIdeal : Prop :=
  True

def algebraic_OutXKernelIdeal_OutXReferenceIdeal [hOutXKernelIdeal : Cert.OutXKernelIdeal.Facts] [hOutXReferenceIdeal : Cert.OutXReferenceIdeal.Facts] : Prop :=
  ∀ (m : (ℓ : Loc Cert.OutXKernelIdeal.nD Cert.OutXKernelIdeal.τ Cert.OutXKernelIdeal.sig) → Buf (Elt Ideal) ℓ) (g : Dev Cert.OutXKernelIdeal.nD → PrngReg)
    (m' : (ℓ : Loc Cert.OutXReferenceIdeal.nD Cert.OutXReferenceIdeal.τ Cert.OutXReferenceIdeal.sig) → Buf (Elt Ideal) ℓ) (g' : Dev Cert.OutXReferenceIdeal.nD → PrngReg), Pre_OutXKernelIdeal m →
    (∀ c : Dev Cert.OutXKernelIdeal.nD,
      m' ((c.tc : Thread Cert.OutXReferenceIdeal.nD Cert.OutXReferenceIdeal.τ).loc Cert.OutXReferenceIdeal.main_arg0) = m ((c.tc : Thread Cert.OutXKernelIdeal.nD Cert.OutXKernelIdeal.τ).loc Cert.OutXKernelIdeal.main_arg0)
      ∧ m' ((c.tc : Thread Cert.OutXReferenceIdeal.nD Cert.OutXReferenceIdeal.τ).loc Cert.OutXReferenceIdeal.main_arg1) = m ((c.tc : Thread Cert.OutXKernelIdeal.nD Cert.OutXKernelIdeal.τ).loc Cert.OutXKernelIdeal.main_arg1)
      ∧ m' ((c.tc : Thread Cert.OutXReferenceIdeal.nD Cert.OutXReferenceIdeal.τ).loc Cert.OutXReferenceIdeal.main_arg2) = m ((c.tc : Thread Cert.OutXKernelIdeal.nD Cert.OutXKernelIdeal.τ).loc Cert.OutXKernelIdeal.main_arg2)) →
    ∃ (v0 : (c : Dev Cert.OutXKernelIdeal.nD) → Buf (Elt Ideal) ((c.tc : Thread Cert.OutXKernelIdeal.nD Cert.OutXKernelIdeal.τ).loc Cert.OutXKernelIdeal.main_v0)),
      θ_run (Cert.OutXKernelIdeal.defs (F := Ideal)) (onTc (τ := Cert.OutXKernelIdeal.τ) (Cert.OutXKernelIdeal.main (F := Ideal))) ⟨m, fun _ => 0, g⟩ (fun r => ∀ c : Dev Cert.OutXKernelIdeal.nD,
          r.2.mem ((c.tc : Thread Cert.OutXKernelIdeal.nD Cert.OutXKernelIdeal.τ).loc Cert.OutXKernelIdeal.main_v0) = v0 c
          ∧ r.2.mem ((c.tc : Thread Cert.OutXKernelIdeal.nD Cert.OutXKernelIdeal.τ).loc Cert.OutXKernelIdeal.main_arg0) = m ((c.tc : Thread Cert.OutXKernelIdeal.nD Cert.OutXKernelIdeal.τ).loc Cert.OutXKernelIdeal.main_arg0)
          ∧ r.2.mem ((c.tc : Thread Cert.OutXKernelIdeal.nD Cert.OutXKernelIdeal.τ).loc Cert.OutXKernelIdeal.main_arg1) = m ((c.tc : Thread Cert.OutXKernelIdeal.nD Cert.OutXKernelIdeal.τ).loc Cert.OutXKernelIdeal.main_arg1)
          ∧ r.2.mem ((c.tc : Thread Cert.OutXKernelIdeal.nD Cert.OutXKernelIdeal.τ).loc Cert.OutXKernelIdeal.main_arg2) = m ((c.tc : Thread Cert.OutXKernelIdeal.nD Cert.OutXKernelIdeal.τ).loc Cert.OutXKernelIdeal.main_arg2))
      ∧ θ_run (Cert.OutXReferenceIdeal.defs (F := Ideal)) (onTc (τ := Cert.OutXReferenceIdeal.τ) (Cert.OutXReferenceIdeal.main (F := Ideal))) ⟨m', fun _ => 0, g'⟩ (fun r => ∀ c : Dev Cert.OutXReferenceIdeal.nD,
          r.2.mem ((c.tc : Thread Cert.OutXReferenceIdeal.nD Cert.OutXReferenceIdeal.τ).loc Cert.OutXReferenceIdeal.main_v4) = v0 c
          ∧ r.2.mem ((c.tc : Thread Cert.OutXReferenceIdeal.nD Cert.OutXReferenceIdeal.τ).loc Cert.OutXReferenceIdeal.main_arg0) = m' ((c.tc : Thread Cert.OutXReferenceIdeal.nD Cert.OutXReferenceIdeal.τ).loc Cert.OutXReferenceIdeal.main_arg0)
          ∧ r.2.mem ((c.tc : Thread Cert.OutXReferenceIdeal.nD Cert.OutXReferenceIdeal.τ).loc Cert.OutXReferenceIdeal.main_arg1) = m' ((c.tc : Thread Cert.OutXReferenceIdeal.nD Cert.OutXReferenceIdeal.τ).loc Cert.OutXReferenceIdeal.main_arg1)
          ∧ r.2.mem ((c.tc : Thread Cert.OutXReferenceIdeal.nD Cert.OutXReferenceIdeal.τ).loc Cert.OutXReferenceIdeal.main_arg2) = m' ((c.tc : Thread Cert.OutXReferenceIdeal.nD Cert.OutXReferenceIdeal.τ).loc Cert.OutXReferenceIdeal.main_arg2))

def preserves_UpWKernel_UpWKernelIdeal : Prop :=
  True

def algebraic_UpWKernelIdeal_UpWReferenceIdeal [hUpWKernelIdeal : Cert.UpWKernelIdeal.Facts] [hUpWReferenceIdeal : Cert.UpWReferenceIdeal.Facts] : Prop :=
  ∀ (m : (ℓ : Loc Cert.UpWKernelIdeal.nD Cert.UpWKernelIdeal.τ Cert.UpWKernelIdeal.sig) → Buf (Elt Ideal) ℓ) (g : Dev Cert.UpWKernelIdeal.nD → PrngReg)
    (m' : (ℓ : Loc Cert.UpWReferenceIdeal.nD Cert.UpWReferenceIdeal.τ Cert.UpWReferenceIdeal.sig) → Buf (Elt Ideal) ℓ) (g' : Dev Cert.UpWReferenceIdeal.nD → PrngReg), Pre_UpWKernelIdeal m →
    (∀ c : Dev Cert.UpWKernelIdeal.nD,
      m' ((c.tc : Thread Cert.UpWReferenceIdeal.nD Cert.UpWReferenceIdeal.τ).loc Cert.UpWReferenceIdeal.main_arg0) = m ((c.tc : Thread Cert.UpWKernelIdeal.nD Cert.UpWKernelIdeal.τ).loc Cert.UpWKernelIdeal.main_arg0)
      ∧ m' ((c.tc : Thread Cert.UpWReferenceIdeal.nD Cert.UpWReferenceIdeal.τ).loc Cert.UpWReferenceIdeal.main_arg1) = m ((c.tc : Thread Cert.UpWKernelIdeal.nD Cert.UpWKernelIdeal.τ).loc Cert.UpWKernelIdeal.main_arg1)
      ∧ m' ((c.tc : Thread Cert.UpWReferenceIdeal.nD Cert.UpWReferenceIdeal.τ).loc Cert.UpWReferenceIdeal.main_arg2) = m ((c.tc : Thread Cert.UpWKernelIdeal.nD Cert.UpWKernelIdeal.τ).loc Cert.UpWKernelIdeal.main_arg2)) →
    ∃ (v0 : (c : Dev Cert.UpWKernelIdeal.nD) → Buf (Elt Ideal) ((c.tc : Thread Cert.UpWKernelIdeal.nD Cert.UpWKernelIdeal.τ).loc Cert.UpWKernelIdeal.main_v0)),
      θ_run (Cert.UpWKernelIdeal.defs (F := Ideal)) (onTc (τ := Cert.UpWKernelIdeal.τ) (Cert.UpWKernelIdeal.main (F := Ideal))) ⟨m, fun _ => 0, g⟩ (fun r => ∀ c : Dev Cert.UpWKernelIdeal.nD,
          r.2.mem ((c.tc : Thread Cert.UpWKernelIdeal.nD Cert.UpWKernelIdeal.τ).loc Cert.UpWKernelIdeal.main_v0) = v0 c
          ∧ r.2.mem ((c.tc : Thread Cert.UpWKernelIdeal.nD Cert.UpWKernelIdeal.τ).loc Cert.UpWKernelIdeal.main_arg0) = m ((c.tc : Thread Cert.UpWKernelIdeal.nD Cert.UpWKernelIdeal.τ).loc Cert.UpWKernelIdeal.main_arg0)
          ∧ r.2.mem ((c.tc : Thread Cert.UpWKernelIdeal.nD Cert.UpWKernelIdeal.τ).loc Cert.UpWKernelIdeal.main_arg1) = m ((c.tc : Thread Cert.UpWKernelIdeal.nD Cert.UpWKernelIdeal.τ).loc Cert.UpWKernelIdeal.main_arg1)
          ∧ r.2.mem ((c.tc : Thread Cert.UpWKernelIdeal.nD Cert.UpWKernelIdeal.τ).loc Cert.UpWKernelIdeal.main_arg2) = m ((c.tc : Thread Cert.UpWKernelIdeal.nD Cert.UpWKernelIdeal.τ).loc Cert.UpWKernelIdeal.main_arg2))
      ∧ θ_run (Cert.UpWReferenceIdeal.defs (F := Ideal)) (onTc (τ := Cert.UpWReferenceIdeal.τ) (Cert.UpWReferenceIdeal.main (F := Ideal))) ⟨m', fun _ => 0, g'⟩ (fun r => ∀ c : Dev Cert.UpWReferenceIdeal.nD,
          r.2.mem ((c.tc : Thread Cert.UpWReferenceIdeal.nD Cert.UpWReferenceIdeal.τ).loc Cert.UpWReferenceIdeal.main_v10) = v0 c
          ∧ r.2.mem ((c.tc : Thread Cert.UpWReferenceIdeal.nD Cert.UpWReferenceIdeal.τ).loc Cert.UpWReferenceIdeal.main_arg0) = m' ((c.tc : Thread Cert.UpWReferenceIdeal.nD Cert.UpWReferenceIdeal.τ).loc Cert.UpWReferenceIdeal.main_arg0)
          ∧ r.2.mem ((c.tc : Thread Cert.UpWReferenceIdeal.nD Cert.UpWReferenceIdeal.τ).loc Cert.UpWReferenceIdeal.main_arg1) = m' ((c.tc : Thread Cert.UpWReferenceIdeal.nD Cert.UpWReferenceIdeal.τ).loc Cert.UpWReferenceIdeal.main_arg1)
          ∧ r.2.mem ((c.tc : Thread Cert.UpWReferenceIdeal.nD Cert.UpWReferenceIdeal.τ).loc Cert.UpWReferenceIdeal.main_arg2) = m' ((c.tc : Thread Cert.UpWReferenceIdeal.nD Cert.UpWReferenceIdeal.τ).loc Cert.UpWReferenceIdeal.main_arg2))

def preserves_InWKernel_InWKernelIdeal : Prop :=
  True

def algebraic_InWKernelIdeal_InWReferenceIdeal [hInWKernelIdeal : Cert.InWKernelIdeal.Facts] [hInWReferenceIdeal : Cert.InWReferenceIdeal.Facts] : Prop :=
  ∀ (m : (ℓ : Loc Cert.InWKernelIdeal.nD Cert.InWKernelIdeal.τ Cert.InWKernelIdeal.sig) → Buf (Elt Ideal) ℓ) (g : Dev Cert.InWKernelIdeal.nD → PrngReg)
    (m' : (ℓ : Loc Cert.InWReferenceIdeal.nD Cert.InWReferenceIdeal.τ Cert.InWReferenceIdeal.sig) → Buf (Elt Ideal) ℓ) (g' : Dev Cert.InWReferenceIdeal.nD → PrngReg), Pre_InWKernelIdeal m →
    (∀ c : Dev Cert.InWKernelIdeal.nD,
      m' ((c.tc : Thread Cert.InWReferenceIdeal.nD Cert.InWReferenceIdeal.τ).loc Cert.InWReferenceIdeal.main_arg0) = m ((c.tc : Thread Cert.InWKernelIdeal.nD Cert.InWKernelIdeal.τ).loc Cert.InWKernelIdeal.main_arg0)
      ∧ m' ((c.tc : Thread Cert.InWReferenceIdeal.nD Cert.InWReferenceIdeal.τ).loc Cert.InWReferenceIdeal.main_arg1) = m ((c.tc : Thread Cert.InWKernelIdeal.nD Cert.InWKernelIdeal.τ).loc Cert.InWKernelIdeal.main_arg1)
      ∧ m' ((c.tc : Thread Cert.InWReferenceIdeal.nD Cert.InWReferenceIdeal.τ).loc Cert.InWReferenceIdeal.main_arg2) = m ((c.tc : Thread Cert.InWKernelIdeal.nD Cert.InWKernelIdeal.τ).loc Cert.InWKernelIdeal.main_arg2)) →
    ∃ (v0 : (c : Dev Cert.InWKernelIdeal.nD) → Buf (Elt Ideal) ((c.tc : Thread Cert.InWKernelIdeal.nD Cert.InWKernelIdeal.τ).loc Cert.InWKernelIdeal.main_v0)),
      θ_run (Cert.InWKernelIdeal.defs (F := Ideal)) (onTc (τ := Cert.InWKernelIdeal.τ) (Cert.InWKernelIdeal.main (F := Ideal))) ⟨m, fun _ => 0, g⟩ (fun r => ∀ c : Dev Cert.InWKernelIdeal.nD,
          r.2.mem ((c.tc : Thread Cert.InWKernelIdeal.nD Cert.InWKernelIdeal.τ).loc Cert.InWKernelIdeal.main_v0) = v0 c
          ∧ r.2.mem ((c.tc : Thread Cert.InWKernelIdeal.nD Cert.InWKernelIdeal.τ).loc Cert.InWKernelIdeal.main_arg0) = m ((c.tc : Thread Cert.InWKernelIdeal.nD Cert.InWKernelIdeal.τ).loc Cert.InWKernelIdeal.main_arg0)
          ∧ r.2.mem ((c.tc : Thread Cert.InWKernelIdeal.nD Cert.InWKernelIdeal.τ).loc Cert.InWKernelIdeal.main_arg1) = m ((c.tc : Thread Cert.InWKernelIdeal.nD Cert.InWKernelIdeal.τ).loc Cert.InWKernelIdeal.main_arg1)
          ∧ r.2.mem ((c.tc : Thread Cert.InWKernelIdeal.nD Cert.InWKernelIdeal.τ).loc Cert.InWKernelIdeal.main_arg2) = m ((c.tc : Thread Cert.InWKernelIdeal.nD Cert.InWKernelIdeal.τ).loc Cert.InWKernelIdeal.main_arg2))
      ∧ θ_run (Cert.InWReferenceIdeal.defs (F := Ideal)) (onTc (τ := Cert.InWReferenceIdeal.τ) (Cert.InWReferenceIdeal.main (F := Ideal))) ⟨m', fun _ => 0, g'⟩ (fun r => ∀ c : Dev Cert.InWReferenceIdeal.nD,
          r.2.mem ((c.tc : Thread Cert.InWReferenceIdeal.nD Cert.InWReferenceIdeal.τ).loc Cert.InWReferenceIdeal.main_v9) = v0 c
          ∧ r.2.mem ((c.tc : Thread Cert.InWReferenceIdeal.nD Cert.InWReferenceIdeal.τ).loc Cert.InWReferenceIdeal.main_arg0) = m' ((c.tc : Thread Cert.InWReferenceIdeal.nD Cert.InWReferenceIdeal.τ).loc Cert.InWReferenceIdeal.main_arg0)
          ∧ r.2.mem ((c.tc : Thread Cert.InWReferenceIdeal.nD Cert.InWReferenceIdeal.τ).loc Cert.InWReferenceIdeal.main_arg1) = m' ((c.tc : Thread Cert.InWReferenceIdeal.nD Cert.InWReferenceIdeal.τ).loc Cert.InWReferenceIdeal.main_arg1)
          ∧ r.2.mem ((c.tc : Thread Cert.InWReferenceIdeal.nD Cert.InWReferenceIdeal.τ).loc Cert.InWReferenceIdeal.main_arg2) = m' ((c.tc : Thread Cert.InWReferenceIdeal.nD Cert.InWReferenceIdeal.τ).loc Cert.InWReferenceIdeal.main_arg2))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v3) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_UpDxKernel_UpDxKernelIdeal : Prop :=
  True

def algebraic_UpDxKernelIdeal_UpDxReferenceIdeal_pre_finite [hUpDxKernelIdeal : Cert.UpDxKernelIdeal.Facts] [hUpDxReferenceIdeal : Cert.UpDxReferenceIdeal.Facts] [hPre_finite : Cert.Pre_finite.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal_finite m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)
      ∧ m' ((c.tc : Thread Cert.UpDxReferenceIdeal.nD Cert.UpDxReferenceIdeal.τ).loc Cert.UpDxReferenceIdeal.main_arg2) = m ((c.tc : Thread Cert.UpDxKernelIdeal.nD Cert.UpDxKernelIdeal.τ).loc Cert.UpDxKernelIdeal.main_arg2)
      ∧ m' ((c.tc : Thread Cert.UpDxReferenceIdeal.nD Cert.UpDxReferenceIdeal.τ).loc Cert.UpDxReferenceIdeal.main_arg3) = m ((c.tc : Thread Cert.UpDxKernelIdeal.nD Cert.UpDxKernelIdeal.τ).loc Cert.UpDxKernelIdeal.main_arg3)
      ∧ m' ((c.tc : Thread Cert.UpDxReferenceIdeal.nD Cert.UpDxReferenceIdeal.τ).loc Cert.UpDxReferenceIdeal.main_arg4) = m ((c.tc : Thread Cert.UpDxKernelIdeal.nD Cert.UpDxKernelIdeal.τ).loc Cert.UpDxKernelIdeal.main_arg4)
      ∧ m' ((c.tc : Thread Cert.UpDxReferenceIdeal.nD Cert.UpDxReferenceIdeal.τ).loc Cert.UpDxReferenceIdeal.main_arg5) = m ((c.tc : Thread Cert.UpDxKernelIdeal.nD Cert.UpDxKernelIdeal.τ).loc Cert.UpDxKernelIdeal.main_arg5)
      ∧ m' ((c.tc : Thread Cert.UpDxReferenceIdeal.nD Cert.UpDxReferenceIdeal.τ).loc Cert.UpDxReferenceIdeal.main_arg6) = m ((c.tc : Thread Cert.UpDxKernelIdeal.nD Cert.UpDxKernelIdeal.τ).loc Cert.UpDxKernelIdeal.main_arg6)
      ∧ m' ((c.tc : Thread Cert.UpDxReferenceIdeal.nD Cert.UpDxReferenceIdeal.τ).loc Cert.UpDxReferenceIdeal.main_arg7) = m ((c.tc : Thread Cert.UpDxKernelIdeal.nD Cert.UpDxKernelIdeal.τ).loc Cert.UpDxKernelIdeal.main_arg7)
      ∧ m' ((c.tc : Thread Cert.UpDxReferenceIdeal.nD Cert.UpDxReferenceIdeal.τ).loc Cert.UpDxReferenceIdeal.main_arg8) = m ((c.tc : Thread Cert.UpDxKernelIdeal.nD Cert.UpDxKernelIdeal.τ).loc Cert.UpDxKernelIdeal.main_arg8)
      ∧ m' ((c.tc : Thread Cert.UpDxReferenceIdeal.nD Cert.UpDxReferenceIdeal.τ).loc Cert.UpDxReferenceIdeal.main_arg9) = m ((c.tc : Thread Cert.UpDxKernelIdeal.nD Cert.UpDxKernelIdeal.τ).loc Cert.UpDxKernelIdeal.main_arg9)) →
    ∃ (v0 : (c : Dev Cert.UpDxKernelIdeal.nD) → Buf (Elt Ideal) ((c.tc : Thread Cert.UpDxKernelIdeal.nD Cert.UpDxKernelIdeal.τ).loc Cert.UpDxKernelIdeal.main_v0_0)) (v1 : (c : Dev Cert.UpDxKernelIdeal.nD) → Buf (Elt Ideal) ((c.tc : Thread Cert.UpDxKernelIdeal.nD Cert.UpDxKernelIdeal.τ).loc Cert.UpDxKernelIdeal.main_v0_1)) (v2 : (c : Dev Cert.UpDxKernelIdeal.nD) → Buf (Elt Ideal) ((c.tc : Thread Cert.UpDxKernelIdeal.nD Cert.UpDxKernelIdeal.τ).loc Cert.UpDxKernelIdeal.main_v0_2)) (v3 : (c : Dev Cert.UpDxKernelIdeal.nD) → Buf (Elt Ideal) ((c.tc : Thread Cert.UpDxKernelIdeal.nD Cert.UpDxKernelIdeal.τ).loc Cert.UpDxKernelIdeal.main_v0_3)) (v4 : (c : Dev Cert.UpDxKernelIdeal.nD) → Buf (Elt Ideal) ((c.tc : Thread Cert.UpDxKernelIdeal.nD Cert.UpDxKernelIdeal.τ).loc Cert.UpDxKernelIdeal.main_v0_4)) (v5 : (c : Dev Cert.UpDxKernelIdeal.nD) → Buf (Elt Ideal) ((c.tc : Thread Cert.UpDxKernelIdeal.nD Cert.UpDxKernelIdeal.τ).loc Cert.UpDxKernelIdeal.main_v0_5)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v0_0) = v0 c
          ∧ r.2.mem ((c.tc : Thread Cert.UpDxKernelIdeal.nD Cert.UpDxKernelIdeal.τ).loc Cert.UpDxKernelIdeal.main_v0_1) = v1 c
          ∧ r.2.mem ((c.tc : Thread Cert.UpDxKernelIdeal.nD Cert.UpDxKernelIdeal.τ).loc Cert.UpDxKernelIdeal.main_v0_2) = v2 c
          ∧ r.2.mem ((c.tc : Thread Cert.UpDxKernelIdeal.nD Cert.UpDxKernelIdeal.τ).loc Cert.UpDxKernelIdeal.main_v0_3) = v3 c
          ∧ r.2.mem ((c.tc : Thread Cert.UpDxKernelIdeal.nD Cert.UpDxKernelIdeal.τ).loc Cert.UpDxKernelIdeal.main_v0_4) = v4 c
          ∧ r.2.mem ((c.tc : Thread Cert.UpDxKernelIdeal.nD Cert.UpDxKernelIdeal.τ).loc Cert.UpDxKernelIdeal.main_v0_5) = v5 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
          ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
          ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3)
          ∧ r.2.mem ((c.tc : Thread Cert.UpDxKernelIdeal.nD Cert.UpDxKernelIdeal.τ).loc Cert.UpDxKernelIdeal.main_arg4) = m ((c.tc : Thread Cert.UpDxKernelIdeal.nD Cert.UpDxKernelIdeal.τ).loc Cert.UpDxKernelIdeal.main_arg4)
          ∧ r.2.mem ((c.tc : Thread Cert.UpDxKernelIdeal.nD Cert.UpDxKernelIdeal.τ).loc Cert.UpDxKernelIdeal.main_arg5) = m ((c.tc : Thread Cert.UpDxKernelIdeal.nD Cert.UpDxKernelIdeal.τ).loc Cert.UpDxKernelIdeal.main_arg5)
          ∧ r.2.mem ((c.tc : Thread Cert.UpDxKernelIdeal.nD Cert.UpDxKernelIdeal.τ).loc Cert.UpDxKernelIdeal.main_arg6) = m ((c.tc : Thread Cert.UpDxKernelIdeal.nD Cert.UpDxKernelIdeal.τ).loc Cert.UpDxKernelIdeal.main_arg6)
          ∧ r.2.mem ((c.tc : Thread Cert.UpDxKernelIdeal.nD Cert.UpDxKernelIdeal.τ).loc Cert.UpDxKernelIdeal.main_arg7) = m ((c.tc : Thread Cert.UpDxKernelIdeal.nD Cert.UpDxKernelIdeal.τ).loc Cert.UpDxKernelIdeal.main_arg7)
          ∧ r.2.mem ((c.tc : Thread Cert.UpDxKernelIdeal.nD Cert.UpDxKernelIdeal.τ).loc Cert.UpDxKernelIdeal.main_arg8) = m ((c.tc : Thread Cert.UpDxKernelIdeal.nD Cert.UpDxKernelIdeal.τ).loc Cert.UpDxKernelIdeal.main_arg8)
          ∧ r.2.mem ((c.tc : Thread Cert.UpDxKernelIdeal.nD Cert.UpDxKernelIdeal.τ).loc Cert.UpDxKernelIdeal.main_arg9) = m ((c.tc : Thread Cert.UpDxKernelIdeal.nD Cert.UpDxKernelIdeal.τ).loc Cert.UpDxKernelIdeal.main_arg9))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v73) = v0 c
          ∧ r.2.mem ((c.tc : Thread Cert.UpDxReferenceIdeal.nD Cert.UpDxReferenceIdeal.τ).loc Cert.UpDxReferenceIdeal.main_v75) = v1 c
          ∧ r.2.mem ((c.tc : Thread Cert.UpDxReferenceIdeal.nD Cert.UpDxReferenceIdeal.τ).loc Cert.UpDxReferenceIdeal.main_v72) = v2 c
          ∧ r.2.mem ((c.tc : Thread Cert.UpDxReferenceIdeal.nD Cert.UpDxReferenceIdeal.τ).loc Cert.UpDxReferenceIdeal.main_v76) = v3 c
          ∧ r.2.mem ((c.tc : Thread Cert.UpDxReferenceIdeal.nD Cert.UpDxReferenceIdeal.τ).loc Cert.UpDxReferenceIdeal.main_v38) = v4 c
          ∧ r.2.mem ((c.tc : Thread Cert.UpDxReferenceIdeal.nD Cert.UpDxReferenceIdeal.τ).loc Cert.UpDxReferenceIdeal.main_v35) = v5 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3)
          ∧ r.2.mem ((c.tc : Thread Cert.UpDxReferenceIdeal.nD Cert.UpDxReferenceIdeal.τ).loc Cert.UpDxReferenceIdeal.main_arg4) = m' ((c.tc : Thread Cert.UpDxReferenceIdeal.nD Cert.UpDxReferenceIdeal.τ).loc Cert.UpDxReferenceIdeal.main_arg4)
          ∧ r.2.mem ((c.tc : Thread Cert.UpDxReferenceIdeal.nD Cert.UpDxReferenceIdeal.τ).loc Cert.UpDxReferenceIdeal.main_arg5) = m' ((c.tc : Thread Cert.UpDxReferenceIdeal.nD Cert.UpDxReferenceIdeal.τ).loc Cert.UpDxReferenceIdeal.main_arg5)
          ∧ r.2.mem ((c.tc : Thread Cert.UpDxReferenceIdeal.nD Cert.UpDxReferenceIdeal.τ).loc Cert.UpDxReferenceIdeal.main_arg6) = m' ((c.tc : Thread Cert.UpDxReferenceIdeal.nD Cert.UpDxReferenceIdeal.τ).loc Cert.UpDxReferenceIdeal.main_arg6)
          ∧ r.2.mem ((c.tc : Thread Cert.UpDxReferenceIdeal.nD Cert.UpDxReferenceIdeal.τ).loc Cert.UpDxReferenceIdeal.main_arg7) = m' ((c.tc : Thread Cert.UpDxReferenceIdeal.nD Cert.UpDxReferenceIdeal.τ).loc Cert.UpDxReferenceIdeal.main_arg7)
          ∧ r.2.mem ((c.tc : Thread Cert.UpDxReferenceIdeal.nD Cert.UpDxReferenceIdeal.τ).loc Cert.UpDxReferenceIdeal.main_arg8) = m' ((c.tc : Thread Cert.UpDxReferenceIdeal.nD Cert.UpDxReferenceIdeal.τ).loc Cert.UpDxReferenceIdeal.main_arg8)
          ∧ r.2.mem ((c.tc : Thread Cert.UpDxReferenceIdeal.nD Cert.UpDxReferenceIdeal.τ).loc Cert.UpDxReferenceIdeal.main_arg9) = m' ((c.tc : Thread Cert.UpDxReferenceIdeal.nD Cert.UpDxReferenceIdeal.τ).loc Cert.UpDxReferenceIdeal.main_arg9))

def preserves_InDxKernel_InDxKernelIdeal : Prop :=
  True

def algebraic_InDxKernelIdeal_InDxReferenceIdeal_pre_finite_in [hInDxKernelIdeal : Cert.InDxKernelIdeal.Facts] [hInDxReferenceIdeal : Cert.InDxReferenceIdeal.Facts] [hPre_finite_in : Cert.Pre_finite_in.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxKernelIdeal_finite_in m →
    (∀ c : Dev Cert.InDxKernelIdeal.nD,
      m' ((c.tc : Thread Cert.InDxReferenceIdeal.nD Cert.InDxReferenceIdeal.τ).loc Cert.InDxReferenceIdeal.main_arg0) = m ((c.tc : Thread Cert.InDxKernelIdeal.nD Cert.InDxKernelIdeal.τ).loc Cert.InDxKernelIdeal.main_arg0)
      ∧ m' ((c.tc : Thread Cert.InDxReferenceIdeal.nD Cert.InDxReferenceIdeal.τ).loc Cert.InDxReferenceIdeal.main_arg1) = m ((c.tc : Thread Cert.InDxKernelIdeal.nD Cert.InDxKernelIdeal.τ).loc Cert.InDxKernelIdeal.main_arg1)
      ∧ m' ((c.tc : Thread Cert.InDxReferenceIdeal.nD Cert.InDxReferenceIdeal.τ).loc Cert.InDxReferenceIdeal.main_arg2) = m ((c.tc : Thread Cert.InDxKernelIdeal.nD Cert.InDxKernelIdeal.τ).loc Cert.InDxKernelIdeal.main_arg2)
      ∧ m' ((c.tc : Thread Cert.InDxReferenceIdeal.nD Cert.InDxReferenceIdeal.τ).loc Cert.InDxReferenceIdeal.main_arg3) = m ((c.tc : Thread Cert.InDxKernelIdeal.nD Cert.InDxKernelIdeal.τ).loc Cert.InDxKernelIdeal.main_arg3)
      ∧ m' ((c.tc : Thread Cert.InDxReferenceIdeal.nD Cert.InDxReferenceIdeal.τ).loc Cert.InDxReferenceIdeal.main_arg4) = m ((c.tc : Thread Cert.InDxKernelIdeal.nD Cert.InDxKernelIdeal.τ).loc Cert.InDxKernelIdeal.main_arg4)
      ∧ m' ((c.tc : Thread Cert.InDxReferenceIdeal.nD Cert.InDxReferenceIdeal.τ).loc Cert.InDxReferenceIdeal.main_arg5) = m ((c.tc : Thread Cert.InDxKernelIdeal.nD Cert.InDxKernelIdeal.τ).loc Cert.InDxKernelIdeal.main_arg5)
      ∧ m' ((c.tc : Thread Cert.InDxReferenceIdeal.nD Cert.InDxReferenceIdeal.τ).loc Cert.InDxReferenceIdeal.main_arg6) = m ((c.tc : Thread Cert.InDxKernelIdeal.nD Cert.InDxKernelIdeal.τ).loc Cert.InDxKernelIdeal.main_arg6)) →
    ∃ (v0 : (c : Dev Cert.InDxKernelIdeal.nD) → Buf (Elt Ideal) ((c.tc : Thread Cert.InDxKernelIdeal.nD Cert.InDxKernelIdeal.τ).loc Cert.InDxKernelIdeal.main_v0_0)) (v1 : (c : Dev Cert.InDxKernelIdeal.nD) → Buf (Elt Ideal) ((c.tc : Thread Cert.InDxKernelIdeal.nD Cert.InDxKernelIdeal.τ).loc Cert.InDxKernelIdeal.main_v0_1)) (v2 : (c : Dev Cert.InDxKernelIdeal.nD) → Buf (Elt Ideal) ((c.tc : Thread Cert.InDxKernelIdeal.nD Cert.InDxKernelIdeal.τ).loc Cert.InDxKernelIdeal.main_v0_2)) (v3 : (c : Dev Cert.InDxKernelIdeal.nD) → Buf (Elt Ideal) ((c.tc : Thread Cert.InDxKernelIdeal.nD Cert.InDxKernelIdeal.τ).loc Cert.InDxKernelIdeal.main_v0_3)),
      θ_run (Cert.InDxKernelIdeal.defs (F := Ideal)) (onTc (τ := Cert.InDxKernelIdeal.τ) (Cert.InDxKernelIdeal.main (F := Ideal))) ⟨m, fun _ => 0, g⟩ (fun r => ∀ c : Dev Cert.InDxKernelIdeal.nD,
          r.2.mem ((c.tc : Thread Cert.InDxKernelIdeal.nD Cert.InDxKernelIdeal.τ).loc Cert.InDxKernelIdeal.main_v0_0) = v0 c
          ∧ r.2.mem ((c.tc : Thread Cert.InDxKernelIdeal.nD Cert.InDxKernelIdeal.τ).loc Cert.InDxKernelIdeal.main_v0_1) = v1 c
          ∧ r.2.mem ((c.tc : Thread Cert.InDxKernelIdeal.nD Cert.InDxKernelIdeal.τ).loc Cert.InDxKernelIdeal.main_v0_2) = v2 c
          ∧ r.2.mem ((c.tc : Thread Cert.InDxKernelIdeal.nD Cert.InDxKernelIdeal.τ).loc Cert.InDxKernelIdeal.main_v0_3) = v3 c
          ∧ r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
          ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1)
          ∧ r.2.mem ((c.tc : Thread Cert.InDxKernelIdeal.nD Cert.InDxKernelIdeal.τ).loc Cert.InDxKernelIdeal.main_arg2) = m ((c.tc : Thread Cert.InDxKernelIdeal.nD Cert.InDxKernelIdeal.τ).loc Cert.InDxKernelIdeal.main_arg2)
          ∧ r.2.mem ((c.tc : Thread Cert.InDxKernelIdeal.nD Cert.InDxKernelIdeal.τ).loc Cert.InDxKernelIdeal.main_arg3) = m ((c.tc : Thread Cert.InDxKernelIdeal.nD Cert.InDxKernelIdeal.τ).loc Cert.InDxKernelIdeal.main_arg3)
          ∧ r.2.mem ((c.tc : Thread Cert.InDxKernelIdeal.nD Cert.InDxKernelIdeal.τ).loc Cert.InDxKernelIdeal.main_arg4) = m ((c.tc : Thread Cert.InDxKernelIdeal.nD Cert.InDxKernelIdeal.τ).loc Cert.InDxKernelIdeal.main_arg4)
          ∧ r.2.mem ((c.tc : Thread Cert.InDxKernelIdeal.nD Cert.InDxKernelIdeal.τ).loc Cert.InDxKernelIdeal.main_arg5) = m ((c.tc : Thread Cert.InDxKernelIdeal.nD Cert.InDxKernelIdeal.τ).loc Cert.InDxKernelIdeal.main_arg5)
          ∧ r.2.mem ((c.tc : Thread Cert.InDxKernelIdeal.nD Cert.InDxKernelIdeal.τ).loc Cert.InDxKernelIdeal.main_arg6) = m ((c.tc : Thread Cert.InDxKernelIdeal.nD Cert.InDxKernelIdeal.τ).loc Cert.InDxKernelIdeal.main_arg6))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v62) = v0 c
          ∧ r.2.mem ((c.tc : Thread Cert.InDxReferenceIdeal.nD Cert.InDxReferenceIdeal.τ).loc Cert.InDxReferenceIdeal.main_v63) = v1 c
          ∧ r.2.mem ((c.tc : Thread Cert.InDxReferenceIdeal.nD Cert.InDxReferenceIdeal.τ).loc Cert.InDxReferenceIdeal.main_v37) = v2 c
          ∧ r.2.mem ((c.tc : Thread Cert.InDxReferenceIdeal.nD Cert.InDxReferenceIdeal.τ).loc Cert.InDxReferenceIdeal.main_v34) = v3 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2)
          ∧ r.2.mem ((c.tc : Thread Cert.InDxReferenceIdeal.nD Cert.InDxReferenceIdeal.τ).loc Cert.InDxReferenceIdeal.main_arg3) = m' ((c.tc : Thread Cert.InDxReferenceIdeal.nD Cert.InDxReferenceIdeal.τ).loc Cert.InDxReferenceIdeal.main_arg3)
          ∧ r.2.mem ((c.tc : Thread Cert.InDxReferenceIdeal.nD Cert.InDxReferenceIdeal.τ).loc Cert.InDxReferenceIdeal.main_arg4) = m' ((c.tc : Thread Cert.InDxReferenceIdeal.nD Cert.InDxReferenceIdeal.τ).loc Cert.InDxReferenceIdeal.main_arg4)
          ∧ r.2.mem ((c.tc : Thread Cert.InDxReferenceIdeal.nD Cert.InDxReferenceIdeal.τ).loc Cert.InDxReferenceIdeal.main_arg5) = m' ((c.tc : Thread Cert.InDxReferenceIdeal.nD Cert.InDxReferenceIdeal.τ).loc Cert.InDxReferenceIdeal.main_arg5)
          ∧ r.2.mem ((c.tc : Thread Cert.InDxReferenceIdeal.nD Cert.InDxReferenceIdeal.τ).loc Cert.InDxReferenceIdeal.main_arg6) = m' ((c.tc : Thread Cert.InDxReferenceIdeal.nD Cert.InDxReferenceIdeal.τ).loc Cert.InDxReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v0_0)) (v1 : (c : Dev Cert.OutKernelIdeal.nD) → Buf (Elt Ideal) ((c.tc : Thread Cert.OutKernelIdeal.nD Cert.OutKernelIdeal.τ).loc Cert.OutKernelIdeal.main_v0_1)) (v2 : (c : Dev Cert.OutKernelIdeal.nD) → Buf (Elt Ideal) ((c.tc : Thread Cert.OutKernelIdeal.nD Cert.OutKernelIdeal.τ).loc Cert.OutKernelIdeal.main_v0_2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0_0) = v0 c
          ∧ r.2.mem ((c.tc : Thread Cert.OutKernelIdeal.nD Cert.OutKernelIdeal.τ).loc Cert.OutKernelIdeal.main_v0_1) = v1 c
          ∧ r.2.mem ((c.tc : Thread Cert.OutKernelIdeal.nD Cert.OutKernelIdeal.τ).loc Cert.OutKernelIdeal.main_v0_2) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_v29) = v1 c
          ∧ r.2.mem ((c.tc : Thread Cert.OutReferenceIdeal.nD Cert.OutReferenceIdeal.τ).loc Cert.OutReferenceIdeal.main_v31) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)
      ∧ m' ((c.tc : Thread Cert.DownReferenceIdeal.nD Cert.DownReferenceIdeal.τ).loc Cert.DownReferenceIdeal.main_arg5) = m ((c.tc : Thread Cert.DownKernelIdeal.nD Cert.DownKernelIdeal.τ).loc Cert.DownKernelIdeal.main_arg5)
      ∧ m' ((c.tc : Thread Cert.DownReferenceIdeal.nD Cert.DownReferenceIdeal.τ).loc Cert.DownReferenceIdeal.main_arg6) = m ((c.tc : Thread Cert.DownKernelIdeal.nD Cert.DownKernelIdeal.τ).loc Cert.DownKernelIdeal.main_arg6)) →
    ∃ (v0 : (c : Dev Cert.DownKernelIdeal.nD) → Buf (Elt Ideal) ((c.tc : Thread Cert.DownKernelIdeal.nD Cert.DownKernelIdeal.τ).loc Cert.DownKernelIdeal.main_v0_0)) (v1 : (c : Dev Cert.DownKernelIdeal.nD) → Buf (Elt Ideal) ((c.tc : Thread Cert.DownKernelIdeal.nD Cert.DownKernelIdeal.τ).loc Cert.DownKernelIdeal.main_v0_1)) (v2 : (c : Dev Cert.DownKernelIdeal.nD) → Buf (Elt Ideal) ((c.tc : Thread Cert.DownKernelIdeal.nD Cert.DownKernelIdeal.τ).loc Cert.DownKernelIdeal.main_v0_2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0_0) = v0 c
          ∧ r.2.mem ((c.tc : Thread Cert.DownKernelIdeal.nD Cert.DownKernelIdeal.τ).loc Cert.DownKernelIdeal.main_v0_1) = v1 c
          ∧ r.2.mem ((c.tc : Thread Cert.DownKernelIdeal.nD Cert.DownKernelIdeal.τ).loc Cert.DownKernelIdeal.main_v0_2) = v2 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
          ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
          ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_v29) = v1 c
          ∧ r.2.mem ((c.tc : Thread Cert.DownReferenceIdeal.nD Cert.DownReferenceIdeal.τ).loc Cert.DownReferenceIdeal.main_v31) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)
      ∧ m' ((c.tc : Thread Cert.AdaReferenceIdeal.nD Cert.AdaReferenceIdeal.τ).loc Cert.AdaReferenceIdeal.main_arg4) = m ((c.tc : Thread Cert.AdaKernelIdeal.nD Cert.AdaKernelIdeal.τ).loc Cert.AdaKernelIdeal.main_arg4)) →
    ∃ (v0 : (c : Dev Cert.AdaKernelIdeal.nD) → Buf (Elt Ideal) ((c.tc : Thread Cert.AdaKernelIdeal.nD Cert.AdaKernelIdeal.τ).loc Cert.AdaKernelIdeal.main_v0_0)) (v1 : (c : Dev Cert.AdaKernelIdeal.nD) → Buf (Elt Ideal) ((c.tc : Thread Cert.AdaKernelIdeal.nD Cert.AdaKernelIdeal.τ).loc Cert.AdaKernelIdeal.main_v0_1)) (v2 : (c : Dev Cert.AdaKernelIdeal.nD) → Buf (Elt Ideal) ((c.tc : Thread Cert.AdaKernelIdeal.nD Cert.AdaKernelIdeal.τ).loc Cert.AdaKernelIdeal.main_v0_2)) (v3 : (c : Dev Cert.AdaKernelIdeal.nD) → Buf (Elt Ideal) ((c.tc : Thread Cert.AdaKernelIdeal.nD Cert.AdaKernelIdeal.τ).loc Cert.AdaKernelIdeal.main_v0_3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v0_0) = v0 c
          ∧ r.2.mem ((c.tc : Thread Cert.AdaKernelIdeal.nD Cert.AdaKernelIdeal.τ).loc Cert.AdaKernelIdeal.main_v0_1) = v1 c
          ∧ r.2.mem ((c.tc : Thread Cert.AdaKernelIdeal.nD Cert.AdaKernelIdeal.τ).loc Cert.AdaKernelIdeal.main_v0_2) = v2 c
          ∧ r.2.mem ((c.tc : Thread Cert.AdaKernelIdeal.nD Cert.AdaKernelIdeal.τ).loc Cert.AdaKernelIdeal.main_v0_3) = v3 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
          ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_arg0) = v0 c
          ∧ r.2.mem ((c.tc : Thread Cert.AdaReferenceIdeal.nD Cert.AdaReferenceIdeal.τ).loc Cert.AdaReferenceIdeal.main_v23) = v1 c
          ∧ r.2.mem ((c.tc : Thread Cert.AdaReferenceIdeal.nD Cert.AdaReferenceIdeal.τ).loc Cert.AdaReferenceIdeal.main_v4) = v2 c
          ∧ r.2.mem ((c.tc : Thread Cert.AdaReferenceIdeal.nD Cert.AdaReferenceIdeal.τ).loc Cert.AdaReferenceIdeal.main_v10) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4))

def preserves_ScwKernel_ScwKernelIdeal : Prop :=
  True

def algebraic_ScwKernelIdeal_ScwReferenceIdeal [hScwKernelIdeal : Cert.ScwKernelIdeal.Facts] [hScwReferenceIdeal : Cert.ScwReferenceIdeal.Facts] : Prop :=
  ∀ (m : (ℓ : Loc Cert.ScwKernelIdeal.nD Cert.ScwKernelIdeal.τ Cert.ScwKernelIdeal.sig) → Buf (Elt Ideal) ℓ) (g : Dev Cert.ScwKernelIdeal.nD → PrngReg)
    (m' : (ℓ : Loc Cert.ScwReferenceIdeal.nD Cert.ScwReferenceIdeal.τ Cert.ScwReferenceIdeal.sig) → Buf (Elt Ideal) ℓ) (g' : Dev Cert.ScwReferenceIdeal.nD → PrngReg), Pre_ScwKernelIdeal m →
    (∀ c : Dev Cert.ScwKernelIdeal.nD,
      m' ((c.tc : Thread Cert.ScwReferenceIdeal.nD Cert.ScwReferenceIdeal.τ).loc Cert.ScwReferenceIdeal.main_arg0) = m ((c.tc : Thread Cert.ScwKernelIdeal.nD Cert.ScwKernelIdeal.τ).loc Cert.ScwKernelIdeal.main_arg0)
      ∧ m' ((c.tc : Thread Cert.ScwReferenceIdeal.nD Cert.ScwReferenceIdeal.τ).loc Cert.ScwReferenceIdeal.main_arg1) = m ((c.tc : Thread Cert.ScwKernelIdeal.nD Cert.ScwKernelIdeal.τ).loc Cert.ScwKernelIdeal.main_arg1)
      ∧ m' ((c.tc : Thread Cert.ScwReferenceIdeal.nD Cert.ScwReferenceIdeal.τ).loc Cert.ScwReferenceIdeal.main_arg2) = m ((c.tc : Thread Cert.ScwKernelIdeal.nD Cert.ScwKernelIdeal.τ).loc Cert.ScwKernelIdeal.main_arg2)
      ∧ m' ((c.tc : Thread Cert.ScwReferenceIdeal.nD Cert.ScwReferenceIdeal.τ).loc Cert.ScwReferenceIdeal.main_arg3) = m ((c.tc : Thread Cert.ScwKernelIdeal.nD Cert.ScwKernelIdeal.τ).loc Cert.ScwKernelIdeal.main_arg3)
      ∧ m' ((c.tc : Thread Cert.ScwReferenceIdeal.nD Cert.ScwReferenceIdeal.τ).loc Cert.ScwReferenceIdeal.main_arg4) = m ((c.tc : Thread Cert.ScwKernelIdeal.nD Cert.ScwKernelIdeal.τ).loc Cert.ScwKernelIdeal.main_arg4)) →
    ∃ (v0 : (c : Dev Cert.ScwKernelIdeal.nD) → Buf (Elt Ideal) ((c.tc : Thread Cert.ScwKernelIdeal.nD Cert.ScwKernelIdeal.τ).loc Cert.ScwKernelIdeal.main_v0_0)) (v1 : (c : Dev Cert.ScwKernelIdeal.nD) → Buf (Elt Ideal) ((c.tc : Thread Cert.ScwKernelIdeal.nD Cert.ScwKernelIdeal.τ).loc Cert.ScwKernelIdeal.main_v0_1)) (v2 : (c : Dev Cert.ScwKernelIdeal.nD) → Buf (Elt Ideal) ((c.tc : Thread Cert.ScwKernelIdeal.nD Cert.ScwKernelIdeal.τ).loc Cert.ScwKernelIdeal.main_v0_2)) (v3 : (c : Dev Cert.ScwKernelIdeal.nD) → Buf (Elt Ideal) ((c.tc : Thread Cert.ScwKernelIdeal.nD Cert.ScwKernelIdeal.τ).loc Cert.ScwKernelIdeal.main_v0_3)),
      θ_run (Cert.ScwKernelIdeal.defs (F := Ideal)) (onTc (τ := Cert.ScwKernelIdeal.τ) (Cert.ScwKernelIdeal.main (F := Ideal))) ⟨m, fun _ => 0, g⟩ (fun r => ∀ c : Dev Cert.ScwKernelIdeal.nD,
          r.2.mem ((c.tc : Thread Cert.ScwKernelIdeal.nD Cert.ScwKernelIdeal.τ).loc Cert.ScwKernelIdeal.main_v0_0) = v0 c
          ∧ r.2.mem ((c.tc : Thread Cert.ScwKernelIdeal.nD Cert.ScwKernelIdeal.τ).loc Cert.ScwKernelIdeal.main_v0_1) = v1 c
          ∧ r.2.mem ((c.tc : Thread Cert.ScwKernelIdeal.nD Cert.ScwKernelIdeal.τ).loc Cert.ScwKernelIdeal.main_v0_2) = v2 c
          ∧ r.2.mem ((c.tc : Thread Cert.ScwKernelIdeal.nD Cert.ScwKernelIdeal.τ).loc Cert.ScwKernelIdeal.main_v0_3) = v3 c
          ∧ r.2.mem ((c.tc : Thread Cert.ScwKernelIdeal.nD Cert.ScwKernelIdeal.τ).loc Cert.ScwKernelIdeal.main_arg0) = m ((c.tc : Thread Cert.ScwKernelIdeal.nD Cert.ScwKernelIdeal.τ).loc Cert.ScwKernelIdeal.main_arg0)
          ∧ r.2.mem ((c.tc : Thread Cert.ScwKernelIdeal.nD Cert.ScwKernelIdeal.τ).loc Cert.ScwKernelIdeal.main_arg1) = m ((c.tc : Thread Cert.ScwKernelIdeal.nD Cert.ScwKernelIdeal.τ).loc Cert.ScwKernelIdeal.main_arg1)
          ∧ r.2.mem ((c.tc : Thread Cert.ScwKernelIdeal.nD Cert.ScwKernelIdeal.τ).loc Cert.ScwKernelIdeal.main_arg2) = m ((c.tc : Thread Cert.ScwKernelIdeal.nD Cert.ScwKernelIdeal.τ).loc Cert.ScwKernelIdeal.main_arg2)
          ∧ r.2.mem ((c.tc : Thread Cert.ScwKernelIdeal.nD Cert.ScwKernelIdeal.τ).loc Cert.ScwKernelIdeal.main_arg3) = m ((c.tc : Thread Cert.ScwKernelIdeal.nD Cert.ScwKernelIdeal.τ).loc Cert.ScwKernelIdeal.main_arg3)
          ∧ r.2.mem ((c.tc : Thread Cert.ScwKernelIdeal.nD Cert.ScwKernelIdeal.τ).loc Cert.ScwKernelIdeal.main_arg4) = m ((c.tc : Thread Cert.ScwKernelIdeal.nD Cert.ScwKernelIdeal.τ).loc Cert.ScwKernelIdeal.main_arg4))
      ∧ θ_run (Cert.ScwReferenceIdeal.defs (F := Ideal)) (onTc (τ := Cert.ScwReferenceIdeal.τ) (Cert.ScwReferenceIdeal.main (F := Ideal))) ⟨m', fun _ => 0, g'⟩ (fun r => ∀ c : Dev Cert.ScwReferenceIdeal.nD,
          r.2.mem ((c.tc : Thread Cert.ScwReferenceIdeal.nD Cert.ScwReferenceIdeal.τ).loc Cert.ScwReferenceIdeal.main_arg0) = v0 c
          ∧ r.2.mem ((c.tc : Thread Cert.ScwReferenceIdeal.nD Cert.ScwReferenceIdeal.τ).loc Cert.ScwReferenceIdeal.main_v23) = v1 c
          ∧ r.2.mem ((c.tc : Thread Cert.ScwReferenceIdeal.nD Cert.ScwReferenceIdeal.τ).loc Cert.ScwReferenceIdeal.main_v4) = v2 c
          ∧ r.2.mem ((c.tc : Thread Cert.ScwReferenceIdeal.nD Cert.ScwReferenceIdeal.τ).loc Cert.ScwReferenceIdeal.main_v10) = v3 c
          ∧ r.2.mem ((c.tc : Thread Cert.ScwReferenceIdeal.nD Cert.ScwReferenceIdeal.τ).loc Cert.ScwReferenceIdeal.main_arg0) = m' ((c.tc : Thread Cert.ScwReferenceIdeal.nD Cert.ScwReferenceIdeal.τ).loc Cert.ScwReferenceIdeal.main_arg0)
          ∧ r.2.mem ((c.tc : Thread Cert.ScwReferenceIdeal.nD Cert.ScwReferenceIdeal.τ).loc Cert.ScwReferenceIdeal.main_arg1) = m' ((c.tc : Thread Cert.ScwReferenceIdeal.nD Cert.ScwReferenceIdeal.τ).loc Cert.ScwReferenceIdeal.main_arg1)
          ∧ r.2.mem ((c.tc : Thread Cert.ScwReferenceIdeal.nD Cert.ScwReferenceIdeal.τ).loc Cert.ScwReferenceIdeal.main_arg2) = m' ((c.tc : Thread Cert.ScwReferenceIdeal.nD Cert.ScwReferenceIdeal.τ).loc Cert.ScwReferenceIdeal.main_arg2)
          ∧ r.2.mem ((c.tc : Thread Cert.ScwReferenceIdeal.nD Cert.ScwReferenceIdeal.τ).loc Cert.ScwReferenceIdeal.main_arg3) = m' ((c.tc : Thread Cert.ScwReferenceIdeal.nD Cert.ScwReferenceIdeal.τ).loc Cert.ScwReferenceIdeal.main_arg3)
          ∧ r.2.mem ((c.tc : Thread Cert.ScwReferenceIdeal.nD Cert.ScwReferenceIdeal.τ).loc Cert.ScwReferenceIdeal.main_arg4) = m' ((c.tc : Thread Cert.ScwReferenceIdeal.nD Cert.ScwReferenceIdeal.τ).loc Cert.ScwReferenceIdeal.main_arg4))

def preserves_FcwKernel_FcwKernelIdeal : Prop :=
  True

def algebraic_FcwKernelIdeal_FcwReferenceIdeal [hFcwKernelIdeal : Cert.FcwKernelIdeal.Facts] [hFcwReferenceIdeal : Cert.FcwReferenceIdeal.Facts] : Prop :=
  ∀ (m : (ℓ : Loc Cert.FcwKernelIdeal.nD Cert.FcwKernelIdeal.τ Cert.FcwKernelIdeal.sig) → Buf (Elt Ideal) ℓ) (g : Dev Cert.FcwKernelIdeal.nD → PrngReg)
    (m' : (ℓ : Loc Cert.FcwReferenceIdeal.nD Cert.FcwReferenceIdeal.τ Cert.FcwReferenceIdeal.sig) → Buf (Elt Ideal) ℓ) (g' : Dev Cert.FcwReferenceIdeal.nD → PrngReg), Pre_FcwKernelIdeal m →
    (∀ c : Dev Cert.FcwKernelIdeal.nD,
      m' ((c.tc : Thread Cert.FcwReferenceIdeal.nD Cert.FcwReferenceIdeal.τ).loc Cert.FcwReferenceIdeal.main_arg0) = m ((c.tc : Thread Cert.FcwKernelIdeal.nD Cert.FcwKernelIdeal.τ).loc Cert.FcwKernelIdeal.main_arg0)
      ∧ m' ((c.tc : Thread Cert.FcwReferenceIdeal.nD Cert.FcwReferenceIdeal.τ).loc Cert.FcwReferenceIdeal.main_arg1) = m ((c.tc : Thread Cert.FcwKernelIdeal.nD Cert.FcwKernelIdeal.τ).loc Cert.FcwKernelIdeal.main_arg1)
      ∧ m' ((c.tc : Thread Cert.FcwReferenceIdeal.nD Cert.FcwReferenceIdeal.τ).loc Cert.FcwReferenceIdeal.main_arg2) = m ((c.tc : Thread Cert.FcwKernelIdeal.nD Cert.FcwKernelIdeal.τ).loc Cert.FcwKernelIdeal.main_arg2)
      ∧ m' ((c.tc : Thread Cert.FcwReferenceIdeal.nD Cert.FcwReferenceIdeal.τ).loc Cert.FcwReferenceIdeal.main_arg3) = m ((c.tc : Thread Cert.FcwKernelIdeal.nD Cert.FcwKernelIdeal.τ).loc Cert.FcwKernelIdeal.main_arg3)
      ∧ m' ((c.tc : Thread Cert.FcwReferenceIdeal.nD Cert.FcwReferenceIdeal.τ).loc Cert.FcwReferenceIdeal.main_arg4) = m ((c.tc : Thread Cert.FcwKernelIdeal.nD Cert.FcwKernelIdeal.τ).loc Cert.FcwKernelIdeal.main_arg4)) →
    ∃ (v0 : (c : Dev Cert.FcwKernelIdeal.nD) → Buf (Elt Ideal) ((c.tc : Thread Cert.FcwKernelIdeal.nD Cert.FcwKernelIdeal.τ).loc Cert.FcwKernelIdeal.main_v0_0)) (v1 : (c : Dev Cert.FcwKernelIdeal.nD) → Buf (Elt Ideal) ((c.tc : Thread Cert.FcwKernelIdeal.nD Cert.FcwKernelIdeal.τ).loc Cert.FcwKernelIdeal.main_v0_1)) (v2 : (c : Dev Cert.FcwKernelIdeal.nD) → Buf (Elt Ideal) ((c.tc : Thread Cert.FcwKernelIdeal.nD Cert.FcwKernelIdeal.τ).loc Cert.FcwKernelIdeal.main_v0_2)) (v3 : (c : Dev Cert.FcwKernelIdeal.nD) → Buf (Elt Ideal) ((c.tc : Thread Cert.FcwKernelIdeal.nD Cert.FcwKernelIdeal.τ).loc Cert.FcwKernelIdeal.main_v0_3)),
      θ_run (Cert.FcwKernelIdeal.defs (F := Ideal)) (onTc (τ := Cert.FcwKernelIdeal.τ) (Cert.FcwKernelIdeal.main (F := Ideal))) ⟨m, fun _ => 0, g⟩ (fun r => ∀ c : Dev Cert.FcwKernelIdeal.nD,
          r.2.mem ((c.tc : Thread Cert.FcwKernelIdeal.nD Cert.FcwKernelIdeal.τ).loc Cert.FcwKernelIdeal.main_v0_0) = v0 c
          ∧ r.2.mem ((c.tc : Thread Cert.FcwKernelIdeal.nD Cert.FcwKernelIdeal.τ).loc Cert.FcwKernelIdeal.main_v0_1) = v1 c
          ∧ r.2.mem ((c.tc : Thread Cert.FcwKernelIdeal.nD Cert.FcwKernelIdeal.τ).loc Cert.FcwKernelIdeal.main_v0_2) = v2 c
          ∧ r.2.mem ((c.tc : Thread Cert.FcwKernelIdeal.nD Cert.FcwKernelIdeal.τ).loc Cert.FcwKernelIdeal.main_v0_3) = v3 c
          ∧ r.2.mem ((c.tc : Thread Cert.FcwKernelIdeal.nD Cert.FcwKernelIdeal.τ).loc Cert.FcwKernelIdeal.main_arg0) = m ((c.tc : Thread Cert.FcwKernelIdeal.nD Cert.FcwKernelIdeal.τ).loc Cert.FcwKernelIdeal.main_arg0)
          ∧ r.2.mem ((c.tc : Thread Cert.FcwKernelIdeal.nD Cert.FcwKernelIdeal.τ).loc Cert.FcwKernelIdeal.main_arg1) = m ((c.tc : Thread Cert.FcwKernelIdeal.nD Cert.FcwKernelIdeal.τ).loc Cert.FcwKernelIdeal.main_arg1)
          ∧ r.2.mem ((c.tc : Thread Cert.FcwKernelIdeal.nD Cert.FcwKernelIdeal.τ).loc Cert.FcwKernelIdeal.main_arg2) = m ((c.tc : Thread Cert.FcwKernelIdeal.nD Cert.FcwKernelIdeal.τ).loc Cert.FcwKernelIdeal.main_arg2)
          ∧ r.2.mem ((c.tc : Thread Cert.FcwKernelIdeal.nD Cert.FcwKernelIdeal.τ).loc Cert.FcwKernelIdeal.main_arg3) = m ((c.tc : Thread Cert.FcwKernelIdeal.nD Cert.FcwKernelIdeal.τ).loc Cert.FcwKernelIdeal.main_arg3)
          ∧ r.2.mem ((c.tc : Thread Cert.FcwKernelIdeal.nD Cert.FcwKernelIdeal.τ).loc Cert.FcwKernelIdeal.main_arg4) = m ((c.tc : Thread Cert.FcwKernelIdeal.nD Cert.FcwKernelIdeal.τ).loc Cert.FcwKernelIdeal.main_arg4))
      ∧ θ_run (Cert.FcwReferenceIdeal.defs (F := Ideal)) (onTc (τ := Cert.FcwReferenceIdeal.τ) (Cert.FcwReferenceIdeal.main (F := Ideal))) ⟨m', fun _ => 0, g'⟩ (fun r => ∀ c : Dev Cert.FcwReferenceIdeal.nD,
          r.2.mem ((c.tc : Thread Cert.FcwReferenceIdeal.nD Cert.FcwReferenceIdeal.τ).loc Cert.FcwReferenceIdeal.main_arg0) = v0 c
          ∧ r.2.mem ((c.tc : Thread Cert.FcwReferenceIdeal.nD Cert.FcwReferenceIdeal.τ).loc Cert.FcwReferenceIdeal.main_v23) = v1 c
          ∧ r.2.mem ((c.tc : Thread Cert.FcwReferenceIdeal.nD Cert.FcwReferenceIdeal.τ).loc Cert.FcwReferenceIdeal.main_v4) = v2 c
          ∧ r.2.mem ((c.tc : Thread Cert.FcwReferenceIdeal.nD Cert.FcwReferenceIdeal.τ).loc Cert.FcwReferenceIdeal.main_v10) = v3 c
          ∧ r.2.mem ((c.tc : Thread Cert.FcwReferenceIdeal.nD Cert.FcwReferenceIdeal.τ).loc Cert.FcwReferenceIdeal.main_arg0) = m' ((c.tc : Thread Cert.FcwReferenceIdeal.nD Cert.FcwReferenceIdeal.τ).loc Cert.FcwReferenceIdeal.main_arg0)
          ∧ r.2.mem ((c.tc : Thread Cert.FcwReferenceIdeal.nD Cert.FcwReferenceIdeal.τ).loc Cert.FcwReferenceIdeal.main_arg1) = m' ((c.tc : Thread Cert.FcwReferenceIdeal.nD Cert.FcwReferenceIdeal.τ).loc Cert.FcwReferenceIdeal.main_arg1)
          ∧ r.2.mem ((c.tc : Thread Cert.FcwReferenceIdeal.nD Cert.FcwReferenceIdeal.τ).loc Cert.FcwReferenceIdeal.main_arg2) = m' ((c.tc : Thread Cert.FcwReferenceIdeal.nD Cert.FcwReferenceIdeal.τ).loc Cert.FcwReferenceIdeal.main_arg2)
          ∧ r.2.mem ((c.tc : Thread Cert.FcwReferenceIdeal.nD Cert.FcwReferenceIdeal.τ).loc Cert.FcwReferenceIdeal.main_arg3) = m' ((c.tc : Thread Cert.FcwReferenceIdeal.nD Cert.FcwReferenceIdeal.τ).loc Cert.FcwReferenceIdeal.main_arg3)
          ∧ r.2.mem ((c.tc : Thread Cert.FcwReferenceIdeal.nD Cert.FcwReferenceIdeal.τ).loc Cert.FcwReferenceIdeal.main_arg4) = m' ((c.tc : Thread Cert.FcwReferenceIdeal.nD Cert.FcwReferenceIdeal.τ).loc Cert.FcwReferenceIdeal.main_arg4))

def preserves_AdaWKernel_AdaWKernelIdeal : Prop :=
  True

def algebraic_AdaWKernelIdeal_AdaWReferenceIdeal [hAdaWKernelIdeal : Cert.AdaWKernelIdeal.Facts] [hAdaWReferenceIdeal : Cert.AdaWReferenceIdeal.Facts] : Prop :=
  ∀ (m : (ℓ : Loc Cert.AdaWKernelIdeal.nD Cert.AdaWKernelIdeal.τ Cert.AdaWKernelIdeal.sig) → Buf (Elt Ideal) ℓ) (g : Dev Cert.AdaWKernelIdeal.nD → PrngReg)
    (m' : (ℓ : Loc Cert.AdaWReferenceIdeal.nD Cert.AdaWReferenceIdeal.τ Cert.AdaWReferenceIdeal.sig) → Buf (Elt Ideal) ℓ) (g' : Dev Cert.AdaWReferenceIdeal.nD → PrngReg), Pre_AdaWKernelIdeal m →
    (∀ c : Dev Cert.AdaWKernelIdeal.nD,
      m' ((c.tc : Thread Cert.AdaWReferenceIdeal.nD Cert.AdaWReferenceIdeal.τ).loc Cert.AdaWReferenceIdeal.main_arg0) = m ((c.tc : Thread Cert.AdaWKernelIdeal.nD Cert.AdaWKernelIdeal.τ).loc Cert.AdaWKernelIdeal.main_arg0)
      ∧ m' ((c.tc : Thread Cert.AdaWReferenceIdeal.nD Cert.AdaWReferenceIdeal.τ).loc Cert.AdaWReferenceIdeal.main_arg1) = m ((c.tc : Thread Cert.AdaWKernelIdeal.nD Cert.AdaWKernelIdeal.τ).loc Cert.AdaWKernelIdeal.main_arg1)) →
    ∃ (v0 : (c : Dev Cert.AdaWKernelIdeal.nD) → Buf (Elt Ideal) ((c.tc : Thread Cert.AdaWKernelIdeal.nD Cert.AdaWKernelIdeal.τ).loc Cert.AdaWKernelIdeal.main_v0)),
      θ_run (Cert.AdaWKernelIdeal.defs (F := Ideal)) (onTc (τ := Cert.AdaWKernelIdeal.τ) (Cert.AdaWKernelIdeal.main (F := Ideal))) ⟨m, fun _ => 0, g⟩ (fun r => ∀ c : Dev Cert.AdaWKernelIdeal.nD,
          r.2.mem ((c.tc : Thread Cert.AdaWKernelIdeal.nD Cert.AdaWKernelIdeal.τ).loc Cert.AdaWKernelIdeal.main_v0) = v0 c
          ∧ r.2.mem ((c.tc : Thread Cert.AdaWKernelIdeal.nD Cert.AdaWKernelIdeal.τ).loc Cert.AdaWKernelIdeal.main_arg0) = m ((c.tc : Thread Cert.AdaWKernelIdeal.nD Cert.AdaWKernelIdeal.τ).loc Cert.AdaWKernelIdeal.main_arg0)
          ∧ r.2.mem ((c.tc : Thread Cert.AdaWKernelIdeal.nD Cert.AdaWKernelIdeal.τ).loc Cert.AdaWKernelIdeal.main_arg1) = m ((c.tc : Thread Cert.AdaWKernelIdeal.nD Cert.AdaWKernelIdeal.τ).loc Cert.AdaWKernelIdeal.main_arg1))
      ∧ θ_run (Cert.AdaWReferenceIdeal.defs (F := Ideal)) (onTc (τ := Cert.AdaWReferenceIdeal.τ) (Cert.AdaWReferenceIdeal.main (F := Ideal))) ⟨m', fun _ => 0, g'⟩ (fun r => ∀ c : Dev Cert.AdaWReferenceIdeal.nD,
          r.2.mem ((c.tc : Thread Cert.AdaWReferenceIdeal.nD Cert.AdaWReferenceIdeal.τ).loc Cert.AdaWReferenceIdeal.main_v5) = v0 c
          ∧ r.2.mem ((c.tc : Thread Cert.AdaWReferenceIdeal.nD Cert.AdaWReferenceIdeal.τ).loc Cert.AdaWReferenceIdeal.main_arg0) = m' ((c.tc : Thread Cert.AdaWReferenceIdeal.nD Cert.AdaWReferenceIdeal.τ).loc Cert.AdaWReferenceIdeal.main_arg0)
          ∧ r.2.mem ((c.tc : Thread Cert.AdaWReferenceIdeal.nD Cert.AdaWReferenceIdeal.τ).loc Cert.AdaWReferenceIdeal.main_arg1) = m' ((c.tc : Thread Cert.AdaWReferenceIdeal.nD Cert.AdaWReferenceIdeal.τ).loc Cert.AdaWReferenceIdeal.main_arg1))

def preserves_WinKernel_WinKernelIdeal : Prop :=
  True

def algebraic_WinKernelIdeal_WinReferenceIdeal [hWinKernelIdeal : Cert.WinKernelIdeal.Facts] [hWinReferenceIdeal : Cert.WinReferenceIdeal.Facts] [hPre_device_w_in : Cert.Pre_device_w_in.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)
      ∧ m' ((c.tc : Thread Cert.WinReferenceIdeal.nD Cert.WinReferenceIdeal.τ).loc Cert.WinReferenceIdeal.main_arg3) = m ((c.tc : Thread Cert.WinKernelIdeal.nD Cert.WinKernelIdeal.τ).loc Cert.WinKernelIdeal.main_arg3)
      ∧ m' ((c.tc : Thread Cert.WinReferenceIdeal.nD Cert.WinReferenceIdeal.τ).loc Cert.WinReferenceIdeal.main_arg4) = m ((c.tc : Thread Cert.WinKernelIdeal.nD Cert.WinKernelIdeal.τ).loc Cert.WinKernelIdeal.main_arg4)
      ∧ m' ((c.tc : Thread Cert.WinReferenceIdeal.nD Cert.WinReferenceIdeal.τ).loc Cert.WinReferenceIdeal.main_arg5) = m ((c.tc : Thread Cert.WinKernelIdeal.nD Cert.WinKernelIdeal.τ).loc Cert.WinKernelIdeal.main_arg5)
      ∧ m' ((c.tc : Thread Cert.WinReferenceIdeal.nD Cert.WinReferenceIdeal.τ).loc Cert.WinReferenceIdeal.main_arg6) = m ((c.tc : Thread Cert.WinKernelIdeal.nD Cert.WinKernelIdeal.τ).loc Cert.WinKernelIdeal.main_arg6)
      ∧ m' ((c.tc : Thread Cert.WinReferenceIdeal.nD Cert.WinReferenceIdeal.τ).loc Cert.WinReferenceIdeal.main_arg7) = m ((c.tc : Thread Cert.WinKernelIdeal.nD Cert.WinKernelIdeal.τ).loc Cert.WinKernelIdeal.main_arg7)) →
    ∃ (v0 : (c : Dev Cert.WinKernelIdeal.nD) → Buf (Elt Ideal) ((c.tc : Thread Cert.WinKernelIdeal.nD Cert.WinKernelIdeal.τ).loc Cert.WinKernelIdeal.main_v0_0)) (v1 : (c : Dev Cert.WinKernelIdeal.nD) → Buf (Elt Ideal) ((c.tc : Thread Cert.WinKernelIdeal.nD Cert.WinKernelIdeal.τ).loc Cert.WinKernelIdeal.main_v0_1)) (v2 : (c : Dev Cert.WinKernelIdeal.nD) → Buf (Elt Ideal) ((c.tc : Thread Cert.WinKernelIdeal.nD Cert.WinKernelIdeal.τ).loc Cert.WinKernelIdeal.main_v0_2)) (v3 : (c : Dev Cert.WinKernelIdeal.nD) → Buf (Elt Ideal) ((c.tc : Thread Cert.WinKernelIdeal.nD Cert.WinKernelIdeal.τ).loc Cert.WinKernelIdeal.main_v0_3)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v0_0) = v0 c
          ∧ r.2.mem ((c.tc : Thread Cert.WinKernelIdeal.nD Cert.WinKernelIdeal.τ).loc Cert.WinKernelIdeal.main_v0_1) = v1 c
          ∧ r.2.mem ((c.tc : Thread Cert.WinKernelIdeal.nD Cert.WinKernelIdeal.τ).loc Cert.WinKernelIdeal.main_v0_2) = v2 c
          ∧ r.2.mem ((c.tc : Thread Cert.WinKernelIdeal.nD Cert.WinKernelIdeal.τ).loc Cert.WinKernelIdeal.main_v0_3) = v3 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
          ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
          ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
          ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5)
          ∧ r.2.mem ((c.tc : Thread Cert.WinKernelIdeal.nD Cert.WinKernelIdeal.τ).loc Cert.WinKernelIdeal.main_arg6) = m ((c.tc : Thread Cert.WinKernelIdeal.nD Cert.WinKernelIdeal.τ).loc Cert.WinKernelIdeal.main_arg6)
          ∧ r.2.mem ((c.tc : Thread Cert.WinKernelIdeal.nD Cert.WinKernelIdeal.τ).loc Cert.WinKernelIdeal.main_arg7) = m ((c.tc : Thread Cert.WinKernelIdeal.nD Cert.WinKernelIdeal.τ).loc Cert.WinKernelIdeal.main_arg7))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v22) = v0 c
          ∧ r.2.mem ((c.tc : Thread Cert.WinReferenceIdeal.nD Cert.WinReferenceIdeal.τ).loc Cert.WinReferenceIdeal.main_v46) = v1 c
          ∧ r.2.mem ((c.tc : Thread Cert.WinReferenceIdeal.nD Cert.WinReferenceIdeal.τ).loc Cert.WinReferenceIdeal.main_v27) = v2 c
          ∧ r.2.mem ((c.tc : Thread Cert.WinReferenceIdeal.nD Cert.WinReferenceIdeal.τ).loc Cert.WinReferenceIdeal.main_v33) = v3 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3)
          ∧ r.2.mem ((c.tc : Thread Cert.WinReferenceIdeal.nD Cert.WinReferenceIdeal.τ).loc Cert.WinReferenceIdeal.main_arg4) = m' ((c.tc : Thread Cert.WinReferenceIdeal.nD Cert.WinReferenceIdeal.τ).loc Cert.WinReferenceIdeal.main_arg4)
          ∧ r.2.mem ((c.tc : Thread Cert.WinReferenceIdeal.nD Cert.WinReferenceIdeal.τ).loc Cert.WinReferenceIdeal.main_arg5) = m' ((c.tc : Thread Cert.WinReferenceIdeal.nD Cert.WinReferenceIdeal.τ).loc Cert.WinReferenceIdeal.main_arg5)
          ∧ r.2.mem ((c.tc : Thread Cert.WinReferenceIdeal.nD Cert.WinReferenceIdeal.τ).loc Cert.WinReferenceIdeal.main_arg6) = m' ((c.tc : Thread Cert.WinReferenceIdeal.nD Cert.WinReferenceIdeal.τ).loc Cert.WinReferenceIdeal.main_arg6)
          ∧ r.2.mem ((c.tc : Thread Cert.WinReferenceIdeal.nD Cert.WinReferenceIdeal.τ).loc Cert.WinReferenceIdeal.main_arg7) = m' ((c.tc : Thread Cert.WinReferenceIdeal.nD Cert.WinReferenceIdeal.τ).loc Cert.WinReferenceIdeal.main_arg7))

def preserves_WoutKernel_WoutKernelIdeal : Prop :=
  True

def algebraic_WoutKernelIdeal_WoutReferenceIdeal [hWoutKernelIdeal : Cert.WoutKernelIdeal.Facts] [hWoutReferenceIdeal : Cert.WoutReferenceIdeal.Facts] [hPre_device_w_out : Cert.Pre_device_w_out.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutKernelIdeal m →
    (∀ c : Dev Cert.WoutKernelIdeal.nD,
      m' ((c.tc : Thread Cert.WoutReferenceIdeal.nD Cert.WoutReferenceIdeal.τ).loc Cert.WoutReferenceIdeal.main_arg0) = m ((c.tc : Thread Cert.WoutKernelIdeal.nD Cert.WoutKernelIdeal.τ).loc Cert.WoutKernelIdeal.main_arg0)
      ∧ m' ((c.tc : Thread Cert.WoutReferenceIdeal.nD Cert.WoutReferenceIdeal.τ).loc Cert.WoutReferenceIdeal.main_arg1) = m ((c.tc : Thread Cert.WoutKernelIdeal.nD Cert.WoutKernelIdeal.τ).loc Cert.WoutKernelIdeal.main_arg1)
      ∧ m' ((c.tc : Thread Cert.WoutReferenceIdeal.nD Cert.WoutReferenceIdeal.τ).loc Cert.WoutReferenceIdeal.main_arg2) = m ((c.tc : Thread Cert.WoutKernelIdeal.nD Cert.WoutKernelIdeal.τ).loc Cert.WoutKernelIdeal.main_arg2)
      ∧ m' ((c.tc : Thread Cert.WoutReferenceIdeal.nD Cert.WoutReferenceIdeal.τ).loc Cert.WoutReferenceIdeal.main_arg3) = m ((c.tc : Thread Cert.WoutKernelIdeal.nD Cert.WoutKernelIdeal.τ).loc Cert.WoutKernelIdeal.main_arg3)
      ∧ m' ((c.tc : Thread Cert.WoutReferenceIdeal.nD Cert.WoutReferenceIdeal.τ).loc Cert.WoutReferenceIdeal.main_arg4) = m ((c.tc : Thread Cert.WoutKernelIdeal.nD Cert.WoutKernelIdeal.τ).loc Cert.WoutKernelIdeal.main_arg4)
      ∧ m' ((c.tc : Thread Cert.WoutReferenceIdeal.nD Cert.WoutReferenceIdeal.τ).loc Cert.WoutReferenceIdeal.main_arg5) = m ((c.tc : Thread Cert.WoutKernelIdeal.nD Cert.WoutKernelIdeal.τ).loc Cert.WoutKernelIdeal.main_arg5)
      ∧ m' ((c.tc : Thread Cert.WoutReferenceIdeal.nD Cert.WoutReferenceIdeal.τ).loc Cert.WoutReferenceIdeal.main_arg6) = m ((c.tc : Thread Cert.WoutKernelIdeal.nD Cert.WoutKernelIdeal.τ).loc Cert.WoutKernelIdeal.main_arg6)
      ∧ m' ((c.tc : Thread Cert.WoutReferenceIdeal.nD Cert.WoutReferenceIdeal.τ).loc Cert.WoutReferenceIdeal.main_arg7) = m ((c.tc : Thread Cert.WoutKernelIdeal.nD Cert.WoutKernelIdeal.τ).loc Cert.WoutKernelIdeal.main_arg7)
      ∧ m' ((c.tc : Thread Cert.WoutReferenceIdeal.nD Cert.WoutReferenceIdeal.τ).loc Cert.WoutReferenceIdeal.main_arg8) = m ((c.tc : Thread Cert.WoutKernelIdeal.nD Cert.WoutKernelIdeal.τ).loc Cert.WoutKernelIdeal.main_arg8)
      ∧ m' ((c.tc : Thread Cert.WoutReferenceIdeal.nD Cert.WoutReferenceIdeal.τ).loc Cert.WoutReferenceIdeal.main_arg9) = m ((c.tc : Thread Cert.WoutKernelIdeal.nD Cert.WoutKernelIdeal.τ).loc Cert.WoutKernelIdeal.main_arg9)) →
    ∃ (v0 : (c : Dev Cert.WoutKernelIdeal.nD) → Buf (Elt Ideal) ((c.tc : Thread Cert.WoutKernelIdeal.nD Cert.WoutKernelIdeal.τ).loc Cert.WoutKernelIdeal.main_v0_0)) (v1 : (c : Dev Cert.WoutKernelIdeal.nD) → Buf (Elt Ideal) ((c.tc : Thread Cert.WoutKernelIdeal.nD Cert.WoutKernelIdeal.τ).loc Cert.WoutKernelIdeal.main_v0_1)) (v2 : (c : Dev Cert.WoutKernelIdeal.nD) → Buf (Elt Ideal) ((c.tc : Thread Cert.WoutKernelIdeal.nD Cert.WoutKernelIdeal.τ).loc Cert.WoutKernelIdeal.main_v0_2)) (v3 : (c : Dev Cert.WoutKernelIdeal.nD) → Buf (Elt Ideal) ((c.tc : Thread Cert.WoutKernelIdeal.nD Cert.WoutKernelIdeal.τ).loc Cert.WoutKernelIdeal.main_v0_3)),
      θ_run (Cert.WoutKernelIdeal.defs (F := Ideal)) (onTc (τ := Cert.WoutKernelIdeal.τ) (Cert.WoutKernelIdeal.main (F := Ideal))) ⟨m, fun _ => 0, g⟩ (fun r => ∀ c : Dev Cert.WoutKernelIdeal.nD,
          r.2.mem ((c.tc : Thread Cert.WoutKernelIdeal.nD Cert.WoutKernelIdeal.τ).loc Cert.WoutKernelIdeal.main_v0_0) = v0 c
          ∧ r.2.mem ((c.tc : Thread Cert.WoutKernelIdeal.nD Cert.WoutKernelIdeal.τ).loc Cert.WoutKernelIdeal.main_v0_1) = v1 c
          ∧ r.2.mem ((c.tc : Thread Cert.WoutKernelIdeal.nD Cert.WoutKernelIdeal.τ).loc Cert.WoutKernelIdeal.main_v0_2) = v2 c
          ∧ r.2.mem ((c.tc : Thread Cert.WoutKernelIdeal.nD Cert.WoutKernelIdeal.τ).loc Cert.WoutKernelIdeal.main_v0_3) = v3 c
          ∧ r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
          ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1)
          ∧ r.2.mem ((c.tc : Thread Cert.WoutKernelIdeal.nD Cert.WoutKernelIdeal.τ).loc Cert.WoutKernelIdeal.main_arg2) = m ((c.tc : Thread Cert.WoutKernelIdeal.nD Cert.WoutKernelIdeal.τ).loc Cert.WoutKernelIdeal.main_arg2)
          ∧ r.2.mem ((c.tc : Thread Cert.WoutKernelIdeal.nD Cert.WoutKernelIdeal.τ).loc Cert.WoutKernelIdeal.main_arg3) = m ((c.tc : Thread Cert.WoutKernelIdeal.nD Cert.WoutKernelIdeal.τ).loc Cert.WoutKernelIdeal.main_arg3)
          ∧ r.2.mem ((c.tc : Thread Cert.WoutKernelIdeal.nD Cert.WoutKernelIdeal.τ).loc Cert.WoutKernelIdeal.main_arg4) = m ((c.tc : Thread Cert.WoutKernelIdeal.nD Cert.WoutKernelIdeal.τ).loc Cert.WoutKernelIdeal.main_arg4)
          ∧ r.2.mem ((c.tc : Thread Cert.WoutKernelIdeal.nD Cert.WoutKernelIdeal.τ).loc Cert.WoutKernelIdeal.main_arg5) = m ((c.tc : Thread Cert.WoutKernelIdeal.nD Cert.WoutKernelIdeal.τ).loc Cert.WoutKernelIdeal.main_arg5)
          ∧ r.2.mem ((c.tc : Thread Cert.WoutKernelIdeal.nD Cert.WoutKernelIdeal.τ).loc Cert.WoutKernelIdeal.main_arg6) = m ((c.tc : Thread Cert.WoutKernelIdeal.nD Cert.WoutKernelIdeal.τ).loc Cert.WoutKernelIdeal.main_arg6)
          ∧ r.2.mem ((c.tc : Thread Cert.WoutKernelIdeal.nD Cert.WoutKernelIdeal.τ).loc Cert.WoutKernelIdeal.main_arg7) = m ((c.tc : Thread Cert.WoutKernelIdeal.nD Cert.WoutKernelIdeal.τ).loc Cert.WoutKernelIdeal.main_arg7)
          ∧ r.2.mem ((c.tc : Thread Cert.WoutKernelIdeal.nD Cert.WoutKernelIdeal.τ).loc Cert.WoutKernelIdeal.main_arg8) = m ((c.tc : Thread Cert.WoutKernelIdeal.nD Cert.WoutKernelIdeal.τ).loc Cert.WoutKernelIdeal.main_arg8)
          ∧ r.2.mem ((c.tc : Thread Cert.WoutKernelIdeal.nD Cert.WoutKernelIdeal.τ).loc Cert.WoutKernelIdeal.main_arg9) = m ((c.tc : Thread Cert.WoutKernelIdeal.nD Cert.WoutKernelIdeal.τ).loc Cert.WoutKernelIdeal.main_arg9))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v39) = v0 c
          ∧ r.2.mem ((c.tc : Thread Cert.WoutReferenceIdeal.nD Cert.WoutReferenceIdeal.τ).loc Cert.WoutReferenceIdeal.main_v41) = v1 c
          ∧ r.2.mem ((c.tc : Thread Cert.WoutReferenceIdeal.nD Cert.WoutReferenceIdeal.τ).loc Cert.WoutReferenceIdeal.main_v43) = v2 c
          ∧ r.2.mem ((c.tc : Thread Cert.WoutReferenceIdeal.nD Cert.WoutReferenceIdeal.τ).loc Cert.WoutReferenceIdeal.main_v45) = v3 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1)
          ∧ r.2.mem ((c.tc : Thread Cert.WoutReferenceIdeal.nD Cert.WoutReferenceIdeal.τ).loc Cert.WoutReferenceIdeal.main_arg2) = m' ((c.tc : Thread Cert.WoutReferenceIdeal.nD Cert.WoutReferenceIdeal.τ).loc Cert.WoutReferenceIdeal.main_arg2)
          ∧ r.2.mem ((c.tc : Thread Cert.WoutReferenceIdeal.nD Cert.WoutReferenceIdeal.τ).loc Cert.WoutReferenceIdeal.main_arg3) = m' ((c.tc : Thread Cert.WoutReferenceIdeal.nD Cert.WoutReferenceIdeal.τ).loc Cert.WoutReferenceIdeal.main_arg3)
          ∧ r.2.mem ((c.tc : Thread Cert.WoutReferenceIdeal.nD Cert.WoutReferenceIdeal.τ).loc Cert.WoutReferenceIdeal.main_arg4) = m' ((c.tc : Thread Cert.WoutReferenceIdeal.nD Cert.WoutReferenceIdeal.τ).loc Cert.WoutReferenceIdeal.main_arg4)
          ∧ r.2.mem ((c.tc : Thread Cert.WoutReferenceIdeal.nD Cert.WoutReferenceIdeal.τ).loc Cert.WoutReferenceIdeal.main_arg5) = m' ((c.tc : Thread Cert.WoutReferenceIdeal.nD Cert.WoutReferenceIdeal.τ).loc Cert.WoutReferenceIdeal.main_arg5)
          ∧ r.2.mem ((c.tc : Thread Cert.WoutReferenceIdeal.nD Cert.WoutReferenceIdeal.τ).loc Cert.WoutReferenceIdeal.main_arg6) = m' ((c.tc : Thread Cert.WoutReferenceIdeal.nD Cert.WoutReferenceIdeal.τ).loc Cert.WoutReferenceIdeal.main_arg6)
          ∧ r.2.mem ((c.tc : Thread Cert.WoutReferenceIdeal.nD Cert.WoutReferenceIdeal.τ).loc Cert.WoutReferenceIdeal.main_arg7) = m' ((c.tc : Thread Cert.WoutReferenceIdeal.nD Cert.WoutReferenceIdeal.τ).loc Cert.WoutReferenceIdeal.main_arg7)
          ∧ r.2.mem ((c.tc : Thread Cert.WoutReferenceIdeal.nD Cert.WoutReferenceIdeal.τ).loc Cert.WoutReferenceIdeal.main_arg8) = m' ((c.tc : Thread Cert.WoutReferenceIdeal.nD Cert.WoutReferenceIdeal.τ).loc Cert.WoutReferenceIdeal.main_arg8)
          ∧ r.2.mem ((c.tc : Thread Cert.WoutReferenceIdeal.nD Cert.WoutReferenceIdeal.τ).loc Cert.WoutReferenceIdeal.main_arg9) = m' ((c.tc : Thread Cert.WoutReferenceIdeal.nD Cert.WoutReferenceIdeal.τ).loc Cert.WoutReferenceIdeal.main_arg9))

def preserves_FupKernel_FupKernelIdeal : Prop :=
  True

def algebraic_FupKernelIdeal_FupReferenceIdeal [hFupKernelIdeal : Cert.FupKernelIdeal.Facts] [hFupReferenceIdeal : Cert.FupReferenceIdeal.Facts] [hPre_device_ff_up : Cert.Pre_device_ff_up.Facts] : Prop :=
  ∀ (m : (ℓ : Loc Cert.FupKernelIdeal.nD Cert.FupKernelIdeal.τ Cert.FupKernelIdeal.sig) → Buf (Elt Ideal) ℓ) (g : Dev Cert.FupKernelIdeal.nD → PrngReg)
    (m' : (ℓ : Loc Cert.FupReferenceIdeal.nD Cert.FupReferenceIdeal.τ Cert.FupReferenceIdeal.sig) → Buf (Elt Ideal) ℓ) (g' : Dev Cert.FupReferenceIdeal.nD → PrngReg), Pre_FupKernelIdeal m →
    (∀ c : Dev Cert.FupKernelIdeal.nD,
      m' ((c.tc : Thread Cert.FupReferenceIdeal.nD Cert.FupReferenceIdeal.τ).loc Cert.FupReferenceIdeal.main_arg0) = m ((c.tc : Thread Cert.FupKernelIdeal.nD Cert.FupKernelIdeal.τ).loc Cert.FupKernelIdeal.main_arg0)
      ∧ m' ((c.tc : Thread Cert.FupReferenceIdeal.nD Cert.FupReferenceIdeal.τ).loc Cert.FupReferenceIdeal.main_arg1) = m ((c.tc : Thread Cert.FupKernelIdeal.nD Cert.FupKernelIdeal.τ).loc Cert.FupKernelIdeal.main_arg1)
      ∧ m' ((c.tc : Thread Cert.FupReferenceIdeal.nD Cert.FupReferenceIdeal.τ).loc Cert.FupReferenceIdeal.main_arg2) = m ((c.tc : Thread Cert.FupKernelIdeal.nD Cert.FupKernelIdeal.τ).loc Cert.FupKernelIdeal.main_arg2)
      ∧ m' ((c.tc : Thread Cert.FupReferenceIdeal.nD Cert.FupReferenceIdeal.τ).loc Cert.FupReferenceIdeal.main_arg3) = m ((c.tc : Thread Cert.FupKernelIdeal.nD Cert.FupKernelIdeal.τ).loc Cert.FupKernelIdeal.main_arg3)
      ∧ m' ((c.tc : Thread Cert.FupReferenceIdeal.nD Cert.FupReferenceIdeal.τ).loc Cert.FupReferenceIdeal.main_arg4) = m ((c.tc : Thread Cert.FupKernelIdeal.nD Cert.FupKernelIdeal.τ).loc Cert.FupKernelIdeal.main_arg4)
      ∧ m' ((c.tc : Thread Cert.FupReferenceIdeal.nD Cert.FupReferenceIdeal.τ).loc Cert.FupReferenceIdeal.main_arg5) = m ((c.tc : Thread Cert.FupKernelIdeal.nD Cert.FupKernelIdeal.τ).loc Cert.FupKernelIdeal.main_arg5)
      ∧ m' ((c.tc : Thread Cert.FupReferenceIdeal.nD Cert.FupReferenceIdeal.τ).loc Cert.FupReferenceIdeal.main_arg6) = m ((c.tc : Thread Cert.FupKernelIdeal.nD Cert.FupKernelIdeal.τ).loc Cert.FupKernelIdeal.main_arg6)
      ∧ m' ((c.tc : Thread Cert.FupReferenceIdeal.nD Cert.FupReferenceIdeal.τ).loc Cert.FupReferenceIdeal.main_arg7) = m ((c.tc : Thread Cert.FupKernelIdeal.nD Cert.FupKernelIdeal.τ).loc Cert.FupKernelIdeal.main_arg7)
      ∧ m' ((c.tc : Thread Cert.FupReferenceIdeal.nD Cert.FupReferenceIdeal.τ).loc Cert.FupReferenceIdeal.main_arg8) = m ((c.tc : Thread Cert.FupKernelIdeal.nD Cert.FupKernelIdeal.τ).loc Cert.FupKernelIdeal.main_arg8)
      ∧ m' ((c.tc : Thread Cert.FupReferenceIdeal.nD Cert.FupReferenceIdeal.τ).loc Cert.FupReferenceIdeal.main_arg9) = m ((c.tc : Thread Cert.FupKernelIdeal.nD Cert.FupKernelIdeal.τ).loc Cert.FupKernelIdeal.main_arg9)) →
    ∃ (v0 : (c : Dev Cert.FupKernelIdeal.nD) → Buf (Elt Ideal) ((c.tc : Thread Cert.FupKernelIdeal.nD Cert.FupKernelIdeal.τ).loc Cert.FupKernelIdeal.main_v0_0)) (v1 : (c : Dev Cert.FupKernelIdeal.nD) → Buf (Elt Ideal) ((c.tc : Thread Cert.FupKernelIdeal.nD Cert.FupKernelIdeal.τ).loc Cert.FupKernelIdeal.main_v0_1)) (v2 : (c : Dev Cert.FupKernelIdeal.nD) → Buf (Elt Ideal) ((c.tc : Thread Cert.FupKernelIdeal.nD Cert.FupKernelIdeal.τ).loc Cert.FupKernelIdeal.main_v0_2)) (v3 : (c : Dev Cert.FupKernelIdeal.nD) → Buf (Elt Ideal) ((c.tc : Thread Cert.FupKernelIdeal.nD Cert.FupKernelIdeal.τ).loc Cert.FupKernelIdeal.main_v0_3)),
      θ_run (Cert.FupKernelIdeal.defs (F := Ideal)) (onTc (τ := Cert.FupKernelIdeal.τ) (Cert.FupKernelIdeal.main (F := Ideal))) ⟨m, fun _ => 0, g⟩ (fun r => ∀ c : Dev Cert.FupKernelIdeal.nD,
          r.2.mem ((c.tc : Thread Cert.FupKernelIdeal.nD Cert.FupKernelIdeal.τ).loc Cert.FupKernelIdeal.main_v0_0) = v0 c
          ∧ r.2.mem ((c.tc : Thread Cert.FupKernelIdeal.nD Cert.FupKernelIdeal.τ).loc Cert.FupKernelIdeal.main_v0_1) = v1 c
          ∧ r.2.mem ((c.tc : Thread Cert.FupKernelIdeal.nD Cert.FupKernelIdeal.τ).loc Cert.FupKernelIdeal.main_v0_2) = v2 c
          ∧ r.2.mem ((c.tc : Thread Cert.FupKernelIdeal.nD Cert.FupKernelIdeal.τ).loc Cert.FupKernelIdeal.main_v0_3) = v3 c
          ∧ r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
          ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1)
          ∧ r.2.mem ((c.tc : Thread Cert.FupKernelIdeal.nD Cert.FupKernelIdeal.τ).loc Cert.FupKernelIdeal.main_arg2) = m ((c.tc : Thread Cert.FupKernelIdeal.nD Cert.FupKernelIdeal.τ).loc Cert.FupKernelIdeal.main_arg2)
          ∧ r.2.mem ((c.tc : Thread Cert.FupKernelIdeal.nD Cert.FupKernelIdeal.τ).loc Cert.FupKernelIdeal.main_arg3) = m ((c.tc : Thread Cert.FupKernelIdeal.nD Cert.FupKernelIdeal.τ).loc Cert.FupKernelIdeal.main_arg3)
          ∧ r.2.mem ((c.tc : Thread Cert.FupKernelIdeal.nD Cert.FupKernelIdeal.τ).loc Cert.FupKernelIdeal.main_arg4) = m ((c.tc : Thread Cert.FupKernelIdeal.nD Cert.FupKernelIdeal.τ).loc Cert.FupKernelIdeal.main_arg4)
          ∧ r.2.mem ((c.tc : Thread Cert.FupKernelIdeal.nD Cert.FupKernelIdeal.τ).loc Cert.FupKernelIdeal.main_arg5) = m ((c.tc : Thread Cert.FupKernelIdeal.nD Cert.FupKernelIdeal.τ).loc Cert.FupKernelIdeal.main_arg5)
          ∧ r.2.mem ((c.tc : Thread Cert.FupKernelIdeal.nD Cert.FupKernelIdeal.τ).loc Cert.FupKernelIdeal.main_arg6) = m ((c.tc : Thread Cert.FupKernelIdeal.nD Cert.FupKernelIdeal.τ).loc Cert.FupKernelIdeal.main_arg6)
          ∧ r.2.mem ((c.tc : Thread Cert.FupKernelIdeal.nD Cert.FupKernelIdeal.τ).loc Cert.FupKernelIdeal.main_arg7) = m ((c.tc : Thread Cert.FupKernelIdeal.nD Cert.FupKernelIdeal.τ).loc Cert.FupKernelIdeal.main_arg7)
          ∧ r.2.mem ((c.tc : Thread Cert.FupKernelIdeal.nD Cert.FupKernelIdeal.τ).loc Cert.FupKernelIdeal.main_arg8) = m ((c.tc : Thread Cert.FupKernelIdeal.nD Cert.FupKernelIdeal.τ).loc Cert.FupKernelIdeal.main_arg8)
          ∧ r.2.mem ((c.tc : Thread Cert.FupKernelIdeal.nD Cert.FupKernelIdeal.τ).loc Cert.FupKernelIdeal.main_arg9) = m ((c.tc : Thread Cert.FupKernelIdeal.nD Cert.FupKernelIdeal.τ).loc Cert.FupKernelIdeal.main_arg9))
      ∧ θ_run (Cert.FupReferenceIdeal.defs (F := Ideal)) (onTc (τ := Cert.FupReferenceIdeal.τ) (Cert.FupReferenceIdeal.main (F := Ideal))) ⟨m', fun _ => 0, g'⟩ (fun r => ∀ c : Dev Cert.FupReferenceIdeal.nD,
          r.2.mem ((c.tc : Thread Cert.FupReferenceIdeal.nD Cert.FupReferenceIdeal.τ).loc Cert.FupReferenceIdeal.main_v39) = v0 c
          ∧ r.2.mem ((c.tc : Thread Cert.FupReferenceIdeal.nD Cert.FupReferenceIdeal.τ).loc Cert.FupReferenceIdeal.main_v41) = v1 c
          ∧ r.2.mem ((c.tc : Thread Cert.FupReferenceIdeal.nD Cert.FupReferenceIdeal.τ).loc Cert.FupReferenceIdeal.main_v43) = v2 c
          ∧ r.2.mem ((c.tc : Thread Cert.FupReferenceIdeal.nD Cert.FupReferenceIdeal.τ).loc Cert.FupReferenceIdeal.main_v45) = v3 c
          ∧ r.2.mem ((c.tc : Thread Cert.FupReferenceIdeal.nD Cert.FupReferenceIdeal.τ).loc Cert.FupReferenceIdeal.main_arg0) = m' ((c.tc : Thread Cert.FupReferenceIdeal.nD Cert.FupReferenceIdeal.τ).loc Cert.FupReferenceIdeal.main_arg0)
          ∧ r.2.mem ((c.tc : Thread Cert.FupReferenceIdeal.nD Cert.FupReferenceIdeal.τ).loc Cert.FupReferenceIdeal.main_arg1) = m' ((c.tc : Thread Cert.FupReferenceIdeal.nD Cert.FupReferenceIdeal.τ).loc Cert.FupReferenceIdeal.main_arg1)
          ∧ r.2.mem ((c.tc : Thread Cert.FupReferenceIdeal.nD Cert.FupReferenceIdeal.τ).loc Cert.FupReferenceIdeal.main_arg2) = m' ((c.tc : Thread Cert.FupReferenceIdeal.nD Cert.FupReferenceIdeal.τ).loc Cert.FupReferenceIdeal.main_arg2)
          ∧ r.2.mem ((c.tc : Thread Cert.FupReferenceIdeal.nD Cert.FupReferenceIdeal.τ).loc Cert.FupReferenceIdeal.main_arg3) = m' ((c.tc : Thread Cert.FupReferenceIdeal.nD Cert.FupReferenceIdeal.τ).loc Cert.FupReferenceIdeal.main_arg3)
          ∧ r.2.mem ((c.tc : Thread Cert.FupReferenceIdeal.nD Cert.FupReferenceIdeal.τ).loc Cert.FupReferenceIdeal.main_arg4) = m' ((c.tc : Thread Cert.FupReferenceIdeal.nD Cert.FupReferenceIdeal.τ).loc Cert.FupReferenceIdeal.main_arg4)
          ∧ r.2.mem ((c.tc : Thread Cert.FupReferenceIdeal.nD Cert.FupReferenceIdeal.τ).loc Cert.FupReferenceIdeal.main_arg5) = m' ((c.tc : Thread Cert.FupReferenceIdeal.nD Cert.FupReferenceIdeal.τ).loc Cert.FupReferenceIdeal.main_arg5)
          ∧ r.2.mem ((c.tc : Thread Cert.FupReferenceIdeal.nD Cert.FupReferenceIdeal.τ).loc Cert.FupReferenceIdeal.main_arg6) = m' ((c.tc : Thread Cert.FupReferenceIdeal.nD Cert.FupReferenceIdeal.τ).loc Cert.FupReferenceIdeal.main_arg6)
          ∧ r.2.mem ((c.tc : Thread Cert.FupReferenceIdeal.nD Cert.FupReferenceIdeal.τ).loc Cert.FupReferenceIdeal.main_arg7) = m' ((c.tc : Thread Cert.FupReferenceIdeal.nD Cert.FupReferenceIdeal.τ).loc Cert.FupReferenceIdeal.main_arg7)
          ∧ r.2.mem ((c.tc : Thread Cert.FupReferenceIdeal.nD Cert.FupReferenceIdeal.τ).loc Cert.FupReferenceIdeal.main_arg8) = m' ((c.tc : Thread Cert.FupReferenceIdeal.nD Cert.FupReferenceIdeal.τ).loc Cert.FupReferenceIdeal.main_arg8)
          ∧ r.2.mem ((c.tc : Thread Cert.FupReferenceIdeal.nD Cert.FupReferenceIdeal.τ).loc Cert.FupReferenceIdeal.main_arg9) = m' ((c.tc : Thread Cert.FupReferenceIdeal.nD Cert.FupReferenceIdeal.τ).loc Cert.FupReferenceIdeal.main_arg9))

def preserves_FdnKernel_FdnKernelIdeal : Prop :=
  True

def algebraic_FdnKernelIdeal_FdnReferenceIdeal [hFdnKernelIdeal : Cert.FdnKernelIdeal.Facts] [hFdnReferenceIdeal : Cert.FdnReferenceIdeal.Facts] [hPre_device_ff_down : Cert.Pre_device_ff_down.Facts] : Prop :=
  ∀ (m : (ℓ : Loc Cert.FdnKernelIdeal.nD Cert.FdnKernelIdeal.τ Cert.FdnKernelIdeal.sig) → Buf (Elt Ideal) ℓ) (g : Dev Cert.FdnKernelIdeal.nD → PrngReg)
    (m' : (ℓ : Loc Cert.FdnReferenceIdeal.nD Cert.FdnReferenceIdeal.τ Cert.FdnReferenceIdeal.sig) → Buf (Elt Ideal) ℓ) (g' : Dev Cert.FdnReferenceIdeal.nD → PrngReg), Pre_FdnKernelIdeal m →
    (∀ c : Dev Cert.FdnKernelIdeal.nD,
      m' ((c.tc : Thread Cert.FdnReferenceIdeal.nD Cert.FdnReferenceIdeal.τ).loc Cert.FdnReferenceIdeal.main_arg0) = m ((c.tc : Thread Cert.FdnKernelIdeal.nD Cert.FdnKernelIdeal.τ).loc Cert.FdnKernelIdeal.main_arg0)
      ∧ m' ((c.tc : Thread Cert.FdnReferenceIdeal.nD Cert.FdnReferenceIdeal.τ).loc Cert.FdnReferenceIdeal.main_arg1) = m ((c.tc : Thread Cert.FdnKernelIdeal.nD Cert.FdnKernelIdeal.τ).loc Cert.FdnKernelIdeal.main_arg1)
      ∧ m' ((c.tc : Thread Cert.FdnReferenceIdeal.nD Cert.FdnReferenceIdeal.τ).loc Cert.FdnReferenceIdeal.main_arg2) = m ((c.tc : Thread Cert.FdnKernelIdeal.nD Cert.FdnKernelIdeal.τ).loc Cert.FdnKernelIdeal.main_arg2)
      ∧ m' ((c.tc : Thread Cert.FdnReferenceIdeal.nD Cert.FdnReferenceIdeal.τ).loc Cert.FdnReferenceIdeal.main_arg3) = m ((c.tc : Thread Cert.FdnKernelIdeal.nD Cert.FdnKernelIdeal.τ).loc Cert.FdnKernelIdeal.main_arg3)
      ∧ m' ((c.tc : Thread Cert.FdnReferenceIdeal.nD Cert.FdnReferenceIdeal.τ).loc Cert.FdnReferenceIdeal.main_arg4) = m ((c.tc : Thread Cert.FdnKernelIdeal.nD Cert.FdnKernelIdeal.τ).loc Cert.FdnKernelIdeal.main_arg4)
      ∧ m' ((c.tc : Thread Cert.FdnReferenceIdeal.nD Cert.FdnReferenceIdeal.τ).loc Cert.FdnReferenceIdeal.main_arg5) = m ((c.tc : Thread Cert.FdnKernelIdeal.nD Cert.FdnKernelIdeal.τ).loc Cert.FdnKernelIdeal.main_arg5)
      ∧ m' ((c.tc : Thread Cert.FdnReferenceIdeal.nD Cert.FdnReferenceIdeal.τ).loc Cert.FdnReferenceIdeal.main_arg6) = m ((c.tc : Thread Cert.FdnKernelIdeal.nD Cert.FdnKernelIdeal.τ).loc Cert.FdnKernelIdeal.main_arg6)
      ∧ m' ((c.tc : Thread Cert.FdnReferenceIdeal.nD Cert.FdnReferenceIdeal.τ).loc Cert.FdnReferenceIdeal.main_arg7) = m ((c.tc : Thread Cert.FdnKernelIdeal.nD Cert.FdnKernelIdeal.τ).loc Cert.FdnKernelIdeal.main_arg7)
      ∧ m' ((c.tc : Thread Cert.FdnReferenceIdeal.nD Cert.FdnReferenceIdeal.τ).loc Cert.FdnReferenceIdeal.main_arg8) = m ((c.tc : Thread Cert.FdnKernelIdeal.nD Cert.FdnKernelIdeal.τ).loc Cert.FdnKernelIdeal.main_arg8)
      ∧ m' ((c.tc : Thread Cert.FdnReferenceIdeal.nD Cert.FdnReferenceIdeal.τ).loc Cert.FdnReferenceIdeal.main_arg9) = m ((c.tc : Thread Cert.FdnKernelIdeal.nD Cert.FdnKernelIdeal.τ).loc Cert.FdnKernelIdeal.main_arg9)) →
    ∃ (v0 : (c : Dev Cert.FdnKernelIdeal.nD) → Buf (Elt Ideal) ((c.tc : Thread Cert.FdnKernelIdeal.nD Cert.FdnKernelIdeal.τ).loc Cert.FdnKernelIdeal.main_v0_0)) (v1 : (c : Dev Cert.FdnKernelIdeal.nD) → Buf (Elt Ideal) ((c.tc : Thread Cert.FdnKernelIdeal.nD Cert.FdnKernelIdeal.τ).loc Cert.FdnKernelIdeal.main_v0_1)) (v2 : (c : Dev Cert.FdnKernelIdeal.nD) → Buf (Elt Ideal) ((c.tc : Thread Cert.FdnKernelIdeal.nD Cert.FdnKernelIdeal.τ).loc Cert.FdnKernelIdeal.main_v0_2)) (v3 : (c : Dev Cert.FdnKernelIdeal.nD) → Buf (Elt Ideal) ((c.tc : Thread Cert.FdnKernelIdeal.nD Cert.FdnKernelIdeal.τ).loc Cert.FdnKernelIdeal.main_v0_3)),
      θ_run (Cert.FdnKernelIdeal.defs (F := Ideal)) (onTc (τ := Cert.FdnKernelIdeal.τ) (Cert.FdnKernelIdeal.main (F := Ideal))) ⟨m, fun _ => 0, g⟩ (fun r => ∀ c : Dev Cert.FdnKernelIdeal.nD,
          r.2.mem ((c.tc : Thread Cert.FdnKernelIdeal.nD Cert.FdnKernelIdeal.τ).loc Cert.FdnKernelIdeal.main_v0_0) = v0 c
          ∧ r.2.mem ((c.tc : Thread Cert.FdnKernelIdeal.nD Cert.FdnKernelIdeal.τ).loc Cert.FdnKernelIdeal.main_v0_1) = v1 c
          ∧ r.2.mem ((c.tc : Thread Cert.FdnKernelIdeal.nD Cert.FdnKernelIdeal.τ).loc Cert.FdnKernelIdeal.main_v0_2) = v2 c
          ∧ r.2.mem ((c.tc : Thread Cert.FdnKernelIdeal.nD Cert.FdnKernelIdeal.τ).loc Cert.FdnKernelIdeal.main_v0_3) = v3 c
          ∧ r.2.mem ((c.tc : Thread Cert.FdnKernelIdeal.nD Cert.FdnKernelIdeal.τ).loc Cert.FdnKernelIdeal.main_arg0) = m ((c.tc : Thread Cert.FdnKernelIdeal.nD Cert.FdnKernelIdeal.τ).loc Cert.FdnKernelIdeal.main_arg0)
          ∧ r.2.mem ((c.tc : Thread Cert.FdnKernelIdeal.nD Cert.FdnKernelIdeal.τ).loc Cert.FdnKernelIdeal.main_arg1) = m ((c.tc : Thread Cert.FdnKernelIdeal.nD Cert.FdnKernelIdeal.τ).loc Cert.FdnKernelIdeal.main_arg1)
          ∧ r.2.mem ((c.tc : Thread Cert.FdnKernelIdeal.nD Cert.FdnKernelIdeal.τ).loc Cert.FdnKernelIdeal.main_arg2) = m ((c.tc : Thread Cert.FdnKernelIdeal.nD Cert.FdnKernelIdeal.τ).loc Cert.FdnKernelIdeal.main_arg2)
          ∧ r.2.mem ((c.tc : Thread Cert.FdnKernelIdeal.nD Cert.FdnKernelIdeal.τ).loc Cert.FdnKernelIdeal.main_arg3) = m ((c.tc : Thread Cert.FdnKernelIdeal.nD Cert.FdnKernelIdeal.τ).loc Cert.FdnKernelIdeal.main_arg3)
          ∧ r.2.mem ((c.tc : Thread Cert.FdnKernelIdeal.nD Cert.FdnKernelIdeal.τ).loc Cert.FdnKernelIdeal.main_arg4) = m ((c.tc : Thread Cert.FdnKernelIdeal.nD Cert.FdnKernelIdeal.τ).loc Cert.FdnKernelIdeal.main_arg4)
          ∧ r.2.mem ((c.tc : Thread Cert.FdnKernelIdeal.nD Cert.FdnKernelIdeal.τ).loc Cert.FdnKernelIdeal.main_arg5) = m ((c.tc : Thread Cert.FdnKernelIdeal.nD Cert.FdnKernelIdeal.τ).loc Cert.FdnKernelIdeal.main_arg5)
          ∧ r.2.mem ((c.tc : Thread Cert.FdnKernelIdeal.nD Cert.FdnKernelIdeal.τ).loc Cert.FdnKernelIdeal.main_arg6) = m ((c.tc : Thread Cert.FdnKernelIdeal.nD Cert.FdnKernelIdeal.τ).loc Cert.FdnKernelIdeal.main_arg6)
          ∧ r.2.mem ((c.tc : Thread Cert.FdnKernelIdeal.nD Cert.FdnKernelIdeal.τ).loc Cert.FdnKernelIdeal.main_arg7) = m ((c.tc : Thread Cert.FdnKernelIdeal.nD Cert.FdnKernelIdeal.τ).loc Cert.FdnKernelIdeal.main_arg7)
          ∧ r.2.mem ((c.tc : Thread Cert.FdnKernelIdeal.nD Cert.FdnKernelIdeal.τ).loc Cert.FdnKernelIdeal.main_arg8) = m ((c.tc : Thread Cert.FdnKernelIdeal.nD Cert.FdnKernelIdeal.τ).loc Cert.FdnKernelIdeal.main_arg8)
          ∧ r.2.mem ((c.tc : Thread Cert.FdnKernelIdeal.nD Cert.FdnKernelIdeal.τ).loc Cert.FdnKernelIdeal.main_arg9) = m ((c.tc : Thread Cert.FdnKernelIdeal.nD Cert.FdnKernelIdeal.τ).loc Cert.FdnKernelIdeal.main_arg9))
      ∧ θ_run (Cert.FdnReferenceIdeal.defs (F := Ideal)) (onTc (τ := Cert.FdnReferenceIdeal.τ) (Cert.FdnReferenceIdeal.main (F := Ideal))) ⟨m', fun _ => 0, g'⟩ (fun r => ∀ c : Dev Cert.FdnReferenceIdeal.nD,
          r.2.mem ((c.tc : Thread Cert.FdnReferenceIdeal.nD Cert.FdnReferenceIdeal.τ).loc Cert.FdnReferenceIdeal.main_v39) = v0 c
          ∧ r.2.mem ((c.tc : Thread Cert.FdnReferenceIdeal.nD Cert.FdnReferenceIdeal.τ).loc Cert.FdnReferenceIdeal.main_v41) = v1 c
          ∧ r.2.mem ((c.tc : Thread Cert.FdnReferenceIdeal.nD Cert.FdnReferenceIdeal.τ).loc Cert.FdnReferenceIdeal.main_v43) = v2 c
          ∧ r.2.mem ((c.tc : Thread Cert.FdnReferenceIdeal.nD Cert.FdnReferenceIdeal.τ).loc Cert.FdnReferenceIdeal.main_v45) = v3 c
          ∧ r.2.mem ((c.tc : Thread Cert.FdnReferenceIdeal.nD Cert.FdnReferenceIdeal.τ).loc Cert.FdnReferenceIdeal.main_arg0) = m' ((c.tc : Thread Cert.FdnReferenceIdeal.nD Cert.FdnReferenceIdeal.τ).loc Cert.FdnReferenceIdeal.main_arg0)
          ∧ r.2.mem ((c.tc : Thread Cert.FdnReferenceIdeal.nD Cert.FdnReferenceIdeal.τ).loc Cert.FdnReferenceIdeal.main_arg1) = m' ((c.tc : Thread Cert.FdnReferenceIdeal.nD Cert.FdnReferenceIdeal.τ).loc Cert.FdnReferenceIdeal.main_arg1)
          ∧ r.2.mem ((c.tc : Thread Cert.FdnReferenceIdeal.nD Cert.FdnReferenceIdeal.τ).loc Cert.FdnReferenceIdeal.main_arg2) = m' ((c.tc : Thread Cert.FdnReferenceIdeal.nD Cert.FdnReferenceIdeal.τ).loc Cert.FdnReferenceIdeal.main_arg2)
          ∧ r.2.mem ((c.tc : Thread Cert.FdnReferenceIdeal.nD Cert.FdnReferenceIdeal.τ).loc Cert.FdnReferenceIdeal.main_arg3) = m' ((c.tc : Thread Cert.FdnReferenceIdeal.nD Cert.FdnReferenceIdeal.τ).loc Cert.FdnReferenceIdeal.main_arg3)
          ∧ r.2.mem ((c.tc : Thread Cert.FdnReferenceIdeal.nD Cert.FdnReferenceIdeal.τ).loc Cert.FdnReferenceIdeal.main_arg4) = m' ((c.tc : Thread Cert.FdnReferenceIdeal.nD Cert.FdnReferenceIdeal.τ).loc Cert.FdnReferenceIdeal.main_arg4)
          ∧ r.2.mem ((c.tc : Thread Cert.FdnReferenceIdeal.nD Cert.FdnReferenceIdeal.τ).loc Cert.FdnReferenceIdeal.main_arg5) = m' ((c.tc : Thread Cert.FdnReferenceIdeal.nD Cert.FdnReferenceIdeal.τ).loc Cert.FdnReferenceIdeal.main_arg5)
          ∧ r.2.mem ((c.tc : Thread Cert.FdnReferenceIdeal.nD Cert.FdnReferenceIdeal.τ).loc Cert.FdnReferenceIdeal.main_arg6) = m' ((c.tc : Thread Cert.FdnReferenceIdeal.nD Cert.FdnReferenceIdeal.τ).loc Cert.FdnReferenceIdeal.main_arg6)
          ∧ r.2.mem ((c.tc : Thread Cert.FdnReferenceIdeal.nD Cert.FdnReferenceIdeal.τ).loc Cert.FdnReferenceIdeal.main_arg7) = m' ((c.tc : Thread Cert.FdnReferenceIdeal.nD Cert.FdnReferenceIdeal.τ).loc Cert.FdnReferenceIdeal.main_arg7)
          ∧ r.2.mem ((c.tc : Thread Cert.FdnReferenceIdeal.nD Cert.FdnReferenceIdeal.τ).loc Cert.FdnReferenceIdeal.main_arg8) = m' ((c.tc : Thread Cert.FdnReferenceIdeal.nD Cert.FdnReferenceIdeal.τ).loc Cert.FdnReferenceIdeal.main_arg8)
          ∧ r.2.mem ((c.tc : Thread Cert.FdnReferenceIdeal.nD Cert.FdnReferenceIdeal.τ).loc Cert.FdnReferenceIdeal.main_arg9) = m' ((c.tc : Thread Cert.FdnReferenceIdeal.nD Cert.FdnReferenceIdeal.τ).loc Cert.FdnReferenceIdeal.main_arg9))

def Claim : Prop :=
  ∃ (hKernel : Cert.Kernel.Facts) (hKernelIdeal : Cert.KernelIdeal.Facts) (hReferenceIdeal : Cert.ReferenceIdeal.Facts) (hDownWKernel : Cert.DownWKernel.Facts) (hDownWKernelIdeal : Cert.DownWKernelIdeal.Facts) (hDownWReferenceIdeal : Cert.DownWReferenceIdeal.Facts) (hDownXKernel : Cert.DownXKernel.Facts) (hDownXKernelIdeal : Cert.DownXKernelIdeal.Facts) (hDownXReferenceIdeal : Cert.DownXReferenceIdeal.Facts) (hOutWKernel : Cert.OutWKernel.Facts) (hOutWKernelIdeal : Cert.OutWKernelIdeal.Facts) (hOutWReferenceIdeal : Cert.OutWReferenceIdeal.Facts) (hOutXKernel : Cert.OutXKernel.Facts) (hOutXKernelIdeal : Cert.OutXKernelIdeal.Facts) (hOutXReferenceIdeal : Cert.OutXReferenceIdeal.Facts) (hUpWKernel : Cert.UpWKernel.Facts) (hUpWKernelIdeal : Cert.UpWKernelIdeal.Facts) (hUpWReferenceIdeal : Cert.UpWReferenceIdeal.Facts) (hInWKernel : Cert.InWKernel.Facts) (hInWKernelIdeal : Cert.InWKernelIdeal.Facts) (hInWReferenceIdeal : Cert.InWReferenceIdeal.Facts) (hUpKernel : Cert.UpKernel.Facts) (hUpKernelIdeal : Cert.UpKernelIdeal.Facts) (hUpReferenceIdeal : Cert.UpReferenceIdeal.Facts) (hInKernel : Cert.InKernel.Facts) (hInKernelIdeal : Cert.InKernelIdeal.Facts) (hInReferenceIdeal : Cert.InReferenceIdeal.Facts) (hUpDxKernel : Cert.UpDxKernel.Facts) (hUpDxKernelIdeal : Cert.UpDxKernelIdeal.Facts) (hUpDxReferenceIdeal : Cert.UpDxReferenceIdeal.Facts) (hInDxKernel : Cert.InDxKernel.Facts) (hInDxKernelIdeal : Cert.InDxKernelIdeal.Facts) (hInDxReferenceIdeal : Cert.InDxReferenceIdeal.Facts) (hOutKernel : Cert.OutKernel.Facts) (hOutKernelIdeal : Cert.OutKernelIdeal.Facts) (hOutReferenceIdeal : Cert.OutReferenceIdeal.Facts) (hDownKernel : Cert.DownKernel.Facts) (hDownKernelIdeal : Cert.DownKernelIdeal.Facts) (hDownReferenceIdeal : Cert.DownReferenceIdeal.Facts) (hAdaKernel : Cert.AdaKernel.Facts) (hAdaKernelIdeal : Cert.AdaKernelIdeal.Facts) (hAdaReferenceIdeal : Cert.AdaReferenceIdeal.Facts) (hScwKernel : Cert.ScwKernel.Facts) (hScwKernelIdeal : Cert.ScwKernelIdeal.Facts) (hScwReferenceIdeal : Cert.ScwReferenceIdeal.Facts) (hFcwKernel : Cert.FcwKernel.Facts) (hFcwKernelIdeal : Cert.FcwKernelIdeal.Facts) (hFcwReferenceIdeal : Cert.FcwReferenceIdeal.Facts) (hAdaWKernel : Cert.AdaWKernel.Facts) (hAdaWKernelIdeal : Cert.AdaWKernelIdeal.Facts) (hAdaWReferenceIdeal : Cert.AdaWReferenceIdeal.Facts) (hWinKernel : Cert.WinKernel.Facts) (hWinKernelIdeal : Cert.WinKernelIdeal.Facts) (hWinReferenceIdeal : Cert.WinReferenceIdeal.Facts) (hWoutKernel : Cert.WoutKernel.Facts) (hWoutKernelIdeal : Cert.WoutKernelIdeal.Facts) (hWoutReferenceIdeal : Cert.WoutReferenceIdeal.Facts) (hFupKernel : Cert.FupKernel.Facts) (hFupKernelIdeal : Cert.FupKernelIdeal.Facts) (hFupReferenceIdeal : Cert.FupReferenceIdeal.Facts) (hFdnKernel : Cert.FdnKernel.Facts) (hFdnKernelIdeal : Cert.FdnKernelIdeal.Facts) (hFdnReferenceIdeal : Cert.FdnReferenceIdeal.Facts) (hPre_finite : Cert.Pre_finite.Facts) (hPre_finite_in : Cert.Pre_finite_in.Facts) (hPre_device_w_in : Cert.Pre_device_w_in.Facts) (hPre_device_w_out : Cert.Pre_device_w_out.Facts) (hPre_device_ff_up : Cert.Pre_device_ff_up.Facts) (hPre_device_ff_down : Cert.Pre_device_ff_down.Facts),
    quiescent_Kernel (hKernel := hKernel)
    ∧ quiescent_KernelIdeal (hKernelIdeal := hKernelIdeal)
    ∧ quiescent_ReferenceIdeal (hReferenceIdeal := hReferenceIdeal)
    ∧ quiescent_DownWKernel (hDownWKernel := hDownWKernel)
    ∧ quiescent_DownWKernelIdeal (hDownWKernelIdeal := hDownWKernelIdeal)
    ∧ quiescent_DownWReferenceIdeal (hDownWReferenceIdeal := hDownWReferenceIdeal)
    ∧ quiescent_DownXKernel (hDownXKernel := hDownXKernel)
    ∧ quiescent_DownXKernelIdeal (hDownXKernelIdeal := hDownXKernelIdeal)
    ∧ quiescent_DownXReferenceIdeal (hDownXReferenceIdeal := hDownXReferenceIdeal)
    ∧ quiescent_OutWKernel (hOutWKernel := hOutWKernel)
    ∧ quiescent_OutWKernelIdeal (hOutWKernelIdeal := hOutWKernelIdeal)
    ∧ quiescent_OutWReferenceIdeal (hOutWReferenceIdeal := hOutWReferenceIdeal)
    ∧ quiescent_OutXKernel (hOutXKernel := hOutXKernel)
    ∧ quiescent_OutXKernelIdeal (hOutXKernelIdeal := hOutXKernelIdeal)
    ∧ quiescent_OutXReferenceIdeal (hOutXReferenceIdeal := hOutXReferenceIdeal)
    ∧ quiescent_UpWKernel (hUpWKernel := hUpWKernel)
    ∧ quiescent_UpWKernelIdeal (hUpWKernelIdeal := hUpWKernelIdeal)
    ∧ quiescent_UpWReferenceIdeal (hUpWReferenceIdeal := hUpWReferenceIdeal)
    ∧ quiescent_InWKernel (hInWKernel := hInWKernel)
    ∧ quiescent_InWKernelIdeal (hInWKernelIdeal := hInWKernelIdeal)
    ∧ quiescent_InWReferenceIdeal (hInWReferenceIdeal := hInWReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_UpDxKernel (hUpDxKernel := hUpDxKernel)
    ∧ quiescent_UpDxKernelIdeal (hUpDxKernelIdeal := hUpDxKernelIdeal)
    ∧ quiescent_UpDxKernelIdeal_pre_finite (hUpDxKernelIdeal := hUpDxKernelIdeal) (hPre_finite := hPre_finite)
    ∧ quiescent_UpDxReferenceIdeal (hUpDxReferenceIdeal := hUpDxReferenceIdeal)
    ∧ quiescent_UpDxReferenceIdeal_pre_finite (hUpDxReferenceIdeal := hUpDxReferenceIdeal) (hPre_finite := hPre_finite)
    ∧ quiescent_InDxKernel (hInDxKernel := hInDxKernel)
    ∧ quiescent_InDxKernelIdeal (hInDxKernelIdeal := hInDxKernelIdeal)
    ∧ quiescent_InDxKernelIdeal_pre_finite_in (hInDxKernelIdeal := hInDxKernelIdeal) (hPre_finite_in := hPre_finite_in)
    ∧ quiescent_InDxReferenceIdeal (hInDxReferenceIdeal := hInDxReferenceIdeal)
    ∧ quiescent_InDxReferenceIdeal_pre_finite_in (hInDxReferenceIdeal := hInDxReferenceIdeal) (hPre_finite_in := hPre_finite_in)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_ScwKernel (hScwKernel := hScwKernel)
    ∧ quiescent_ScwKernelIdeal (hScwKernelIdeal := hScwKernelIdeal)
    ∧ quiescent_ScwReferenceIdeal (hScwReferenceIdeal := hScwReferenceIdeal)
    ∧ quiescent_FcwKernel (hFcwKernel := hFcwKernel)
    ∧ quiescent_FcwKernelIdeal (hFcwKernelIdeal := hFcwKernelIdeal)
    ∧ quiescent_FcwReferenceIdeal (hFcwReferenceIdeal := hFcwReferenceIdeal)
    ∧ quiescent_AdaWKernel (hAdaWKernel := hAdaWKernel)
    ∧ quiescent_AdaWKernelIdeal (hAdaWKernelIdeal := hAdaWKernelIdeal)
    ∧ quiescent_AdaWReferenceIdeal (hAdaWReferenceIdeal := hAdaWReferenceIdeal)
    ∧ quiescent_WinKernel (hWinKernel := hWinKernel) (hPre_device_w_in := hPre_device_w_in)
    ∧ quiescent_WinKernelIdeal (hWinKernelIdeal := hWinKernelIdeal) (hPre_device_w_in := hPre_device_w_in)
    ∧ quiescent_WinReferenceIdeal (hWinReferenceIdeal := hWinReferenceIdeal)
    ∧ quiescent_WinReferenceIdeal_pre_device_w_in (hWinReferenceIdeal := hWinReferenceIdeal) (hPre_device_w_in := hPre_device_w_in)
    ∧ quiescent_WoutKernel (hWoutKernel := hWoutKernel) (hPre_device_w_out := hPre_device_w_out)
    ∧ quiescent_WoutKernelIdeal (hWoutKernelIdeal := hWoutKernelIdeal) (hPre_device_w_out := hPre_device_w_out)
    ∧ quiescent_WoutReferenceIdeal (hWoutReferenceIdeal := hWoutReferenceIdeal)
    ∧ quiescent_WoutReferenceIdeal_pre_device_w_out (hWoutReferenceIdeal := hWoutReferenceIdeal) (hPre_device_w_out := hPre_device_w_out)
    ∧ quiescent_FupKernel (hFupKernel := hFupKernel) (hPre_device_ff_up := hPre_device_ff_up)
    ∧ quiescent_FupKernelIdeal (hFupKernelIdeal := hFupKernelIdeal) (hPre_device_ff_up := hPre_device_ff_up)
    ∧ quiescent_FupReferenceIdeal (hFupReferenceIdeal := hFupReferenceIdeal)
    ∧ quiescent_FupReferenceIdeal_pre_device_ff_up (hFupReferenceIdeal := hFupReferenceIdeal) (hPre_device_ff_up := hPre_device_ff_up)
    ∧ quiescent_FdnKernel (hFdnKernel := hFdnKernel) (hPre_device_ff_down := hPre_device_ff_down)
    ∧ quiescent_FdnKernelIdeal (hFdnKernelIdeal := hFdnKernelIdeal) (hPre_device_ff_down := hPre_device_ff_down)
    ∧ quiescent_FdnReferenceIdeal (hFdnReferenceIdeal := hFdnReferenceIdeal)
    ∧ quiescent_FdnReferenceIdeal_pre_device_ff_down (hFdnReferenceIdeal := hFdnReferenceIdeal) (hPre_device_ff_down := hPre_device_ff_down)
    ∧ preserves_Kernel_KernelIdeal
    ∧ algebraic_KernelIdeal_ReferenceIdeal (hKernelIdeal := hKernelIdeal) (hReferenceIdeal := hReferenceIdeal)
    ∧ preserves_DownWKernel_DownWKernelIdeal
    ∧ algebraic_DownWKernelIdeal_DownWReferenceIdeal (hDownWKernelIdeal := hDownWKernelIdeal) (hDownWReferenceIdeal := hDownWReferenceIdeal)
    ∧ preserves_DownXKernel_DownXKernelIdeal
    ∧ algebraic_DownXKernelIdeal_DownXReferenceIdeal (hDownXKernelIdeal := hDownXKernelIdeal) (hDownXReferenceIdeal := hDownXReferenceIdeal)
    ∧ preserves_OutWKernel_OutWKernelIdeal
    ∧ algebraic_OutWKernelIdeal_OutWReferenceIdeal (hOutWKernelIdeal := hOutWKernelIdeal) (hOutWReferenceIdeal := hOutWReferenceIdeal)
    ∧ preserves_OutXKernel_OutXKernelIdeal
    ∧ algebraic_OutXKernelIdeal_OutXReferenceIdeal (hOutXKernelIdeal := hOutXKernelIdeal) (hOutXReferenceIdeal := hOutXReferenceIdeal)
    ∧ preserves_UpWKernel_UpWKernelIdeal
    ∧ algebraic_UpWKernelIdeal_UpWReferenceIdeal (hUpWKernelIdeal := hUpWKernelIdeal) (hUpWReferenceIdeal := hUpWReferenceIdeal)
    ∧ preserves_InWKernel_InWKernelIdeal
    ∧ algebraic_InWKernelIdeal_InWReferenceIdeal (hInWKernelIdeal := hInWKernelIdeal) (hInWReferenceIdeal := hInWReferenceIdeal)
    ∧ preserves_UpKernel_UpKernelIdeal
    ∧ algebraic_UpKernelIdeal_UpReferenceIdeal (hUpKernelIdeal := hUpKernelIdeal) (hUpReferenceIdeal := hUpReferenceIdeal)
    ∧ preserves_InKernel_InKernelIdeal
    ∧ algebraic_InKernelIdeal_InReferenceIdeal (hInKernelIdeal := hInKernelIdeal) (hInReferenceIdeal := hInReferenceIdeal)
    ∧ preserves_UpDxKernel_UpDxKernelIdeal
    ∧ algebraic_UpDxKernelIdeal_UpDxReferenceIdeal_pre_finite (hUpDxKernelIdeal := hUpDxKernelIdeal) (hUpDxReferenceIdeal := hUpDxReferenceIdeal) (hPre_finite := hPre_finite)
    ∧ preserves_InDxKernel_InDxKernelIdeal
    ∧ algebraic_InDxKernelIdeal_InDxReferenceIdeal_pre_finite_in (hInDxKernelIdeal := hInDxKernelIdeal) (hInDxReferenceIdeal := hInDxReferenceIdeal) (hPre_finite_in := hPre_finite_in)
    ∧ preserves_OutKernel_OutKernelIdeal
    ∧ algebraic_OutKernelIdeal_OutReferenceIdeal (hOutKernelIdeal := hOutKernelIdeal) (hOutReferenceIdeal := hOutReferenceIdeal)
    ∧ preserves_DownKernel_DownKernelIdeal
    ∧ algebraic_DownKernelIdeal_DownReferenceIdeal (hDownKernelIdeal := hDownKernelIdeal) (hDownReferenceIdeal := hDownReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_ScwKernel_ScwKernelIdeal
    ∧ algebraic_ScwKernelIdeal_ScwReferenceIdeal (hScwKernelIdeal := hScwKernelIdeal) (hScwReferenceIdeal := hScwReferenceIdeal)
    ∧ preserves_FcwKernel_FcwKernelIdeal
    ∧ algebraic_FcwKernelIdeal_FcwReferenceIdeal (hFcwKernelIdeal := hFcwKernelIdeal) (hFcwReferenceIdeal := hFcwReferenceIdeal)
    ∧ preserves_AdaWKernel_AdaWKernelIdeal
    ∧ algebraic_AdaWKernelIdeal_AdaWReferenceIdeal (hAdaWKernelIdeal := hAdaWKernelIdeal) (hAdaWReferenceIdeal := hAdaWReferenceIdeal)
    ∧ preserves_WinKernel_WinKernelIdeal
    ∧ algebraic_WinKernelIdeal_WinReferenceIdeal (hWinKernelIdeal := hWinKernelIdeal) (hWinReferenceIdeal := hWinReferenceIdeal) (hPre_device_w_in := hPre_device_w_in)
    ∧ preserves_WoutKernel_WoutKernelIdeal
    ∧ algebraic_WoutKernelIdeal_WoutReferenceIdeal (hWoutKernelIdeal := hWoutKernelIdeal) (hWoutReferenceIdeal := hWoutReferenceIdeal) (hPre_device_w_out := hPre_device_w_out)
    ∧ preserves_FupKernel_FupKernelIdeal
    ∧ algebraic_FupKernelIdeal_FupReferenceIdeal (hFupKernelIdeal := hFupKernelIdeal) (hFupReferenceIdeal := hFupReferenceIdeal) (hPre_device_ff_up := hPre_device_ff_up)
    ∧ preserves_FdnKernel_FdnKernelIdeal
    ∧ algebraic_FdnKernelIdeal_FdnReferenceIdeal (hFdnKernelIdeal := hFdnKernelIdeal) (hFdnReferenceIdeal := hFdnReferenceIdeal) (hPre_device_ff_down := hPre_device_ff_down)
-- ==== Pre_device_ff_down.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x352x1024 .bf16) (main_arg1 : FVec F S7x352x1024 .bf16) (main_arg2 : FVec F S2x352x1024 .f32) (main_arg3 : FVec F S2x352x1024 .f32) (main_arg4 : FVec F S2x352x1024 .f32) (main_arg5 : IVec S1 32) (main_arg6 : FVec F S2x352x1024 .f32) (main_arg7 : FVec F S2x352x1024 .f32) (main_arg8 : FVec F S2x352x1024 .f32) (main_arg9 : FVec F S2x352x1024 .f32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_device_ff_up.lean ====
abbrev S8x704x1024 : Shape := ⟨3, ![8, 704, 1024]⟩
abbrev S7x704x1024 : Shape := ⟨3, ![7, 704, 1024]⟩
abbrev S2x704x1024 : Shape := ⟨3, ![2, 704, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x704x1024 .bf16) (main_arg1 : FVec F S7x704x1024 .bf16) (main_arg2 : FVec F S2x704x1024 .f32) (main_arg3 : FVec F S2x704x1024 .f32) (main_arg4 : FVec F S2x704x1024 .f32) (main_arg5 : IVec S1 32) (main_arg6 : FVec F S2x704x1024 .f32) (main_arg7 : FVec F S2x704x1024 .f32) (main_arg8 : FVec F S2x704x1024 .f32) (main_arg9 : FVec F S2x704x1024 .f32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_device_w_in.lean ====
abbrev S8x578x1024 : Shape := ⟨3, ![8, 578, 1024]⟩
abbrev S7x578x1024 : Shape := ⟨3, ![7, 578, 1024]⟩
abbrev S578x2x1024 : Shape := ⟨3, ![578, 2, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x578x1024 .bf16) (main_arg1 : FVec F S7x578x1024 .bf16) (main_arg2 : FVec F S8x578x1024 .bf16) (main_arg3 : FVec F S7x578x1024 .bf16) (main_arg4 : FVec F S578x2x1024 .f32) (main_arg5 : FVec F S578x2x1024 .f32) (main_arg6 : FVec F S578x2x1024 .f32) (main_arg7 : IVec S1 32) : IVec S1 1 :=
  let main_c : IVec S_ 32 := constantI S_ 32 0#32
  let main_v0 : IVec S1 32 := broadcastInDim S1 ![] bcast_S_S1 main_c
  let main_v1 : IVec S1 1 := cmpi .sge main_arg7 main_v0
  let main_c_0 : IVec S_ 32 := constantI S_ 32 8#32
  let main_v2 : IVec S1 32 := broadcastInDim S1 ![] bcast_S_S1 main_c_0
  let main_v3 : IVec S1 1 := cmpi .slt main_arg7 main_v2
  let main_v4 : IVec S1 1 := andi main_v1 main_v3
  main_v4
-- ==== Pre_device_w_out.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x256x1024 .bf16) (main_arg1 : FVec F S7x256x1024 .bf16) (main_arg2 : FVec F S2x256x1024 .f32) (main_arg3 : FVec F S2x256x1024 .f32) (main_arg4 : FVec F S2x256x1024 .f32) (main_arg5 : IVec S1 32) (main_arg6 : FVec F S2x256x1024 .f32) (main_arg7 : FVec F S2x256x1024 .f32) (main_arg8 : FVec F S2x256x1024 .f32) (main_arg9 : FVec F S2x256x1024 .f32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_finite.lean ====
abbrev S4096x2816 : Shape := ⟨2, ![4096, 2816]⟩
abbrev S5632x1024 : Shape := ⟨2, ![5632, 1024]⟩
abbrev S4096x1024 : Shape := ⟨2, ![4096, 1024]⟩
abbrev S2x1x1024 : Shape := ⟨3, ![2, 1, 1024]⟩
abbrev S2x1024 : Shape := ⟨2, ![2, 1024]⟩
abbrev S1x1 : Shape := ⟨2, ![1, 1]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_

variable [Facts]

def fn_part1 {F : FTy → Type} [FloatOps F] (main_arg8 : FVec F S2x1x1024 .f32) (main_v16 : IVec S_ 1) (main_v17 : FVec F S2x1024 .f32) : IVec S_ 1 :=
  let main_cst_4 : FVec F S_ .f32 := constant S_ .f32 0x7F800000#32
  let main_v18 : FVec F S2x1024 .f32 := broadcastInDim S2x1024 ![] bcast_S_S2x1024 main_cst_4
  let main_v19 : IVec S2x1024 1 := cmpf .olt main_v17 main_v18
  let main_c_5 : IVec S_ 1 := constantI S_ 1 1#1
  let main_v20 : IVec S_ 1 := (fun x v => Host.reduce IntOp.andi x v reducesTo_S2x1024_S_d0_1 h_S_) main_v19 main_c_5
  let main_v21 : IVec S_ 1 := andi main_v16 main_v20
  let main_v22 : FVec F S2x1x1024 .f32 := Host.absf main_arg8
  let main_cst_6 : FVec F S_ .f32 := constant S_ .f32 0x7F800000#32
  let main_v23 : FVec F S2x1x1024 .f32 := broadcastInDim S2x1x1024 ![] bcast_S_S2x1x1024 main_cst_6
  let main_v24 : IVec S2x1x1024 1 := cmpf .olt main_v22 main_v23
  let main_c_7 : IVec S_ 1 := constantI S_ 1 1#1
  let main_v25 : IVec S_ 1 := (fun x v => Host.reduce IntOp.andi x v reducesTo_S2x1x1024_S_d0_1_2 h_S_) main_v24 main_c_7
  let main_v26 : IVec S_ 1 := andi main_v21 main_v25
  main_v26

def fn {F : FTy → Type} [FloatOps F] (main_arg0 : FVec F S4096x2816 .bf16) (main_arg1 : FVec F S4096x2816 .bf16) (main_arg2 : FVec F S5632x1024 .bf16) (main_arg3 : FVec F S4096x1024 .f32) (main_arg4 : FVec F S4096x1024 .f32) (main_arg5 : FVec F S4096x1024 .f32) (main_arg6 : FVec F S2x1x1024 .f32) (main_arg7 : FVec F S2x1024 .f32) (main_arg8 : FVec F S2x1x1024 .f32) (main_arg9 : FVec F S1x1 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : IVec S_ 1 := andi main_v4 main_v9
  let main_v11 : FVec F S5632x1024 .f32 := (extf .f32 · bitsLt_bf16_f32) main_arg2
  let main_v12 : FVec F S5632x1024 .f32 := Host.absf main_v11
  let main_cst_2 : FVec F S_ .f32 := constant S_ .f32 0x7F800000#32
  let main_v13 : FVec F S5632x1024 .f32 := broadcastInDim S5632x1024 ![] bcast_S_S5632x1024 main_cst_2
  let main_v14 : IVec S5632x1024 1 := cmpf .olt main_v12 main_v13
  let main_c_3 : IVec S_ 1 := constantI S_ 1 1#1
  let main_v15 : IVec S_ 1 := (fun x v => Host.reduce IntOp.andi x v reducesTo_S5632x1024_S_d0_1 h_S_) main_v14 main_c_3
  let main_v16 : IVec S_ 1 := andi main_v10 main_v15
  let main_v17 : FVec F S2x1024 .f32 := Host.absf main_arg7
  fn_part1 (F := F) main_arg8 main_v16 main_v17
-- ==== Pre_finite_in.lean ====
abbrev S4096x5120 : Shape := ⟨2, ![4096, 5120]⟩
abbrev S5120x1024 : Shape := ⟨2, ![5120, 1024]⟩
abbrev S4096x1024 : Shape := ⟨2, ![4096, 1024]⟩
abbrev S2x1024 : Shape := ⟨2, ![2, 1024]⟩
abbrev S2x1x1024 : Shape := ⟨3, ![2, 1, 1024]⟩
abbrev S1x1 : Shape := ⟨2, ![1, 1]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S5120x1024 : S_.BroadcastsInDim S5120x1024 (![] : Fin 0 → Fin S5120x1024.rank)
  reducesTo_S5120x1024_S_d0_1 : S5120x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_

variable [Facts]

def fn_part1 {F : FTy → Type} [FloatOps F] (main_v15 : IVec S_ 1) (main_v16 : FVec F S2x1x1024 .f32) (main_cst_4 : FVec F S_ .f32) : IVec S_ 1 :=
  let main_v17 : FVec F S2x1x1024 .f32 := broadcastInDim S2x1x1024 ![] bcast_S_S2x1x1024 main_cst_4
  let main_v18 : IVec S2x1x1024 1 := cmpf .olt main_v16 main_v17
  let main_c_5 : IVec S_ 1 := constantI S_ 1 1#1
  let main_v19 : IVec S_ 1 := (fun x v => Host.reduce IntOp.andi x v reducesTo_S2x1x1024_S_d0_1_2 h_S_) main_v18 main_c_5
  let main_v20 : IVec S_ 1 := andi main_v15 main_v19
  main_v20

def fn {F : FTy → Type} [FloatOps F] (main_arg0 : FVec F S4096x5120 .bf16) (main_arg1 : FVec F S5120x1024 .bf16) (main_arg2 : FVec F S4096x1024 .f32) (main_arg3 : FVec F S4096x1024 .f32) (main_arg4 : FVec F S2x1024 .f32) (main_arg5 : FVec F S2x1x1024 .f32) (main_arg6 : FVec F S1x1 .f32) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  let main_v5 : FVec F S5120x1024 .f32 := (extf .f32 · bitsLt_bf16_f32) main_arg1
  let main_v6 : FVec F S5120x1024 .f32 := Host.absf main_v5
  let main_cst_0 : FVec F S_ .f32 := constant S_ .f32 0x7F800000#32
  let main_v7 : FVec F S5120x1024 .f32 := broadcastInDim S5120x1024 ![] bcast_S_S5120x1024 main_cst_0
  let main_v8 : IVec S5120x1024 1 := cmpf .olt main_v6 main_v7
  let main_c_1 : IVec S_ 1 := constantI S_ 1 1#1
  let main_v9 : IVec S_ 1 := (fun x v => Host.reduce IntOp.andi x v reducesTo_S5120x1024_S_d0_1 h_S_) main_v8 main_c_1
  let main_v10 : IVec S_ 1 := andi main_v4 main_v9
  let main_v11 : FVec F S2x1024 .f32 := Host.absf main_arg4
  let main_cst_2 : FVec F S_ .f32 := constant S_ .f32 0x7F800000#32
  let main_v12 : FVec F S2x1024 .f32 := broadcastInDim S2x1024 ![] bcast_S_S2x1024 main_cst_2
  let main_v13 : IVec S2x1024 1 := cmpf .olt main_v11 main_v12
  let main_c_3 : IVec S_ 1 := constantI S_ 1 1#1
  let main_v14 : IVec S_ 1 := (fun x v => Host.reduce IntOp.andi x v reducesTo_S2x1024_S_d0_1 h_S_) main_v13 main_c_3
  let main_v15 : IVec S_ 1 := andi main_v10 main_v14
  let main_v16 : FVec F S2x1x1024 .f32 := Host.absf main_arg5
  let main_cst_4 : FVec F S_ .f32 := constant S_ .f32 0x7F800000#32
  fn_part1 (F := F) main_v15 main_v16 main_cst_4
-- ==== Kernel.lean ====
abbrev S4096x2048 : Shape := ⟨2, ![4096, 2048]⟩
abbrev S4096x5120 : Shape := ⟨2, ![4096, 5120]⟩
abbrev S2x8x128x128 : Shape := ⟨4, ![2, 8, 128, 128]⟩
abbrev S2x8x128 : Shape := ⟨3, ![2, 8, 128]⟩
abbrev S2x1024 : Shape := ⟨2, ![2, 1024]⟩
abbrev S2x128x8 : Shape := ⟨3, ![2, 128, 8]⟩
abbrev S8x128x128 : Shape := ⟨3, ![8, 128, 128]⟩
abbrev S128x8 : Shape := ⟨2, ![128, 8]⟩
abbrev S1x1024 : Shape := ⟨2, ![1, 1024]⟩
abbrev S128x1024 : Shape := ⟨2, ![128, 1024]⟩
abbrev S1x8x128x128 : Shape := ⟨4, ![1, 8, 128, 128]⟩
abbrev S1x128x8 : Shape := ⟨3, ![1, 128, 8]⟩
abbrev S128x2048 : Shape := ⟨2, ![128, 2048]⟩
abbrev S128x128 : Shape := ⟨2, ![128, 128]⟩
abbrev S1x1x128x128 : Shape := ⟨4, ![1, 1, 128, 128]⟩
abbrev S1x128x1 : Shape := ⟨3, ![1, 128, 1]⟩
abbrev S128x1 : Shape := ⟨2, ![128, 1]⟩
abbrev S1x128 : Shape := ⟨2, ![1, 128]⟩
abbrev S128 : Shape := ⟨1, ![128]⟩
abbrev S1x128x128 : Shape := ⟨3, ![1, 128, 128]⟩

abbrev nBuf : Space → Nat
  | .hbm => 13
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S2x8x128x128, .f32⟩
  | .hbm, ⟨3, _⟩ => ⟨S2x8x128, .f32⟩
  | .hbm, ⟨4, _⟩ => ⟨S2x1024, .f32⟩
  | .hbm, ⟨5, _⟩ => ⟨S2x1024, .f32⟩
  | .hbm, ⟨6, _⟩ => ⟨S4096x5120, .bf16⟩
  | .hbm, ⟨7, _⟩ => ⟨S2x128x8, .f32⟩
  | .hbm, ⟨8, _⟩ => ⟨S4096x5120, .bf16⟩
  | .hbm, ⟨9, _⟩ => ⟨S8x128x128, .f32⟩
  | .hbm, ⟨10, _⟩ => ⟨S128x8, .f32⟩
  | .hbm, ⟨11, _⟩ => ⟨S1x1024, .f32⟩
  | .hbm, ⟨12, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x8x128x128, .f32⟩
  | .local _ .vmem, ⟨7, _⟩ => ⟨S1x128x8, .f32⟩
  | .local _ .vmem, ⟨8, _⟩ => ⟨S2x1024, .f32⟩
  | .local _ .vmem, ⟨9, _⟩ => ⟨S2x1024, .f32⟩
  | .local _ .vmem, ⟨10, _⟩ => ⟨S128x2048, .bf16⟩
  | .local _ .vmem, ⟨11, _⟩ => ⟨S128x2048, .bf16⟩
  | .local _ .vmem, ⟨12, _⟩ => ⟨S8x128x128, .f32⟩
  | .local _ .vmem, ⟨13, _⟩ => ⟨S128x8, .f32⟩
  | .local _ .vmem, ⟨14, _⟩ => ⟨S1x1024, .f32⟩
  | .local _ .vmem, ⟨15, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x2048 : Shape := ⟨2, ![4096, 2048]⟩
abbrev S4096x5120 : Shape := ⟨2, ![4096, 5120]⟩
abbrev S2x8x128x128 : Shape := ⟨4, ![2, 8, 128, 128]⟩
abbrev S2x8x128 : Shape := ⟨3, ![2, 8, 128]⟩
abbrev S2x1024 : Shape := ⟨2, ![2, 1024]⟩
abbrev S2x2048x2048 : Shape := ⟨3, ![2, 2048, 2048]⟩
abbrev S4096x1024 : Shape := ⟨2, ![4096, 1024]⟩
abbrev S2x2048x1024 : Shape := ⟨3, ![2, 2048, 1024]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x16x128x8x128 : Shape := ⟨5, ![2, 16, 128, 8, 128]⟩
abbrev S128x128 : Shape := ⟨2, ![128, 128]⟩
abbrev S8x2x16x128x128 : Shape := ⟨5, ![8, 2, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4096x3072 : Shape := ⟨2, ![4096, 3072]⟩

abbrev nBuf : Space → Nat
  | .hbm => 192
  | .vmem => 0
  | .smem => 0
  | _ => 0

abbrev hbmTy0_0 (i : Nat) : BufTy := match i % 128 with
  | 0 => ⟨S4096x2048, .f32⟩
  | 1 => ⟨S4096x5120, .f32⟩
  | 2 => ⟨S2x8x128x128, .f32⟩
  | 3 => ⟨S2x8x128, .f32⟩
  | 4 => ⟨S2x1024, .f32⟩
  | 5 => ⟨S2x1024, .f32⟩
  | 6 => ⟨S4096x5120, .bf16⟩
  | 7 => ⟨S4096x2048, .f32⟩
  | 8 => ⟨S2x2048x2048, .f32⟩
  | 9 => ⟨S4096x1024, .f32⟩
  | 10 => ⟨S2x2048x1024, .f32⟩
  | 11 => ⟨S1x1024, .f32⟩
  | 12 => ⟨S1024, .f32⟩
  | 13 => ⟨S1x8x128x128, .f32⟩
  | 14 => ⟨S8x128x128, .f32⟩
  | 15 => ⟨S1x8x128, .f32⟩
  | 16 => ⟨S8x128, .f32⟩
  | 17 => ⟨S1x1024, .f32⟩
  | 18 => ⟨S1024, .f32⟩
  | 19 => ⟨S_, .f32⟩
  | 20 => ⟨S2x2048x2048, .f32⟩
  | 21 => ⟨S2x2048x2048, .f32⟩
  | 22 => ⟨S2x2048x2048, .f32⟩
  | 23 => ⟨S_, .f32⟩
  | 24 => ⟨S2x2048x2048, .f32⟩
  | 25 => ⟨S2x2048x2048, .f32⟩
  | 26 => ⟨S2x2048x2048, .f32⟩
  | 27 => ⟨S2x2048x2048, .f32⟩
  | 28 => ⟨S2x2048x2048, .f32⟩
  | 29 => ⟨S2x2048x2048, .f32⟩
  | 30 => ⟨S2x2048x2048, .f32⟩
  | 31 => ⟨S2x2048x1024, .f32⟩
  | 32 => ⟨S2x2048x1024, .f32⟩
  | 33 => ⟨S2x2048x1024, .f32⟩
  | 34 => ⟨S_, .f32⟩
  | 35 => ⟨S2x2048, .f32⟩
  | 36 => ⟨S2x2048x1, .f32⟩
  | 37 => ⟨S_, .f32⟩
  | 38 => ⟨S2x2048x1, .f32⟩
  | 39 => ⟨S2x2048x1, .f32⟩
  | 40 => ⟨S_, .f32⟩
  | 41 => ⟨S2x2048x1, .f32⟩
  | 42 => ⟨S2x2048x1, .f32⟩
  | 43 => ⟨S2x2048x1, .f32⟩
  | 44 => ⟨S2x2048x1, .f32⟩
  | 45 => ⟨S_, .f32⟩
  | 46 => ⟨S2x2048x1, .f32⟩
  | 47 => ⟨S2x2048x1, .f32⟩
  | 48 => ⟨S2x2048x1024, .f32⟩
  | 49 => ⟨S2x2048x1024, .f32⟩
  | 50 => ⟨S1x1x1024, .f32⟩
  | 51 => ⟨S2x2048x1024, .f32⟩
  | 52 => ⟨S2x2048x1024, .f32⟩
  | 53 => ⟨S2x16x128x8x128, .f32⟩
  | 54 => ⟨S_, .i1⟩
  | 55 => ⟨S128x128, .i1⟩
  | 56 => ⟨S128x128, .i32⟩
  | 57 => ⟨S_, .i32⟩
  | 58 => ⟨S128x128, .i32⟩
  | 59 => ⟨S128x128, .i32⟩
  | 60 => ⟨S128x128, .i32⟩
  | 61 => ⟨S128x128, .i1⟩
  | 62 => ⟨S_, .i1⟩
  | 63 => ⟨S128x128, .i1⟩
  | 64 => ⟨S128x128, .i1⟩
  | 65 => ⟨S_, .f32⟩
  | 66 => ⟨S8x128x128, .f32⟩
  | 67 => ⟨S8x128x128, .i1⟩
  | 68 => ⟨S8x128x128, .f32⟩
  | 69 => ⟨S_, .f32⟩
  | 70 => ⟨S8x128x128, .f32⟩
  | 71 => ⟨S8x2x16x128x128, .f32⟩
  | 72 => ⟨S2x16x128x8x128, .f32⟩
  | 73 => ⟨S128x8, .f32⟩
  | 74 => ⟨S128x8x1, .f32⟩
  | 75 => ⟨S1x1x128x8x1, .f32⟩
  | 76 => ⟨S2x16x128x8x128, .f32⟩
  | 77 => ⟨S2x16x128x8x128, .f32⟩
  | 78 => ⟨S2x2048x1024, .f32⟩
  | 79 => ⟨S2x2048x1024, .f32⟩
  | 80 => ⟨S2x2048x1024, .f32⟩
  | 81 => ⟨S_, .f32⟩
  | 82 => ⟨S2x2048, .f32⟩
  | 83 => ⟨S2x2048x1, .f32⟩
  | 84 => ⟨S_, .f32⟩
  | 85 => ⟨S2x2048x1, .f32⟩
  | 86 => ⟨S2x2048x1, .f32⟩
  | 87 => ⟨S_, .f32⟩
  | 88 => ⟨S2x2048x1, .f32⟩
  | 89 => ⟨S2x2048x1, .f32⟩
  | 90 => ⟨S2x2048x1, .f32⟩
  | 91 => ⟨S2x2048x1, .f32⟩
  | 92 => ⟨S_, .f32⟩
  | 93 => ⟨S2x2048x1, .f32⟩
  | 94 => ⟨S2x2048x1, .f32⟩
  | 95 => ⟨S2x2048x1024, .f32⟩
  | 96 => ⟨S2x2048x1024, .f32⟩
  | 97 => ⟨S1x1x1024, .f32⟩
  | 98 => ⟨S2x2048x1024, .f32⟩
  | 99 => ⟨S2x2048x1024, .f32⟩
  | 100 => ⟨S2x2048x1024, .f32⟩
  | 101 => ⟨S_, .f32⟩
  | 102 => ⟨S1024, .f32⟩
  | 103 => ⟨S1x1x1024, .f32⟩
  | 104 => ⟨S2x2048x1024, .f32⟩
  | 105 => ⟨S2x2048x1024, .f32⟩
  | 106 => ⟨S_, .f32⟩
  | 107 => ⟨S1024, .f32⟩
  | 108 => ⟨S2x2048x1024, .f32⟩
  | 109 => ⟨S_, .f32⟩
  | 110 => ⟨S2x2048, .f32⟩
  | 111 => ⟨S2x2048x1, .f32⟩
  | 112 => ⟨S2x2048x1024, .f32⟩
  | 113 => ⟨S2x2048x1024, .f32⟩
  | 114 => ⟨S2x2048x1, .f32⟩
  | 115 => ⟨S_, .f32⟩
  | 116 => ⟨S2x2048x1, .f32⟩
  | 117 => ⟨S2x2048x1, .f32⟩
  | 118 => ⟨S_, .f32⟩
  | 119 => ⟨S2x2048, .f32⟩
  | 120 => ⟨S2x2048x1024, .f32⟩
  | 121 => ⟨S2x2048x1024, .f32⟩
  | 122 => ⟨S2x2048x1024, .f32⟩
  | 123 => ⟨S2x2048x1024, .f32⟩
  | 124 => ⟨S2x2048x1024, .f32⟩
  | 125 => ⟨S2x2048x1024, .f32⟩
  | 126 => ⟨S2x2048x1024, .f32⟩
  | 127 => ⟨S2x16x128x8x128, .f32⟩
  | _ => ⟨S4096x2048, .f32⟩

abbrev hbmTy0_1 (i : Nat) : BufTy := match i % 128 with
  | 0 => ⟨S_, .f32⟩
  | 1 => ⟨S128x8, .f32⟩
  | 2 => ⟨S1x1x128x8x1, .f32⟩
  | 3 => ⟨S_, .f32⟩
  | 4 => ⟨S128x8, .f32⟩
  | 5 => ⟨S128x8x1, .f32⟩
  | 6 => ⟨S_, .f32⟩
  | 7 => ⟨S128x8, .f32⟩
  | 8 => ⟨S8x128, .f32⟩
  | 9 => ⟨S8x2x16x128x128, .f32⟩
  | 10 => ⟨S8x128x128, .f32⟩
  | 11 => ⟨S8x2x16x128x128, .f32⟩
  | 12 => ⟨S2x16x128x8x128, .f32⟩
  | 13 => ⟨S_, .f32⟩
  | 14 => ⟨S8x128x128, .f32⟩
  | 15 => ⟨S8x128x128, .f32⟩
  | 16 => ⟨S2x2048x1024, .f32⟩
  | 17 => ⟨S2x2048x1024, .f32⟩
  | 18 => ⟨S_, .f32⟩
  | 19 => ⟨S1024, .f32⟩
  | 20 => ⟨S1x1x1024, .f32⟩
  | 21 => ⟨S2x2048x1024, .f32⟩
  | 22 => ⟨S2x2048x1024, .f32⟩
  | 23 => ⟨S_, .f32⟩
  | 24 => ⟨S1024, .f32⟩
  | 25 => ⟨S2x2048x1024, .f32⟩
  | 26 => ⟨S_, .f32⟩
  | 27 => ⟨S2x2048, .f32⟩
  | 28 => ⟨S2x2048x1, .f32⟩
  | 29 => ⟨S2x2048x1024, .f32⟩
  | 30 => ⟨S2x2048x1024, .f32⟩
  | 31 => ⟨S2x2048x1, .f32⟩
  | 32 => ⟨S_, .f32⟩
  | 33 => ⟨S2x2048x1, .f32⟩
  | 34 => ⟨S2x2048x1, .f32⟩
  | 35 => ⟨S_, .f32⟩
  | 36 => ⟨S2x2048, .f32⟩
  | 37 => ⟨S2x2048x1024, .f32⟩
  | 38 => ⟨S2x2048x1024, .f32⟩
  | 39 => ⟨S2x2048x1024, .f32⟩
  | 40 => ⟨S2x2048x1024, .f32⟩
  | 41 => ⟨S2x2048x1024, .f32⟩
  | 42 => ⟨S2x2048x2048, .f32⟩
  | 43 => ⟨S2x2048x2048, .f32⟩
  | 44 => ⟨S2x2048x2048, .f32⟩
  | 45 => ⟨S_, .f32⟩
  | 46 => ⟨S2x2048x2048, .f32⟩
  | 47 => ⟨S2x2048x2048, .f32⟩
  | 48 => ⟨S2x2048x2048, .f32⟩
  | 49 => ⟨S_, .f32⟩
  | 50 => ⟨S2x2048x2048, .f32⟩
  | 51 => ⟨S2x2048x2048, .f32⟩
  | 52 => ⟨S2x2048x2048, .f32⟩
  | 53 => ⟨S_, .f32⟩
  | 54 => ⟨S2x2048x2048, .f32⟩
  | 55 => ⟨S2x2048x2048, .f32⟩
  | 56 => ⟨S2x2048x2048, .f32⟩
  | 57 => ⟨S4096x2048, .f32⟩
  | 58 => ⟨S4096x2048, .bf16⟩
  | 59 => ⟨S4096x3072, .bf16⟩
  | 60 => ⟨S4096x5120, .bf16⟩
  | 61 => ⟨S128x8, .f32⟩
  | 62 => ⟨S1x1024, .f32⟩
  | 63 => ⟨S1x1024, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_v41 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44_1 : Ref sig .tc := ⟨.hbm, 67, rfl⟩
abbrev main_v44_0 : Ref sig .tc := ⟨.hbm, 68, rfl⟩
abbrev main_call1_cst : Ref sig .tc := ⟨.hbm, 69, rfl⟩
abbrev main_v44_2 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_13 : Ref sig .tc := ⟨.hbm, 115, rfl⟩
abbrev main_v82 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_15 : Ref sig .tc := ⟨.hbm, 128, rfl⟩
abbrev main_v93 : Ref sig .tc := ⟨.hbm, 129, rfl⟩
abbrev main_v94 : Ref sig .tc := ⟨.hbm, 130, rfl⟩
abbrev main_cst_16 : Ref sig .tc := ⟨.hbm, 131, rfl⟩
abbrev main_v95 : Ref sig .tc := ⟨.hbm, 132, rfl⟩
abbrev main_v96 : Ref sig .tc := ⟨.hbm, 133, rfl⟩
abbrev main_cst_17 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call2_cst : Ref sig .tc := ⟨.hbm, 141, rfl⟩
abbrev main_call2_v0 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_18 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_21 : Ref sig .tc := ⟨.hbm, 160, rfl⟩
abbrev main_v117 : Ref sig .tc := ⟨.hbm, 161, rfl⟩
abbrev main_v118 : Ref sig .tc := ⟨.hbm, 162, rfl⟩
abbrev main_cst_22 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_23 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_24 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_25 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩

abbrev nD : Nat := 1
abbrev τ : Topo := Topo.v7x

variable {F : FTy → Type} [FloatOps F]
-- ==== DownWKernel.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .bf16⟩
  | .hbm, ⟨3, _⟩ => ⟨S2816x1024, .bf16⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownXKernel.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .bf16⟩
  | .hbm, ⟨3, _⟩ => ⟨S4096x2816, .bf16⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWKernel.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .bf16⟩
  | .hbm, ⟨3, _⟩ => ⟨S2048x1024, .bf16⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutXKernel.lean ====
abbrev S4096x1024 : Shape := ⟨2, ![4096, 1024]⟩
abbrev S2048x1024 : Shape := ⟨2, ![2048, 1024]⟩
abbrev S1x1 : Shape := ⟨2, ![1, 1]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S1x1, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXReferenceIdeal.lean ====
abbrev S4096x1024 : Shape := ⟨2, ![4096, 1024]⟩
abbrev S2048x1024 : Shape := ⟨2, ![2048, 1024]⟩
abbrev S1x1 : Shape := ⟨2, ![1, 1]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S1x1, .f32⟩
  | .hbm, ⟨3, _⟩ => ⟨S_, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UpWKernel.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg2 : BitVec 32 := BitVec.ofNat 32 (i 2).val
  let c1_i32_10 : BitVec 32 := 1#32
  let v21 : BitVec 1 := Scalar.cmpi .eq arg2 c1_i32_10
  let v22 : BitVec 32 := Scalar.extui v21
  let c0_i32_11 : BitVec 32 := 0#32
  let v23 : BitVec 1 := Scalar.cmpi .ne v22 c0_i32_11
  v23

def k0_cond5 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond8 (i : grid0.Coords) : BitVec 1 :=
  let arg2 : BitVec 32 := BitVec.ofNat 32 (i 2).val
  let c1_i32_10 : BitVec 32 := 1#32
  let v21 : BitVec 1 := Scalar.cmpi .eq arg2 c1_i32_10
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpWReferenceIdeal.lean ====
abbrev S4096x2816 : Shape := ⟨2, ![4096, 2816]⟩
abbrev S4096x1024 : Shape := ⟨2, ![4096, 1024]⟩
abbrev S4096x5632 : Shape := ⟨2, ![4096, 5632]⟩
abbrev S_ : Shape := ⟨0, ![]⟩
abbrev S5632x1024 : Shape := ⟨2, ![5632, 1024]⟩
abbrev S1024x5632 : Shape := ⟨2, ![1024, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x5632, .bf16⟩
  | .hbm, ⟨4, _⟩ => ⟨S_, .bf16⟩
  | .hbm, ⟨5, _⟩ => ⟨S5632x1024, .bf16⟩
  | .hbm, ⟨6, _⟩ => ⟨S1024x5632, .bf16⟩
  | .hbm, ⟨7, _⟩ => ⟨S4096x1024, .f32⟩
  | .hbm, ⟨8, _⟩ => ⟨S1024x5632, .f32⟩
  | .hbm, ⟨9, _⟩ => ⟨S4096x5632, .f32⟩
  | .hbm, ⟨10, _⟩ => ⟨S4096x5632, .f32⟩
  | .hbm, ⟨11, _⟩ => ⟨S5632x1024, .f32⟩
  | .hbm, ⟨12, _⟩ => ⟨S1024x5632, .f32⟩
  | .hbm, ⟨13, _⟩ => ⟨S1024x5632, .bf16⟩
  | .hbm, ⟨14, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InWKernel.lean ====
abbrev S4096x5120 : Shape := ⟨2, ![4096, 5120]⟩
abbrev S4096x1024 : Shape := ⟨2, ![4096, 1024]⟩
abbrev S1x1 : Shape := ⟨2, ![1, 1]⟩
abbrev S5120x1024 : Shape := ⟨2, ![5120, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S1x1, .f32⟩
  | .hbm, ⟨3, _⟩ => ⟨S5120x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWReferenceIdeal.lean ====
abbrev S4096x5120 : Shape := ⟨2, ![4096, 5120]⟩
abbrev S4096x1024 : Shape := ⟨2, ![4096, 1024]⟩
abbrev S1x1 : Shape := ⟨2, ![1, 1]⟩
abbrev S_ : Shape := ⟨0, ![]⟩
abbrev S5120x1024 : Shape := ⟨2, ![5120, 1024]⟩
abbrev S1024x5120 : Shape := ⟨2, ![1024, 5120]⟩

abbrev nBuf : Space → Nat
  | .hbm => 14
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S1x1, .f32⟩
  | .hbm, ⟨3, _⟩ => ⟨S_, .bf16⟩
  | .hbm, ⟨4, _⟩ => ⟨S5120x1024, .bf16⟩
  | .hbm, ⟨5, _⟩ => ⟨S1024x5120, .bf16⟩
  | .hbm, ⟨6, _⟩ => ⟨S4096x1024, .f32⟩
  | .hbm, ⟨7, _⟩ => ⟨S1024x5120, .f32⟩
  | .hbm, ⟨8, _⟩ => ⟨S4096x5120, .f32⟩
  | .hbm, ⟨9, _⟩ => ⟨S4096x5120, .f32⟩
  | .hbm, ⟨10, _⟩ => ⟨S5120x1024, .f32⟩
  | .hbm, ⟨11, _⟩ => ⟨S1024x5120, .f32⟩
  | .hbm, ⟨12, _⟩ => ⟨S1024x5120, .bf16⟩
  | .hbm, ⟨13, _⟩ => ⟨S5120x1024, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== UpKernel.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S2816x1024 : Shape := ⟨2, ![2816, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x2816, .bf16⟩
  | .local _ .vmem, ⟨5, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S1024x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InKernel.lean ====
abbrev S4096x1024 : Shape := ⟨2, ![4096, 1024]⟩
abbrev S5120x1024 : Shape := ⟨2, ![5120, 1024]⟩
abbrev S4096x5120 : Shape := ⟨2, ![4096, 5120]⟩
abbrev S1024x1024 : Shape := ⟨2, ![1024, 1024]⟩
abbrev S2560x1024 : Shape := ⟨2, ![2560, 1024]⟩
abbrev S1024x2560 : Shape := ⟨2, ![1024, 2560]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5120x1024, .bf16⟩
  | .hbm, ⟨2, _⟩ => ⟨S4096x5120, .f32⟩
  | .local _ .vmem, ⟨0, _⟩ => ⟨S1024x1024, .bf16⟩
  | .local _ .vmem, ⟨1, _⟩ => ⟨S1024x1024, .bf16⟩
  | .local _ .vmem, ⟨2, _⟩ => ⟨S2560x1024, .bf16⟩
  | .local _ .vmem, ⟨3, _⟩ => ⟨S2560x1024, .bf16⟩
  | .local _ .vmem, ⟨4, _⟩ => ⟨S1024x2560, .f32⟩
  | .local _ .vmem, ⟨5, _⟩ => ⟨S1024x2560, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x1024 : Shape := ⟨2, ![4096, 1024]⟩
abbrev S5120x1024 : Shape := ⟨2, ![5120, 1024]⟩
abbrev S1024x5120 : Shape := ⟨2, ![1024, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5120x1024, .bf16⟩
  | .hbm, ⟨2, _⟩ => ⟨S1024x5120, .bf16⟩
  | .hbm, ⟨3, _⟩ => ⟨S4096x1024, .f32⟩
  | .hbm, ⟨4, _⟩ => ⟨S1024x5120, .f32⟩
  | .hbm, ⟨5, _⟩ => ⟨S4096x5120, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDxKernel.lean ====
abbrev S4096x2816 : Shape := ⟨2, ![4096, 2816]⟩
abbrev S5632x1024 : Shape := ⟨2, ![5632, 1024]⟩
abbrev S4096x1024 : Shape := ⟨2, ![4096, 1024]⟩
abbrev S2x1x1024 : Shape := ⟨3, ![2, 1, 1024]⟩
abbrev S2x1024 : Shape := ⟨2, ![2, 1024]⟩
abbrev S1x1 : Shape := ⟨2, ![1, 1]⟩
abbrev S1x1024 : Shape := ⟨2, ![1, 1024]⟩
abbrev S512x2816 : Shape := ⟨2, ![512, 2816]⟩
abbrev S2816x1024 : Shape := ⟨2, ![2816, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 29
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S1x1, .f32⟩
  | .hbm, ⟨10, _⟩ => ⟨S4096x1024, .f32⟩
  | .hbm, ⟨11, _⟩ => ⟨S4096x1024, .bf16⟩
  | .hbm, ⟨12, _⟩ => ⟨S2x1x1024, .f32⟩
  | .hbm, ⟨13, _⟩ => ⟨S1x1024, .f32⟩
  | .hbm, ⟨14, _⟩ => ⟨S2x1x1024, .f32⟩
  | .hbm, ⟨15, _⟩ => ⟨S2x1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S2x1024, .f32⟩
  | .local _ .vmem, ⟨15, _⟩ => ⟨S1x1x1024, .f32⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg1 : BitVec 32 := BitVec.ofNat 32 (i 1).val
  let c1_i32_11 : BitVec 32 := 1#32
  let v21 : BitVec 1 := Scalar.cmpi .eq arg1 c1_i32_11
  let v22 : BitVec 32 := Scalar.extui v21
  let c0_i32_12 : BitVec 32 := 0#32
  let v23 : BitVec 1 := Scalar.cmpi .ne v22 c0_i32_12
  v23

def k0_cond7 (i : grid0.Coords) : BitVec 1 :=
  let arg1 : BitVec 32 := BitVec.ofNat 32 (i 1).val
  let c1_i32_1 : BitVec 32 := 1#32
  let v5 : BitVec 1 := Scalar.cmpi .sge arg1 c1_i32_1
  let c2_i32 : BitVec 32 := 2#32
  let v6 : BitVec 1 := Scalar.cmpi .slt arg1 c2_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond10 (i : grid0.Coords) : BitVec 1 :=
  let arg1 : BitVec 32 := BitVec.ofNat 32 (i 1).val
  let c1_i32_11 : BitVec 32 := 1#32
  let v21 : BitVec 1 := Scalar.cmpi .eq arg1 c1_i32_11
  let v22 : BitVec 32 := Scalar.extui v21
  let c0_i32_12 : BitVec 32 := 0#32
  let v23 : BitVec 1 := Scalar.cmpi .ne v22 c0_i32_12
  v23

def k0_cond6 (i : grid0.Coords) : BitVec 1 :=
  let arg0 : BitVec 32 := BitVec.ofNat 32 (i 0).val
  let c4_i32 : BitVec 32 := 4#32
  let c0_i32_33 : BitVec 32 := 0#32
  let v61 : BitVec 1 := Scalar.cmpi .eq c4_i32 c0_i32_33
  let c1_i32_34 : BitVec 32 := 1#32
  let v62 : BitVec 32 := Scalar.select v61 c1_i32_34 c4_i32
  let v63 : BitVec 32 := Scalar.remsi arg0 v62
  let c0_i32_36 : BitVec 32 := 0#32
  let v65 : BitVec 1 := Scalar.cmpi .slt v63 c0_i32_36
  let c0_i32_37 : BitVec 32 := 0#32
  let v66 : BitVec 1 := Scalar.cmpi .slt v62 c0_i32_37
  let v67 : BitVec 1 := Scalar.xori v65 v66
  let c0_i32_35 : BitVec 32 := 0#32
  let v64 : BitVec 1 := Scalar.cmpi .ne v63 c0_i32_35
  let v68 : BitVec 1 := Scalar.andi v67 v64
  let v69 : BitVec 32 := Scalar.addi v63 v62
  let v70 : BitVec 32 := Scalar.select v68 v69 v63
  let c0_i32_38 : BitVec 32 := 0#32
  let v71 : BitVec 1 := Scalar.cmpi .eq v70 c0_i32_38
  let v72 : BitVec 32 := Scalar.extui v71
  let c0_i32_39 : BitVec 32 := 0#32
  let v73 : BitVec 1 := Scalar.cmpi .ne v72 c0_i32_39
  v73

def k0_cond12 (i : grid0.Coords) : BitVec 1 :=
  let arg0 : BitVec 32 := BitVec.ofNat 32 (i 0).val
  let c4_i32 : BitVec 32 := 4#32
  let c0_i32_33 : BitVec 32 := 0#32
  let v61 : BitVec 1 := Scalar.cmpi .eq c4_i32 c0_i32_33
  let c1_i32_34 : BitVec 32 := 1#32
  let v62 : BitVec 32 := Scalar.select v61 c1_i32_34 c4_i32
  let v63 : BitVec 32 := Scalar.remsi arg0 v62
  let c0_i32_36 : BitVec 32 := 0#32
  let v65 : BitVec 1 := Scalar.cmpi .slt v63 c0_i32_36
  let c0_i32_37 : BitVec 32 := 0#32
  let v66 : BitVec 1 := Scalar.cmpi .slt v62 c0_i32_37
  let v67 : BitVec 1 := Scalar.xori v65 v66
  let c0_i32_35 : BitVec 32 := 0#32
  let v64 : BitVec 1 := Scalar.cmpi .ne v63 c0_i32_35
  let v68 : BitVec 1 := Scalar.andi v67 v64
  let v69 : BitVec 32 := Scalar.addi v63 v62
  let v70 : BitVec 32 := Scalar.select v68 v69 v63
  let c0_i32_38 : BitVec 32 := 0#32
  let v71 : BitVec 1 := Scalar.cmpi .eq v70 c0_i32_38
  let v72 : BitVec 32 := Scalar.extui v71
  let c0_i32_39 : BitVec 32 := 0#32
  let v73 : BitVec 1 := Scalar.cmpi .ne v72 c0_i32_39
  v73

def k0_cond5 (i : grid0.Coords) : BitVec 1 :=
  let arg0 : BitVec 32 := BitVec.ofNat 32 (i 0).val
  let c0_i32_31 : BitVec 32 := 0#32
  let v58 : BitVec 1 := Scalar.cmpi .eq arg0 c0_i32_31
  let v59 : BitVec 32 := Scalar.extui v58
  let c0_i32_32 : BitVec 32 := 0#32
  let v60 : BitVec 1 := Scalar.cmpi .ne v59 c0_i32_32
  v60

def k0_cond11 (i : grid0.Coords) : BitVec 1 :=
  let arg0 : BitVec 32 := BitVec.ofNat 32 (i 0).val
  let c0_i32_31 : BitVec 32 := 0#32
  let v58 : BitVec 1 := Scalar.cmpi .eq arg0 c0_i32_31
  let v59 : BitVec 32 := Scalar.extui v58
  let c0_i32_32 : BitVec 32 := 0#32
  let v60 : BitVec 1 := Scalar.cmpi .ne v59 c0_i32_32
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== UpDxReferenceIdeal.lean ====
abbrev S4096x2816 : Shape := ⟨2, ![4096, 2816]⟩
abbrev S5632x1024 : Shape := ⟨2, ![5632, 1024]⟩
abbrev S4096x1024 : Shape := ⟨2, ![4096, 1024]⟩
abbrev S2x1x1024 : Shape := ⟨3, ![2, 1, 1024]⟩
abbrev S2x1024 : Shape := ⟨2, ![2, 1024]⟩
abbrev S1x1 : Shape := ⟨2, ![1, 1]⟩
abbrev S4096x5632 : Shape := ⟨2, ![4096, 5632]⟩
abbrev S_ : Shape := ⟨0, ![]⟩
abbrev S1024x5632 : Shape := ⟨2, ![1024, 5632]⟩
abbrev S2x2048x1024 : Shape := ⟨3, ![2, 2048, 1024]⟩
abbrev S1x1024 : Shape := ⟨2, ![1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S1x1, .f32⟩
  | .hbm, ⟨10, _⟩ => ⟨S4096x5632, .bf16⟩
  | .hbm, ⟨11, _⟩ => ⟨S_, .f32⟩
  | .hbm, ⟨12, _⟩ => ⟨S4096x1024, .f32⟩
  | .hbm, ⟨13, _⟩ => ⟨S1024x5632, .bf16⟩
  | .hbm, ⟨14, _⟩ => ⟨S1024x5632, .f32⟩
  | .hbm, ⟨15, _⟩ => ⟨S4096x5632, .f32⟩
  | .hbm, ⟨16, _⟩ => ⟨S4096x5632, .f32⟩
  | .hbm, ⟨17, _⟩ => ⟨S4096x1024, .f32⟩
  | .hbm, ⟨18, _⟩ => ⟨S2x2048x1024, .f32⟩
  | .hbm, ⟨19, _⟩ => ⟨S2x2048x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S2x1x1024, .f32⟩
  | .hbm, ⟨24, _⟩ => ⟨S2x2048x1024, .f32⟩
  | .hbm, ⟨25, _⟩ => ⟨S_, .f32⟩
  | .hbm, ⟨26, _⟩ => ⟨S2x2048, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S2x1024, .f32⟩
  | .hbm, ⟨53, _⟩ => ⟨S2x1x1024, .f32⟩
  | .hbm, ⟨54, _⟩ => ⟨S2x2048x1024, .f32⟩
  | .hbm, ⟨55, _⟩ => ⟨S_, .f32⟩
  | .hbm, ⟨56, _⟩ => ⟨S2x1024, .f32⟩
  | .hbm, ⟨57, _⟩ => ⟨S2x1x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S2x2048x1024, .f32⟩
  | .hbm, ⟨69, _⟩ => ⟨S_, .f32⟩
  | .hbm, ⟨70, _⟩ => ⟨S2x2048, .f32⟩
  | .hbm, ⟨71, _⟩ => ⟨S2x2048x1, .f32⟩
  | .hbm, ⟨72, _⟩ => ⟨S2x2048x1024, .f32⟩
  | .hbm, ⟨73, _⟩ => ⟨S2x2048x1024, .f32⟩
  | .hbm, ⟨74, _⟩ => ⟨S2x2048x1, .f32⟩
  | .hbm, ⟨75, _⟩ => ⟨S_, .f32⟩
  | .hbm, ⟨76, _⟩ => ⟨S2x2048x1, .f32⟩
  | .hbm, ⟨77, _⟩ => ⟨S2x2048x1, .f32⟩
  | .hbm, ⟨78, _⟩ => ⟨S_, .f32⟩
  | .hbm, ⟨79, _⟩ => ⟨S2x2048, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S_, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S2x2048x1024, .f32⟩
  | .hbm, ⟨94, _⟩ => ⟨S2x2048x1024, .f32⟩
  | .hbm, ⟨95, _⟩ => ⟨S2x2048x1024, .f32⟩
  | .hbm, ⟨96, _⟩ => ⟨S_, .f32⟩
  | .hbm, ⟨97, _⟩ => ⟨S2x1024, .f32⟩
  | .hbm, ⟨98, _⟩ => ⟨S2x1x1024, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== InDxKernel.lean ====
abbrev S4096x5120 : Shape := ⟨2, ![4096, 5120]⟩
abbrev S5120x1024 : Shape := ⟨2, ![5120, 1024]⟩
abbrev S4096x1024 : Shape := ⟨2, ![4096, 1024]⟩
abbrev S2x1024 : Shape := ⟨2, ![2, 1024]⟩
abbrev S2x1x1024 : Shape := ⟨3, ![2, 1, 1024]⟩
abbrev S1x1 : Shape := ⟨2, ![1, 1]⟩
abbrev S1x1024 : Shape := ⟨2, ![1, 1024]⟩
abbrev S512x2560 : Shape := ⟨2, ![512, 2560]⟩
abbrev S2560x1024 : Shape := ⟨2, ![2560, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x5120, .bf16⟩
  | .hbm, ⟨1, _⟩ => ⟨S5120x1024, .bf16⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S2x1x1024, .f32⟩
  | .hbm, ⟨6, _⟩ => ⟨S1x1, .f32⟩
  | .hbm, ⟨7, _⟩ => ⟨S4096x1024, .f32⟩
  | .hbm, ⟨8, _⟩ => ⟨S1x1024, .f32⟩
  | .hbm, ⟨9, _⟩ => ⟨S2x1x1024, .f32⟩
  | .hbm, ⟨10, _⟩ => ⟨S2x1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S2560x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_6 : BitVec 32 := 1#32
  let v11 : BitVec 1 := Scalar.cmpi .eq arg1 c1_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_27 : BitVec 32 := 0#32
  let v48 : BitVec 1 := Scalar.cmpi .eq arg0 c0_i32_27
  let v49 : BitVec 32 := Scalar.extui v48
  let c0_i32_28 : BitVec 32 := 0#32
  let v50 : BitVec 1 := Scalar.cmpi .ne v49 c0_i32_28
  v50

def k0_cond5 (i : grid0.Coords) : BitVec 1 :=
  let arg0 : BitVec 32 := BitVec.ofNat 32 (i 0).val
  let c4_i32 : BitVec 32 := 4#32
  let c0_i32_29 : BitVec 32 := 0#32
  let v51 : BitVec 1 := Scalar.cmpi .eq c4_i32 c0_i32_29
  let c1_i32_30 : BitVec 32 := 1#32
  let v52 : BitVec 32 := Scalar.select v51 c1_i32_30 c4_i32
  let v53 : BitVec 32 := Scalar.remsi arg0 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c0_i32_34 : BitVec 32 := 0#32
  let v61 : BitVec 1 := Scalar.cmpi .eq v60 c0_i32_34
  let v62 : BitVec 32 := Scalar.extui v61
  let c0_i32_35 : BitVec 32 := 0#32
  let v63 : BitVec 1 := Scalar.cmpi .ne v62 c0_i32_35
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InDxReferenceIdeal.lean ====
abbrev S4096x5120 : Shape := ⟨2, ![4096, 5120]⟩
abbrev S5120x1024 : Shape := ⟨2, ![5120, 1024]⟩
abbrev S4096x1024 : Shape := ⟨2, ![4096, 1024]⟩
abbrev S2x1024 : Shape := ⟨2, ![2, 1024]⟩
abbrev S2x1x1024 : Shape := ⟨3, ![2, 1, 1024]⟩
abbrev S1x1 : Shape := ⟨2, ![1, 1]⟩
abbrev S_ : Shape := ⟨0, ![]⟩
abbrev S1024x5120 : Shape := ⟨2, ![1024, 5120]⟩
abbrev S2x2048x1024 : Shape := ⟨3, ![2, 2048, 1024]⟩
abbrev S1x1024 : Shape := ⟨2, ![1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S5120x1024, .bf16⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S2x1x1024, .f32⟩
  | .hbm, ⟨6, _⟩ => ⟨S1x1, .f32⟩
  | .hbm, ⟨7, _⟩ => ⟨S_, .f32⟩
  | .hbm, ⟨8, _⟩ => ⟨S4096x1024, .f32⟩
  | .hbm, ⟨9, _⟩ => ⟨S1024x5120, .bf16⟩
  | .hbm, ⟨10, _⟩ => ⟨S1024x5120, .f32⟩
  | .hbm, ⟨11, _⟩ => ⟨S4096x5120, .f32⟩
  | .hbm, ⟨12, _⟩ => ⟨S4096x5120, .f32⟩
  | .hbm, ⟨13, _⟩ => ⟨S4096x1024, .f32⟩
  | .hbm, ⟨14, _⟩ => ⟨S2x2048x1024, .f32⟩
  | .hbm, ⟨15, _⟩ => ⟨S2x2048x1024, .f32⟩
  | .hbm, ⟨16, _⟩ => ⟨S1x1024, .f32⟩
  | .hbm, ⟨17, _⟩ => ⟨S1024, .f32⟩
  | .hbm, ⟨18, _⟩ => ⟨S_, .f32⟩
  | .hbm, ⟨19, _⟩ => ⟨S2x1x1024, .f32⟩
  | .hbm, ⟨20, _⟩ => ⟨S2x2048x1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x1x1024, .f32⟩
  | .hbm, ⟨42, _⟩ => ⟨S2x1x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S2x2048x1024, .f32⟩
  | .hbm, ⟨51, _⟩ => ⟨S_, .f32⟩
  | .hbm, ⟨52, _⟩ => ⟨S2x1024, .f32⟩
  | .hbm, ⟨53, _⟩ => ⟨S2x1x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S2x2048x1024, .f32⟩
  | .hbm, ⟨65, _⟩ => ⟨S_, .f32⟩
  | .hbm, ⟨66, _⟩ => ⟨S2x2048, .f32⟩
  | .hbm, ⟨67, _⟩ => ⟨S2x2048x1, .f32⟩
  | .hbm, ⟨68, _⟩ => ⟨S2x2048x1024, .f32⟩
  | .hbm, ⟨69, _⟩ => ⟨S2x2048x1024, .f32⟩
  | .hbm, ⟨70, _⟩ => ⟨S2x2048x1, .f32⟩
  | .hbm, ⟨71, _⟩ => ⟨S_, .f32⟩
  | .hbm, ⟨72, _⟩ => ⟨S2x2048x1, .f32⟩
  | .hbm, ⟨73, _⟩ => ⟨S2x2048x1, .f32⟩
  | .hbm, ⟨74, _⟩ => ⟨S_, .f32⟩
  | .hbm, ⟨75, _⟩ => ⟨S2x2048, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S4096x1024, .f32⟩
  | .hbm, ⟨84, _⟩ => ⟨S1x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== OutKernel.lean ====
abbrev S4096x2048 : Shape := ⟨2, ![4096, 2048]⟩
abbrev S2048x1024 : Shape := ⟨2, ![2048, 1024]⟩
abbrev S4096x1024 : Shape := ⟨2, ![4096, 1024]⟩
abbrev S2x1x1024 : Shape := ⟨3, ![2, 1, 1024]⟩
abbrev S2x1024 : Shape := ⟨2, ![2, 1024]⟩
abbrev S512x2048 : Shape := ⟨2, ![512, 2048]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S2x1x1024, .f32⟩
  | .hbm, ⟨4, _⟩ => ⟨S2x1024, .f32⟩
  | .hbm, ⟨5, _⟩ => ⟨S2x1x1024, .f32⟩
  | .hbm, ⟨6, _⟩ => ⟨S2x1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S2x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutReferenceIdeal.lean ====
abbrev S4096x2048 : Shape := ⟨2, ![4096, 2048]⟩
abbrev S2048x1024 : Shape := ⟨2, ![2048, 1024]⟩
abbrev S4096x1024 : Shape := ⟨2, ![4096, 1024]⟩
abbrev S2x1x1024 : Shape := ⟨3, ![2, 1, 1024]⟩
abbrev S2x1024 : Shape := ⟨2, ![2, 1024]⟩
abbrev S2x2048x1024 : Shape := ⟨3, ![2, 2048, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S2x1x1024, .f32⟩
  | .hbm, ⟨4, _⟩ => ⟨S2x1024, .f32⟩
  | .hbm, ⟨5, _⟩ => ⟨S2x1x1024, .f32⟩
  | .hbm, ⟨6, _⟩ => ⟨S2x1x1024, .f32⟩
  | .hbm, ⟨7, _⟩ => ⟨S4096x2048, .f32⟩
  | .hbm, ⟨8, _⟩ => ⟨S2048x1024, .f32⟩
  | .hbm, ⟨9, _⟩ => ⟨S4096x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S1x1024, .f32⟩
  | .hbm, ⟨16, _⟩ => ⟨S1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== DownKernel.lean ====
abbrev S4096x2816 : Shape := ⟨2, ![4096, 2816]⟩
abbrev S2816x1024 : Shape := ⟨2, ![2816, 1024]⟩
abbrev S4096x1024 : Shape := ⟨2, ![4096, 1024]⟩
abbrev S2x1x1024 : Shape := ⟨3, ![2, 1, 1024]⟩
abbrev S2x1024 : Shape := ⟨2, ![2, 1024]⟩
abbrev S512x2816 : Shape := ⟨2, ![512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 10
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1x1024, .f32⟩
  | .hbm, ⟨4, _⟩ => ⟨S2x1024, .f32⟩
  | .hbm, ⟨5, _⟩ => ⟨S2x1x1024, .f32⟩
  | .hbm, ⟨6, _⟩ => ⟨S2x1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S2x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S2x1x1024 : Shape := ⟨3, ![2, 1, 1024]⟩
abbrev S2x1024 : Shape := ⟨2, ![2, 1024]⟩
abbrev S2x2048x1024 : Shape := ⟨3, ![2, 2048, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1x1024, .f32⟩
  | .hbm, ⟨4, _⟩ => ⟨S2x1024, .f32⟩
  | .hbm, ⟨5, _⟩ => ⟨S2x1x1024, .f32⟩
  | .hbm, ⟨6, _⟩ => ⟨S2x1x1024, .f32⟩
  | .hbm, ⟨7, _⟩ => ⟨S4096x2816, .f32⟩
  | .hbm, ⟨8, _⟩ => ⟨S2816x1024, .f32⟩
  | .hbm, ⟨9, _⟩ => ⟨S4096x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S1x1024, .f32⟩
  | .hbm, ⟨16, _⟩ => ⟨S1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== AdaKernel.lean ====
abbrev S2x1024x768 : Shape := ⟨3, ![2, 1024, 768]⟩
abbrev S1 : Shape := ⟨1, ![1]⟩
abbrev S1x256x768 : Shape := ⟨3, ![1, 256, 768]⟩

abbrev nBuf : Space → Nat
  | .hbm => 8
  | .vmem => 16
  | .smem => 1
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .smem, ⟨0, _⟩ => ⟨S1, .i32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdaReferenceIdeal.lean ====
abbrev S2x1024x768 : Shape := ⟨3, ![2, 1024, 768]⟩
abbrev S1 : Shape := ⟨1, ![1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S1, .i32⟩
  | .hbm, ⟨5, _⟩ => ⟨S_, .f32⟩
  | .hbm, ⟨6, _⟩ => ⟨S2x1024x768, .f32⟩
  | .hbm, ⟨7, _⟩ => ⟨S2x1024x768, .f32⟩
  | .hbm, ⟨8, _⟩ => ⟨S_, .f32⟩
  | .hbm, ⟨9, _⟩ => ⟨S2x1024x768, .f32⟩
  | .hbm, ⟨10, _⟩ => ⟨S2x1024x768, .f32⟩
  | .hbm, ⟨11, _⟩ => ⟨S2x1024x768, .f32⟩
  | .hbm, ⟨12, _⟩ => ⟨S_, .f32⟩
  | .hbm, ⟨13, _⟩ => ⟨S2x1024x768, .f32⟩
  | .hbm, ⟨14, _⟩ => ⟨S2x1024x768, .f32⟩
  | .hbm, ⟨15, _⟩ => ⟨S2x1024x768, .f32⟩
  | .hbm, ⟨16, _⟩ => ⟨S_, .f32⟩
  | .hbm, ⟨17, _⟩ => ⟨S2x1024x768, .f32⟩
  | .hbm, ⟨18, _⟩ => ⟨S2x1024x768, .f32⟩
  | .hbm, ⟨19, _⟩ => ⟨S2x1024x768, .f32⟩
  | .hbm, ⟨20, _⟩ => ⟨S_, .f32⟩
  | .hbm, ⟨21, _⟩ => ⟨S2x1024x768, .f32⟩
  | .hbm, ⟨22, _⟩ => ⟨S2x1024x768, .f32⟩
  | .hbm, ⟨23, _⟩ => ⟨S_, .f32⟩
  | .hbm, ⟨24, _⟩ => ⟨S2x1024x768, .f32⟩
  | .hbm, ⟨25, _⟩ => ⟨S2x1024x768, .f32⟩
  | .hbm, ⟨26, _⟩ => ⟨S2x1024x768, .f32⟩
  | .hbm, ⟨27, _⟩ => ⟨S_, .f32⟩
  | .hbm, ⟨28, _⟩ => ⟨S2x1024x768, .f32⟩
  | .hbm, ⟨29, _⟩ => ⟨S2x1024x768, .f32⟩
  | .hbm, ⟨30, _⟩ => ⟨S2x1024x768, .f32⟩
  | .hbm, ⟨31, _⟩ => ⟨S_, .f32⟩
  | .hbm, ⟨32, _⟩ => ⟨S2x1024x768, .f32⟩
  | .hbm, ⟨33, _⟩ => ⟨S2x1024x768, .f32⟩
  | .hbm, ⟨34, _⟩ => ⟨S2x1024x768, .f32⟩
  | .hbm, ⟨35, _⟩ => ⟨S_, .f32⟩
  | .hbm, ⟨36, _⟩ => ⟨S2x1024x768, .f32⟩
  | .hbm, ⟨37, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== ScwKernel.lean ====
abbrev S2x4x192 : Shape := ⟨3, ![2, 4, 192]⟩
abbrev S1 : Shape := ⟨1, ![1]⟩
abbrev S1x4x192 : Shape := ⟨3, ![1, 4, 192]⟩

abbrev nBuf : Space → Nat
  | .hbm => 8
  | .vmem => 16
  | .smem => 1
  | _ => 0

abbrev bufTy : (tb : Table) → Fin (tcTables nBuf tb) → BufTy
  | .hbm, ⟨0, _⟩ => ⟨S2x4x192, .f32⟩
  | .hbm, ⟨1, _⟩ => ⟨S2x4x192, .f32⟩
  | .hbm, ⟨2, _⟩ => ⟨S2x4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .local _ .vmem, ⟨0, _⟩ => ⟨S1x4x192, .f32⟩
  | .local _ .vmem, ⟨1, _⟩ => ⟨S1x4x192, .f32⟩
  | .local _ .vmem, ⟨2, _⟩ => ⟨S1x4x192, .f32⟩
  | .local _ .vmem, ⟨3, _⟩ => ⟨S1x4x192, .f32⟩
  | .local _ .vmem, ⟨4, _⟩ => ⟨S1x4x192, .f32⟩
  | .local _ .vmem, ⟨5, _⟩ => ⟨S1x4x192, .f32⟩
  | .local _ .vmem, ⟨6, _⟩ => ⟨S1x4x192, .f32⟩
  | .local _ .vmem, ⟨7, _⟩ => ⟨S1x4x192, .f32⟩
  | .local _ .vmem, ⟨8, _⟩ => ⟨S1x4x192, .f32⟩
  | .local _ .vmem, ⟨9, _⟩ => ⟨S1x4x192, .f32⟩
  | .local _ .vmem, ⟨10, _⟩ => ⟨S1x4x192, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | .local _ .smem, ⟨0, _⟩ => ⟨S1, .i32⟩
  | _, _ => ⟨S2x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ScwReferenceIdeal.lean ====
abbrev S2x4x192 : Shape := ⟨3, ![2, 4, 192]⟩
abbrev S1 : Shape := ⟨1, ![1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x4x192, .f32⟩
  | .hbm, ⟨1, _⟩ => ⟨S2x4x192, .f32⟩
  | .hbm, ⟨2, _⟩ => ⟨S2x4x192, .f32⟩
  | .hbm, ⟨3, _⟩ => ⟨S2x4x192, .f32⟩
  | .hbm, ⟨4, _⟩ => ⟨S1, .i32⟩
  | .hbm, ⟨5, _⟩ => ⟨S_, .f32⟩
  | .hbm, ⟨6, _⟩ => ⟨S2x4x192, .f32⟩
  | .hbm, ⟨7, _⟩ => ⟨S2x4x192, .f32⟩
  | .hbm, ⟨8, _⟩ => ⟨S_, .f32⟩
  | .hbm, ⟨9, _⟩ => ⟨S2x4x192, .f32⟩
  | .hbm, ⟨10, _⟩ => ⟨S2x4x192, .f32⟩
  | .hbm, ⟨11, _⟩ => ⟨S2x4x192, .f32⟩
  | .hbm, ⟨12, _⟩ => ⟨S_, .f32⟩
  | .hbm, ⟨13, _⟩ => ⟨S2x4x192, .f32⟩
  | .hbm, ⟨14, _⟩ => ⟨S2x4x192, .f32⟩
  | .hbm, ⟨15, _⟩ => ⟨S2x4x192, .f32⟩
  | .hbm, ⟨16, _⟩ => ⟨S_, .f32⟩
  | .hbm, ⟨17, _⟩ => ⟨S2x4x192, .f32⟩
  | .hbm, ⟨18, _⟩ => ⟨S2x4x192, .f32⟩
  | .hbm, ⟨19, _⟩ => ⟨S2x4x192, .f32⟩
  | .hbm, ⟨20, _⟩ => ⟨S_, .f32⟩
  | .hbm, ⟨21, _⟩ => ⟨S2x4x192, .f32⟩
  | .hbm, ⟨22, _⟩ => ⟨S2x4x192, .f32⟩
  | .hbm, ⟨23, _⟩ => ⟨S_, .f32⟩
  | .hbm, ⟨24, _⟩ => ⟨S2x4x192, .f32⟩
  | .hbm, ⟨25, _⟩ => ⟨S2x4x192, .f32⟩
  | .hbm, ⟨26, _⟩ => ⟨S2x4x192, .f32⟩
  | .hbm, ⟨27, _⟩ => ⟨S_, .f32⟩
  | .hbm, ⟨28, _⟩ => ⟨S2x4x192, .f32⟩
  | .hbm, ⟨29, _⟩ => ⟨S2x4x192, .f32⟩
  | .hbm, ⟨30, _⟩ => ⟨S2x4x192, .f32⟩
  | .hbm, ⟨31, _⟩ => ⟨S_, .f32⟩
  | .hbm, ⟨32, _⟩ => ⟨S2x4x192, .f32⟩
  | .hbm, ⟨33, _⟩ => ⟨S2x4x192, .f32⟩
  | .hbm, ⟨34, _⟩ => ⟨S2x4x192, .f32⟩
  | .hbm, ⟨35, _⟩ => ⟨S_, .f32⟩
  | .hbm, ⟨36, _⟩ => ⟨S2x4x192, .f32⟩
  | .hbm, ⟨37, _⟩ => ⟨S2x4x192, .f32⟩
  | _, _ => ⟨S2x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== FcwKernel.lean ====
abbrev S2x3x352 : Shape := ⟨3, ![2, 3, 352]⟩
abbrev S1 : Shape := ⟨1, ![1]⟩
abbrev S1x3x352 : Shape := ⟨3, ![1, 3, 352]⟩

abbrev nBuf : Space → Nat
  | .hbm => 8
  | .vmem => 16
  | .smem => 1
  | _ => 0

abbrev bufTy : (tb : Table) → Fin (tcTables nBuf tb) → BufTy
  | .hbm, ⟨0, _⟩ => ⟨S2x3x352, .f32⟩
  | .hbm, ⟨1, _⟩ => ⟨S2x3x352, .f32⟩
  | .hbm, ⟨2, _⟩ => ⟨S2x3x352, .f32⟩
  | .hbm, ⟨3, _⟩ => ⟨S2x3x352, .f32⟩
  | .hbm, ⟨4, _⟩ => ⟨S2x3x352, .f32⟩
  | .hbm, ⟨5, _⟩ => ⟨S2x3x352, .f32⟩
  | .hbm, ⟨6, _⟩ => ⟨S2x3x352, .f32⟩
  | .hbm, ⟨7, _⟩ => ⟨S2x3x352, .f32⟩
  | .local _ .vmem, ⟨0, _⟩ => ⟨S1x3x352, .f32⟩
  | .local _ .vmem, ⟨1, _⟩ => ⟨S1x3x352, .f32⟩
  | .local _ .vmem, ⟨2, _⟩ => ⟨S1x3x352, .f32⟩
  | .local _ .vmem, ⟨3, _⟩ => ⟨S1x3x352, .f32⟩
  | .local _ .vmem, ⟨4, _⟩ => ⟨S1x3x352, .f32⟩
  | .local _ .vmem, ⟨5, _⟩ => ⟨S1x3x352, .f32⟩
  | .local _ .vmem, ⟨6, _⟩ => ⟨S1x3x352, .f32⟩
  | .local _ .vmem, ⟨7, _⟩ => ⟨S1x3x352, .f32⟩
  | .local _ .vmem, ⟨8, _⟩ => ⟨S1x3x352, .f32⟩
  | .local _ .vmem, ⟨9, _⟩ => ⟨S1x3x352, .f32⟩
  | .local _ .vmem, ⟨10, _⟩ => ⟨S1x3x352, .f32⟩
  | .local _ .vmem, ⟨11, _⟩ => ⟨S1x3x352, .f32⟩
  | .local _ .vmem, ⟨12, _⟩ => ⟨S1x3x352, .f32⟩
  | .local _ .vmem, ⟨13, _⟩ => ⟨S1x3x352, .f32⟩
  | .local _ .vmem, ⟨14, _⟩ => ⟨S1x3x352, .f32⟩
  | .local _ .vmem, ⟨15, _⟩ => ⟨S1x3x352, .f32⟩
  | .local _ .smem, ⟨0, _⟩ => ⟨S1, .i32⟩
  | _, _ => ⟨S2x3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FcwReferenceIdeal.lean ====
abbrev S2x3x352 : Shape := ⟨3, ![2, 3, 352]⟩
abbrev S1 : Shape := ⟨1, ![1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x3x352, .f32⟩
  | .hbm, ⟨1, _⟩ => ⟨S2x3x352, .f32⟩
  | .hbm, ⟨2, _⟩ => ⟨S2x3x352, .f32⟩
  | .hbm, ⟨3, _⟩ => ⟨S2x3x352, .f32⟩
  | .hbm, ⟨4, _⟩ => ⟨S1, .i32⟩
  | .hbm, ⟨5, _⟩ => ⟨S_, .f32⟩
  | .hbm, ⟨6, _⟩ => ⟨S2x3x352, .f32⟩
  | .hbm, ⟨7, _⟩ => ⟨S2x3x352, .f32⟩
  | .hbm, ⟨8, _⟩ => ⟨S_, .f32⟩
  | .hbm, ⟨9, _⟩ => ⟨S2x3x352, .f32⟩
  | .hbm, ⟨10, _⟩ => ⟨S2x3x352, .f32⟩
  | .hbm, ⟨11, _⟩ => ⟨S2x3x352, .f32⟩
  | .hbm, ⟨12, _⟩ => ⟨S_, .f32⟩
  | .hbm, ⟨13, _⟩ => ⟨S2x3x352, .f32⟩
  | .hbm, ⟨14, _⟩ => ⟨S2x3x352, .f32⟩
  | .hbm, ⟨15, _⟩ => ⟨S2x3x352, .f32⟩
  | .hbm, ⟨16, _⟩ => ⟨S_, .f32⟩
  | .hbm, ⟨17, _⟩ => ⟨S2x3x352, .f32⟩
  | .hbm, ⟨18, _⟩ => ⟨S2x3x352, .f32⟩
  | .hbm, ⟨19, _⟩ => ⟨S2x3x352, .f32⟩
  | .hbm, ⟨20, _⟩ => ⟨S_, .f32⟩
  | .hbm, ⟨21, _⟩ => ⟨S2x3x352, .f32⟩
  | .hbm, ⟨22, _⟩ => ⟨S2x3x352, .f32⟩
  | .hbm, ⟨23, _⟩ => ⟨S_, .f32⟩
  | .hbm, ⟨24, _⟩ => ⟨S2x3x352, .f32⟩
  | .hbm, ⟨25, _⟩ => ⟨S2x3x352, .f32⟩
  | .hbm, ⟨26, _⟩ => ⟨S2x3x352, .f32⟩
  | .hbm, ⟨27, _⟩ => ⟨S_, .f32⟩
  | .hbm, ⟨28, _⟩ => ⟨S2x3x352, .f32⟩
  | .hbm, ⟨29, _⟩ => ⟨S2x3x352, .f32⟩
  | .hbm, ⟨30, _⟩ => ⟨S2x3x352, .f32⟩
  | .hbm, ⟨31, _⟩ => ⟨S_, .f32⟩
  | .hbm, ⟨32, _⟩ => ⟨S2x3x352, .f32⟩
  | .hbm, ⟨33, _⟩ => ⟨S2x3x352, .f32⟩
  | .hbm, ⟨34, _⟩ => ⟨S2x3x352, .f32⟩
  | .hbm, ⟨35, _⟩ => ⟨S_, .f32⟩
  | .hbm, ⟨36, _⟩ => ⟨S2x3x352, .f32⟩
  | .hbm, ⟨37, _⟩ => ⟨S2x3x352, .f32⟩
  | _, _ => ⟨S2x3x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdaWKernel.lean ====
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .bf16⟩
  | .hbm, ⟨1, _⟩ => ⟨S16x768, .bf16⟩
  | .hbm, ⟨2, _⟩ => ⟨S1024x768, .f32⟩
  | .local _ .vmem, ⟨0, _⟩ => ⟨S16x1024, .bf16⟩
  | .local _ .vmem, ⟨1, _⟩ => ⟨S16x768, .bf16⟩
  | .local _ .vmem, ⟨2, _⟩ => ⟨S1024x768, .f32⟩
  | _, _ => ⟨S16x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaWReferenceIdeal.lean ====
abbrev S16x1024 : Shape := ⟨2, ![16, 1024]⟩
abbrev S16x768 : Shape := ⟨2, ![16, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x1024, .bf16⟩
  | .hbm, ⟨1, _⟩ => ⟨S16x768, .bf16⟩
  | .hbm, ⟨2, _⟩ => ⟨S_, .f32⟩
  | .hbm, ⟨3, _⟩ => ⟨S1024x768, .f32⟩
  | .hbm, ⟨4, _⟩ => ⟨S16x1024, .f32⟩
  | .hbm, ⟨5, _⟩ => ⟨S16x768, .f32⟩
  | .hbm, ⟨6, _⟩ => ⟨S16x768, .f32⟩
  | .hbm, ⟨7, _⟩ => ⟨S768x1024, .f32⟩
  | .hbm, ⟨8, _⟩ => ⟨S1024x768, .f32⟩
  | _, _ => ⟨S16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WinKernel.lean ====
abbrev S8x578x1024 : Shape := ⟨3, ![8, 578, 1024]⟩
abbrev S7x578x1024 : Shape := ⟨3, ![7, 578, 1024]⟩
abbrev S578x2x1024 : Shape := ⟨3, ![578, 2, 1024]⟩
abbrev S1 : Shape := ⟨1, ![1]⟩
abbrev S1x578x256 : Shape := ⟨3, ![1, 578, 256]⟩
abbrev S578x2x256 : Shape := ⟨3, ![578, 2, 256]⟩
abbrev S578x256 : Shape := ⟨2, ![578, 256]⟩
abbrev S578x1x256 : Shape := ⟨3, ![578, 1, 256]⟩

abbrev nBuf : Space → Nat
  | .hbm => 11
  | .vmem => 46
  | .smem => 1
  | _ => 0

abbrev bufTy : (tb : Table) → Fin (tcTables nBuf tb) → BufTy
  | .hbm, ⟨0, _⟩ => ⟨S8x578x1024, .bf16⟩
  | .hbm, ⟨1, _⟩ => ⟨S7x578x1024, .bf16⟩
  | .hbm, ⟨2, _⟩ => ⟨S8x578x1024, .bf16⟩
  | .hbm, ⟨3, _⟩ => ⟨S7x578x1024, .bf16⟩
  | .hbm, ⟨4, _⟩ => ⟨S578x2x1024, .f32⟩
  | .hbm, ⟨5, _⟩ => ⟨S578x2x1024, .f32⟩
  | .hbm, ⟨6, _⟩ => ⟨S578x2x1024, .f32⟩
  | .hbm, ⟨7, _⟩ => ⟨S578x2x1024, .f32⟩
  | .hbm, ⟨8, _⟩ => ⟨S578x2x1024, .f32⟩
  | .hbm, ⟨9, _⟩ => ⟨S578x2x1024, .f32⟩
  | .hbm, ⟨10, _⟩ => ⟨S578x2x1024, .f32⟩
  | .local _ .vmem, ⟨0, _⟩ => ⟨S1x578x256, .bf16⟩
  | .local _ .vmem, ⟨1, _⟩ => ⟨S1x578x256, .bf16⟩
  | .local _ .vmem, ⟨2, _⟩ => ⟨S1x578x256, .bf16⟩
  | .local _ .vmem, ⟨3, _⟩ => ⟨S1x578x256, .bf16⟩
  | .local _ .vmem, ⟨4, _⟩ => ⟨S1x578x256, .bf16⟩
  | .local _ .vmem, ⟨5, _⟩ => ⟨S1x578x256, .bf16⟩
  | .local _ .vmem, ⟨6, _⟩ => ⟨S1x578x256, .bf16⟩
  | .local _ .vmem, ⟨7, _⟩ => ⟨S1x578x256, .bf16⟩
  | .local _ .vmem, ⟨8, _⟩ => ⟨S1x578x256, .bf16⟩
  | .local _ .vmem, ⟨9, _⟩ => ⟨S1x578x256, .bf16⟩
  | .local _ .vmem, ⟨10, _⟩ => ⟨S1x578x256, .bf16⟩
  | .local _ .vmem, ⟨11, _⟩ => ⟨S1x578x256, .bf16⟩
  | .local _ .vmem, ⟨12, _⟩ => ⟨S1x578x256, .bf16⟩
  | .local _ .vmem, ⟨13, _⟩ => ⟨S1x578x256, .bf16⟩
  | .local _ .vmem, ⟨14, _⟩ => ⟨S1x578x256, .bf16⟩
  | .local _ .vmem, ⟨15, _⟩ => ⟨S1x578x256, .bf16⟩
  | .local _ .vmem, ⟨16, _⟩ => ⟨S1x578x256, .bf16⟩
  | .local _ .vmem, ⟨17, _⟩ => ⟨S1x578x256, .bf16⟩
  | .local _ .vmem, ⟨18, _⟩ => ⟨S1x578x256, .bf16⟩
  | .local _ .vmem, ⟨19, _⟩ => ⟨S1x578x256, .bf16⟩
  | .local _ .vmem, ⟨20, _⟩ => ⟨S1x578x256, .bf16⟩
  | .local _ .vmem, ⟨21, _⟩ => ⟨S1x578x256, .bf16⟩
  | .local _ .vmem, ⟨22, _⟩ => ⟨S1x578x256, .bf16⟩
  | .local _ .vmem, ⟨23, _⟩ => ⟨S1x578x256, .bf16⟩
  | .local _ .vmem, ⟨24, _⟩ => ⟨S1x578x256, .bf16⟩
  | .local _ .vmem, ⟨25, _⟩ => ⟨S1x578x256, .bf16⟩
  | .local _ .vmem, ⟨26, _⟩ => ⟨S1x578x256, .bf16⟩
  | .local _ .vmem, ⟨27, _⟩ => ⟨S1x578x256, .bf16⟩
  | .local _ .vmem, ⟨28, _⟩ => ⟨S1x578x256, .bf16⟩
  | .local _ .vmem, ⟨29, _⟩ => ⟨S1x578x256, .bf16⟩
  | .local _ .vmem, ⟨30, _⟩ => ⟨S1x578x256, .bf16⟩
  | .local _ .vmem, ⟨31, _⟩ => ⟨S1x578x256, .bf16⟩
  | .local _ .vmem, ⟨32, _⟩ => ⟨S578x2x256, .f32⟩
  | .local _ .vmem, ⟨33, _⟩ => ⟨S578x2x256, .f32⟩
  | .local _ .vmem, ⟨34, _⟩ => ⟨S578x2x256, .f32⟩
  | .local _ .vmem, ⟨35, _⟩ => ⟨S578x2x256, .f32⟩
  | .local _ .vmem, ⟨36, _⟩ => ⟨S578x2x256, .f32⟩
  | .local _ .vmem, ⟨37, _⟩ => ⟨S578x2x256, .f32⟩
  | .local _ .vmem, ⟨38, _⟩ => ⟨S578x2x256, .f32⟩
  | .local _ .vmem, ⟨39, _⟩ => ⟨S578x2x256, .f32⟩
  | .local _ .vmem, ⟨40, _⟩ => ⟨S578x2x256, .f32⟩
  | .local _ .vmem, ⟨41, _⟩ => ⟨S578x2x256, .f32⟩
  | .local _ .vmem, ⟨42, _⟩ => ⟨S578x2x256, .f32⟩
  | .local _ .vmem, ⟨43, _⟩ => ⟨S578x2x256, .f32⟩
  | .local _ .vmem, ⟨44, _⟩ => ⟨S578x2x256, .f32⟩
  | .local _ .vmem, ⟨45, _⟩ => ⟨S578x2x256, .f32⟩
  | .local _ .smem, ⟨0, _⟩ => ⟨S1, .i32⟩
  | _, _ => ⟨S8x578x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat, arg0.toNat]

def cc0_transform_6 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

def cc0_transform_7 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat, arg0.toNat]

def cc0_transform_8 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_13 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat, arg0.toNat]

def cc0_transform_14 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

def cc0_transform_15 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x578x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x578x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x578x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x578x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x578x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x578x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x578x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x578x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x578x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x578x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x578x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x578x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x578x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x578x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x578x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x578x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S578x2x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S578x2x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S578x2x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S578x2x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S578x2x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S578x2x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S578x2x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== WinReferenceIdeal.lean ====
abbrev S8x578x1024 : Shape := ⟨3, ![8, 578, 1024]⟩
abbrev S7x578x1024 : Shape := ⟨3, ![7, 578, 1024]⟩
abbrev S578x2x1024 : Shape := ⟨3, ![578, 2, 1024]⟩
abbrev S1 : Shape := ⟨1, ![1]⟩
abbrev S8 : Shape := ⟨1, ![8]⟩
abbrev S8x1x1 : Shape := ⟨3, ![8, 1, 1]⟩
abbrev S_ : Shape := ⟨0, ![]⟩
abbrev S578x1024 : Shape := ⟨2, ![578, 1024]⟩
abbrev S578x1x1024 : Shape := ⟨3, ![578, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x578x1024, .bf16⟩
  | .hbm, ⟨1, _⟩ => ⟨S7x578x1024, .bf16⟩
  | .hbm, ⟨2, _⟩ => ⟨S8x578x1024, .bf16⟩
  | .hbm, ⟨3, _⟩ => ⟨S7x578x1024, .bf16⟩
  | .hbm, ⟨4, _⟩ => ⟨S578x2x1024, .f32⟩
  | .hbm, ⟨5, _⟩ => ⟨S578x2x1024, .f32⟩
  | .hbm, ⟨6, _⟩ => ⟨S578x2x1024, .f32⟩
  | .hbm, ⟨7, _⟩ => ⟨S1, .i32⟩
  | .hbm, ⟨8, _⟩ => ⟨S8, .i32⟩
  | .hbm, ⟨9, _⟩ => ⟨S8, .i32⟩
  | .hbm, ⟨10, _⟩ => ⟨S8, .i1⟩
  | .hbm, ⟨11, _⟩ => ⟨S8x1x1, .i1⟩
  | .hbm, ⟨12, _⟩ => ⟨S8x578x1024, .f32⟩
  | .hbm, ⟨13, _⟩ => ⟨S_, .f32⟩
  | .hbm, ⟨14, _⟩ => ⟨S_, .f32⟩
  | .hbm, ⟨15, _⟩ => ⟨S8x578x1024, .i1⟩
  | .hbm, ⟨16, _⟩ => ⟨S8x578x1024, .f32⟩
  | .hbm, ⟨17, _⟩ => ⟨S8x578x1024, .f32⟩
  | .hbm, ⟨18, _⟩ => ⟨S_, .f32⟩
  | .hbm, ⟨19, _⟩ => ⟨S578x1024, .f32⟩
  | .hbm, ⟨20, _⟩ => ⟨S7x578x1024, .f32⟩
  | .hbm, ⟨21, _⟩ => ⟨S_, .f32⟩
  | .hbm, ⟨22, _⟩ => ⟨S578x1024, .f32⟩
  | .hbm, ⟨23, _⟩ => ⟨S578x1024, .f32⟩
  | .hbm, ⟨24, _⟩ => ⟨S8, .i32⟩
  | .hbm, ⟨25, _⟩ => ⟨S8, .i32⟩
  | .hbm, ⟨26, _⟩ => ⟨S8, .i1⟩
  | .hbm, ⟨27, _⟩ => ⟨S8x1x1, .i1⟩
  | .hbm, ⟨28, _⟩ => ⟨S8x578x1024, .f32⟩
  | .hbm, ⟨29, _⟩ => ⟨S_, .f32⟩
  | .hbm, ⟨30, _⟩ => ⟨S_, .f32⟩
  | .hbm, ⟨31, _⟩ => ⟨S8x578x1024, .i1⟩
  | .hbm, ⟨32, _⟩ => ⟨S8x578x1024, .f32⟩
  | .hbm, ⟨33, _⟩ => ⟨S8x578x1024, .f32⟩
  | .hbm, ⟨34, _⟩ => ⟨S_, .f32⟩
  | .hbm, ⟨35, _⟩ => ⟨S578x1024, .f32⟩
  | .hbm, ⟨36, _⟩ => ⟨S7x578x1024, .f32⟩
  | .hbm, ⟨37, _⟩ => ⟨S_, .f32⟩
  | .hbm, ⟨38, _⟩ => ⟨S578x1024, .f32⟩
  | .hbm, ⟨39, _⟩ => ⟨S578x1024, .f32⟩
  | .hbm, ⟨40, _⟩ => ⟨S578x1x1024, .f32⟩
  | .hbm, ⟨41, _⟩ => ⟨S578x1x1024, .f32⟩
  | .hbm, ⟨42, _⟩ => ⟨S578x2x1024, .f32⟩
  | .hbm, ⟨43, _⟩ => ⟨S_, .f32⟩
  | .hbm, ⟨44, _⟩ => ⟨S578x2x1024, .f32⟩
  | .hbm, ⟨45, _⟩ => ⟨S578x2x1024, .f32⟩
  | .hbm, ⟨46, _⟩ => ⟨S_, .f32⟩
  | .hbm, ⟨47, _⟩ => ⟨S578x2x1024, .f32⟩
  | .hbm, ⟨48, _⟩ => ⟨S578x2x1024, .f32⟩
  | .hbm, ⟨49, _⟩ => ⟨S578x2x1024, .f32⟩
  | .hbm, ⟨50, _⟩ => ⟨S_, .f32⟩
  | .hbm, ⟨51, _⟩ => ⟨S578x2x1024, .f32⟩
  | .hbm, ⟨52, _⟩ => ⟨S578x2x1024, .f32⟩
  | .hbm, ⟨53, _⟩ => ⟨S578x2x1024, .f32⟩
  | .hbm, ⟨54, _⟩ => ⟨S_, .f32⟩
  | .hbm, ⟨55, _⟩ => ⟨S578x2x1024, .f32⟩
  | .hbm, ⟨56, _⟩ => ⟨S578x2x1024, .f32⟩
  | .hbm, ⟨57, _⟩ => ⟨S578x2x1024, .f32⟩
  | .hbm, ⟨58, _⟩ => ⟨S_, .f32⟩
  | .hbm, ⟨59, _⟩ => ⟨S578x2x1024, .f32⟩
  | .hbm, ⟨60, _⟩ => ⟨S578x2x1024, .f32⟩
  | .hbm, ⟨61, _⟩ => ⟨S_, .f32⟩
  | .hbm, ⟨62, _⟩ => ⟨S578x2x1024, .f32⟩
  | .hbm, ⟨63, _⟩ => ⟨S578x2x1024, .f32⟩
  | .hbm, ⟨64, _⟩ => ⟨S578x2x1024, .f32⟩
  | .hbm, ⟨65, _⟩ => ⟨S_, .f32⟩
  | .hbm, ⟨66, _⟩ => ⟨S578x2x1024, .f32⟩
  | .hbm, ⟨67, _⟩ => ⟨S578x2x1024, .f32⟩
  | .hbm, ⟨68, _⟩ => ⟨S578x2x1024, .f32⟩
  | .hbm, ⟨69, _⟩ => ⟨S_, .f32⟩
  | .hbm, ⟨70, _⟩ => ⟨S578x2x1024, .f32⟩
  | .hbm, ⟨71, _⟩ => ⟨S578x2x1024, .f32⟩
  | .hbm, ⟨72, _⟩ => ⟨S578x2x1024, .f32⟩
  | .hbm, ⟨73, _⟩ => ⟨S_, .f32⟩
  | .hbm, ⟨74, _⟩ => ⟨S578x2x1024, .f32⟩
  | .hbm, ⟨75, _⟩ => ⟨S578x2x1024, .f32⟩
  | _, _ => ⟨S8x578x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== WoutKernel.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S1 : Shape := ⟨1, ![1]⟩
abbrev S1x256x1024 : Shape := ⟨3, ![1, 256, 1024]⟩

abbrev nBuf : Space → Nat
  | .hbm => 13
  | .vmem => 15
  | .smem => 1
  | _ => 0

abbrev bufTy : (tb : Table) → Fin (tcTables nBuf tb) → BufTy
  | .hbm, ⟨0, _⟩ => ⟨S8x256x1024, .bf16⟩
  | .hbm, ⟨1, _⟩ => ⟨S7x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .smem, ⟨0, _⟩ => ⟨S1, .i32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_6 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_7 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== WoutReferenceIdeal.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S1 : Shape := ⟨1, ![1]⟩
abbrev S8 : Shape := ⟨1, ![8]⟩
abbrev S8x1x1 : Shape := ⟨3, ![8, 1, 1]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S7x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S1, .i32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S8, .i32⟩
  | .hbm, ⟨11, _⟩ => ⟨S8, .i32⟩
  | .hbm, ⟨12, _⟩ => ⟨S8, .i1⟩
  | .hbm, ⟨13, _⟩ => ⟨S8x1x1, .i1⟩
  | .hbm, ⟨14, _⟩ => ⟨S8x256x1024, .f32⟩
  | .hbm, ⟨15, _⟩ => ⟨S_, .f32⟩
  | .hbm, ⟨16, _⟩ => ⟨S_, .f32⟩
  | .hbm, ⟨17, _⟩ => ⟨S8x256x1024, .i1⟩
  | .hbm, ⟨18, _⟩ => ⟨S8x256x1024, .f32⟩
  | .hbm, ⟨19, _⟩ => ⟨S8x256x1024, .f32⟩
  | .hbm, ⟨20, _⟩ => ⟨S_, .f32⟩
  | .hbm, ⟨21, _⟩ => ⟨S256x1024, .f32⟩
  | .hbm, ⟨22, _⟩ => ⟨S7x256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | .hbm, ⟨40, _⟩ => ⟨S1x256x1024, .f32⟩
  | .hbm, ⟨41, _⟩ => ⟨S_, .f32⟩
  | .hbm, ⟨42, _⟩ => ⟨S1x256x1024, .f32⟩
  | .hbm, ⟨43, _⟩ => ⟨S1x256x1024, .f32⟩
  | .hbm, ⟨44, _⟩ => ⟨S1x256x1024, .f32⟩
  | .hbm, ⟨45, _⟩ => ⟨S_, .f32⟩
  | .hbm, ⟨46, _⟩ => ⟨S1x256x1024, .f32⟩
  | .hbm, ⟨47, _⟩ => ⟨S1x256x1024, .f32⟩
  | .hbm, ⟨48, _⟩ => ⟨S_, .f32⟩
  | .hbm, ⟨49, _⟩ => ⟨S1x256x1024, .f32⟩
  | .hbm, ⟨50, _⟩ => ⟨S1x256x1024, .f32⟩
  | .hbm, ⟨51, _⟩ => ⟨S1x256x1024, .f32⟩
  | .hbm, ⟨52, _⟩ => ⟨S_, .f32⟩
  | .hbm, ⟨53, _⟩ => ⟨S1x256x1024, .f32⟩
  | .hbm, ⟨54, _⟩ => ⟨S1x256x1024, .f32⟩
  | .hbm, ⟨55, _⟩ => ⟨S1x256x1024, .f32⟩
  | .hbm, ⟨56, _⟩ => ⟨S_, .f32⟩
  | .hbm, ⟨57, _⟩ => ⟨S1x256x1024, .f32⟩
  | .hbm, ⟨58, _⟩ => ⟨S1x256x1024, .f32⟩
  | .hbm, ⟨59, _⟩ => ⟨S1x256x1024, .f32⟩
  | .hbm, ⟨60, _⟩ => ⟨S_, .f32⟩
  | .hbm, ⟨61, _⟩ => ⟨S1x256x1024, .f32⟩
  | .hbm, ⟨62, _⟩ => ⟨S1x256x1024, .f32⟩
  | .hbm, ⟨63, _⟩ => ⟨S1x256x1024, .f32⟩
  | .hbm, ⟨64, _⟩ => ⟨S2x256x1024, .f32⟩
  | .hbm, ⟨65, _⟩ => ⟨S1x256x1024, .f32⟩
  | .hbm, ⟨66, _⟩ => ⟨S2x256x1024, .f32⟩
  | .hbm, ⟨67, _⟩ => ⟨S1x256x1024, .f32⟩
  | .hbm, ⟨68, _⟩ => ⟨S2x256x1024, .f32⟩
  | .hbm, ⟨69, _⟩ => ⟨S1x256x1024, .f32⟩
  | .hbm, ⟨70, _⟩ => ⟨S2x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== FupKernel.lean ====
abbrev S8x704x1024 : Shape := ⟨3, ![8, 704, 1024]⟩
abbrev S7x704x1024 : Shape := ⟨3, ![7, 704, 1024]⟩
abbrev S2x704x1024 : Shape := ⟨3, ![2, 704, 1024]⟩
abbrev S1 : Shape := ⟨1, ![1]⟩
abbrev S1x176x1024 : Shape := ⟨3, ![1, 176, 1024]⟩

abbrev nBuf : Space → Nat
  | .hbm => 13
  | .vmem => 30
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S1x176x1024, .bf16⟩
  | .local _ .vmem, ⟨7, _⟩ => ⟨S1x176x1024, .bf16⟩
  | .local _ .vmem, ⟨8, _⟩ => ⟨S1x176x1024, .bf16⟩
  | .local _ .vmem, ⟨9, _⟩ => ⟨S1x176x1024, .bf16⟩
  | .local _ .vmem, ⟨10, _⟩ => ⟨S1x176x1024, .bf16⟩
  | .local _ .vmem, ⟨11, _⟩ => ⟨S1x176x1024, .bf16⟩
  | .local _ .vmem, ⟨12, _⟩ => ⟨S1x176x1024, .bf16⟩
  | .local _ .vmem, ⟨13, _⟩ => ⟨S1x176x1024, .bf16⟩
  | .local _ .vmem, ⟨14, _⟩ => ⟨S1x176x1024, .bf16⟩
  | .local _ .vmem, ⟨15, _⟩ => ⟨S1x176x1024, .bf16⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_6 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_7 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FupReferenceIdeal.lean ====
abbrev S8x704x1024 : Shape := ⟨3, ![8, 704, 1024]⟩
abbrev S7x704x1024 : Shape := ⟨3, ![7, 704, 1024]⟩
abbrev S2x704x1024 : Shape := ⟨3, ![2, 704, 1024]⟩
abbrev S1 : Shape := ⟨1, ![1]⟩
abbrev S8 : Shape := ⟨1, ![8]⟩
abbrev S8x1x1 : Shape := ⟨3, ![8, 1, 1]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S1, .i32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S8, .i32⟩
  | .hbm, ⟨11, _⟩ => ⟨S8, .i32⟩
  | .hbm, ⟨12, _⟩ => ⟨S8, .i1⟩
  | .hbm, ⟨13, _⟩ => ⟨S8x1x1, .i1⟩
  | .hbm, ⟨14, _⟩ => ⟨S8x704x1024, .f32⟩
  | .hbm, ⟨15, _⟩ => ⟨S_, .f32⟩
  | .hbm, ⟨16, _⟩ => ⟨S_, .f32⟩
  | .hbm, ⟨17, _⟩ => ⟨S8x704x1024, .i1⟩
  | .hbm, ⟨18, _⟩ => ⟨S8x704x1024, .f32⟩
  | .hbm, ⟨19, _⟩ => ⟨S8x704x1024, .f32⟩
  | .hbm, ⟨20, _⟩ => ⟨S_, .f32⟩
  | .hbm, ⟨21, _⟩ => ⟨S704x1024, .f32⟩
  | .hbm, ⟨22, _⟩ => ⟨S7x704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S1x704x1024, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S_, .f32⟩
  | .hbm, ⟨34, _⟩ => ⟨S1x704x1024, .f32⟩
  | .hbm, ⟨35, _⟩ => ⟨S1x704x1024, .f32⟩
  | .hbm, ⟨36, _⟩ => ⟨S1x704x1024, .f32⟩
  | .hbm, ⟨37, _⟩ => ⟨S_, .f32⟩
  | .hbm, ⟨38, _⟩ => ⟨S1x704x1024, .f32⟩
  | .hbm, ⟨39, _⟩ => ⟨S1x704x1024, .f32⟩
  | .hbm, ⟨40, _⟩ => ⟨S1x704x1024, .f32⟩
  | .hbm, ⟨41, _⟩ => ⟨S_, .f32⟩
  | .hbm, ⟨42, _⟩ => ⟨S1x704x1024, .f32⟩
  | .hbm, ⟨43, _⟩ => ⟨S1x704x1024, .f32⟩
  | .hbm, ⟨44, _⟩ => ⟨S1x704x1024, .f32⟩
  | .hbm, ⟨45, _⟩ => ⟨S_, .f32⟩
  | .hbm, ⟨46, _⟩ => ⟨S1x704x1024, .f32⟩
  | .hbm, ⟨47, _⟩ => ⟨S1x704x1024, .f32⟩
  | .hbm, ⟨48, _⟩ => ⟨S_, .f32⟩
  | .hbm, ⟨49, _⟩ => ⟨S1x704x1024, .f32⟩
  | .hbm, ⟨50, _⟩ => ⟨S1x704x1024, .f32⟩
  | .hbm, ⟨51, _⟩ => ⟨S1x704x1024, .f32⟩
  | .hbm, ⟨52, _⟩ => ⟨S_, .f32⟩
  | .hbm, ⟨53, _⟩ => ⟨S1x704x1024, .f32⟩
  | .hbm, ⟨54, _⟩ => ⟨S1x704x1024, .f32⟩
  | .hbm, ⟨55, _⟩ => ⟨S1x704x1024, .f32⟩
  | .hbm, ⟨56, _⟩ => ⟨S_, .f32⟩
  | .hbm, ⟨57, _⟩ => ⟨S1x704x1024, .f32⟩
  | .hbm, ⟨58, _⟩ => ⟨S1x704x1024, .f32⟩
  | .hbm, ⟨59, _⟩ => ⟨S1x704x1024, .f32⟩
  | .hbm, ⟨60, _⟩ => ⟨S_, .f32⟩
  | .hbm, ⟨61, _⟩ => ⟨S1x704x1024, .f32⟩
  | .hbm, ⟨62, _⟩ => ⟨S1x704x1024, .f32⟩
  | .hbm, ⟨63, _⟩ => ⟨S1x704x1024, .f32⟩
  | .hbm, ⟨64, _⟩ => ⟨S2x704x1024, .f32⟩
  | .hbm, ⟨65, _⟩ => ⟨S1x704x1024, .f32⟩
  | .hbm, ⟨66, _⟩ => ⟨S2x704x1024, .f32⟩
  | .hbm, ⟨67, _⟩ => ⟨S1x704x1024, .f32⟩
  | .hbm, ⟨68, _⟩ => ⟨S2x704x1024, .f32⟩
  | .hbm, ⟨69, _⟩ => ⟨S1x704x1024, .f32⟩
  | .hbm, ⟨70, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== FdnKernel.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1 : Shape := ⟨1, ![1]⟩
abbrev S1x176x1024 : Shape := ⟨3, ![1, 176, 1024]⟩

abbrev nBuf : Space → Nat
  | .hbm => 13
  | .vmem => 30
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S1x176x1024, .bf16⟩
  | .local _ .vmem, ⟨7, _⟩ => ⟨S1x176x1024, .bf16⟩
  | .local _ .vmem, ⟨8, _⟩ => ⟨S1x176x1024, .bf16⟩
  | .local _ .vmem, ⟨9, _⟩ => ⟨S1x176x1024, .bf16⟩
  | .local _ .vmem, ⟨10, _⟩ => ⟨S1x176x1024, .bf16⟩
  | .local _ .vmem, ⟨11, _⟩ => ⟨S1x176x1024, .bf16⟩
  | .local _ .vmem, ⟨12, _⟩ => ⟨S1x176x1024, .bf16⟩
  | .local _ .vmem, ⟨13, _⟩ => ⟨S1x176x1024, .bf16⟩
  | .local _ .vmem, ⟨14, _⟩ => ⟨S1x176x1024, .bf16⟩
  | .local _ .vmem, ⟨15, _⟩ => ⟨S1x176x1024, .bf16⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_6 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_7 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FdnReferenceIdeal.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1 : Shape := ⟨1, ![1]⟩
abbrev S8 : Shape := ⟨1, ![8]⟩
abbrev S8x1x1 : Shape := ⟨3, ![8, 1, 1]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S1, .i32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S8, .i32⟩
  | .hbm, ⟨11, _⟩ => ⟨S8, .i32⟩
  | .hbm, ⟨12, _⟩ => ⟨S8, .i1⟩
  | .hbm, ⟨13, _⟩ => ⟨S8x1x1, .i1⟩
  | .hbm, ⟨14, _⟩ => ⟨S8x352x1024, .f32⟩
  | .hbm, ⟨15, _⟩ => ⟨S_, .f32⟩
  | .hbm, ⟨16, _⟩ => ⟨S_, .f32⟩
  | .hbm, ⟨17, _⟩ => ⟨S8x352x1024, .i1⟩
  | .hbm, ⟨18, _⟩ => ⟨S8x352x1024, .f32⟩
  | .hbm, ⟨19, _⟩ => ⟨S8x352x1024, .f32⟩
  | .hbm, ⟨20, _⟩ => ⟨S_, .f32⟩
  | .hbm, ⟨21, _⟩ => ⟨S352x1024, .f32⟩
  | .hbm, ⟨22, _⟩ => ⟨S7x352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S1x352x1024, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S_, .f32⟩
  | .hbm, ⟨34, _⟩ => ⟨S1x352x1024, .f32⟩
  | .hbm, ⟨35, _⟩ => ⟨S1x352x1024, .f32⟩
  | .hbm, ⟨36, _⟩ => ⟨S1x352x1024, .f32⟩
  | .hbm, ⟨37, _⟩ => ⟨S_, .f32⟩
  | .hbm, ⟨38, _⟩ => ⟨S1x352x1024, .f32⟩
  | .hbm, ⟨39, _⟩ => ⟨S1x352x1024, .f32⟩
  | .hbm, ⟨40, _⟩ => ⟨S1x352x1024, .f32⟩
  | .hbm, ⟨41, _⟩ => ⟨S_, .f32⟩
  | .hbm, ⟨42, _⟩ => ⟨S1x352x1024, .f32⟩
  | .hbm, ⟨43, _⟩ => ⟨S1x352x1024, .f32⟩
  | .hbm, ⟨44, _⟩ => ⟨S1x352x1024, .f32⟩
  | .hbm, ⟨45, _⟩ => ⟨S_, .f32⟩
  | .hbm, ⟨46, _⟩ => ⟨S1x352x1024, .f32⟩
  | .hbm, ⟨47, _⟩ => ⟨S1x352x1024, .f32⟩
  | .hbm, ⟨48, _⟩ => ⟨S_, .f32⟩
  | .hbm, ⟨49, _⟩ => ⟨S1x352x1024, .f32⟩
  | .hbm, ⟨50, _⟩ => ⟨S1x352x1024, .f32⟩
  | .hbm, ⟨51, _⟩ => ⟨S1x352x1024, .f32⟩
  | .hbm, ⟨52, _⟩ => ⟨S_, .f32⟩
  | .hbm, ⟨53, _⟩ => ⟨S1x352x1024, .f32⟩
  | .hbm, ⟨54, _⟩ => ⟨S1x352x1024, .f32⟩
  | .hbm, ⟨55, _⟩ => ⟨S1x352x1024, .f32⟩
  | .hbm, ⟨56, _⟩ => ⟨S_, .f32⟩
  | .hbm, ⟨57, _⟩ => ⟨S1x352x1024, .f32⟩
  | .hbm, ⟨58, _⟩ => ⟨S1x352x1024, .f32⟩
  | .hbm, ⟨59, _⟩ => ⟨S1x352x1024, .f32⟩
  | .hbm, ⟨60, _⟩ => ⟨S_, .f32⟩
  | .hbm, ⟨61, _⟩ => ⟨S1x352x1024, .f32⟩
  | .hbm, ⟨62, _⟩ => ⟨S1x352x1024, .f32⟩
  | .hbm, ⟨63, _⟩ => ⟨S1x352x1024, .f32⟩
  | .hbm, ⟨64, _⟩ => ⟨S2x352x1024, .f32⟩
  | .hbm, ⟨65, _⟩ => ⟨S1x352x1024, .f32⟩
  | .hbm, ⟨66, _⟩ => ⟨S2x352x1024, .f32⟩
  | .hbm, ⟨67, _⟩ => ⟨S1x352x1024, .f32⟩
  | .hbm, ⟨68, _⟩ => ⟨S2x352x1024, .f32⟩
  | .hbm, ⟨69, _⟩ => ⟨S1x352x1024, .f32⟩
  | .hbm, ⟨70, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Proof.Adam.lean ====
/-
  One step of the optimiser on one element: the two moving averages and the change of the weight.
-/
module

public import Idealize.ShloMosaic.Lib.Pipeline.Value
public import Idealize.ShloMosaic.PureOps.Ideal.Laws

@[expose] public section

noncomputable section

namespace Cert.Adam

open Idealize.ShloMosaic

/-- A constant of the optimiser, as the programs round it. -/
abbrev con (w : BitVec 32) : EReal := Ideal.ofBits .f32 w

/-- The average of the gradients: nine tenths of the old one and one tenth of the gradient. -/
def mean (g m : EReal) : EReal := con 0x3F666666#32 * m + con 0x3DCCCCCD#32 * g

/-- The average of their squares. -/
def square (g v : EReal) : EReal := con 0x3F7FBE77#32 * v + con 0x3A83126F#32 * (g * g)

/-- The change of the weight: the corrected averages' quotient and the decay, times the rate with its sign turned. -/
def delta (g w m v : EReal) : EReal :=
  con 0xBA83126F#32 * (Ideal.div (Ideal.div (mean g m) (con 0x3F26BD02#32))
    (Ideal.sqrt (Ideal.div (square g v) (con 0x3C231ACC#32)) + con 0x322BCC77#32) + con 0x3C23D70A#32 * w)

variable {s : Shape}

/-- The averages and the changes of a whole array. -/
def means (g m : FVec Ideal s .f32) : FVec Ideal s .f32 := fun y => mean (g y) (m y)
def squares (g v : FVec Ideal s .f32) : FVec Ideal s .f32 := fun y => square (g y) (v y)
def deltas (g w m v : FVec Ideal s .f32) : FVec Ideal s .f32 := fun y => delta (g y) (w y) (m y) (v y)

end Cert.Adam
-- ==== Proof.AdaArrays.lean ====
/-
  The optimiser's call at the modulation weights: the arrays that it leaves are those of `Adam`.
-/
module

public import proofs.«01_k».proof.Proof.Adam
public import proofs.«01_k».proof.Proof.Gen.AdaKernelIdeal.Frame
public import Idealize.ShloMosaic.Lib.Pipeline.ValueKit
public import Idealize.ShloMosaic.Lib.Pointwise

@[expose] public section

set_option maxRecDepth 16384

noncomputable section

namespace Cert.AdaKernelIdeal.Step

open Cert.AdaKernelIdeal Cert.AdaKernelIdeal.Gen Cert.Adam Idealize.ShloMosaic Idealize.ShloMosaic.TcCoe Idealize.SL.Sem
open Idealize.ShloMosaic.Pipeline (Dat)

/-- A block of one of the arrays. -/
abbrev Tile := FVec Ideal S1x256x768 .f32

/-! ## A grid point's values -/

theorem pay1_eq (g m : Tile) : k0_pay1 (F := Ideal) g m = means g m := rfl
theorem pay2_eq (g v : Tile) : k0_pay2 (F := Ideal) g v = squares g v := rfl
theorem pay3_eq (g w m v : Tile) : k0_pay3 (F := Ideal) g w m v = deltas g w m v := rfl

theorem hz : (![0, 0, 0] : Fin 3 → Nat) = fun _ => 0 := by decide

section
variable (c : Dev nD) (i : grid0.Coords) (a0 : Memref sig .tc .vmem S1x256x768 .f32) (h0 : a0.IsWhole)
  (a1 : Memref sig .tc .vmem S1x256x768 .f32) (h1 : a1.IsWhole) (a2 : Memref sig .tc .vmem S1x256x768 .f32) (h2 : a2.IsWhole)
  (a3 : Memref sig .tc .vmem S1x256x768 .f32) (h3 : a3.IsWhole) (a4 : Memref sig .tc .vmem S1x256x768 .f32) (h4 : a4.IsWhole)
  (a5 : Memref sig .tc .vmem S1x256x768 .f32) (h5 : a5.IsWhole) (a6 : Memref sig .tc .vmem S1x256x768 .f32) (h6 : a6.IsWhole)
  (a7 : Memref sig .tc .vmem S1x256x768 .f32) (h7 : a7.IsWhole) (g w m v : Tile) (x : TbBuf0 (F := Ideal) c tbM0_0)

theorem gradient_left : out0_A_4 (F := Ideal) c i a0 h0 a1 h1 a2 h2 a3 h3 a4 h4 a5 h5 a6 h6 a7 h7 g w m v x = g := by
  unfold out0_A_4
  rw [View.read_writes_eq_canon _ _ _ (cover0_A_4 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, View.ld_unit_zero (S := S1x256x768) hz]

theorem delta_left : out0_A_5 (F := Ideal) c i a0 h0 a1 h1 a2 h2 a3 h3 a4 h4 a5 h5 a6 h6 a7 h7 g w m v x = deltas g w m v := by
  unfold out0_A_5
  rw [View.read_writes_eq_canon _ _ _ (cover0_A_5 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h1.read_unread, h2.read_unread, h3.read_unread, View.ld_unit_zero (S := S1x256x768) hz]
  rfl

theorem mean_left : out0_A_6 (F := Ideal) c i a0 h0 a1 h1 a2 h2 a3 h3 a4 h4 a5 h5 a6 h6 a7 h7 g w m v x = means g m := by
  unfold out0_A_6
  rw [View.read_writes_eq_canon _ _ _ (cover0_A_6 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h2.read_unread, View.ld_unit_zero (S := S1x256x768) hz]
  rfl

theorem square_left : out0_A_7 (F := Ideal) c i a0 h0 a1 h1 a2 h2 a3 h3 a4 h4 a5 h5 a6 h6 a7 h7 g w m v x = squares g v := by
  unfold out0_A_7
  rw [View.read_writes_eq_canon _ _ _ (cover0_A_7 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h3.read_unread, View.ld_unit_zero (S := S1x256x768) hz]
  rfl

end

/-! ## The arrays -/

/-- Contents of the table; the blocks do not depend on them. -/
def table : (pcfg0 (F := Ideal)).Adm := ⟨fun | 0 => fun _ => (0#32 : BitVec 32), trivial⟩

theorem covers4 : ((cfg0 table).win 4).Covers := by decide +kernel
theorem covers5 : ((cfg0 table).win 5).Covers := by decide +kernel
theorem covers6 : ((cfg0 table).win 6).Covers := by decide +kernel
theorem covers7 : ((cfg0 table).win 7).Covers := by decide +kernel

variable (μ : (ℓ : Loc nD τ sig) → Buf (Elt Ideal) ℓ) (c : Dev nD)

/-- The table's words choose no block: nothing is asked of them. -/
theorem ok : Ok μ := trivial

/-! The arguments. -/
abbrev g0 : FVec Ideal S2x1024x768 .f32 := μ ((c : Thread nD τ).loc main_arg0)
abbrev w0 : FVec Ideal S2x1024x768 .f32 := μ ((c : Thread nD τ).loc main_arg1)
abbrev m0 : FVec Ideal S2x1024x768 .f32 := μ ((c : Thread nD τ).loc main_arg2)
abbrev v0 : FVec Ideal S2x1024x768 .f32 := μ ((c : Thread nD τ).loc main_arg3)

variable (t : Fin (cfgM μ (ok μ)).N) (y : S1x256x768.Idx)

/-- The gradient's block lies where the results' blocks lie. -/
theorem gradient_index : ∀ t : Fin grid0.N, cc0_transform_0 (grid0.coords t) = cc0_transform_4 (grid0.coords t) := by decide +kernel

/-- Where an element of a point's block lies in the array. -/
abbrev at0 : S2x1024x768.Idx := (((cfgM μ (ok μ)).win 4).blk t).view.emb y

theorem gradient_place : (((cfgM μ (ok μ)).win 0).blk t).view.emb y = at0 μ t y := by
  funext a
  apply Fin.ext
  show cc0_transform_0 (grid0.coords t) a * _ + _ = cc0_transform_4 (grid0.coords t) a * _ + _
  rw [gradient_index t]
  rfl

theorem gradient_read : (iblk μ (ok μ) c 0 t : Tile) y = g0 μ c (at0 μ t y) := congrArg (g0 μ c) (gradient_place μ t y)
theorem weight_read : (iblk μ (ok μ) c 1 t : Tile) y = w0 μ c (at0 μ t y) := rfl
theorem mean_read : (iblk μ (ok μ) c 2 t : Tile) y = m0 μ c (at0 μ t y) := rfl
theorem square_read : (iblk μ (ok μ) c 3 t : Tile) y = v0 μ c (at0 μ t y) := rfl

theorem after4 : (dats μ (ok μ) 0 c).after 4 t = (iblk μ (ok μ) c 0 t : Tile) := by
  rw [after0_4]
  unfold outsAt0
  dsimp only
  exact gradient_left _ _ _ _ _ _ _ _ _ _ _ _ _ _ _ _ _ _ _ _ _ _ _

theorem after5 : (dats μ (ok μ) 0 c).after 5 t
    = deltas (s := S1x256x768) (iblk μ (ok μ) c 0 t) (iblk μ (ok μ) c 1 t) (iblk μ (ok μ) c 2 t) (iblk μ (ok μ) c 3 t) := by
  rw [after0_5]
  unfold outsAt0
  dsimp only
  exact delta_left _ _ _ _ _ _ _ _ _ _ _ _ _ _ _ _ _ _ _ _ _ _ _

theorem after6 : (dats μ (ok μ) 0 c).after 6 t = means (s := S1x256x768) (iblk μ (ok μ) c 0 t) (iblk μ (ok μ) c 2 t) := by
  rw [after0_6]
  unfold outsAt0
  dsimp only
  exact mean_left _ _ _ _ _ _ _ _ _ _ _ _ _ _ _ _ _ _ _ _ _ _ _

theorem after7 : (dats μ (ok μ) 0 c).after 7 t = squares (s := S1x256x768) (iblk μ (ok μ) c 0 t) (iblk μ (ok μ) c 3 t) := by
  rw [after0_7]
  unfold outsAt0
  dsimp only
  exact square_left _ _ _ _ _ _ _ _ _ _ _ _ _ _ _ _ _ _ _ _ _ _ _

theorem array4 : (dats μ (ok μ) 0 c).arrAt 4 (cfgM μ (ok μ)).N = g0 μ c := by
  refine (dats μ (ok μ) 0 c).arrAt_eq_of_covers 4 _ covers4 fun t _ y => (congrFun (after4 μ c t) y).trans ?_
  exact gradient_read μ c t y

theorem array5 : (dats μ (ok μ) 0 c).arrAt 5 (cfgM μ (ok μ)).N = deltas (g0 μ c) (w0 μ c) (m0 μ c) (v0 μ c) := by
  refine (dats μ (ok μ) 0 c).arrAt_eq_of_covers 5 _ covers5 fun t _ y => (congrFun (after5 μ c t) y).trans ?_
  exact congrArg (fun g => delta g (w0 μ c (at0 μ t y)) (m0 μ c (at0 μ t y)) (v0 μ c (at0 μ t y))) (gradient_read μ c t y)

theorem array6 : (dats μ (ok μ) 0 c).arrAt 6 (cfgM μ (ok μ)).N = means (g0 μ c) (m0 μ c) := by
  refine (dats μ (ok μ) 0 c).arrAt_eq_of_covers 6 _ covers6 fun t _ y => (congrFun (after6 μ c t) y).trans ?_
  exact congrArg (fun g => mean g (m0 μ c (at0 μ t y))) (gradient_read μ c t y)

theorem array7 : (dats μ (ok μ) 0 c).arrAt 7 (cfgM μ (ok μ)).N = squares (g0 μ c) (v0 μ c) := by
  refine (dats μ (ok μ) 0 c).arrAt_eq_of_covers 7 _ covers7 fun t _ y => (congrFun (after7 μ c t) y).trans ?_
  exact congrArg (fun g => square g (v0 μ c (at0 μ t y))) (gradient_read μ c t y)

variable (ρ : Dev nD → PrngReg)

/-- Every run of the call ends with those arrays, the arguments kept and every counter at zero. -/
theorem run : θ_run (defs (F := Ideal)) (onTc (τ := τ) (main (F := Ideal))) ⟨μ, fun _ => 0, ρ⟩ fun r => (∀ c : Dev nD,
      r.2.mem ((c.tc : Thread nD τ).loc main_v0_0) = g0 μ c
      ∧ r.2.mem ((c.tc : Thread nD τ).loc main_v0_1) = deltas (g0 μ c) (w0 μ c) (m0 μ c) (v0 μ c)
      ∧ r.2.mem ((c.tc : Thread nD τ).loc main_v0_2) = means (g0 μ c) (m0 μ c)
      ∧ r.2.mem ((c.tc : Thread nD τ).loc main_v0_3) = squares (g0 μ c) (v0 μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) ∧ r.2.sem = fun _ => 0 :=
  θ_run_and ((θ_run defs _ _).mono (fun _ h c => ⟨((h c).1 4).trans (array4 μ c), ((h c).1 5).trans (array5 μ c),
      ((h c).1 6).trans (array6 μ c), ((h c).1 7).trans (array7 μ c),
      ((h c).1 0).trans (((dats μ (ok μ) 0 c).arrAt_in 0 rfl _).trans ((A_eq μ (ok μ) c 0).trans (V_main_arg0 μ c))),
      ((h c).1 1).trans (((dats μ (ok μ) 0 c).arrAt_in 1 rfl _).trans ((A_eq μ (ok μ) c 1).trans (V_main_arg1 μ c))),
      ((h c).1 2).trans (((dats μ (ok μ) 0 c).arrAt_in 2 rfl _).trans ((A_eq μ (ok μ) c 2).trans (V_main_arg2 μ c))),
      ((h c).1 3).trans (((dats μ (ok μ) 0 c).arrAt_in 3 rfl _).trans ((A_eq μ (ok μ) c 3).trans (V_main_arg3 μ c))),
      ((h c).2 main_arg4 (by decide : main_arg4 ∈ Pipeline.restRefs sig spec0)).trans (V_main_arg4 μ c)⟩) (run_main μ ρ (ok μ)))
    ((θ_run defs _ _).mono (fun _ h => h.2) (run_main_quiescent μ ρ (ok μ)))

end Cert.AdaKernelIdeal.Step
-- ==== Proof.AdaReference.lean ====
/-
  The optimiser's reference at the modulation weights: its results are those of `Adam`.
-/
module

public import proofs.«01_k».proof.Proof.Adam
public import proofs.«01_k».proof.Proof.Gen.AdaReferenceIdeal.Read
public import Idealize.ShloMosaic.Lib.Claim
public import Idealize.ShloMosaic.Lib.Quiescent

@[expose] public section

set_option maxRecDepth 16384

noncomputable section

namespace Cert.AdaReferenceIdeal.Step

open Cert.AdaReferenceIdeal Cert.AdaReferenceIdeal.Gen Cert.AdaReferenceIdeal.Read Cert.Adam Idealize.ShloMosaic
  Idealize.ShloMosaic.TcCoe Idealize.SL.Sem

variable (g w m v : FVec Ideal S2x1024x768 .f32)

theorem mean_eq : val_main_v4 (F := Ideal) g m = means g m := by
  funext y
  rw [val_main_v4_apply, val_main_v1_apply, val_main_v3_apply, val_main_v0_apply, val_main_v2_apply]
  rfl

theorem square_eq : val_main_v10 (F := Ideal) g v = squares g v := by
  funext y
  rw [val_main_v10_apply, val_main_v6_apply, val_main_v9_apply, val_main_v5_apply, val_main_v8_apply]
  rfl

theorem delta_eq : val_main_v23 (F := Ideal) g w m v = deltas g w m v := by
  funext y
  rw [val_main_v23_apply, val_main_v22_apply, val_main_v21_apply, val_main_v18_apply, val_main_v12_apply, val_main_v11_apply,
    val_main_v17_apply, val_main_v15_apply, val_main_v14_apply, val_main_v13_apply, val_main_v16_apply, val_main_v20_apply,
    val_main_v19_apply, mean_eq, square_eq]
  rfl

variable (μ : (ℓ : Loc nD τ sig) → Buf (Elt Ideal) ℓ) (ρ : Dev nD → PrngReg)

/-- Every run of the reference ends with those results, the arguments kept and every counter at zero. -/
theorem run : θ_run (defs (F := Ideal)) (onTc (τ := τ) (main (F := Ideal))) ⟨μ, fun _ => 0, ρ⟩ fun r => (∀ c : Dev nD,
      (r.2.mem ((c.tc : Thread nD τ).loc main_arg0) = μ ((c.tc : Thread nD τ).loc main_arg0)
      ∧ r.2.mem ((c.tc : Thread nD τ).loc main_v23) = deltas (s := S2x1024x768) (μ ((c.tc : Thread nD τ).loc main_arg0))
          (μ ((c.tc : Thread nD τ).loc main_arg1)) (μ ((c.tc : Thread nD τ).loc main_arg2)) (μ ((c.tc : Thread nD τ).loc main_arg3))
      ∧ r.2.mem ((c.tc : Thread nD τ).loc main_v4) = means (s := S2x1024x768) (μ ((c.tc : Thread nD τ).loc main_arg0))
          (μ ((c.tc : Thread nD τ).loc main_arg2))
      ∧ r.2.mem ((c.tc : Thread nD τ).loc main_v10) = squares (s := S2x1024x768) (μ ((c.tc : Thread nD τ).loc main_arg0))
          (μ ((c.tc : Thread nD τ).loc main_arg3)))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) ∧ r.2.sem = fun _ => 0 :=
  (θ_run (defs (F := Ideal)) _ _).mono (fun _ h => ⟨fun c => ⟨⟨(h c).1, (h c).2.1.trans ((val_main_v23_eq _ _ _ _).trans (delta_eq _ _ _ _)),
    (h c).2.2.1.trans ((val_main_v4_eq _ _).trans (mean_eq _ _)),
    (h c).2.2.2.1.trans ((val_main_v10_eq _ _).trans (square_eq _ _))⟩, (h c).2.2.2.2⟩,
    sem_eq_zero_of_no_sems (by decide) _⟩) (Value.run μ ρ)

end Cert.AdaReferenceIdeal.Step
-- ==== Proof.ScwArrays.lean ====
/-
  The optimiser's call at the SSD convolution's weights: the arrays that it leaves are those of `Adam`.
-/
module

public import proofs.«01_k».proof.Proof.Adam
public import proofs.«01_k».proof.Proof.Gen.ScwKernelIdeal.Frame
public import Idealize.ShloMosaic.Lib.Pipeline.ValueKit
public import Idealize.ShloMosaic.Lib.Pointwise

@[expose] public section

set_option maxRecDepth 16384

noncomputable section

namespace Cert.ScwKernelIdeal.Step

open Cert.ScwKernelIdeal Cert.ScwKernelIdeal.Gen Cert.Adam Idealize.ShloMosaic Idealize.ShloMosaic.TcCoe Idealize.SL.Sem
open Idealize.ShloMosaic.Pipeline (Dat)

/-- A block of one of the arrays. -/
abbrev Tile := FVec Ideal S1x4x192 .f32

/-! ## A grid point's values -/

theorem pay1_eq (g m : Tile) : k0_pay1 (F := Ideal) g m = means g m := rfl
theorem pay2_eq (g v : Tile) : k0_pay2 (F := Ideal) g v = squares g v := rfl
theorem pay3_eq (g w m v : Tile) : k0_pay3 (F := Ideal) g w m v = deltas g w m v := rfl

theorem hz : (![0, 0, 0] : Fin 3 → Nat) = fun _ => 0 := by decide

section
variable (c : Dev nD) (i : grid0.Coords) (a0 : Memref sig .tc .vmem S1x4x192 .f32) (h0 : a0.IsWhole)
  (a1 : Memref sig .tc .vmem S1x4x192 .f32) (h1 : a1.IsWhole) (a2 : Memref sig .tc .vmem S1x4x192 .f32) (h2 : a2.IsWhole)
  (a3 : Memref sig .tc .vmem S1x4x192 .f32) (h3 : a3.IsWhole) (a4 : Memref sig .tc .vmem S1x4x192 .f32) (h4 : a4.IsWhole)
  (a5 : Memref sig .tc .vmem S1x4x192 .f32) (h5 : a5.IsWhole) (a6 : Memref sig .tc .vmem S1x4x192 .f32) (h6 : a6.IsWhole)
  (a7 : Memref sig .tc .vmem S1x4x192 .f32) (h7 : a7.IsWhole) (g w m v : Tile) (x : TbBuf0 (F := Ideal) c tbM0_0)

theorem gradient_left : out0_A_4 (F := Ideal) c i a0 h0 a1 h1 a2 h2 a3 h3 a4 h4 a5 h5 a6 h6 a7 h7 g w m v x = g := by
  unfold out0_A_4
  rw [View.read_writes_eq_canon _ _ _ (cover0_A_4 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, View.ld_unit_zero (S := S1x4x192) hz]

theorem delta_left : out0_A_5 (F := Ideal) c i a0 h0 a1 h1 a2 h2 a3 h3 a4 h4 a5 h5 a6 h6 a7 h7 g w m v x = deltas g w m v := by
  unfold out0_A_5
  rw [View.read_writes_eq_canon _ _ _ (cover0_A_5 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h1.read_unread, h2.read_unread, h3.read_unread, View.ld_unit_zero (S := S1x4x192) hz]
  rfl

theorem mean_left : out0_A_6 (F := Ideal) c i a0 h0 a1 h1 a2 h2 a3 h3 a4 h4 a5 h5 a6 h6 a7 h7 g w m v x = means g m := by
  unfold out0_A_6
  rw [View.read_writes_eq_canon _ _ _ (cover0_A_6 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h2.read_unread, View.ld_unit_zero (S := S1x4x192) hz]
  rfl

theorem square_left : out0_A_7 (F := Ideal) c i a0 h0 a1 h1 a2 h2 a3 h3 a4 h4 a5 h5 a6 h6 a7 h7 g w m v x = squares g v := by
  unfold out0_A_7
  rw [View.read_writes_eq_canon _ _ _ (cover0_A_7 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h3.read_unread, View.ld_unit_zero (S := S1x4x192) hz]
  rfl

end

/-! ## The arrays -/

/-- Contents of the table; the blocks do not depend on them. -/
def table : (pcfg0 (F := Ideal)).Adm := ⟨fun | 0 => fun _ => (0#32 : BitVec 32), trivial⟩

theorem covers4 : ((cfg0 table).win 4).Covers := by decide +kernel
theorem covers5 : ((cfg0 table).win 5).Covers := by decide +kernel
theorem covers6 : ((cfg0 table).win 6).Covers := by decide +kernel
theorem covers7 : ((cfg0 table).win 7).Covers := by decide +kernel

variable (μ : (ℓ : Loc nD τ sig) → Buf (Elt Ideal) ℓ) (c : Dev nD)

/-- The table's words choose no block: nothing is asked of them. -/
theorem ok : Ok μ := trivial

/-! The arguments. -/
abbrev g0 : FVec Ideal S2x4x192 .f32 := μ ((c : Thread nD τ).loc main_arg0)
abbrev w0 : FVec Ideal S2x4x192 .f32 := μ ((c : Thread nD τ).loc main_arg1)
abbrev m0 : FVec Ideal S2x4x192 .f32 := μ ((c : Thread nD τ).loc main_arg2)
abbrev v0 : FVec Ideal S2x4x192 .f32 := μ ((c : Thread nD τ).loc main_arg3)

variable (t : Fin (cfgM μ (ok μ)).N) (y : S1x4x192.Idx)

/-- The gradient's block lies where the results' blocks lie. -/
theorem gradient_index : ∀ t : Fin grid0.N, cc0_transform_0 (grid0.coords t) = cc0_transform_4 (grid0.coords t) := by decide +kernel

/-- Where an element of a point's block lies in the array. -/
abbrev at0 : S2x4x192.Idx := (((cfgM μ (ok μ)).win 4).blk t).view.emb y

theorem gradient_place : (((cfgM μ (ok μ)).win 0).blk t).view.emb y = at0 μ t y := by
  funext a
  apply Fin.ext
  show cc0_transform_0 (grid0.coords t) a * _ + _ = cc0_transform_4 (grid0.coords t) a * _ + _
  rw [gradient_index t]
  rfl

theorem gradient_read : (iblk μ (ok μ) c 0 t : Tile) y = g0 μ c (at0 μ t y) := congrArg (g0 μ c) (gradient_place μ t y)
theorem weight_read : (iblk μ (ok μ) c 1 t : Tile) y = w0 μ c (at0 μ t y) := rfl
theorem mean_read : (iblk μ (ok μ) c 2 t : Tile) y = m0 μ c (at0 μ t y) := rfl
theorem square_read : (iblk μ (ok μ) c 3 t : Tile) y = v0 μ c (at0 μ t y) := rfl

theorem after4 : (dats μ (ok μ) 0 c).after 4 t = (iblk μ (ok μ) c 0 t : Tile) := by
  rw [after0_4]
  unfold outsAt0
  dsimp only
  exact gradient_left _ _ _ _ _ _ _ _ _ _ _ _ _ _ _ _ _ _ _ _ _ _ _

theorem after5 : (dats μ (ok μ) 0 c).after 5 t
    = deltas (s := S1x4x192) (iblk μ (ok μ) c 0 t) (iblk μ (ok μ) c 1 t) (iblk μ (ok μ) c 2 t) (iblk μ (ok μ) c 3 t) := by
  rw [after0_5]
  unfold outsAt0
  dsimp only
  exact delta_left _ _ _ _ _ _ _ _ _ _ _ _ _ _ _ _ _ _ _ _ _ _ _

theorem after6 : (dats μ (ok μ) 0 c).after 6 t = means (s := S1x4x192) (iblk μ (ok μ) c 0 t) (iblk μ (ok μ) c 2 t) := by
  rw [after0_6]
  unfold outsAt0
  dsimp only
  exact mean_left _ _ _ _ _ _ _ _ _ _ _ _ _ _ _ _ _ _ _ _ _ _ _

theorem after7 : (dats μ (ok μ) 0 c).after 7 t = squares (s := S1x4x192) (iblk μ (ok μ) c 0 t) (iblk μ (ok μ) c 3 t) := by
  rw [after0_7]
  unfold outsAt0
  dsimp only
  exact square_left _ _ _ _ _ _ _ _ _ _ _ _ _ _ _ _ _ _ _ _ _ _ _

theorem array4 : (dats μ (ok μ) 0 c).arrAt 4 (cfgM μ (ok μ)).N = g0 μ c := by
  refine (dats μ (ok μ) 0 c).arrAt_eq_of_covers 4 _ covers4 fun t _ y => (congrFun (after4 μ c t) y).trans ?_
  exact gradient_read μ c t y

theorem array5 : (dats μ (ok μ) 0 c).arrAt 5 (cfgM μ (ok μ)).N = deltas (g0 μ c) (w0 μ c) (m0 μ c) (v0 μ c) := by
  refine (dats μ (ok μ) 0 c).arrAt_eq_of_covers 5 _ covers5 fun t _ y => (congrFun (after5 μ c t) y).trans ?_
  exact congrArg (fun g => delta g (w0 μ c (at0 μ t y)) (m0 μ c (at0 μ t y)) (v0 μ c (at0 μ t y))) (gradient_read μ c t y)

theorem array6 : (dats μ (ok μ) 0 c).arrAt 6 (cfgM μ (ok μ)).N = means (g0 μ c) (m0 μ c) := by
  refine (dats μ (ok μ) 0 c).arrAt_eq_of_covers 6 _ covers6 fun t _ y => (congrFun (after6 μ c t) y).trans ?_
  exact congrArg (fun g => mean g (m0 μ c (at0 μ t y))) (gradient_read μ c t y)

theorem array7 : (dats μ (ok μ) 0 c).arrAt 7 (cfgM μ (ok μ)).N = squares (g0 μ c) (v0 μ c) := by
  refine (dats μ (ok μ) 0 c).arrAt_eq_of_covers 7 _ covers7 fun t _ y => (congrFun (after7 μ c t) y).trans ?_
  exact congrArg (fun g => square g (v0 μ c (at0 μ t y))) (gradient_read μ c t y)

variable (ρ : Dev nD → PrngReg)

/-- Every run of the call ends with those arrays, the arguments kept and every counter at zero. -/
theorem run : θ_run (defs (F := Ideal)) (onTc (τ := τ) (main (F := Ideal))) ⟨μ, fun _ => 0, ρ⟩ fun r => (∀ c : Dev nD,
      r.2.mem ((c.tc : Thread nD τ).loc main_v0_0) = g0 μ c
      ∧ r.2.mem ((c.tc : Thread nD τ).loc main_v0_1) = deltas (g0 μ c) (w0 μ c) (m0 μ c) (v0 μ c)
      ∧ r.2.mem ((c.tc : Thread nD τ).loc main_v0_2) = means (g0 μ c) (m0 μ c)
      ∧ r.2.mem ((c.tc : Thread nD τ).loc main_v0_3) = squares (g0 μ c) (v0 μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) ∧ r.2.sem = fun _ => 0 :=
  θ_run_and ((θ_run defs _ _).mono (fun _ h c => ⟨((h c).1 4).trans (array4 μ c), ((h c).1 5).trans (array5 μ c),
      ((h c).1 6).trans (array6 μ c), ((h c).1 7).trans (array7 μ c),
      ((h c).1 0).trans (((dats μ (ok μ) 0 c).arrAt_in 0 rfl _).trans ((A_eq μ (ok μ) c 0).trans (V_main_arg0 μ c))),
      ((h c).1 1).trans (((dats μ (ok μ) 0 c).arrAt_in 1 rfl _).trans ((A_eq μ (ok μ) c 1).trans (V_main_arg1 μ c))),
      ((h c).1 2).trans (((dats μ (ok μ) 0 c).arrAt_in 2 rfl _).trans ((A_eq μ (ok μ) c 2).trans (V_main_arg2 μ c))),
      ((h c).1 3).trans (((dats μ (ok μ) 0 c).arrAt_in 3 rfl _).trans ((A_eq μ (ok μ) c 3).trans (V_main_arg3 μ c))),
      ((h c).2 main_arg4 (by decide : main_arg4 ∈ Pipeline.restRefs sig spec0)).trans (V_main_arg4 μ c)⟩) (run_main μ ρ (ok μ)))
    ((θ_run defs _ _).mono (fun _ h => h.2) (run_main_quiescent μ ρ (ok μ)))

end Cert.ScwKernelIdeal.Step
-- ==== Proof.ScwReference.lean ====
/-
  The optimiser's reference at the SSD convolution's weights: its results are those of `Adam`.
-/
module

public import proofs.«01_k».proof.Proof.Adam
public import proofs.«01_k».proof.Proof.Gen.ScwReferenceIdeal.Read
public import Idealize.ShloMosaic.Lib.Claim
public import Idealize.ShloMosaic.Lib.Quiescent

@[expose] public section

set_option maxRecDepth 16384

noncomputable section

namespace Cert.ScwReferenceIdeal.Step

open Cert.ScwReferenceIdeal Cert.ScwReferenceIdeal.Gen Cert.ScwReferenceIdeal.Read Cert.Adam Idealize.ShloMosaic
  Idealize.ShloMosaic.TcCoe Idealize.SL.Sem

variable (g w m v : FVec Ideal S2x4x192 .f32)

theorem mean_eq : val_main_v4 (F := Ideal) g m = means g m := by
  funext y
  rw [val_main_v4_apply, val_main_v1_apply, val_main_v3_apply, val_main_v0_apply, val_main_v2_apply]
  rfl

theorem square_eq : val_main_v10 (F := Ideal) g v = squares g v := by
  funext y
  rw [val_main_v10_apply, val_main_v6_apply, val_main_v9_apply, val_main_v5_apply, val_main_v8_apply]
  rfl

theorem delta_eq : val_main_v23 (F := Ideal) g w m v = deltas g w m v := by
  funext y
  rw [val_main_v23_apply, val_main_v22_apply, val_main_v21_apply, val_main_v18_apply, val_main_v12_apply, val_main_v11_apply,
    val_main_v17_apply, val_main_v15_apply, val_main_v14_apply, val_main_v13_apply, val_main_v16_apply, val_main_v20_apply,
    val_main_v19_apply, mean_eq, square_eq]
  rfl

variable (μ : (ℓ : Loc nD τ sig) → Buf (Elt Ideal) ℓ) (ρ : Dev nD → PrngReg)

/-- Every run of the reference ends with those results, the arguments kept and every counter at zero. -/
theorem run : θ_run (defs (F := Ideal)) (onTc (τ := τ) (main (F := Ideal))) ⟨μ, fun _ => 0, ρ⟩ fun r => (∀ c : Dev nD,
      (r.2.mem ((c.tc : Thread nD τ).loc main_arg0) = μ ((c.tc : Thread nD τ).loc main_arg0)
      ∧ r.2.mem ((c.tc : Thread nD τ).loc main_v23) = deltas (s := S2x4x192) (μ ((c.tc : Thread nD τ).loc main_arg0))
          (μ ((c.tc : Thread nD τ).loc main_arg1)) (μ ((c.tc : Thread nD τ).loc main_arg2)) (μ ((c.tc : Thread nD τ).loc main_arg3))
      ∧ r.2.mem ((c.tc : Thread nD τ).loc main_v4) = means (s := S2x4x192) (μ ((c.tc : Thread nD τ).loc main_arg0))
          (μ ((c.tc : Thread nD τ).loc main_arg2))
      ∧ r.2.mem ((c.tc : Thread nD τ).loc main_v10) = squares (s := S2x4x192) (μ ((c.tc : Thread nD τ).loc main_arg0))
          (μ ((c.tc : Thread nD τ).loc main_arg3)))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) ∧ r.2.sem = fun _ => 0 :=
  (θ_run (defs (F := Ideal)) _ _).mono (fun _ h => ⟨fun c => ⟨⟨(h c).1, (h c).2.1.trans ((val_main_v23_eq _ _ _ _).trans (delta_eq _ _ _ _)),
    (h c).2.2.1.trans ((val_main_v4_eq _ _).trans (mean_eq _ _)),
    (h c).2.2.2.1.trans ((val_main_v10_eq _ _).trans (square_eq _ _))⟩, (h c).2.2.2.2⟩,
    sem_eq_zero_of_no_sems (by decide) _⟩) (Value.run μ ρ)

end Cert.ScwReferenceIdeal.Step
-- ==== Proof.FcwArrays.lean ====
/-
  The optimiser's call at the feed-forward convolution's weights: the arrays that it leaves are those of `Adam`.
-/
module

public import proofs.«01_k».proof.Proof.Adam
public import proofs.«01_k».proof.Proof.Gen.FcwKernelIdeal.Frame
public import Idealize.ShloMosaic.Lib.Pipeline.ValueKit
public import Idealize.ShloMosaic.Lib.Pointwise

@[expose] public section

set_option maxRecDepth 16384

noncomputable section

namespace Cert.FcwKernelIdeal.Step

open Cert.FcwKernelIdeal Cert.FcwKernelIdeal.Gen Cert.Adam Idealize.ShloMosaic Idealize.ShloMosaic.TcCoe Idealize.SL.Sem
open Idealize.ShloMosaic.Pipeline (Dat)

/-- A block of one of the arrays. -/
abbrev Tile := FVec Ideal S1x3x352 .f32

/-! ## A grid point's values -/

theorem pay1_eq (g m : Tile) : k0_pay1 (F := Ideal) g m = means g m := rfl
theorem pay2_eq (g v : Tile) : k0_pay2 (F := Ideal) g v = squares g v := rfl
theorem pay3_eq (g w m v : Tile) : k0_pay3 (F := Ideal) g w m v = deltas g w m v := rfl

theorem hz : (![0, 0, 0] : Fin 3 → Nat) = fun _ => 0 := by decide

section
variable (c : Dev nD) (i : grid0.Coords) (a0 : Memref sig .tc .vmem S1x3x352 .f32) (h0 : a0.IsWhole)
  (a1 : Memref sig .tc .vmem S1x3x352 .f32) (h1 : a1.IsWhole) (a2 : Memref sig .tc .vmem S1x3x352 .f32) (h2 : a2.IsWhole)
  (a3 : Memref sig .tc .vmem S1x3x352 .f32) (h3 : a3.IsWhole) (a4 : Memref sig .tc .vmem S1x3x352 .f32) (h4 : a4.IsWhole)
  (a5 : Memref sig .tc .vmem S1x3x352 .f32) (h5 : a5.IsWhole) (a6 : Memref sig .tc .vmem S1x3x352 .f32) (h6 : a6.IsWhole)
  (a7 : Memref sig .tc .vmem S1x3x352 .f32) (h7 : a7.IsWhole) (g w m v : Tile) (x : TbBuf0 (F := Ideal) c tbM0_0)

theorem gradient_left : out0_A_4 (F := Ideal) c i a0 h0 a1 h1 a2 h2 a3 h3 a4 h4 a5 h5 a6 h6 a7 h7 g w m v x = g := by
  unfold out0_A_4
  rw [View.read_writes_eq_canon _ _ _ (cover0_A_4 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, View.ld_unit_zero (S := S1x3x352) hz]

theorem delta_left : out0_A_5 (F := Ideal) c i a0 h0 a1 h1 a2 h2 a3 h3 a4 h4 a5 h5 a6 h6 a7 h7 g w m v x = deltas g w m v := by
  unfold out0_A_5
  rw [View.read_writes_eq_canon _ _ _ (cover0_A_5 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h1.read_unread, h2.read_unread, h3.read_unread, View.ld_unit_zero (S := S1x3x352) hz]
  rfl

theorem mean_left : out0_A_6 (F := Ideal) c i a0 h0 a1 h1 a2 h2 a3 h3 a4 h4 a5 h5 a6 h6 a7 h7 g w m v x = means g m := by
  unfold out0_A_6
  rw [View.read_writes_eq_canon _ _ _ (cover0_A_6 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h2.read_unread, View.ld_unit_zero (S := S1x3x352) hz]
  rfl

theorem square_left : out0_A_7 (F := Ideal) c i a0 h0 a1 h1 a2 h2 a3 h3 a4 h4 a5 h5 a6 h6 a7 h7 g w m v x = squares g v := by
  unfold out0_A_7
  rw [View.read_writes_eq_canon _ _ _ (cover0_A_7 (F := Ideal) c i a0 h0 a1 h1 a2 h2 a3 h3 a4 h4 a5 h5 a6 h6 a7 h7 g w m v x)]
  unfold kernelRun0_A
  dsimp only
  sl_unfold_words
  rw [View.canon_unit_zero hz]
  simp only [View.readAt_eq_ld, h0.read_unread, h3.read_unread, View.ld_unit_zero (S := S1x3x352) hz]
  rfl

end

/-! ## The arrays -/

/-- Contents of the table; the blocks do not depend on them. -/
def table : (pcfg0 (F := Ideal)).Adm := ⟨fun | 0 => fun _ => (0#32 : BitVec 32), trivial⟩

theorem covers4 : ((cfg0 table).win 4).Covers := by decide +kernel
theorem covers5 : ((cfg0 table).win 5).Covers := by decide +kernel
theorem covers6 : ((cfg0 table).win 6).Covers := by decide +kernel
theorem covers7 : ((cfg0 table).win 7).Covers := by decide +kernel

variable (μ : (ℓ : Loc nD τ sig) → Buf (Elt Ideal) ℓ) (c : Dev nD)

/-- The table's words choose no block: nothing is asked of them. -/
theorem ok : Ok μ := trivial

/-! The arguments. -/
abbrev g0 : FVec Ideal S2x3x352 .f32 := μ ((c : Thread nD τ).loc main_arg0)
abbrev w0 : FVec Ideal S2x3x352 .f32 := μ ((c : Thread nD τ).loc main_arg1)
abbrev m0 : FVec Ideal S2x3x352 .f32 := μ ((c : Thread nD τ).loc main_arg2)
abbrev v0 : FVec Ideal S2x3x352 .f32 := μ ((c : Thread nD τ).loc main_arg3)

variable (t : Fin (cfgM μ (ok μ)).N) (y : S1x3x352.Idx)

/-- The gradient's block lies where the results' blocks lie. -/
theorem gradient_index : ∀ t : Fin grid0.N, cc0_transform_0 (grid0.coords t) = cc0_transform_4 (grid0.coords t) := by decide +kernel

/-- Where an element of a point's block lies in the array. -/
abbrev at0 : S2x3x352.Idx := (((cfgM μ (ok μ)).win 4).blk t).view.emb y

theorem gradient_place : (((cfgM μ (ok μ)).win 0).blk t).view.emb y = at0 μ t y := by
  funext a
  apply Fin.ext
  show cc0_transform_0 (grid0.coords t) a * _ + _ = cc0_transform_4 (grid0.coords t) a * _ + _
  rw [gradient_index t]
  rfl

theorem gradient_read : (iblk μ (ok μ) c 0 t : Tile) y = g0 μ c (at0 μ t y) := congrArg (g0 μ c) (gradient_place μ t y)
theorem weight_read : (iblk μ (ok μ) c 1 t : Tile) y = w0 μ c (at0 μ t y) := rfl
theorem mean_read : (iblk μ (ok μ) c 2 t : Tile) y = m0 μ c (at0 μ t y) := rfl
theorem square_read : (iblk μ (ok μ) c 3 t : Tile) y = v0 μ c (at0 μ t y) := rfl

theorem after4 : (dats μ (ok μ) 0 c).after 4 t = (iblk μ (ok μ) c 0 t : Tile) := by
  rw [after0_4]
  unfold outsAt0
  dsimp only
  exact gradient_left _ _ _ _ _ _ _ _ _ _ _ _ _ _ _ _ _ _ _ _ _ _ _

theorem after5 : (dats μ (ok μ) 0 c).after 5 t
    = deltas (s := S1x3x352) (iblk μ (ok μ) c 0 t) (iblk μ (ok μ) c 1 t) (iblk μ (ok μ) c 2 t) (iblk μ (ok μ) c 3 t) := by
  rw [after0_5]
  unfold outsAt0
  dsimp only
  exact delta_left _ _ _ _ _ _ _ _ _ _ _ _ _ _ _ _ _ _ _ _ _ _ _

theorem after6 : (dats μ (ok μ) 0 c).after 6 t = means (s := S1x3x352) (iblk μ (ok μ) c 0 t) (iblk μ (ok μ) c 2 t) := by
  rw [after0_6]
  unfold outsAt0
  dsimp only
  exact mean_left _ _ _ _ _ _ _ _ _ _ _ _ _ _ _ _ _ _ _ _ _ _ _

theorem after7 : (dats μ (ok μ) 0 c).after 7 t = squares (s := S1x3x352) (iblk μ (ok μ) c 0 t) (iblk μ (ok μ) c 3 t) := by
  rw [after0_7]
  unfold outsAt0
  dsimp only
  exact square_left _ _ _ _ _ _ _ _ _ _ _ _ _ _ _ _ _ _ _ _ _ _ _

theorem array4 : (dats μ (ok μ) 0 c).arrAt 4 (cfgM μ (ok μ)).N = g0 μ c := by
  refine (dats μ (ok μ) 0 c).arrAt_eq_of_covers 4 _ covers4 fun t _ y => (congrFun (after4 μ c t) y).trans ?_
  exact gradient_read μ c t y

theorem array5 : (dats μ (ok μ) 0 c).arrAt 5 (cfgM μ (ok μ)).N = deltas (g0 μ c) (w0 μ c) (m0 μ c) (v0 μ c) := by
  refine (dats μ (ok μ) 0 c).arrAt_eq_of_covers 5 _ covers5 fun t _ y => (congrFun (after5 μ c t) y).trans ?_
  exact congrArg (fun g => delta g (w0 μ c (at0 μ t y)) (m0 μ c (at0 μ t y)) (v0 μ c (at0 μ t y))) (gradient_read μ c t y)

theorem array6 : (dats μ (ok μ) 0 c).arrAt 6 (cfgM μ (ok μ)).N = means (g0 μ c) (m0 μ c) := by
  refine (dats μ (ok μ) 0 c).arrAt_eq_of_covers 6 _ covers6 fun t _ y => (congrFun (after6 μ c t) y).trans ?_
  exact congrArg (fun g => mean g (m0 μ c (at0 μ t y))) (gradient_read μ c t y)

theorem array7 : (dats μ (ok μ) 0 c).arrAt 7 (cfgM μ (ok μ)).N = squares (g0 μ c) (v0 μ c) := by
  refine (dats μ (ok μ) 0 c).arrAt_eq_of_covers 7 _ covers7 fun t _ y => (congrFun (after7 μ c t) y).trans ?_
  exact congrArg (fun g => square g (v0 μ c (at0 μ t y))) (gradient_read μ c t y)

variable (ρ : Dev nD → PrngReg)

/-- Every run of the call ends with those arrays, the arguments kept and every counter at zero. -/
theorem run : θ_run (defs (F := Ideal)) (onTc (τ := τ) (main (F := Ideal))) ⟨μ, fun _ => 0, ρ⟩ fun r => (∀ c : Dev nD,
      r.2.mem ((c.tc : Thread nD τ).loc main_v0_0) = g0 μ c
      ∧ r.2.mem ((c.tc : Thread nD τ).loc main_v0_1) = deltas (g0 μ c) (w0 μ c) (m0 μ c) (v0 μ c)
      ∧ r.2.mem ((c.tc : Thread nD τ).loc main_v0_2) = means (g0 μ c) (m0 μ c)
      ∧ r.2.mem ((c.tc : Thread nD τ).loc main_v0_3) = squares (g0 μ c) (v0 μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) ∧ r.2.sem = fun _ => 0 :=
  θ_run_and ((θ_run defs _ _).mono (fun _ h c => ⟨((h c).1 4).trans (array4 μ c), ((h c).1 5).trans (array5 μ c),
      ((h c).1 6).trans (array6 μ c), ((h c).1 7).trans (array7 μ c),
      ((h c).1 0).trans (((dats μ (ok μ) 0 c).arrAt_in 0 rfl _).trans ((A_eq μ (ok μ) c 0).trans (V_main_arg0 μ c))),
      ((h c).1 1).trans (((dats μ (ok μ) 0 c).arrAt_in 1 rfl _).trans ((A_eq μ (ok μ) c 1).trans (V_main_arg1 μ c))),
      ((h c).1 2).trans (((dats μ (ok μ) 0 c).arrAt_in 2 rfl _).trans ((A_eq μ (ok μ) c 2).trans (V_main_arg2 μ c))),
      ((h c).1 3).trans (((dats μ (ok μ) 0 c).arrAt_in 3 rfl _).trans ((A_eq μ (ok μ) c 3).trans (V_main_arg3 μ c))),
      ((h c).2 main_arg4 (by decide : main_arg4 ∈ Pipeline.restRefs sig spec0)).trans (V_main_arg4 μ c)⟩) (run_main μ ρ (ok μ)))
    ((θ_run defs _ _).mono (fun _ h => h.2) (run_main_quiescent μ ρ (ok μ)))

end Cert.FcwKernelIdeal.Step
-- ==== Proof.FcwReference.lean ====
/-
  The optimiser's reference at the feed-forward convolution's weights: its results are those of `Adam`.
-/
module

public import proofs.«01_k».proof.Proof.Adam
public import proofs.«01_k».proof.Proof.Gen.FcwReferenceIdeal.Read
public import Idealize.ShloMosaic.Lib.Claim
public import Idealize.ShloMosaic.Lib.Quiescent

@[expose] public section

set_option maxRecDepth 16384

noncomputable section

namespace Cert.FcwReferenceIdeal.Step

open Cert.FcwReferenceIdeal Cert.FcwReferenceIdeal.Gen Cert.FcwReferenceIdeal.Read Cert.Adam Idealize.ShloMosaic
  Idealize.ShloMosaic.TcCoe Idealize.SL.Sem

variable (g w m v : FVec Ideal S2x3x352 .f32)

theorem mean_eq : val_main_v4 (F := Ideal) g m = means g m := by
  funext y
  rw [val_main_v4_apply, val_main_v1_apply, val_main_v3_apply, val_main_v0_apply, val_main_v2_apply]
  rfl

theorem square_eq : val_main_v10 (F := Ideal) g v = squares g v := by
  funext y
  rw [val_main_v10_apply, val_main_v6_apply, val_main_v9_apply, val_main_v5_apply, val_main_v8_apply]
  rfl

theorem delta_eq : val_main_v23 (F := Ideal) g w m v = deltas g w m v := by
  funext y
  rw [val_main_v23_apply, val_main_v22_apply, val_main_v21_apply, val_main_v18_apply, val_main_v12_apply, val_main_v11_apply,
    val_main_v17_apply, val_main_v15_apply, val_main_v14_apply, val_main_v13_apply, val_main_v16_apply, val_main_v20_apply,
    val_main_v19_apply, mean_eq, square_eq]
  rfl

variable (μ : (ℓ : Loc nD τ sig) → Buf (Elt Ideal) ℓ) (ρ : Dev nD → PrngReg)

/-- Every run of the reference ends with those results, the arguments kept and every counter at zero. -/
theorem run : θ_run (defs (F := Ideal)) (onTc (τ := τ) (main (F := Ideal))) ⟨μ, fun _ => 0, ρ⟩ fun r => (∀ c : Dev nD,
      (r.2.mem ((c.tc : Thread nD τ).loc main_arg0) = μ ((c.tc : Thread nD τ).loc main_arg0)
      ∧ r.2.mem ((c.tc : Thread nD τ).loc main_v23) = deltas (s := S2x3x352) (μ ((c.tc : Thread nD τ).loc main_arg0))
          (μ ((c.tc : Thread nD τ).loc main_arg1)) (μ ((c.tc : Thread nD τ).loc main_arg2)) (μ ((c.tc : Thread nD τ).loc main_arg3))
      ∧ r.2.mem ((c.tc : Thread nD τ).loc main_v4) = means (s := S2x3x352) (μ ((c.tc : Thread nD τ).loc main_arg0))
          (μ ((c.tc : Thread nD τ).loc main_arg2))
      ∧ r.2.mem ((c.tc : Thread nD τ).loc main_v10) = squares (s := S2x3x352) (μ ((c.tc : Thread nD τ).loc main_arg0))
          (μ ((c.tc : Thread nD τ).loc main_arg3)))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) ∧ r.2.sem = fun _ => 0 :=
  (θ_run (defs (F := Ideal)) _ _).mono (fun _ h => ⟨fun c => ⟨⟨(h c).1, (h c).2.1.trans ((val_main_v23_eq _ _ _ _).trans (delta_eq _ _ _ _)),
    (h c).2.2.1.trans ((val_main_v4_eq _ _).trans (mean_eq _ _)),
    (h c).2.2.2.1.trans ((val_main_v10_eq _ _).trans (square_eq _ _))⟩, (h c).2.2.2.2⟩,
    sem_eq_zero_of_no_sems (by decide) _⟩) (Value.run μ ρ)

end Cert.FcwReferenceIdeal.Step
-- ==== Proof.Shares.lean ====
/-
  The optimiser's step at a weight whose gradient comes in shares: the share of the device itself, chosen by a word among those
  that it sent out, and seven that it received.
-/
module

public import proofs.«01_k».proof.Proof.Adam
public import Idealize.ShloMosaic.Lib.Pointwise

@[expose] public section

noncomputable section

namespace Cert.Shares

open Idealize.ShloMosaic Cert.Adam

/-! ## The word -/

/-- The index of an array of one element. -/
def only : (⟨1, ![1]⟩ : Shape).Idx := fun a => ⟨0, by fin_cases a; decide⟩

theorem eq_only (i : (⟨1, ![1]⟩ : Shape).Idx) : i = only := by
  funext a
  have h : (i a).val < 1 := by
    have := (i a).isLt
    fin_cases a
    exact this
  exact Fin.ext (Nat.lt_one_iff.mp h)

/-- The device that a word names. -/
def owner (w : BitVec 32) : Fin 8 := ⟨w.toNat % 8, Nat.mod_lt _ (by decide)⟩

theorem owner_val {w : BitVec 32} (h : w.toNat < 8) : (owner w).val = w.toNat := Nat.mod_eq_of_lt h

/-- What the precondition states of the word. -/
theorem in_range {w : BitVec 32} (e : IntOp.andi (IntOp.cmpi .sge w 0#32) (IntOp.cmpi .slt w 8#32) = 1#1) : w.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Of eight numbers the word chooses one: the sum in which the others are replaced by zero. -/
theorem chosen {w : BitVec 32} (h : w.toNat < 8) (f : Fin 8 → EReal) :
    con 0x00000000#32 + ∑ k : Fin 8, Scalar.select (IntOp.cmpi .eq (BitVec.ofNat 32 k.val) w) (f k) (con 0x00000000#32) = f (owner w) := by
  have hw : BitVec.ofNat 32 (owner w).val = w := by
    rw [owner_val h]
    exact BitVec.eq_of_toNat_eq (by rw [BitVec.toNat_ofNat, Nat.mod_eq_of_lt (by omega)])
  show Ideal.ofBits .f32 _ + _ = _
  rw [Ideal.ofBits_zero_f32, zero_add, Finset.sum_eq_single (owner w)]
  · rw [hw]
    simp [Scalar.select, IntOp.cmpi]
  · intro k _ hk
    have hne : BitVec.ofNat 32 k.val ≠ w := fun e => hk (Fin.ext (by
      rw [owner_val h, ← e, BitVec.toNat_ofNat, Nat.mod_eq_of_lt (by have := k.isLt; omega)]))
    show Scalar.select _ _ (Ideal.ofBits .f32 _) = _
    rw [Ideal.ofBits_zero_f32]
    have : BitVec.ofBool (BitVec.ofNat 32 k.val == w) = 0#1 := by rw [beq_false_of_ne hne]; rfl
    simp [Scalar.select, IntOp.cmpi, this]
  · exact fun hn => absurd (Finset.mem_univ _) hn

/-- Eight numbers added one by one. -/
theorem one_by_one (a : EReal) (b : Fin 7 → EReal) : a + b 0 + b 1 + b 2 + b 3 + b 4 + b 5 + b 6 = a + ∑ k, b k := by
  simp only [Fin.sum_univ_succ, Fin.sum_univ_zero, add_zero, add_assoc]
  rfl

theorem eight {a a' x0 x1 x2 x3 x4 x5 x6 : EReal} (f : Fin 7 → EReal) (h : a = a') (h0 : x0 = f 0) (h1 : x1 = f 1) (h2 : x2 = f 2)
    (h3 : x3 = f 3) (h4 : x4 = f 4) (h5 : x5 = f 5) (h6 : x6 = f 6) : a + x0 + x1 + x2 + x3 + x4 + x5 + x6 = a' + ∑ k, f k := by
  subst h h0 h1 h2 h3 h4 h5 h6
  exact one_by_one _ f

/-! ## The arrays -/

/-- Arrays of `n` layers or shares, `r` rows each. -/
abbrev Cube (n r : ℕ) : Shape := ⟨3, ![n, r, 1024]⟩

variable {n m r : ℕ}

/-- The element at the same row and column in layer `k`. -/
abbrev place (k : Fin n) (i : (Cube m r).Idx) : (Cube n r).Idx := fun a => match a with
  | ⟨0, _⟩ => k
  | ⟨1, _⟩ => i 1
  | ⟨2, _⟩ => i 2

variable (own : FVec Ideal (Cube 8 r) .bf16) (land : FVec Ideal (Cube 7 r) .bf16) (k : Fin 8)

/-- The gradient: the own share and the seven received. -/
def gradient (i : (Cube m r).Idx) : EReal := own (place k i) + ∑ j, land (place j i)

/-- An array whose first layer is replaced. -/
def keep (new : (Cube 2 r).Idx → EReal) (old : FVec Ideal (Cube 2 r) .f32) : FVec Ideal (Cube 2 r) .f32 :=
  fun i => if (i 0).val = 0 then new i else old i

variable (w m v old : FVec Ideal (Cube 2 r) .f32)

/-- The four results: the first layer's step, the second layer kept. -/
def gradients : FVec Ideal (Cube 2 r) .f32 := keep (gradient own land k) old
def changes : FVec Ideal (Cube 2 r) .f32 := keep (fun i => delta (gradient own land k i) (w i) (m i) (v i)) old
def averages : FVec Ideal (Cube 2 r) .f32 := keep (fun i => mean (gradient own land k i) (m i)) old
def spreads : FVec Ideal (Cube 2 r) .f32 := keep (fun i => square (gradient own land k i) (v i)) old

/-- Two layers put together, the second one kept. -/
theorem keep_eq (new low : FVec Ideal (Cube 1 r) .f32) (f : (Cube 2 r).Idx → EReal)
    (h : Shape.Concatenates [Cube 1 r, Cube 1 r] (Cube 2 r) 0) (hnew : ∀ y, new y = f (place 0 y)) (hlow : ∀ y, low y = old (place 1 y)) :
    concatenate (Cube 2 r) 0 [⟨Cube 1 r, new⟩, ⟨Cube 1 r, low⟩] h = keep f old := by
  funext i
  unfold keep
  have hi : (i 0).val < 2 := (i 0).isLt
  split
  case isTrue e =>
    refine (concatenate_pair_apply_left _ _ _ _ _ (by rfl) (place 0 i) fun b => ?_).trans ((hnew _).trans (congrArg f ?_))
    · fin_cases b
      · exact e.symm
      · rfl
      · rfl
    · funext b
      fin_cases b
      · exact Fin.ext e.symm
      · rfl
      · rfl
  case isFalse e =>
    refine (concatenate_pair_apply_right _ _ _ _ _ (by rfl) (by rfl) (place 0 i) (fun b hb => ?_) ?_).trans ((hlow _).trans (congrArg old ?_))
    · fin_cases b
      · exact absurd rfl hb
      · rfl
      · rfl
    · show 0 + 1 = (i 0).val
      omega
    · funext b
      fin_cases b
      · exact Fin.ext (show 1 = (i 0).val by omega)
      · rfl
      · rfl

end Cert.Shares
-- ==== Proof.Rows.lean ====
/-
  The optimiser's gradient at a weight that is kept row by row, both layers of a row side by side; each layer's comes in shares.
-/
module

public import proofs.«01_k».proof.Proof.Shares

@[expose] public section

noncomputable section

namespace Cert.Rows

open Idealize.ShloMosaic Cert.Adam Cert.Shares

/-- Arrays of 578 rows, `d` layers each. -/
abbrev Rows (d : ℕ) : Shape := ⟨3, ![578, d, 1024]⟩

variable {n d : ℕ}

/-- The element of share `k` at the row and column of an element. -/
abbrev row (k : Fin n) (i : (Rows d).Idx) : (Cube n 578).Idx := ix3 k (i 0) (i 2)

variable (own : FVec Ideal (Cube 8 578) .bf16) (land : FVec Ideal (Cube 7 578) .bf16) (own' : FVec Ideal (Cube 8 578) .bf16)
  (land' : FVec Ideal (Cube 7 578) .bf16) (k : Fin 8)

/-- One layer's gradient: the own share and the seven received. -/
def total (i : (Rows d).Idx) : EReal := own (row k i) + ∑ j, land (row j i)

/-- Both layers' gradient. -/
def both : FVec Ideal (Rows 2) .f32 := fun i => if (i 1).val = 0 then total own land k i else total own' land' k i

/-- An element of a share is found by its three coordinates. -/
theorem chosen_row (x : FVec Ideal (Cube n 578) .bf16) (k : Fin n) (i : (Rows d).Idx) (z : (Cube n 578).Idx) (e0 : (z 0).val = k.val)
    (e1 : (z 1).val = (i 0).val) (e2 : (z 2).val = (i 2).val) : x z = x (row k i) := by
  refine congrArg x (funext fun a => ?_)
  match a with
  | ⟨0, _⟩ => exact Fin.ext e0
  | ⟨1, _⟩ => exact Fin.ext e1
  | ⟨2, _⟩ => exact Fin.ext e2

/-- The block of a share received is the share's own. -/
theorem received (x : FVec Ideal (Cube n 578) .bf16) (k : Fin n) (i : (Rows d).Idx) (z : (Cube n 578).Idx) (e0 : (z 0).val = k.val * 1 + 1 * 0)
    (e1 : (z 1).val = (i 0).val) (e2 : (z 2).val = (i 2).val) : x z = x (row k i) :=
  chosen_row x k i z (e0.trans (by omega)) e1 e2

/-- Two layers put side by side. -/
theorem stack_eq (a b : FVec Ideal (Rows 1) .f32) (f g : (Rows 2).Idx → EReal) (h : Shape.Concatenates [Rows 1, Rows 1] (Rows 2) 1)
    (ha : ∀ i : (Rows 2).Idx, a (ix3 (i 0) 0 (i 2)) = f i) (hb : ∀ i : (Rows 2).Idx, b (ix3 (i 0) 0 (i 2)) = g i) :
    concatenate (Rows 2) 1 [⟨Rows 1, a⟩, ⟨Rows 1, b⟩] h = fun i => if (i 1).val = 0 then f i else g i := by
  funext i
  have hi : (i 1).val < 2 := (i 1).isLt
  dsimp only
  split
  case isTrue e =>
    refine (concatenate_pair_apply_left _ _ _ _ _ (by rfl) (ix3 (i 0) 0 (i 2)) fun b => ?_).trans (ha i)
    fin_cases b
    · rfl
    · exact e.symm
    · rfl
  case isFalse e =>
    refine (concatenate_pair_apply_right _ _ _ _ _ (by rfl) (by rfl) (ix3 (i 0) 0 (i 2)) (fun b hb => ?_) ?_).trans (hb i)
    · fin_cases b
      · rfl
      · exact absurd rfl hb
      · rfl
    · show 0 + 1 = (i 1).val
      omega

end Cert.Rows
-- ==== Proof.WinArrays.lean ====
/-
  The optimiser's call at the mixers' input projection's weights, both layers in one call: the arrays that it leaves are those of `Rows`.
-/
module

public import proofs.«01_k».proof.Proof.Rows
public import proofs.«01_k».proof.Proof.Gen.WinKernelIdeal.Frame
public import Idealize.ShloMosaic.Lib.Pipeline.ValueKit

@[expose] public section

set_option maxRecDepth 16384

noncomputable section

namespace Cert.WinKernelIdeal.Step

open Cert.WinKernelIdeal Cert.WinKernelIdeal.Gen Cert.Adam Cert.Shares Cert.Rows Idealize.ShloMosaic Idealize.ShloMosaic.TcCoe Idealize.SL.Sem
open Idealize.ShloMosaic.Pipeline (Dat)

/-- A block of one of the arrays, one layer of it, and a block of one of the shares. -/
abbrev Tile := FVec Ideal S578x2x256 .f32
abbrev Layer := FVec Ideal S578x256 .f32
abbrev Share := FVec Ideal S1x578x256 .bf16

/-! ## A grid point's values -/

/-- A share's block as one layer, a part of a block as one layer, each layer of a block, and a layer as the block that is stored. -/
abbrev flat (x : Share) : Layer := extf .f32 (shapeCast S578x256 x shapeCasts_S1x578x256_S578x256) bitsLt_bf16_f32
abbrev one (x : FVec Ideal S578x1x256 .f32) : Layer := shapeCast S578x256 x shapeCasts_S578x1x256_S578x256
abbrev first (x : Tile) : Layer :=
  one (View.ld (Val := Elt Ideal) (e' := .f32) x (Rect.unit (s := S578x2x256) ![0, 0, 0] S578x1x256.size inb_S578x2x256_S578x1x256_0_0_0))
abbrev second (x : Tile) : Layer :=
  one (View.ld (Val := Elt Ideal) (e' := .f32) x (Rect.unit (s := S578x2x256) ![0, 1, 0] S578x1x256.size inb_S578x2x256_S578x1x256_0_1_0))
abbrev lift (x : Layer) : FVec Ideal S578x1x256 .f32 := shapeCast S578x1x256 x shapeCasts_S578x256_S578x1x256

theorem flat_apply (x : Share) (y : S578x256.Idx) : flat x y = x (ix3 0 (y 0) (y 1)) := by
  show shapeCast S578x256 x shapeCasts_S1x578x256_S578x256 y = _
  pointwise
  blk_ext

theorem first_apply (x : Tile) (y : S578x256.Idx) : first x y = x (ix3 (y 0) 0 (y 1)) := by
  unfold first
  pointwise
  blk_ext

theorem second_apply (x : Tile) (y : S578x256.Idx) : second x y = x (ix3 (y 0) 1 (y 1)) := by
  unfold second
  pointwise
  blk_ext

theorem lift_apply (x : Layer) (y : S578x1x256.Idx) : lift x y = x (ix2 (y 0) (y 2)) := by
  unfold lift
  pointwise
  blk_ext

/-- The gradient of a layer of a block: the shares added one by one. -/
def summed (x0 x1 x2 x3 x4 x5 x6 x7 : Layer) : Layer := fun y => x0 y + x1 y + x2 y + x3 y + x4 y + x5 y + x6 y + x7 y

/-- Two layers as one block. -/
def layers (a b : Layer) : Tile := fun y => if (y 1).val = 0 then a (ix2 (y 0) (y 2)) else b (ix2 (y 0) (y 2))

/-- The block that the two stores leave. -/
theorem canon_layers (a b : Layer) : View.canon (Val := Elt Ideal) (s := S578x2x256) (e := .f32)
      [⟨Rect.unit ![0, 1, 0] S578x1x256.size inb_S578x2x256_S578x1x256_0_1_0, lift b⟩,
        ⟨Rect.unit ![0, 0, 0] S578x1x256.size inb_S578x2x256_S578x1x256_0_0_0, lift a⟩] = layers a b := by
  funext y
  unfold layers
  have hy : (y 1).val < 2 := (y 1).isLt
  split
  case isTrue e =>
    refine (View.canon_cons_of_not_mem _ _ ?_).trans ?_
    · intro hm
      obtain ⟨x, rfl⟩ := LoadRect.exists_idx_of_mem _ hm
      have : 1 + 1 * (x (1 : Fin 3)).val = 0 := e
      omega
    · refine Eq.trans ?_ ((View.canon_cons_emb (Val := Elt Ideal) (s := S578x2x256) (e := .f32)
        (Rect.unit (s := S578x2x256) ![0, 0, 0] S578x1x256.size inb_S578x2x256_S578x1x256_0_0_0) (lift a) [] (ix3 (y 0) 0 (y 2))).trans (lift_apply a (ix3 (y 0) 0 (y 2))))
      refine congrArg (View.canon _) ?_
      blk_ext
  case isFalse e =>
    refine Eq.trans ?_ ((View.canon_cons_emb (Val := Elt Ideal) (s := S578x2x256) (e := .f32)
        (Rect.unit (s := S578x2x256) ![0, 1, 0] S578x1x256.size inb_S578x2x256_S578x1x256_0_1_0) (lift b)
        [⟨Rect.unit ![0, 0, 0] S578x1x256.size inb_S578x2x256_S578x1x256_0_0_0, lift a⟩] (ix3 (y 0) 0 (y 2))).trans (lift_apply b (ix3 (y 0) 0 (y 2))))
    refine congrArg (View.canon _) ?_
    blk_ext

theorem at_first {y : S578x2x256.Idx} (e : (y 1).val = 0) (x : Tile) : first x (ix2 (y 0) (y 2)) = x y :=
  (first_apply x _).trans (congrArg x (by blk_ext))

theorem at_second {y : S578x2x256.Idx} (e : ¬(y 1).val = 0) (x : Tile) : second x (ix2 (y 0) (y 2)) = x y := by
  have hy : (y 1).val < 2 := (y 1).isLt
  exact (second_apply x _).trans (congrArg x (by blk_ext))

section
variable (g g' : Layer) (w m v : Tile)

theorem layers_deltas : layers (deltas g (first w) (first m) (first v)) (deltas g' (second w) (second m) (second v)) = deltas (layers g g') w m v := by
  funext y
  show (if _ then delta _ _ _ _ else delta _ _ _ _) = delta (if _ then _ else _) _ _ _
  split
  case isTrue e => rw [at_first e, at_first e, at_first e]
  case isFalse e => rw [at_second e, at_second e, at_second e]

theorem layers_means : layers (means g (first m)) (means g' (second m)) = means (layers g g') m := by
  funext y
  show (if _ then mean _ _ else mean _ _) = mean (if _ then _ else _) _
  split
  case isTrue e => rw [at_first e]
  case isFalse e => rw [at_second e]

theorem layers_squares : layers (squares g (first v)) (squares g' (second v)) = squares (layers g g') v := by
  funext y
  show (if _ then square _ _ else square _ _) = square (if _ then _ else _) _
  split
  case isTrue e => rw [at_first e]
  case isFalse e => rw [at_second e]

end

section
variable (x0 x1 x2 x3 x4 x5 x6 x7 : Share) (g : Layer) (w m v : FVec Ideal S578x1x256 .f32)

/-! What each layer's stores take. -/
theorem sum_first : k0_pay5 (F := Ideal) x0 x1 x2 x3 x4 x5 x6 x7
    = summed (flat x0) (flat x1) (flat x2) (flat x3) (flat x4) (flat x5) (flat x6) (flat x7) := rfl
theorem sum_second : k0_pay13 (F := Ideal) (k0_pay12 x0 x1 x2 x3 x4 x5 x6) x7
    = summed (flat x0) (flat x1) (flat x2) (flat x3) (flat x4) (flat x5) (flat x6) (flat x7) := rfl
theorem mean_first : k0_pay6 (F := Ideal) g m = means g (one m) := rfl
theorem mean_second : k0_pay14 (F := Ideal) g x7 m = means (k0_pay13 g x7) (one m) := rfl
theorem square_first : k0_pay7 (F := Ideal) g v = squares g (one v) := rfl
theorem square_second : k0_pay15 (F := Ideal) g x7 v = squares (k0_pay13 g x7) (one v) := rfl
theorem delta_first : k0_pay9 (F := Ideal) g w m v = lift (deltas g (one w) (one m) (one v)) := rfl
theorem delta_second : k0_pay16 (F := Ideal) g x7 w m v = deltas (k0_pay13 g x7) (one w) (one m) (one v) := rfl
end

theorem hz : (![0, 0, 0] : Fin 3 → Nat) = fun _ => 0 := by decide

section
variable (c : Dev nD) (i : grid0.Coords)
  (a0 : Memref sig .tc .vmem S1x578x256 .bf16) (h0 : a0.IsWhole) (a1 : Memref sig .tc .vmem S1x578x256 .bf16) (h1 : a1.IsWhole)
  (a2 : Memref sig .tc .vmem S1x578x256 .bf16) (h2 : a2.IsWhole) (a3 : Memref sig .tc .vmem S1x578x256 .bf16) (h3 : a3.IsWhole)
  (a4 : Memref sig .tc .vmem S1x578x256 .bf16) (h4 : a4.IsWhole) (a5 : Memref sig .tc .vmem S1x578x256 .bf16) (h5 : a5.IsWhole)
  (a6 : Memref sig .tc .vmem S1x578x256 .bf16) (h6 : a6.IsWhole) (a7 : Memref sig .tc .vmem S1x578x256 .bf16) (h7 : a7.IsWhole)
  (a8 : Memref sig .tc .vmem S1x578x256 .bf16) (h8 : a8.IsWhole) (a9 : Memref sig .tc .vmem S1x578x256 .bf16) (h9 : a9.IsWhole)
  (a10 : Memref sig .tc .vmem S1x578x256 .bf16) (h10 : a10.IsWhole) (a11 : Memref sig .tc .vmem S1x578x256 .bf16) (h11 : a11.IsWhole)
  (a12 : Memref sig .tc .vmem S1x578x256 .bf16) (h12 : a12.IsWhole) (a13 : Memref sig .tc .vmem S1x578x256 .bf16) (h13 : a13.IsWhole)
  (a14 : Memref sig .tc .vmem S1x578x256 .bf16) (h14 : a14.IsWhole) (a15 : Memref sig .tc .vmem S1x578x256 .bf16) (h15 : a15.IsWhole)
  (a16 : Memref sig .tc .vmem S578x2x256 .f32) (h16 : a16.IsWhole) (a17 : Memref sig .tc .vmem S578x2x256 .f32) (h17 : a17.IsWhole)
  (a18 : Memref sig .tc .vmem S578x2x256 .f32) (h18 : a18.IsWhole) (a19 : Memref sig .tc .vmem S578x2x256 .f32) (h19 : a19.IsWhole)
  (a20 : Memref sig .tc .vmem S578x2x256 .f32) (h20 : a20.IsWhole) (a21 : Memref sig .tc .vmem S578x2x256 .f32) (h21 : a21.IsWhole)
  (a22 : Memref sig .tc .vmem S578x2x256 .f32) (h22 : a22.IsWhole)
  (x0 x1 x2 x3 x4 x5 x6 x7 x8 x9 x10 x11 x12 x13 x14 x15 : Share) (w m v : Tile) (x : TbBuf0 (F := Ideal) c tbM0_0)

theorem gradient_left : out0_A_19 (F := Ideal) c i
      a0 h0 a1 h1 a2 h2 a3 h3 a4 h4 a5 h5 a6 h6 a7 h7 a8 h8 a9 h9 a10 h10 a11 h11 a12 h12 a13 h13 a14 h14 a15 h15 a16 h16 a17 h17 a18 h18 a19 h19 a20
      h20 a21 h21 a22 h22
      x0 x1 x2 x3 x4 x5 x6 x7 x8 x9 x10 x11 x12 x13 x14 x15 w m v x
    = layers (summed (flat x0) (flat x1) (flat x2) (flat x3) (flat x4) (flat x5) (flat x6) (flat x7))
      (summed (flat x8) (flat x9) (flat x10) (flat x11) (flat x12) (flat x13) (flat x14) (flat x15)) := by
  unfold out0_A_19
  rw [View.read_writes_eq_canon _ _ _ (cover0_A_19 (F := Ideal) c i
      a0 h0 a1 h1 a2 h2 a3 h3 a4 h4 a5 h5 a6 h6 a7 h7 a8 h8 a9 h9 a10 h10 a11 h11 a12 h12 a13 h13 a14 h14 a15 h15 a16 h16 a17 h17 a18 h18 a19 h19 a20
      h20 a21 h21 a22 h22
      x0 x1 x2 x3 x4 x5 x6 x7 x8 x9 x10 x11 x12 x13 x14 x15 w m v x)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S1x578x256) hz]
  rw [sum_first, sum_second]
  exact canon_layers _ _

theorem delta_left : out0_A_20 (F := Ideal) c i
      a0 h0 a1 h1 a2 h2 a3 h3 a4 h4 a5 h5 a6 h6 a7 h7 a8 h8 a9 h9 a10 h10 a11 h11 a12 h12 a13 h13 a14 h14 a15 h15 a16 h16 a17 h17 a18 h18 a19 h19 a20
      h20 a21 h21 a22 h22
      x0 x1 x2 x3 x4 x5 x6 x7 x8 x9 x10 x11 x12 x13 x14 x15 w m v x
    = deltas (layers (summed (flat x0) (flat x1) (flat x2) (flat x3) (flat x4) (flat x5) (flat x6) (flat x7))
      (summed (flat x8) (flat x9) (flat x10) (flat x11) (flat x12) (flat x13) (flat x14) (flat x15))) w m v := by
  unfold out0_A_20
  rw [View.read_writes_eq_canon _ _ _ (cover0_A_20 (F := Ideal) c i
      a0 h0 a1 h1 a2 h2 a3 h3 a4 h4 a5 h5 a6 h6 a7 h7 a8 h8 a9 h9 a10 h10 a11 h11 a12 h12 a13 h13 a14 h14 a15 h15 a16 h16 a17 h17 a18 h18 a19 h19 a20
      h20 a21 h21 a22 h22
      x0 x1 x2 x3 x4 x5 x6 x7 x8 x9 x10 x11 x12 x13 x14 x15 w m v x)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S1x578x256) hz]
  rw [delta_first, delta_second, sum_first, sum_second]
  exact (canon_layers _ _).trans (layers_deltas _ _ w m v)

theorem mean_left : out0_A_21 (F := Ideal) c i
      a0 h0 a1 h1 a2 h2 a3 h3 a4 h4 a5 h5 a6 h6 a7 h7 a8 h8 a9 h9 a10 h10 a11 h11 a12 h12 a13 h13 a14 h14 a15 h15 a16 h16 a17 h17 a18 h18 a19 h19 a20
      h20 a21 h21 a22 h22
      x0 x1 x2 x3 x4 x5 x6 x7 x8 x9 x10 x11 x12 x13 x14 x15 w m v x
    = means (layers (summed (flat x0) (flat x1) (flat x2) (flat x3) (flat x4) (flat x5) (flat x6) (flat x7))
      (summed (flat x8) (flat x9) (flat x10) (flat x11) (flat x12) (flat x13) (flat x14) (flat x15))) m := by
  unfold out0_A_21
  rw [View.read_writes_eq_canon _ _ _ (cover0_A_21 (F := Ideal) c i
      a0 h0 a1 h1 a2 h2 a3 h3 a4 h4 a5 h5 a6 h6 a7 h7 a8 h8 a9 h9 a10 h10 a11 h11 a12 h12 a13 h13 a14 h14 a15 h15 a16 h16 a17 h17 a18 h18 a19 h19 a20
      h20 a21 h21 a22 h22
      x0 x1 x2 x3 x4 x5 x6 x7 x8 x9 x10 x11 x12 x13 x14 x15 w m v x)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h17.read_unread,
    View.ld_unit_zero (S := S1x578x256) hz]
  rw [mean_first, mean_second, sum_first, sum_second]
  exact (canon_layers _ _).trans (layers_means _ _ m)

theorem square_left : out0_A_22 (F := Ideal) c i
      a0 h0 a1 h1 a2 h2 a3 h3 a4 h4 a5 h5 a6 h6 a7 h7 a8 h8 a9 h9 a10 h10 a11 h11 a12 h12 a13 h13 a14 h14 a15 h15 a16 h16 a17 h17 a18 h18 a19 h19 a20
      h20 a21 h21 a22 h22
      x0 x1 x2 x3 x4 x5 x6 x7 x8 x9 x10 x11 x12 x13 x14 x15 w m v x
    = squares (layers (summed (flat x0) (flat x1) (flat x2) (flat x3) (flat x4) (flat x5) (flat x6) (flat x7))
      (summed (flat x8) (flat x9) (flat x10) (flat x11) (flat x12) (flat x13) (flat x14) (flat x15))) v := by
  unfold out0_A_22
  rw [View.read_writes_eq_canon _ _ _ (cover0_A_22 (F := Ideal) c i
      a0 h0 a1 h1 a2 h2 a3 h3 a4 h4 a5 h5 a6 h6 a7 h7 a8 h8 a9 h9 a10 h10 a11 h11 a12 h12 a13 h13 a14 h14 a15 h15 a16 h16 a17 h17 a18 h18 a19 h19 a20
      h20 a21 h21 a22 h22
      x0 x1 x2 x3 x4 x5 x6 x7 x8 x9 x10 x11 x12 x13 x14 x15 w m v x)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h18.read_unread,
    View.ld_unit_zero (S := S1x578x256) hz]
  rw [square_first, square_second, sum_first, sum_second]
  exact (canon_layers _ _).trans (layers_squares _ _ v)

end

/-! ## The arrays -/

variable {F : FTy → Type} [FloatOps F]

/-- A word in range chooses a block inside the array. -/
theorem ok_of (T : pre0.Contents (Elt F)) (h : (T.at 0 (Rect.unit (s := S1) ![0] S1.size inb_S1_S1_0) numel1_S1 : BitVec 32).toNat < 8) :
    ok0 T :=
  have one (i : grid0.Coords) (a : Fin 3) : (cc0_transform_0 inb_S1_S1_0 numel1_S1 T i a + 1) * S1x578x256.size a ≤ S8x578x1024.size a := by
    match a with
    | ⟨0, _⟩ =>
      show ((T.at 0 (Rect.unit (s := S1) ![0] S1.size inb_S1_S1_0) numel1_S1 : BitVec 32).toNat + 1) * 1 ≤ 8
      omega
    | ⟨1, _⟩ => exact hinb0_1 i 1
    | ⟨2, _⟩ => exact hinb0_1 i 2
  ⟨fun i => ⟨one i, .inr (Affine.block_words_dvd (of_decide_eq_true rfl) (by decide))⟩,
    fun i => ⟨one i, .inr (Affine.block_words_dvd (of_decide_eq_true rfl) (by decide))⟩⟩

/-- The device's word. -/
abbrev word (μ : (ℓ : Loc nD τ sig) → Buf (Elt F) ℓ) (c : Dev nD) : BitVec 32 := (μ ((c : Thread nD τ).loc main_arg7) : IVec S1 32) only

/-- The word that the block of the own share is read off. -/
theorem word_eq (μ : (ℓ : Loc nD τ sig) → Buf (Elt F) ℓ) (c : Dev nD) :
    (tbl μ).at 0 (Rect.unit (s := S1) ![0] S1.size inb_S1_S1_0) numel1_S1 = word μ c := by
  obtain rfl : c = 0 := Subsingleton.elim _ _
  exact (congrFun (V_main_arg7 μ 0) _).trans (congrArg (μ (((0 : Dev nD) : Thread nD τ).loc main_arg7) : IVec S1 32) (eq_only _))

theorem ok (μ : (ℓ : Loc nD τ sig) → Buf (Elt F) ℓ) (c : Dev nD) (h : (word μ c).toNat < 8) : Ok μ :=
  ok_of _ ((congrArg BitVec.toNat (word_eq μ c)).trans_lt h)

/-- Contents of the table; the blocks of the results do not depend on them. -/
def table : (pcfg0 (F := Ideal)).Adm := ⟨fun | 0 => fun _ => (0#32 : BitVec 32), ok_of _ (Nat.zero_lt_succ 7)⟩

theorem covers19 : ((cfg0 table).win 19).Covers := by decide +kernel
theorem covers20 : ((cfg0 table).win 20).Covers := by decide +kernel
theorem covers21 : ((cfg0 table).win 21).Covers := by decide +kernel
theorem covers22 : ((cfg0 table).win 22).Covers := by decide +kernel

variable (μ : (ℓ : Loc nD τ sig) → Buf (Elt Ideal) ℓ) (c : Dev nD)

/-! The arguments: each layer's shares sent out and received, the weights and the two averages. -/
abbrev own0 : FVec Ideal S8x578x1024 .bf16 := μ ((c : Thread nD τ).loc main_arg0)
abbrev land0 : FVec Ideal S7x578x1024 .bf16 := μ ((c : Thread nD τ).loc main_arg1)
abbrev own1 : FVec Ideal S8x578x1024 .bf16 := μ ((c : Thread nD τ).loc main_arg2)
abbrev land1 : FVec Ideal S7x578x1024 .bf16 := μ ((c : Thread nD τ).loc main_arg3)
abbrev w0 : FVec Ideal S578x2x1024 .f32 := μ ((c : Thread nD τ).loc main_arg4)
abbrev m0 : FVec Ideal S578x2x1024 .f32 := μ ((c : Thread nD τ).loc main_arg5)
abbrev v0 : FVec Ideal S578x2x1024 .f32 := μ ((c : Thread nD τ).loc main_arg6)

variable (hO : Ok μ) (t : Fin (cfgM μ hO).N) (y : S578x2x256.Idx)

/-- The gradient of a point's block. -/
abbrev grad : Tile := layers
  (summed (flat (iblk μ hO c 0 t)) (flat (iblk μ hO c 1 t)) (flat (iblk μ hO c 2 t)) (flat (iblk μ hO c 3 t)) (flat (iblk μ hO c 4 t)) (flat (iblk μ
  hO c 5 t)) (flat (iblk μ hO c 6 t)) (flat (iblk μ hO c 7 t)))
  (summed (flat (iblk μ hO c 8 t)) (flat (iblk μ hO c 9 t)) (flat (iblk μ hO c 10 t)) (flat (iblk μ hO c 11 t)) (flat (iblk μ hO c 12 t)) (flat (iblk
  μ hO c 13 t)) (flat (iblk μ hO c 14 t)) (flat (iblk μ hO c 15 t)))

theorem after19 : (dats μ hO 0 c).after 19 t = grad μ c hO t := by
  rw [after0_19]
  unfold outsAt0
  dsimp only
  exact gradient_left _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

theorem after20 : (dats μ hO 0 c).after 20 t = deltas (s := S578x2x256) (grad μ c hO t) (iblk μ hO c 16 t) (iblk μ hO c 17 t) (iblk μ hO c 18 t) := by
  rw [after0_20]
  unfold outsAt0
  dsimp only
  exact delta_left _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

theorem after21 : (dats μ hO 0 c).after 21 t = means (s := S578x2x256) (grad μ c hO t) (iblk μ hO c 17 t) := by
  rw [after0_21]
  unfold outsAt0
  dsimp only
  exact mean_left _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

theorem after22 : (dats μ hO 0 c).after 22 t = squares (s := S578x2x256) (grad μ c hO t) (iblk μ hO c 18 t) := by
  rw [after0_22]
  unfold outsAt0
  dsimp only
  exact square_left _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- Where an element of a point's block lies in the array. -/
abbrev at0 : S578x2x1024.Idx := (((cfgM μ hO).win 19).blk t).view.emb y

theorem same_layer : (at0 μ hO t y 1).val = (y 1).val := by
  show 0 * 2 + 1 * (y 1).val = (y 1).val
  omega

theorem own_read (h : (word μ c).toNat < 8) : (iblk μ hO c 0 t : Share) (ix3 0 (y 0) (y 2)) = own0 μ c (row (owner (word μ c)) (at0 μ hO t y)) := by
  refine (congrFun (V_main_arg0 μ c) _).trans (chosen_row (own0 μ c) _ (at0 μ hO t y) _ ?_ rfl rfl)
  show ((tbl μ).at 0 (Rect.unit (s := S1) ![0] S1.size inb_S1_S1_0) numel1_S1).toNat * 1 + 1 * 0 = (owner (word μ c)).val
  rw [word_eq μ c, owner_val h]
  omega

theorem own_read' (h : (word μ c).toNat < 8) : (iblk μ hO c 8 t : Share) (ix3 0 (y 0) (y 2)) = own1 μ c (row (owner (word μ c)) (at0 μ hO t y)) := by
  refine (congrFun (V_main_arg2 μ c) _).trans (chosen_row (own1 μ c) _ (at0 μ hO t y) _ ?_ rfl rfl)
  show ((tbl μ).at 0 (Rect.unit (s := S1) ![0] S1.size inb_S1_S1_0) numel1_S1).toNat * 1 + 1 * 0 = (owner (word μ c)).val
  rw [word_eq μ c, owner_val h]
  omega

theorem summed_apply (x0 x1 x2 x3 x4 x5 x6 x7 : Share) (z : S578x256.Idx) :
    summed (flat x0) (flat x1) (flat x2) (flat x3) (flat x4) (flat x5) (flat x6) (flat x7) z
    = x0 (ix3 0 (z 0) (z 1)) + x1 (ix3 0 (z 0) (z 1)) + x2 (ix3 0 (z 0) (z 1)) + x3 (ix3 0 (z 0) (z 1)) + x4 (ix3 0 (z 0) (z 1))
      + x5 (ix3 0 (z 0) (z 1)) + x6 (ix3 0 (z 0) (z 1)) + x7 (ix3 0 (z 0) (z 1)) := by
  unfold summed
  rw [flat_apply, flat_apply, flat_apply, flat_apply, flat_apply, flat_apply, flat_apply, flat_apply]

variable (h : (word μ c).toNat < 8)
include h

theorem first_read : total (own0 μ c) (land0 μ c) (owner (word μ c)) (at0 μ hO t y)
    = summed (flat (iblk μ hO c 0 t)) (flat (iblk μ hO c 1 t)) (flat (iblk μ hO c 2 t)) (flat (iblk μ hO c 3 t)) (flat (iblk μ hO c 4 t)) (flat (iblk μ hO c 5 t)) (flat (iblk μ hO c 6 t)) (flat (iblk μ hO c 7 t)) (ix2 (y 0) (y 2)) :=
  ((summed_apply _ _ _ _ _ _ _ _ _).trans (eight (fun j => land0 μ c (row j (at0 μ hO t y))) (own_read μ c hO t y h)
    ((congrFun (V_main_arg1 μ c) _).trans (received (land0 μ c) 0 (at0 μ hO t y) _ rfl rfl rfl))
    ((congrFun (V_main_arg1 μ c) _).trans (received (land0 μ c) 1 (at0 μ hO t y) _ rfl rfl rfl))
    ((congrFun (V_main_arg1 μ c) _).trans (received (land0 μ c) 2 (at0 μ hO t y) _ rfl rfl rfl))
    ((congrFun (V_main_arg1 μ c) _).trans (received (land0 μ c) 3 (at0 μ hO t y) _ rfl rfl rfl))
    ((congrFun (V_main_arg1 μ c) _).trans (received (land0 μ c) 4 (at0 μ hO t y) _ rfl rfl rfl))
    ((congrFun (V_main_arg1 μ c) _).trans (received (land0 μ c) 5 (at0 μ hO t y) _ rfl rfl rfl))
    ((congrFun (V_main_arg1 μ c) _).trans (received (land0 μ c) 6 (at0 μ hO t y) _ rfl rfl rfl)))).symm

theorem second_read : total (own1 μ c) (land1 μ c) (owner (word μ c)) (at0 μ hO t y)
    = summed (flat (iblk μ hO c 8 t)) (flat (iblk μ hO c 9 t)) (flat (iblk μ hO c 10 t)) (flat (iblk μ hO c 11 t)) (flat (iblk μ hO c 12 t)) (flat (iblk μ hO c 13 t)) (flat (iblk μ hO c 14 t)) (flat (iblk μ hO c 15 t)) (ix2 (y 0) (y 2)) :=
  ((summed_apply _ _ _ _ _ _ _ _ _).trans (eight (fun j => land1 μ c (row j (at0 μ hO t y))) (own_read' μ c hO t y h)
    ((congrFun (V_main_arg3 μ c) _).trans (received (land1 μ c) 0 (at0 μ hO t y) _ rfl rfl rfl))
    ((congrFun (V_main_arg3 μ c) _).trans (received (land1 μ c) 1 (at0 μ hO t y) _ rfl rfl rfl))
    ((congrFun (V_main_arg3 μ c) _).trans (received (land1 μ c) 2 (at0 μ hO t y) _ rfl rfl rfl))
    ((congrFun (V_main_arg3 μ c) _).trans (received (land1 μ c) 3 (at0 μ hO t y) _ rfl rfl rfl))
    ((congrFun (V_main_arg3 μ c) _).trans (received (land1 μ c) 4 (at0 μ hO t y) _ rfl rfl rfl))
    ((congrFun (V_main_arg3 μ c) _).trans (received (land1 μ c) 5 (at0 μ hO t y) _ rfl rfl rfl))
    ((congrFun (V_main_arg3 μ c) _).trans (received (land1 μ c) 6 (at0 μ hO t y) _ rfl rfl rfl)))).symm

theorem grad_read : grad μ c hO t y = both (own0 μ c) (land0 μ c) (own1 μ c) (land1 μ c) (owner (word μ c)) (at0 μ hO t y) := by
  unfold grad layers both
  rw [same_layer μ hO t y, first_read μ c hO t y h, second_read μ c hO t y h]

omit h in
theorem weight_read : (iblk μ hO c 16 t : Tile) y = w0 μ c (at0 μ hO t y) := congrFun (V_main_arg4 μ c) _
omit h in
theorem mean_read : (iblk μ hO c 17 t : Tile) y = m0 μ c (at0 μ hO t y) := congrFun (V_main_arg5 μ c) _
omit h in
theorem square_read : (iblk μ hO c 18 t : Tile) y = v0 μ c (at0 μ hO t y) := congrFun (V_main_arg6 μ c) _

theorem array19 : (dats μ hO 0 c).arrAt 19 (cfgM μ hO).N = both (own0 μ c) (land0 μ c) (own1 μ c) (land1 μ c) (owner (word μ c)) :=
  (dats μ hO 0 c).arrAt_eq_of_covers 19 _ covers19 fun t _ y => (congrFun (after19 μ c hO t) y).trans (grad_read μ c hO t y h)

theorem array20 : (dats μ hO 0 c).arrAt 20 (cfgM μ hO).N
    = deltas (both (own0 μ c) (land0 μ c) (own1 μ c) (land1 μ c) (owner (word μ c))) (w0 μ c) (m0 μ c) (v0 μ c) :=
  (dats μ hO 0 c).arrAt_eq_of_covers 20 _ covers20 fun t _ y => (congrFun (after20 μ c hO t) y).trans
    (congr (congr (congr (congrArg delta (grad_read μ c hO t y h)) (weight_read μ c hO t y)) (mean_read μ c hO t y)) (square_read μ c hO t y))

theorem array21 : (dats μ hO 0 c).arrAt 21 (cfgM μ hO).N = means (both (own0 μ c) (land0 μ c) (own1 μ c) (land1 μ c) (owner (word μ c))) (m0 μ c) :=
  (dats μ hO 0 c).arrAt_eq_of_covers 21 _ covers21 fun t _ y => (congrFun (after21 μ c hO t) y).trans
    (congr (congrArg mean (grad_read μ c hO t y h)) (mean_read μ c hO t y))

theorem array22 : (dats μ hO 0 c).arrAt 22 (cfgM μ hO).N = squares (both (own0 μ c) (land0 μ c) (own1 μ c) (land1 μ c) (owner (word μ c))) (v0 μ c) :=
  (dats μ hO 0 c).arrAt_eq_of_covers 22 _ covers22 fun t _ y => (congrFun (after22 μ c hO t) y).trans
    (congr (congrArg square (grad_read μ c hO t y h)) (square_read μ c hO t y))

omit h

/-- Every run of the call ends with those arrays, the arguments kept and every counter at zero. -/
theorem run (ρ : Dev nD → PrngReg) (h : ∀ c, (word μ c).toNat < 8) :
    θ_run (defs (F := Ideal)) (onTc (τ := τ) (main (F := Ideal))) ⟨μ, fun _ => 0, ρ⟩ fun r => (∀ c : Dev nD,
      r.2.mem ((c.tc : Thread nD τ).loc main_v0_0) = both (own0 μ c) (land0 μ c) (own1 μ c) (land1 μ c) (owner (word μ c))
      ∧ r.2.mem ((c.tc : Thread nD τ).loc main_v0_1)
        = deltas (both (own0 μ c) (land0 μ c) (own1 μ c) (land1 μ c) (owner (word μ c))) (w0 μ c) (m0 μ c) (v0 μ c)
      ∧ r.2.mem ((c.tc : Thread nD τ).loc main_v0_2) = means (both (own0 μ c) (land0 μ c) (own1 μ c) (land1 μ c) (owner (word μ c))) (m0 μ c)
      ∧ r.2.mem ((c.tc : Thread nD τ).loc main_v0_3) = squares (both (own0 μ c) (land0 μ c) (own1 μ c) (land1 μ c) (owner (word μ c))) (v0 μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)) ∧ r.2.sem = fun _ => 0 :=
  have hO := ok μ 0 (h 0)
  (θ_run defs _ _).mono (fun r q => ⟨fun c => ⟨((q.1 c).1 19).trans (array19 μ c hO (h c)), ((q.1 c).1 20).trans (array20 μ c hO (h c)),
      ((q.1 c).1 21).trans (array21 μ c hO (h c)), ((q.1 c).1 22).trans (array22 μ c hO (h c)), q.2.1 c⟩, q.2.2⟩)
    (θ_run_and (run_main μ ρ hO) (frame μ ρ hO))

end Cert.WinKernelIdeal.Step
-- ==== Proof.WinReference.lean ====
/-
  The optimiser's reference at the mixers' input projection's weights: its results are the step with the gradient of `Rows`.
-/
module

public import proofs.«01_k».proof.Proof.Rows
public import proofs.«01_k».proof.Proof.Gen.WinReferenceIdeal.Read
public import Idealize.ShloMosaic.Lib.Claim
public import Idealize.ShloMosaic.Lib.Quiescent

@[expose] public section

set_option maxRecDepth 16384

noncomputable section

namespace Cert.WinReferenceIdeal.Step

open Cert.WinReferenceIdeal Cert.WinReferenceIdeal.Gen Cert.WinReferenceIdeal.Read Cert.Adam Cert.Shares Cert.Rows Idealize.ShloMosaic
  Idealize.ShloMosaic.TcCoe Idealize.SL.Sem

variable (own : FVec Ideal S8x578x1024 .bf16) (land : FVec Ideal S7x578x1024 .bf16) (own' : FVec Ideal S8x578x1024 .bf16)
  (land' : FVec Ideal S7x578x1024 .bf16) (w m v : FVec Ideal S578x2x1024 .f32) (me : IVec S1 32)

/-- The gradient. -/
abbrev grad : FVec Ideal S578x2x1024 .f32 := val_main_v22 (F := Ideal) own land own' land' me

theorem mean_eq : val_main_v27 (F := Ideal) own land own' land' m me = means (grad own land own' land' me) m := rfl
theorem square_eq : val_main_v33 (F := Ideal) own land own' land' v me = squares (grad own land own' land' me) v := rfl
theorem delta_eq : val_main_v46 (F := Ideal) own land own' land' w m v me = deltas (grad own land own' land' me) w m v := rfl

variable (i : S578x2x1024.Idx)

theorem own_index (k : Fin 8) : idx_main_v6 (idx_main_v20 (ix3 (i 0) 0 (i 2))) k = row k i := by
  funext a
  match a with
  | ⟨0, _⟩ => rfl
  | ⟨1, _⟩ => rfl
  | ⟨2, _⟩ => rfl

theorem land_index (k : Fin 7) : idx_main_v8 (idx_main_v20 (ix3 (i 0) 0 (i 2))) k = row k i := by
  funext a
  match a with
  | ⟨0, _⟩ => rfl
  | ⟨1, _⟩ => rfl
  | ⟨2, _⟩ => rfl

/-- The second layer is computed as the first one is. -/
theorem second_eq : val_main_v21 (F := Ideal) own land me = val_main_v20 (F := Ideal) own land me := rfl

variable (h : (me only).toNat < 8)
include h

theorem total_apply : val_main_v20 (F := Ideal) own land me (ix3 (i 0) 0 (i 2)) = total own land (owner (me only)) i := by
  rw [val_main_v20_apply, val_main_v9_apply, val_main_v6_apply, val_main_v8_apply]
  refine congr (congrArg HAdd.hAdd (Eq.trans ?_ (chosen h fun k => own (row k i)))) (Eq.trans ?_ (zero_add _))
  · refine congrArg (con 0x00000000#32 + ·) (Finset.sum_congr rfl fun k _ => ?_)
    rw [val_main_v5_apply, val_main_call0_v1_apply, val_main_v3_apply, val_main_v2_apply, val_main_v0_apply, val_main_v1_apply,
      val_main_v4_apply, val_main_call0_v2_apply, val_main_call0_v0_apply, eq_only (idx_main_v1 _), own_index]
    rfl
  · refine congr (congrArg HAdd.hAdd Ideal.ofBits_zero_f32) (Finset.sum_congr rfl fun k _ => ?_)
    rw [val_main_v7_apply, land_index]
    rfl

theorem grad_eq : grad own land own' land' me = both own land own' land' (owner (me only)) :=
  stack_eq _ _ _ _ _ (fun i => total_apply own land me i h)
    (fun i => (congrFun (second_eq own' land' me) _).trans (total_apply own' land' me i h))

omit h
variable (μ : (ℓ : Loc nD τ sig) → Buf (Elt Ideal) ℓ) (ρ : Dev nD → PrngReg)

/-- The gradient of the arguments. -/
abbrev given (c : Dev nD) : FVec Ideal S578x2x1024 .f32 :=
  both (μ ((c.tc : Thread nD τ).loc main_arg0)) (μ ((c.tc : Thread nD τ).loc main_arg1)) (μ ((c.tc : Thread nD τ).loc main_arg2))
    (μ ((c.tc : Thread nD τ).loc main_arg3)) (owner ((μ ((c : Thread nD τ).loc main_arg7) : IVec S1 32) only))

/-- Every run of the reference ends with those results and the arguments kept. -/
theorem run (h : ∀ c : Dev nD, ((μ ((c : Thread nD τ).loc main_arg7) : IVec S1 32) only).toNat < 8) :
    θ_run (defs (F := Ideal)) (onTc (τ := τ) (main (F := Ideal))) ⟨μ, fun _ => 0, ρ⟩ fun r => (∀ c : Dev nD,
      (r.2.mem ((c.tc : Thread nD τ).loc main_v22) = given μ c
      ∧ r.2.mem ((c.tc : Thread nD τ).loc main_v46) = deltas (s := S578x2x1024) (given μ c) (μ ((c.tc : Thread nD τ).loc main_arg4))
          (μ ((c.tc : Thread nD τ).loc main_arg5)) (μ ((c.tc : Thread nD τ).loc main_arg6))
      ∧ r.2.mem ((c.tc : Thread nD τ).loc main_v27) = means (s := S578x2x1024) (given μ c) (μ ((c.tc : Thread nD τ).loc main_arg5))
      ∧ r.2.mem ((c.tc : Thread nD τ).loc main_v33) = squares (s := S578x2x1024) (given μ c) (μ ((c.tc : Thread nD τ).loc main_arg6)))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)) :=
  (θ_run (defs (F := Ideal)) _ _).mono (fun _ q c => ⟨⟨(q c).1.trans ((val_main_v22_eq _ _ _ _ _).trans (grad_eq _ _ _ _ _ (h c))),
    (q c).2.1.trans ((val_main_v46_eq _ _).trans ((delta_eq _ _ _ _ _ _ _ _).trans (congrArg (fun g => deltas g _ _ _) (grad_eq _ _ _ _ _ (h c))))),
    (q c).2.2.1.trans ((val_main_v27_eq _ _ _ _ _ _).trans ((mean_eq _ _ _ _ _ _).trans (congrArg (fun g => means g _) (grad_eq _ _ _ _ _ (h c))))),
    (q c).2.2.2.1.trans ((val_main_v33_eq _ _ _ _ _ _).trans ((square_eq _ _ _ _ _ _).trans (congrArg (fun g => squares g _) (grad_eq _ _ _ _ _ (h c)))))⟩,
    (q c).2.2.2.2⟩) (Value.run μ ρ)

/-- Every run of the reference keeps the arguments and ends with every counter at zero. -/
theorem frame : θ_run (defs (F := Ideal)) (onTc (τ := τ) (main (F := Ideal))) ⟨μ, fun _ => 0, ρ⟩ fun r => (∀ c : Dev nD,
      r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7))
      ∧ r.2.sem = fun _ => 0 :=
  (θ_run (defs (F := Ideal)) _ _).mono (fun _ q => ⟨fun c => (q c).2.2.2.2, sem_eq_zero_of_no_sems (by decide) _⟩) (Value.run μ ρ)

end Cert.WinReferenceIdeal.Step
-- ==== Proof.WoutArrays.lean ====
/-
  The optimiser's call at the mixer's output projection's weights: the arrays that it leaves are those of `Shares`.
-/
module

public import proofs.«01_k».proof.Proof.Shares
public import proofs.«01_k».proof.Proof.Gen.WoutKernelIdeal.Frame
public import Idealize.ShloMosaic.Lib.Pipeline.ValueKit

@[expose] public section

set_option maxRecDepth 16384

noncomputable section

namespace Cert.WoutKernelIdeal.Step

open Cert.WoutKernelIdeal Cert.WoutKernelIdeal.Gen Cert.Adam Cert.Shares Idealize.ShloMosaic Idealize.ShloMosaic.TcCoe Idealize.SL.Sem
open Idealize.ShloMosaic.Pipeline (Dat)

/-- A block of one of the arrays, and of one of the shares. -/
abbrev Tile := FVec Ideal S1x256x1024 .f32
abbrev Share := FVec Ideal S1x256x1024 .bf16

/-! ## A grid point's values -/

/-- The gradient of a block: the shares added one by one. -/
def summed (x0 x1 x2 x3 x4 x5 x6 x7 : Share) : Tile := fun y => x0 y + x1 y + x2 y + x3 y + x4 y + x5 y + x6 y + x7 y

theorem pay1_eq (g m : Tile) : k0_pay1 (F := Ideal) g m = means g m := rfl
theorem pay2_eq (g v : Tile) : k0_pay2 (F := Ideal) g v = squares g v := rfl
theorem pay3_eq (g w m v : Tile) : k0_pay3 (F := Ideal) g w m v = deltas g w m v := rfl
theorem pay4_eq (x0 x1 x2 x3 x4 x5 x6 x7 : Share) : k0_pay4 (F := Ideal) x0 x1 x2 x3 x4 x5 x6 x7 = summed x0 x1 x2 x3 x4 x5 x6 x7 := rfl

theorem hz : (![0, 0, 0] : Fin 3 → Nat) = fun _ => 0 := by decide

section
variable (c : Dev nD) (i : grid0.Coords)
  (a0 : Memref sig .tc .vmem S1x256x1024 .bf16) (h0 : a0.IsWhole) (a1 : Memref sig .tc .vmem S1x256x1024 .bf16) (h1 : a1.IsWhole)
  (a2 : Memref sig .tc .vmem S1x256x1024 .bf16) (h2 : a2.IsWhole) (a3 : Memref sig .tc .vmem S1x256x1024 .bf16) (h3 : a3.IsWhole)
  (a4 : Memref sig .tc .vmem S1x256x1024 .bf16) (h4 : a4.IsWhole) (a5 : Memref sig .tc .vmem S1x256x1024 .bf16) (h5 : a5.IsWhole)
  (a6 : Memref sig .tc .vmem S1x256x1024 .bf16) (h6 : a6.IsWhole) (a7 : Memref sig .tc .vmem S1x256x1024 .bf16) (h7 : a7.IsWhole)
  (a8 : Memref sig .tc .vmem S1x256x1024 .f32) (h8 : a8.IsWhole) (a9 : Memref sig .tc .vmem S1x256x1024 .f32) (h9 : a9.IsWhole)
  (a10 : Memref sig .tc .vmem S1x256x1024 .f32) (h10 : a10.IsWhole) (a11 : Memref sig .tc .vmem S1x256x1024 .f32) (h11 : a11.IsWhole)
  (a12 : Memref sig .tc .vmem S1x256x1024 .f32) (h12 : a12.IsWhole) (a13 : Memref sig .tc .vmem S1x256x1024 .f32) (h13 : a13.IsWhole)
  (a14 : Memref sig .tc .vmem S1x256x1024 .f32) (h14 : a14.IsWhole)
  (x0 x1 x2 x3 x4 x5 x6 x7 : Share) (w m v : Tile) (x : TbBuf0 (F := Ideal) c tbM0_0)

theorem gradient_left : out0_A_11 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = summed x0 x1 x2 x3 x4 x5 x6 x7 := by
  unfold out0_A_11
  rw [View.read_writes_eq_canon _ _ _ (cover0_A_11 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread,
    View.ld_unit_zero (S := S1x256x1024) hz]
  rfl

theorem delta_left : out0_A_12 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = deltas (summed x0 x1 x2 x3 x4 x5 x6 x7) w m v := by
  unfold out0_A_12
  rw [View.read_writes_eq_canon _ _ _ (cover0_A_12 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread,
    View.ld_unit_zero (S := S1x256x1024) hz]
  rfl

theorem mean_left : out0_A_13 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = means (summed x0 x1 x2 x3 x4 x5 x6 x7) m := by
  unfold out0_A_13
  rw [View.read_writes_eq_canon _ _ _ (cover0_A_13 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h9.read_unread,
    View.ld_unit_zero (S := S1x256x1024) hz]
  rfl

theorem square_left : out0_A_14 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = squares (summed x0 x1 x2 x3 x4 x5 x6 x7) v := by
  unfold out0_A_14
  rw [View.read_writes_eq_canon _ _ _ (cover0_A_14 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h10.read_unread,
    View.ld_unit_zero (S := S1x256x1024) hz]
  rfl

end

/-! ## The arrays -/

variable {F : FTy → Type} [FloatOps F]

/-- A word in range chooses a block inside the array. -/
theorem ok_of (T : pre0.Contents (Elt F)) (h : (T.at 0 (Rect.unit (s := S1) ![0] S1.size inb_S1_S1_0) numel1_S1 : BitVec 32).toNat < 8) :
    ok0 T := fun i => ⟨fun a => by
  match a with
  | ⟨0, _⟩ =>
    show ((T.at 0 (Rect.unit (s := S1) ![0] S1.size inb_S1_S1_0) numel1_S1 : BitVec 32).toNat + 1) * 1 ≤ 8
    omega
  | ⟨1, _⟩ => exact hinb0_1 i 1
  | ⟨2, _⟩ => exact hinb0_1 i 2,
  .inr (Affine.block_words_dvd (of_decide_eq_true rfl) (by decide))⟩

/-- The device's word. -/
abbrev word (μ : (ℓ : Loc nD τ sig) → Buf (Elt F) ℓ) (c : Dev nD) : BitVec 32 := (μ ((c : Thread nD τ).loc main_arg5) : IVec S1 32) only

/-- The word that the block of the own share is read off. -/
theorem word_eq (μ : (ℓ : Loc nD τ sig) → Buf (Elt F) ℓ) (c : Dev nD) :
    (tbl μ).at 0 (Rect.unit (s := S1) ![0] S1.size inb_S1_S1_0) numel1_S1 = word μ c := by
  obtain rfl : c = 0 := Subsingleton.elim _ _
  exact (congrFun (V_main_arg5 μ 0) _).trans (congrArg (μ (((0 : Dev nD) : Thread nD τ).loc main_arg5) : IVec S1 32) (eq_only _))

theorem ok (μ : (ℓ : Loc nD τ sig) → Buf (Elt F) ℓ) (c : Dev nD) (h : (word μ c).toNat < 8) : Ok μ :=
  ok_of _ ((congrArg BitVec.toNat (word_eq μ c)).trans_lt h)

/-- Contents of the table; the blocks of the results do not depend on them. -/
def table : (pcfg0 (F := Ideal)).Adm := ⟨fun | 0 => fun _ => (0#32 : BitVec 32), ok_of _ (Nat.zero_lt_succ 7)⟩

theorem covers11 : ((cfg0 table).win 11).CoversWhere (fun β => β (0 : Fin 3) = 0) := by decide +kernel
theorem covers12 : ((cfg0 table).win 12).CoversWhere (fun β => β (0 : Fin 3) = 0) := by decide +kernel
theorem covers13 : ((cfg0 table).win 13).CoversWhere (fun β => β (0 : Fin 3) = 0) := by decide +kernel
theorem covers14 : ((cfg0 table).win 14).CoversWhere (fun β => β (0 : Fin 3) = 0) := by decide +kernel

variable (μ : (ℓ : Loc nD τ sig) → Buf (Elt Ideal) ℓ) (c : Dev nD)

/-! The arguments: the shares sent out and received, the weights, the two averages, and the second layer's
results. -/
abbrev own : FVec Ideal S8x256x1024 .bf16 := μ ((c : Thread nD τ).loc main_arg0)
abbrev land : FVec Ideal S7x256x1024 .bf16 := μ ((c : Thread nD τ).loc main_arg1)
abbrev w0 : FVec Ideal S2x256x1024 .f32 := μ ((c : Thread nD τ).loc main_arg2)
abbrev m0 : FVec Ideal S2x256x1024 .f32 := μ ((c : Thread nD τ).loc main_arg3)
abbrev v0 : FVec Ideal S2x256x1024 .f32 := μ ((c : Thread nD τ).loc main_arg4)
abbrev g1 : FVec Ideal S2x256x1024 .f32 := μ ((c : Thread nD τ).loc main_arg6)
abbrev d1 : FVec Ideal S2x256x1024 .f32 := μ ((c : Thread nD τ).loc main_arg7)
abbrev m1 : FVec Ideal S2x256x1024 .f32 := μ ((c : Thread nD τ).loc main_arg8)
abbrev v1 : FVec Ideal S2x256x1024 .f32 := μ ((c : Thread nD τ).loc main_arg9)

variable (hO : Ok μ) (t : Fin (cfgM μ hO).N) (y : S1x256x1024.Idx)

/-- The gradient of a point's block. -/
abbrev grad : Tile := summed (iblk μ hO c 0 t) (iblk μ hO c 1 t) (iblk μ hO c 2 t) (iblk μ hO c 3 t) (iblk μ hO c 4 t)
  (iblk μ hO c 5 t) (iblk μ hO c 6 t) (iblk μ hO c 7 t)

theorem after11 : (dats μ hO 0 c).after 11 t = grad μ c hO t := by
  rw [after0_11]
  unfold outsAt0
  dsimp only
  exact gradient_left _ _ _ _ _ _ _ _ _ _ _ _ _ _ _ _ _ _ _ _ _ _ _ _ _ _ _ _ _ _ _ _ _ _ _ _ _ _ _ _ _ _ _ _

theorem after12 : (dats μ hO 0 c).after 12 t = deltas (s := S1x256x1024) (grad μ c hO t) (iblk μ hO c 8 t) (iblk μ hO c 9 t) (iblk μ hO c 10 t) := by
  rw [after0_12]
  unfold outsAt0
  dsimp only
  exact delta_left _ _ _ _ _ _ _ _ _ _ _ _ _ _ _ _ _ _ _ _ _ _ _ _ _ _ _ _ _ _ _ _ _ _ _ _ _ _ _ _ _ _ _ _

theorem after13 : (dats μ hO 0 c).after 13 t = means (s := S1x256x1024) (grad μ c hO t) (iblk μ hO c 9 t) := by
  rw [after0_13]
  unfold outsAt0
  dsimp only
  exact mean_left _ _ _ _ _ _ _ _ _ _ _ _ _ _ _ _ _ _ _ _ _ _ _ _ _ _ _ _ _ _ _ _ _ _ _ _ _ _ _ _ _ _ _ _

theorem after14 : (dats μ hO 0 c).after 14 t = squares (s := S1x256x1024) (grad μ c hO t) (iblk μ hO c 10 t) := by
  rw [after0_14]
  unfold outsAt0
  dsimp only
  exact square_left _ _ _ _ _ _ _ _ _ _ _ _ _ _ _ _ _ _ _ _ _ _ _ _ _ _ _ _ _ _ _ _ _ _ _ _ _ _ _ _ _ _ _ _

/-- Where an element of a point's block lies in the array. -/
abbrev at0 : S2x256x1024.Idx := (((cfgM μ hO).win 11).blk t).view.emb y

theorem first_layer : (at0 μ hO t y 0).val = 0 := by
  have : (y 0).val < 1 := (y 0).isLt
  show 0 * 1 + 1 * (y 0).val = 0
  omega

theorem own_read (h : (word μ c).toNat < 8) : (iblk μ hO c 0 t : Share) y = own μ c (place (owner (word μ c)) (at0 μ hO t y)) := by
  refine (congrFun (V_main_arg0 μ c) _).trans (congrArg (own μ c) (funext fun a => Fin.ext ?_))
  match a with
  | ⟨0, _⟩ =>
    have : (y 0).val < 1 := (y 0).isLt
    show ((tbl μ).at 0 (Rect.unit (s := S1) ![0] S1.size inb_S1_S1_0) numel1_S1).toNat * 1 + 1 * (y 0).val = (owner (word μ c)).val
    rw [word_eq μ c, owner_val h]
    omega
  | ⟨1, _⟩ => rfl
  | ⟨2, _⟩ => rfl

theorem land_read (j : Fin 7) (i : S7x256x1024.Idx) (e0 : (i 0).val = j.val * 1 + 1 * (y 0).val) (e1 : i 1 = at0 μ hO t y 1)
    (e2 : i 2 = at0 μ hO t y 2) : land μ c i = land μ c (place j (at0 μ hO t y)) := by
  refine congrArg (land μ c) (funext fun a => ?_)
  match a with
  | ⟨0, _⟩ =>
    have : (y 0).val < 1 := (y 0).isLt
    exact Fin.ext (by show (i 0).val = j.val; omega)
  | ⟨1, _⟩ => exact e1
  | ⟨2, _⟩ => exact e2

variable (h : (word μ c).toNat < 8)
include h

theorem grad_read : grad μ c hO t y = gradient (own μ c) (land μ c) (owner (word μ c)) (at0 μ hO t y) :=
  eight (fun j => land μ c (place j (at0 μ hO t y))) (own_read μ c hO t y h)
    ((congrFun (V_main_arg1 μ c) _).trans (land_read μ c hO t y 0 _ rfl rfl rfl))
    ((congrFun (V_main_arg1 μ c) _).trans (land_read μ c hO t y 1 _ rfl rfl rfl))
    ((congrFun (V_main_arg1 μ c) _).trans (land_read μ c hO t y 2 _ rfl rfl rfl))
    ((congrFun (V_main_arg1 μ c) _).trans (land_read μ c hO t y 3 _ rfl rfl rfl))
    ((congrFun (V_main_arg1 μ c) _).trans (land_read μ c hO t y 4 _ rfl rfl rfl))
    ((congrFun (V_main_arg1 μ c) _).trans (land_read μ c hO t y 5 _ rfl rfl rfl))
    ((congrFun (V_main_arg1 μ c) _).trans (land_read μ c hO t y 6 _ rfl rfl rfl))

omit h in
theorem weight_read : (iblk μ hO c 8 t : Tile) y = w0 μ c (at0 μ hO t y) := congrFun (V_main_arg2 μ c) _
omit h in
theorem mean_read : (iblk μ hO c 9 t : Tile) y = m0 μ c (at0 μ hO t y) := congrFun (V_main_arg3 μ c) _
omit h in
theorem square_read : (iblk μ hO c 10 t : Tile) y = v0 μ c (at0 μ hO t y) := congrFun (V_main_arg4 μ c) _

omit h in
theorem V_gradient : V μ c main_v0_0 = g1 μ c := by
  unfold V hostOps0
  after_results_simp
  rfl
omit h in
theorem V_delta : V μ c main_v0_1 = d1 μ c := by
  unfold V hostOps0
  after_results_simp
  rfl
omit h in
theorem V_mean : V μ c main_v0_2 = m1 μ c := by
  unfold V hostOps0
  after_results_simp
  rfl
omit h in
theorem V_square : V μ c main_v0_3 = v1 μ c := by
  unfold V hostOps0
  after_results_simp
  rfl

theorem array11 : (dats μ hO 0 c).arrAt 11 (cfgM μ hO).N = gradients (own μ c) (land μ c) (owner (word μ c)) (g1 μ c) := by
  refine (dats μ hO 0 c).arrAt_eq_of_coversWhere_of_agree 11 _ (fun β => β (0 : Fin 3) = 0) covers11 (fun t _ y => ?_) (fun j hj => ?_)
  · exact (congrFun (after11 μ c hO t) y).trans ((grad_read μ c hO t y h).trans (if_pos (first_layer μ hO t y)).symm)
  · refine (congrFun (V_gradient μ c) _).trans (if_neg fun e => hj ?_).symm
    have e' : (j (0 : Fin 3)).val = 0 := e
    show (j (0 : Fin 3)).val / 1 = 0
    omega

theorem array12 : (dats μ hO 0 c).arrAt 12 (cfgM μ hO).N = changes (own μ c) (land μ c) (owner (word μ c)) (w0 μ c) (m0 μ c) (v0 μ c) (d1 μ c) := by
  refine (dats μ hO 0 c).arrAt_eq_of_coversWhere_of_agree 12 _ (fun β => β (0 : Fin 3) = 0) covers12 (fun t _ y => ?_) (fun j hj => ?_)
  · exact (congrFun (after12 μ c hO t) y).trans ((congr (congr (congr (congrArg delta (grad_read μ c hO t y h)) (weight_read μ c hO t y)) (mean_read μ c hO t y)) (square_read μ c hO t y)).trans (if_pos (first_layer μ hO t y)).symm)
  · refine (congrFun (V_delta μ c) _).trans (if_neg fun e => hj ?_).symm
    have e' : (j (0 : Fin 3)).val = 0 := e
    show (j (0 : Fin 3)).val / 1 = 0
    omega

theorem array13 : (dats μ hO 0 c).arrAt 13 (cfgM μ hO).N = averages (own μ c) (land μ c) (owner (word μ c)) (m0 μ c) (m1 μ c) := by
  refine (dats μ hO 0 c).arrAt_eq_of_coversWhere_of_agree 13 _ (fun β => β (0 : Fin 3) = 0) covers13 (fun t _ y => ?_) (fun j hj => ?_)
  · exact (congrFun (after13 μ c hO t) y).trans ((congr (congrArg mean (grad_read μ c hO t y h)) (mean_read μ c hO t y)).trans (if_pos (first_layer μ hO t y)).symm)
  · refine (congrFun (V_mean μ c) _).trans (if_neg fun e => hj ?_).symm
    have e' : (j (0 : Fin 3)).val = 0 := e
    show (j (0 : Fin 3)).val / 1 = 0
    omega

theorem array14 : (dats μ hO 0 c).arrAt 14 (cfgM μ hO).N = spreads (own μ c) (land μ c) (owner (word μ c)) (v0 μ c) (v1 μ c) := by
  refine (dats μ hO 0 c).arrAt_eq_of_coversWhere_of_agree 14 _ (fun β => β (0 : Fin 3) = 0) covers14 (fun t _ y => ?_) (fun j hj => ?_)
  · exact (congrFun (after14 μ c hO t) y).trans ((congr (congrArg square (grad_read μ c hO t y h)) (square_read μ c hO t y)).trans (if_pos (first_layer μ hO t y)).symm)
  · refine (congrFun (V_square μ c) _).trans (if_neg fun e => hj ?_).symm
    have e' : (j (0 : Fin 3)).val = 0 := e
    show (j (0 : Fin 3)).val / 1 = 0
    omega

omit h

/-- Every run of the call ends with those arrays, the arguments kept and every counter at zero. -/
theorem run (ρ : Dev nD → PrngReg) (h : ∀ c, (word μ c).toNat < 8) :
    θ_run (defs (F := Ideal)) (onTc (τ := τ) (main (F := Ideal))) ⟨μ, fun _ => 0, ρ⟩ fun r => (∀ c : Dev nD,
      r.2.mem ((c.tc : Thread nD τ).loc main_v0_0) = gradients (own μ c) (land μ c) (owner (word μ c)) (g1 μ c)
      ∧ r.2.mem ((c.tc : Thread nD τ).loc main_v0_1)
        = changes (own μ c) (land μ c) (owner (word μ c)) (w0 μ c) (m0 μ c) (v0 μ c) (d1 μ c)
      ∧ r.2.mem ((c.tc : Thread nD τ).loc main_v0_2) = averages (own μ c) (land μ c) (owner (word μ c)) (m0 μ c) (m1 μ c)
      ∧ r.2.mem ((c.tc : Thread nD τ).loc main_v0_3) = spreads (own μ c) (land μ c) (owner (word μ c)) (v0 μ c) (v1 μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9)) ∧ r.2.sem = fun _ => 0 :=
  have hO := ok μ 0 (h 0)
  (θ_run defs _ _).mono (fun r q => ⟨fun c => ⟨((q.1 c).1 11).trans (array11 μ c hO (h c)), ((q.1 c).1 12).trans (array12 μ c hO (h c)),
      ((q.1 c).1 13).trans (array13 μ c hO (h c)), ((q.1 c).1 14).trans (array14 μ c hO (h c)), q.2.1 c⟩, q.2.2⟩)
    (θ_run_and (run_main μ ρ hO) (frame μ ρ hO))

end Cert.WoutKernelIdeal.Step
-- ==== Proof.WoutReference.lean ====
/-
  The optimiser's reference at the mixer's output projection's weights: its results are those of `Shares`.
-/
module

public import proofs.«01_k».proof.Proof.Shares
public import proofs.«01_k».proof.Proof.Gen.WoutReferenceIdeal.Read
public import Idealize.ShloMosaic.Lib.Claim
public import Idealize.ShloMosaic.Lib.Quiescent

@[expose] public section

set_option maxRecDepth 16384

noncomputable section

namespace Cert.WoutReferenceIdeal.Step

open Cert.WoutReferenceIdeal Cert.WoutReferenceIdeal.Gen Cert.WoutReferenceIdeal.Read Cert.Adam Cert.Shares Idealize.ShloMosaic
  Idealize.ShloMosaic.TcCoe Idealize.SL.Sem

variable (own : FVec Ideal S8x256x1024 .bf16) (land : FVec Ideal S7x256x1024 .bf16) (w m v old : FVec Ideal S2x256x1024 .f32)
  (me : IVec S1 32)

/-- The gradient of the first layer, and the first layers of the weights and of the averages. -/
abbrev grad : FVec Ideal S1x256x1024 .f32 := val_main_v10 (F := Ideal) own land me

theorem mean_eq : val_main_v18 (F := Ideal) own land m me = means (grad own land me) (val_main_v12 (F := Ideal) m) := rfl
theorem square_eq : val_main_v24 (F := Ideal) own land v me = squares (grad own land me) (val_main_v13 (F := Ideal) v) := rfl
theorem delta_eq : val_main_v37 (F := Ideal) own land w m v me
    = deltas (grad own land me) (val_main_v11 (F := Ideal) w) (val_main_v12 (F := Ideal) m) (val_main_v13 (F := Ideal) v) := rfl

variable (y : S1x256x1024.Idx)

theorem low : idx_main_v11 y = place 0 y := by
  funext a
  match a with
  | ⟨0, _⟩ => exact Fin.ext (Nat.lt_one_iff.mp (y 0).isLt)
  | ⟨1, _⟩ => rfl
  | ⟨2, _⟩ => rfl

theorem high : idx_main_v38 y = place 1 y := by
  funext a
  match a with
  | ⟨0, _⟩ => exact Fin.ext (congrArg (1 + ·) (Nat.lt_one_iff.mp (y 0).isLt))
  | ⟨1, _⟩ => rfl
  | ⟨2, _⟩ => rfl

theorem own_index (k : Fin 8) : idx_main_v6 (idx_main_v10 y) k = place k y := by
  funext a
  match a with
  | ⟨0, _⟩ => rfl
  | ⟨1, _⟩ => rfl
  | ⟨2, _⟩ => rfl

theorem land_index (k : Fin 7) : idx_main_v8 (idx_main_v10 y) k = place k (place (0 : Fin 2) y) := by
  funext a
  match a with
  | ⟨0, _⟩ => rfl
  | ⟨1, _⟩ => rfl
  | ⟨2, _⟩ => rfl

theorem weight_apply : val_main_v11 (F := Ideal) w y = w (place 0 y) := (val_main_v11_apply (F := Ideal) w y).trans (congrArg w (low y))
theorem mean_apply : val_main_v12 (F := Ideal) m y = m (place 0 y) := (val_main_v12_apply (F := Ideal) m y).trans (congrArg m (low y))
theorem square_apply : val_main_v13 (F := Ideal) v y = v (place 0 y) := (val_main_v13_apply (F := Ideal) v y).trans (congrArg v (low y))
theorem old_apply : val_main_v38 (F := Ideal) old y = old (place 1 y) := (val_main_v38_apply (F := Ideal) old y).trans (congrArg old (high y))

variable (h : (me only).toNat < 8)
include h

theorem grad_apply : grad own land me y = gradient own land (owner (me only)) (place (0 : Fin 2) y) := by
  unfold grad
  rw [val_main_v10_apply, val_main_v9_apply, val_main_v6_apply, val_main_v8_apply]
  refine congr (congrArg HAdd.hAdd (Eq.trans ?_ (chosen h fun k => own (place k y)))) (Eq.trans ?_ (zero_add _))
  · refine congrArg (con 0x00000000#32 + ·) (Finset.sum_congr rfl fun k _ => ?_)
    rw [val_main_v5_apply, val_main_call0_v1_apply, val_main_v3_apply, val_main_v2_apply, val_main_v0_apply, val_main_v1_apply,
      val_main_v4_apply, val_main_call0_v2_apply, val_main_call0_v0_apply, eq_only (idx_main_v1 _), own_index]
    rfl
  · refine congr (congrArg HAdd.hAdd Ideal.ofBits_zero_f32) (Finset.sum_congr rfl fun k _ => ?_)
    rw [val_main_v7_apply, land_index]
    rfl

theorem gradients_eq : val_main_v39 (F := Ideal) own land me old = gradients own land (owner (me only)) old :=
  keep_eq old _ _ _ _ (fun y => grad_apply own land me y h) (fun y => old_apply old y)

theorem changes_eq : val_main_v41 (F := Ideal) own land w m v me old = changes own land (owner (me only)) w m v old :=
  keep_eq old _ _ _ _ (fun y => (congrFun (delta_eq own land w m v me) y).trans (congr (congr (congr (congrArg delta
    (grad_apply own land me y h)) (weight_apply w y)) (mean_apply m y)) (square_apply v y))) (fun y => old_apply old y)

theorem averages_eq : val_main_v43 (F := Ideal) own land m me old = averages own land (owner (me only)) m old :=
  keep_eq old _ _ _ _ (fun y => (congrFun (mean_eq own land m me) y).trans (congr (congrArg mean
    (grad_apply own land me y h)) (mean_apply m y))) (fun y => old_apply old y)

theorem spreads_eq : val_main_v45 (F := Ideal) own land v me old = spreads own land (owner (me only)) v old :=
  keep_eq old _ _ _ _ (fun y => (congrFun (square_eq own land v me) y).trans (congr (congrArg square
    (grad_apply own land me y h)) (square_apply v y))) (fun y => old_apply old y)

omit h
variable (μ : (ℓ : Loc nD τ sig) → Buf (Elt Ideal) ℓ) (ρ : Dev nD → PrngReg)

/-- Every run of the reference ends with those results, the arguments kept and every counter at zero. -/
theorem run (h : ∀ c : Dev nD, ((μ ((c : Thread nD τ).loc main_arg5) : IVec S1 32) only).toNat < 8) :
    θ_run (defs (F := Ideal)) (onTc (τ := τ) (main (F := Ideal))) ⟨μ, fun _ => 0, ρ⟩ fun r => (∀ c : Dev nD,
      (r.2.mem ((c.tc : Thread nD τ).loc main_v39) = gradients (r := 256) (μ ((c.tc : Thread nD τ).loc main_arg0))
          (μ ((c.tc : Thread nD τ).loc main_arg1)) (owner ((μ ((c : Thread nD τ).loc main_arg5) : IVec S1 32) only))
          (μ ((c.tc : Thread nD τ).loc main_arg6))
      ∧ r.2.mem ((c.tc : Thread nD τ).loc main_v41) = changes (r := 256) (μ ((c.tc : Thread nD τ).loc main_arg0))
          (μ ((c.tc : Thread nD τ).loc main_arg1)) (owner ((μ ((c : Thread nD τ).loc main_arg5) : IVec S1 32) only))
          (μ ((c.tc : Thread nD τ).loc main_arg2)) (μ ((c.tc : Thread nD τ).loc main_arg3)) (μ ((c.tc : Thread nD τ).loc main_arg4))
          (μ ((c.tc : Thread nD τ).loc main_arg7))
      ∧ r.2.mem ((c.tc : Thread nD τ).loc main_v43) = averages (r := 256) (μ ((c.tc : Thread nD τ).loc main_arg0))
          (μ ((c.tc : Thread nD τ).loc main_arg1)) (owner ((μ ((c : Thread nD τ).loc main_arg5) : IVec S1 32) only))
          (μ ((c.tc : Thread nD τ).loc main_arg3)) (μ ((c.tc : Thread nD τ).loc main_arg8))
      ∧ r.2.mem ((c.tc : Thread nD τ).loc main_v45) = spreads (r := 256) (μ ((c.tc : Thread nD τ).loc main_arg0))
          (μ ((c.tc : Thread nD τ).loc main_arg1)) (owner ((μ ((c : Thread nD τ).loc main_arg5) : IVec S1 32) only))
          (μ ((c.tc : Thread nD τ).loc main_arg4)) (μ ((c.tc : Thread nD τ).loc main_arg9)))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9)) :=
  (θ_run (defs (F := Ideal)) _ _).mono (fun _ q c => ⟨⟨(q c).1.trans ((val_main_v39_eq _ _ _ _).trans (gradients_eq _ _ _ _ (h c))),
    (q c).2.1.trans ((val_main_v41_eq _ _ _ _ _ _ _).trans (changes_eq _ _ _ _ _ _ _ (h c))),
    (q c).2.2.1.trans ((val_main_v43_eq _ _ _ _ _).trans (averages_eq _ _ _ _ _ (h c))),
    (q c).2.2.2.1.trans ((val_main_v45_eq _ _ _ _ _).trans (spreads_eq _ _ _ _ _ (h c)))⟩, (q c).2.2.2.2⟩)
    (Value.run μ ρ)

/-- Every run of the reference keeps the arguments and ends with every counter at zero. -/
theorem frame : θ_run (defs (F := Ideal)) (onTc (τ := τ) (main (F := Ideal))) ⟨μ, fun _ => 0, ρ⟩ fun r => (∀ c : Dev nD,
      r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9))
      ∧ r.2.sem = fun _ => 0 :=
  (θ_run (defs (F := Ideal)) _ _).mono (fun _ q => ⟨fun c => (q c).2.2.2.2, sem_eq_zero_of_no_sems (by decide) _⟩) (Value.run μ ρ)

end Cert.WoutReferenceIdeal.Step
-- ==== Proof.FupArrays.lean ====
/-
  The optimiser's call at the feed-forward expansion's weights, kept transposed: the arrays that it leaves are those of `Shares`.
-/
module

public import proofs.«01_k».proof.Proof.Shares
public import proofs.«01_k».proof.Proof.Gen.FupKernelIdeal.Frame
public import Idealize.ShloMosaic.Lib.Pipeline.ValueKit

@[expose] public section

set_option maxRecDepth 16384

noncomputable section

namespace Cert.FupKernelIdeal.Step

open Cert.FupKernelIdeal Cert.FupKernelIdeal.Gen Cert.Adam Cert.Shares Idealize.ShloMosaic Idealize.ShloMosaic.TcCoe Idealize.SL.Sem
open Idealize.ShloMosaic.Pipeline (Dat)

/-- A block of one of the arrays, and of one of the shares. -/
abbrev Tile := FVec Ideal S1x176x1024 .f32
abbrev Share := FVec Ideal S1x176x1024 .bf16

/-! ## A grid point's values -/

/-- The gradient of a block: the shares added one by one. -/
def summed (x0 x1 x2 x3 x4 x5 x6 x7 : Share) : Tile := fun y => x0 y + x1 y + x2 y + x3 y + x4 y + x5 y + x6 y + x7 y

theorem pay1_eq (g m : Tile) : k0_pay1 (F := Ideal) g m = means g m := rfl
theorem pay2_eq (g v : Tile) : k0_pay2 (F := Ideal) g v = squares g v := rfl
theorem pay3_eq (g w m v : Tile) : k0_pay3 (F := Ideal) g w m v = deltas g w m v := rfl
theorem pay4_eq (x0 x1 x2 x3 x4 x5 x6 x7 : Share) : k0_pay4 (F := Ideal) x0 x1 x2 x3 x4 x5 x6 x7 = summed x0 x1 x2 x3 x4 x5 x6 x7 := rfl

theorem hz : (![0, 0, 0] : Fin 3 → Nat) = fun _ => 0 := by decide

section
variable (c : Dev nD) (i : grid0.Coords)
  (a0 : Memref sig .tc .vmem S1x176x1024 .bf16) (h0 : a0.IsWhole) (a1 : Memref sig .tc .vmem S1x176x1024 .bf16) (h1 : a1.IsWhole)
  (a2 : Memref sig .tc .vmem S1x176x1024 .bf16) (h2 : a2.IsWhole) (a3 : Memref sig .tc .vmem S1x176x1024 .bf16) (h3 : a3.IsWhole)
  (a4 : Memref sig .tc .vmem S1x176x1024 .bf16) (h4 : a4.IsWhole) (a5 : Memref sig .tc .vmem S1x176x1024 .bf16) (h5 : a5.IsWhole)
  (a6 : Memref sig .tc .vmem S1x176x1024 .bf16) (h6 : a6.IsWhole) (a7 : Memref sig .tc .vmem S1x176x1024 .bf16) (h7 : a7.IsWhole)
  (a8 : Memref sig .tc .vmem S1x176x1024 .f32) (h8 : a8.IsWhole) (a9 : Memref sig .tc .vmem S1x176x1024 .f32) (h9 : a9.IsWhole)
  (a10 : Memref sig .tc .vmem S1x176x1024 .f32) (h10 : a10.IsWhole) (a11 : Memref sig .tc .vmem S1x176x1024 .f32) (h11 : a11.IsWhole)
  (a12 : Memref sig .tc .vmem S1x176x1024 .f32) (h12 : a12.IsWhole) (a13 : Memref sig .tc .vmem S1x176x1024 .f32) (h13 : a13.IsWhole)
  (a14 : Memref sig .tc .vmem S1x176x1024 .f32) (h14 : a14.IsWhole)
  (x0 x1 x2 x3 x4 x5 x6 x7 : Share) (w m v : Tile) (x : TbBuf0 (F := Ideal) c tbM0_0)

theorem gradient_left : out0_A_11 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = summed x0 x1 x2 x3 x4 x5 x6 x7 := by
  unfold out0_A_11
  rw [View.read_writes_eq_canon _ _ _ (cover0_A_11 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread,
    View.ld_unit_zero (S := S1x176x1024) hz]
  rfl

theorem delta_left : out0_A_12 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = deltas (summed x0 x1 x2 x3 x4 x5 x6 x7) w m v := by
  unfold out0_A_12
  rw [View.read_writes_eq_canon _ _ _ (cover0_A_12 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread,
    View.ld_unit_zero (S := S1x176x1024) hz]
  rfl

theorem mean_left : out0_A_13 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = means (summed x0 x1 x2 x3 x4 x5 x6 x7) m := by
  unfold out0_A_13
  rw [View.read_writes_eq_canon _ _ _ (cover0_A_13 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h9.read_unread,
    View.ld_unit_zero (S := S1x176x1024) hz]
  rfl

theorem square_left : out0_A_14 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = squares (summed x0 x1 x2 x3 x4 x5 x6 x7) v := by
  unfold out0_A_14
  rw [View.read_writes_eq_canon _ _ _ (cover0_A_14 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h10.read_unread,
    View.ld_unit_zero (S := S1x176x1024) hz]
  rfl

end

/-! ## The arrays -/

variable {F : FTy → Type} [FloatOps F]

/-- A word in range chooses a block inside the array. -/
theorem ok_of (T : pre0.Contents (Elt F)) (h : (T.at 0 (Rect.unit (s := S1) ![0] S1.size inb_S1_S1_0) numel1_S1 : BitVec 32).toNat < 8) :
    ok0 T := fun i => ⟨fun a => by
  match a with
  | ⟨0, _⟩ =>
    show ((T.at 0 (Rect.unit (s := S1) ![0] S1.size inb_S1_S1_0) numel1_S1 : BitVec 32).toNat + 1) * 1 ≤ 8
    omega
  | ⟨1, _⟩ => exact hinb0_1 i 1
  | ⟨2, _⟩ => exact hinb0_1 i 2,
  .inr (Affine.block_words_dvd (of_decide_eq_true rfl) (by decide))⟩

/-- The device's word. -/
abbrev word (μ : (ℓ : Loc nD τ sig) → Buf (Elt F) ℓ) (c : Dev nD) : BitVec 32 := (μ ((c : Thread nD τ).loc main_arg5) : IVec S1 32) only

/-- The word that the block of the own share is read off. -/
theorem word_eq (μ : (ℓ : Loc nD τ sig) → Buf (Elt F) ℓ) (c : Dev nD) :
    (tbl μ).at 0 (Rect.unit (s := S1) ![0] S1.size inb_S1_S1_0) numel1_S1 = word μ c := by
  obtain rfl : c = 0 := Subsingleton.elim _ _
  exact (congrFun (V_main_arg5 μ 0) _).trans (congrArg (μ (((0 : Dev nD) : Thread nD τ).loc main_arg5) : IVec S1 32) (eq_only _))

theorem ok (μ : (ℓ : Loc nD τ sig) → Buf (Elt F) ℓ) (c : Dev nD) (h : (word μ c).toNat < 8) : Ok μ :=
  ok_of _ ((congrArg BitVec.toNat (word_eq μ c)).trans_lt h)

/-- Contents of the table; the blocks of the results do not depend on them. -/
def table : (pcfg0 (F := Ideal)).Adm := ⟨fun | 0 => fun _ => (0#32 : BitVec 32), ok_of _ (Nat.zero_lt_succ 7)⟩

theorem covers11 : ((cfg0 table).win 11).CoversWhere (fun β => β (0 : Fin 3) = 0) := by decide +kernel
theorem covers12 : ((cfg0 table).win 12).CoversWhere (fun β => β (0 : Fin 3) = 0) := by decide +kernel
theorem covers13 : ((cfg0 table).win 13).CoversWhere (fun β => β (0 : Fin 3) = 0) := by decide +kernel
theorem covers14 : ((cfg0 table).win 14).CoversWhere (fun β => β (0 : Fin 3) = 0) := by decide +kernel

variable (μ : (ℓ : Loc nD τ sig) → Buf (Elt Ideal) ℓ) (c : Dev nD)

/-! The arguments: the shares sent out and received, the weights, the two averages, and the second layer's
results. -/
abbrev own : FVec Ideal S8x704x1024 .bf16 := μ ((c : Thread nD τ).loc main_arg0)
abbrev land : FVec Ideal S7x704x1024 .bf16 := μ ((c : Thread nD τ).loc main_arg1)
abbrev w0 : FVec Ideal S2x704x1024 .f32 := μ ((c : Thread nD τ).loc main_arg2)
abbrev m0 : FVec Ideal S2x704x1024 .f32 := μ ((c : Thread nD τ).loc main_arg3)
abbrev v0 : FVec Ideal S2x704x1024 .f32 := μ ((c : Thread nD τ).loc main_arg4)
abbrev g1 : FVec Ideal S2x704x1024 .f32 := μ ((c : Thread nD τ).loc main_arg6)
abbrev d1 : FVec Ideal S2x704x1024 .f32 := μ ((c : Thread nD τ).loc main_arg7)
abbrev m1 : FVec Ideal S2x704x1024 .f32 := μ ((c : Thread nD τ).loc main_arg8)
abbrev v1 : FVec Ideal S2x704x1024 .f32 := μ ((c : Thread nD τ).loc main_arg9)

variable (hO : Ok μ) (t : Fin (cfgM μ hO).N) (y : S1x176x1024.Idx)

/-- The gradient of a point's block. -/
abbrev grad : Tile := summed (iblk μ hO c 0 t) (iblk μ hO c 1 t) (iblk μ hO c 2 t) (iblk μ hO c 3 t) (iblk μ hO c 4 t)
  (iblk μ hO c 5 t) (iblk μ hO c 6 t) (iblk μ hO c 7 t)

theorem after11 : (dats μ hO 0 c).after 11 t = grad μ c hO t := by
  rw [after0_11]
  unfold outsAt0
  dsimp only
  exact gradient_left _ _ _ _ _ _ _ _ _ _ _ _ _ _ _ _ _ _ _ _ _ _ _ _ _ _ _ _ _ _ _ _ _ _ _ _ _ _ _ _ _ _ _ _

theorem after12 : (dats μ hO 0 c).after 12 t = deltas (s := S1x176x1024) (grad μ c hO t) (iblk μ hO c 8 t) (iblk μ hO c 9 t) (iblk μ hO c 10 t) := by
  rw [after0_12]
  unfold outsAt0
  dsimp only
  exact delta_left _ _ _ _ _ _ _ _ _ _ _ _ _ _ _ _ _ _ _ _ _ _ _ _ _ _ _ _ _ _ _ _ _ _ _ _ _ _ _ _ _ _ _ _

theorem after13 : (dats μ hO 0 c).after 13 t = means (s := S1x176x1024) (grad μ c hO t) (iblk μ hO c 9 t) := by
  rw [after0_13]
  unfold outsAt0
  dsimp only
  exact mean_left _ _ _ _ _ _ _ _ _ _ _ _ _ _ _ _ _ _ _ _ _ _ _ _ _ _ _ _ _ _ _ _ _ _ _ _ _ _ _ _ _ _ _ _

theorem after14 : (dats μ hO 0 c).after 14 t = squares (s := S1x176x1024) (grad μ c hO t) (iblk μ hO c 10 t) := by
  rw [after0_14]
  unfold outsAt0
  dsimp only
  exact square_left _ _ _ _ _ _ _ _ _ _ _ _ _ _ _ _ _ _ _ _ _ _ _ _ _ _ _ _ _ _ _ _ _ _ _ _ _ _ _ _ _ _ _ _

/-- Where an element of a point's block lies in the array. -/
abbrev at0 : S2x704x1024.Idx := (((cfgM μ hO).win 11).blk t).view.emb y

theorem first_layer : (at0 μ hO t y 0).val = 0 := by
  have : (y 0).val < 1 := (y 0).isLt
  show 0 * 1 + 1 * (y 0).val = 0
  omega

theorem own_read (h : (word μ c).toNat < 8) : (iblk μ hO c 0 t : Share) y = own μ c (place (owner (word μ c)) (at0 μ hO t y)) := by
  refine (congrFun (V_main_arg0 μ c) _).trans (congrArg (own μ c) (funext fun a => Fin.ext ?_))
  match a with
  | ⟨0, _⟩ =>
    have : (y 0).val < 1 := (y 0).isLt
    show ((tbl μ).at 0 (Rect.unit (s := S1) ![0] S1.size inb_S1_S1_0) numel1_S1).toNat * 1 + 1 * (y 0).val = (owner (word μ c)).val
    rw [word_eq μ c, owner_val h]
    omega
  | ⟨1, _⟩ => rfl
  | ⟨2, _⟩ => rfl

theorem land_read (j : Fin 7) (i : S7x704x1024.Idx) (e0 : (i 0).val = j.val * 1 + 1 * (y 0).val) (e1 : i 1 = at0 μ hO t y 1)
    (e2 : i 2 = at0 μ hO t y 2) : land μ c i = land μ c (place j (at0 μ hO t y)) := by
  refine congrArg (land μ c) (funext fun a => ?_)
  match a with
  | ⟨0, _⟩ =>
    have : (y 0).val < 1 := (y 0).isLt
    exact Fin.ext (by show (i 0).val = j.val; omega)
  | ⟨1, _⟩ => exact e1
  | ⟨2, _⟩ => exact e2

variable (h : (word μ c).toNat < 8)
include h

theorem grad_read : grad μ c hO t y = gradient (own μ c) (land μ c) (owner (word μ c)) (at0 μ hO t y) :=
  eight (fun j => land μ c (place j (at0 μ hO t y))) (own_read μ c hO t y h)
    ((congrFun (V_main_arg1 μ c) _).trans (land_read μ c hO t y 0 _ rfl rfl rfl))
    ((congrFun (V_main_arg1 μ c) _).trans (land_read μ c hO t y 1 _ rfl rfl rfl))
    ((congrFun (V_main_arg1 μ c) _).trans (land_read μ c hO t y 2 _ rfl rfl rfl))
    ((congrFun (V_main_arg1 μ c) _).trans (land_read μ c hO t y 3 _ rfl rfl rfl))
    ((congrFun (V_main_arg1 μ c) _).trans (land_read μ c hO t y 4 _ rfl rfl rfl))
    ((congrFun (V_main_arg1 μ c) _).trans (land_read μ c hO t y 5 _ rfl rfl rfl))
    ((congrFun (V_main_arg1 μ c) _).trans (land_read μ c hO t y 6 _ rfl rfl rfl))

omit h in
theorem weight_read : (iblk μ hO c 8 t : Tile) y = w0 μ c (at0 μ hO t y) := congrFun (V_main_arg2 μ c) _
omit h in
theorem mean_read : (iblk μ hO c 9 t : Tile) y = m0 μ c (at0 μ hO t y) := congrFun (V_main_arg3 μ c) _
omit h in
theorem square_read : (iblk μ hO c 10 t : Tile) y = v0 μ c (at0 μ hO t y) := congrFun (V_main_arg4 μ c) _

omit h in
theorem V_gradient : V μ c main_v0_0 = g1 μ c := by
  unfold V hostOps0
  after_results_simp
  rfl
omit h in
theorem V_delta : V μ c main_v0_1 = d1 μ c := by
  unfold V hostOps0
  after_results_simp
  rfl
omit h in
theorem V_mean : V μ c main_v0_2 = m1 μ c := by
  unfold V hostOps0
  after_results_simp
  rfl
omit h in
theorem V_square : V μ c main_v0_3 = v1 μ c := by
  unfold V hostOps0
  after_results_simp
  rfl

theorem array11 : (dats μ hO 0 c).arrAt 11 (cfgM μ hO).N = gradients (own μ c) (land μ c) (owner (word μ c)) (g1 μ c) := by
  refine (dats μ hO 0 c).arrAt_eq_of_coversWhere_of_agree 11 _ (fun β => β (0 : Fin 3) = 0) covers11 (fun t _ y => ?_) (fun j hj => ?_)
  · exact (congrFun (after11 μ c hO t) y).trans ((grad_read μ c hO t y h).trans (if_pos (first_layer μ hO t y)).symm)
  · refine (congrFun (V_gradient μ c) _).trans (if_neg fun e => hj ?_).symm
    have e' : (j (0 : Fin 3)).val = 0 := e
    show (j (0 : Fin 3)).val / 1 = 0
    omega

theorem array12 : (dats μ hO 0 c).arrAt 12 (cfgM μ hO).N = changes (own μ c) (land μ c) (owner (word μ c)) (w0 μ c) (m0 μ c) (v0 μ c) (d1 μ c) := by
  refine (dats μ hO 0 c).arrAt_eq_of_coversWhere_of_agree 12 _ (fun β => β (0 : Fin 3) = 0) covers12 (fun t _ y => ?_) (fun j hj => ?_)
  · exact (congrFun (after12 μ c hO t) y).trans ((congr (congr (congr (congrArg delta (grad_read μ c hO t y h)) (weight_read μ c hO t y)) (mean_read μ c hO t y)) (square_read μ c hO t y)).trans (if_pos (first_layer μ hO t y)).symm)
  · refine (congrFun (V_delta μ c) _).trans (if_neg fun e => hj ?_).symm
    have e' : (j (0 : Fin 3)).val = 0 := e
    show (j (0 : Fin 3)).val / 1 = 0
    omega

theorem array13 : (dats μ hO 0 c).arrAt 13 (cfgM μ hO).N = averages (own μ c) (land μ c) (owner (word μ c)) (m0 μ c) (m1 μ c) := by
  refine (dats μ hO 0 c).arrAt_eq_of_coversWhere_of_agree 13 _ (fun β => β (0 : Fin 3) = 0) covers13 (fun t _ y => ?_) (fun j hj => ?_)
  · exact (congrFun (after13 μ c hO t) y).trans ((congr (congrArg mean (grad_read μ c hO t y h)) (mean_read μ c hO t y)).trans (if_pos (first_layer μ hO t y)).symm)
  · refine (congrFun (V_mean μ c) _).trans (if_neg fun e => hj ?_).symm
    have e' : (j (0 : Fin 3)).val = 0 := e
    show (j (0 : Fin 3)).val / 1 = 0
    omega

theorem array14 : (dats μ hO 0 c).arrAt 14 (cfgM μ hO).N = spreads (own μ c) (land μ c) (owner (word μ c)) (v0 μ c) (v1 μ c) := by
  refine (dats μ hO 0 c).arrAt_eq_of_coversWhere_of_agree 14 _ (fun β => β (0 : Fin 3) = 0) covers14 (fun t _ y => ?_) (fun j hj => ?_)
  · exact (congrFun (after14 μ c hO t) y).trans ((congr (congrArg square (grad_read μ c hO t y h)) (square_read μ c hO t y)).trans (if_pos (first_layer μ hO t y)).symm)
  · refine (congrFun (V_square μ c) _).trans (if_neg fun e => hj ?_).symm
    have e' : (j (0 : Fin 3)).val = 0 := e
    show (j (0 : Fin 3)).val / 1 = 0
    omega

omit h

/-- Every run of the call ends with those arrays, the arguments kept and every counter at zero. -/
theorem run (ρ : Dev nD → PrngReg) (h : ∀ c, (word μ c).toNat < 8) :
    θ_run (defs (F := Ideal)) (onTc (τ := τ) (main (F := Ideal))) ⟨μ, fun _ => 0, ρ⟩ fun r => (∀ c : Dev nD,
      r.2.mem ((c.tc : Thread nD τ).loc main_v0_0) = gradients (own μ c) (land μ c) (owner (word μ c)) (g1 μ c)
      ∧ r.2.mem ((c.tc : Thread nD τ).loc main_v0_1)
        = changes (own μ c) (land μ c) (owner (word μ c)) (w0 μ c) (m0 μ c) (v0 μ c) (d1 μ c)
      ∧ r.2.mem ((c.tc : Thread nD τ).loc main_v0_2) = averages (own μ c) (land μ c) (owner (word μ c)) (m0 μ c) (m1 μ c)
      ∧ r.2.mem ((c.tc : Thread nD τ).loc main_v0_3) = spreads (own μ c) (land μ c) (owner (word μ c)) (v0 μ c) (v1 μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9)) ∧ r.2.sem = fun _ => 0 :=
  have hO := ok μ 0 (h 0)
  (θ_run defs _ _).mono (fun r q => ⟨fun c => ⟨((q.1 c).1 11).trans (array11 μ c hO (h c)), ((q.1 c).1 12).trans (array12 μ c hO (h c)),
      ((q.1 c).1 13).trans (array13 μ c hO (h c)), ((q.1 c).1 14).trans (array14 μ c hO (h c)), q.2.1 c⟩, q.2.2⟩)
    (θ_run_and (run_main μ ρ hO) (frame μ ρ hO))

end Cert.FupKernelIdeal.Step
-- ==== Proof.FupReference.lean ====
/-
  The optimiser's reference at the feed-forward expansion's weights, kept transposed: its results are those of `Shares`.
-/
module

public import proofs.«01_k».proof.Proof.Shares
public import proofs.«01_k».proof.Proof.Gen.FupReferenceIdeal.Read
public import Idealize.ShloMosaic.Lib.Claim
public import Idealize.ShloMosaic.Lib.Quiescent

@[expose] public section

set_option maxRecDepth 16384

noncomputable section

namespace Cert.FupReferenceIdeal.Step

open Cert.FupReferenceIdeal Cert.FupReferenceIdeal.Gen Cert.FupReferenceIdeal.Read Cert.Adam Cert.Shares Idealize.ShloMosaic
  Idealize.ShloMosaic.TcCoe Idealize.SL.Sem

variable (own : FVec Ideal S8x704x1024 .bf16) (land : FVec Ideal S7x704x1024 .bf16) (w m v old : FVec Ideal S2x704x1024 .f32)
  (me : IVec S1 32)

/-- The gradient of the first layer, and the first layers of the weights and of the averages. -/
abbrev grad : FVec Ideal S1x704x1024 .f32 := val_main_v10 (F := Ideal) own land me

theorem mean_eq : val_main_v18 (F := Ideal) own land m me = means (grad own land me) (val_main_v12 (F := Ideal) m) := rfl
theorem square_eq : val_main_v24 (F := Ideal) own land v me = squares (grad own land me) (val_main_v13 (F := Ideal) v) := rfl
theorem delta_eq : val_main_v37 (F := Ideal) own land w m v me
    = deltas (grad own land me) (val_main_v11 (F := Ideal) w) (val_main_v12 (F := Ideal) m) (val_main_v13 (F := Ideal) v) := rfl

variable (y : S1x704x1024.Idx)

theorem low : idx_main_v11 y = place 0 y := by
  funext a
  match a with
  | ⟨0, _⟩ => exact Fin.ext (Nat.lt_one_iff.mp (y 0).isLt)
  | ⟨1, _⟩ => rfl
  | ⟨2, _⟩ => rfl

theorem high : idx_main_v38 y = place 1 y := by
  funext a
  match a with
  | ⟨0, _⟩ => exact Fin.ext (congrArg (1 + ·) (Nat.lt_one_iff.mp (y 0).isLt))
  | ⟨1, _⟩ => rfl
  | ⟨2, _⟩ => rfl

theorem own_index (k : Fin 8) : idx_main_v6 (idx_main_v10 y) k = place k y := by
  funext a
  match a with
  | ⟨0, _⟩ => rfl
  | ⟨1, _⟩ => rfl
  | ⟨2, _⟩ => rfl

theorem land_index (k : Fin 7) : idx_main_v8 (idx_main_v10 y) k = place k (place (0 : Fin 2) y) := by
  funext a
  match a with
  | ⟨0, _⟩ => rfl
  | ⟨1, _⟩ => rfl
  | ⟨2, _⟩ => rfl

theorem weight_apply : val_main_v11 (F := Ideal) w y = w (place 0 y) := (val_main_v11_apply (F := Ideal) w y).trans (congrArg w (low y))
theorem mean_apply : val_main_v12 (F := Ideal) m y = m (place 0 y) := (val_main_v12_apply (F := Ideal) m y).trans (congrArg m (low y))
theorem square_apply : val_main_v13 (F := Ideal) v y = v (place 0 y) := (val_main_v13_apply (F := Ideal) v y).trans (congrArg v (low y))
theorem old_apply : val_main_v38 (F := Ideal) old y = old (place 1 y) := (val_main_v38_apply (F := Ideal) old y).trans (congrArg old (high y))

variable (h : (me only).toNat < 8)
include h

theorem grad_apply : grad own land me y = gradient own land (owner (me only)) (place (0 : Fin 2) y) := by
  unfold grad
  rw [val_main_v10_apply, val_main_v9_apply, val_main_v6_apply, val_main_v8_apply]
  refine congr (congrArg HAdd.hAdd (Eq.trans ?_ (chosen h fun k => own (place k y)))) (Eq.trans ?_ (zero_add _))
  · refine congrArg (con 0x00000000#32 + ·) (Finset.sum_congr rfl fun k _ => ?_)
    rw [val_main_v5_apply, val_main_call0_v1_apply, val_main_v3_apply, val_main_v2_apply, val_main_v0_apply, val_main_v1_apply,
      val_main_v4_apply, val_main_call0_v2_apply, val_main_call0_v0_apply, eq_only (idx_main_v1 _), own_index]
    rfl
  · refine congr (congrArg HAdd.hAdd Ideal.ofBits_zero_f32) (Finset.sum_congr rfl fun k _ => ?_)
    rw [val_main_v7_apply, land_index]
    rfl

theorem gradients_eq : val_main_v39 (F := Ideal) own land me old = gradients own land (owner (me only)) old :=
  keep_eq old _ _ _ _ (fun y => grad_apply own land me y h) (fun y => old_apply old y)

theorem changes_eq : val_main_v41 (F := Ideal) own land w m v me old = changes own land (owner (me only)) w m v old :=
  keep_eq old _ _ _ _ (fun y => (congrFun (delta_eq own land w m v me) y).trans (congr (congr (congr (congrArg delta
    (grad_apply own land me y h)) (weight_apply w y)) (mean_apply m y)) (square_apply v y))) (fun y => old_apply old y)

theorem averages_eq : val_main_v43 (F := Ideal) own land m me old = averages own land (owner (me only)) m old :=
  keep_eq old _ _ _ _ (fun y => (congrFun (mean_eq own land m me) y).trans (congr (congrArg mean
    (grad_apply own land me y h)) (mean_apply m y))) (fun y => old_apply old y)

theorem spreads_eq : val_main_v45 (F := Ideal) own land v me old = spreads own land (owner (me only)) v old :=
  keep_eq old _ _ _ _ (fun y => (congrFun (square_eq own land v me) y).trans (congr (congrArg square
    (grad_apply own land me y h)) (square_apply v y))) (fun y => old_apply old y)

omit h
variable (μ : (ℓ : Loc nD τ sig) → Buf (Elt Ideal) ℓ) (ρ : Dev nD → PrngReg)

/-- Every run of the reference ends with those results, the arguments kept and every counter at zero. -/
theorem run (h : ∀ c : Dev nD, ((μ ((c : Thread nD τ).loc main_arg5) : IVec S1 32) only).toNat < 8) :
    θ_run (defs (F := Ideal)) (onTc (τ := τ) (main (F := Ideal))) ⟨μ, fun _ => 0, ρ⟩ fun r => (∀ c : Dev nD,
      (r.2.mem ((c.tc : Thread nD τ).loc main_v39) = gradients (r := 704) (μ ((c.tc : Thread nD τ).loc main_arg0))
          (μ ((c.tc : Thread nD τ).loc main_arg1)) (owner ((μ ((c : Thread nD τ).loc main_arg5) : IVec S1 32) only))
          (μ ((c.tc : Thread nD τ).loc main_arg6))
      ∧ r.2.mem ((c.tc : Thread nD τ).loc main_v41) = changes (r := 704) (μ ((c.tc : Thread nD τ).loc main_arg0))
          (μ ((c.tc : Thread nD τ).loc main_arg1)) (owner ((μ ((c : Thread nD τ).loc main_arg5) : IVec S1 32) only))
          (μ ((c.tc : Thread nD τ).loc main_arg2)) (μ ((c.tc : Thread nD τ).loc main_arg3)) (μ ((c.tc : Thread nD τ).loc main_arg4))
          (μ ((c.tc : Thread nD τ).loc main_arg7))
      ∧ r.2.mem ((c.tc : Thread nD τ).loc main_v43) = averages (r := 704) (μ ((c.tc : Thread nD τ).loc main_arg0))
          (μ ((c.tc : Thread nD τ).loc main_arg1)) (owner ((μ ((c : Thread nD τ).loc main_arg5) : IVec S1 32) only))
          (μ ((c.tc : Thread nD τ).loc main_arg3)) (μ ((c.tc : Thread nD τ).loc main_arg8))
      ∧ r.2.mem ((c.tc : Thread nD τ).loc main_v45) = spreads (r := 704) (μ ((c.tc : Thread nD τ).loc main_arg0))
          (μ ((c.tc : Thread nD τ).loc main_arg1)) (owner ((μ ((c : Thread nD τ).loc main_arg5) : IVec S1 32) only))
          (μ ((c.tc : Thread nD τ).loc main_arg4)) (μ ((c.tc : Thread nD τ).loc main_arg9)))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9)) :=
  (θ_run (defs (F := Ideal)) _ _).mono (fun _ q c => ⟨⟨(q c).1.trans ((val_main_v39_eq _ _ _ _).trans (gradients_eq _ _ _ _ (h c))),
    (q c).2.1.trans ((val_main_v41_eq _ _ _ _ _ _ _).trans (changes_eq _ _ _ _ _ _ _ (h c))),
    (q c).2.2.1.trans ((val_main_v43_eq _ _ _ _ _).trans (averages_eq _ _ _ _ _ (h c))),
    (q c).2.2.2.1.trans ((val_main_v45_eq _ _ _ _ _).trans (spreads_eq _ _ _ _ _ (h c)))⟩, (q c).2.2.2.2⟩)
    (Value.run μ ρ)

/-- Every run of the reference keeps the arguments and ends with every counter at zero. -/
theorem frame : θ_run (defs (F := Ideal)) (onTc (τ := τ) (main (F := Ideal))) ⟨μ, fun _ => 0, ρ⟩ fun r => (∀ c : Dev nD,
      r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9))
      ∧ r.2.sem = fun _ => 0 :=
  (θ_run (defs (F := Ideal)) _ _).mono (fun _ q => ⟨fun c => (q c).2.2.2.2, sem_eq_zero_of_no_sems (by decide) _⟩) (Value.run μ ρ)

end Cert.FupReferenceIdeal.Step
-- ==== Proof.FdnArrays.lean ====
/-
  The optimiser's call at the feed-forward contraction's weights: the arrays that it leaves are those of `Shares`.
-/
module

public import proofs.«01_k».proof.Proof.Shares
public import proofs.«01_k».proof.Proof.Gen.FdnKernelIdeal.Frame
public import Idealize.ShloMosaic.Lib.Pipeline.ValueKit

@[expose] public section

set_option maxRecDepth 16384

noncomputable section

namespace Cert.FdnKernelIdeal.Step

open Cert.FdnKernelIdeal Cert.FdnKernelIdeal.Gen Cert.Adam Cert.Shares Idealize.ShloMosaic Idealize.ShloMosaic.TcCoe Idealize.SL.Sem
open Idealize.ShloMosaic.Pipeline (Dat)

/-- A block of one of the arrays, and of one of the shares. -/
abbrev Tile := FVec Ideal S1x176x1024 .f32
abbrev Share := FVec Ideal S1x176x1024 .bf16

/-! ## A grid point's values -/

/-- The gradient of a block: the shares added one by one. -/
def summed (x0 x1 x2 x3 x4 x5 x6 x7 : Share) : Tile := fun y => x0 y + x1 y + x2 y + x3 y + x4 y + x5 y + x6 y + x7 y

theorem pay1_eq (g m : Tile) : k0_pay1 (F := Ideal) g m = means g m := rfl
theorem pay2_eq (g v : Tile) : k0_pay2 (F := Ideal) g v = squares g v := rfl
theorem pay3_eq (g w m v : Tile) : k0_pay3 (F := Ideal) g w m v = deltas g w m v := rfl
theorem pay4_eq (x0 x1 x2 x3 x4 x5 x6 x7 : Share) : k0_pay4 (F := Ideal) x0 x1 x2 x3 x4 x5 x6 x7 = summed x0 x1 x2 x3 x4 x5 x6 x7 := rfl

theorem hz : (![0, 0, 0] : Fin 3 → Nat) = fun _ => 0 := by decide

section
variable (c : Dev nD) (i : grid0.Coords)
  (a0 : Memref sig .tc .vmem S1x176x1024 .bf16) (h0 : a0.IsWhole) (a1 : Memref sig .tc .vmem S1x176x1024 .bf16) (h1 : a1.IsWhole)
  (a2 : Memref sig .tc .vmem S1x176x1024 .bf16) (h2 : a2.IsWhole) (a3 : Memref sig .tc .vmem S1x176x1024 .bf16) (h3 : a3.IsWhole)
  (a4 : Memref sig .tc .vmem S1x176x1024 .bf16) (h4 : a4.IsWhole) (a5 : Memref sig .tc .vmem S1x176x1024 .bf16) (h5 : a5.IsWhole)
  (a6 : Memref sig .tc .vmem S1x176x1024 .bf16) (h6 : a6.IsWhole) (a7 : Memref sig .tc .vmem S1x176x1024 .bf16) (h7 : a7.IsWhole)
  (a8 : Memref sig .tc .vmem S1x176x1024 .f32) (h8 : a8.IsWhole) (a9 : Memref sig .tc .vmem S1x176x1024 .f32) (h9 : a9.IsWhole)
  (a10 : Memref sig .tc .vmem S1x176x1024 .f32) (h10 : a10.IsWhole) (a11 : Memref sig .tc .vmem S1x176x1024 .f32) (h11 : a11.IsWhole)
  (a12 : Memref sig .tc .vmem S1x176x1024 .f32) (h12 : a12.IsWhole) (a13 : Memref sig .tc .vmem S1x176x1024 .f32) (h13 : a13.IsWhole)
  (a14 : Memref sig .tc .vmem S1x176x1024 .f32) (h14 : a14.IsWhole)
  (x0 x1 x2 x3 x4 x5 x6 x7 : Share) (w m v : Tile) (x : TbBuf0 (F := Ideal) c tbM0_0)

theorem gradient_left : out0_A_11 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = summed x0 x1 x2 x3 x4 x5 x6 x7 := by
  unfold out0_A_11
  rw [View.read_writes_eq_canon _ _ _ (cover0_A_11 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread,
    View.ld_unit_zero (S := S1x176x1024) hz]
  rfl

theorem delta_left : out0_A_12 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = deltas (summed x0 x1 x2 x3 x4 x5 x6 x7) w m v := by
  unfold out0_A_12
  rw [View.read_writes_eq_canon _ _ _ (cover0_A_12 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread,
    View.ld_unit_zero (S := S1x176x1024) hz]
  rfl

theorem mean_left : out0_A_13 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = means (summed x0 x1 x2 x3 x4 x5 x6 x7) m := by
  unfold out0_A_13
  rw [View.read_writes_eq_canon _ _ _ (cover0_A_13 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h9.read_unread,
    View.ld_unit_zero (S := S1x176x1024) hz]
  rfl

theorem square_left : out0_A_14 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x
    = squares (summed x0 x1 x2 x3 x4 x5 x6 x7) v := by
  unfold out0_A_14
  rw [View.read_writes_eq_canon _ _ _ (cover0_A_14 (F := Ideal) c i a0 h0 a1 h1 a2 h2 a3 h3 a4 h4 a5 h5 a6 h6 a7 h7 a8 h8 a9 h9 a10 h10 a11 h11 a12 h12 a13 h13 a14 h14
      x0 x1 x2 x3 x4 x5 x6 x7 w m v x)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h10.read_unread,
    View.ld_unit_zero (S := S1x176x1024) hz]
  rfl

end

/-! ## The arrays -/

variable {F : FTy → Type} [FloatOps F]

/-- A word in range chooses a block inside the array. -/
theorem ok_of (T : pre0.Contents (Elt F)) (h : (T.at 0 (Rect.unit (s := S1) ![0] S1.size inb_S1_S1_0) numel1_S1 : BitVec 32).toNat < 8) :
    ok0 T := fun i => ⟨fun a => by
  match a with
  | ⟨0, _⟩ =>
    show ((T.at 0 (Rect.unit (s := S1) ![0] S1.size inb_S1_S1_0) numel1_S1 : BitVec 32).toNat + 1) * 1 ≤ 8
    omega
  | ⟨1, _⟩ => exact hinb0_1 i 1
  | ⟨2, _⟩ => exact hinb0_1 i 2,
  .inr (Affine.block_words_dvd (of_decide_eq_true rfl) (by decide))⟩

/-- The device's word. -/
abbrev word (μ : (ℓ : Loc nD τ sig) → Buf (Elt F) ℓ) (c : Dev nD) : BitVec 32 := (μ ((c : Thread nD τ).loc main_arg5) : IVec S1 32) only

/-- The word that the block of the own share is read off. -/
theorem word_eq (μ : (ℓ : Loc nD τ sig) → Buf (Elt F) ℓ) (c : Dev nD) :
    (tbl μ).at 0 (Rect.unit (s := S1) ![0] S1.size inb_S1_S1_0) numel1_S1 = word μ c := by
  obtain rfl : c = 0 := Subsingleton.elim _ _
  exact (congrFun (V_main_arg5 μ 0) _).trans (congrArg (μ (((0 : Dev nD) : Thread nD τ).loc main_arg5) : IVec S1 32) (eq_only _))

theorem ok (μ : (ℓ : Loc nD τ sig) → Buf (Elt F) ℓ) (c : Dev nD) (h : (word μ c).toNat < 8) : Ok μ :=
  ok_of _ ((congrArg BitVec.toNat (word_eq μ c)).trans_lt h)

/-- Contents of the table; the blocks of the results do not depend on them. -/
def table : (pcfg0 (F := Ideal)).Adm := ⟨fun | 0 => fun _ => (0#32 : BitVec 32), ok_of _ (Nat.zero_lt_succ 7)⟩

theorem covers11 : ((cfg0 table).win 11).CoversWhere (fun β => β (0 : Fin 3) = 0) := by decide +kernel
theorem covers12 : ((cfg0 table).win 12).CoversWhere (fun β => β (0 : Fin 3) = 0) := by decide +kernel
theorem covers13 : ((cfg0 table).win 13).CoversWhere (fun β => β (0 : Fin 3) = 0) := by decide +kernel
theorem covers14 : ((cfg0 table).win 14).CoversWhere (fun β => β (0 : Fin 3) = 0) := by decide +kernel

variable (μ : (ℓ : Loc nD τ sig) → Buf (Elt Ideal) ℓ) (c : Dev nD)

/-! The arguments: the shares sent out and received, the weights, the two averages, and the second layer's
results. -/
abbrev own : FVec Ideal S8x352x1024 .bf16 := μ ((c : Thread nD τ).loc main_arg0)
abbrev land : FVec Ideal S7x352x1024 .bf16 := μ ((c : Thread nD τ).loc main_arg1)
abbrev w0 : FVec Ideal S2x352x1024 .f32 := μ ((c : Thread nD τ).loc main_arg2)
abbrev m0 : FVec Ideal S2x352x1024 .f32 := μ ((c : Thread nD τ).loc main_arg3)
abbrev v0 : FVec Ideal S2x352x1024 .f32 := μ ((c : Thread nD τ).loc main_arg4)
abbrev g1 : FVec Ideal S2x352x1024 .f32 := μ ((c : Thread nD τ).loc main_arg6)
abbrev d1 : FVec Ideal S2x352x1024 .f32 := μ ((c : Thread nD τ).loc main_arg7)
abbrev m1 : FVec Ideal S2x352x1024 .f32 := μ ((c : Thread nD τ).loc main_arg8)
abbrev v1 : FVec Ideal S2x352x1024 .f32 := μ ((c : Thread nD τ).loc main_arg9)

variable (hO : Ok μ) (t : Fin (cfgM μ hO).N) (y : S1x176x1024.Idx)

/-- The gradient of a point's block. -/
abbrev grad : Tile := summed (iblk μ hO c 0 t) (iblk μ hO c 1 t) (iblk μ hO c 2 t) (iblk μ hO c 3 t) (iblk μ hO c 4 t)
  (iblk μ hO c 5 t) (iblk μ hO c 6 t) (iblk μ hO c 7 t)

theorem after11 : (dats μ hO 0 c).after 11 t = grad μ c hO t := by
  rw [after0_11]
  unfold outsAt0
  dsimp only
  exact gradient_left _ _ _ _ _ _ _ _ _ _ _ _ _ _ _ _ _ _ _ _ _ _ _ _ _ _ _ _ _ _ _ _ _ _ _ _ _ _ _ _ _ _ _ _

theorem after12 : (dats μ hO 0 c).after 12 t = deltas (s := S1x176x1024) (grad μ c hO t) (iblk μ hO c 8 t) (iblk μ hO c 9 t) (iblk μ hO c 10 t) := by
  rw [after0_12]
  unfold outsAt0
  dsimp only
  exact delta_left _ _ _ _ _ _ _ _ _ _ _ _ _ _ _ _ _ _ _ _ _ _ _ _ _ _ _ _ _ _ _ _ _ _ _ _ _ _ _ _ _ _ _ _

theorem after13 : (dats μ hO 0 c).after 13 t = means (s := S1x176x1024) (grad μ c hO t) (iblk μ hO c 9 t) := by
  rw [after0_13]
  unfold outsAt0
  dsimp only
  exact mean_left _ _ _ _ _ _ _ _ _ _ _ _ _ _ _ _ _ _ _ _ _ _ _ _ _ _ _ _ _ _ _ _ _ _ _ _ _ _ _ _ _ _ _ _

theorem after14 : (dats μ hO 0 c).after 14 t = squares (s := S1x176x1024) (grad μ c hO t) (iblk μ hO c 10 t) := by
  rw [after0_14]
  unfold outsAt0
  dsimp only
  exact square_left _ _ _ _ _ _ _ _ _ _ _ _ _ _ _ _ _ _ _ _ _ _ _ _ _ _ _ _ _ _ _ _ _ _ _ _ _ _ _ _ _ _ _ _

/-- Where an element of a point's block lies in the array. -/
abbrev at0 : S2x352x1024.Idx := (((cfgM μ hO).win 11).blk t).view.emb y

theorem first_layer : (at0 μ hO t y 0).val = 0 := by
  have : (y 0).val < 1 := (y 0).isLt
  show 0 * 1 + 1 * (y 0).val = 0
  omega

theorem own_read (h : (word μ c).toNat < 8) : (iblk μ hO c 0 t : Share) y = own μ c (place (owner (word μ c)) (at0 μ hO t y)) := by
  refine (congrFun (V_main_arg0 μ c) _).trans (congrArg (own μ c) (funext fun a => Fin.ext ?_))
  match a with
  | ⟨0, _⟩ =>
    have : (y 0).val < 1 := (y 0).isLt
    show ((tbl μ).at 0 (Rect.unit (s := S1) ![0] S1.size inb_S1_S1_0) numel1_S1).toNat * 1 + 1 * (y 0).val = (owner (word μ c)).val
    rw [word_eq μ c, owner_val h]
    omega
  | ⟨1, _⟩ => rfl
  | ⟨2, _⟩ => rfl

theorem land_read (j : Fin 7) (i : S7x352x1024.Idx) (e0 : (i 0).val = j.val * 1 + 1 * (y 0).val) (e1 : i 1 = at0 μ hO t y 1)
    (e2 : i 2 = at0 μ hO t y 2) : land μ c i = land μ c (place j (at0 μ hO t y)) := by
  refine congrArg (land μ c) (funext fun a => ?_)
  match a with
  | ⟨0, _⟩ =>
    have : (y 0).val < 1 := (y 0).isLt
    exact Fin.ext (by show (i 0).val = j.val; omega)
  | ⟨1, _⟩ => exact e1
  | ⟨2, _⟩ => exact e2

variable (h : (word μ c).toNat < 8)
include h

theorem grad_read : grad μ c hO t y = gradient (own μ c) (land μ c) (owner (word μ c)) (at0 μ hO t y) :=
  eight (fun j => land μ c (place j (at0 μ hO t y))) (own_read μ c hO t y h)
    ((congrFun (V_main_arg1 μ c) _).trans (land_read μ c hO t y 0 _ rfl rfl rfl))
    ((congrFun (V_main_arg1 μ c) _).trans (land_read μ c hO t y 1 _ rfl rfl rfl))
    ((congrFun (V_main_arg1 μ c) _).trans (land_read μ c hO t y 2 _ rfl rfl rfl))
    ((congrFun (V_main_arg1 μ c) _).trans (land_read μ c hO t y 3 _ rfl rfl rfl))
    ((congrFun (V_main_arg1 μ c) _).trans (land_read μ c hO t y 4 _ rfl rfl rfl))
    ((congrFun (V_main_arg1 μ c) _).trans (land_read μ c hO t y 5 _ rfl rfl rfl))
    ((congrFun (V_main_arg1 μ c) _).trans (land_read μ c hO t y 6 _ rfl rfl rfl))

omit h in
theorem weight_read : (iblk μ hO c 8 t : Tile) y = w0 μ c (at0 μ hO t y) := congrFun (V_main_arg2 μ c) _
omit h in
theorem mean_read : (iblk μ hO c 9 t : Tile) y = m0 μ c (at0 μ hO t y) := congrFun (V_main_arg3 μ c) _
omit h in
theorem square_read : (iblk μ hO c 10 t : Tile) y = v0 μ c (at0 μ hO t y) := congrFun (V_main_arg4 μ c) _

omit h in
theorem V_gradient : V μ c main_v0_0 = g1 μ c := by
  unfold V hostOps0
  after_results_simp
  rfl
omit h in
theorem V_delta : V μ c main_v0_1 = d1 μ c := by
  unfold V hostOps0
  after_results_simp
  rfl
omit h in
theorem V_mean : V μ c main_v0_2 = m1 μ c := by
  unfold V hostOps0
  after_results_simp
  rfl
omit h in
theorem V_square : V μ c main_v0_3 = v1 μ c := by
  unfold V hostOps0
  after_results_simp
  rfl

theorem array11 : (dats μ hO 0 c).arrAt 11 (cfgM μ hO).N = gradients (own μ c) (land μ c) (owner (word μ c)) (g1 μ c) := by
  refine (dats μ hO 0 c).arrAt_eq_of_coversWhere_of_agree 11 _ (fun β => β (0 : Fin 3) = 0) covers11 (fun t _ y => ?_) (fun j hj => ?_)
  · exact (congrFun (after11 μ c hO t) y).trans ((grad_read μ c hO t y h).trans (if_pos (first_layer μ hO t y)).symm)
  · refine (congrFun (V_gradient μ c) _).trans (if_neg fun e => hj ?_).symm
    have e' : (j (0 : Fin 3)).val = 0 := e
    show (j (0 : Fin 3)).val / 1 = 0
    omega

theorem array12 : (dats μ hO 0 c).arrAt 12 (cfgM μ hO).N = changes (own μ c) (land μ c) (owner (word μ c)) (w0 μ c) (m0 μ c) (v0 μ c) (d1 μ c) := by
  refine (dats μ hO 0 c).arrAt_eq_of_coversWhere_of_agree 12 _ (fun β => β (0 : Fin 3) = 0) covers12 (fun t _ y => ?_) (fun j hj => ?_)
  · exact (congrFun (after12 μ c hO t) y).trans ((congr (congr (congr (congrArg delta (grad_read μ c hO t y h)) (weight_read μ c hO t y)) (mean_read μ c hO t y)) (square_read μ c hO t y)).trans (if_pos (first_layer μ hO t y)).symm)
  · refine (congrFun (V_delta μ c) _).trans (if_neg fun e => hj ?_).symm
    have e' : (j (0 : Fin 3)).val = 0 := e
    show (j (0 : Fin 3)).val / 1 = 0
    omega

theorem array13 : (dats μ hO 0 c).arrAt 13 (cfgM μ hO).N = averages (own μ c) (land μ c) (owner (word μ c)) (m0 μ c) (m1 μ c) := by
  refine (dats μ hO 0 c).arrAt_eq_of_coversWhere_of_agree 13 _ (fun β => β (0 : Fin 3) = 0) covers13 (fun t _ y => ?_) (fun j hj => ?_)
  · exact (congrFun (after13 μ c hO t) y).trans ((congr (congrArg mean (grad_read μ c hO t y h)) (mean_read μ c hO t y)).trans (if_pos (first_layer μ hO t y)).symm)
  · refine (congrFun (V_mean μ c) _).trans (if_neg fun e => hj ?_).symm
    have e' : (j (0 : Fin 3)).val = 0 := e
    show (j (0 : Fin 3)).val / 1 = 0
    omega

theorem array14 : (dats μ hO 0 c).arrAt 14 (cfgM μ hO).N = spreads (own μ c) (land μ c) (owner (word μ c)) (v0 μ c) (v1 μ c) := by
  refine (dats μ hO 0 c).arrAt_eq_of_coversWhere_of_agree 14 _ (fun β => β (0 : Fin 3) = 0) covers14 (fun t _ y => ?_) (fun j hj => ?_)
  · exact (congrFun (after14 μ c hO t) y).trans ((congr (congrArg square (grad_read μ c hO t y h)) (square_read μ c hO t y)).trans (if_pos (first_layer μ hO t y)).symm)
  · refine (congrFun (V_square μ c) _).trans (if_neg fun e => hj ?_).symm
    have e' : (j (0 : Fin 3)).val = 0 := e
    show (j (0 : Fin 3)).val / 1 = 0
    omega

omit h

/-- Every run of the call ends with those arrays, the arguments kept and every counter at zero. -/
theorem run (ρ : Dev nD → PrngReg) (h : ∀ c, (word μ c).toNat < 8) :
    θ_run (defs (F := Ideal)) (onTc (τ := τ) (main (F := Ideal))) ⟨μ, fun _ => 0, ρ⟩ fun r => (∀ c : Dev nD,
      r.2.mem ((c.tc : Thread nD τ).loc main_v0_0) = gradients (own μ c) (land μ c) (owner (word μ c)) (g1 μ c)
      ∧ r.2.mem ((c.tc : Thread nD τ).loc main_v0_1)
        = changes (own μ c) (land μ c) (owner (word μ c)) (w0 μ c) (m0 μ c) (v0 μ c) (d1 μ c)
      ∧ r.2.mem ((c.tc : Thread nD τ).loc main_v0_2) = averages (own μ c) (land μ c) (owner (word μ c)) (m0 μ c) (m1 μ c)
      ∧ r.2.mem ((c.tc : Thread nD τ).loc main_v0_3) = spreads (own μ c) (land μ c) (owner (word μ c)) (v0 μ c) (v1 μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9)) ∧ r.2.sem = fun _ => 0 :=
  have hO := ok μ 0 (h 0)
  (θ_run defs _ _).mono (fun r q => ⟨fun c => ⟨((q.1 c).1 11).trans (array11 μ c hO (h c)), ((q.1 c).1 12).trans (array12 μ c hO (h c)),
      ((q.1 c).1 13).trans (array13 μ c hO (h c)), ((q.1 c).1 14).trans (array14 μ c hO (h c)), q.2.1 c⟩, q.2.2⟩)
    (θ_run_and (run_main μ ρ hO) (frame μ ρ hO))

end Cert.FdnKernelIdeal.Step
-- ==== Proof.FdnReference.lean ====
/-
  The optimiser's reference at the feed-forward contraction's weights: its results are those of `Shares`.
-/
module

public import proofs.«01_k».proof.Proof.Shares
public import proofs.«01_k».proof.Proof.Gen.FdnReferenceIdeal.Read
public import Idealize.ShloMosaic.Lib.Claim
public import Idealize.ShloMosaic.Lib.Quiescent

@[expose] public section

set_option maxRecDepth 16384

noncomputable section

namespace Cert.FdnReferenceIdeal.Step

open Cert.FdnReferenceIdeal Cert.FdnReferenceIdeal.Gen Cert.FdnReferenceIdeal.Read Cert.Adam Cert.Shares Idealize.ShloMosaic
  Idealize.ShloMosaic.TcCoe Idealize.SL.Sem

variable (own : FVec Ideal S8x352x1024 .bf16) (land : FVec Ideal S7x352x1024 .bf16) (w m v old : FVec Ideal S2x352x1024 .f32)
  (me : IVec S1 32)

/-- The gradient of the first layer, and the first layers of the weights and of the averages. -/
abbrev grad : FVec Ideal S1x352x1024 .f32 := val_main_v10 (F := Ideal) own land me

theorem mean_eq : val_main_v18 (F := Ideal) own land m me = means (grad own land me) (val_main_v12 (F := Ideal) m) := rfl
theorem square_eq : val_main_v24 (F := Ideal) own land v me = squares (grad own land me) (val_main_v13 (F := Ideal) v) := rfl
theorem delta_eq : val_main_v37 (F := Ideal) own land w m v me
    = deltas (grad own land me) (val_main_v11 (F := Ideal) w) (val_main_v12 (F := Ideal) m) (val_main_v13 (F := Ideal) v) := rfl

variable (y : S1x352x1024.Idx)

theorem low : idx_main_v11 y = place 0 y := by
  funext a
  match a with
  | ⟨0, _⟩ => exact Fin.ext (Nat.lt_one_iff.mp (y 0).isLt)
  | ⟨1, _⟩ => rfl
  | ⟨2, _⟩ => rfl

theorem high : idx_main_v38 y = place 1 y := by
  funext a
  match a with
  | ⟨0, _⟩ => exact Fin.ext (congrArg (1 + ·) (Nat.lt_one_iff.mp (y 0).isLt))
  | ⟨1, _⟩ => rfl
  | ⟨2, _⟩ => rfl

theorem own_index (k : Fin 8) : idx_main_v6 (idx_main_v10 y) k = place k y := by
  funext a
  match a with
  | ⟨0, _⟩ => rfl
  | ⟨1, _⟩ => rfl
  | ⟨2, _⟩ => rfl

theorem land_index (k : Fin 7) : idx_main_v8 (idx_main_v10 y) k = place k (place (0 : Fin 2) y) := by
  funext a
  match a with
  | ⟨0, _⟩ => rfl
  | ⟨1, _⟩ => rfl
  | ⟨2, _⟩ => rfl

theorem weight_apply : val_main_v11 (F := Ideal) w y = w (place 0 y) := (val_main_v11_apply (F := Ideal) w y).trans (congrArg w (low y))
theorem mean_apply : val_main_v12 (F := Ideal) m y = m (place 0 y) := (val_main_v12_apply (F := Ideal) m y).trans (congrArg m (low y))
theorem square_apply : val_main_v13 (F := Ideal) v y = v (place 0 y) := (val_main_v13_apply (F := Ideal) v y).trans (congrArg v (low y))
theorem old_apply : val_main_v38 (F := Ideal) old y = old (place 1 y) := (val_main_v38_apply (F := Ideal) old y).trans (congrArg old (high y))

variable (h : (me only).toNat < 8)
include h

theorem grad_apply : grad own land me y = gradient own land (owner (me only)) (place (0 : Fin 2) y) := by
  unfold grad
  rw [val_main_v10_apply, val_main_v9_apply, val_main_v6_apply, val_main_v8_apply]
  refine congr (congrArg HAdd.hAdd (Eq.trans ?_ (chosen h fun k => own (place k y)))) (Eq.trans ?_ (zero_add _))
  · refine congrArg (con 0x00000000#32 + ·) (Finset.sum_congr rfl fun k _ => ?_)
    rw [val_main_v5_apply, val_main_call0_v1_apply, val_main_v3_apply, val_main_v2_apply, val_main_v0_apply, val_main_v1_apply,
      val_main_v4_apply, val_main_call0_v2_apply, val_main_call0_v0_apply, eq_only (idx_main_v1 _), own_index]
    rfl
  · refine congr (congrArg HAdd.hAdd Ideal.ofBits_zero_f32) (Finset.sum_congr rfl fun k _ => ?_)
    rw [val_main_v7_apply, land_index]
    rfl

theorem gradients_eq : val_main_v39 (F := Ideal) own land me old = gradients own land (owner (me only)) old :=
  keep_eq old _ _ _ _ (fun y => grad_apply own land me y h) (fun y => old_apply old y)

theorem changes_eq : val_main_v41 (F := Ideal) own land w m v me old = changes own land (owner (me only)) w m v old :=
  keep_eq old _ _ _ _ (fun y => (congrFun (delta_eq own land w m v me) y).trans (congr (congr (congr (congrArg delta
    (grad_apply own land me y h)) (weight_apply w y)) (mean_apply m y)) (square_apply v y))) (fun y => old_apply old y)

theorem averages_eq : val_main_v43 (F := Ideal) own land m me old = averages own land (owner (me only)) m old :=
  keep_eq old _ _ _ _ (fun y => (congrFun (mean_eq own land m me) y).trans (congr (congrArg mean
    (grad_apply own land me y h)) (mean_apply m y))) (fun y => old_apply old y)

theorem spreads_eq : val_main_v45 (F := Ideal) own land v me old = spreads own land (owner (me only)) v old :=
  keep_eq old _ _ _ _ (fun y => (congrFun (square_eq own land v me) y).trans (congr (congrArg square
    (grad_apply own land me y h)) (square_apply v y))) (fun y => old_apply old y)

omit h
variable (μ : (ℓ : Loc nD τ sig) → Buf (Elt Ideal) ℓ) (ρ : Dev nD → PrngReg)

/-- Every run of the reference ends with those results, the arguments kept and every counter at zero. -/
theorem run (h : ∀ c : Dev nD, ((μ ((c : Thread nD τ).loc main_arg5) : IVec S1 32) only).toNat < 8) :
    θ_run (defs (F := Ideal)) (onTc (τ := τ) (main (F := Ideal))) ⟨μ, fun _ => 0, ρ⟩ fun r => (∀ c : Dev nD,
      (r.2.mem ((c.tc : Thread nD τ).loc main_v39) = gradients (r := 352) (μ ((c.tc : Thread nD τ).loc main_arg0))
          (μ ((c.tc : Thread nD τ).loc main_arg1)) (owner ((μ ((c : Thread nD τ).loc main_arg5) : IVec S1 32) only))
          (μ ((c.tc : Thread nD τ).loc main_arg6))
      ∧ r.2.mem ((c.tc : Thread nD τ).loc main_v41) = changes (r := 352) (μ ((c.tc : Thread nD τ).loc main_arg0))
          (μ ((c.tc : Thread nD τ).loc main_arg1)) (owner ((μ ((c : Thread nD τ).loc main_arg5) : IVec S1 32) only))
          (μ ((c.tc : Thread nD τ).loc main_arg2)) (μ ((c.tc : Thread nD τ).loc main_arg3)) (μ ((c.tc : Thread nD τ).loc main_arg4))
          (μ ((c.tc : Thread nD τ).loc main_arg7))
      ∧ r.2.mem ((c.tc : Thread nD τ).loc main_v43) = averages (r := 352) (μ ((c.tc : Thread nD τ).loc main_arg0))
          (μ ((c.tc : Thread nD τ).loc main_arg1)) (owner ((μ ((c : Thread nD τ).loc main_arg5) : IVec S1 32) only))
          (μ ((c.tc : Thread nD τ).loc main_arg3)) (μ ((c.tc : Thread nD τ).loc main_arg8))
      ∧ r.2.mem ((c.tc : Thread nD τ).loc main_v45) = spreads (r := 352) (μ ((c.tc : Thread nD τ).loc main_arg0))
          (μ ((c.tc : Thread nD τ).loc main_arg1)) (owner ((μ ((c : Thread nD τ).loc main_arg5) : IVec S1 32) only))
          (μ ((c.tc : Thread nD τ).loc main_arg4)) (μ ((c.tc : Thread nD τ).loc main_arg9)))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9)) :=
  (θ_run (defs (F := Ideal)) _ _).mono (fun _ q c => ⟨⟨(q c).1.trans ((val_main_v39_eq _ _ _ _).trans (gradients_eq _ _ _ _ (h c))),
    (q c).2.1.trans ((val_main_v41_eq _ _ _ _ _ _ _).trans (changes_eq _ _ _ _ _ _ _ (h c))),
    (q c).2.2.1.trans ((val_main_v43_eq _ _ _ _ _).trans (averages_eq _ _ _ _ _ (h c))),
    (q c).2.2.2.1.trans ((val_main_v45_eq _ _ _ _ _).trans (spreads_eq _ _ _ _ _ (h c)))⟩, (q c).2.2.2.2⟩)
    (Value.run μ ρ)

/-- Every run of the reference keeps the arguments and ends with every counter at zero. -/
theorem frame : θ_run (defs (F := Ideal)) (onTc (τ := τ) (main (F := Ideal))) ⟨μ, fun _ => 0, ρ⟩ fun r => (∀ c : Dev nD,
      r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9))
      ∧ r.2.sem = fun _ => 0 :=
  (θ_run (defs (F := Ideal)) _ _).mono (fun _ q => ⟨fun c => (q c).2.2.2.2, sem_eq_zero_of_no_sems (by decide) _⟩) (Value.run μ ρ)

end Cert.FdnReferenceIdeal.Step
-- ==== Proof.Body.lean ====
/-
  One chunk of 128 tokens, as the kernel's body computes it, written once with the head as an index: the eight heads of
  the body are the eight values of `h : Fin 8` here. The operations are the body's own, in the body's order, so that each
  value the body stores is one of these definitions by unfolding alone.
-/
module

public import proofs.«01_k».proof.Proof.Gen.KernelIdeal.Value

@[expose] public section

set_option maxRecDepth 16384

noncomputable section

namespace Cert.KernelIdeal.Chunk

open Cert.KernelIdeal Cert.KernelIdeal.Gen Idealize.ShloMosaic Idealize.ShloMosaic.TcCoe Idealize.SL.Sem

variable {F : FTy → Type} [FloatOps F]

/-- A head's 128 × 128 tile of f32: tokens by channels (or tokens by tokens for the weights). -/
abbrev Tile (F : FTy → Type) [FloatOps F] := FVec F S128x128 .f32
/-- One number per token. -/
abbrev Col (F : FTy → Type) [FloatOps F] := FVec F S128x1 .f32
/-- One number per channel of a head. -/
abbrev Row (F : FTy → Type) [FloatOps F] := FVec F S1x128 .f32

/-- Eight values, one per head. -/
def heads {α : Type} (a0 a1 a2 a3 a4 a5 a6 a7 : α) : Fin 8 → α
  | 0 => a0 | 1 => a1 | 2 => a2 | 3 => a3 | 4 => a4 | 5 => a5 | 6 => a6 | 7 => a7

/-- A constant tile. -/
abbrev kT (w : BitVec 32) : Tile F := broadcast S128x128 (Scalar.ofBits .f32 w)
/-- A constant column. -/
abbrev kC (w : BitVec 32) : Col F := broadcast S128x1 (Scalar.ofBits .f32 w)

/-- A column copied along the channels. -/
abbrev spreadC (c : Col F) : Tile F := broadcastTo S128x128 c broadcasts_S128x1_S128x128
/-- A row copied along the tokens. -/
abbrev spreadR (r : Row F) : Tile F := broadcastTo S128x128 r broadcasts_S1x128_S128x128

/-- The sum of a tile along its channels. -/
def sumC (x : Tile F) : Col F :=
  shapeCast S128x1 (multiReduction .add [1] S128 x 0x00000000#32 reduces_S128x128_S128 (.inl rfl) rfl) shapeCasts_S128_S128x1
/-- The sum of a tile along its tokens. -/
def sumR (x : Tile F) : Row F :=
  shapeCast S1x128 (multiReduction .add [0] S128 x 0x00000000#32 reduces_S128x128_S128_2 (.inl rfl) rfl) shapeCasts_S128_S1x128
/-- The sum of a column along its axis of extent one. -/
def sumOne (x : Col F) : Col F :=
  shapeCast S128x1 (multiReduction .add [1] S128 x 0x00000000#32 reduces_S128x1_S128 (.inl rfl) rfl) shapeCasts_S128_S128x1

/-- The heads' columns added from head 0 up, from zero. -/
def sumUp (f : Fin 8 → Col F) : Col F :=
  addf (addf (addf (addf (addf (addf (addf (addf (kC 0x00000000#32) (f 0)) (f 1)) (f 2)) (f 3)) (f 4)) (f 5)) (f 6)) (f 7)
/-- The heads' columns added from head 7 down. -/
def sumDown (f : Fin 8 → Col F) : Col F :=
  addf (addf (addf (addf (addf (addf (addf (f 7) (f 6)) (f 5)) (f 4)) (f 3)) (f 2)) (f 1)) (f 0)

/-- Half of `x`. -/
def half (x : Tile F) : Tile F := mulf (kT 0x3F000000#32) x
/-- `x / √2`. -/
def scaled (x : Tile F) : Tile F := mulf x (kT 0x3F3504F3#32)
/-- `exp (-(x / √2)²)`. -/
def bell (x : Tile F) : Tile F := exp (subf (kT 0x00000000#32) (mulf (scaled x) (scaled x)))
/-- `1 + erf (x / √2)`. -/
def oneErf (x : Tile F) : Tile F := addf (kT 0x3F800000#32) (erf (scaled x))
/-- The gelu. -/
def gel (x : Tile F) : Tile F := mulf (half x) (oneErf x)
/-- The gelu's cotangent at `x` for the cotangent `dy`. -/
def dgel (x dy : Tile F) : Tile F :=
  addf (mulf (mulf (mulf (kT 0x3F906EBB#32) (mulf (half x) dy)) (bell x)) (kT 0x3F3504F3#32))
    (mulf (kT 0x3F000000#32) (mulf dy (oneErf x)))

/-- The mean square over the model's channels, plus epsilon. -/
def ms (f : Fin 8 → Tile F) : Col F :=
  addf (mulf (sumUp fun h => sumC (mulf (f h) (f h))) (kC 0x3A800000#32)) (kC 0x358637BD#32)
/-- The factor the root mean square divides by. -/
def rs (f : Fin 8 → Tile F) : Col F := rsqrt (ms f)
/-- That factor's derivative in the mean square. -/
def drs (f : Fin 8 → Tile F) : Col F := mulf (kC 0xBF000000#32) (divf (rs f) (ms f))
/-- The part of a normalisation's cotangent that goes through the factor: one number per token. -/
def through (f g : Fin 8 → Tile F) : Col F :=
  sumOne (mulf (mulf (sumDown fun h => sumC (mulf (f h) (g h))) (drs f)) (kC 0x3A800000#32))
/-- The cotangent of `f` through `f * rs f` for the cotangent `g`. -/
def dnorm (f g : Fin 8 → Tile F) (h : Fin 8) : Tile F :=
  addf (addf (mulf (g h) (spreadC (rs f))) (mulf (f h) (spreadC (through f g)))) (mulf (spreadC (through f g)) (f h))

/-- A tile rounded to bf16. -/
abbrev cut (x : Tile F) : FVec F S128x128 .bf16 := truncf .bf16 x bitsLt_bf16_f32
/-- `a b`. -/
def dotNN (a b : Tile F) : Tile F :=
  matmul dot_S128x128_S128x128_S128x128_1_0_0_1_n_n none (cut a) (cut b) (broadcast S128x128 (Scalar.ofBits .f32 0x00000000#32))
/-- `a bᵀ`. -/
def dotNT (a b : Tile F) : Tile F :=
  matmul dot_S128x128_S128x128_S128x128_1_1_0_0_n_n none (cut a) (cut b) (broadcast S128x128 (Scalar.ofBits .f32 0x00000000#32))
/-- `aᵀ b`. -/
def dotTN (a b : Tile F) : Tile F :=
  matmul dot_S128x128_S128x128_S128x128_0_0_1_1_n_n none (cut a) (cut b) (broadcast S128x128 (Scalar.ofBits .f32 0x00000000#32))

/-- The causal mask: one where the token is at or after the other. -/
def mask : Tile F := k0_pay23

section
variable (U V Y W : Fin 8 → Tile F) (B : Fin 8 → Col F) (G O : Fin 8 → Row F)

/-- The gate's input, activated and normalised. -/
def an (h : Fin 8) : Tile F := mulf (gel (V h)) (spreadC (rs fun h => gel (V h)))
/-- … and scaled. -/
def vn (h : Fin 8) : Tile F := mulf (an V h) (spreadR (G h))
/-- The weights under the mask. -/
def wm (h : Fin 8) : Tile F := mulf (W h) mask
/-- The gate. -/
def sv (h : Fin 8) : Tile F := addf (dotNN (wm W h) (vn V G h)) (spreadC (B h))
/-- The gated values. -/
def gated (h : Fin 8) : Tile F := mulf (gel (U h)) (sv V W B G h)
/-- The cotangent of the output scale. -/
def dog (h : Fin 8) : Row F := sumR (mulf (mulf (gated U V W B G h) (spreadC (rs (gated U V W B G)))) (Y h))
/-- The cotangent of the gated values. -/
def dgated (h : Fin 8) : Tile F := dnorm (gated U V W B G) (fun h => mulf (Y h) (spreadR (O h))) h
/-- The cotangent of the gate. -/
def dsv (h : Fin 8) : Tile F := mulf (gel (U h)) (dgated U V Y W B G O h)
/-- The cotangent of the gate's bias. -/
def dbs (h : Fin 8) : Col F := sumC (dsv U V Y W B G O h)
/-- The cotangent of the weights. -/
def dws (h : Fin 8) : Tile F := mulf (dotNT (dsv U V Y W B G O h) (vn V G h)) mask
/-- The cotangent of the gate's normalised input. -/
def dvn (h : Fin 8) : Tile F := dotTN (wm W h) (dsv U V Y W B G O h)
/-- The cotangent of the gate's scale. -/
def dvg (h : Fin 8) : Row F := sumR (mulf (an V h) (dvn U V Y W B G O h))
/-- The cotangent of the gate's activated input. -/
def dav (h : Fin 8) : Tile F :=
  dnorm (fun h => gel (V h)) (fun h => mulf (dvn U V Y W B G O h) (spreadR (G h))) h
/-- The cotangent of `u`. -/
def dgu (h : Fin 8) : Tile F := dgel (U h) (mulf (dgated U V Y W B G O h) (sv V W B G h))
/-- The cotangent of `v`. -/
def dgv (h : Fin 8) : Tile F := dgel (V h) (dav U V Y W B G O h)

end

/-! ## The loads -/

/-- The eight heads' tiles of a 128 × 1024 block. -/
def tiles (x : Vec F S128x1024 .f32) : Fin 8 → Tile F := heads
    (View.ld x (Rect.unit ![0, 0] ![128, 128] inb_S128x1024_S128x128_0_0))
    (View.ld x (Rect.unit ![0, 128] ![128, 128] inb_S128x1024_S128x128_0_128))
    (View.ld x (Rect.unit ![0, 256] ![128, 128] inb_S128x1024_S128x128_0_256))
    (View.ld x (Rect.unit ![0, 384] ![128, 128] inb_S128x1024_S128x128_0_384))
    (View.ld x (Rect.unit ![0, 512] ![128, 128] inb_S128x1024_S128x128_0_512))
    (View.ld x (Rect.unit ![0, 640] ![128, 128] inb_S128x1024_S128x128_0_640))
    (View.ld x (Rect.unit ![0, 768] ![128, 128] inb_S128x1024_S128x128_0_768))
    (View.ld x (Rect.unit ![0, 896] ![128, 128] inb_S128x1024_S128x128_0_896))

/-- The eight heads' weights. -/
def weights (x : Vec F S1x8x128x128 .f32) : Fin 8 → Tile F := heads
    (shapeCast S128x128 (View.ld x (Rect.unit ![0, 0, 0, 0] ![1, 1, 128, 128] inb_S1x8x128x128_S1x1x128x128_0_0_0_0)) shapeCasts_S1x1x128x128_S128x128)
    (shapeCast S128x128 (View.ld x (Rect.unit ![0, 1, 0, 0] ![1, 1, 128, 128] inb_S1x8x128x128_S1x1x128x128_0_1_0_0)) shapeCasts_S1x1x128x128_S128x128)
    (shapeCast S128x128 (View.ld x (Rect.unit ![0, 2, 0, 0] ![1, 1, 128, 128] inb_S1x8x128x128_S1x1x128x128_0_2_0_0)) shapeCasts_S1x1x128x128_S128x128)
    (shapeCast S128x128 (View.ld x (Rect.unit ![0, 3, 0, 0] ![1, 1, 128, 128] inb_S1x8x128x128_S1x1x128x128_0_3_0_0)) shapeCasts_S1x1x128x128_S128x128)
    (shapeCast S128x128 (View.ld x (Rect.unit ![0, 4, 0, 0] ![1, 1, 128, 128] inb_S1x8x128x128_S1x1x128x128_0_4_0_0)) shapeCasts_S1x1x128x128_S128x128)
    (shapeCast S128x128 (View.ld x (Rect.unit ![0, 5, 0, 0] ![1, 1, 128, 128] inb_S1x8x128x128_S1x1x128x128_0_5_0_0)) shapeCasts_S1x1x128x128_S128x128)
    (shapeCast S128x128 (View.ld x (Rect.unit ![0, 6, 0, 0] ![1, 1, 128, 128] inb_S1x8x128x128_S1x1x128x128_0_6_0_0)) shapeCasts_S1x1x128x128_S128x128)
    (shapeCast S128x128 (View.ld x (Rect.unit ![0, 7, 0, 0] ![1, 1, 128, 128] inb_S1x8x128x128_S1x1x128x128_0_7_0_0)) shapeCasts_S1x1x128x128_S128x128)

/-- The eight heads' biases. -/
def biases (x : Vec F S1x128x8 .f32) : Fin 8 → Col F := heads
    (shapeCast S128x1 (View.ld x (Rect.unit ![0, 0, 0] ![1, 128, 1] inb_S1x128x8_S1x128x1_0_0_0)) shapeCasts_S1x128x1_S128x1)
    (shapeCast S128x1 (View.ld x (Rect.unit ![0, 0, 1] ![1, 128, 1] inb_S1x128x8_S1x128x1_0_0_1)) shapeCasts_S1x128x1_S128x1)
    (shapeCast S128x1 (View.ld x (Rect.unit ![0, 0, 2] ![1, 128, 1] inb_S1x128x8_S1x128x1_0_0_2)) shapeCasts_S1x128x1_S128x1)
    (shapeCast S128x1 (View.ld x (Rect.unit ![0, 0, 3] ![1, 128, 1] inb_S1x128x8_S1x128x1_0_0_3)) shapeCasts_S1x128x1_S128x1)
    (shapeCast S128x1 (View.ld x (Rect.unit ![0, 0, 4] ![1, 128, 1] inb_S1x128x8_S1x128x1_0_0_4)) shapeCasts_S1x128x1_S128x1)
    (shapeCast S128x1 (View.ld x (Rect.unit ![0, 0, 5] ![1, 128, 1] inb_S1x128x8_S1x128x1_0_0_5)) shapeCasts_S1x128x1_S128x1)
    (shapeCast S128x1 (View.ld x (Rect.unit ![0, 0, 6] ![1, 128, 1] inb_S1x128x8_S1x128x1_0_0_6)) shapeCasts_S1x128x1_S128x1)
    (shapeCast S128x1 (View.ld x (Rect.unit ![0, 0, 7] ![1, 128, 1] inb_S1x128x8_S1x128x1_0_0_7)) shapeCasts_S1x128x1_S128x1)

/-- The eight heads' scales: row one of the two layers'. -/
def scales (x : Vec F S2x1024 .f32) : Fin 8 → Row F := heads
    (View.ld x (Rect.unit ![1, 0] ![1, 128] inb_S2x1024_S1x128_1_0))
    (View.ld x (Rect.unit ![1, 128] ![1, 128] inb_S2x1024_S1x128_1_128))
    (View.ld x (Rect.unit ![1, 256] ![1, 128] inb_S2x1024_S1x128_1_256))
    (View.ld x (Rect.unit ![1, 384] ![1, 128] inb_S2x1024_S1x128_1_384))
    (View.ld x (Rect.unit ![1, 512] ![1, 128] inb_S2x1024_S1x128_1_512))
    (View.ld x (Rect.unit ![1, 640] ![1, 128] inb_S2x1024_S1x128_1_640))
    (View.ld x (Rect.unit ![1, 768] ![1, 128] inb_S2x1024_S1x128_1_768))
    (View.ld x (Rect.unit ![1, 896] ![1, 128] inb_S2x1024_S1x128_1_896))

end Cert.KernelIdeal.Chunk
-- ==== Proof.Math.lean ====
/-
  One chunk of 128 tokens in extended reals: the numbers both programs compute, as functions of head, token and channel.
  Nothing here speaks of a program. The constants are the f32 patterns of ½, 1/√2, 1, 1/1024, ε, −½ and 2/√π.
-/
module

public import Idealize.ShloMosaic.PureOps.Ideal.Laws

@[expose] public section

noncomputable section

namespace Cert.Chunk

open Idealize.ShloMosaic

/-- ½ -/
def cHalf : EReal := Ideal.ofBits .f32 0x3F000000#32
/-- 1/√2 -/
def cRoot : EReal := Ideal.ofBits .f32 0x3F3504F3#32
/-- 1 -/
def cOne : EReal := Ideal.ofBits .f32 0x3F800000#32
/-- 1/1024 -/
def cMean : EReal := Ideal.ofBits .f32 0x3A800000#32
/-- ε -/
def cEps : EReal := Ideal.ofBits .f32 0x358637BD#32
/-- −½ -/
def cNeg : EReal := Ideal.ofBits .f32 0xBF000000#32
/-- 2/√π -/
def cBell : EReal := Ideal.ofBits .f32 0x3F906EBB#32

/-- The gelu. -/
def gelS (x : EReal) : EReal := cHalf * x * (cOne + Ideal.erf (x * cRoot))
/-- The gelu's cotangent at `x` for the cotangent `y`. -/
def dgelS (x y : EReal) : EReal :=
  cBell * (cHalf * x * y) * Ideal.exp (0 - x * cRoot * (x * cRoot)) * cRoot + cHalf * (y * (cOne + Ideal.erf (x * cRoot)))

/-- A number per head, token and channel. -/
abbrev T3 := Fin 8 → Fin 128 → Fin 128 → EReal
/-- A number per head and token, or per head and channel. -/
abbrev T2 := Fin 8 → Fin 128 → EReal

/-- The mean square over the 8 × 128 channels, plus ε. -/
def msS (f : T3) (t : Fin 128) : EReal := (∑ h, ∑ d, f h t d * f h t d) * cMean + cEps
/-- The factor of the normalisation. -/
def rsS (f : T3) (t : Fin 128) : EReal := Ideal.rsqrt (msS f t)
/-- That factor's derivative. -/
def drsS (f : T3) (t : Fin 128) : EReal := cNeg * Ideal.div (rsS f t) (msS f t)
/-- The part of the cotangent that goes through the factor. -/
def thrS (f g : T3) (t : Fin 128) : EReal := (∑ h, ∑ d, f h t d * g h t d) * drsS f t * cMean
/-- The cotangent of the normalised values. -/
def dnormS (f g : T3) : T3 := fun h t d => g h t d * rsS f t + f h t d * thrS f g t + thrS f g t * f h t d

section
variable (u v y w : T3) (b g o : T2)

/-- The gelu of every value. -/
def gelT (f : T3) : T3 := fun h t d => gelS (f h t d)
/-- The gate's input, activated and normalised. -/
def anS : T3 := fun h t d => gelS (v h t d) * rsS (gelT v) t
/-- … and scaled. -/
def vnS : T3 := fun h t d => anS v h t d * g h d
/-- The weights under the mask. -/
def wmS : T3 := fun h t s => if s ≤ t then w h t s else 0
/-- The gate. -/
def svS : T3 := fun h t d => (∑ s, wmS w h t s * vnS v g h s d) + b h t
/-- The gated values. -/
def gatedS : T3 := fun h t d => gelS (u h t d) * svS v w b g h t d
/-- What is summed over the tokens for the cotangent of the output scale. -/
def dogS : T3 := fun h t d => gatedS u v w b g h t d * rsS (gatedS u v w b g) t * y h t d
/-- The cotangent of the gated values. -/
def dgatedS : T3 := dnormS (gatedS u v w b g) fun h t d => y h t d * o h d
/-- The cotangent of the gate. -/
def dsvS : T3 := fun h t d => gelS (u h t d) * dgatedS u v y w b g o h t d
/-- The cotangent of the masked weights. -/
def dwS : T3 := fun h t s => ∑ d, dsvS u v y w b g o h t d * vnS v g h s d
/-- The cotangent of the gate's normalised input. -/
def dvnS : T3 := fun h s d => ∑ t, wmS w h t s * dsvS u v y w b g o h t d
/-- What is summed over the tokens for the cotangent of the gate's scale. -/
def dvgS : T3 := fun h t d => anS v h t d * dvnS u v y w b g o h t d
/-- The cotangent of the gate's activated input. -/
def davS : T3 := dnormS (gelT v) fun h t d => dvnS u v y w b g o h t d * g h d
/-- The cotangent of `u`. -/
def dguS : T3 := fun h t d => dgelS (u h t d) (dgatedS u v y w b g o h t d * svS v w b g h t d)
/-- The cotangent of `v`. -/
def dgvS : T3 := fun h t d => dgelS (v h t d) (davS u v y w b g o h t d)

end

/-! ## The whole arrays -/

/-- What the two programs read, by chunk of 128 tokens: the halves of the projection, the cotangent, the layer's weights,
    biases and scales. -/
structure Args where
  /-- the first half -/
  u : Fin 32 → T3
  /-- the gate's half -/
  v : Fin 32 → T3
  /-- the cotangent -/
  y : Fin 32 → T3
  /-- the weights -/
  w : T3
  /-- the biases -/
  b : T2
  /-- the gate's scale -/
  g : T2
  /-- the output's scale -/
  o : T2

/-- The row of token `t` of chunk `p`. -/
abbrev row (p : Fin 32) (t : Fin 128) : Fin 4096 := ⟨128 * p + t, by omega⟩
/-- The channel `d` of head `h`. -/
abbrev chan (h : Fin 8) (d : Fin 128) : Fin 1024 := ⟨128 * h + d, by omega⟩

/-- They are read from the arguments: the second layer's parameters, the cotangent's second half. -/
def args (x0 : Fin 4096 → Fin 2048 → EReal) (x1 : Fin 4096 → Fin 5120 → EReal) (x2 : Fin 2 → Fin 8 → Fin 128 → Fin 128 → EReal)
    (x3 : Fin 2 → Fin 8 → Fin 128 → EReal) (x4 x5 : Fin 2 → Fin 1024 → EReal) : Args where
  u p h t d := x1 (row p t) ⟨128 * h + d, by omega⟩
  v p h t d := x1 (row p t) ⟨1024 + (128 * h + d), by omega⟩
  y p h t d := x0 (row p t) ⟨1024 + (128 * h + d), by omega⟩
  w h t s := x2 1 h t s
  b h t := x3 1 h t
  g h d := x4 1 (chan h d)
  o h d := x5 1 (chan h d)

namespace Args
variable (a : Args) (p : Fin 32)

/-- The cotangent of the first half, chunk `p`. -/
def du : T3 := dguS (a.u p) (a.v p) (a.y p) a.w a.b a.g a.o
/-- The cotangent of the gate's half, chunk `p`. -/
def dv : T3 := dgvS (a.u p) (a.v p) (a.y p) a.w a.b a.g a.o
/-- The cotangent of the weights. -/
def dw : T3 := fun h t s => ∑ p, if s ≤ t then dwS (a.u p) (a.v p) (a.y p) a.w a.b a.g a.o h t s else 0
/-- The cotangent of the biases. -/
def db : T2 := fun h t => ∑ p, ∑ d, dsvS (a.u p) (a.v p) (a.y p) a.w a.b a.g a.o h t d
/-- The cotangent of the gate's scale. -/
def dg : T2 := fun h d => ∑ p, ∑ t, dvgS (a.u p) (a.v p) (a.y p) a.w a.b a.g a.o h t d
/-- The cotangent of the output's scale. -/
def dO : T2 := fun h d => ∑ p, ∑ t, dogS (a.u p) (a.v p) (a.y p) a.w a.b a.g h t d

end Args

end Cert.Chunk
-- ==== Proof.Values.lean ====
/-
  The body's values at an index, in extended reals: each of `Cert.KernelIdeal.Chunk`'s definitions is the one of the same
  name in `Cert.Chunk`.
-/
module

public import proofs.«01_k».proof.Proof.Body
public import proofs.«01_k».proof.Proof.Math
public import Idealize.ShloMosaic.Lib.Pipeline.ValueKit
public import Idealize.ShloMosaic.Lib.Pointwise

@[expose] public section

set_option maxRecDepth 16384

noncomputable section

namespace Cert.KernelIdeal.Chunk

open Cert.KernelIdeal Cert.KernelIdeal.Gen Cert.Chunk Idealize.ShloMosaic Idealize.ShloMosaic.TcCoe Idealize.SL.Sem

/-- A head's tile as a function of token and channel. -/
abbrev t3 (U : Fin 8 → Tile Ideal) : T3 := fun h t d => U h (ix2 t d)
/-- A head's column as a function of the token. -/
abbrev c2 (B : Fin 8 → Col Ideal) : T2 := fun h t => B h (ix2 t 0)
/-- A head's row as a function of the channel. -/
abbrev r2 (G : Fin 8 → Row Ideal) : T2 := fun h d => G h (ix2 0 d)

theorem spreadC_at (c : Col Ideal) (t d : Fin 128) : spreadC c (ix2 t d) = c (ix2 t 0) := by
  pointwise
  blk_ext

theorem spreadR_at (r : Row Ideal) (t d : Fin 128) : spreadR r (ix2 t d) = r (ix2 0 d) := by
  pointwise
  blk_ext

theorem sumC_at (x : Tile Ideal) (t : Fin 128) : sumC x (ix2 t 0) = ∑ d : Fin 128, x (ix2 t d) := by
  unfold sumC
  pointwise

theorem sumR_at (x : Tile Ideal) (d : Fin 128) : sumR x (ix2 0 d) = ∑ t : Fin 128, x (ix2 t d) := by
  unfold sumR
  pointwise

theorem sumOne_at (x : Col Ideal) (t : Fin 128) : sumOne x (ix2 t 0) = x (ix2 t 0) := by
  unfold sumOne
  pointwise
  exact Fin.sum_univ_one _

theorem dotNN_at (a b : Tile Ideal) (t d : Fin 128) : dotNN a b (ix2 t d) = ∑ s : Fin 128, a (ix2 t s) * b (ix2 s d) := by
  unfold dotNN
  pointwise

theorem dotNT_at (a b : Tile Ideal) (t s : Fin 128) : dotNT a b (ix2 t s) = ∑ d : Fin 128, a (ix2 t d) * b (ix2 s d) := by
  unfold dotNT
  pointwise

theorem dotTN_at (a b : Tile Ideal) (s d : Fin 128) : dotTN a b (ix2 s d) = ∑ t : Fin 128, a (ix2 t s) * b (ix2 t d) := by
  unfold dotTN
  pointwise

theorem sge_at : ∀ t s : Fin 128, IntOp.cmpi CmpIPredicate.sge (BitVec.ofNat 32 t.val) (BitVec.ofNat 32 s.val)
    = if s ≤ t then 1#1 else 0#1 := by decide +kernel

theorem mask_at (t s : Fin 128) : (mask (F := Ideal)) (ix2 t s) = if s ≤ t then (1 : EReal) else 0 := by
  unfold mask
  pointwise [k0_pay23]
  rw [sge_at]
  split
  · show (((BitVec.setWidth 32 1#1).toInt : ℝ) : EReal) = 1
    norm_num
  · show (((BitVec.setWidth 32 0#1).toInt : ℝ) : EReal) = 0
    norm_num

/-! ## The pieces of the chunk -/

theorem gel_at (x : Tile Ideal) (i : S128x128.Idx) : gel x i = gelS (x i) := rfl

theorem dgel_at (x y : Tile Ideal) (i : S128x128.Idx) : dgel x y i = dgelS (x i) (y i) := by
  show _ + _ = _
  unfold dgelS
  have h0 : Ideal.ofBits .f32 0x00000000#32 = 0 := Ideal.ofBits_zero_f32
  rw [← h0]
  rfl

theorem sumUp_at (f : Fin 8 → Col Ideal) (i : S128x1.Idx) : sumUp f i = ∑ h, (f h i : EReal) := by
  show ((((((((Ideal.ofBits .f32 0x00000000#32 : EReal) + f 0 i) + f 1 i) + f 2 i) + f 3 i) + f 4 i) + f 5 i) + f 6 i) + f 7 i = _
  rw [Ideal.ofBits_zero_f32, zero_add, Fin.sum_univ_eight]

theorem sumDown_at (f : Fin 8 → Col Ideal) (i : S128x1.Idx) : sumDown f i = ∑ h, (f h i : EReal) := by
  show (((((((f 7 i : EReal) + f 6 i) + f 5 i) + f 4 i) + f 3 i) + f 2 i) + f 1 i) + f 0 i = _
  rw [Fin.sum_univ_eight]
  abel

theorem ms_at (f : Fin 8 → Tile Ideal) (t : Fin 128) : ms f (ix2 t 0) = msS (t3 f) t := by
  show sumUp (fun h => sumC (mulf (f h) (f h))) (ix2 t 0) * cMean + cEps = _
  rw [sumUp_at]
  unfold msS
  congr 2
  exact Finset.sum_congr rfl fun h _ => sumC_at _ t

theorem rs_at (f : Fin 8 → Tile Ideal) (t : Fin 128) : rs f (ix2 t 0) = rsS (t3 f) t :=
  congrArg Ideal.rsqrt (ms_at f t)

theorem drs_at (f : Fin 8 → Tile Ideal) (t : Fin 128) : drs f (ix2 t 0) = drsS (t3 f) t :=
  congrArg (cNeg * ·) (congrArg₂ Ideal.div (rs_at f t) (ms_at f t))

theorem through_at (f g : Fin 8 → Tile Ideal) (t : Fin 128) : through f g (ix2 t 0) = thrS (t3 f) (t3 g) t := by
  unfold through
  rw [sumOne_at]
  show sumDown (fun h => sumC (mulf (f h) (g h))) (ix2 t 0) * drs f (ix2 t 0) * cMean = _
  rw [sumDown_at, drs_at]
  unfold thrS
  congr 2
  exact Finset.sum_congr rfl fun h _ => sumC_at _ t

theorem dnorm_at (f g : Fin 8 → Tile Ideal) (h : Fin 8) (t d : Fin 128) :
    dnorm f g h (ix2 t d) = dnormS (t3 f) (t3 g) h t d := by
  show g h (ix2 t d) * spreadC (rs f) (ix2 t d) + f h (ix2 t d) * spreadC (through f g) (ix2 t d)
    + spreadC (through f g) (ix2 t d) * f h (ix2 t d) = _
  rw [spreadC_at, spreadC_at, rs_at, through_at]
  rfl

section
variable (U V Y W : Fin 8 → Tile Ideal) (B : Fin 8 → Col Ideal) (G O : Fin 8 → Row Ideal)

theorem an_at (h : Fin 8) (t d : Fin 128) : an V h (ix2 t d) = anS (t3 V) h t d := by
  show gel (V h) (ix2 t d) * spreadC (rs fun h => gel (V h)) (ix2 t d) = _
  rw [spreadC_at, rs_at]
  rfl

theorem vn_at (h : Fin 8) (t d : Fin 128) : vn V G h (ix2 t d) = vnS (t3 V) (r2 G) h t d := by
  show an V h (ix2 t d) * spreadR (G h) (ix2 t d) = _
  rw [spreadR_at, an_at]
  rfl

theorem wm_at (h : Fin 8) (t s : Fin 128) : wm W h (ix2 t s) = wmS (t3 W) h t s := by
  show W h (ix2 t s) * mask (F := Ideal) (ix2 t s) = _
  rw [mask_at]
  unfold wmS
  split
  · exact mul_one _
  · exact mul_zero _

theorem sv_at (h : Fin 8) (t d : Fin 128) : sv V W B G h (ix2 t d) = svS (t3 V) (t3 W) (c2 B) (r2 G) h t d := by
  show dotNN (wm W h) (vn V G h) (ix2 t d) + spreadC (B h) (ix2 t d) = _
  rw [spreadC_at, dotNN_at]
  unfold svS
  congr 1
  exact Finset.sum_congr rfl fun s _ => by rw [wm_at, vn_at]

theorem gated_at (h : Fin 8) (t d : Fin 128) :
    gated U V W B G h (ix2 t d) = gatedS (t3 U) (t3 V) (t3 W) (c2 B) (r2 G) h t d :=
  congrArg (gelS (U h (ix2 t d)) * ·) (sv_at V W B G h t d)

theorem gated_t3 : t3 (gated U V W B G) = gatedS (t3 U) (t3 V) (t3 W) (c2 B) (r2 G) :=
  funext fun h => funext fun t => funext fun d => gated_at U V W B G h t d

theorem dog_at (h : Fin 8) (d : Fin 128) :
    dog U V Y W B G h (ix2 0 d) = ∑ t, dogS (t3 U) (t3 V) (t3 Y) (t3 W) (c2 B) (r2 G) h t d := by
  unfold dog
  rw [sumR_at]
  refine Finset.sum_congr rfl fun t _ => ?_
  show gated U V W B G h (ix2 t d) * spreadC (rs (gated U V W B G)) (ix2 t d) * Y h (ix2 t d) = _
  rw [spreadC_at, rs_at, gated_t3, gated_at]
  rfl

theorem dgated_at (h : Fin 8) (t d : Fin 128) : dgated U V Y W B G O h (ix2 t d)
    = dgatedS (t3 U) (t3 V) (t3 Y) (t3 W) (c2 B) (r2 G) (r2 O) h t d := by
  unfold dgated
  rw [dnorm_at, gated_t3]
  unfold dgatedS
  congr 1
  funext h t d
  show Y h (ix2 t d) * spreadR (O h) (ix2 t d) = _
  rw [spreadR_at]

theorem dsv_at (h : Fin 8) (t d : Fin 128) : dsv U V Y W B G O h (ix2 t d)
    = dsvS (t3 U) (t3 V) (t3 Y) (t3 W) (c2 B) (r2 G) (r2 O) h t d :=
  congrArg (gelS (U h (ix2 t d)) * ·) (dgated_at U V Y W B G O h t d)

theorem dbs_at (h : Fin 8) (t : Fin 128) : dbs U V Y W B G O h (ix2 t 0)
    = ∑ d, dsvS (t3 U) (t3 V) (t3 Y) (t3 W) (c2 B) (r2 G) (r2 O) h t d := by
  unfold dbs
  rw [sumC_at]
  exact Finset.sum_congr rfl fun d _ => dsv_at U V Y W B G O h t d

theorem dws_at (h : Fin 8) (t s : Fin 128) : dws U V Y W B G O h (ix2 t s)
    = if s ≤ t then dwS (t3 U) (t3 V) (t3 Y) (t3 W) (c2 B) (r2 G) (r2 O) h t s else 0 := by
  show dotNT (dsv U V Y W B G O h) (vn V G h) (ix2 t s) * mask (F := Ideal) (ix2 t s) = _
  rw [mask_at, dotNT_at]
  split
  · refine (mul_one _).trans (Finset.sum_congr rfl fun d _ => ?_)
    rw [dsv_at, vn_at]
  · exact mul_zero _

theorem dvn_at (h : Fin 8) (s d : Fin 128) : dvn U V Y W B G O h (ix2 s d)
    = dvnS (t3 U) (t3 V) (t3 Y) (t3 W) (c2 B) (r2 G) (r2 O) h s d := by
  unfold dvn
  rw [dotTN_at]
  exact Finset.sum_congr rfl fun t _ => by rw [wm_at, dsv_at]

theorem dvg_at (h : Fin 8) (d : Fin 128) : dvg U V Y W B G O h (ix2 0 d)
    = ∑ t, dvgS (t3 U) (t3 V) (t3 Y) (t3 W) (c2 B) (r2 G) (r2 O) h t d := by
  unfold dvg
  rw [sumR_at]
  refine Finset.sum_congr rfl fun t _ => ?_
  show an V h (ix2 t d) * dvn U V Y W B G O h (ix2 t d) = _
  rw [an_at, dvn_at]
  rfl

theorem dav_at (h : Fin 8) (t d : Fin 128) : dav U V Y W B G O h (ix2 t d)
    = davS (t3 U) (t3 V) (t3 Y) (t3 W) (c2 B) (r2 G) (r2 O) h t d := by
  unfold dav
  rw [dnorm_at]
  unfold davS
  congr 1
  funext h t d
  show dvn U V Y W B G O h (ix2 t d) * spreadR (G h) (ix2 t d) = _
  rw [spreadR_at, dvn_at]

theorem dgu_at (h : Fin 8) (t d : Fin 128) : dgu U V Y W B G O h (ix2 t d)
    = dguS (t3 U) (t3 V) (t3 Y) (t3 W) (c2 B) (r2 G) (r2 O) h t d := by
  unfold dgu
  rw [dgel_at]
  show dgelS _ (dgated U V Y W B G O h (ix2 t d) * sv V W B G h (ix2 t d)) = _
  rw [dgated_at, sv_at]
  rfl

theorem dgv_at (h : Fin 8) (t d : Fin 128) : dgv U V Y W B G O h (ix2 t d)
    = dgvS (t3 U) (t3 V) (t3 Y) (t3 W) (c2 B) (r2 G) (r2 O) h t d := by
  unfold dgv
  rw [dgel_at, dav_at]
  rfl

end

/-! ## The loads at an index -/

theorem tiles_at (x : Vec Ideal S128x1024 .f32) (h : Fin 8) (t d : Fin 128) :
    tiles x h (ix2 t d) = x (ix2 t ⟨128 * h + d, by omega⟩) := by
  fin_cases h <;>
    exact View.ld_unit_apply_of _ _ _ _ _ _ fun a => by
      fin_cases a
      · exact (Nat.zero_add _).symm
      · rfl

theorem scales_at (x : Vec Ideal S2x1024 .f32) (h : Fin 8) (d : Fin 128) :
    scales x h (ix2 0 d) = x (ix2 1 ⟨128 * h + d, by omega⟩) := by
  fin_cases h <;>
    exact View.ld_unit_apply_of _ _ _ _ _ _ fun a => by
      fin_cases a
      · rfl
      · rfl

theorem weights_at (x : Vec Ideal S1x8x128x128 .f32) (h : Fin 8) (t s : Fin 128) :
    weights x h (ix2 t s) = x (ix4 0 h t s) := by
  have cast (y : Vec Ideal S1x1x128x128 .f32) :
      shapeCast S128x128 y shapeCasts_S1x1x128x128_S128x128 (ix2 t s) = y (ix4 0 0 t s) := by
    pointwise
    blk_ext
  have key (k : Fin 8) (inb : ∀ a, (![0, k.val, 0, 0] : Fin 4 → ℕ) a + (![1, 1, 128, 128] : Fin 4 → ℕ) a ≤ S1x8x128x128.size a) :
      shapeCast S128x128 (View.ld x (Rect.unit ![0, k.val, 0, 0] ![1, 1, 128, 128] inb))
        shapeCasts_S1x1x128x128_S128x128 (ix2 t s) = x (ix4 0 k t s) := by
    refine (cast (View.ld x (Rect.unit ![0, k.val, 0, 0] ![1, 1, 128, 128] inb))).trans (View.ld_unit_apply_of _ _ _ _ _ _ fun a => ?_)
    fin_cases a
    · rfl
    · rfl
    · exact (Nat.zero_add _).symm
    · exact (Nat.zero_add _).symm
  fin_cases h
  · exact key 0 _
  · exact key 1 _
  · exact key 2 _
  · exact key 3 _
  · exact key 4 _
  · exact key 5 _
  · exact key 6 _
  · exact key 7 _

theorem biases_at (x : Vec Ideal S1x128x8 .f32) (h : Fin 8) (t : Fin 128) :
    biases x h (ix2 t 0) = x (ix3 0 t h) := by
  have cast (y : Vec Ideal S1x128x1 .f32) :
      shapeCast S128x1 y shapeCasts_S1x128x1_S128x1 (ix2 t 0) = y (ix3 0 t 0) := by
    pointwise
    blk_ext
  have key (k : Fin 8) (inb : ∀ a, (![0, 0, k.val] : Fin 3 → ℕ) a + (![1, 128, 1] : Fin 3 → ℕ) a ≤ S1x128x8.size a) :
      shapeCast S128x1 (View.ld x (Rect.unit ![0, 0, k.val] ![1, 128, 1] inb))
        shapeCasts_S1x128x1_S128x1 (ix2 t 0) = x (ix3 0 t k) := by
    refine (cast (View.ld x (Rect.unit ![0, 0, k.val] ![1, 128, 1] inb))).trans (View.ld_unit_apply_of _ _ _ _ _ _ fun a => ?_)
    fin_cases a
    · rfl
    · exact (Nat.zero_add _).symm
    · rfl
  fin_cases h
  · exact key 0 _
  · exact key 1 _
  · exact key 2 _
  · exact key 3 _
  · exact key 4 _
  · exact key 5 _
  · exact key 6 _
  · exact key 7 _

end Cert.KernelIdeal.Chunk
-- ==== Proof.Pieces.lean ====
/-
  Where the body's stores put a head's value in the blocks it writes, and what an accumulating store adds: one lemma per
  output window, for every head at once.
-/
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe Idealize.SL.Sem

/-- The heads' tiles one after the other along the channels: `D`'s in the first half, `E`'s in the second. -/
def place7 (D E : Fin 8 → Tile Ideal) : Vec Ideal S128x2048 .bf16 := fun y =>
  have h0 : (y 0 : ℕ) < 128 := (y 0).isLt
  have h1 : (y 1 : ℕ) < 2048 := (y 1).isLt
  if h : (y 1 : ℕ) < 1024 then D ⟨(y 1 : ℕ) / 128, by omega⟩ (ix2 ⟨y 0, h0⟩ ⟨(y 1 : ℕ) % 128, by omega⟩)
  else E ⟨((y 1 : ℕ) - 1024) / 128, by omega⟩ (ix2 ⟨y 0, h0⟩ ⟨(y 1 : ℕ) % 128, by omega⟩)
/-- The heads' tiles stacked. -/
def place8 (D : Fin 8 → Tile Ideal) : Vec Ideal S8x128x128 .f32 := fun y =>
  D ⟨y 0, (y 0).isLt⟩ (ix2 ⟨y 1, (y 1).isLt⟩ ⟨y 2, (y 2).isLt⟩)
/-- The heads' columns side by side. -/
def place9 (D : Fin 8 → Col Ideal) : Vec Ideal S128x8 .f32 := fun y =>
  D ⟨y 1, (y 1).isLt⟩ (ix2 ⟨y 0, (y 0).isLt⟩ 0)
/-- The heads' rows one after the other. -/
def place10 (D : Fin 8 → Row Ideal) : Vec Ideal S1x1024 .f32 := fun y =>
  have h1 : (y 1 : ℕ) < 1024 := (y 1).isLt
  D ⟨(y 1 : ℕ) / 128, by omega⟩ (ix2 0 ⟨(y 1 : ℕ) % 128, by omega⟩)

theorem piece7u (D E : Fin 8 → Tile Ideal) (h : Fin 8) (x : S128x128.Idx) (y : S128x2048.Idx)
    (h0 : (y 0 : ℕ) = x 0) (h1 : (y 1 : ℕ) = 128 * h.val + x 1) : cut (D h) x = place7 D E y := by
  have l1 : (x 1 : ℕ) < 128 := (x 1).isLt
  have lh : (h : ℕ) < 8 := h.isLt
  show D h x = _
  unfold place7
  rw [dif_pos (by omega)]
  congr 1
  · congr 1; apply Fin.ext; show (h : ℕ) = _; dsimp only; omega
  · funext a; apply Fin.ext; fin_cases a
    · exact h0.symm
    · show (x 1 : ℕ) = (y 1 : ℕ) % 128; omega

theorem piece7v (D E : Fin 8 → Tile Ideal) (h : Fin 8) (x : S128x128.Idx) (y : S128x2048.Idx)
    (h0 : (y 0 : ℕ) = x 0) (h1 : (y 1 : ℕ) = 1024 + 128 * h.val + x 1) : cut (E h) x = place7 D E y := by
  have l1 : (x 1 : ℕ) < 128 := (x 1).isLt
  have lh : (h : ℕ) < 8 := h.isLt
  show E h x = _
  unfold place7
  rw [dif_neg (by omega)]
  congr 1
  · congr 1; apply Fin.ext; show (h : ℕ) = _; dsimp only; omega
  · funext a; apply Fin.ext; fin_cases a
    · exact h0.symm
    · show (x 1 : ℕ) = (y 1 : ℕ) % 128; omega

theorem lead_apply (T : Tile Ideal) (x : S1x128x128.Idx) :
    shapeCast S1x128x128 T shapeCasts_S128x128_S1x128x128 x = T (ix2 ⟨x 1, (x 1).isLt⟩ ⟨x 2, (x 2).isLt⟩) := by
  pointwise
  blk_ext

theorem drop_apply (T : Vec Ideal S1x128x128 .f32) (x : S128x128.Idx) :
    shapeCast S128x128 T shapeCasts_S1x128x128_S128x128 x = T (ix3 0 ⟨x 0, (x 0).isLt⟩ ⟨x 1, (x 1).isLt⟩) := by
  pointwise
  blk_ext

theorem piece8 (old : Vec Ideal S8x128x128 .f32) (D : Fin 8 → Tile Ideal) (h : Fin 8)
    (inb : ∀ a, (![h.val, 0, 0] : Fin 3 → ℕ) a + (![1, 128, 128] : Fin 3 → ℕ) a ≤ S8x128x128.size a)
    (x : S1x128x128.Idx) (y : S8x128x128.Idx)
    (h0 : (y 0 : ℕ) = h.val + x 0) (h1 : (y 1 : ℕ) = x 1) (h2 : (y 2 : ℕ) = x 2) :
    shapeCast S1x128x128 (addf (F := Ideal) (φ := .f32)
      (shapeCast S128x128 (View.ld old (Rect.unit ![h.val, 0, 0] ![1, 128, 128] inb)) shapeCasts_S1x128x128_S128x128)
      (D h)) shapeCasts_S128x128_S1x128x128 x = old y + place8 D y := by
  have l0 : (x 0 : ℕ) < 1 := (x 0).isLt
  rw [lead_apply]
  show shapeCast S128x128 _ _ _ + D h _ = _
  rw [drop_apply]
  congr 1
  · refine View.ld_unit_apply_of _ _ _ _ _ _ fun a => ?_
    fin_cases a
    · show (y 0 : ℕ) = h.val + 0; omega
    · show (y 1 : ℕ) = 0 + x 1; omega
    · show (y 2 : ℕ) = 0 + x 2; omega
  · unfold place8
    congr 1
    · congr 1; apply Fin.ext; show (h : ℕ) = y 0; omega
    · funext a; apply Fin.ext; fin_cases a
      · exact h1.symm
      · exact h2.symm

theorem piece9 (old : Vec Ideal S128x8 .f32) (D : Fin 8 → Col Ideal) (h : Fin 8)
    (inb : ∀ a, (![0, h.val] : Fin 2 → ℕ) a + (![128, 1] : Fin 2 → ℕ) a ≤ S128x8.size a)
    (x : S128x1.Idx) (y : S128x8.Idx)
    (h0 : (y 0 : ℕ) = x 0) (h1 : (y 1 : ℕ) = h.val + x 1) :
    addf (F := Ideal) (φ := .f32)
      (shapeCast S128x1 (View.ld old (Rect.unit ![0, h.val] ![128, 1] inb)) shapeCasts_S128x1_S128x1)
      (D h) x = old y + place9 D y := by
  have l0 : (x 1 : ℕ) < 1 := (x 1).isLt
  refine congrArg₂ (· + ·) ((congrFun (shapeCast_self (s := S128x1) _ _) x).trans ?_) ?_
  · refine View.ld_unit_apply_of _ _ _ _ _ _ fun a => ?_
    fin_cases a
    · show (y 0 : ℕ) = 0 + x 0; omega
    · exact h1
  · unfold place9
    congr 1
    · congr 1; apply Fin.ext; show (h : ℕ) = y 1; omega
    · funext a; apply Fin.ext; fin_cases a
      · exact h0.symm
      · show (x 1 : ℕ) = 0; omega

theorem piece10 (old : Vec Ideal S1x1024 .f32) (D : Fin 8 → Row Ideal) (h : Fin 8)
    (inb : ∀ a, (![0, 128 * h.val] : Fin 2 → ℕ) a + (![1, 128] : Fin 2 → ℕ) a ≤ S1x1024.size a)
    (x : S1x128.Idx) (y : S1x1024.Idx)
    (h0 : (y 0 : ℕ) = x 0) (h1 : (y 1 : ℕ) = 128 * h.val + x 1) :
    addf (F := Ideal) (φ := .f32)
      (shapeCast S1x128 (View.ld old (Rect.unit ![0, 128 * h.val] ![1, 128] inb)) shapeCasts_S1x128_S1x128)
      (D h) x = old y + place10 D y := by
  have l0 : (x 0 : ℕ) < 1 := (x 0).isLt
  have l1 : (x 1 : ℕ) < 128 := (x 1).isLt
  have lh : (h : ℕ) < 8 := h.isLt
  refine congrArg₂ (· + ·) ((congrFun (shapeCast_self (s := S1x128) _ _) x).trans ?_) ?_
  · refine View.ld_unit_apply_of _ _ _ _ _ _ fun a => ?_
    fin_cases a
    · show (y 0 : ℕ) = 0 + x 0; omega
    · exact h1
  · unfold place10
    dsimp only
    congr 1
    · congr 1; apply Fin.ext; show (h : ℕ) = (y 1 : ℕ) / 128; omega
    · funext a; apply Fin.ext; fin_cases a
      · show (x 0 : ℕ) = 0; omega
      · show (x 1 : ℕ) = (y 1 : ℕ) % 128; omega

/-! ## What a point adds -/

/-- A first store under stores that cover the index is not seen there. -/
theorem canon_drop {s : Shape} {e : EltTy} (q : View.Piece (Elt Ideal) s e) : ∀ (L : List (View.Piece (Elt Ideal) s e)) (y : s.Idx),
    (∃ p ∈ L, y ∈ p.1.set) → View.canon (L ++ [q]) y = View.canon L y
  | [], _, h => by obtain ⟨_, hm, _⟩ := h; exact absurd hm List.not_mem_nil
  | p :: L, y, h => by
    by_cases hy : y ∈ p.1.set
    · obtain ⟨x, rfl⟩ := p.1.exists_idx_of_mem hy
      exact (View.canon_cons_emb p.1 p.2 (L ++ [q]) x).trans (View.canon_cons_emb p.1 p.2 L x).symm
    · refine (View.canon_cons_of_not_mem p (L ++ [q]) hy).trans (Eq.trans ?_ (View.canon_cons_of_not_mem p L hy).symm)
      refine canon_drop q L y ?_
      obtain ⟨p', hm, hp⟩ := h
      rcases List.mem_cons.mp hm with rfl | hm
      · exact absurd hp hy
      · exact ⟨p', hm, hp⟩

section
variable (x0 x1 x2 : Vec Ideal S128x1024 .f32) (x3 : Vec Ideal S1x8x128x128 .f32) (x4 : Vec Ideal S1x128x8 .f32)
  (x5 x6 : Vec Ideal S2x1024 .f32)

/-- The two halves of the cotangent of the projection that a point writes. -/
def part7 : Vec Ideal S128x2048 .bf16 := place7 (dgu (tiles x1) (tiles x2) (tiles x0) (weights x3) (biases x4) (scales x5) (scales x6))
  (dgv (tiles x1) (tiles x2) (tiles x0) (weights x3) (biases x4) (scales x5) (scales x6))
/-- What a point adds to the weights' cotangent. -/
def part8 : Vec Ideal S8x128x128 .f32 := place8 (dws (tiles x1) (tiles x2) (tiles x0) (weights x3) (biases x4) (scales x5) (scales x6))
/-- What a point adds to the biases' cotangent. -/
def part9 : Vec Ideal S128x8 .f32 := place9 (dbs (tiles x1) (tiles x2) (tiles x0) (weights x3) (biases x4) (scales x5) (scales x6))
/-- What a point adds to the cotangent of the gate's scale. -/
def part10 : Vec Ideal S1x1024 .f32 := place10 (dvg (tiles x1) (tiles x2) (tiles x0) (weights x3) (biases x4) (scales x5) (scales x6))
/-- What a point adds to the cotangent of the output's scale. -/
def part11 : Vec Ideal S1x1024 .f32 := place10 (dog (tiles x1) (tiles x2) (tiles x0) (weights x3) (biases x4) (scales x5))

end

end Cert.KernelIdeal.Chunk
-- ==== Proof.Block7A.lean ====
/-
  Output window 7 (the projection's cotangent) at the first point: what the body leaves in its block.
-/
module

public import proofs.«01_k».proof.Proof.Pieces
public import Idealize.ShloMosaic.Lib.Pipeline.ReadBack
import all proofs.«01_k».proof.Proof.Gen.KernelIdeal.Frame.RunA

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out7_A (c : Dev nD) (t : Fin cfg0.N) (h : t.val % 32 = 0) (y : S128x2048.Idx) :
    (outsAt0 m c t.val t.isLt).1 y = part7 (iblk m c 0 t) (iblk m c 1 t) (iblk m c 2 t) (iblk m c 3 t) (iblk m c 4 t) (iblk m c 5 t) (iblk m c 6 t) y := by
  rw [outsAt0_A m c t h]
  frame_out
  canon_tiles x g
  case piece0 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 7 x y g0 (by show _ = 1024 + 128 * 7 + _; omega)
  case piece1 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 7 x y g0 (by show _ = 128 * 7 + _; omega)
  case piece2 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 6 x y g0 (by show _ = 1024 + 128 * 6 + _; omega)
  case piece3 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 6 x y g0 (by show _ = 128 * 6 + _; omega)
  case piece4 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 5 x y g0 (by show _ = 1024 + 128 * 5 + _; omega)
  case piece5 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 5 x y g0 (by show _ = 128 * 5 + _; omega)
  case piece6 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 4 x y g0 (by show _ = 1024 + 128 * 4 + _; omega)
  case piece7 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 4 x y g0 (by show _ = 128 * 4 + _; omega)
  case piece8 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 3 x y g0 (by show _ = 1024 + 128 * 3 + _; omega)
  case piece9 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 3 x y g0 (by show _ = 128 * 3 + _; omega)
  case piece10 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 2 x y g0 (by show _ = 1024 + 128 * 2 + _; omega)
  case piece11 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 2 x y g0 (by show _ = 128 * 2 + _; omega)
  case piece12 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 1 x y g0 (by show _ = 1024 + 128 * 1 + _; omega)
  case piece13 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 1 x y g0 (by show _ = 128 * 1 + _; omega)
  case piece14 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 0 x y g0 (by show _ = 1024 + 128 * 0 + _; omega)
  case piece15 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 0 x y g0 (by show _ = 128 * 0 + _; omega)

end Cert.KernelIdeal.Chunk
-- ==== Proof.Block7B.lean ====
/-
  Output window 7 (the projection's cotangent) at every point but the first: what the body leaves in its block.
-/
module

public import proofs.«01_k».proof.Proof.Pieces
public import Idealize.ShloMosaic.Lib.Pipeline.ReadBack
import all proofs.«01_k».proof.Proof.Gen.KernelIdeal.Frame.RunB

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out7_B (c : Dev nD) (t : Fin cfg0.N) (h : ¬t.val % 32 = 0) (y : S128x2048.Idx) :
    (outsAt0 m c t.val t.isLt).1 y = part7 (iblk m c 0 t) (iblk m c 1 t) (iblk m c 2 t) (iblk m c 3 t) (iblk m c 4 t) (iblk m c 5 t) (iblk m c 6 t) y := by
  rw [outsAt0_B m c t h]
  frame_out
  canon_tiles x g
  case piece0 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 7 x y g0 (by show _ = 1024 + 128 * 7 + _; omega)
  case piece1 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 7 x y g0 (by show _ = 128 * 7 + _; omega)
  case piece2 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 6 x y g0 (by show _ = 1024 + 128 * 6 + _; omega)
  case piece3 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 6 x y g0 (by show _ = 128 * 6 + _; omega)
  case piece4 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 5 x y g0 (by show _ = 1024 + 128 * 5 + _; omega)
  case piece5 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 5 x y g0 (by show _ = 128 * 5 + _; omega)
  case piece6 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 4 x y g0 (by show _ = 1024 + 128 * 4 + _; omega)
  case piece7 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 4 x y g0 (by show _ = 128 * 4 + _; omega)
  case piece8 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 3 x y g0 (by show _ = 1024 + 128 * 3 + _; omega)
  case piece9 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 3 x y g0 (by show _ = 128 * 3 + _; omega)
  case piece10 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 2 x y g0 (by show _ = 1024 + 128 * 2 + _; omega)
  case piece11 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 2 x y g0 (by show _ = 128 * 2 + _; omega)
  case piece12 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 1 x y g0 (by show _ = 1024 + 128 * 1 + _; omega)
  case piece13 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 1 x y g0 (by show _ = 128 * 1 + _; omega)
  case piece14 =>
    exact piece7v (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 0 x y g0 (by show _ = 1024 + 128 * 0 + _; omega)
  case piece15 =>
    exact piece7u (dgu (tiles (iblk m c 1 t)) (tiles (iblk m c 2 t)) (tiles (iblk m c 0 t)) (weights (iblk m c 3 t)) (biases (iblk m c 4 t))
      (scales (iblk m c 5 t)) (scales (iblk m c 6 t)))
      (dgv (tiles (iblk m c 1 t)) (tiles (iblk m c 2 t)) (tiles (iblk m c 0 t)) (weights (iblk m c 3 t)) (biases (iblk m c 4 t))
      (scales (iblk m c 5 t)) (scales (iblk m c 6 t))) 0 x y g0 (by show _ = 128 * 0 + _; omega)

end Cert.KernelIdeal.Chunk
-- ==== Proof.Block8A.lean ====
/-
  Output window 8 (the weights' cotangent) at the first point: what the body leaves in its block.
-/
module

public import proofs.«01_k».proof.Proof.Pieces
public import Idealize.ShloMosaic.Lib.Pipeline.ReadBack
import all proofs.«01_k».proof.Proof.Gen.KernelIdeal.Frame.RunA

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out8_A (c : Dev nD) (t : Fin cfg0.N) (h : t.val % 32 = 0) (y : S8x128x128.Idx) :
    (outsAt0 m c t.val t.isLt).2.1 y = ((k0_pay3 : FVec Ideal S8x128x128 .f32) y : EReal) + part8 (iblk m c 0 t) (iblk m c 1 t) (iblk m c 2 t) (iblk m c 3 t) (iblk m c 4 t) (iblk m c 5 t) (iblk m c 6 t) y := by
  rw [outsAt0_A m c t h]
  frame_open
  simp (disch := decide) only [↓ View.readCov_skip, ↓ View.readCov_cons_toLoadRect, ↓ View.readCov_fill]
  frame_out
  refine (canon_drop _ [_, _, _, _, _, _, _, _] y (View.cover_of_tiledL (s := S8x128x128) _ S1x128x128.size (by sl_kernel_rfl) y)).trans ?_
  canon_tiles x g
  case piece0 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 7 _ x y (by show _ = 7 + _; omega) g1 g2
  case piece1 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 6 _ x y (by show _ = 6 + _; omega) g1 g2
  case piece2 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 5 _ x y (by show _ = 5 + _; omega) g1 g2
  case piece3 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 4 _ x y (by show _ = 4 + _; omega) g1 g2
  case piece4 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 3 _ x y (by show _ = 3 + _; omega) g1 g2
  case piece5 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 2 _ x y (by show _ = 2 + _; omega) g1 g2
  case piece6 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 1 _ x y (by show _ = 1 + _; omega) g1 g2
  case piece7 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 0 _ x y (by show _ = 0 + _; omega) g1 g2

end Cert.KernelIdeal.Chunk
-- ==== Proof.Block8B.lean ====
/-
  Output window 8 (the weights' cotangent) at every point but the first: what the body leaves in its block.
-/
module

public import proofs.«01_k».proof.Proof.Pieces
public import Idealize.ShloMosaic.Lib.Pipeline.ReadBack
import all proofs.«01_k».proof.Proof.Gen.KernelIdeal.Frame.RunB

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out8_B (c : Dev nD) (t : Fin cfg0.N) (h : ¬t.val % 32 = 0) (y : S8x128x128.Idx) :
    (outsAt0 m c t.val t.isLt).2.1 y
      = (outsAt0 m c (t.val - 1) (Nat.lt_of_le_of_lt (Nat.sub_le _ _) t.isLt)).2.1 y + part8 (iblk m c 0 t) (iblk m c 1 t) (iblk m c 2 t) (iblk m c 3 t) (iblk m c 4 t) (iblk m c 5 t) (iblk m c 6 t) y := by
  rw [outsAt0_B m c t h]
  frame_out
  canon_tiles x g
  case piece0 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 7 _ x y (by show _ = 7 + _; omega) g1 g2
  case piece1 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 6 _ x y (by show _ = 6 + _; omega) g1 g2
  case piece2 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 5 _ x y (by show _ = 5 + _; omega) g1 g2
  case piece3 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 4 _ x y (by show _ = 4 + _; omega) g1 g2
  case piece4 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 3 _ x y (by show _ = 3 + _; omega) g1 g2
  case piece5 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 2 _ x y (by show _ = 2 + _; omega) g1 g2
  case piece6 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 1 _ x y (by show _ = 1 + _; omega) g1 g2
  case piece7 =>
    exact piece8 _ (dws (tiles (iblk m c 1 t)) (tiles (iblk m c 2 t)) (tiles (iblk m c 0 t)) (weights (iblk m c 3 t)) (biases (iblk m c 4 t))
      (scales (iblk m c 5 t)) (scales (iblk m c 6 t))) 0 _ x y (by show _ = 0 + _; omega) g1 g2

end Cert.KernelIdeal.Chunk
-- ==== Proof.Block9A.lean ====
/-
  Output window 9 (the biases' cotangent) at the first point: what the body leaves in its block.
-/
module

public import proofs.«01_k».proof.Proof.Pieces
public import Idealize.ShloMosaic.Lib.Pipeline.ReadBack
import all proofs.«01_k».proof.Proof.Gen.KernelIdeal.Frame.RunA

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out9_A (c : Dev nD) (t : Fin cfg0.N) (h : t.val % 32 = 0) (y : S128x8.Idx) :
    (outsAt0 m c t.val t.isLt).2.2.1 y = ((k0_pay4 : FVec Ideal S128x8 .f32) y : EReal) + part9 (iblk m c 0 t) (iblk m c 1 t) (iblk m c 2 t) (iblk m c 3 t) (iblk m c 4 t) (iblk m c 5 t) (iblk m c 6 t) y := by
  rw [outsAt0_A m c t h]
  frame_open
  simp (disch := decide) only [↓ View.readCov_skip, ↓ View.readCov_cons_toLoadRect, ↓ View.readCov_fill]
  frame_out
  refine (canon_drop _ [_, _, _, _, _, _, _, _] y (View.cover_of_tiledL (s := S128x8) _ S128x1.size (by sl_kernel_rfl) y)).trans ?_
  canon_tiles x g
  case piece0 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 7 _ x y g0 (by show _ = 7 + _; omega)
  case piece1 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 6 _ x y g0 (by show _ = 6 + _; omega)
  case piece2 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 5 _ x y g0 (by show _ = 5 + _; omega)
  case piece3 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 4 _ x y g0 (by show _ = 4 + _; omega)
  case piece4 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 3 _ x y g0 (by show _ = 3 + _; omega)
  case piece5 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 2 _ x y g0 (by show _ = 2 + _; omega)
  case piece6 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 1 _ x y g0 (by show _ = 1 + _; omega)
  case piece7 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 0 _ x y g0 (by show _ = 0 + _; omega)

end Cert.KernelIdeal.Chunk
-- ==== Proof.Block9B.lean ====
/-
  Output window 9 (the biases' cotangent) at every point but the first: what the body leaves in its block.
-/
module

public import proofs.«01_k».proof.Proof.Pieces
public import Idealize.ShloMosaic.Lib.Pipeline.ReadBack
import all proofs.«01_k».proof.Proof.Gen.KernelIdeal.Frame.RunB

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out9_B (c : Dev nD) (t : Fin cfg0.N) (h : ¬t.val % 32 = 0) (y : S128x8.Idx) :
    (outsAt0 m c t.val t.isLt).2.2.1 y
      = (outsAt0 m c (t.val - 1) (Nat.lt_of_le_of_lt (Nat.sub_le _ _) t.isLt)).2.2.1 y + part9 (iblk m c 0 t) (iblk m c 1 t) (iblk m c 2 t) (iblk m c 3 t) (iblk m c 4 t) (iblk m c 5 t) (iblk m c 6 t) y := by
  rw [outsAt0_B m c t h]
  frame_out
  canon_tiles x g
  case piece0 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 7 _ x y g0 (by show _ = 7 + _; omega)
  case piece1 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 6 _ x y g0 (by show _ = 6 + _; omega)
  case piece2 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 5 _ x y g0 (by show _ = 5 + _; omega)
  case piece3 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 4 _ x y g0 (by show _ = 4 + _; omega)
  case piece4 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 3 _ x y g0 (by show _ = 3 + _; omega)
  case piece5 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 2 _ x y g0 (by show _ = 2 + _; omega)
  case piece6 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 1 _ x y g0 (by show _ = 1 + _; omega)
  case piece7 =>
    exact piece9 _ (dbs (tiles (iblk m c 1 t)) (tiles (iblk m c 2 t)) (tiles (iblk m c 0 t)) (weights (iblk m c 3 t)) (biases (iblk m c 4 t))
      (scales (iblk m c 5 t)) (scales (iblk m c 6 t))) 0 _ x y g0 (by show _ = 0 + _; omega)

end Cert.KernelIdeal.Chunk
-- ==== Proof.Block10A.lean ====
/-
  Output window 10 (the cotangent of the gate's scale) at the first point: what the body leaves in its block.
-/
module

public import proofs.«01_k».proof.Proof.Pieces
public import Idealize.ShloMosaic.Lib.Pipeline.ReadBack
import all proofs.«01_k».proof.Proof.Gen.KernelIdeal.Frame.RunA

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out10_A (c : Dev nD) (t : Fin cfg0.N) (h : t.val % 32 = 0) (y : S1x1024.Idx) :
    (outsAt0 m c t.val t.isLt).2.2.2.1 y = ((k0_pay5 : FVec Ideal S1x1024 .f32) y : EReal) + part10 (iblk m c 0 t) (iblk m c 1 t) (iblk m c 2 t) (iblk m c 3 t) (iblk m c 4 t) (iblk m c 5 t) (iblk m c 6 t) y := by
  rw [outsAt0_A m c t h]
  frame_open
  simp (disch := decide) only [↓ View.readCov_skip, ↓ View.readCov_cons_toLoadRect, ↓ View.readCov_fill]
  frame_out
  refine (canon_drop _ [_, _, _, _, _, _, _, _] y (View.cover_of_tiledL (s := S1x1024) _ S1x128.size (by sl_kernel_rfl) y)).trans ?_
  canon_tiles x g
  case piece0 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 7 _ x y g0 (by show _ = 128 * 7 + _; omega)
  case piece1 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 6 _ x y g0 (by show _ = 128 * 6 + _; omega)
  case piece2 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 5 _ x y g0 (by show _ = 128 * 5 + _; omega)
  case piece3 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 4 _ x y g0 (by show _ = 128 * 4 + _; omega)
  case piece4 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 3 _ x y g0 (by show _ = 128 * 3 + _; omega)
  case piece5 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 2 _ x y g0 (by show _ = 128 * 2 + _; omega)
  case piece6 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 1 _ x y g0 (by show _ = 128 * 1 + _; omega)
  case piece7 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 0 _ x y g0 (by show _ = 128 * 0 + _; omega)

end Cert.KernelIdeal.Chunk
-- ==== Proof.Block10B.lean ====
/-
  Output window 10 (the cotangent of the gate's scale) at every point but the first: what the body leaves in its block.
-/
module

public import proofs.«01_k».proof.Proof.Pieces
public import Idealize.ShloMosaic.Lib.Pipeline.ReadBack
import all proofs.«01_k».proof.Proof.Gen.KernelIdeal.Frame.RunB

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out10_B (c : Dev nD) (t : Fin cfg0.N) (h : ¬t.val % 32 = 0) (y : S1x1024.Idx) :
    (outsAt0 m c t.val t.isLt).2.2.2.1 y
      = (outsAt0 m c (t.val - 1) (Nat.lt_of_le_of_lt (Nat.sub_le _ _) t.isLt)).2.2.2.1 y + part10 (iblk m c 0 t) (iblk m c 1 t) (iblk m c 2 t) (iblk m c 3 t) (iblk m c 4 t) (iblk m c 5 t) (iblk m c 6 t) y := by
  rw [outsAt0_B m c t h]
  frame_out
  canon_tiles x g
  case piece0 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 7 _ x y g0 (by show _ = 128 * 7 + _; omega)
  case piece1 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 6 _ x y g0 (by show _ = 128 * 6 + _; omega)
  case piece2 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 5 _ x y g0 (by show _ = 128 * 5 + _; omega)
  case piece3 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 4 _ x y g0 (by show _ = 128 * 4 + _; omega)
  case piece4 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 3 _ x y g0 (by show _ = 128 * 3 + _; omega)
  case piece5 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 2 _ x y g0 (by show _ = 128 * 2 + _; omega)
  case piece6 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 1 _ x y g0 (by show _ = 128 * 1 + _; omega)
  case piece7 =>
    exact piece10 _ (dvg (tiles (iblk m c 1 t)) (tiles (iblk m c 2 t)) (tiles (iblk m c 0 t)) (weights (iblk m c 3 t)) (biases (iblk m c 4 t))
      (scales (iblk m c 5 t)) (scales (iblk m c 6 t))) 0 _ x y g0 (by show _ = 128 * 0 + _; omega)

end Cert.KernelIdeal.Chunk
-- ==== Proof.Block11A.lean ====
/-
  Output window 11 (the cotangent of the output's scale) at the first point: what the body leaves in its block.
-/
module

public import proofs.«01_k».proof.Proof.Pieces
public import Idealize.ShloMosaic.Lib.Pipeline.ReadBack
import all proofs.«01_k».proof.Proof.Gen.KernelIdeal.Frame.RunA

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out11_A (c : Dev nD) (t : Fin cfg0.N) (h : t.val % 32 = 0) (y : S1x1024.Idx) :
    (outsAt0 m c t.val t.isLt).2.2.2.2 y = ((k0_pay6 : FVec Ideal S1x1024 .f32) y : EReal) + part11 (iblk m c 0 t) (iblk m c 1 t) (iblk m c 2 t) (iblk m c 3 t) (iblk m c 4 t) (iblk m c 5 t) y := by
  rw [outsAt0_A m c t h]
  frame_open
  simp (disch := decide) only [↓ View.readCov_skip, ↓ View.readCov_cons_toLoadRect, ↓ View.readCov_fill]
  frame_out
  refine (canon_drop _ [_, _, _, _, _, _, _, _] y (View.cover_of_tiledL (s := S1x1024) _ S1x128.size (by sl_kernel_rfl) y)).trans ?_
  canon_tiles x g
  case piece0 =>
    exact piece10 _ (dog (tiles (iblk m c 1 t)) (tiles (iblk m c 2 t)) (tiles (iblk m c 0 t)) (weights (iblk m c 3 t)) (biases (iblk m c 4 t))
      (scales (iblk m c 5 t))) 7 _ x y g0 (by show _ = 128 * 7 + _; omega)
  case piece1 =>
    exact piece10 _ (dog (tiles (iblk m c 1 t)) (tiles (iblk m c 2 t)) (tiles (iblk m c 0 t)) (weights (iblk m c 3 t)) (biases (iblk m c 4 t))
      (scales (iblk m c 5 t))) 6 _ x y g0 (by show _ = 128 * 6 + _; omega)
  case piece2 =>
    exact piece10 _ (dog (tiles (iblk m c 1 t)) (tiles (iblk m c 2 t)) (tiles (iblk m c 0 t)) (weights (iblk m c 3 t)) (biases (iblk m c 4 t))
      (scales (iblk m c 5 t))) 5 _ x y g0 (by show _ = 128 * 5 + _; omega)
  case piece3 =>
    exact piece10 _ (dog (tiles (iblk m c 1 t)) (tiles (iblk m c 2 t)) (tiles (iblk m c 0 t)) (weights (iblk m c 3 t)) (biases (iblk m c 4 t))
      (scales (iblk m c 5 t))) 4 _ x y g0 (by show _ = 128 * 4 + _; omega)
  case piece4 =>
    exact piece10 _ (dog (tiles (iblk m c 1 t)) (tiles (iblk m c 2 t)) (tiles (iblk m c 0 t)) (weights (iblk m c 3 t)) (biases (iblk m c 4 t))
      (scales (iblk m c 5 t))) 3 _ x y g0 (by show _ = 128 * 3 + _; omega)
  case piece5 =>
    exact piece10 _ (dog (tiles (iblk m c 1 t)) (tiles (iblk m c 2 t)) (tiles (iblk m c 0 t)) (weights (iblk m c 3 t)) (biases (iblk m c 4 t))
      (scales (iblk m c 5 t))) 2 _ x y g0 (by show _ = 128 * 2 + _; omega)
  case piece6 =>
    exact piece10 _ (dog (tiles (iblk m c 1 t)) (tiles (iblk m c 2 t)) (tiles (iblk m c 0 t)) (weights (iblk m c 3 t)) (biases (iblk m c 4 t))
      (scales (iblk m c 5 t))) 1 _ x y g0 (by show _ = 128 * 1 + _; omega)
  case piece7 =>
    exact piece10 _ (dog (tiles (iblk m c 1 t)) (tiles (iblk m c 2 t)) (tiles (iblk m c 0 t)) (weights (iblk m c 3 t)) (biases (iblk m c 4 t))
      (scales (iblk m c 5 t))) 0 _ x y g0 (by show _ = 128 * 0 + _; omega)

end Cert.KernelIdeal.Chunk
-- ==== Proof.Block11B.lean ====
/-
  Output window 11 (the cotangent of the output's scale) at every point but the first: what the body leaves in its block.
-/
module

public import proofs.«01_k».proof.Proof.Pieces
public import Idealize.ShloMosaic.Lib.Pipeline.ReadBack
import all proofs.«01_k».proof.Proof.Gen.KernelIdeal.Frame.RunB

@[expose] public section

set_option maxRecDepth 16384

noncomputable section

namespace Cert.KernelIdeal.Chunk

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The block the body leaves, at an index. -/
theorem out11_B (c : Dev nD) (t : Fin cfg0.N) (h : ¬t.val % 32 = 0) (y : S1x1024.Idx) :
    (outsAt0 m c t.val t.isLt).2.2.2.2 y
      = (outsAt0 m c (t.val - 1) (Nat.lt_of_le_of_lt (Nat.sub_le _ _) t.isLt)).2.2.2.2 y + part11 (iblk m c 0 t) (iblk m c 1 t) (iblk m c 2 t) (iblk m c 3 t) (iblk m c 4 t) (iblk m c 5 t) y := by
  rw [outsAt0_B m c t h]
  frame_out
  canon_tiles x g
  case piece0 =>
    exact piece10 _ (dog (tiles (iblk m c 1 t)) (tiles (iblk m c 2 t)) (tiles (iblk m c 0 t)) (weights (iblk m c 3 t)) (biases (iblk m c 4 t))
      (scales (iblk m c 5 t))) 7 _ x y g0 (by show _ = 128 * 7 + _; omega)
  case piece1 =>
    exact piece10 _ (dog (tiles (iblk m c 1 t)) (tiles (iblk m c 2 t)) (tiles (iblk m c 0 t)) (weights (iblk m c 3 t)) (biases (iblk m c 4 t))
      (scales (iblk m c 5 t))) 6 _ x y g0 (by show _ = 128 * 6 + _; omega)
  case piece2 =>
    exact piece10 _ (dog (tiles (iblk m c 1 t)) (tiles (iblk m c 2 t)) (tiles (iblk m c 0 t)) (weights (iblk m c 3 t)) (biases (iblk m c 4 t))
      (scales (iblk m c 5 t))) 5 _ x y g0 (by show _ = 128 * 5 + _; omega)
  case piece3 =>
    exact piece10 _ (dog (tiles (iblk m c 1 t)) (tiles (iblk m c 2 t)) (tiles (iblk m c 0 t)) (weights (iblk m c 3 t)) (biases (iblk m c 4 t))
      (scales (iblk m c 5 t))) 4 _ x y g0 (by show _ = 128 * 4 + _; omega)
  case piece4 =>
    exact piece10 _ (dog (tiles (iblk m c 1 t)) (tiles (iblk m c 2 t)) (tiles (iblk m c 0 t)) (weights (iblk m c 3 t)) (biases (iblk m c 4 t))
      (scales (iblk m c 5 t))) 3 _ x y g0 (by show _ = 128 * 3 + _; omega)
  case piece5 =>
    exact piece10 _ (dog (tiles (iblk m c 1 t)) (tiles (iblk m c 2 t)) (tiles (iblk m c 0 t)) (weights (iblk m c 3 t)) (biases (iblk m c 4 t))
      (scales (iblk m c 5 t))) 2 _ x y g0 (by show _ = 128 * 2 + _; omega)
  case piece6 =>
    exact piece10 _ (dog (tiles (iblk m c 1 t)) (tiles (iblk m c 2 t)) (tiles (iblk m c 0 t)) (weights (iblk m c 3 t)) (biases (iblk m c 4 t))
      (scales (iblk m c 5 t))) 1 _ x y g0 (by show _ = 128 * 1 + _; omega)
  case piece7 =>
    exact piece10 _ (dog (tiles (iblk m c 1 t)) (tiles (iblk m c 2 t)) (tiles (iblk m c 0 t)) (weights (iblk m c 3 t)) (biases (iblk m c 4 t))
      (scales (iblk m c 5 t))) 0 _ x y g0 (by show _ = 128 * 0 + _; omega)

end Cert.KernelIdeal.Chunk
-- ==== Proof.Arrays.lean ====
/-
  The kernel's arrays after the run: the blocks of the 32 points put together, and the accumulated outputs as sums over
  the points.
-/
module

public import proofs.«01_k».proof.Proof.Values
public import proofs.«01_k».proof.Proof.Block7A
public import proofs.«01_k».proof.Proof.Block7B
public import proofs.«01_k».proof.Proof.Block8A
public import proofs.«01_k».proof.Proof.Block8B
public import proofs.«01_k».proof.Proof.Block9A
public import proofs.«01_k».proof.Proof.Block9B
public import proofs.«01_k».proof.Proof.Block10A
public import proofs.«01_k».proof.Proof.Block10B
public import proofs.«01_k».proof.Proof.Block11A
public import proofs.«01_k».proof.Proof.Block11B
public import Idealize.ShloMosaic.Lib.Claim

@[expose] public section

set_option maxRecDepth 16384

noncomputable section

namespace Cert.KernelIdeal.Chunk

open Cert.KernelIdeal Cert.KernelIdeal.Gen Cert.Chunk Idealize.ShloMosaic Idealize.ShloMosaic.TcCoe Idealize.SL.Sem

variable (m : (ℓ : Loc nD τ sig) → Buf (Elt Ideal) ℓ)

/-- What the kernel reads from its arguments. -/
def argsK (c : Dev nD) : Args := args
  (fun i j => (m ((c : Thread nD τ).loc main_arg0) : FVec Ideal S4096x2048 .f32) (ix2 i j))
  (fun i j => (m ((c : Thread nD τ).loc main_arg1) : FVec Ideal S4096x5120 .f32) (ix2 i j))
  (fun l h t s => (m ((c : Thread nD τ).loc main_arg2) : FVec Ideal S2x8x128x128 .f32) (ix4 l h t s))
  (fun l h t => (m ((c : Thread nD τ).loc main_arg3) : FVec Ideal S2x8x128 .f32) (ix3 l h t))
  (fun l j => (m ((c : Thread nD τ).loc main_arg4) : FVec Ideal S2x1024 .f32) (ix2 l j))
  (fun l j => (m ((c : Thread nD τ).loc main_arg5) : FVec Ideal S2x1024 .f32) (ix2 l j))

theorem idx : ∀ t : Fin cfg0.N, win0_0.index t = ![t.val, 1] ∧ win0_1.index t = ![t.val, 0] ∧ win0_2.index t = ![t.val, 1]
    ∧ win0_3.index t = ![1, 0, 0, 0] ∧ win0_4.index t = ![1, 0, 0] ∧ win0_5.index t = ![0, 0] ∧ win0_6.index t = ![0, 0]
    ∧ win0_7.index t = ![t.val, 0] ∧ win0_8.index t = ![0, 0, 0] ∧ win0_9.index t = ![0, 0] ∧ win0_10.index t = ![0, 0]
    ∧ win0_11.index t = ![0, 0] :=
  (by decide +kernel : ∀ t : Fin grid0.N, _)

/-- A grid point as a chunk. -/
abbrev pt (t : Fin cfg0.N) : Fin 32 := ⟨t.val, lt_of_lt_of_eq t.isLt N_0⟩

theorem y_read (c : Dev nD) (t : Fin cfg0.N) : t3 (tiles (iblk m c 0 t)) = (argsK m c).y (pt t) := by
  funext h i d
  refine (tiles_at _ h i d).trans ?_
  show _ = (m ((c : Thread nD τ).loc main_arg0) : FVec Ideal S4096x2048 .f32) (ix2 _ _)
  blk_ext [iblk, V, idx t]

theorem u_read (c : Dev nD) (t : Fin cfg0.N) : t3 (tiles (iblk m c 1 t)) = (argsK m c).u (pt t) := by
  funext h i d
  refine (tiles_at _ h i d).trans ?_
  show _ = (m ((c : Thread nD τ).loc main_arg1) : FVec Ideal S4096x5120 .f32) (ix2 _ _)
  blk_ext [iblk, V, idx t]

theorem v_read (c : Dev nD) (t : Fin cfg0.N) : t3 (tiles (iblk m c 2 t)) = (argsK m c).v (pt t) := by
  funext h i d
  refine (tiles_at _ h i d).trans ?_
  show _ = (m ((c : Thread nD τ).loc main_arg1) : FVec Ideal S4096x5120 .f32) (ix2 _ _)
  blk_ext [iblk, V, idx t]

theorem w_read (c : Dev nD) (t : Fin cfg0.N) : t3 (weights (iblk m c 3 t)) = (argsK m c).w := by
  funext h i s
  refine (weights_at _ h i s).trans ?_
  show _ = (m ((c : Thread nD τ).loc main_arg2) : FVec Ideal S2x8x128x128 .f32) (ix4 _ _ _ _)
  blk_ext [iblk, V, idx t]

theorem b_read (c : Dev nD) (t : Fin cfg0.N) : c2 (biases (iblk m c 4 t)) = (argsK m c).b := by
  funext h i
  refine (biases_at _ h i).trans ?_
  show _ = (m ((c : Thread nD τ).loc main_arg3) : FVec Ideal S2x8x128 .f32) (ix3 _ _ _)
  blk_simp [iblk]
  entry_read
  pointwise
  blk_ext [idx t]

theorem g_read (c : Dev nD) (t : Fin cfg0.N) : r2 (scales (iblk m c 5 t)) = (argsK m c).g := by
  funext h d
  refine (scales_at _ h d).trans ?_
  show _ = (m ((c : Thread nD τ).loc main_arg4) : FVec Ideal S2x1024 .f32) (ix2 _ _)
  blk_ext [iblk, V, idx t]

theorem o_read (c : Dev nD) (t : Fin cfg0.N) : r2 (scales (iblk m c 6 t)) = (argsK m c).o := by
  funext h d
  refine (scales_at _ h d).trans ?_
  show _ = (m ((c : Thread nD τ).loc main_arg5) : FVec Ideal S2x1024 .f32) (ix2 _ _)
  blk_ext [iblk, V, idx t]

/-! ## What a point contributes -/

theorem part8_at (c : Dev nD) (t : Fin cfg0.N) (h : Fin 8) (i s : Fin 128) :
    part8 (iblk m c 0 t) (iblk m c 1 t) (iblk m c 2 t) (iblk m c 3 t) (iblk m c 4 t) (iblk m c 5 t) (iblk m c 6 t) (ix3 h i s)
      = if s ≤ i then dwS ((argsK m c).u (pt t)) ((argsK m c).v (pt t)) ((argsK m c).y (pt t)) (argsK m c).w (argsK m c).b
          (argsK m c).g (argsK m c).o h i s else 0 := by
  refine (dws_at _ _ _ _ _ _ _ h i s).trans ?_
  rw [u_read, v_read, y_read, w_read, b_read, g_read, o_read]

theorem part9_at (c : Dev nD) (t : Fin cfg0.N) (h : Fin 8) (i : Fin 128) :
    part9 (iblk m c 0 t) (iblk m c 1 t) (iblk m c 2 t) (iblk m c 3 t) (iblk m c 4 t) (iblk m c 5 t) (iblk m c 6 t) (ix2 i h)
      = ∑ d, dsvS ((argsK m c).u (pt t)) ((argsK m c).v (pt t)) ((argsK m c).y (pt t)) (argsK m c).w (argsK m c).b
          (argsK m c).g (argsK m c).o h i d := by
  refine (dbs_at _ _ _ _ _ _ _ h i).trans ?_
  rw [u_read, v_read, y_read, w_read, b_read, g_read, o_read]

theorem place10_at (D : Fin 8 → Row Ideal) (h : Fin 8) (d : Fin 128) : place10 D (ix2 0 (chan h d)) = D h (ix2 0 d) := by
  unfold place10
  dsimp only
  congr 1
  · congr 1; show (128 * (h : ℕ) + d) / 128 = _; omega
  · funext a; apply Fin.ext; fin_cases a
    · rfl
    · show (128 * (h : ℕ) + d) % 128 = d; omega

theorem part10_at (c : Dev nD) (t : Fin cfg0.N) (h : Fin 8) (d : Fin 128) :
    part10 (iblk m c 0 t) (iblk m c 1 t) (iblk m c 2 t) (iblk m c 3 t) (iblk m c 4 t) (iblk m c 5 t) (iblk m c 6 t) (ix2 0 (chan h d))
      = ∑ i, dvgS ((argsK m c).u (pt t)) ((argsK m c).v (pt t)) ((argsK m c).y (pt t)) (argsK m c).w (argsK m c).b
          (argsK m c).g (argsK m c).o h i d := by
  refine (place10_at _ h d).trans ((dvg_at _ _ _ _ _ _ _ h d).trans ?_)
  rw [u_read, v_read, y_read, w_read, b_read, g_read, o_read]

theorem part11_at (c : Dev nD) (t : Fin cfg0.N) (h : Fin 8) (d : Fin 128) :
    part11 (iblk m c 0 t) (iblk m c 1 t) (iblk m c 2 t) (iblk m c 3 t) (iblk m c 4 t) (iblk m c 5 t) (ix2 0 (chan h d))
      = ∑ i, dogS ((argsK m c).u (pt t)) ((argsK m c).v (pt t)) ((argsK m c).y (pt t)) (argsK m c).w (argsK m c).b
          (argsK m c).g h i d := by
  refine (place10_at _ h d).trans ((dog_at _ _ _ _ _ _ h d).trans ?_)
  rw [u_read, v_read, y_read, w_read, b_read, g_read]

/-! ## The accumulated outputs -/

theorem points (F : Fin cfg0.N → EReal) (G : Fin 32 → EReal) (h : ∀ t, F t = G (pt t)) : ∑ t, F t = ∑ p, G p :=
  Fintype.sum_equiv (finCongr N_0) F G h

/-- What output window 8's block holds after the last point. -/
theorem last8 (c : Dev nD) (t : Fin cfg0.N) (ht : t.val % 32 = 31) (y : S8x128x128.Idx) :
    (outsAt0 m c t.val t.isLt).2.1 y = ∑ p : Fin cfg0.N, (part8 (iblk m c 0 p) (iblk m c 1 p) (iblk m c 2 p) (iblk m c 3 p) (iblk m c 4 p) (iblk m c 5 p) (iblk m c 6 p) y : EReal) := by
  have hz : ((k0_pay3 : FVec Ideal S8x128x128 .f32) y : EReal) = 0 := by pointwise [k0_pay3]
  have hN : cfg0.N = 32 := N_0
  have := t.isLt
  refine (Pipeline.eq_sum_fin_of_reset_step_apply_last (M := EReal) (fun n h (y : S8x128x128.Idx) => ((outsAt0 m c n h).2.1 y : EReal)) 32
    (fun y => ((k0_pay3 : FVec Ideal S8x128x128 .f32) y : EReal)) (fun p y => (part8 (iblk m c 0 p) (iblk m c 1 p) (iblk m c 2 p) (iblk m c 3 p) (iblk m c 4 p) (iblk m c 5 p) (iblk m c 6 p) y : EReal))
    (fun t h y => out8_A m c t h y) (fun t h y => out8_B m c t h y) (le_of_eq N_0) t (by omega) y).trans ?_
  rw [hz, zero_add]

theorem array8 (c : Dev nD) (h : Fin 8) (i s : Fin 128) :
    ((dats m 0 c).arrAt 8 cfg0.N : FVec Ideal S8x128x128 .f32) (ix3 h i s) = (argsK m c).dw h i s := by
  have key : (dats m 0 c).arrAt 8 cfg0.N = fun y : S8x128x128.Idx => ∑ p : Fin cfg0.N, (part8 (iblk m c 0 p) (iblk m c 1 p) (iblk m c 2 p) (iblk m c 3 p) (iblk m c 4 p) (iblk m c 5 p) (iblk m c 6 p) y : EReal) := by
    refine (dats m 0 c).arrAt_eq_of_covers 8 _ (by decide +kernel) fun t hf y => ?_
    blk_simp
    rw [after0_8]
    refine (last8 m c t ((flush0_8 t).mp hf) _).trans ?_
    have : ((cfg0.win 8).blk t).view.emb y = y := by blk_ext [idx t]
    rw [this]
  refine (congrFun key _).trans (points _ _ fun p => ?_)
  exact part8_at m c p h i s

/-- What output window 9's block holds after the last point. -/
theorem last9 (c : Dev nD) (t : Fin cfg0.N) (ht : t.val % 32 = 31) (y : S128x8.Idx) :
    (outsAt0 m c t.val t.isLt).2.2.1 y = ∑ p : Fin cfg0.N, (part9 (iblk m c 0 p) (iblk m c 1 p) (iblk m c 2 p) (iblk m c 3 p) (iblk m c 4 p) (iblk m c 5 p) (iblk m c 6 p) y : EReal) := by
  have hz : ((k0_pay4 : FVec Ideal S128x8 .f32) y : EReal) = 0 := by pointwise [k0_pay4]
  have hN : cfg0.N = 32 := N_0
  have := t.isLt
  refine (Pipeline.eq_sum_fin_of_reset_step_apply_last (M := EReal) (fun n h (y : S128x8.Idx) => ((outsAt0 m c n h).2.2.1 y : EReal)) 32
    (fun y => ((k0_pay4 : FVec Ideal S128x8 .f32) y : EReal)) (fun p y => (part9 (iblk m c 0 p) (iblk m c 1 p) (iblk m c 2 p) (iblk m c 3 p) (iblk m c 4 p) (iblk m c 5 p) (iblk m c 6 p) y : EReal))
    (fun t h y => out9_A m c t h y) (fun t h y => out9_B m c t h y) (le_of_eq N_0) t (by omega) y).trans ?_
  rw [hz, zero_add]

theorem array9 (c : Dev nD) (h : Fin 8) (i : Fin 128) :
    ((dats m 0 c).arrAt 9 cfg0.N : FVec Ideal S128x8 .f32) (ix2 i h) = (argsK m c).db h i := by
  have key : (dats m 0 c).arrAt 9 cfg0.N = fun y : S128x8.Idx => ∑ p : Fin cfg0.N, (part9 (iblk m c 0 p) (iblk m c 1 p) (iblk m c 2 p) (iblk m c 3 p) (iblk m c 4 p) (iblk m c 5 p) (iblk m c 6 p) y : EReal) := by
    refine (dats m 0 c).arrAt_eq_of_covers 9 _ (by decide +kernel) fun t hf y => ?_
    blk_simp
    rw [after0_9]
    refine (last9 m c t ((flush0_9 t).mp hf) _).trans ?_
    have : ((cfg0.win 9).blk t).view.emb y = y := by blk_ext [idx t]
    rw [this]
  refine (congrFun key _).trans (points _ _ fun p => ?_)
  exact part9_at m c p h i

/-- What output window 10's block holds after the last point. -/
theorem last10 (c : Dev nD) (t : Fin cfg0.N) (ht : t.val % 32 = 31) (y : S1x1024.Idx) :
    (outsAt0 m c t.val t.isLt).2.2.2.1 y = ∑ p : Fin cfg0.N, (part10 (iblk m c 0 p) (iblk m c 1 p) (iblk m c 2 p) (iblk m c 3 p) (iblk m c 4 p) (iblk m c 5 p) (iblk m c 6 p) y : EReal) := by
  have hz : ((k0_pay5 : FVec Ideal S1x1024 .f32) y : EReal) = 0 := by pointwise [k0_pay5]
  have hN : cfg0.N = 32 := N_0
  have := t.isLt
  refine (Pipeline.eq_sum_fin_of_reset_step_apply_last (M := EReal) (fun n h (y : S1x1024.Idx) => ((outsAt0 m c n h).2.2.2.1 y : EReal)) 32
    (fun y => ((k0_pay5 : FVec Ideal S1x1024 .f32) y : EReal)) (fun p y => (part10 (iblk m c 0 p) (iblk m c 1 p) (iblk m c 2 p) (iblk m c 3 p) (iblk m c 4 p) (iblk m c 5 p) (iblk m c 6 p) y : EReal))
    (fun t h y => out10_A m c t h y) (fun t h y => out10_B m c t h y) (le_of_eq N_0) t (by omega) y).trans ?_
  rw [hz, zero_add]

theorem array10 (c : Dev nD) (h : Fin 8) (d : Fin 128) :
    ((dats m 0 c).arrAt 10 cfg0.N : FVec Ideal S1x1024 .f32) (ix2 0 (chan h d)) = (argsK m c).dg h d := by
  have key : (dats m 0 c).arrAt 10 cfg0.N = fun y : S1x1024.Idx => ∑ p : Fin cfg0.N, (part10 (iblk m c 0 p) (iblk m c 1 p) (iblk m c 2 p) (iblk m c 3 p) (iblk m c 4 p) (iblk m c 5 p) (iblk m c 6 p) y : EReal) := by
    refine (dats m 0 c).arrAt_eq_of_covers 10 _ (by decide +kernel) fun t hf y => ?_
    blk_simp
    rw [after0_10]
    refine (last10 m c t ((flush0_10 t).mp hf) _).trans ?_
    have : ((cfg0.win 10).blk t).view.emb y = y := by blk_ext [idx t]
    rw [this]
  refine (congrFun key _).trans (points _ _ fun p => ?_)
  exact part10_at m c p h d

/-- What output window 11's block holds after the last point. -/
theorem last11 (c : Dev nD) (t : Fin cfg0.N) (ht : t.val % 32 = 31) (y : S1x1024.Idx) :
    (outsAt0 m c t.val t.isLt).2.2.2.2 y = ∑ p : Fin cfg0.N, (part11 (iblk m c 0 p) (iblk m c 1 p) (iblk m c 2 p) (iblk m c 3 p) (iblk m c 4 p) (iblk m c 5 p) y : EReal) := by
  have hz : ((k0_pay6 : FVec Ideal S1x1024 .f32) y : EReal) = 0 := by pointwise [k0_pay6]
  have hN : cfg0.N = 32 := N_0
  have := t.isLt
  refine (Pipeline.eq_sum_fin_of_reset_step_apply_last (M := EReal) (fun n h (y : S1x1024.Idx) => ((outsAt0 m c n h).2.2.2.2 y : EReal)) 32
    (fun y => ((k0_pay6 : FVec Ideal S1x1024 .f32) y : EReal)) (fun p y => (part11 (iblk m c 0 p) (iblk m c 1 p) (iblk m c 2 p) (iblk m c 3 p) (iblk m c 4 p) (iblk m c 5 p) y : EReal))
    (fun t h y => out11_A m c t h y) (fun t h y => out11_B m c t h y) (le_of_eq N_0) t (by omega) y).trans ?_
  rw [hz, zero_add]

theorem array11 (c : Dev nD) (h : Fin 8) (d : Fin 128) :
    ((dats m 0 c).arrAt 11 cfg0.N : FVec Ideal S1x1024 .f32) (ix2 0 (chan h d)) = (argsK m c).dO h d := by
  have key : (dats m 0 c).arrAt 11 cfg0.N = fun y : S1x1024.Idx => ∑ p : Fin cfg0.N, (part11 (iblk m c 0 p) (iblk m c 1 p) (iblk m c 2 p) (iblk m c 3 p) (iblk m c 4 p) (iblk m c 5 p) y : EReal) := by
    refine (dats m 0 c).arrAt_eq_of_covers 11 _ (by decide +kernel) fun t hf y => ?_
    blk_simp
    rw [after0_11]
    refine (last11 m c t ((flush0_11 t).mp hf) _).trans ?_
    have : ((cfg0.win 11).blk t).view.emb y = y := by blk_ext [idx t]
    rw [this]
  refine (congrFun key _).trans (points _ _ fun p => ?_)
  exact part11_at m c p h d

/-! ## The cotangent of the projection -/

/-- The written columns of the cotangent of the projection. -/
def dproj (a : Args) (i : S4096x5120.Idx) : EReal :=
  have h0 : (i 0 : ℕ) < 4096 := (i 0).isLt
  if h : (i 1 : ℕ) < 1024 then a.du ⟨(i 0 : ℕ) / 128, by omega⟩ ⟨(i 1 : ℕ) / 128, by omega⟩ ⟨(i 0 : ℕ) % 128, by omega⟩ ⟨(i 1 : ℕ) % 128, by omega⟩
  else a.dv ⟨(i 0 : ℕ) / 128, by omega⟩ ⟨((i 1 : ℕ) - 1024) / 128 % 8, by omega⟩ ⟨(i 0 : ℕ) % 128, by omega⟩ ⟨(i 1 : ℕ) % 128, by omega⟩

theorem out7 (c : Dev nD) (t : Fin cfg0.N) (y : S128x2048.Idx) : (outsAt0 m c t.val t.isLt).1 y
    = part7 (iblk m c 0 t) (iblk m c 1 t) (iblk m c 2 t) (iblk m c 3 t) (iblk m c 4 t) (iblk m c 5 t) (iblk m c 6 t) y := by
  by_cases h : t.val % 32 = 0
  · exact out7_A m c t h y
  · exact out7_B m c t h y

theorem du_at (c : Dev nD) (t : Fin cfg0.N) (h : Fin 8) (i d : Fin 128) :
    dgu (tiles (iblk m c 1 t)) (tiles (iblk m c 2 t)) (tiles (iblk m c 0 t)) (weights (iblk m c 3 t)) (biases (iblk m c 4 t))
      (scales (iblk m c 5 t)) (scales (iblk m c 6 t)) h (ix2 i d) = (argsK m c).du (pt t) h i d := by
  refine (dgu_at _ _ _ _ _ _ _ h i d).trans ?_
  rw [u_read, v_read, y_read, w_read, b_read, g_read, o_read]
  rfl

theorem dv_at (c : Dev nD) (t : Fin cfg0.N) (h : Fin 8) (i d : Fin 128) :
    dgv (tiles (iblk m c 1 t)) (tiles (iblk m c 2 t)) (tiles (iblk m c 0 t)) (weights (iblk m c 3 t)) (biases (iblk m c 4 t))
      (scales (iblk m c 5 t)) (scales (iblk m c 6 t)) h (ix2 i d) = (argsK m c).dv (pt t) h i d := by
  refine (dgv_at _ _ _ _ _ _ _ h i d).trans ?_
  rw [u_read, v_read, y_read, w_read, b_read, g_read, o_read]
  rfl

theorem part7_at (c : Dev nD) (t : Fin cfg0.N) (y : S128x2048.Idx) (i : S4096x5120.Idx)
    (h0 : (i 0 : ℕ) = 128 * t.val + y 0) (h1 : (i 1 : ℕ) = y 1) :
    part7 (iblk m c 0 t) (iblk m c 1 t) (iblk m c 2 t) (iblk m c 3 t) (iblk m c 4 t) (iblk m c 5 t) (iblk m c 6 t) y
      = dproj (argsK m c) i := by
  have l0 : (y 0 : ℕ) < 128 := (y 0).isLt
  have l1 : (y 1 : ℕ) < 2048 := (y 1).isLt
  unfold part7 place7 dproj
  by_cases h : (y 1 : ℕ) < 1024
  · dsimp only
    rw [dif_pos h, dif_pos (by omega)]
    refine (du_at m c t _ _ _).trans ?_
    congr 1 <;> (apply Fin.ext; dsimp only; omega)
  · dsimp only
    rw [dif_neg h, dif_neg (by omega)]
    refine (dv_at m c t _ _ _).trans ?_
    congr 1 <;> (apply Fin.ext; dsimp only; omega)

theorem entry_value (c : Dev nD) : V m c main_v1_0 = m ((c : Thread nD τ).loc main_arg6) := by
  unfold V
  after_results
  try rfl

theorem array7 (c : Dev nD) : (dats m 0 c).arrAt 7 cfg0.N
    = fun i : S4096x5120.Idx => if (i 1 : ℕ) < 2048 then dproj (argsK m c) i
      else (m ((c : Thread nD τ).loc main_arg6) : FVec Ideal S4096x5120 .bf16) i := by
  have key : (dats m 0 c).arrAt 7 cfg0.N
      = fun i : S4096x5120.Idx => if (i 1 : ℕ) < 2048 then dproj (argsK m c) i else (V m c main_v1_0 : FVec Ideal S4096x5120 .bf16) i := by
    refine (dats m 0 c).arrAt_eq_of_coversWhere 7 _ (fun β => β 1 = 0) (by decide +kernel) (fun t hf y => ?_)
      (fun j => by blk_simp [Pipeline.Window.cell_apply]; omega)
    blk_simp
    rw [after0_7]
    refine (out7 m c t _).trans (part7_at m c t _ _ ?_ ?_)
    · show _ = 128 * t.val + (y 0 : ℕ)
      blk_simp [idx t]
      omega
    · blk_simp [idx t]
      try omega
  rw [key, entry_value]

end Cert.KernelIdeal.Chunk
-- ==== Proof.Reference.lean ====
/-
  The reference's values at an index, chunk by chunk: the row of its arrays that holds token `t` of chunk `p` is the row
  `128 (p % 16) + t` of sequence `p / 16`.
-/
module

public import proofs.«01_k».proof.Proof.Math
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Chunk

open Cert.ReferenceIdeal Cert.ReferenceIdeal.Gen Cert.ReferenceIdeal.Read Cert.Chunk Idealize.ShloMosaic
  Idealize.ShloMosaic.TcCoe Idealize.SL.Sem

/-- The sequence of a chunk. -/
abbrev sq (p : Fin 32) : Fin 2 := ⟨p / 16, by omega⟩
/-- The chunk's place in its sequence. -/
abbrev ck (p : Fin 32) : Fin 16 := ⟨p % 16, by omega⟩
/-- The row of token `t` of the chunk in its sequence. -/
abbrev sr (p : Fin 32) (t : Fin 128) : Fin 2048 := ⟨128 * (p % 16) + t, by omega⟩

/-! ## The constants and the two spellings of the arithmetic -/

theorem cOne_eq : cOne = 1 := by
  unfold cOne
  simp [Ideal.ofBits, Ideal.ieee, -EReal.coe_mul]
  norm_num

theorem div_1024 (x : EReal) : Ideal.div x (Ideal.ofBits .f32 0x44800000#32) = x * cMean := by
  have h : Ideal.ofBits .f32 0x44800000#32 = ((1024 : ℝ) : EReal) := by
    simp [Ideal.ofBits, Ideal.ieee, -EReal.coe_mul]
    norm_num
  have h' : cMean = (((1024 : ℝ)⁻¹ : ℝ) : EReal) := by
    unfold cMean
    simp [Ideal.ofBits, Ideal.ieee, -EReal.coe_mul]
    norm_num
  rw [h, h']
  unfold Ideal.div
  rw [if_neg (by norm_num)]
  rfl

theorem neg_bell : Ideal.ofBits .f32 0xBF906EBB#32 = -cBell := by
  unfold cBell
  simp [Ideal.ofBits, Ideal.ieee, -EReal.coe_mul]

theorem erfc_ref (x : EReal) : Ideal.erfc (-x * cRoot) = cOne + Ideal.erf (x * cRoot) := by
  rw [neg_mul, Ideal.erfc_neg, cOne_eq]

theorem bell_ref (x : EReal) : -(-x * cRoot * (-x * cRoot)) = 0 - x * cRoot * (x * cRoot) := by
  rw [neg_mul, neg_mul_neg, zero_sub]

/-- The gelu's cotangent as the reference writes it. -/
theorem dgel_ref (x y : EReal) :
    -(Ideal.ofBits .f32 0xBF906EBB#32 * (cHalf * x * y) * Ideal.exp (-(-x * cRoot * (-x * cRoot))) * cRoot)
      + cHalf * (y * Ideal.erfc (-x * cRoot)) = dgelS x y := by
  rw [neg_bell, erfc_ref, bell_ref]
  unfold dgelS
  rw [neg_mul, neg_mul, neg_mul, neg_neg]

/-- A sum over the 1024 channels, head by head. -/
theorem sum_chan (f : Fin 1024 → EReal) : ∑ k, f k = ∑ h : Fin 8, ∑ d : Fin 128, f (chan h d) := by
  symm
  refine Fin.sum_mul_add_congr fun h d hl => ?_
  congr 1
  apply Fin.ext
  show 128 * (h : ℕ) + d = h * 128 + d
  omega

section
variable (x0 : FVec Ideal S4096x2048 .f32) (x1 : FVec Ideal S4096x5120 .f32) (x2 : FVec Ideal S2x8x128x128 .f32)
  (x3 : FVec Ideal S2x8x128 .f32) (x4 x5 : FVec Ideal S2x1024 .f32)

/-- What the reference reads from its arguments. -/
def argsR : Args := args (fun i j => x0 (ix2 i j)) (fun i j => x1 (ix2 i j)) (fun l h t s => x2 (ix4 l h t s))
  (fun l h t => x3 (ix3 l h t)) (fun l j => x4 (ix2 l j)) (fun l j => x5 (ix2 l j))

/-! ## The arguments' slices -/

theorem v1_at (p : Fin 32) (t : Fin 128) (j : Fin 2048) :
    val_main_v1 (F := Ideal) x1 (ix3 (sq p) (sr p t) j) = x1 (ix2 (row p t) ⟨j, by omega⟩) := by
  rw [val_main_v1_apply, val_main_v0_apply]
  blk_ext

theorem v3_at (p : Fin 32) (t : Fin 128) (h : Fin 8) (d : Fin 128) :
    val_main_v3 (F := Ideal) x0 (ix3 (sq p) (sr p t) (chan h d)) = (argsR x0 x1 x2 x3 x4 x5).y p h t d := by
  rw [val_main_v3_apply, val_main_v2_apply]
  show _ = x0 (ix2 _ _)
  blk_ext

theorem v38_at (p : Fin 32) (t : Fin 128) (h : Fin 8) (d : Fin 128) :
    val_main_v38 (F := Ideal) x4 (ix3 (sq p) (sr p t) (chan h d)) = (argsR x0 x1 x2 x3 x4 x5).g h d := by
  rw [val_main_v38_apply, val_main_v37_apply, val_main_v5_apply, val_main_v4_apply]
  show _ = x4 (ix2 _ _)
  blk_ext

theorem v108_at (p : Fin 32) (t : Fin 128) (h : Fin 8) (d : Fin 128) :
    val_main_v108 (F := Ideal) x4 (ix3 (sq p) (sr p t) (chan h d)) = (argsR x0 x1 x2 x3 x4 x5).g h d := by
  rw [val_main_v108_apply, val_main_v37_apply, val_main_v5_apply, val_main_v4_apply]
  show _ = x4 (ix2 _ _)
  blk_ext

theorem v73_at (p : Fin 32) (t : Fin 128) (h : Fin 8) (d : Fin 128) :
    val_main_v73 (F := Ideal) x5 (ix3 (sq p) (sr p t) (chan h d)) = (argsR x0 x1 x2 x3 x4 x5).o h d := by
  rw [val_main_v73_apply, val_main_v67_apply, val_main_v11_apply, val_main_v10_apply]
  show _ = x5 (ix2 _ _)
  blk_ext

theorem v7_at (h : Fin 8) (t s : Fin 128) :
    val_main_v7 (F := Ideal) x2 (ix3 h t s) = (argsR x0 x1 x2 x3 x4 x5).w h t s := by
  rw [val_main_v7_apply, val_main_v6_apply]
  show _ = x2 (ix4 _ _ _ _)
  blk_ext

theorem v50_at (b : Fin 2) (c : Fin 16) (t : Fin 128) (h : Fin 8) (d : Fin 128) :
    val_main_v50 (F := Ideal) x3 (ix5 b c t h d) = (argsR x0 x1 x2 x3 x4 x5).b h t := by
  rw [val_main_v50_apply, val_main_v49_apply, val_main_v48_apply, val_main_v47_apply, val_main_v9_apply, val_main_v8_apply]
  show _ = x3 (ix3 _ _ _)
  blk_ext

/-! ## The gelu -/

theorem v21_at (p : Fin 32) (t : Fin 128) (j : Fin 2048) :
    val_main_v21 (F := Ideal) x1 (ix3 (sq p) (sr p t) j) = gelS (x1 (ix2 (row p t) ⟨j, by omega⟩)) := by
  rw [val_main_v21_apply, val_main_v13_apply, val_main_v12_apply, val_main_cst_apply, val_main_v17_apply,
    val_main_v16_apply, val_main_v14_apply, val_main_v15_apply, val_main_cst_0_apply, v1_at]
  show cHalf * _ * Ideal.erfc (-_ * cRoot) = _
  rw [erfc_ref]
  rfl

theorem v22_at (p : Fin 32) (t : Fin 128) (h : Fin 8) (d : Fin 128) :
    val_main_v22 (F := Ideal) x1 (ix3 (sq p) (sr p t) (chan h d)) = gelS ((argsR x0 x1 x2 x3 x4 x5).u p h t d) := by
  rw [val_main_v22_apply]
  refine Eq.trans (congrArg _ ?_) (v21_at x1 p t ⟨128 * h + d, by omega⟩)
  blk_ext

theorem v23_at (p : Fin 32) (t : Fin 128) (h : Fin 8) (d : Fin 128) :
    val_main_v23 (F := Ideal) x1 (ix3 (sq p) (sr p t) (chan h d)) = gelT ((argsR x0 x1 x2 x3 x4 x5).v p) h t d := by
  rw [val_main_v23_apply]
  refine Eq.trans (congrArg _ ?_) (v21_at x1 p t ⟨1024 + (128 * h + d), by omega⟩)
  blk_ext

/-! ## The gate's normalisation -/

theorem v30_at (p : Fin 32) (t : Fin 128) :
    val_main_v30 (F := Ideal) x1 (ix3 (sq p) (sr p t) 0) = msS (gelT ((argsR x0 x1 x2 x3 x4 x5).v p)) t := by
  rw [val_main_v30_apply, val_main_v28_apply, val_main_v26_apply, val_main_v25_apply, val_main_v27_apply,
    val_main_cst_2_apply, val_main_v29_apply, val_main_cst_3_apply, val_main_cst_1_apply]
  show Ideal.div (Ideal.ofBits .f32 0x00000000#32 + _) _ + cEps = _
  rw [Ideal.ofBits_zero_f32, zero_add, sum_chan]
  refine (congrArg (· + cEps) (div_1024 _)).trans ?_
  unfold msS
  congr 2
  refine Finset.sum_congr rfl fun h _ => Finset.sum_congr rfl fun d _ => ?_
  rw [val_main_v24_apply]
  have e : idx_main_v25 (idx_main_v26 (ix3 (sq p) (sr p t) 0)) (chan h d) = ix3 (sq p) (sr p t) (chan h d) := by blk_ext
  rw [e, v23_at x0 x1 x2 x3 x4 x5]
  rfl

theorem v31_at (p : Fin 32) (t : Fin 128) :
    val_main_v31 (F := Ideal) x1 (ix3 (sq p) (sr p t) 0) = rsS (gelT ((argsR x0 x1 x2 x3 x4 x5).v p)) t := by
  rw [val_main_v31_apply, v30_at x0 x1 x2 x3 x4 x5]
  rfl

theorem v34_at (p : Fin 32) (t : Fin 128) :
    val_main_v34 (F := Ideal) x1 (ix3 (sq p) (sr p t) 0) = drsS (gelT ((argsR x0 x1 x2 x3 x4 x5).v p)) t := by
  rw [val_main_v34_apply, val_main_v33_apply, val_main_cst_4_apply, val_main_v32_apply, v30_at x0 x1 x2 x3 x4 x5,
    v31_at x0 x1 x2 x3 x4 x5]
  rfl

theorem v36_at (p : Fin 32) (t : Fin 128) (h : Fin 8) (d : Fin 128) :
    val_main_v36 (F := Ideal) x1 (ix3 (sq p) (sr p t) (chan h d)) = anS ((argsR x0 x1 x2 x3 x4 x5).v p) h t d := by
  rw [val_main_v36_apply, val_main_v35_apply]
  have e : idx_main_v35 (ix3 (sq p) (sr p t) (chan h d)) = ix3 (sq p) (sr p t) 0 := by blk_ext
  rw [e, v31_at x0 x1 x2 x3 x4 x5, v23_at x0 x1 x2 x3 x4 x5]
  rfl

theorem v40_at (p : Fin 32) (t : Fin 128) (h : Fin 8) (d : Fin 128) :
    val_main_v40 (F := Ideal) x1 x4 (ix5 (sq p) (ck p) t h d)
      = vnS ((argsR x0 x1 x2 x3 x4 x5).v p) (argsR x0 x1 x2 x3 x4 x5).g h t d := by
  rw [val_main_v40_apply]
  have e : idx_main_v40 (ix5 (sq p) (ck p) t h d) = ix3 (sq p) (sr p t) (chan h d) := by blk_ext
  rw [e, val_main_v39_apply, v36_at x0 x1 x2 x3 x4 x5, v38_at x0 x1 x2 x3 x4 x5]
  rfl

/-! ## The mask and the gate -/

theorem sge_at : ∀ t s : Fin 128, IntOp.cmpi CmpIPredicate.sge (IntOp.addi (BitVec.ofNat 32 t.val) 0#32) (BitVec.ofNat 32 s.val)
    = if s ≤ t then 1#1 else 0#1 := by decide +kernel

theorem v44_1_at (h : Fin 8) (t s : Fin 128) :
    val_main_v44_1 (F := Ideal) (ix3 h t s) = if s ≤ t then 1#1 else 0#1 := by
  rw [val_main_v44_1_apply, val_main_v42_apply, val_main_call0_v4_apply, val_main_call0_v2_apply, val_main_call0_v0_apply,
    val_main_call0_v1_apply, val_main_call0_c_apply, val_main_call0_v3_apply, val_main_v41_apply, val_main_call0_v5_apply,
    val_main_call0_c_0_apply]
  refine (congrArg (fun b => Scalar.select b _ _) (sge_at t s)).trans ?_
  split
  · rfl
  · rfl

theorem v44_0_at (h : Fin 8) (t s : Fin 128) :
    val_main_v44_0 (F := Ideal) x2 (ix3 h t s) = wmS (argsR x0 x1 x2 x3 x4 x5).w h t s := by
  rw [val_main_v44_0_apply, v44_1_at, v7_at x0 x1 x2 x3 x4 x5, val_main_v43_apply, val_main_cst_5_apply]
  unfold wmS
  split
  · rfl
  · exact Ideal.ofBits_zero_f32

theorem v45_at (p : Fin 32) (h : Fin 8) (d t : Fin 128) :
    val_main_v45 (F := Ideal) x1 x2 x4 (ix5 h (sq p) (ck p) d t)
      = ∑ s, wmS (argsR x0 x1 x2 x3 x4 x5).w h t s * vnS ((argsR x0 x1 x2 x3 x4 x5).v p) (argsR x0 x1 x2 x3 x4 x5).g h s d := by
  rw [val_main_v45_apply]
  refine Finset.sum_congr rfl fun s _ => ?_
  have el : lidx_main_v45 (ix5 h (sq p) (ck p) d t) s = ix5 (sq p) (ck p) s h d := by blk_ext
  have er : ridx_main_v45 (ix5 h (sq p) (ck p) d t) s = ix3 h t s := by blk_ext
  rw [el, er, v40_at x0 x1 x2 x3 x4 x5, v44_0_at x0 x1 x2 x3 x4 x5, mul_comm]

theorem v52_at (p : Fin 32) (t : Fin 128) (h : Fin 8) (d : Fin 128) :
    val_main_v52 (F := Ideal) x1 x2 x3 x4 (ix3 (sq p) (sr p t) (chan h d))
      = svS ((argsR x0 x1 x2 x3 x4 x5).v p) (argsR x0 x1 x2 x3 x4 x5).w (argsR x0 x1 x2 x3 x4 x5).b
          (argsR x0 x1 x2 x3 x4 x5).g h t d := by
  rw [val_main_v52_apply]
  have e : idx_main_v52 (ix3 (sq p) (sr p t) (chan h d)) = ix5 (sq p) (ck p) t h d := by blk_ext
  rw [e, val_main_v51_apply, val_main_v46_apply, v50_at x0 x1 x2 x3 x4 x5]
  have e' : idx_main_v46 (ix5 (sq p) (ck p) t h d) = ix5 h (sq p) (ck p) d t := by blk_ext
  rw [e', v45_at x0 x1 x2 x3 x4 x5]
  rfl

theorem v53_at (p : Fin 32) (t : Fin 128) (h : Fin 8) (d : Fin 128) :
    val_main_v53 (F := Ideal) x1 x2 x3 x4 (ix3 (sq p) (sr p t) (chan h d))
      = gatedS ((argsR x0 x1 x2 x3 x4 x5).u p) ((argsR x0 x1 x2 x3 x4 x5).v p) (argsR x0 x1 x2 x3 x4 x5).w
          (argsR x0 x1 x2 x3 x4 x5).b (argsR x0 x1 x2 x3 x4 x5).g h t d := by
  rw [val_main_v53_apply, v22_at x0 x1 x2 x3 x4 x5, v52_at x0 x1 x2 x3 x4 x5]
  rfl

end

end Cert.ReferenceIdeal.Chunk
-- ==== Proof.Sums.lean ====
/-
  The reference's sums over several axes at once: a sum over sequences and rows, or over sequences, chunks and channels, is
  one over the 32 chunks and what lies in each.
-/
module

public import proofs.«01_k».proof.Proof.Reference

@[expose] public section

set_option maxRecDepth 16384

noncomputable section

namespace Cert.ReferenceIdeal.Chunk

open Cert.ReferenceIdeal Cert.ReferenceIdeal.Gen Cert.ReferenceIdeal.Read Cert.Chunk Idealize.ShloMosaic
  Idealize.ShloMosaic.TcCoe Idealize.SL.Sem

/-- Over the sequences and their rows. -/
theorem sum_tokens (y : FVec Ideal S2x2048x1024 .f32) (j : Fin 1024) :
    Ideal.hostReduceAdd reducesTo_S2x2048x1024_S1024_d0_1 y 0 (ix1 j)
      = ∑ p : Fin 32, ∑ t : Fin 128, y (ix3 (sq p) (sr p t) j) := by
  unfold Ideal.hostReduceAdd
  rw [zero_add]
  refine (Finset.sum_filter_eq_sum_of_fiber _ (fun k : Fin 32 × Fin 128 => ix3 (sq k.1) (sr k.1 k.2) j) ?_ ?_ y).trans
    (Fintype.sum_prod_type _)
  · rintro ⟨p, t⟩ ⟨p', t'⟩ e
    have e0 : (p : ℕ) / 16 = p' / 16 := congrArg Fin.val (congrFun e 0)
    have e1 : 128 * ((p : ℕ) % 16) + t = 128 * (p' % 16) + t' := congrArg Fin.val (congrFun e 1)
    refine Prod.ext (Fin.ext ?_) (Fin.ext ?_)
    · show (p : ℕ) = p'
      omega
    · show (t : ℕ) = t'
      omega
  · intro i
    constructor
    · intro e
      have e2 : (i 2 : ℕ) = j := congrArg Fin.val (congrFun e 0)
      have h0 : (i 0 : ℕ) < 2 := (i 0).isLt
      have h1 : (i 1 : ℕ) < 2048 := (i 1).isLt
      refine ⟨(⟨16 * (i 0 : ℕ) + (i 1 : ℕ) / 128, by omega⟩, ⟨(i 1 : ℕ) % 128, by omega⟩), ?_⟩
      funext a
      apply Fin.ext
      match a with
      | ⟨0, _⟩ => show (16 * (i 0 : ℕ) + (i 1 : ℕ) / 128) / 16 = (i 0 : ℕ); omega
      | ⟨1, _⟩ => show 128 * ((16 * (i 0 : ℕ) + (i 1 : ℕ) / 128) % 16) + (i 1 : ℕ) % 128 = (i 1 : ℕ); omega
      | ⟨2, _⟩ => exact e2.symm
    · rintro ⟨⟨p, t⟩, rfl⟩
      funext b
      apply Fin.ext
      match b with
      | ⟨0, _⟩ => rfl

/-- Over two axes of extent 1. -/
theorem sum_ones (y : FVec Ideal S1x1x1024 .f32) (j : Fin 1024) :
    Ideal.hostReduceAdd reducesTo_S1x1x1024_S1024_d0_1 y 0 (ix1 j) = y (ix3 0 0 j) := by
  unfold Ideal.hostReduceAdd
  rw [zero_add]
  refine (Finset.sum_filter_eq_sum_of_fiber _ (fun _ : Fin 1 => ix3 0 0 j) ?_ ?_ y).trans (Fin.sum_univ_one _)
  · intro a b _
    exact Subsingleton.elim _ _
  · intro i
    constructor
    · intro e
      have e2 : (i 2 : ℕ) = j := congrArg Fin.val (congrFun e 0)
      have h0 : (i 0 : ℕ) < 1 := (i 0).isLt
      have h1 : (i 1 : ℕ) < 1 := (i 1).isLt
      refine ⟨0, ?_⟩
      funext a
      apply Fin.ext
      match a with
      | ⟨0, _⟩ => show 0 = (i 0 : ℕ); omega
      | ⟨1, _⟩ => show 0 = (i 1 : ℕ); omega
      | ⟨2, _⟩ => exact e2.symm
    · rintro ⟨_, rfl⟩
      funext b
      apply Fin.ext
      match b with
      | ⟨0, _⟩ => rfl

/-- Over the sequences, their chunks and the channels. -/
theorem sum_chunks (y : FVec Ideal S2x16x128x8x128 .f32) (t : Fin 128) (h : Fin 8) :
    Ideal.hostReduceAdd reducesTo_S2x16x128x8x128_S128x8_d0_1_4 y 0 (ix2 t h)
      = ∑ p : Fin 32, ∑ d : Fin 128, y (ix5 (sq p) (ck p) t h d) := by
  unfold Ideal.hostReduceAdd
  rw [zero_add]
  refine (Finset.sum_filter_eq_sum_of_fiber _ (fun k : Fin 32 × Fin 128 => ix5 (sq k.1) (ck k.1) t h k.2) ?_ ?_ y).trans
    (Fintype.sum_prod_type _)
  · rintro ⟨p, d⟩ ⟨p', d'⟩ e
    have e0 : (p : ℕ) / 16 = p' / 16 := congrArg Fin.val (congrFun e 0)
    have e1 : (p : ℕ) % 16 = p' % 16 := congrArg Fin.val (congrFun e 1)
    have e4 : (d : ℕ) = d' := congrArg Fin.val (congrFun e 4)
    refine Prod.ext (Fin.ext ?_) (Fin.ext e4)
    show (p : ℕ) = p'
    omega
  · intro i
    constructor
    · intro e
      have e2 : (i 2 : ℕ) = t := congrArg Fin.val (congrFun e 0)
      have e3 : (i 3 : ℕ) = h := congrArg Fin.val (congrFun e 1)
      have h0 : (i 0 : ℕ) < 2 := (i 0).isLt
      have h1 : (i 1 : ℕ) < 16 := (i 1).isLt
      refine ⟨(⟨16 * (i 0 : ℕ) + (i 1 : ℕ), by omega⟩, i 4), ?_⟩
      funext a
      apply Fin.ext
      match a with
      | ⟨0, _⟩ => show (16 * (i 0 : ℕ) + (i 1 : ℕ)) / 16 = (i 0 : ℕ); omega
      | ⟨1, _⟩ => show (16 * (i 0 : ℕ) + (i 1 : ℕ)) % 16 = (i 1 : ℕ); omega
      | ⟨2, _⟩ => exact e2.symm
      | ⟨3, _⟩ => exact e3.symm
      | ⟨4, _⟩ => rfl
    · rintro ⟨⟨p, d⟩, rfl⟩
      funext b
      apply Fin.ext
      match b with
      | ⟨0, _⟩ => rfl
      | ⟨1, _⟩ => rfl

/-- Over three axes of extent 1. -/
theorem sum_ones' (y : FVec Ideal S1x1x128x8x1 .f32) (t : Fin 128) (h : Fin 8) :
    Ideal.hostReduceAdd reducesTo_S1x1x128x8x1_S128x8_d0_1_4 y 0 (ix2 t h) = y (ix5 0 0 t h 0) := by
  unfold Ideal.hostReduceAdd
  rw [zero_add]
  refine (Finset.sum_filter_eq_sum_of_fiber _ (fun _ : Fin 1 => ix5 0 0 t h 0) ?_ ?_ y).trans (Fin.sum_univ_one _)
  · intro a b _
    exact Subsingleton.elim _ _
  · intro i
    constructor
    · intro e
      have e2 : (i 2 : ℕ) = t := congrArg Fin.val (congrFun e 0)
      have e3 : (i 3 : ℕ) = h := congrArg Fin.val (congrFun e 1)
      have h0 : (i 0 : ℕ) < 1 := (i 0).isLt
      have h1 : (i 1 : ℕ) < 1 := (i 1).isLt
      have h4 : (i 4 : ℕ) < 1 := (i 4).isLt
      refine ⟨0, ?_⟩
      funext a
      apply Fin.ext
      match a with
      | ⟨0, _⟩ => show 0 = (i 0 : ℕ); omega
      | ⟨1, _⟩ => show 0 = (i 1 : ℕ); omega
      | ⟨2, _⟩ => exact e2.symm
      | ⟨3, _⟩ => exact e3.symm
      | ⟨4, _⟩ => show 0 = (i 4 : ℕ); omega
    · rintro ⟨_, rfl⟩
      funext b
      apply Fin.ext
      match b with
      | ⟨0, _⟩ => rfl
      | ⟨1, _⟩ => rfl

/-- The contraction's axes: the sequences, their chunks and the channels. -/
abbrev cShape : Shape := dot_S8x2x16x128x128_S2x16x128x8x128_S8x128x128_123_014_4_2_0_3.contr

/-- A point of the contraction is a chunk and a channel. -/
def cEquiv : Fin 32 × Fin 128 ≃ cShape.Idx where
  toFun k := fun a : Fin 3 => match a with
    | ⟨0, _⟩ => (sq k.1 : Fin 2)
    | ⟨1, _⟩ => (ck k.1 : Fin 16)
    | ⟨2, _⟩ => (k.2 : Fin 128)
  invFun i :=
    have h0 : (i (0 : Fin 3)).val < 2 := (i (0 : Fin 3)).isLt
    have h1 : (i (1 : Fin 3)).val < 16 := (i (1 : Fin 3)).isLt
    (⟨16 * (i (0 : Fin 3)).val + (i (1 : Fin 3)).val, by omega⟩, ⟨(i (2 : Fin 3)).val, (i (2 : Fin 3)).isLt⟩)
  left_inv k := by
    refine Prod.ext (Fin.ext ?_) rfl
    show 16 * ((k.1 : ℕ) / 16) + (k.1 : ℕ) % 16 = k.1
    omega
  right_inv i := by
    have h0 : (i (0 : Fin 3)).val < 2 := (i (0 : Fin 3)).isLt
    have h1 : (i (1 : Fin 3)).val < 16 := (i (1 : Fin 3)).isLt
    funext (a : Fin 3)
    apply Fin.ext
    match a with
    | ⟨0, _⟩ => show (16 * (i (0 : Fin 3)).val + (i (1 : Fin 3)).val) / 16 = (i (0 : Fin 3)).val; omega
    | ⟨1, _⟩ => show (16 * (i (0 : Fin 3)).val + (i (1 : Fin 3)).val) % 16 = (i (1 : Fin 3)).val; omega
    | ⟨2, _⟩ => rfl

/-- The product contracted over the sequences, their chunks and the channels. -/
theorem dot_chunks (y : FVec Ideal S8x2x16x128x128 .f32) (z : FVec Ideal S2x16x128x8x128 .f32) (h : Fin 8) (t s : Fin 128) :
    Host.dotGeneral dot_S8x2x16x128x128_S2x16x128x8x128_S8x128x128_123_014_4_2_0_3 none y z (ix3 h t s)
      = ∑ p : Fin 32, ∑ d : Fin 128, y (ix5 h (sq p) (ck p) d t) * z (ix5 (sq p) (ck p) s h d) := by
  show Ideal.matmul _ y z (fun _ => 0) (ix3 h t s) = _
  unfold Ideal.matmul
  rw [zero_add]
  refine (Equiv.sum_comp cEquiv _).symm.trans ((Fintype.sum_prod_type _).trans ?_)
  refine Finset.sum_congr rfl fun p _ => Finset.sum_congr rfl fun d _ => ?_
  congr 1
  · congr 1
    funext a
    fin_cases a <;> rfl
  · congr 1
    funext a
    fin_cases a <;> rfl

end Cert.ReferenceIdeal.Chunk
-- ==== Proof.Cotangents.lean ====
/-
  The reference's cotangents at an index, chunk by chunk.
-/
module

public import proofs.«01_k».proof.Proof.Sums

@[expose] public section

set_option maxRecDepth 16384

noncomputable section

namespace Cert.ReferenceIdeal.Chunk

open Cert.ReferenceIdeal Cert.ReferenceIdeal.Gen Cert.ReferenceIdeal.Read Cert.Chunk Idealize.ShloMosaic
  Idealize.ShloMosaic.TcCoe Idealize.SL.Sem

section
variable (x0 : FVec Ideal S4096x2048 .f32) (x1 : FVec Ideal S4096x5120 .f32) (x2 : FVec Ideal S2x8x128x128 .f32)
  (x3 : FVec Ideal S2x8x128 .f32) (x4 x5 : FVec Ideal S2x1024 .f32)

/-- The gated values of a chunk. -/
abbrev gd (a : Args) (p : Fin 32) : T3 := gatedS (a.u p) (a.v p) a.w a.b a.g
/-- Their cotangent. -/
abbrev dgd (a : Args) (p : Fin 32) : T3 := dgatedS (a.u p) (a.v p) (a.y p) a.w a.b a.g a.o
/-- The gate's. -/
abbrev dsv (a : Args) (p : Fin 32) : T3 := dsvS (a.u p) (a.v p) (a.y p) a.w a.b a.g a.o
/-- The gate's normalised input's. -/
abbrev dvn (a : Args) (p : Fin 32) : T3 := dvnS (a.u p) (a.v p) (a.y p) a.w a.b a.g a.o

/-! ## The gated values' normalisation -/

theorem v60_at (p : Fin 32) (t : Fin 128) :
    val_main_v60 (F := Ideal) x1 x2 x3 x4 (ix3 (sq p) (sr p t) 0) = msS (gd (argsR x0 x1 x2 x3 x4 x5) p) t := by
  rw [val_main_v60_apply, val_main_v58_apply, val_main_v56_apply, val_main_v55_apply, val_main_v57_apply,
    val_main_cst_7_apply, val_main_v59_apply, val_main_cst_8_apply, val_main_cst_6_apply]
  show Ideal.div (Ideal.ofBits .f32 0x00000000#32 + _) _ + cEps = _
  rw [Ideal.ofBits_zero_f32, zero_add, sum_chan]
  refine (congrArg (· + cEps) (div_1024 _)).trans ?_
  unfold msS
  congr 2
  refine Finset.sum_congr rfl fun h _ => Finset.sum_congr rfl fun d _ => ?_
  rw [val_main_v54_apply]
  have e : idx_main_v55 (idx_main_v56 (ix3 (sq p) (sr p t) 0)) (chan h d) = ix3 (sq p) (sr p t) (chan h d) := by blk_ext
  rw [e, v53_at x0 x1 x2 x3 x4 x5]
  rfl

theorem v61_at (p : Fin 32) (t : Fin 128) :
    val_main_v61 (F := Ideal) x1 x2 x3 x4 (ix3 (sq p) (sr p t) 0) = rsS (gd (argsR x0 x1 x2 x3 x4 x5) p) t := by
  rw [val_main_v61_apply, v60_at x0 x1 x2 x3 x4 x5]
  rfl

theorem v64_at (p : Fin 32) (t : Fin 128) :
    val_main_v64 (F := Ideal) x1 x2 x3 x4 (ix3 (sq p) (sr p t) 0) = drsS (gd (argsR x0 x1 x2 x3 x4 x5) p) t := by
  rw [val_main_v64_apply, val_main_v63_apply, val_main_cst_9_apply, val_main_v62_apply, v60_at x0 x1 x2 x3 x4 x5,
    v61_at x0 x1 x2 x3 x4 x5]
  rfl

theorem v70_at (p : Fin 32) (t : Fin 128) (h : Fin 8) (d : Fin 128) :
    val_main_v70 (F := Ideal) x0 x1 x2 x3 x4 (ix3 (sq p) (sr p t) (chan h d))
      = dogS ((argsR x0 x1 x2 x3 x4 x5).u p) ((argsR x0 x1 x2 x3 x4 x5).v p) ((argsR x0 x1 x2 x3 x4 x5).y p)
          (argsR x0 x1 x2 x3 x4 x5).w (argsR x0 x1 x2 x3 x4 x5).b (argsR x0 x1 x2 x3 x4 x5).g h t d := by
  rw [val_main_v70_apply, val_main_v66_apply, val_main_v65_apply]
  have e : idx_main_v65 (ix3 (sq p) (sr p t) (chan h d)) = ix3 (sq p) (sr p t) 0 := by blk_ext
  rw [e, v61_at x0 x1 x2 x3 x4 x5, v53_at x0 x1 x2 x3 x4 x5, v3_at x0 x1 x2 x3 x4 x5]
  rfl

theorem v74_at (p : Fin 32) (t : Fin 128) (h : Fin 8) (d : Fin 128) :
    val_main_v74 (F := Ideal) x0 x5 (ix3 (sq p) (sr p t) (chan h d))
      = (argsR x0 x1 x2 x3 x4 x5).y p h t d * (argsR x0 x1 x2 x3 x4 x5).o h d := by
  rw [val_main_v74_apply, v73_at x0 x1 x2 x3 x4 x5, v3_at x0 x1 x2 x3 x4 x5]
  rfl

theorem v83_at (p : Fin 32) (t : Fin 128) :
    val_main_v83 (F := Ideal) x0 x1 x2 x3 x4 x5 (ix3 (sq p) (sr p t) 0)
      = thrS (gd (argsR x0 x1 x2 x3 x4 x5) p)
          (fun h t d => (argsR x0 x1 x2 x3 x4 x5).y p h t d * (argsR x0 x1 x2 x3 x4 x5).o h d) t := by
  rw [val_main_v83_apply, val_main_v81_apply, val_main_v78_apply, val_main_v77_apply, val_main_v82_apply,
    val_main_cst_13_apply, val_main_cst_12_apply, v64_at x0 x1 x2 x3 x4 x5]
  show Ideal.div ((Ideal.ofBits .f32 0x00000000#32 + _) * _) _ = _
  rw [Ideal.ofBits_zero_f32, zero_add, sum_chan]
  refine (div_1024 _).trans ?_
  unfold thrS
  congr 2
  refine Finset.sum_congr rfl fun h _ => Finset.sum_congr rfl fun d _ => ?_
  rw [val_main_v76_apply]
  have e : idx_main_v77 (idx_main_v78 (ix3 (sq p) (sr p t) 0)) (chan h d) = ix3 (sq p) (sr p t) (chan h d) := by blk_ext
  rw [e, v53_at x0 x1 x2 x3 x4 x5, v74_at x0 x1 x2 x3 x4 x5]
  rfl

theorem v85_at (p : Fin 32) (t : Fin 128) (j : Fin 1024) :
    val_main_v85 (F := Ideal) x0 x1 x2 x3 x4 x5 (ix3 (sq p) (sr p t) j)
      = thrS (gd (argsR x0 x1 x2 x3 x4 x5) p)
          (fun h t d => (argsR x0 x1 x2 x3 x4 x5).y p h t d * (argsR x0 x1 x2 x3 x4 x5).o h d) t := by
  rw [val_main_v85_apply, val_main_v84_apply, val_main_cst_14_apply, Fin.sum_univ_one]
  have e : idx_main_v84 (idx_main_v85 (ix3 (sq p) (sr p t) j)) 0 = ix3 (sq p) (sr p t) 0 := by blk_ext
  rw [e, v83_at]
  show Ideal.ofBits .f32 0x00000000#32 + _ = _
  rw [Ideal.ofBits_zero_f32, zero_add]

theorem v89_at (p : Fin 32) (t : Fin 128) (h : Fin 8) (d : Fin 128) :
    val_main_v89 (F := Ideal) x0 x1 x2 x3 x4 x5 (ix3 (sq p) (sr p t) (chan h d))
      = dgd (argsR x0 x1 x2 x3 x4 x5) p h t d := by
  rw [val_main_v89_apply, val_main_v87_apply, val_main_v88_apply, val_main_v80_apply, val_main_v86_apply,
    val_main_v79_apply]
  have e : idx_main_v79 (ix3 (sq p) (sr p t) (chan h d)) = ix3 (sq p) (sr p t) 0 := by blk_ext
  rw [e, v61_at x0 x1 x2 x3 x4 x5, v74_at x0 x1 x2 x3 x4 x5, v53_at x0 x1 x2 x3 x4 x5, v85_at]
  rfl

/-! ## The gate -/

theorem v91_at (p : Fin 32) (t : Fin 128) (h : Fin 8) (d : Fin 128) :
    val_main_v91 (F := Ideal) x0 x1 x2 x3 x4 x5 (ix3 (sq p) (sr p t) (chan h d))
      = dgd (argsR x0 x1 x2 x3 x4 x5) p h t d * svS ((argsR x0 x1 x2 x3 x4 x5).v p) (argsR x0 x1 x2 x3 x4 x5).w
          (argsR x0 x1 x2 x3 x4 x5).b (argsR x0 x1 x2 x3 x4 x5).g h t d := by
  rw [val_main_v91_apply, v89_at, v52_at x0 x1 x2 x3 x4 x5]
  rfl

theorem v92_at (p : Fin 32) (t : Fin 128) (h : Fin 8) (d : Fin 128) :
    val_main_v92 (F := Ideal) x0 x1 x2 x3 x4 x5 (ix5 (sq p) (ck p) t h d) = dsv (argsR x0 x1 x2 x3 x4 x5) p h t d := by
  rw [val_main_v92_apply]
  have e : idx_main_v92 (ix5 (sq p) (ck p) t h d) = ix3 (sq p) (sr p t) (chan h d) := by blk_ext
  rw [e, val_main_v90_apply, v22_at x0 x1 x2 x3 x4 x5, v89_at]
  rfl

theorem v99_at (p : Fin 32) (t : Fin 128) (h : Fin 8) (d : Fin 128) :
    val_main_v99 (F := Ideal) x0 x1 x2 x3 x4 x5 (ix5 h (sq p) (ck p) d t) = dsv (argsR x0 x1 x2 x3 x4 x5) p h t d := by
  rw [val_main_v99_apply]
  have e : idx_main_v99 (ix5 h (sq p) (ck p) d t) = ix5 (sq p) (ck p) t h d := by blk_ext
  rw [e, v92_at]

theorem v104_at (p : Fin 32) (s : Fin 128) (h : Fin 8) (d : Fin 128) :
    val_main_v104 (F := Ideal) x0 x1 x2 x3 x4 x5 (ix3 (sq p) (sr p s) (chan h d))
      = dvn (argsR x0 x1 x2 x3 x4 x5) p h s d := by
  rw [val_main_v104_apply, val_main_v102_apply, val_main_v101_apply]
  refine Finset.sum_congr rfl fun t _ => ?_
  have el : lidx_main_v101 (idx_main_v102 (idx_main_v104 (ix3 (sq p) (sr p s) (chan h d)))) t
      = ix5 h (sq p) (ck p) d t := by blk_ext
  have er : ridx_main_v101 (idx_main_v102 (idx_main_v104 (ix3 (sq p) (sr p s) (chan h d)))) t = ix3 h t s := by blk_ext
  rw [el, er, v99_at, v44_0_at x0 x1 x2 x3 x4 x5, mul_comm]

/-! ## The gate's input -/

theorem v109_at (p : Fin 32) (t : Fin 128) (h : Fin 8) (d : Fin 128) :
    val_main_v109 (F := Ideal) x0 x1 x2 x3 x4 x5 (ix3 (sq p) (sr p t) (chan h d))
      = dvn (argsR x0 x1 x2 x3 x4 x5) p h t d * (argsR x0 x1 x2 x3 x4 x5).g h d := by
  rw [val_main_v109_apply, v104_at, v108_at x0 x1 x2 x3 x4 x5]
  rfl

theorem v118_at (p : Fin 32) (t : Fin 128) :
    val_main_v118 (F := Ideal) x0 x1 x2 x3 x4 x5 (ix3 (sq p) (sr p t) 0)
      = thrS (gelT ((argsR x0 x1 x2 x3 x4 x5).v p))
          (fun h t d => dvn (argsR x0 x1 x2 x3 x4 x5) p h t d * (argsR x0 x1 x2 x3 x4 x5).g h d) t := by
  rw [val_main_v118_apply, val_main_v116_apply, val_main_v113_apply, val_main_v112_apply, val_main_v117_apply,
    val_main_cst_21_apply, val_main_cst_20_apply, v34_at x0 x1 x2 x3 x4 x5]
  show Ideal.div ((Ideal.ofBits .f32 0x00000000#32 + _) * _) _ = _
  rw [Ideal.ofBits_zero_f32, zero_add, sum_chan]
  refine (div_1024 _).trans ?_
  unfold thrS
  congr 2
  refine Finset.sum_congr rfl fun h _ => Finset.sum_congr rfl fun d _ => ?_
  rw [val_main_v111_apply]
  have e : idx_main_v112 (idx_main_v113 (ix3 (sq p) (sr p t) 0)) (chan h d) = ix3 (sq p) (sr p t) (chan h d) := by blk_ext
  rw [e, v23_at x0 x1 x2 x3 x4 x5, v109_at]
  rfl

theorem v120_at (p : Fin 32) (t : Fin 128) (j : Fin 1024) :
    val_main_v120 (F := Ideal) x0 x1 x2 x3 x4 x5 (ix3 (sq p) (sr p t) j)
      = thrS (gelT ((argsR x0 x1 x2 x3 x4 x5).v p))
          (fun h t d => dvn (argsR x0 x1 x2 x3 x4 x5) p h t d * (argsR x0 x1 x2 x3 x4 x5).g h d) t := by
  rw [val_main_v120_apply, val_main_v119_apply, val_main_cst_22_apply, Fin.sum_univ_one]
  have e : idx_main_v119 (idx_main_v120 (ix3 (sq p) (sr p t) j)) 0 = ix3 (sq p) (sr p t) 0 := by blk_ext
  rw [e, v118_at]
  show Ideal.ofBits .f32 0x00000000#32 + _ = _
  rw [Ideal.ofBits_zero_f32, zero_add]

theorem v124_at (p : Fin 32) (t : Fin 128) (h : Fin 8) (d : Fin 128) :
    val_main_v124 (F := Ideal) x0 x1 x2 x3 x4 x5 (ix3 (sq p) (sr p t) (chan h d))
      = davS ((argsR x0 x1 x2 x3 x4 x5).u p) ((argsR x0 x1 x2 x3 x4 x5).v p) ((argsR x0 x1 x2 x3 x4 x5).y p)
          (argsR x0 x1 x2 x3 x4 x5).w (argsR x0 x1 x2 x3 x4 x5).b (argsR x0 x1 x2 x3 x4 x5).g
          (argsR x0 x1 x2 x3 x4 x5).o h t d := by
  rw [val_main_v124_apply, val_main_v122_apply, val_main_v123_apply, val_main_v115_apply, val_main_v121_apply,
    val_main_v114_apply]
  have e : idx_main_v114 (ix3 (sq p) (sr p t) (chan h d)) = ix3 (sq p) (sr p t) 0 := by blk_ext
  rw [e, v31_at x0 x1 x2 x3 x4 x5, v109_at, v23_at x0 x1 x2 x3 x4 x5, v120_at]
  rfl

/-! ## The projection's cotangent -/

theorem v136_at (p : Fin 32) (t : Fin 128) (j : Fin 2048) :
    val_main_v136 (F := Ideal) x0 x1 x2 x3 x4 x5 (ix3 (sq p) (sr p t) j)
      = dgelS (x1 (ix2 (row p t) ⟨j, by omega⟩)) (val_main_v125 (F := Ideal) x0 x1 x2 x3 x4 x5 (ix3 (sq p) (sr p t) j)) := by
  rw [val_main_v136_apply, val_main_v133_apply, val_main_v132_apply, val_main_v130_apply, val_main_v129_apply,
    val_main_v128_apply, val_main_cst_23_apply, val_main_v126_apply, val_main_v131_apply, val_main_cst_24_apply,
    val_main_v135_apply, val_main_v134_apply, val_main_cst_25_apply, val_main_v127_apply, val_main_v20_apply,
    val_main_v19_apply, val_main_v18_apply, val_main_v13_apply, val_main_v12_apply, val_main_cst_apply, val_main_v17_apply,
    val_main_v16_apply, val_main_v14_apply, val_main_v15_apply, val_main_cst_0_apply, v1_at]
  exact dgel_ref _ _

theorem v125_left (p : Fin 32) (t : Fin 128) (h : Fin 8) (d : Fin 128) :
    val_main_v125 (F := Ideal) x0 x1 x2 x3 x4 x5 (ix3 (sq p) (sr p t) ⟨128 * h + d, by omega⟩)
      = val_main_v91 (F := Ideal) x0 x1 x2 x3 x4 x5 (ix3 (sq p) (sr p t) (chan h d)) := by
  unfold val_main_v125
  refine concatenate_pair_apply_left _ _ _ _ _ (by rfl) _ fun b => ?_
  fin_cases b <;> rfl

theorem v125_right (p : Fin 32) (t : Fin 128) (h : Fin 8) (d : Fin 128) :
    val_main_v125 (F := Ideal) x0 x1 x2 x3 x4 x5 (ix3 (sq p) (sr p t) ⟨1024 + (128 * h + d), by omega⟩)
      = val_main_v124 (F := Ideal) x0 x1 x2 x3 x4 x5 (ix3 (sq p) (sr p t) (chan h d)) := by
  unfold val_main_v125
  refine concatenate_pair_apply_right _ _ _ _ _ (by rfl) (by rfl) _ (fun b hb => ?_) ?_
  · fin_cases b
    · rfl
    · rfl
    · exact absurd rfl hb
  · show 128 * (h : ℕ) + d + 1024 = 1024 + (128 * (h : ℕ) + d)
    omega

end

end Cert.ReferenceIdeal.Chunk
-- ==== Proof.Results.lean ====
/-
  The reference's five results.
-/
module

public import proofs.«01_k».proof.Proof.Cotangents

@[expose] public section

set_option maxRecDepth 16384

noncomputable section

namespace Cert.ReferenceIdeal.Chunk

open Cert.ReferenceIdeal Cert.ReferenceIdeal.Gen Cert.ReferenceIdeal.Read Cert.Chunk Idealize.ShloMosaic
  Idealize.ShloMosaic.TcCoe Idealize.SL.Sem

theorem zero_bits : FloatOps.ofBits (F := Ideal) .f32 0x00000000#32 = (0 : EReal) := Ideal.ofBits_zero_f32

section
variable (x0 : FVec Ideal S4096x2048 .f32) (x1 : FVec Ideal S4096x5120 .f32) (x2 : FVec Ideal S2x8x128x128 .f32)
  (x3 : FVec Ideal S2x8x128 .f32) (x4 x5 : FVec Ideal S2x1024 .f32) (x6 : FVec Ideal S4096x5120 .bf16)

/-- The cotangent of the output's scale. -/
theorem result_o (h : Fin 8) (d : Fin 128) :
    val_main_v143 (F := Ideal) x0 x1 x2 x3 x4 (ix2 0 (chan h d)) = (argsR x0 x1 x2 x3 x4 x5).dO h d := by
  rw [val_main_v143_apply]
  have e : idx_main_v143 (ix2 0 (chan h d)) = ix1 (chan h d) := by blk_ext
  rw [e]
  unfold val_main_v75
  show Ideal.hostReduceAdd _ _ (FloatOps.ofBits (F := Ideal) .f32 0x00000000#32) _ = _
  rw [zero_bits]
  refine (sum_ones _ _).trans ?_
  rw [val_main_v72_apply]
  have e : idx_main_v72 (ix3 0 0 (chan h d)) = ix1 (chan h d) := by blk_ext
  rw [e]
  unfold val_main_v71
  show Ideal.hostReduceAdd _ _ (FloatOps.ofBits (F := Ideal) .f32 0x00000000#32) _ = _
  rw [zero_bits]
  refine (sum_tokens _ _).trans ?_
  exact Finset.sum_congr rfl fun p _ => Finset.sum_congr rfl fun t _ => v70_at x0 x1 x2 x3 x4 x5 p t h d

/-- The cotangent of the gate's scale. -/
theorem result_g (h : Fin 8) (d : Fin 128) :
    val_main_v142 (F := Ideal) x0 x1 x2 x3 x4 x5 (ix2 0 (chan h d)) = (argsR x0 x1 x2 x3 x4 x5).dg h d := by
  rw [val_main_v142_apply]
  have e : idx_main_v142 (ix2 0 (chan h d)) = ix1 (chan h d) := by blk_ext
  rw [e]
  unfold val_main_v110
  show Ideal.hostReduceAdd _ _ (FloatOps.ofBits (F := Ideal) .f32 0x00000000#32) _ = _
  rw [zero_bits]
  refine (sum_ones _ _).trans ?_
  rw [val_main_v107_apply]
  have e : idx_main_v107 (ix3 0 0 (chan h d)) = ix1 (chan h d) := by blk_ext
  rw [e]
  unfold val_main_v106
  show Ideal.hostReduceAdd _ _ (FloatOps.ofBits (F := Ideal) .f32 0x00000000#32) _ = _
  rw [zero_bits]
  refine (sum_tokens _ _).trans ?_
  refine Finset.sum_congr rfl fun p _ => Finset.sum_congr rfl fun t _ => ?_
  rw [val_main_v105_apply, v36_at x0 x1 x2 x3 x4 x5, v104_at]
  rfl

/-- The cotangent of the biases. -/
theorem result_b (h : Fin 8) (t : Fin 128) :
    val_main_v141 (F := Ideal) x0 x1 x2 x3 x4 x5 (ix2 t h) = (argsR x0 x1 x2 x3 x4 x5).db h t := by
  rw [val_main_v141_apply, val_main_v98_apply, val_main_v97_apply, val_main_cst_17_apply, Fin.sum_univ_one,
    val_main_v96_apply, zero_bits, zero_add]
  have e : idx_main_v96 (idx_main_v97 (idx_main_v98 (idx_main_v141 (ix2 t h))) 0) = ix2 t h := by blk_ext
  rw [e]
  unfold val_main_v95
  show Ideal.hostReduceAdd _ _ (FloatOps.ofBits (F := Ideal) .f32 0x00000000#32) _ = _
  rw [zero_bits]
  refine (sum_ones' _ _ _).trans ?_
  rw [val_main_v94_apply]
  have e : idx_main_v94 (ix5 0 0 t h 0) = ix2 t h := by blk_ext
  rw [e]
  unfold val_main_v93
  show Ideal.hostReduceAdd _ _ (FloatOps.ofBits (F := Ideal) .f32 0x00000000#32) _ = _
  rw [zero_bits]
  refine (sum_chunks _ _ _).trans ?_
  exact Finset.sum_congr rfl fun p _ => Finset.sum_congr rfl fun d _ => v92_at x0 x1 x2 x3 x4 x5 p t h d

/-- The cotangent of the weights. -/
theorem result_w (h : Fin 8) (t s : Fin 128) :
    val_main_v103 (F := Ideal) x0 x1 x2 x3 x4 x5 (ix3 h t s) = (argsR x0 x1 x2 x3 x4 x5).dw h t s := by
  rw [val_main_v103_apply, v44_1_at]
  unfold Args.dw
  by_cases hs : s ≤ t
  · rw [if_pos hs]
    unfold val_main_v100
    refine (dot_chunks _ _ h t s).trans ?_
    refine Finset.sum_congr rfl fun p _ => ?_
    rw [if_pos hs]
    refine Finset.sum_congr rfl fun d _ => ?_
    rw [v99_at, v40_at x0 x1 x2 x3 x4 x5]
  · rw [if_neg hs]
    refine Eq.trans ?_ (Finset.sum_eq_zero fun p _ => if_neg hs).symm
    rw [val_main_call2_v0_apply, val_main_call2_cst_apply]
    exact zero_bits

/-- The projection's cotangent, first half. -/
theorem result_u (p : Fin 32) (t : Fin 128) (h : Fin 8) (d : Fin 128) :
    val_main_v136 (F := Ideal) x0 x1 x2 x3 x4 x5 (ix3 (sq p) (sr p t) ⟨128 * h + d, by omega⟩)
      = (argsR x0 x1 x2 x3 x4 x5).du p h t d := by
  rw [v136_at, v125_left, v91_at]
  rfl

/-- The projection's cotangent, the gate's half. -/
theorem result_v (p : Fin 32) (t : Fin 128) (h : Fin 8) (d : Fin 128) :
    val_main_v136 (F := Ideal) x0 x1 x2 x3 x4 x5 (ix3 (sq p) (sr p t) ⟨1024 + (128 * h + d), by omega⟩)
      = (argsR x0 x1 x2 x3 x4 x5).dv p h t d := by
  rw [v136_at, v125_right, v124_at]
  rfl

/-- The reference's first result is the projection's cotangent beside what it was given. -/
theorem result_p (i : S4096x5120.Idx) :
    val_main_v140 (F := Ideal) x0 x1 x2 x3 x4 x5 x6 i
      = if h : (i 1 : ℕ) < 2048 then
          val_main_v136 (F := Ideal) x0 x1 x2 x3 x4 x5
            (ix3 (sq ⟨(i 0 : ℕ) / 128, by have h : (i 0 : ℕ) < 4096 := (i 0).isLt; omega⟩)
              (sr ⟨(i 0 : ℕ) / 128, by have h : (i 0 : ℕ) < 4096 := (i 0).isLt; omega⟩ ⟨(i 0 : ℕ) % 128, by omega⟩) ⟨(i 1 : ℕ), h⟩)
        else x6 i := by
  have h0 : (i 0 : ℕ) < 4096 := (i 0).isLt
  have h1 : (i 1 : ℕ) < 5120 := (i 1).isLt
  unfold val_main_v140
  split
  case isTrue h =>
    refine (concatenate_pair_apply_left _ _ _ _ _ (by rfl) (ix2 ⟨(i 0 : ℕ), h0⟩ ⟨(i 1 : ℕ), h⟩) fun b => ?_).trans ?_
    · fin_cases b <;> rfl
    · rw [val_main_v138_apply, val_main_v137_apply]
      refine congrArg (val_main_v136 (F := Ideal) x0 x1 x2 x3 x4 x5) ?_
      blk_ext
  case isFalse h =>
    refine (concatenate_pair_apply_right _ _ _ _ _ (by rfl) (by rfl)
      (ix2 ⟨(i 0 : ℕ), h0⟩ ⟨(i 1 : ℕ) - 2048, by omega⟩) (fun b hb => ?_) ?_).trans ?_
    · fin_cases b
      · rfl
      · exact absurd rfl hb
    · show (i 1 : ℕ) - 2048 + 2048 = (i 1 : ℕ)
      omega
    · rw [val_main_v139_apply]
      refine congrArg x6 ?_
      funext a
      apply Fin.ext
      match a with
      | ⟨0, _⟩ => rfl
      | ⟨1, _⟩ => show 2048 + ((i 1 : ℕ) - 2048) = (i 1 : ℕ); omega

end

end Cert.ReferenceIdeal.Chunk
-- ==== Proof.Equal.lean ====
/-
  The kernel's arrays are the reference's results.
-/
module

public import proofs.«01_k».proof.Proof.Arrays
public import proofs.«01_k».proof.Proof.Results

@[expose] public section

set_option maxRecDepth 16384

noncomputable section

namespace Cert.Chunk

open Cert.KernelIdeal Cert.KernelIdeal.Gen Cert.KernelIdeal.Chunk Idealize.ShloMosaic Idealize.ShloMosaic.TcCoe
  Idealize.SL.Sem
open Cert.ReferenceIdeal.Read (val_main_v103 val_main_v140 val_main_v141 val_main_v142 val_main_v143)
open Cert.ReferenceIdeal.Chunk (sq sr result_u result_v result_p result_w result_b result_g result_o)

variable (m : (ℓ : Loc nD τ sig) → Buf (Elt Ideal) ℓ) (c : Dev nD)

/-- The projection's cotangent. -/
theorem equal_p : val_main_v140 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = (dats m 0 c).arrAt 7 cfg0.N := by
  rw [array7]
  funext i
  have h0 : (i 0 : ℕ) < 4096 := (i 0).isLt
  refine (result_p _ _ _ _ _ _ _ i).trans ?_
  by_cases h : (i 1 : ℕ) < 2048
  · rw [dif_pos h, if_pos h]
    unfold dproj
    by_cases h' : (i 1 : ℕ) < 1024
    · rw [dif_pos h']
      refine Eq.trans ?_ (result_u _ _ _ _ _ _ _ _ _ _)
      refine congrArg _ (congrArg _ (Fin.ext ?_))
      show (i 1 : ℕ) = 128 * ((i 1 : ℕ) / 128) + (i 1 : ℕ) % 128
      omega
    · rw [dif_neg h']
      refine Eq.trans ?_ (result_v _ _ _ _ _ _ _ _ _ _)
      refine congrArg _ (congrArg _ (Fin.ext ?_))
      show (i 1 : ℕ) = 1024 + (128 * (((i 1 : ℕ) - 1024) / 128 % 8) + (i 1 : ℕ) % 128)
      omega
  · rw [dif_neg h, if_neg h]

/-- The weights'. -/
theorem equal_w : val_main_v103 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = (dats m 0 c).arrAt 8 cfg0.N := by
  funext (i : S8x128x128.Idx)
  rw [← ix3_eta i]
  exact (result_w _ _ _ _ _ _ _ _ _).trans (array8 m c _ _ _).symm

/-- The biases'. -/
theorem equal_b : val_main_v141 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = (dats m 0 c).arrAt 9 cfg0.N := by
  funext (i : S128x8.Idx)
  rw [← ix2_eta i]
  exact (result_b _ _ _ _ _ _ _ _).trans (array9 m c _ _).symm

/-- An index of a row of 1024 channels names a head and a channel of it. -/
theorem chan_eta (i : S1x1024.Idx) :
    i = ix2 0 (chan ⟨(i 1 : ℕ) / 128, by have h : (i 1 : ℕ) < 1024 := (i 1).isLt; omega⟩ ⟨(i 1 : ℕ) % 128, by omega⟩) := by
  have h0 : (i 0 : ℕ) < 1 := (i 0).isLt
  funext a
  apply Fin.ext
  match a with
  | ⟨0, _⟩ => show (i 0 : ℕ) = 0; omega
  | ⟨1, _⟩ => show (i 1 : ℕ) = 128 * ((i 1 : ℕ) / 128) + (i 1 : ℕ) % 128; omega

/-- The gate's scale's. -/
theorem equal_g : val_main_v142 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = (dats m 0 c).arrAt 10 cfg0.N := by
  funext (i : S1x1024.Idx)
  rw [chan_eta i]
  exact (result_g _ _ _ _ _ _ _ _).trans (array10 m c _ _).symm

/-- The output's scale's. -/
theorem equal_o : val_main_v143 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    = (dats m 0 c).arrAt 11 cfg0.N := by
  funext (i : S1x1024.Idx)
  rw [chan_eta i]
  exact (result_o _ _ _ _ _ (m ((c : Thread nD τ).loc main_arg5)) _ _).trans (array11 m c _ _).symm

end Cert.Chunk
-- ==== Proof.RefRun.lean ====
/-
  The reference's run: its results as the stages named in its reading, and its counters at zero.
-/
module

public import proofs.«01_k».proof.Proof.Gen.ReferenceIdeal.Run
public import proofs.«01_k».proof.Proof.Gen.ReferenceIdeal.Read
public import Idealize.ShloMosaic.Lib.Claim
public import Idealize.ShloMosaic.Lib.Quiescent

@[expose] public section

set_option maxRecDepth 16384

noncomputable section

namespace Cert.ReferenceIdeal.Chunk

open Cert.ReferenceIdeal Cert.ReferenceIdeal.Gen Cert.ReferenceIdeal.Read Idealize.ShloMosaic Idealize.ShloMosaic.TcCoe
  Idealize.SL.Sem

variable (m : (ℓ : Loc nD τ sig) → Buf (Elt Ideal) ℓ) (ρ : Dev nD → PrngReg)

/-- Every run ends with the results at the stages' values over the arguments. -/
theorem run_stages : θ_run (defs (F := Ideal)) (onTc (τ := τ) (main (F := Ideal))) ⟨m, fun _ => 0, ρ⟩ fun r => ∀ c : Dev nD,
    r.2.mem ((c.tc : Thread nD τ).loc main_v140) = val_main_v140 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
    ∧ r.2.mem ((c.tc : Thread nD τ).loc main_v103) = val_main_v103 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
    ∧ r.2.mem ((c.tc : Thread nD τ).loc main_v141) = val_main_v141 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
    ∧ r.2.mem ((c.tc : Thread nD τ).loc main_v142) = val_main_v142 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
    ∧ r.2.mem ((c.tc : Thread nD τ).loc main_v143) = val_main_v143 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run (defs (F := Ideal)) _ _).mono
    (fun _ h c => ⟨(h c).1.trans (val_main_v140_eq _), (h c).2.1.trans (val_main_v103_eq _),
      (h c).2.2.1.trans (val_main_v141_eq _), (h c).2.2.2.1.trans (val_main_v142_eq _),
      (h c).2.2.2.2.1.trans (val_main_v143_eq _), (h c).2.2.2.2.2⟩)
    (Cert.ReferenceIdeal.Value.run m ρ)

/-- Every run leaves the arguments as they were and every counter at zero. -/
theorem run_quiescent : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run (defs (F := Ideal)) _ _).mono
    (fun _ h => ⟨fun c => (h c).2.2.2.2.2, sem_eq_zero_of_no_sems (by decide) _⟩) (run_stages m ρ)

end Cert.ReferenceIdeal.Chunk
-- ==== Proof.Product.lean ====
/-
  A product of two matrices as a function of its index: both contracted along their columns, or both along their rows.
-/
module

public import Idealize.ShloMosaic.Lib.Pipeline.ValueKit
public import Idealize.ShloMosaic.Lib.Pointwise
public import Idealize.ShloMosaic.PureOps.Ideal.Laws

@[expose] public section

noncomputable section

namespace Cert.Product

open Idealize.ShloMosaic

variable {M N K : ℕ}

/-- The product of `x` with the transpose of `y`: rows against rows. -/
def rows (x : (⟨2, ![M, K]⟩ : Shape).Idx → EReal) (y : (⟨2, ![N, K]⟩ : Shape).Idx → EReal) :
    (⟨2, ![M, N]⟩ : Shape).Idx → EReal := fun i =>
  ∑ k : Fin K, x (ix2 ⟨(i 0).val, (i 0).isLt⟩ k) * y (ix2 ⟨(i 1).val, (i 1).isLt⟩ k)

/-- The product of the transpose of `x` with `y`: columns against columns. -/
def cols (x : (⟨2, ![K, M]⟩ : Shape).Idx → EReal) (y : (⟨2, ![K, N]⟩ : Shape).Idx → EReal) :
    (⟨2, ![M, N]⟩ : Shape).Idx → EReal := fun i =>
  ∑ k : Fin K, x (ix2 k ⟨(i 0).val, (i 0).isLt⟩) * y (ix2 k ⟨(i 1).val, (i 1).isLt⟩)

variable {M' N' : ℕ}

/-- Two such products agree at an index each if the rows that they read agree. -/
theorem rows_congr {x : (⟨2, ![M, K]⟩ : Shape).Idx → EReal} {y : (⟨2, ![N, K]⟩ : Shape).Idx → EReal}
    {x' : (⟨2, ![M', K]⟩ : Shape).Idx → EReal} {y' : (⟨2, ![N', K]⟩ : Shape).Idx → EReal}
    {i : (⟨2, ![M, N]⟩ : Shape).Idx} {i' : (⟨2, ![M', N']⟩ : Shape).Idx}
    (hx : ∀ k, x (ix2 ⟨(i 0).val, (i 0).isLt⟩ k) = x' (ix2 ⟨(i' 0).val, (i' 0).isLt⟩ k))
    (hy : ∀ k, y (ix2 ⟨(i 1).val, (i 1).isLt⟩ k) = y' (ix2 ⟨(i' 1).val, (i' 1).isLt⟩ k)) : rows x y i = rows x' y' i' :=
  Finset.sum_congr rfl fun k _ => congrArg₂ (· * ·) (hx k) (hy k)

/-- Two such products agree at an index each if the columns that they read agree. -/
theorem cols_congr {x : (⟨2, ![K, M]⟩ : Shape).Idx → EReal} {y : (⟨2, ![K, N]⟩ : Shape).Idx → EReal}
    {x' : (⟨2, ![K, M']⟩ : Shape).Idx → EReal} {y' : (⟨2, ![K, N']⟩ : Shape).Idx → EReal}
    {i : (⟨2, ![M, N]⟩ : Shape).Idx} {i' : (⟨2, ![M', N']⟩ : Shape).Idx}
    (hx : ∀ k, x (ix2 k ⟨(i 0).val, (i 0).isLt⟩) = x' (ix2 k ⟨(i' 0).val, (i' 0).isLt⟩))
    (hy : ∀ k, y (ix2 k ⟨(i 1).val, (i 1).isLt⟩) = y' (ix2 k ⟨(i' 1).val, (i' 1).isLt⟩)) : cols x y i = cols x' y' i' :=
  Finset.sum_congr rfl fun k _ => congrArg₂ (· * ·) (hx k) (hy k)

/-- Two matrices of as many rows, side by side. -/
def beside {M₁ M₂ : ℕ} (x : (⟨2, ![K, M₁]⟩ : Shape).Idx → EReal) (y : (⟨2, ![K, M₂]⟩ : Shape).Idx → EReal) :
    (⟨2, ![K, M₁ + M₂]⟩ : Shape).Idx → EReal := fun i =>
  if h : (i 1).val < M₁ then x (ix2 ⟨(i 0).val, (i 0).isLt⟩ ⟨(i 1).val, h⟩)
  else y (ix2 ⟨(i 0).val, (i 0).isLt⟩ ⟨(i 1).val - M₁, by have h' : (i 1).val < M₁ + M₂ := (i 1).isLt; omega⟩)

/-- A sum over 4096 terms is the sum over its two halves. -/
theorem halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- A product of columns of 4096 is the sum of the products of its two halves, read off blocks of 2048. -/
theorem cols_halves {x : (⟨2, ![4096, M]⟩ : Shape).Idx → EReal} {y : (⟨2, ![4096, N]⟩ : Shape).Idx → EReal}
    {a₀ a₁ : (⟨2, ![2048, M']⟩ : Shape).Idx → EReal} {b₀ b₁ : (⟨2, ![2048, N']⟩ : Shape).Idx → EReal}
    {i : (⟨2, ![M', N']⟩ : Shape).Idx} {i' : (⟨2, ![M, N]⟩ : Shape).Idx}
    (ha₀ : ∀ k : Fin 2048, a₀ (ix2 k ⟨(i 0).val, (i 0).isLt⟩) = x (ix2 ⟨k.val, by omega⟩ ⟨(i' 0).val, (i' 0).isLt⟩))
    (hb₀ : ∀ k : Fin 2048, b₀ (ix2 k ⟨(i 1).val, (i 1).isLt⟩) = y (ix2 ⟨k.val, by omega⟩ ⟨(i' 1).val, (i' 1).isLt⟩))
    (ha₁ : ∀ k : Fin 2048, a₁ (ix2 k ⟨(i 0).val, (i 0).isLt⟩) = x (ix2 ⟨2048 + k.val, by omega⟩ ⟨(i' 0).val, (i' 0).isLt⟩))
    (hb₁ : ∀ k : Fin 2048, b₁ (ix2 k ⟨(i 1).val, (i 1).isLt⟩) = y (ix2 ⟨2048 + k.val, by omega⟩ ⟨(i' 1).val, (i' 1).isLt⟩)) :
    cols a₀ b₀ i + cols a₁ b₁ i = cols x y i' := by
  unfold cols
  rw [halves]
  exact congrArg₂ (· + ·) (Finset.sum_congr rfl fun k _ => congrArg₂ (· * ·) (ha₀ k) (hb₀ k))
    (Finset.sum_congr rfl fun k _ => congrArg₂ (· * ·) (ha₁ k) (hb₁ k))

end Cert.Product

end
-- ==== Proof.DownW.lean ====
/-
  The product with the down projection, backward: the cotangent of the weights, accumulated over two halves of the rows.
-/
module

public import proofs.«01_k».proof.Proof.Product
public import proofs.«01_k».proof.Proof.Gen.DownWKernelIdeal.Value
public import proofs.«01_k».proof.Proof.Gen.DownWReferenceIdeal.Read
public import Idealize.ShloMosaic.Lib.Claim
public import Idealize.ShloMosaic.Lib.Quiescent

@[expose] public section

set_option maxRecDepth 16384

noncomputable section

namespace Cert.DownWKernelIdeal.Product

open Cert.DownWKernelIdeal Cert.DownWKernelIdeal.Gen Idealize.ShloMosaic Idealize.ShloMosaic.TcCoe Idealize.SL.Sem

variable (m : (ℓ : Loc nD τ sig) → Buf (Elt Ideal) ℓ)

theorem hz : (![0, 0] : Fin 2 → Nat) = fun _ => 0 := by decide

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

section
variable (c : Dev nD) (i : grid0.Coords) (a0 : Memref sig .tc .vmem S2048x1408 .bf16) (h0 : a0.IsWhole)
  (a1 : Memref sig .tc .vmem S2048x1024 .bf16) (h1 : a1.IsWhole) (a2 : Memref sig .tc .vmem S1408x1024 .bf16) (h2 : a2.IsWhole)
  (a3 : Memref sig .tc .vmem S1408x1024 .f32) (h3 : a3.IsWhole) (x0 : FVec Ideal S2048x1408 .bf16) (x1 : FVec Ideal S2048x1024 .bf16)

/-- The first half's point leaves its product in the accumulator. -/
theorem first (hc0 : cond0_0 i) (hc1 : ¬cond0_1 i) (hc2 : ¬cond0_2 i) :
    sout0_A_0 (F := Ideal) c i a0 h0 a1 h1 a2 h2 a3 h3 hc0 hc1 hc2 x0 x1 = Cert.Product.cols x0 x1 := by
  unfold sout0_A_0
  rw [View.read_writes_eq_canon _ _ _ (scover0_A_0 (F := Ideal) c i a0 h0 a1 h1 a2 h2 a3 h3 hc0 hc1 hc2 x0 x1)]
  unfold kernelRun0_A
  dsimp only
  sl_unfold_words
  rw [View.canon_unit_zero hz]
  unfold k0_pay2 k0_pay1
  simp only [View.readAt_eq_ld, h0.read_unread, h1.read_unread, View.ld_unit_zero (S := S2048x1408) hz,
    View.ld_unit_zero (S := S2048x1024) hz]
  rw [shapeCast_self]
  funext y
  pointwise [Cert.Product.cols]

/-- The second half's point adds its product to the accumulator and writes the sum. -/
theorem second (hc0 : ¬cond0_0 i) (hc1 : ¬cond0_1 i) (hc2 : cond0_2 i) (xs : FVec Ideal S1408x1024 .f32) :
    out0_B_2 (F := Ideal) c i a0 h0 a1 h1 a2 h2 a3 h3 hc0 hc1 hc2 x0 x1 xs = fun y => xs y + Cert.Product.cols x0 x1 y := by
  unfold out0_B_2
  rw [View.read_writes_eq_canon _ _ _ (cover0_B_2 (F := Ideal) c i a0 h0 a1 h1 a2 h2 a3 h3 hc0 hc1 hc2 x0 x1 xs)]
  unfold kernelRun0_B
  dsimp only
  sl_unfold_words
  rw [View.canon_unit_zero hz]
  unfold k0_pay4 k0_pay1
  simp only [View.readAt_eq_ld, h0.read_unread, h1.read_unread, h3.read_unread, View.ld_unit_zero (S := S2048x1408) hz,
    View.ld_unit_zero (S := S2048x1024) hz, View.ld_unit_zero (S := S1408x1024) hz]
  funext y
  pointwise [Cert.Product.cols]

end

/-- The array that the kernel leaves is the product. -/
theorem array (c : Dev nD) : (dats m 0 c).arrAt 2 cfg0.N
    = Cert.Product.cols (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hb : t.val - 1 < cfg0.N := Nat.lt_of_le_of_lt (Nat.sub_le _ _) t.isLt
  have h' : (t.val - 1) % 2 = 0 := by omega
  blk_simp
  rw [after0_2, outsAt0_B m c t (by omega) h, second, outsAt0_A m c ⟨t.val - 1, hb⟩ h' (by show ¬(t.val - 1) % 2 = 1; omega), first]
  have e0 := idx ⟨t.val - 1, hb⟩
  rw [show (t.val - 1) % 2 = 0 from h', show (t.val - 1) / 2 = t.val / 2 by omega] at e0
  have e1 := idx t
  rw [h] at e1
  refine Cert.Product.cols_halves (fun k => ?_) (fun k => ?_) (fun k => ?_) fun k => ?_
  · blk_ext [iblk, V, e0, e1]
  · blk_ext [iblk, V, e0, e1]
  · blk_ext [iblk, V, e0, e1]
  · blk_ext [iblk, V, e0, e1]

end Cert.DownWKernelIdeal.Product

namespace Cert.DownWReferenceIdeal.Product

open Cert.DownWReferenceIdeal Cert.DownWReferenceIdeal.Gen Cert.DownWReferenceIdeal.Read Idealize.ShloMosaic
  Idealize.ShloMosaic.TcCoe Idealize.SL.Sem

/-- The reference's result is the product. -/
theorem result (x0 : FVec Ideal S4096x2816 .bf16) (x1 : FVec Ideal S4096x1024 .bf16) :
    val_main_v7 (F := Ideal) x0 x1 = Cert.Product.cols x0 x1 := by
  funext i
  show val_main_v6 (F := Ideal) x0 x1 i = _
  rw [val_main_v6_apply, val_main_v5_apply]
  refine Finset.sum_congr rfl fun k _ => (mul_comm _ _).trans (congrArg₂ (· * ·) ?_ ?_)
  · show x0 _ = x0 _
    blk_ext
  · show x1 _ = x1 _
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v7)
        = Cert.Product.cols (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run (defs (F := Ideal)) _ _).mono (fun _ h => ⟨fun c => ⟨(h c).1.trans ((val_main_v7_eq _ _).trans (result _ _)), (h c).2⟩,
    sem_eq_zero_of_no_sems (by decide) _⟩) (Value.run m ρ)

end Cert.DownWReferenceIdeal.Product

end
-- ==== Proof.AdaW.lean ====
/-
  The product with a layer's modulation weights, backward: the weights' cotangent.
-/
module

public import proofs.«01_k».proof.Proof.Product
public import proofs.«01_k».proof.Proof.Gen.AdaWKernelIdeal.Value
public import proofs.«01_k».proof.Proof.Gen.AdaWReferenceIdeal.Read
public import Idealize.ShloMosaic.Lib.Claim
public import Idealize.ShloMosaic.Lib.Quiescent

@[expose] public section

set_option maxRecDepth 16384

noncomputable section

namespace Cert.AdaWKernelIdeal.Product

open Cert.AdaWKernelIdeal Cert.AdaWKernelIdeal.Gen Idealize.ShloMosaic Idealize.ShloMosaic.TcCoe Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem hz : (![0, 0] : Fin 2 → Nat) = fun _ => 0 := by decide

/-- A point's block is the product of the blocks that it reads. -/
theorem block (a : FVec Ideal S16x1024 .bf16) (b : FVec Ideal S16x768 .bf16) :
    out0_2 (F := Ideal) a b = Cert.Product.cols a b := by
  unfold out0_2
  rw [View.canon_unit_zero hz]
  unfold k0_pay1
  rw [View.ld_unit_zero (S := S16x1024) hz, View.ld_unit_zero (S := S16x768) hz]
  funext y
  pointwise [Cert.Product.cols]

/-- The array that the kernel leaves is the product. -/
theorem array (c : Dev nD) : (dats m 0 c).arrAt 2 cfg0.N
    = Cert.Product.cols (m ((c : Thread nD τ).loc main_arg0)) (m ((c : Thread nD τ).loc main_arg1)) := by
  refine (dats m 0 c).arrAt_eq_of_covers 2 _ (by decide +kernel) fun t hf y => ?_
  blk_simp
  rw [after0_2, block]
  refine Cert.Product.cols_congr (fun k => ?_) fun k => ?_
  · blk_ext [iblk, V, idx t]
  · blk_ext [iblk, V, idx t]

end Cert.AdaWKernelIdeal.Product

namespace Cert.AdaWReferenceIdeal.Product

open Cert.AdaWReferenceIdeal Cert.AdaWReferenceIdeal.Gen Cert.AdaWReferenceIdeal.Read Idealize.ShloMosaic
  Idealize.ShloMosaic.TcCoe Idealize.SL.Sem

/-- The reference's result is the product. -/
theorem result (x0 : FVec Ideal S16x1024 .bf16) (x1 : FVec Ideal S16x768 .bf16) :
    val_main_v5 (F := Ideal) x0 x1 = Cert.Product.cols x0 x1 := by
  funext i
  rw [val_main_v5_apply, val_main_v4_apply]
  refine Finset.sum_congr rfl fun k _ => (mul_comm _ _).trans (congrArg₂ (· * ·) ?_ ?_)
  · show x0 _ = x0 _
    blk_ext
  · show x1 _ = x1 _
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v5)
        = Cert.Product.cols (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run (defs (F := Ideal)) _ _).mono (fun _ h => ⟨fun c => ⟨(h c).1.trans ((val_main_v5_eq _ _).trans (result _ _)), (h c).2⟩,
    sem_eq_zero_of_no_sems (by decide) _⟩) (Value.run m ρ)

end Cert.AdaWReferenceIdeal.Product

end
-- ==== Proof.DownX.lean ====
/-
  The product with the down projection, backward: the cotangent of the activation.
-/
module

public import proofs.«01_k».proof.Proof.Product
public import proofs.«01_k».proof.Proof.Gen.DownXKernelIdeal.Value
public import proofs.«01_k».proof.Proof.Gen.DownXReferenceIdeal.Read
public import Idealize.ShloMosaic.Lib.Claim
public import Idealize.ShloMosaic.Lib.Quiescent

@[expose] public section

set_option maxRecDepth 16384

noncomputable section

namespace Cert.DownXKernelIdeal.Product

open Cert.DownXKernelIdeal Cert.DownXKernelIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem hz : (![0, 0] : Fin 2 → Nat) = fun _ => 0 := by decide

/-- A point's block is the product of the blocks that it reads. -/
theorem block (a : FVec Ideal S1024x1024 .bf16) (b : FVec Ideal S2816x1024 .bf16) :
    out0_2 (F := Ideal) a b = Cert.Product.rows a b := by
  unfold out0_2
  rw [View.canon_unit_zero hz]
  unfold k0_pay1
  rw [View.ld_unit_zero (S := S1024x1024) hz, View.ld_unit_zero (S := S2816x1024) hz]
  funext y
  pointwise [Cert.Product.rows]

/-- The array that the kernel leaves is the product. -/
theorem array (c : Dev nD) : (dats m 0 c).arrAt 2 cfg0.N
    = Cert.Product.rows (m ((c : Thread nD τ).loc main_arg0)) (m ((c : Thread nD τ).loc main_arg1)) := by
  refine (dats m 0 c).arrAt_eq_of_covers 2 _ (by decide +kernel) fun t hf y => ?_
  blk_simp
  rw [after0_2, block]
  refine Cert.Product.rows_congr (fun k => ?_) fun k => ?_
  · blk_ext [iblk, V, idx t]
  · blk_ext [iblk, V, idx t]

end Cert.DownXKernelIdeal.Product

namespace Cert.DownXReferenceIdeal.Product

open Cert.DownXReferenceIdeal Cert.DownXReferenceIdeal.Gen Cert.DownXReferenceIdeal.Read Idealize.ShloMosaic
  Idealize.ShloMosaic.TcCoe Idealize.SL.Sem

/-- The reference's result is the product. -/
theorem result (x0 : FVec Ideal S4096x1024 .bf16) (x1 : FVec Ideal S2816x1024 .bf16) :
    val_main_v6 (F := Ideal) x0 x1 = Cert.Product.rows x0 x1 := by
  funext i
  show val_main_v5 (F := Ideal) x0 x1 i = _
  rw [val_main_v5_apply]
  refine Finset.sum_congr rfl fun k _ => congrArg₂ (· * ·) ?_ ?_
  · show x0 _ = x0 _
    blk_ext
  · show x1 _ = x1 _
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v6)
        = Cert.Product.rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run (defs (F := Ideal)) _ _).mono (fun _ h => ⟨fun c => ⟨(h c).1.trans ((val_main_v6_eq _ _).trans (result _ _)), (h c).2⟩,
    sem_eq_zero_of_no_sems (by decide) _⟩) (Value.run m ρ)

end Cert.DownXReferenceIdeal.Product

end
-- ==== Proof.OutW.lean ====
/-
  The product with the output projection, backward: the cotangent of the weights, accumulated over two halves of the rows.
-/
module

public import proofs.«01_k».proof.Proof.Product
public import proofs.«01_k».proof.Proof.Gen.OutWKernelIdeal.Value
public import proofs.«01_k».proof.Proof.Gen.OutWReferenceIdeal.Read
public import Idealize.ShloMosaic.Lib.Claim
public import Idealize.ShloMosaic.Lib.Quiescent

@[expose] public section

set_option maxRecDepth 16384

noncomputable section

namespace Cert.OutWKernelIdeal.Product

open Cert.OutWKernelIdeal Cert.OutWKernelIdeal.Gen Idealize.ShloMosaic Idealize.ShloMosaic.TcCoe Idealize.SL.Sem

variable (m : (ℓ : Loc nD τ sig) → Buf (Elt Ideal) ℓ)

theorem hz : (![0, 0] : Fin 2 → Nat) = fun _ => 0 := by decide

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

section
variable (c : Dev nD) (i : grid0.Coords) (a0 : Memref sig .tc .vmem S2048x1024 .bf16) (h0 : a0.IsWhole)
  (a1 : Memref sig .tc .vmem S2048x1024 .bf16) (h1 : a1.IsWhole) (a2 : Memref sig .tc .vmem S1024x1024 .bf16) (h2 : a2.IsWhole)
  (a3 : Memref sig .tc .vmem S1024x1024 .f32) (h3 : a3.IsWhole) (x0 : FVec Ideal S2048x1024 .bf16) (x1 : FVec Ideal S2048x1024 .bf16)

/-- The first half's point leaves its product in the accumulator. -/
theorem first (hc0 : cond0_0 i) (hc1 : ¬cond0_1 i) (hc2 : ¬cond0_2 i) :
    sout0_A_0 (F := Ideal) c i a0 h0 a1 h1 a2 h2 a3 h3 hc0 hc1 hc2 x0 x1 = Cert.Product.cols x0 x1 := by
  unfold sout0_A_0
  rw [View.read_writes_eq_canon _ _ _ (scover0_A_0 (F := Ideal) c i a0 h0 a1 h1 a2 h2 a3 h3 hc0 hc1 hc2 x0 x1)]
  unfold kernelRun0_A
  dsimp only
  sl_unfold_words
  rw [View.canon_unit_zero hz]
  unfold k0_pay2 k0_pay1
  simp only [View.readAt_eq_ld, h0.read_unread, h1.read_unread,
    View.ld_unit_zero (S := S2048x1024) hz]
  rw [shapeCast_self]
  funext y
  pointwise [Cert.Product.cols]

/-- The second half's point adds its product to the accumulator and writes the sum. -/
theorem second (hc0 : ¬cond0_0 i) (hc1 : ¬cond0_1 i) (hc2 : cond0_2 i) (xs : FVec Ideal S1024x1024 .f32) :
    out0_B_2 (F := Ideal) c i a0 h0 a1 h1 a2 h2 a3 h3 hc0 hc1 hc2 x0 x1 xs = fun y => xs y + Cert.Product.cols x0 x1 y := by
  unfold out0_B_2
  rw [View.read_writes_eq_canon _ _ _ (cover0_B_2 (F := Ideal) c i a0 h0 a1 h1 a2 h2 a3 h3 hc0 hc1 hc2 x0 x1 xs)]
  unfold kernelRun0_B
  dsimp only
  sl_unfold_words
  rw [View.canon_unit_zero hz]
  unfold k0_pay4 k0_pay1
  simp only [View.readAt_eq_ld, h0.read_unread, h1.read_unread, h3.read_unread,
    View.ld_unit_zero (S := S2048x1024) hz, View.ld_unit_zero (S := S1024x1024) hz]
  funext y
  pointwise [Cert.Product.cols]

end

/-- The array that the kernel leaves is the product. -/
theorem array (c : Dev nD) : (dats m 0 c).arrAt 2 cfg0.N
    = Cert.Product.cols (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hb : t.val - 1 < cfg0.N := Nat.lt_of_le_of_lt (Nat.sub_le _ _) t.isLt
  have h' : (t.val - 1) % 2 = 0 := by omega
  blk_simp
  rw [after0_2, outsAt0_B m c t (by omega) h, second, outsAt0_A m c ⟨t.val - 1, hb⟩ h' (by show ¬(t.val - 1) % 2 = 1; omega), first]
  have e0 := idx ⟨t.val - 1, hb⟩
  rw [show (t.val - 1) % 2 = 0 from h', show (t.val - 1) / 2 = t.val / 2 by omega] at e0
  have e1 := idx t
  rw [h] at e1
  refine Cert.Product.cols_halves (fun k => ?_) (fun k => ?_) (fun k => ?_) fun k => ?_
  · blk_ext [iblk, V, e0, e1]
  · blk_ext [iblk, V, e0, e1]
  · blk_ext [iblk, V, e0, e1]
  · blk_ext [iblk, V, e0, e1]

end Cert.OutWKernelIdeal.Product

namespace Cert.OutWReferenceIdeal.Product

open Cert.OutWReferenceIdeal Cert.OutWReferenceIdeal.Gen Cert.OutWReferenceIdeal.Read Idealize.ShloMosaic
  Idealize.ShloMosaic.TcCoe Idealize.SL.Sem

/-- The reference's result is the product. -/
theorem result (x0 : FVec Ideal S4096x2048 .bf16) (x1 : FVec Ideal S4096x1024 .bf16) :
    val_main_v7 (F := Ideal) x0 x1 = Cert.Product.cols x0 x1 := by
  funext i
  show val_main_v6 (F := Ideal) x0 x1 i = _
  rw [val_main_v6_apply, val_main_v5_apply]
  refine Finset.sum_congr rfl fun k _ => (mul_comm _ _).trans (congrArg₂ (· * ·) ?_ ?_)
  · show x0 _ = x0 _
    blk_ext
  · show x1 _ = x1 _
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v7)
        = Cert.Product.cols (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run (defs (F := Ideal)) _ _).mono (fun _ h => ⟨fun c => ⟨(h c).1.trans ((val_main_v7_eq _ _).trans (result _ _)), (h c).2⟩,
    sem_eq_zero_of_no_sems (by decide) _⟩) (Value.run m ρ)

end Cert.OutWReferenceIdeal.Product

end
-- ==== Proof.OutX.lean ====
/-
  The product with the output projection, backward: the cotangent of the left factor.
-/
module

public import proofs.«01_k».proof.Proof.Product
public import proofs.«01_k».proof.Proof.Gen.OutXKernelIdeal.Value
public import proofs.«01_k».proof.Proof.Gen.OutXReferenceIdeal.Read
public import Idealize.ShloMosaic.Lib.Claim
public import Idealize.ShloMosaic.Lib.Quiescent

@[expose] public section

set_option maxRecDepth 16384

noncomputable section

namespace Cert.OutXKernelIdeal.Product

open Cert.OutXKernelIdeal Cert.OutXKernelIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem hz : (![0, 0] : Fin 2 → Nat) = fun _ => 0 := by decide

/-- A point's block is the product of the blocks that it reads. -/
theorem block (c : Dev nD) (i : grid0.Coords) (a0 : Memref sig .tc .vmem S1024x1024 .bf16) (h0 : a0.IsWhole)
    (a1 : Memref sig .tc .vmem S2048x1024 .bf16) (h1 : a1.IsWhole) (a2 : Memref sig .tc .vmem S1024x2048 .f32) (h2 : a2.IsWhole)
    (a : FVec Ideal S1024x1024 .bf16) (b : FVec Ideal S2048x1024 .bf16) :
    out0_A_2 (F := Ideal) c i a0 h0 a1 h1 a2 h2 a b = Cert.Product.rows a b := by
  unfold out0_A_2
  rw [View.read_writes_eq_canon _ _ _ (cover0_A_2 (F := Ideal) c i a0 h0 a1 h1 a2 h2 a b)]
  unfold kernelRun0_A
  dsimp only
  sl_unfold_words
  rw [View.canon_unit_zero hz]
  unfold k0_pay1
  simp only [View.readAt_eq_ld, h0.read_unread, h1.read_unread, View.ld_unit_zero (S := S1024x1024) hz,
    View.ld_unit_zero (S := S2048x1024) hz]
  funext y
  pointwise [Cert.Product.rows]

/-- The array that the kernel leaves is the product. -/
theorem array (c : Dev nD) : (dats m 0 c).arrAt 2 cfg0.N
    = Cert.Product.rows (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  rw [block]
  refine Cert.Product.rows_congr (fun k => ?_) fun k => ?_
  · blk_ext [iblk, V, idx t]
  · blk_ext [iblk, V, idx t]

end Cert.OutXKernelIdeal.Product

namespace Cert.OutXReferenceIdeal.Product

open Cert.OutXReferenceIdeal Cert.OutXReferenceIdeal.Gen Cert.OutXReferenceIdeal.Read Idealize.ShloMosaic
  Idealize.ShloMosaic.TcCoe Idealize.SL.Sem

/-- The reference's result is the product. -/
theorem result (x0 : FVec Ideal S4096x1024 .bf16) (x1 : FVec Ideal S2048x1024 .bf16) :
    val_main_v4 (F := Ideal) x0 x1 = Cert.Product.rows x0 x1 := by
  funext i
  rw [val_main_v4_apply]
  refine Finset.sum_congr rfl fun k _ => congrArg₂ (· * ·) ?_ ?_
  · show x0 _ = x0 _
    blk_ext
  · show x1 _ = x1 _
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v4)
        = Cert.Product.rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run (defs (F := Ideal)) _ _).mono (fun _ h => ⟨fun c => ⟨(h c).1.trans ((val_main_v4_eq _ _).trans (result _ _)), (h c).2⟩,
    sem_eq_zero_of_no_sems (by decide) _⟩) (Value.run m ρ)

end Cert.OutXReferenceIdeal.Product

end
-- ==== Proof.UpW.lean ====
/-
  The product with the up projection, backward: the cotangent of the weights, its first half of rows from the gate's
  cotangent and the second from the value's, each accumulated over two halves of the batch's rows.
-/
module

public import proofs.«01_k».proof.Proof.Product
public import proofs.«01_k».proof.Proof.Gen.UpWKernelIdeal.Value
public import proofs.«01_k».proof.Proof.Gen.UpWReferenceIdeal.Read
public import Idealize.ShloMosaic.Lib.Claim
public import Idealize.ShloMosaic.Lib.Quiescent

@[expose] public section

set_option maxRecDepth 16384

noncomputable section

namespace Cert.UpWKernelIdeal.Product

open Cert.UpWKernelIdeal Cert.UpWKernelIdeal.Gen Idealize.ShloMosaic Idealize.ShloMosaic.TcCoe Idealize.SL.Sem

variable (m : (ℓ : Loc nD τ sig) → Buf (Elt Ideal) ℓ)

theorem hz : (![0, 0] : Fin 2 → Nat) = fun _ => 0 := by decide

theorem idx : ∀ t : Fin cfg0.N, (t.val < 4 → win0_0.index t = ![t.val % 2, t.val / 2])
    ∧ (4 ≤ t.val → win0_1.index t = ![t.val % 2, t.val / 2 - 2]) ∧ win0_2.index t = ![t.val % 2, 0]
    ∧ win0_3.index t = ![t.val / 2, 0] :=
  (by decide +kernel : ∀ t : Fin grid0.N, _)

section
variable (c : Dev nD) (i : grid0.Coords) (a0 : Memref sig .tc .vmem S2048x1408 .bf16) (h0 : a0.IsWhole)
  (a1 : Memref sig .tc .vmem S2048x1408 .bf16) (h1 : a1.IsWhole)
  (a2 : Memref sig .tc .vmem S2048x1024 .bf16) (h2 : a2.IsWhole) (a3 : Memref sig .tc .vmem S1408x1024 .bf16) (h3 : a3.IsWhole)
  (a4 : Memref sig .tc .vmem S1408x1024 .f32) (h4 : a4.IsWhole) (x0 x1 : FVec Ideal S2048x1408 .bf16)
  (x2 : FVec Ideal S2048x1024 .bf16)

/-- Of a block of the gate's half, the first point leaves its product in the accumulator. -/
theorem first_gate (hc0 : cond0_0 i) (hc1 : cond0_1 i) (hc2 : ¬cond0_2 i) (hc3 : ¬cond0_3 i) (hc4 : ¬cond0_4 i) :
    sout0_A_0 (F := Ideal) c i a0 h0 a1 h1 a2 h2 a3 h3 a4 h4 hc0 hc1 hc2 hc3 hc4 x0 x1 x2 = Cert.Product.cols x0 x2 := by
  unfold sout0_A_0
  rw [View.read_writes_eq_canon _ _ _ (scover0_A_0 (F := Ideal) c i a0 h0 a1 h1 a2 h2 a3 h3 a4 h4 hc0 hc1 hc2 hc3 hc4 x0 x1 x2)]
  unfold kernelRun0_A
  dsimp only
  sl_unfold_words
  rw [View.canon_unit_zero hz]
  unfold k0_pay2 k0_pay1
  simp only [View.readAt_eq_ld, h0.read_unread, h2.read_unread, View.ld_unit_zero (S := S2048x1408) hz,
    View.ld_unit_zero (S := S2048x1024) hz]
  rw [shapeCast_self]
  funext y
  pointwise [Cert.Product.cols]

/-- The second point adds its product to the accumulator and writes the sum. -/
theorem second_gate (hc0 : cond0_0 i) (hc1 : ¬cond0_1 i) (hc2 : ¬cond0_2 i) (hc3 : cond0_3 i) (hc4 : ¬cond0_4 i) (xs : FVec Ideal S1408x1024 .f32) :
    out0_B_3 (F := Ideal) c i a0 h0 a1 h1 a2 h2 a3 h3 a4 h4 hc0 hc1 hc2 hc3 hc4 x0 x1 x2 xs
      = fun y => xs y + Cert.Product.cols x0 x2 y := by
  unfold out0_B_3
  rw [View.read_writes_eq_canon _ _ _ (cover0_B_3 (F := Ideal) c i a0 h0 a1 h1 a2 h2 a3 h3 a4 h4 hc0 hc1 hc2 hc3 hc4 x0 x1 x2 xs)]
  unfold kernelRun0_B
  dsimp only
  sl_unfold_words
  rw [View.canon_unit_zero hz]
  unfold k0_pay4 k0_pay1
  simp only [View.readAt_eq_ld, h0.read_unread, h2.read_unread, h4.read_unread, View.ld_unit_zero (S := S2048x1408) hz,
    View.ld_unit_zero (S := S2048x1024) hz, View.ld_unit_zero (S := S1408x1024) hz]
  funext y
  pointwise [Cert.Product.cols]

/-- Of a block of the value's half, the first point leaves its product in the accumulator. -/
theorem first_value (hc0 : ¬cond0_0 i) (hc4 : cond0_4 i) (hc5 : cond0_5 i) (hc6 : ¬cond0_6 i) (hc7 : ¬cond0_7 i) :
    sout0_C_0 (F := Ideal) c i a0 h0 a1 h1 a2 h2 a3 h3 a4 h4 hc0 hc4 hc5 hc6 hc7 x0 x1 x2 = Cert.Product.cols x1 x2 := by
  unfold sout0_C_0
  rw [View.read_writes_eq_canon _ _ _ (scover0_C_0 (F := Ideal) c i a0 h0 a1 h1 a2 h2 a3 h3 a4 h4 hc0 hc4 hc5 hc6 hc7 x0 x1 x2)]
  unfold kernelRun0_C
  dsimp only
  sl_unfold_words
  rw [View.canon_unit_zero hz]
  unfold k0_pay6 k0_pay5
  simp only [View.readAt_eq_ld, h1.read_unread, h2.read_unread, View.ld_unit_zero (S := S2048x1408) hz,
    View.ld_unit_zero (S := S2048x1024) hz]
  rw [shapeCast_self]
  funext y
  pointwise [Cert.Product.cols]

/-- The second point adds its product to the accumulator and writes the sum. -/
theorem second_value (hc0 : ¬cond0_0 i) (hc4 : cond0_4 i) (hc5 : ¬cond0_5 i) (hc6 : ¬cond0_6 i) (hc7 : cond0_7 i) (xs : FVec Ideal S1408x1024 .f32) :
    out0_D_3 (F := Ideal) c i a0 h0 a1 h1 a2 h2 a3 h3 a4 h4 hc0 hc4 hc5 hc6 hc7 x0 x1 x2 xs
      = fun y => xs y + Cert.Product.cols x1 x2 y := by
  unfold out0_D_3
  rw [View.read_writes_eq_canon _ _ _ (cover0_D_3 (F := Ideal) c i a0 h0 a1 h1 a2 h2 a3 h3 a4 h4 hc0 hc4 hc5 hc6 hc7 x0 x1 x2 xs)]
  unfold kernelRun0_D
  dsimp only
  sl_unfold_words
  rw [View.canon_unit_zero hz]
  unfold k0_pay8 k0_pay5
  simp only [View.readAt_eq_ld, h1.read_unread, h2.read_unread, h4.read_unread, View.ld_unit_zero (S := S2048x1408) hz,
    View.ld_unit_zero (S := S2048x1024) hz, View.ld_unit_zero (S := S1408x1024) hz]
  funext y
  pointwise [Cert.Product.cols]

end

/-- The array that the kernel leaves is the product. -/
theorem array (c : Dev nD) : (dats m 0 c).arrAt 3 cfg0.N
    = Cert.Product.cols (Cert.Product.beside (m ((c : Thread nD τ).loc main_arg0)) (m ((c : Thread nD τ).loc main_arg1)))
        (m ((c : Thread nD τ).loc main_arg2)) := by
  refine (dats m 0 c).arrAt_eq_of_covers 3 _ (by decide +kernel) fun t hf y => ?_
  have h : t.val % 2 = 1 := (flush0_3 t).mp hf
  have hb : t.val - 1 < cfg0.N := Nat.lt_of_le_of_lt (Nat.sub_le _ _) t.isLt
  have h' : (t.val - 1) % 2 = 0 := by omega
  have hd : (t.val - 1) / 2 = t.val / 2 := by omega
  have hy : (y 0).val < 1408 := (y 0).isLt
  obtain ⟨a, b, e2, e3⟩ := idx t
  obtain ⟨a', b', e2', -⟩ := idx ⟨t.val - 1, hb⟩
  dsimp only at a' b' e2'
  rw [h', hd] at a' b'
  rw [h'] at e2'
  rw [h] at a b e2
  have hi : ((win0_3.blk t).view.emb y 0).val = t.val / 2 * 1408 + (y 0).val := by
    show win0_3.index t (0 : Fin 2) * 1408 + 1 * (y 0).val = _
    rw [e3]
    show t.val / 2 * 1408 + 1 * (y 0).val = _
    omega
  blk_simp
  by_cases ht : t.val < 4
  · have e0 := a ht
    have e0' := a' (by omega)
    rw [after0_3, outsAt0_B m c t ht (by omega) h (by omega), second_gate,
      outsAt0_A m c ⟨t.val - 1, hb⟩ (by show t.val - 1 < 4; omega) h' (by show ¬(t.val - 1) % 2 = 1; omega)
        (by show ¬4 ≤ t.val - 1; omega), first_gate]
    refine Cert.Product.cols_halves (fun k => ?_) (fun k => ?_) (fun k => ?_) fun k => ?_
    · refine Eq.trans ?_ (dif_pos (by show ((win0_3.blk t).view.emb y 0).val < 2816; omega)).symm
      blk_ext [iblk, V, e0', e3]
    · blk_ext [iblk, V, e2', e3]
    · refine Eq.trans ?_ (dif_pos (by show ((win0_3.blk t).view.emb y 0).val < 2816; omega)).symm
      blk_ext [iblk, V, e0, e3]
    · blk_ext [iblk, V, e2, e3]
  · have e1 := b (by omega)
    have e1' := b' (by omega)
    rw [after0_3, outsAt0_D m c t ht (by omega) (by omega) h, second_value,
      outsAt0_C m c ⟨t.val - 1, hb⟩ (by show ¬t.val - 1 < 4; omega) (by show 4 ≤ t.val - 1; omega) h'
        (by show ¬(t.val - 1) % 2 = 1; omega), first_value]
    refine Cert.Product.cols_halves (fun k => ?_) (fun k => ?_) (fun k => ?_) fun k => ?_
    · refine Eq.trans ?_ (dif_neg (by show ¬((win0_3.blk t).view.emb y 0).val < 2816; omega)).symm
      blk_ext [iblk, V, e1', e3]
    · blk_ext [iblk, V, e2', e3]
    · refine Eq.trans ?_ (dif_neg (by show ¬((win0_3.blk t).view.emb y 0).val < 2816; omega)).symm
      blk_ext [iblk, V, e1, e3]
    · blk_ext [iblk, V, e2, e3]

end Cert.UpWKernelIdeal.Product

namespace Cert.UpWReferenceIdeal.Product

open Cert.UpWReferenceIdeal Cert.UpWReferenceIdeal.Gen Cert.UpWReferenceIdeal.Read Idealize.ShloMosaic
  Idealize.ShloMosaic.TcCoe Idealize.SL.Sem

/-- The concatenation puts the two side by side. -/
theorem concat (x0 x1 : FVec Ideal S4096x2816 .bf16) (i : S4096x5632.Idx) :
    val_main_v0 (F := Ideal) x0 x1 i = Cert.Product.beside (M₁ := 2816) (M₂ := 2816) x0 x1 i := by
  have h0 : (i 0).val < 4096 := (i 0).isLt
  have h1 : (i 1).val < 5632 := (i 1).isLt
  unfold val_main_v0 Cert.Product.beside
  split
  case isTrue h =>
    refine concatenate_pair_apply_left _ _ _ _ _ (by rfl) (ix2 ⟨(i 0 : ℕ), h0⟩ ⟨(i 1 : ℕ), h⟩) fun b => ?_
    fin_cases b <;> rfl
  case isFalse h =>
    refine concatenate_pair_apply_right _ _ _ _ _ (by rfl) (by rfl)
      (ix2 ⟨(i 0 : ℕ), h0⟩ ⟨(i 1 : ℕ) - 2816, by omega⟩) (fun b hb => ?_) ?_
    · fin_cases b
      · rfl
      · exact absurd rfl hb
    · show (i 1 : ℕ) - 2816 + 2816 = (i 1 : ℕ)
      omega

/-- The reference's result is the product. -/
theorem result (x0 x1 : FVec Ideal S4096x2816 .bf16) (x2 : FVec Ideal S4096x1024 .bf16) :
    val_main_v10 (F := Ideal) x0 x1 x2 = Cert.Product.cols (Cert.Product.beside x0 x1) x2 := by
  funext i
  rw [val_main_v10_apply]
  show val_main_v8 (F := Ideal) x0 x1 x2 _ = _
  rw [val_main_v8_apply, val_main_v7_apply]
  refine Finset.sum_congr rfl fun k _ => congrArg₂ (· * ·) ?_ ?_
  · refine (concat x0 x1 _).trans (congrArg (Cert.Product.beside (M₁ := 2816) (M₂ := 2816) x0 x1) ?_)
    blk_ext
  · show x2 _ = x2 _
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v10)
        = Cert.Product.cols (Cert.Product.beside (m ((c.tc : Thread nD τ).loc main_arg0)) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run (defs (F := Ideal)) _ _).mono (fun _ h => ⟨fun c => ⟨(h c).1.trans ((val_main_v10_eq _ _ _).trans (result _ _ _)), (h c).2⟩,
    sem_eq_zero_of_no_sems (by decide) _⟩) (Value.run m ρ)

end Cert.UpWReferenceIdeal.Product

end
-- ==== Proof.InW.lean ====
/-
  The product with the input projection, backward: the cotangent of the weights, accumulated over two halves of the rows.
-/
module

public import proofs.«01_k».proof.Proof.Product
public import proofs.«01_k».proof.Proof.Gen.InWKernelIdeal.Value
public import proofs.«01_k».proof.Proof.Gen.InWReferenceIdeal.Read
public import Idealize.ShloMosaic.Lib.Claim
public import Idealize.ShloMosaic.Lib.Quiescent

@[expose] public section

set_option maxRecDepth 16384

noncomputable section

namespace Cert.InWKernelIdeal.Product

open Cert.InWKernelIdeal Cert.InWKernelIdeal.Gen Idealize.ShloMosaic Idealize.ShloMosaic.TcCoe Idealize.SL.Sem

variable (m : (ℓ : Loc nD τ sig) → Buf (Elt Ideal) ℓ)

theorem hz : (![0, 0] : Fin 2 → Nat) = fun _ => 0 := by decide

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

section
variable (c : Dev nD) (i : grid0.Coords) (a0 : Memref sig .tc .vmem S2048x1280 .bf16) (h0 : a0.IsWhole)
  (a1 : Memref sig .tc .vmem S2048x1024 .bf16) (h1 : a1.IsWhole) (a2 : Memref sig .tc .vmem S1280x1024 .bf16) (h2 : a2.IsWhole)
  (a3 : Memref sig .tc .vmem S1280x1024 .f32) (h3 : a3.IsWhole) (x0 : FVec Ideal S2048x1280 .bf16) (x1 : FVec Ideal S2048x1024 .bf16)

/-- The first half's point leaves its product in the accumulator. -/
theorem first (hc0 : cond0_0 i) (hc1 : ¬cond0_1 i) (hc2 : ¬cond0_2 i) :
    sout0_A_0 (F := Ideal) c i a0 h0 a1 h1 a2 h2 a3 h3 hc0 hc1 hc2 x0 x1 = Cert.Product.cols x0 x1 := by
  unfold sout0_A_0
  rw [View.read_writes_eq_canon _ _ _ (scover0_A_0 (F := Ideal) c i a0 h0 a1 h1 a2 h2 a3 h3 hc0 hc1 hc2 x0 x1)]
  unfold kernelRun0_A
  dsimp only
  sl_unfold_words
  rw [View.canon_unit_zero hz]
  unfold k0_pay2 k0_pay1
  simp only [View.readAt_eq_ld, h0.read_unread, h1.read_unread, View.ld_unit_zero (S := S2048x1280) hz,
    View.ld_unit_zero (S := S2048x1024) hz]
  rw [shapeCast_self]
  funext y
  pointwise [Cert.Product.cols]

/-- The second half's point adds its product to the accumulator and writes the sum. -/
theorem second (hc0 : ¬cond0_0 i) (hc1 : ¬cond0_1 i) (hc2 : cond0_2 i) (xs : FVec Ideal S1280x1024 .f32) :
    out0_B_2 (F := Ideal) c i a0 h0 a1 h1 a2 h2 a3 h3 hc0 hc1 hc2 x0 x1 xs = fun y => xs y + Cert.Product.cols x0 x1 y := by
  unfold out0_B_2
  rw [View.read_writes_eq_canon _ _ _ (cover0_B_2 (F := Ideal) c i a0 h0 a1 h1 a2 h2 a3 h3 hc0 hc1 hc2 x0 x1 xs)]
  unfold kernelRun0_B
  dsimp only
  sl_unfold_words
  rw [View.canon_unit_zero hz]
  unfold k0_pay4 k0_pay1
  simp only [View.readAt_eq_ld, h0.read_unread, h1.read_unread, h3.read_unread, View.ld_unit_zero (S := S2048x1280) hz,
    View.ld_unit_zero (S := S2048x1024) hz, View.ld_unit_zero (S := S1280x1024) hz]
  funext y
  pointwise [Cert.Product.cols]

end

/-- The array that the kernel leaves is the product. -/
theorem array (c : Dev nD) : (dats m 0 c).arrAt 2 cfg0.N
    = Cert.Product.cols (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hb : t.val - 1 < cfg0.N := Nat.lt_of_le_of_lt (Nat.sub_le _ _) t.isLt
  have h' : (t.val - 1) % 2 = 0 := by omega
  blk_simp
  rw [after0_2, outsAt0_B m c t (by omega) h, second, outsAt0_A m c ⟨t.val - 1, hb⟩ h' (by show ¬(t.val - 1) % 2 = 1; omega), first]
  have e0 := idx ⟨t.val - 1, hb⟩
  rw [show (t.val - 1) % 2 = 0 from h', show (t.val - 1) / 2 = t.val / 2 by omega] at e0
  have e1 := idx t
  rw [h] at e1
  refine Cert.Product.cols_halves (fun k => ?_) (fun k => ?_) (fun k => ?_) fun k => ?_
  · blk_ext [iblk, V, e0, e1]
  · blk_ext [iblk, V, e0, e1]
  · blk_ext [iblk, V, e0, e1]
  · blk_ext [iblk, V, e0, e1]

end Cert.InWKernelIdeal.Product

namespace Cert.InWReferenceIdeal.Product

open Cert.InWReferenceIdeal Cert.InWReferenceIdeal.Gen Cert.InWReferenceIdeal.Read Idealize.ShloMosaic
  Idealize.ShloMosaic.TcCoe Idealize.SL.Sem

/-- The reference's result is the product. -/
theorem result (x0 : FVec Ideal S4096x5120 .bf16) (x1 : FVec Ideal S4096x1024 .bf16) :
    val_main_v9 (F := Ideal) x0 x1 = Cert.Product.cols x0 x1 := by
  funext i
  rw [val_main_v9_apply]
  show val_main_v7 (F := Ideal) x0 x1 _ = _
  rw [val_main_v7_apply, val_main_v6_apply]
  refine Finset.sum_congr rfl fun k _ => congrArg₂ (· * ·) ?_ ?_
  · show x0 _ = x0 _
    blk_ext
  · show x1 _ = x1 _
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v9)
        = Cert.Product.cols (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run (defs (F := Ideal)) _ _).mono (fun _ h => ⟨fun c => ⟨(h c).1.trans ((val_main_v9_eq _ _).trans (result _ _)), (h c).2⟩,
    sem_eq_zero_of_no_sems (by decide) _⟩) (Value.run m ρ)

end Cert.InWReferenceIdeal.Product

end
-- ==== Proof.Up.lean ====
/-
  The product with the up projection.
-/
module

public import proofs.«01_k».proof.Proof.Product
public import proofs.«01_k».proof.Proof.Gen.UpKernelIdeal.Value
public import proofs.«01_k».proof.Proof.Gen.UpReferenceIdeal.Read
public import Idealize.ShloMosaic.Lib.Claim
public import Idealize.ShloMosaic.Lib.Quiescent

@[expose] public section

set_option maxRecDepth 16384

noncomputable section

namespace Cert.UpKernelIdeal.Product

open Cert.UpKernelIdeal Cert.UpKernelIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val % 4, 0] ∧ win0_1.index t = ![t.val / 4, 0]
    ∧ win0_2.index t = ![t.val % 4, t.val / 4] :=
  (by decide +kernel : ∀ t : Fin grid0.N, _)

theorem hz : (![0, 0] : Fin 2 → Nat) = fun _ => 0 := by decide

/-- A point's block is the product of the blocks that it reads. -/
theorem block (a : FVec Ideal S1024x1024 .bf16) (b : FVec Ideal S2816x1024 .bf16) :
    out0_2 (F := Ideal) a b = Cert.Product.rows a b := by
  unfold out0_2
  rw [View.canon_unit_zero hz]
  unfold k0_pay1
  rw [View.ld_unit_zero (S := S1024x1024) hz, View.ld_unit_zero (S := S2816x1024) hz]
  funext y
  pointwise [Cert.Product.rows]

/-- The array that the kernel leaves is the product. -/
theorem array (c : Dev nD) : (dats m 0 c).arrAt 2 cfg0.N
    = Cert.Product.rows (m ((c : Thread nD τ).loc main_arg0)) (m ((c : Thread nD τ).loc main_arg1)) := by
  refine (dats m 0 c).arrAt_eq_of_covers 2 _ (by decide +kernel) fun t hf y => ?_
  blk_simp
  rw [after0_2, block]
  refine Cert.Product.rows_congr (fun k => ?_) fun k => ?_
  · blk_ext [iblk, V, idx t]
  · blk_ext [iblk, V, idx t]

end Cert.UpKernelIdeal.Product

namespace Cert.UpReferenceIdeal.Product

open Cert.UpReferenceIdeal Cert.UpReferenceIdeal.Gen Cert.UpReferenceIdeal.Read Idealize.ShloMosaic
  Idealize.ShloMosaic.TcCoe Idealize.SL.Sem

/-- The reference's result is the product. -/
theorem result (x0 : FVec Ideal S4096x1024 .bf16) (x1 : FVec Ideal S5632x1024 .bf16) :
    val_main_v4 (F := Ideal) x0 x1 = Cert.Product.rows x0 x1 := by
  funext i
  show val_main_v3 (F := Ideal) x0 x1 i = _
  rw [val_main_v3_apply]
  refine Finset.sum_congr rfl fun k _ => congrArg₂ (· * ·) ?_ ?_
  · show x0 _ = x0 _
    blk_ext
  · show val_main_v0 (F := Ideal) x1 _ = _
    rw [val_main_v0_apply]
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v4)
        = Cert.Product.rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run (defs (F := Ideal)) _ _).mono (fun _ h => ⟨fun c => ⟨(h c).1.trans ((val_main_v4_eq _ _).trans (result _ _)), (h c).2⟩,
    sem_eq_zero_of_no_sems (by decide) _⟩) (Value.run m ρ)

end Cert.UpReferenceIdeal.Product

end
-- ==== Proof.In.lean ====
/-
  The product with the input projection.
-/
module

public import proofs.«01_k».proof.Proof.Product
public import proofs.«01_k».proof.Proof.Gen.InKernelIdeal.Value
public import proofs.«01_k».proof.Proof.Gen.InReferenceIdeal.Read
public import Idealize.ShloMosaic.Lib.Claim
public import Idealize.ShloMosaic.Lib.Quiescent

@[expose] public section

set_option maxRecDepth 16384

noncomputable section

namespace Cert.InKernelIdeal.Product

open Cert.InKernelIdeal Cert.InKernelIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val % 4, 0] ∧ win0_1.index t = ![t.val / 4, 0]
    ∧ win0_2.index t = ![t.val % 4, t.val / 4] :=
  (by decide +kernel : ∀ t : Fin grid0.N, _)

theorem hz : (![0, 0] : Fin 2 → Nat) = fun _ => 0 := by decide

/-- A point's block is the product of the blocks that it reads. -/
theorem block (a : FVec Ideal S1024x1024 .bf16) (b : FVec Ideal S2560x1024 .bf16) :
    out0_2 (F := Ideal) a b = Cert.Product.rows a b := by
  unfold out0_2
  rw [View.canon_unit_zero hz]
  unfold k0_pay1
  rw [View.ld_unit_zero (S := S1024x1024) hz, View.ld_unit_zero (S := S2560x1024) hz]
  funext y
  pointwise [Cert.Product.rows]

/-- The array that the kernel leaves is the product. -/
theorem array (c : Dev nD) : (dats m 0 c).arrAt 2 cfg0.N
    = Cert.Product.rows (m ((c : Thread nD τ).loc main_arg0)) (m ((c : Thread nD τ).loc main_arg1)) := by
  refine (dats m 0 c).arrAt_eq_of_covers 2 _ (by decide +kernel) fun t hf y => ?_
  blk_simp
  rw [after0_2, block]
  refine Cert.Product.rows_congr (fun k => ?_) fun k => ?_
  · blk_ext [iblk, V, idx t]
  · blk_ext [iblk, V, idx t]

end Cert.InKernelIdeal.Product

namespace Cert.InReferenceIdeal.Product

open Cert.InReferenceIdeal Cert.InReferenceIdeal.Gen Cert.InReferenceIdeal.Read Idealize.ShloMosaic
  Idealize.ShloMosaic.TcCoe Idealize.SL.Sem

/-- The reference's result is the product. -/
theorem result (x0 : FVec Ideal S4096x1024 .bf16) (x1 : FVec Ideal S5120x1024 .bf16) :
    val_main_v3 (F := Ideal) x0 x1 = Cert.Product.rows x0 x1 := by
  funext i
  rw [val_main_v3_apply]
  refine Finset.sum_congr rfl fun k _ => congrArg₂ (· * ·) ?_ ?_
  · show x0 _ = x0 _
    blk_ext
  · show val_main_v0 (F := Ideal) x1 _ = _
    rw [val_main_v0_apply]
    blk_ext

/-- Every run of the reference ends with the product, the arguments kept and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v3)
        = Cert.Product.rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run (defs (F := Ideal)) _ _).mono (fun _ h => ⟨fun c => ⟨(h c).1.trans ((val_main_v3_eq _ _).trans (result _ _)), (h c).2⟩,
    sem_eq_zero_of_no_sems (by decide) _⟩) (Value.run m ρ)

end Cert.InReferenceIdeal.Product

end
-- ==== Proof.NormMath.lean ====
/-
  The backward pass of a scaled and shifted root-mean-square normalisation, one row of 1024 channels, in extended reals: the
  form with the normalised row and the form with the derivative of the factor, and that they agree. Nothing here speaks of
  a program.
-/
module

public import proofs.«01_k».proof.Proof.Math

@[expose] public section

noncomputable section

namespace Cert.Norm

open Cert.Chunk Idealize.ShloMosaic

/-- A number that is neither infinity. -/
def Finite (x : EReal) : Prop := ∃ r : ℝ, x = r

theorem Finite.mul {x y : EReal} : Finite x → Finite y → Finite (x * y) := by
  rintro ⟨a, rfl⟩ ⟨b, rfl⟩
  exact ⟨a * b, (EReal.coe_mul a b).symm⟩

theorem Finite.add {x y : EReal} : Finite x → Finite y → Finite (x + y) := by
  rintro ⟨a, rfl⟩ ⟨b, rfl⟩
  exact ⟨a + b, (EReal.coe_add a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s h e => rw [Finset.sum_insert h, Finset.sum_insert h, EReal.coe_add, e]

theorem Finite.sum {ι : Type*} (s : Finset ι) {f : ι → EReal} (h : ∀ i, Finite (f i)) : Finite (∑ i ∈ s, f i) := by
  choose r e using h
  exact ⟨∑ i ∈ s, r i, by rw [coe_sum]; exact Finset.sum_congr rfl fun i _ => e i⟩

/-- A finite factor goes into a finite sum. -/
theorem sum_mul_finite {ι : Type*} (s : Finset ι) {f : ι → EReal} {c : EReal} (h : ∀ i, Finite (f i)) (hc : Finite c) :
    (∑ i ∈ s, f i) * c = ∑ i ∈ s, f i * c := by
  choose r e using h
  obtain ⟨c, rfl⟩ := hc
  simp only [e, ← EReal.coe_mul, ← coe_sum, Finset.sum_mul]

theorem cMean_eq : cMean = ((1 / 1024 : ℝ) : EReal) := by
  simp [cMean, Ideal.ofBits, Ideal.ieee, -EReal.coe_mul]
  norm_num

theorem cNeg_eq : cNeg = ((-(1 / 2) : ℝ) : EReal) := by
  simp [cNeg, Ideal.ofBits, Ideal.ieee, -EReal.coe_mul]
  norm_num

theorem cOne_eq : cOne = ((1 : ℝ) : EReal) := by
  simp [cOne, Ideal.ofBits, Ideal.ieee, -EReal.coe_mul]
  norm_num

theorem div_1024 (x : EReal) : Ideal.div x (Ideal.ofBits .f32 0x44800000#32) = x * cMean := by
  have h : Ideal.ofBits .f32 0x44800000#32 = ((1024 : ℝ) : EReal) := by
    simp [Ideal.ofBits, Ideal.ieee, -EReal.coe_mul]
    norm_num
  rw [h, cMean_eq]
  unfold Ideal.div
  rw [if_neg (by norm_num), ← EReal.coe_inv, one_div]

theorem cEps_pos : ∃ e : ℝ, 0 < e ∧ cEps = e := by
  refine ⟨8796093 * (2 : ℝ) ^ (-43 : ℤ), by positivity, ?_⟩
  unfold cEps
  simp [Ideal.ofBits, Ideal.ieee, -EReal.coe_mul]

/-- A row. -/
abbrev Row := Fin 1024 → EReal

/-- The row's mean square, plus ε. -/
def msq (x : Row) : EReal := (∑ k, x k * x k) * cMean + cEps
/-- The factor of the normalisation. -/
def rinv (x : Row) : EReal := Ideal.rsqrt (msq x)
/-- The normalised row. -/
def xhat (x : Row) : Row := fun j => x j * rinv x

/-- The row's cotangent, from the normalised row, for the cotangent `h`, the scale `g` and the further factor `o`. -/
def back (x h g o : Row) : Row := fun j =>
  rinv x * (h j * (g j * o j) - xhat x j * ((∑ k, h k * (g k * o k) * xhat x k) * cMean))

/-- The part of it that goes through the factor. -/
def thr (x a : Row) : EReal := (∑ k, x k * a k) * (cNeg * Ideal.div (rinv x) (msq x)) * cMean
/-- The row's cotangent, as the derivative of the normalisation reads. -/
def deriv (x a : Row) : Row := fun j => a j * rinv x + x j * thr x a + thr x a * x j

/-- Of a row of reals the factor is a positive real, the inverse root of the mean square. -/
theorem rinv_real (r : Fin 1024 → ℝ) : ∃ z q : ℝ, msq (fun k => r k) = z ∧ rinv (fun k => r k) = q ∧ q * q * z = 1 := by
  obtain ⟨e, he, hε⟩ := cEps_pos
  have hm : msq (fun k => (r k : EReal)) = (((∑ k, r k * r k) * (1 / 1024) + e : ℝ) : EReal) := by
    unfold msq
    simp only [hε, cMean_eq, ← EReal.coe_mul, ← coe_sum, ← EReal.coe_add]
  have hz : 0 < (∑ k, r k * r k) * (1 / 1024) + e :=
    add_pos_of_nonneg_of_pos (mul_nonneg (Finset.sum_nonneg fun k _ => mul_self_nonneg _) (by norm_num)) he
  generalize (∑ k, r k * r k) * (1 / 1024) + e = z at hm hz
  refine ⟨z, (Real.sqrt z)⁻¹, hm, ?_, ?_⟩
  · unfold rinv
    rw [hm]
    show (if z < 0 then ⊥ else if z = 0 then ⊤ else (((Real.sqrt z)⁻¹ : ℝ) : EReal)) = _
    rw [if_neg (not_lt.2 hz.le), if_neg hz.ne']
  · have hs : Real.sqrt z ≠ 0 := (Real.sqrt_pos.2 hz).ne'
    have := Real.mul_self_sqrt hz.le
    field_simp
    rw [sq, this]

/-- A sum of squares one of which is infinite is infinite. -/
theorem sum_sq_top (x : Row) {j : Fin 1024} (hj : ¬Finite (x j)) : ∑ k, x k * x k = ⊤ := by
  have hn : ∀ k, 0 ≤ x k * x k := fun k => by
    induction x k with
    | bot => simp
    | top => simp
    | coe r => rw [← EReal.coe_mul]; exact_mod_cast mul_self_nonneg r
  have ht : x j * x j = ⊤ := by
    induction hx : x j with
    | bot => simp
    | top => simp
    | coe r => exact absurd ⟨r, hx⟩ hj
  refine top_le_iff.1 (ht ▸ ?_)
  exact Finset.single_le_sum (f := fun k => x k * x k) (fun k _ => hn k) (Finset.mem_univ j)

/-- Of a row with an infinite entry the factor is 0. -/
theorem rinv_infinite (x : Row) {j : Fin 1024} (hj : ¬Finite (x j)) : msq x = ⊤ ∧ rinv x = 0 := by
  obtain ⟨e, _, hε⟩ := cEps_pos
  have hm : msq x = ⊤ := by
    unfold msq
    rw [sum_sq_top x hj, hε, cMean_eq, EReal.top_mul_coe_of_pos (by norm_num), EReal.top_add_coe]
  refine ⟨hm, ?_⟩
  unfold rinv
  rw [hm]
  rfl

/-- The normalised row is finite, whatever the row. -/
theorem xhat_finite (x : Row) (j : Fin 1024) : Finite (xhat x j) := by
  unfold xhat
  by_cases h : ∀ k, Finite (x k)
  · choose r e using h
    obtain rfl : x = fun k => (r k : EReal) := funext e
    obtain ⟨z, q, _, hq, _⟩ := rinv_real r
    exact ⟨r j * q, by rw [hq, EReal.coe_mul]⟩
  · obtain ⟨k, hk⟩ := not_forall.1 h
    exact ⟨0, by rw [(rinv_infinite x hk).2, mul_zero]; rfl⟩

/-- The two forms agree, for finite cotangent and scales. -/
theorem deriv_eq_back (x h g o : Row) (hh : ∀ k, Finite (h k)) (hg : ∀ k, Finite (g k)) (ho : ∀ k, Finite (o k)) :
    deriv x (fun k => h k * o k * g k) = back x h g o := by
  by_cases hx : ∀ k, Finite (x k)
  · choose r er using hx
    choose a ea using hh
    choose b eb using hg
    choose c ec using ho
    obtain rfl : x = fun k => (r k : EReal) := funext er
    obtain ⟨z, q, hz, hq, e⟩ := rinv_real r
    have z0 : z ≠ 0 := fun h => by rw [h, mul_zero] at e; exact zero_ne_one e
    have hd : Ideal.div (q : EReal) (z : EReal) = ((q * z⁻¹ : ℝ) : EReal) := by
      unfold Ideal.div
      rw [if_neg (by exact_mod_cast z0), EReal.coe_mul, EReal.coe_inv]
    funext j
    unfold deriv back thr xhat
    simp only [hz, hq, hd, ea, eb, ec, cMean_eq, cNeg_eq, ← EReal.coe_mul, ← coe_sum, ← EReal.coe_add, ← EReal.coe_sub]
    refine congrArg _ ?_
    have es : ∑ k, a k * (b k * c k) * (r k * q) = (∑ k, r k * (a k * c k * b k)) * q := by
      rw [Finset.sum_mul]
      exact Finset.sum_congr rfl fun k _ => by ring
    have ei : z⁻¹ = q * q := by
      field_simp
      linarith
    rw [es, ei]
    ring
  · obtain ⟨k, hk⟩ := not_forall.1 hx
    obtain ⟨h1, h2⟩ := rinv_infinite x hk
    funext j
    unfold deriv back thr
    rw [h1, h2]
    have : Ideal.div (0 : EReal) ⊤ = 0 := by
      unfold Ideal.div
      rw [if_neg (by decide), zero_mul]
    simp [this]

end Cert.Norm
-- ==== Proof.UpDx.lean ====
/-
  The backward pass through the product with the up projection, the second normalisation with its scale and shift, and the
  gated residual: what it leaves, as functions of what it reads. Nothing here speaks of a program.
-/
module

public import proofs.«01_k».proof.Proof.NormMath
public import proofs.«01_k».proof.Proof.Product

@[expose] public section

noncomputable section

namespace Cert.UpDx

open Cert.Chunk Cert.Norm Idealize.ShloMosaic

/-- Two sequences of 2048 rows of 1024 channels. -/
abbrev Rows := (⟨2, ![4096, 1024]⟩ : Shape).Idx → EReal
/-- A row of 1024 channels for each of the two sequences. -/
abbrev Pair := (⟨3, ![2, 1, 1024]⟩ : Shape).Idx → EReal
/-- Half of the product's left factor. -/
abbrev Half := (⟨2, ![4096, 2816]⟩ : Shape).Idx → EReal
/-- The product's right factor. -/
abbrev Weights := (⟨2, ![5632, 1024]⟩ : Shape).Idx → EReal

/-- The sequence of a row. -/
abbrev seq (r : Fin 4096) : Fin 2 := ⟨r / 2048, by omega⟩
/-- Row `r` of sequence `s`. -/
abbrev at2 (s : Fin 2) (r : Fin 2048) : Fin 4096 := ⟨2048 * s + r, by omega⟩
/-- Row `p` of the tile `i` of 512 rows. -/
abbrev at8 (i : Fin 8) (p : Fin 512) : Fin 4096 := ⟨512 * i + p, by omega⟩
/-- Tile `i` of sequence `s`. -/
abbrev tile (s : Fin 2) (i : Fin 4) : Fin 8 := ⟨4 * s + i, by omega⟩
/-- The sequence of a tile. -/
abbrev seq8 (i : Fin 8) : Fin 2 := ⟨i / 4, by omega⟩

/-- A row of the product: the two halves of the left factor against the two halves of the weights. -/
def cot (x0 x1 : Half) (x2 : Weights) (r : Fin 4096) : Row := fun j =>
  (∑ k : Fin 2816, x0 (ix2 r k) * x2 (ix2 ⟨k, by omega⟩ j)) + ∑ k : Fin 2816, x1 (ix2 r k) * x2 (ix2 ⟨2816 + k, by omega⟩ j)

/-- A row of an array. -/
abbrev line (x : Rows) (r : Fin 4096) : Row := fun j => x (ix2 r j)
/-- A sequence's row. -/
abbrev own (x : Pair) (s : Fin 2) : Row := fun j => x (ix3 s 0 j)
/-- One and a sequence's scale. -/
abbrev more (x : Pair) (s : Fin 2) : Row := fun j => cOne + own x s j

section
variable (x0 x1 : Half) (x2 : Weights) (x3 x4 x5 : Rows) (x6 : Pair) (g : Row) (x8 : Pair)

/-- The cotangent of the normalisation's input, with the residual's. -/
def dx (r : Fin 4096) : Row := fun j => x3 (ix2 r j) + back (line x4 r) (cot x0 x1 x2 r) g (more x8 (seq r)) j
/-- What is summed over the rows for the cotangents of the two scales. -/
def cross (r : Fin 4096) : Row := fun j => cot x0 x1 x2 r j * xhat (line x4 r) j

/-- The first result: the cotangent of the residual stream. -/
def result0 : Rows := fun y => dx x0 x1 x2 x3 x4 g x8 ⟨(y 0).val, (y 0).isLt⟩ ⟨(y 1).val, (y 1).isLt⟩
/-- The second: that of the mixer's output. -/
def result1 : Rows := fun y => dx x0 x1 x2 x3 x4 g x8 ⟨(y 0).val, (y 0).isLt⟩ ⟨(y 1).val, (y 1).isLt⟩
  * own x6 (seq ⟨(y 0).val, (y 0).isLt⟩) ⟨(y 1).val, (y 1).isLt⟩
/-- A sequence's sum over its tiles. -/
def overSeq (f : Fin 8 → Row) : Pair := fun y => ∑ i : Fin 4, f (tile ⟨(y 0).val, (y 0).isLt⟩ i) ⟨(y 2).val, (y 2).isLt⟩
/-- The sum over all tiles. -/
def overAll (f : Fin 8 → Row) : (⟨2, ![1, 1024]⟩ : Shape).Idx → EReal := fun y => ∑ i : Fin 8, f i ⟨(y 1).val, (y 1).isLt⟩

/-- A tile's part of the gate's cotangent. -/
def part2 (i : Fin 8) : Row := fun j => ∑ p : Fin 512, dx x0 x1 x2 x3 x4 g x8 (at8 i p) j * x5 (ix2 (at8 i p) j)
/-- A tile's part of the learned scale's cotangent. -/
def part3 (i : Fin 8) : Row := fun j => (∑ p : Fin 512, cross x0 x1 x2 x4 (at8 i p) j) * more x8 (seq8 i) j
/-- A tile's part of the scale's cotangent. -/
def part4 (i : Fin 8) : Row := fun j => (∑ p : Fin 512, cross x0 x1 x2 x4 (at8 i p) j) * g j
/-- A tile's part of the shift's cotangent. -/
def part5 (i : Fin 8) : Row := fun j => ∑ p : Fin 512, cot x0 x1 x2 (at8 i p) j

end

/-! ## Sums over rows, by tiles -/

/-- A sum over rows by tiles. -/
theorem sum_tiles (a b : ℕ) (f : Fin (a * b) → EReal) :
    ∑ r, f r = ∑ i : Fin a, ∑ p : Fin b, f (finProdFinEquiv (i, p)) :=
  (Fintype.sum_equiv finProdFinEquiv (fun x => f (finProdFinEquiv x)) f fun _ => rfl).symm.trans (Fintype.sum_prod_type _)

/-- A sequence's rows by tiles. -/
theorem sum_seq (s : Fin 2) (f : Fin 4096 → EReal) :
    ∑ r : Fin 2048, f (at2 s r) = ∑ i : Fin 4, ∑ p : Fin 512, f (at8 (tile s i) p) := by
  refine (sum_tiles 4 512 fun r => f (at2 s r)).trans (Finset.sum_congr rfl fun i _ => Finset.sum_congr rfl fun p _ => ?_)
  refine congrArg f (Fin.ext ?_)
  show 2048 * s.val + (p.val + 512 * i.val) = 512 * (4 * s.val + i.val) + p.val
  omega

/-- All rows by tiles. -/
theorem sum_all (f : Fin 4096 → EReal) : ∑ s : Fin 2, ∑ r : Fin 2048, f (at2 s r) = ∑ i : Fin 8, ∑ p : Fin 512, f (at8 i p) := by
  refine Eq.trans ?_ ((sum_tiles 2 2048 f).symm.trans ((sum_tiles 8 512 f).trans ?_))
  · refine Finset.sum_congr rfl fun s _ => Finset.sum_congr rfl fun r _ => congrArg f (Fin.ext ?_)
    show 2048 * s.val + r.val = r.val + 2048 * s.val
    omega
  · refine Finset.sum_congr rfl fun i _ => Finset.sum_congr rfl fun p _ => congrArg f (Fin.ext ?_)
    show p.val + 512 * i.val = 512 * i.val + p.val
    omega

/-- A reduction over the sequences and their rows. -/
theorem reduce_rows (h : (⟨3, ![2, 2048, 1024]⟩ : Shape).ReducesTo [0, 1] ⟨1, ![1024]⟩)
    (y : FVec Ideal ⟨3, ![2, 2048, 1024]⟩ .f32) (j : Fin 1024) :
    Ideal.hostReduceAdd h y 0 (ix1 j) = ∑ s : Fin 2, ∑ r : Fin 2048, y (ix3 s r j) := by
  unfold Ideal.hostReduceAdd
  rw [zero_add]
  refine (Finset.sum_filter_eq_sum_of_fiber _ (fun k : Fin 2 × Fin 2048 => ix3 k.1 k.2 j) ?_ ?_ y).trans
    (Fintype.sum_prod_type _)
  · rintro ⟨s, r⟩ ⟨s', r'⟩ e
    exact Prod.ext (congrFun e 0) (congrFun e 1)
  · intro i
    constructor
    · intro e
      refine ⟨(i 0, i 1), ?_⟩
      funext a
      match a with
      | ⟨0, _⟩ => rfl
      | ⟨1, _⟩ => rfl
      | ⟨2, _⟩ => exact Fin.ext (congrArg Fin.val (congrFun e 0)).symm
    · rintro ⟨⟨s, r⟩, rfl⟩
      funext b
      match b with
      | ⟨0, _⟩ => rfl

/-- A reduction over two axes of extent 1. -/
theorem reduce_ones (h : (⟨3, ![1, 1, 1024]⟩ : Shape).ReducesTo [0, 1] ⟨1, ![1024]⟩)
    (y : FVec Ideal ⟨3, ![1, 1, 1024]⟩ .f32) (j : Fin 1024) : Ideal.hostReduceAdd h y 0 (ix1 j) = y (ix3 0 0 j) := by
  unfold Ideal.hostReduceAdd
  rw [zero_add]
  refine (Finset.sum_filter_eq_sum_of_fiber _ (fun _ : Fin 1 => ix3 0 0 j) ?_ ?_ y).trans (Fin.sum_univ_one _)
  · intro a b _
    exact Subsingleton.elim _ _
  · intro i
    constructor
    · intro e
      refine ⟨0, ?_⟩
      funext a
      match a with
      | ⟨0, _⟩ => exact Subsingleton.elim (α := Fin 1) _ _
      | ⟨1, _⟩ => exact Subsingleton.elim (α := Fin 1) _ _
      | ⟨2, _⟩ => exact Fin.ext (congrArg Fin.val (congrFun e 0)).symm
    · rintro ⟨_, rfl⟩
      funext b
      match b with
      | ⟨0, _⟩ => rfl

/-! ## Finiteness -/

theorem cot_finite {x0 x1 : Half} {x2 : Weights} (h0 : ∀ y, Finite (x0 y)) (h1 : ∀ y, Finite (x1 y)) (h2 : ∀ y, Finite (x2 y))
    (r : Fin 4096) (j : Fin 1024) : Finite (cot x0 x1 x2 r j) :=
  (Finite.sum _ fun _ => (h0 _).mul (h2 _)).add (Finite.sum _ fun _ => (h1 _).mul (h2 _))

theorem more_finite {x8 : Pair} (h8 : ∀ y, Finite (x8 y)) (s : Fin 2) (j : Fin 1024) : Finite (more x8 s j) :=
  Finite.add ⟨1, cOne_eq⟩ (h8 _)

theorem cross_finite {x0 x1 : Half} {x2 : Weights} (x4 : Rows) (h0 : ∀ y, Finite (x0 y)) (h1 : ∀ y, Finite (x1 y))
    (h2 : ∀ y, Finite (x2 y)) (r : Fin 4096) (j : Fin 1024) : Finite (cross x0 x1 x2 x4 r j) :=
  (cot_finite h0 h1 h2 r j).mul (xhat_finite _ j)

/-! ## The accumulators -/

/-- An accumulator that starts anew at every fourth tile holds, at a sequence's last tile, the sequence's sum. -/
theorem acc_four (A : (n : ℕ) → n < 8 → EReal) (f : Fin 8 → EReal)
    (h : ∀ n (hn : n < 8), A n hn = (if n % 4 = 0 then 0 else A (n - 1) (by omega)) + f ⟨n, hn⟩) (s : Fin 2)
    (n : ℕ) (hn : n < 8) (e : n = 4 * s + 3) : A n hn = ∑ i : Fin 4, f (tile s i) := by
  subst e
  rw [h, if_neg (by omega), h, if_neg (by omega), h, if_neg (by omega), h, if_pos (by omega), zero_add, Fin.sum_univ_four]
  rfl

/-- An accumulator that starts at the first tile holds the sum at the last. -/
theorem acc_eight (A : (n : ℕ) → n < 8 → EReal) (f : Fin 8 → EReal)
    (h : ∀ n (hn : n < 8), A n hn = (if n = 0 then 0 else A (n - 1) (by omega)) + f ⟨n, hn⟩)
    (n : ℕ) (hn : n < 8) (e : n = 7) : A n hn = ∑ i : Fin 8, f i := by
  subst e
  rw [h, if_neg (by omega), h, if_neg (by omega), h, if_neg (by omega), h, if_neg (by omega), h, if_neg (by omega), h,
    if_neg (by omega), h, if_neg (by omega), h, if_pos (by omega), zero_add, Fin.sum_univ_eight]
  rfl

end Cert.UpDx
-- ==== Proof.UpDxValues.lean ====
/-
  The product with the up projection and the normalisation's backward pass: the values the body computes from its blocks,
  at an index.
-/
module

public import proofs.«01_k».proof.Proof.NormMath
public import proofs.«01_k».proof.Proof.Product
public import proofs.«01_k».proof.Proof.Gen.UpDxKernelIdeal.Skeleton

@[expose] public section

set_option maxRecDepth 16384

noncomputable section

namespace Cert.UpDxKernelIdeal.Block

open Cert.UpDxKernelIdeal Cert.UpDxKernelIdeal.Gen Cert.Chunk Cert.Norm Idealize.ShloMosaic Idealize.ShloMosaic.TcCoe Idealize.SL.Sem

/-- 512 rows of 1024 channels. -/
abbrev Tile := FVec Ideal S512x1024 .f32

/-- A row of a tile. -/
abbrev row (x : Tile) (p : Fin 512) : Row := fun j => x (ix2 p j)
/-- The one row of an array. -/
abbrev row2 (x : FVec Ideal S1x1024 .f32) : Row := fun j => x (ix2 0 j)
/-- The one row of an array. -/
abbrev row3 (x : FVec Ideal S1x1x1024 .f32) : Row := fun j => x (ix3 0 0 j)

theorem product_at (x : FVec Ideal S512x2816 .bf16) (w : FVec Ideal S2816x1024 .bf16) (p : Fin 512) (j : Fin 1024) :
    (k0_pay1 (F := Ideal) x w (ix2 p j) : EReal) = ∑ k : Fin 2816, x (ix2 p k) * w (ix2 k j) := by
  unfold k0_pay1
  pointwise

theorem first_eq (x : FVec Ideal S512x2816 .bf16) (w : FVec Ideal S2816x1024 .bf16) : k0_pay2 (F := Ideal) x w = k0_pay1 (F := Ideal) x w := by
  unfold k0_pay2
  exact shapeCast_self _ _

theorem sum_row (x : Tile) (p : Fin 512) :
    shapeCast S512x1 (multiReduction .add [1] S512 x 0x00000000#32 reduces_S512x1024_S512 (.inl rfl) rfl) shapeCasts_S512_S512x1
      (ix2 p 0) = ∑ j : Fin 1024, x (ix2 p j) := by
  pointwise

theorem sum_col (x : Tile) (j : Fin 1024) :
    shapeCast S1x1024 (multiReduction .add [0] S1024 x 0x00000000#32 reduces_S512x1024_S1024 (.inl rfl) rfl) shapeCasts_S1024_S1x1024
      (ix2 0 j) = ∑ p : Fin 512, x (ix2 p j) := by
  pointwise

theorem spread_col (x : FVec Ideal S512x1 .f32) (p : Fin 512) (j : Fin 1024) :
    broadcastTo S512x1024 x broadcasts_S512x1_S512x1024 (ix2 p j) = x (ix2 p 0) := by
  pointwise
  blk_ext

theorem spread_row (x : FVec Ideal S1x1024 .f32) (p : Fin 512) (j : Fin 1024) :
    broadcastTo S512x1024 x broadcasts_S1x1024_S512x1024 (ix2 p j) = x (ix2 0 j) := by
  pointwise
  blk_ext

theorem flat_at (x : FVec Ideal S1x1x1024 .f32) (j : Fin 1024) :
    shapeCast S1x1024 x shapeCasts_S1x1x1024_S1x1024 (ix2 0 j) = x (ix3 0 0 j) := by
  pointwise
  blk_ext

theorem deep_at (x : FVec Ideal S1x1024 .f32) (j : Fin 1024) :
    shapeCast S1x1x1024 x shapeCasts_S1x1024_S1x1x1024 (ix3 0 0 j) = x (ix2 0 j) := by
  pointwise
  blk_ext

/-- The shift's further factor: one and the scale. -/
theorem one_scale_at (s : FVec Ideal S1x1x1024 .f32) (j : Fin 1024) : k0_pay27 (F := Ideal) s (ix2 0 j) = cOne + row3 s j :=
  congrArg (cOne + ·) (flat_at s j)

theorem factor_at (x : Tile) (p : Fin 512) : k0_pay28 (F := Ideal) x (ix2 p 0) = rinv (row x p) := by
  unfold rinv msq
  exact congrArg (fun a => Ideal.rsqrt (a * cMean + cEps)) (sum_row _ p)

theorem norm_at (x : Tile) (p : Fin 512) (j : Fin 1024) : k0_pay29 (F := Ideal) x (ix2 p j) = xhat (row x p) j :=
  congrArg (x (ix2 p j) * ·) ((spread_col _ p j).trans (factor_at x p))

/-- The tile's cotangent. -/
theorem back_at (u v : Tile) (g : FVec Ideal S1x1024 .f32) (s : FVec Ideal S1x1x1024 .f32) (x o : Tile) (p : Fin 512) (j : Fin 1024) :
    k0_pay30 (F := Ideal) u v g s x o (ix2 p j) = o (ix2 p j)
      + back (row x p) (row (k0_pay26 (F := Ideal) u v) p) (row2 g) (fun k => cOne + row3 s k) j := by
  have ha : ∀ k, mulf (k0_pay26 (F := Ideal) u v) (broadcastTo S512x1024 (mulf g (k0_pay27 (F := Ideal) s)) broadcasts_S1x1024_S512x1024) (ix2 p k)
      = row (k0_pay26 (F := Ideal) u v) p k * (row2 g k * (cOne + row3 s k)) := fun k =>
    congrArg (row (k0_pay26 (F := Ideal) u v) p k * ·) ((spread_row _ p k).trans (congrArg (row2 g k * ·) (one_scale_at s k)))
  unfold k0_pay30 back
  refine congrArg (o (ix2 p j) + ·) (congrArg₂ (· * ·) ((spread_col _ p j).trans (factor_at x p))
    (congrArg₂ (· - ·) (ha j) (congrArg₂ (· * ·) (norm_at x p j) ?_)))
  refine (spread_col _ p j).trans (congrArg (· * cMean) ((sum_row _ p).trans ?_))
  exact Finset.sum_congr rfl fun k _ => congrArg₂ (· * ·) (ha k) (norm_at x p k)

theorem weighted_at (h y : Tile) (j : Fin 1024) : k0_pay35 (F := Ideal) h y (ix2 0 j) = ∑ p : Fin 512, h (ix2 p j) * y (ix2 p j) :=
  sum_col _ j

theorem scale_at (h : Tile) (o : FVec Ideal S1x1024 .f32) (y : Tile) (a : FVec Ideal S1x1024 .f32) (j : Fin 1024) :
    k0_pay36 (F := Ideal) h o y a (ix2 0 j) = a (ix2 0 j) + (∑ p : Fin 512, h (ix2 p j) * y (ix2 p j)) * o (ix2 0 j) := by
  unfold k0_pay36
  exact congrArg₂ (· + ·) (congrFun (shapeCast_self a _) _) (congrArg (· * o (ix2 0 j)) (weighted_at h y j))

theorem modulation_at (h : Tile) (g : FVec Ideal S1x1024 .f32) (y : Tile) (a : FVec Ideal S1x1x1024 .f32) (j : Fin 1024) :
    k0_pay37 (F := Ideal) h g y a (ix3 0 0 j) = a (ix3 0 0 j) + (∑ p : Fin 512, h (ix2 p j) * y (ix2 p j)) * g (ix2 0 j) := by
  unfold k0_pay37
  exact (deep_at _ j).trans (congrArg₂ (· + ·) (flat_at a j) (congrArg (· * g (ix2 0 j)) (weighted_at h y j)))

theorem shift_at (h : Tile) (a : FVec Ideal S1x1x1024 .f32) (j : Fin 1024) :
    k0_pay10 (F := Ideal) (k0_pay38 (F := Ideal) h a) (ix3 0 0 j) = a (ix3 0 0 j) + ∑ p : Fin 512, h (ix2 p j) := by
  unfold k0_pay10 k0_pay38
  exact (deep_at _ j).trans (congrArg₂ (· + ·) (flat_at a j) (sum_col h j))

theorem gated_at (d : Tile) (g : FVec Ideal S1x1x1024 .f32) (p : Fin 512) (j : Fin 1024) :
    k0_pay11 (F := Ideal) d g (ix2 p j) = d (ix2 p j) * g (ix3 0 0 j) :=
  congrArg (d (ix2 p j) * ·) ((spread_row _ p j).trans (flat_at g j))

theorem gate_at (d : Tile) (a : FVec Ideal S1x1x1024 .f32) (x : Tile) (j : Fin 1024) :
    k0_pay12 (F := Ideal) d a x (ix3 0 0 j) = a (ix3 0 0 j) + ∑ p : Fin 512, d (ix2 p j) * x (ix2 p j) := by
  unfold k0_pay12
  exact (deep_at _ j).trans (congrArg₂ (· + ·) (flat_at a j) (sum_col _ j))

theorem zero2_at (j : Fin 1024) : (k0_pay31 : FVec Ideal S1x1024 .f32) (ix2 0 j) = (0 : EReal) := Ideal.ofBits_zero_f32
theorem zero3_at (j : Fin 1024) : (k0_pay32 : FVec Ideal S1x1x1024 .f32) (ix3 0 0 j) = (0 : EReal) := Ideal.ofBits_zero_f32
theorem zero3_at' (j : Fin 1024) : (k0_pay33 : FVec Ideal S1x1x1024 .f32) (ix3 0 0 j) = (0 : EReal) := Ideal.ofBits_zero_f32
theorem zero3_at'' (j : Fin 1024) : (k0_pay34 : FVec Ideal S1x1x1024 .f32) (ix3 0 0 j) = (0 : EReal) := Ideal.ofBits_zero_f32

end Cert.UpDxKernelIdeal.Block
-- ==== Proof.UpDxBlocks.lean ====
/-
  The product with the up projection and the normalisation's backward pass: what the body leaves in its blocks at a point,
  from the blocks that it reads. Points come in pairs, one per row tile: the first leaves the product with the gate's half
  of the weights, the second adds the other half and computes the results.
-/
module

public import proofs.«01_k».proof.Proof.UpDxValues
public import proofs.«01_k».proof.Proof.Gen.UpDxKernelIdeal.Value
public import Idealize.ShloMosaic.Lib.Pipeline.ReadBack
import all proofs.«01_k».proof.Proof.Gen.UpDxKernelIdeal.Frame.RunA
import all proofs.«01_k».proof.Proof.Gen.UpDxKernelIdeal.Frame.RunB
import all proofs.«01_k».proof.Proof.Gen.UpDxKernelIdeal.Frame.RunC
import all proofs.«01_k».proof.Proof.Gen.UpDxKernelIdeal.Frame.RunD

@[expose] public section

set_option maxRecDepth 16384

noncomputable section

namespace Cert.UpDxKernelIdeal.Block

open Cert.UpDxKernelIdeal Cert.UpDxKernelIdeal.Gen Cert.Chunk Cert.Norm Idealize.ShloMosaic Idealize.ShloMosaic.TcCoe Idealize.SL.Sem

variable (m : (ℓ : Loc nD τ sig) → Buf (Elt Ideal) ℓ) (c : Dev nD)

theorem before (t : Fin cfg0.N) : t.val - 1 < cfg0.N := Nat.lt_of_le_of_lt (Nat.sub_le _ _) t.isLt

/-- The product of a row tile with the rows of the weights that the gate's half meets, left by the point before. -/
def earlier (t : Fin cfg0.N) : Tile := k0_pay1 (iblk m c 0 ⟨t.val - 1, before t⟩) (iblk m c 2 ⟨t.val - 1, before t⟩)
/-- The whole product's tile. -/
def coming (t : Fin cfg0.N) : Tile := k0_pay26 (k0_pay7 (iblk m c 1 t) (iblk m c 2 t)) (earlier m c t)
/-- The learned scale. -/
def learned (t : Fin cfg0.N) : FVec Ideal S1x1024 .f32 :=
  View.ld (iblk m c 7 t) (Rect.unit ![1, 0] ![1, 1024] inb_S2x1024_S1x1024_1_0)
/-- The cotangent's tile. -/
def leaving (t : Fin cfg0.N) : Tile :=
  k0_pay30 (k0_pay7 (iblk m c 1 t) (iblk m c 2 t)) (earlier m c t) (learned m c t) (iblk m c 8 t) (iblk m c 4 t) (iblk m c 3 t)
/-- The normalised tile. -/
def normed (t : Fin cfg0.N) : Tile := k0_pay29 (iblk m c 4 t)

set_option maxHeartbeats 2000000 in
/-- The first point of a pair leaves its product in the scratch. -/
theorem scratch (t : Fin cfg0.N) (h : t.val % 2 = 0) :
    (outsAt0 m c t.val t.isLt).2.2.2.2.2.2 = k0_pay1 (iblk m c 0 t) (iblk m c 2 t) := by
  rw [outsAt0_A m c t h h (by omega) (by omega)]
  frame_out
  exact first_eq _ _

/-- The second finds it there. -/
theorem scratch_read (t : Fin cfg0.N) (h : t.val % 2 = 1) (w : (Memref.whole cc0_scratch0).IsWhole) :
    View.read (Elt Ideal) (View.whole cc0_scratch0) (w.unread (outsAt0 m c (t.val - 1) (before t)).2.2.2.2.2.2) = earlier m c t :=
  (w.read_unread _).trans (scratch m c ⟨t.val - 1, before t⟩ (by show (t.val - 1) % 2 = 0; omega))

set_option maxHeartbeats 2000000 in
/-- The residual stream's block. -/
theorem out0 (t : Fin cfg0.N) (h : t.val % 2 = 1) : (outsAt0 m c t.val t.isLt).1
    = leaving m c t := by
  have hs := scratch_read m c t h
  by_cases h2 : t.val < 2
  · rw [outsAt0_B m c t (by omega) h (by omega) h h2 (by omega)]
    frame_out
    rw [hs]
    rfl
  · by_cases h3 : t.val % 8 = 0 ∨ t.val % 8 = 1
    · rw [outsAt0_D m c t (by omega) h (by omega) h h2 h3]
      frame_out
      rw [hs]
      rfl
    · rw [outsAt0_C m c t (by omega) h (by omega) h h2 h3]
      frame_out
      rw [hs]
      rfl

set_option maxHeartbeats 2000000 in
/-- The mixer's output's block. -/
theorem out1 (t : Fin cfg0.N) (h : t.val % 2 = 1) : (outsAt0 m c t.val t.isLt).2.1
    = k0_pay11 (leaving m c t) (iblk m c 6 t) := by
  have hs := scratch_read m c t h
  by_cases h2 : t.val < 2
  · rw [outsAt0_B m c t (by omega) h (by omega) h h2 (by omega)]
    frame_out
    rw [hs]
    rfl
  · by_cases h3 : t.val % 8 = 0 ∨ t.val % 8 = 1
    · rw [outsAt0_D m c t (by omega) h (by omega) h h2 h3]
      frame_out
      rw [hs]
      rfl
    · rw [outsAt0_C m c t (by omega) h (by omega) h h2 h3]
      frame_out
      rw [hs]
      rfl

set_option maxHeartbeats 2000000 in
/-- The gate's accumulator. -/
theorem out2 (t : Fin cfg0.N) (h : t.val % 2 = 1) : (outsAt0 m c t.val t.isLt).2.2.1
    = k0_pay12 (leaving m c t) (if t.val % 8 = 1 then (k0_pay34 (F := Ideal)) else (outsAt0 m c (t.val - 1) (before t)).2.2.1) (iblk m c 5 t) := by
  have hs := scratch_read m c t h
  by_cases h2 : t.val < 2
  · rw [outsAt0_B m c t (by omega) h (by omega) h h2 (by omega)]
    rw [if_pos (by omega)]
    frame_open
    simp (disch := decide) only [↓ View.readCov_skip, ↓ View.readCov_cons_toLoadRect, ↓ View.readCov_fill]
    frame_out
    rw [hs]
    rfl
  · by_cases h3 : t.val % 8 = 0 ∨ t.val % 8 = 1
    · rw [outsAt0_D m c t (by omega) h (by omega) h h2 h3]
      rw [if_pos (by omega)]
      frame_open
      simp (disch := decide) only [↓ View.readCov_skip, ↓ View.readCov_cons_toLoadRect, ↓ View.readCov_fill]
      frame_out
      rw [hs]
      rfl
    · rw [outsAt0_C m c t (by omega) h (by omega) h h2 h3]
      rw [if_neg (by omega)]
      frame_out
      rw [hs]
      rfl

set_option maxHeartbeats 2000000 in
/-- The learned scale's accumulator. -/
theorem out3 (t : Fin cfg0.N) (h : t.val % 2 = 1) : (outsAt0 m c t.val t.isLt).2.2.2.1
    = k0_pay36 (coming m c t) (k0_pay27 (iblk m c 8 t)) (normed m c t)
        (if t.val = 1 then (k0_pay31 (F := Ideal)) else (outsAt0 m c (t.val - 1) (before t)).2.2.2.1) := by
  have hs := scratch_read m c t h
  by_cases h2 : t.val < 2
  · rw [outsAt0_B m c t (by omega) h (by omega) h h2 (by omega)]
    rw [if_pos (by omega)]
    frame_open
    simp (disch := decide) only [↓ View.readCov_skip, ↓ View.readCov_cons_toLoadRect, ↓ View.readCov_fill]
    frame_out
    rw [hs]
    rfl
  · by_cases h3 : t.val % 8 = 0 ∨ t.val % 8 = 1
    · rw [outsAt0_D m c t (by omega) h (by omega) h h2 h3]
      rw [if_neg (by omega)]
      frame_out
      rw [hs]
      rfl
    · rw [outsAt0_C m c t (by omega) h (by omega) h h2 h3]
      rw [if_neg (by omega)]
      frame_out
      rw [hs]
      rfl

set_option maxHeartbeats 2000000 in
/-- The scale's accumulator. -/
theorem out4 (t : Fin cfg0.N) (h : t.val % 2 = 1) : (outsAt0 m c t.val t.isLt).2.2.2.2.1
    = k0_pay37 (coming m c t) (learned m c t) (normed m c t)
        (if t.val % 8 = 1 then (k0_pay32 (F := Ideal)) else (outsAt0 m c (t.val - 1) (before t)).2.2.2.2.1) := by
  have hs := scratch_read m c t h
  by_cases h2 : t.val < 2
  · rw [outsAt0_B m c t (by omega) h (by omega) h h2 (by omega)]
    rw [if_pos (by omega)]
    frame_open
    simp (disch := decide) only [↓ View.readCov_skip, ↓ View.readCov_cons_toLoadRect, ↓ View.readCov_fill]
    frame_out
    rw [hs]
    rfl
  · by_cases h3 : t.val % 8 = 0 ∨ t.val % 8 = 1
    · rw [outsAt0_D m c t (by omega) h (by omega) h h2 h3]
      rw [if_pos (by omega)]
      frame_open
      simp (disch := decide) only [↓ View.readCov_skip, ↓ View.readCov_cons_toLoadRect, ↓ View.readCov_fill]
      frame_out
      rw [hs]
      rfl
    · rw [outsAt0_C m c t (by omega) h (by omega) h h2 h3]
      rw [if_neg (by omega)]
      frame_out
      rw [hs]
      rfl

set_option maxHeartbeats 2000000 in
/-- The shift's accumulator. -/
theorem out5 (t : Fin cfg0.N) (h : t.val % 2 = 1) : (outsAt0 m c t.val t.isLt).2.2.2.2.2.1
    = k0_pay10 (k0_pay38 (coming m c t) (if t.val % 8 = 1 then (k0_pay33 (F := Ideal)) else (outsAt0 m c (t.val - 1) (before t)).2.2.2.2.2.1)) := by
  have hs := scratch_read m c t h
  by_cases h2 : t.val < 2
  · rw [outsAt0_B m c t (by omega) h (by omega) h h2 (by omega)]
    rw [if_pos (by omega)]
    frame_open
    simp (disch := decide) only [↓ View.readCov_skip, ↓ View.readCov_cons_toLoadRect, ↓ View.readCov_fill]
    frame_out
    rw [hs]
    rfl
  · by_cases h3 : t.val % 8 = 0 ∨ t.val % 8 = 1
    · rw [outsAt0_D m c t (by omega) h (by omega) h h2 h3]
      rw [if_pos (by omega)]
      frame_open
      simp (disch := decide) only [↓ View.readCov_skip, ↓ View.readCov_cons_toLoadRect, ↓ View.readCov_fill]
      frame_out
      rw [hs]
      rfl
    · rw [outsAt0_C m c t (by omega) h (by omega) h h2 h3]
      rw [if_neg (by omega)]
      frame_out
      rw [hs]
      rfl

/-- The first point of a pair keeps the gate's accumulator. -/
theorem kept2 (t : Fin cfg0.N) (h : t.val % 2 = 0) :
    (outsAt0 m c t.val t.isLt).2.2.1 = (outsAt0 m c (t.val - 1) (before t)).2.2.1 := by
  rw [outsAt0_A m c t h h (by omega) (by omega)]
  rfl

/-- The first point of a pair keeps the learned scale's accumulator. -/
theorem kept3 (t : Fin cfg0.N) (h : t.val % 2 = 0) :
    (outsAt0 m c t.val t.isLt).2.2.2.1 = (outsAt0 m c (t.val - 1) (before t)).2.2.2.1 := by
  rw [outsAt0_A m c t h h (by omega) (by omega)]
  rfl

/-- The first point of a pair keeps the scale's accumulator. -/
theorem kept4 (t : Fin cfg0.N) (h : t.val % 2 = 0) :
    (outsAt0 m c t.val t.isLt).2.2.2.2.1 = (outsAt0 m c (t.val - 1) (before t)).2.2.2.2.1 := by
  rw [outsAt0_A m c t h h (by omega) (by omega)]
  rfl

/-- The first point of a pair keeps the shift's accumulator. -/
theorem kept5 (t : Fin cfg0.N) (h : t.val % 2 = 0) :
    (outsAt0 m c t.val t.isLt).2.2.2.2.2.1 = (outsAt0 m c (t.val - 1) (before t)).2.2.2.2.2.1 := by
  rw [outsAt0_A m c t h h (by omega) (by omega)]
  rfl

end Cert.UpDxKernelIdeal.Block
-- ==== Proof.UpDxArrays.lean ====
/-
  The product with the up projection and the normalisation's backward pass: the arrays that the kernel leaves are the
  results of `UpDx`.
-/
module

public import proofs.«01_k».proof.Proof.UpDx
public import proofs.«01_k».proof.Proof.UpDxBlocks

@[expose] public section

set_option maxRecDepth 16384

noncomputable section

namespace Cert.UpDxKernelIdeal.Block

open Cert.UpDxKernelIdeal Cert.UpDxKernelIdeal.Gen Cert.Chunk Cert.Norm Cert.UpDx Idealize.ShloMosaic Idealize.ShloMosaic.TcCoe
  Idealize.SL.Sem

variable (m : (ℓ : Loc nD τ sig) → Buf (Elt Ideal) ℓ) (c : Dev nD)

/-! ## The arguments -/

abbrev a0 : FVec Ideal S4096x2816 .bf16 := m ((c : Thread nD τ).loc main_arg0)
abbrev a1 : FVec Ideal S4096x2816 .bf16 := m ((c : Thread nD τ).loc main_arg1)
abbrev a2 : FVec Ideal S5632x1024 .bf16 := m ((c : Thread nD τ).loc main_arg2)
abbrev a3 : FVec Ideal S4096x1024 .f32 := m ((c : Thread nD τ).loc main_arg3)
abbrev a4 : FVec Ideal S4096x1024 .f32 := m ((c : Thread nD τ).loc main_arg4)
abbrev a5 : FVec Ideal S4096x1024 .f32 := m ((c : Thread nD τ).loc main_arg5)
abbrev a6 : FVec Ideal S2x1x1024 .f32 := m ((c : Thread nD τ).loc main_arg6)
abbrev a7 : FVec Ideal S2x1024 .f32 := m ((c : Thread nD τ).loc main_arg7)
abbrev a8 : FVec Ideal S2x1x1024 .f32 := m ((c : Thread nD τ).loc main_arg8)
/-- The learned scale of the layer. -/
abbrev scale : Row := fun j => a7 m c (ix2 1 j)

/-! ## The blocks -/

theorem idx : ∀ t : Fin cfg0.N, (t.val % 2 = 0 → win0_0.index t = ![t.val / 2, 0]) ∧ (t.val % 2 = 1 → win0_1.index t = ![t.val / 2, 0])
    ∧ win0_2.index t = ![t.val % 2, 0] ∧ win0_3.index t = ![t.val / 2, 0] ∧ win0_4.index t = ![t.val / 2, 0]
    ∧ win0_5.index t = ![t.val / 2, 0] ∧ win0_6.index t = ![t.val / 8, 0, 0] ∧ win0_7.index t = ![0, 0]
    ∧ win0_8.index t = ![t.val / 8, 0, 0] ∧ win0_9.index t = ![t.val / 2, 0] ∧ win0_10.index t = ![t.val / 2, 0]
    ∧ win0_11.index t = ![t.val / 8, 0, 0] ∧ win0_12.index t = ![0, 0] ∧ win0_13.index t = ![t.val / 8, 0, 0]
    ∧ win0_14.index t = ![t.val / 8, 0, 0] :=
  (by decide +kernel : ∀ t : Fin grid0.N, _)

/-- The row tile of a point. -/
abbrev tl (t : Fin cfg0.N) : Fin 8 := ⟨t.val / 2, by have := lt_of_lt_of_eq t.isLt N_0; omega⟩

theorem gate_read (t : Fin cfg0.N) (h : t.val % 2 = 0) (p : Fin 512) (k : Fin 2816) :
    (iblk m c 0 t : FVec Ideal S512x2816 .bf16) (ix2 p k) = a0 m c (ix2 (at8 (tl t) p) k) := by
  have := (idx t).1 h
  blk_ext [iblk, V, this]

theorem value_read (t : Fin cfg0.N) (h : t.val % 2 = 1) (p : Fin 512) (k : Fin 2816) :
    (iblk m c 1 t : FVec Ideal S512x2816 .bf16) (ix2 p k) = a1 m c (ix2 (at8 (tl t) p) k) := by
  have := (idx t).2.1 h
  blk_ext [iblk, V, this]

theorem weights_read0 (t : Fin cfg0.N) (h : t.val % 2 = 0) (k : Fin 2816) (j : Fin 1024) :
    (iblk m c 2 t : FVec Ideal S2816x1024 .bf16) (ix2 k j) = a2 m c (ix2 ⟨k, by omega⟩ j) := by
  have := (idx t).2.2.1
  rw [h] at this
  blk_ext [iblk, V, this]

theorem weights_read1 (t : Fin cfg0.N) (h : t.val % 2 = 1) (k : Fin 2816) (j : Fin 1024) :
    (iblk m c 2 t : FVec Ideal S2816x1024 .bf16) (ix2 k j) = a2 m c (ix2 ⟨2816 + k, by omega⟩ j) := by
  have := (idx t).2.2.1
  rw [h] at this
  blk_ext [iblk, V, this]

theorem residual_read (t : Fin cfg0.N) (p : Fin 512) (j : Fin 1024) :
    (iblk m c 3 t : Tile) (ix2 p j) = a3 m c (ix2 (at8 (tl t) p) j) := by
  blk_ext [iblk, V, (idx t).2.2.2.1]

theorem input_read (t : Fin cfg0.N) (p : Fin 512) : row (iblk m c 4 t) p = line (a4 m c) (at8 (tl t) p) := by
  funext j
  show (iblk m c 4 t : Tile) (ix2 p j) = a4 m c _
  blk_ext [iblk, V, (idx t).2.2.2.2.1]

theorem mixer_read (t : Fin cfg0.N) (p : Fin 512) (j : Fin 1024) :
    (iblk m c 5 t : Tile) (ix2 p j) = a5 m c (ix2 (at8 (tl t) p) j) := by
  blk_ext [iblk, V, (idx t).2.2.2.2.2.1]

theorem gate_row (t : Fin cfg0.N) : row3 (iblk m c 6 t) = own (a6 m c) (seq8 (tl t)) := by
  funext j
  show (iblk m c 6 t : FVec Ideal S1x1x1024 .f32) (ix3 0 0 j) = a6 m c _
  have := (idx t).2.2.2.2.2.2.1
  blk_ext [iblk, V, this]

theorem scale_row (t : Fin cfg0.N) : row3 (iblk m c 8 t) = own (a8 m c) (seq8 (tl t)) := by
  funext j
  show (iblk m c 8 t : FVec Ideal S1x1x1024 .f32) (ix3 0 0 j) = a8 m c _
  have := (idx t).2.2.2.2.2.2.2.2.1
  blk_ext [iblk, V, this]

theorem learned_row (t : Fin cfg0.N) : row2 (learned m c t) = scale m c := by
  funext j
  refine (View.ld_unit_apply_of _ _ _ _ _ (ix2 1 j) fun a => ?_).trans ?_
  · match a with
    | ⟨0, _⟩ => rfl
    | ⟨1, _⟩ => exact (Nat.zero_add _).symm
  · blk_ext [iblk, V, (idx t).2.2.2.2.2.2.2.1]

/-! ## The tiles -/

theorem coming_at (t : Fin cfg0.N) (h : t.val % 2 = 1) (p : Fin 512) (j : Fin 1024) :
    coming m c t (ix2 p j) = cot (a0 m c) (a1 m c) (a2 m c) (at8 (tl t) p) j := by
  have h' : (t.val - 1) % 2 = 0 := by omega
  have ht : tl ⟨t.val - 1, before t⟩ = tl t := Fin.ext (by show (t.val - 1) / 2 = t.val / 2; omega)
  refine congrArg₂ (· + ·) ((product_at _ _ p j).trans ?_) ((product_at _ _ p j).trans ?_)
  · refine Finset.sum_congr rfl fun k _ => ?_
    rw [gate_read m c ⟨t.val - 1, before t⟩ h', weights_read0 m c ⟨t.val - 1, before t⟩ h', ht]
  · exact Finset.sum_congr rfl fun k _ => congrArg₂ (· * ·) (value_read m c t h p k) (weights_read1 m c t h k j)

theorem coming_row (t : Fin cfg0.N) (h : t.val % 2 = 1) (p : Fin 512) :
    row (coming m c t) p = cot (a0 m c) (a1 m c) (a2 m c) (at8 (tl t) p) := funext fun j => coming_at m c t h p j

theorem leaving_at (t : Fin cfg0.N) (h : t.val % 2 = 1) (p : Fin 512) (j : Fin 1024) : leaving m c t (ix2 p j)
    = dx (a0 m c) (a1 m c) (a2 m c) (a3 m c) (a4 m c) (scale m c) (a8 m c) (at8 (tl t) p) j := by
  unfold leaving dx
  have e : seq (at8 (tl t) p) = seq8 (tl t) := Fin.ext (by show (512 * (t.val / 2) + p.val) / 2048 = t.val / 2 / 4; omega)
  rw [back_at, learned_row, scale_row, input_read, residual_read, e]
  refine congrArg (fun r => _ + back _ r _ _ j) ?_
  exact coming_row m c t h p

theorem cross_at (t : Fin cfg0.N) (h : t.val % 2 = 1) (p : Fin 512) (j : Fin 1024) :
    (coming m c t (ix2 p j) * normed m c t (ix2 p j) : EReal) = cross (a0 m c) (a1 m c) (a2 m c) (a4 m c) (at8 (tl t) p) j := by
  unfold cross
  refine congrArg₂ (· * ·) (coming_at m c t h p j) ((norm_at _ p j).trans ?_)
  rw [input_read]

/-! ## The accumulators -/

theorem point (n : ℕ) (hn : n < 8) : 2 * n + 1 < cfg0.N := lt_of_lt_of_eq (by omega) N_0.symm

/-- What the first points of the pairs keep, the second points find as the pair before left it. -/
theorem from_pair_before (B : (n : ℕ) → n < cfg0.N → EReal)
    (keep : ∀ t : Fin cfg0.N, t.val % 2 = 0 → B t.val t.isLt = B (t.val - 1) (before t)) (n : ℕ) (hn : n < 8) (h : n ≠ 0)
    (h' : 2 * n + 1 - 1 < cfg0.N) : B (2 * n + 1 - 1) h' = B (2 * (n - 1) + 1) (point (n - 1) (by omega)) := by
  have go : ∀ a b (ha : a < cfg0.N) (hb : b < cfg0.N), a = b → B a ha = B b hb := by
    intro a b ha hb e
    subst e
    rfl
  exact (keep ⟨2 * n + 1 - 1, h'⟩ (by show (2 * n + 1 - 1) % 2 = 0; omega)).trans (go _ _ _ _ (by show 2 * n + 1 - 1 - 1 = 2 * (n - 1) + 1; omega))

theorem tl_point (n : ℕ) (hn : n < 8) : tl ⟨2 * n + 1, point n hn⟩ = ⟨n, hn⟩ := Fin.ext (by show (2 * n + 1) / 2 = n; omega)

theorem odd_point (n : ℕ) : (2 * n + 1) % 2 = 1 := by omega

/-- The gate's accumulator, a pair of points later. -/
theorem step2 (j : Fin 1024) (n : ℕ) (hn : n < 8) : (outsAt0 m c (2 * n + 1) (point n hn)).2.2.1 (ix3 0 0 j)
    = ((if n % 4 = 0 then 0 else (outsAt0 m c (2 * (n - 1) + 1) (point (n - 1) (by omega))).2.2.1 (ix3 0 0 j) : EReal))
      + part2 (a0 m c) (a1 m c) (a2 m c) (a3 m c) (a4 m c) (a5 m c) (scale m c) (a8 m c) ⟨n, hn⟩ j := by
  refine (congrFun (out2 m c ⟨2 * n + 1, point n hn⟩ (odd_point n)) _).trans ((gate_at _ _ _ j).trans (congrArg₂ (· + ·) ?_ ?_))
  · by_cases h : n % 4 = 0
    · rw [if_pos h, if_pos (by show (2 * n + 1) % 8 = 1; omega)]
      exact zero3_at'' j
    · rw [if_neg h, if_neg (by show ¬(2 * n + 1) % 8 = 1; omega)]
      exact from_pair_before (fun n hn => (outsAt0 m c n hn).2.2.1 (ix3 0 0 j)) (fun t h => congrFun (kept2 m c t h) _) n hn (by omega) _
  · refine Finset.sum_congr rfl fun p _ => congrArg₂ (· * ·) ((leaving_at m c _ (odd_point n) p j).trans ?_) ((mixer_read m c _ p j).trans ?_)
    · rw [tl_point]
    · rw [tl_point]

/-- The learned scale's accumulator, a pair of points later. -/
theorem step3 (j : Fin 1024) (n : ℕ) (hn : n < 8) : (outsAt0 m c (2 * n + 1) (point n hn)).2.2.2.1 (ix2 0 j)
    = ((if n = 0 then 0 else (outsAt0 m c (2 * (n - 1) + 1) (point (n - 1) (by omega))).2.2.2.1 (ix2 0 j) : EReal))
      + part3 (a0 m c) (a1 m c) (a2 m c) (a4 m c) (a8 m c) ⟨n, hn⟩ j := by
  refine (congrFun (out3 m c ⟨2 * n + 1, point n hn⟩ (odd_point n)) _).trans ((scale_at _ _ _ _ j).trans (congrArg₂ (· + ·) ?_
    (congrArg₂ (· * ·) (Finset.sum_congr rfl fun p _ => (cross_at m c _ (odd_point n) p j).trans ?_) ((one_scale_at _ j).trans ?_))))
  · by_cases h : n = 0
    · rw [if_pos h, if_pos (by show 2 * n + 1 = 1; omega)]
      exact zero2_at j
    · rw [if_neg h, if_neg (by show ¬2 * n + 1 = 1; omega)]
      exact from_pair_before (fun n hn => (outsAt0 m c n hn).2.2.2.1 (ix2 0 j)) (fun t h => congrFun (kept3 m c t h) _) n hn (by omega) _
  · rw [tl_point]
  · rw [scale_row, tl_point]

/-- The scale's accumulator, a pair of points later. -/
theorem step4 (j : Fin 1024) (n : ℕ) (hn : n < 8) : (outsAt0 m c (2 * n + 1) (point n hn)).2.2.2.2.1 (ix3 0 0 j)
    = ((if n % 4 = 0 then 0 else (outsAt0 m c (2 * (n - 1) + 1) (point (n - 1) (by omega))).2.2.2.2.1 (ix3 0 0 j) : EReal))
      + part4 (a0 m c) (a1 m c) (a2 m c) (a4 m c) (scale m c) ⟨n, hn⟩ j := by
  refine (congrFun (out4 m c ⟨2 * n + 1, point n hn⟩ (odd_point n)) _).trans ((modulation_at _ _ _ _ j).trans (congrArg₂ (· + ·) ?_
    (congrArg₂ (· * ·) (Finset.sum_congr rfl fun p _ => (cross_at m c _ (odd_point n) p j).trans ?_) (congrFun (learned_row m c _) j))))
  · by_cases h : n % 4 = 0
    · rw [if_pos h, if_pos (by show (2 * n + 1) % 8 = 1; omega)]
      exact zero3_at j
    · rw [if_neg h, if_neg (by show ¬(2 * n + 1) % 8 = 1; omega)]
      exact from_pair_before (fun n hn => (outsAt0 m c n hn).2.2.2.2.1 (ix3 0 0 j)) (fun t h => congrFun (kept4 m c t h) _) n hn (by omega) _
  · rw [tl_point]

/-- The shift's accumulator, a pair of points later. -/
theorem step5 (j : Fin 1024) (n : ℕ) (hn : n < 8) : (outsAt0 m c (2 * n + 1) (point n hn)).2.2.2.2.2.1 (ix3 0 0 j)
    = ((if n % 4 = 0 then 0 else (outsAt0 m c (2 * (n - 1) + 1) (point (n - 1) (by omega))).2.2.2.2.2.1 (ix3 0 0 j) : EReal))
      + part5 (a0 m c) (a1 m c) (a2 m c) ⟨n, hn⟩ j := by
  refine (congrFun (out5 m c ⟨2 * n + 1, point n hn⟩ (odd_point n)) _).trans ((shift_at _ _ j).trans (congrArg₂ (· + ·) ?_
    (Finset.sum_congr rfl fun p _ => (coming_at m c _ (odd_point n) p j).trans ?_)))
  · by_cases h : n % 4 = 0
    · rw [if_pos h, if_pos (by show (2 * n + 1) % 8 = 1; omega)]
      exact zero3_at' j
    · rw [if_neg h, if_neg (by show ¬(2 * n + 1) % 8 = 1; omega)]
      exact from_pair_before (fun n hn => (outsAt0 m c n hn).2.2.2.2.2.1 (ix3 0 0 j)) (fun t h => congrFun (kept5 m c t h) _) n hn (by omega) _
  · rw [tl_point]

/-! ## The arrays -/

/-- An index of a row tile. -/
theorem tile_cases (y : S512x1024.Idx) : ∃ (p : Fin 512) (j : Fin 1024), y = ix2 p j := by
  refine ⟨⟨(y 0).val, (y 0).isLt⟩, ⟨(y 1).val, (y 1).isLt⟩, ?_⟩
  funext a
  apply Fin.ext
  match a with
  | ⟨0, _⟩ => rfl
  | ⟨1, _⟩ => rfl

/-- An index of one row. -/
theorem row_cases (y : S1x1024.Idx) : ∃ j : Fin 1024, y = ix2 0 j := by
  refine ⟨⟨(y 1).val, (y 1).isLt⟩, ?_⟩
  funext a
  apply Fin.ext
  match a with
  | ⟨0, _⟩ => exact Nat.lt_one_iff.1 (y 0).isLt
  | ⟨1, _⟩ => rfl

/-- The same, with an axis more. -/
theorem deep_cases (y : S1x1x1024.Idx) : ∃ j : Fin 1024, y = ix3 0 0 j := by
  refine ⟨⟨(y 2).val, (y 2).isLt⟩, ?_⟩
  funext a
  apply Fin.ext
  match a with
  | ⟨0, _⟩ => exact Nat.lt_one_iff.1 (y 0).isLt
  | ⟨1, _⟩ => exact Nat.lt_one_iff.1 (y 1).isLt
  | ⟨2, _⟩ => rfl

/-- The sequence of a point. -/
abbrev sq (t : Fin cfg0.N) : Fin 2 := ⟨t.val / 8, by have := lt_of_lt_of_eq t.isLt N_0; omega⟩

/-- What a sequence's last point leaves in an accumulator that starts anew at every sequence. -/
theorem last (B : (n : ℕ) → n < cfg0.N → EReal) (f : Fin 8 → Row) {j : Fin 1024}
    (step : ∀ n (hn : n < 8), B (2 * n + 1) (point n hn) = (if n % 4 = 0 then 0 else B (2 * (n - 1) + 1) (point (n - 1) (by omega))) + f ⟨n, hn⟩ j)
    (t : Fin cfg0.N) (h : t.val % 8 = 7) : B t.val t.isLt = ∑ i : Fin 4, f (tile (sq t) i) j := by
  have ht := lt_of_lt_of_eq t.isLt N_0
  have key := acc_four (fun n hn => B (2 * n + 1) (point n hn)) (fun i => f i j) step (sq t) (t.val / 2) (by omega)
    (by show t.val / 2 = 4 * (t.val / 8) + 3; omega)
  refine Eq.trans ?_ key
  have go : ∀ a b (ha : a < cfg0.N) (hb : b < cfg0.N), a = b → B a ha = B b hb := by
    intro a b ha hb e
    subst e
    rfl
  exact go _ _ _ _ (by omega)

/-- What the last point leaves in an accumulator that starts once. -/
theorem last_all (B : (n : ℕ) → n < cfg0.N → EReal) (f : Fin 8 → Row) {j : Fin 1024}
    (step : ∀ n (hn : n < 8), B (2 * n + 1) (point n hn) = (if n = 0 then 0 else B (2 * (n - 1) + 1) (point (n - 1) (by omega))) + f ⟨n, hn⟩ j)
    (t : Fin cfg0.N) (h : t.val % 16 = 15) : B t.val t.isLt = ∑ i : Fin 8, f i j := by
  have ht := lt_of_lt_of_eq t.isLt N_0
  have key := acc_eight (fun n hn => B (2 * n + 1) (point n hn)) (fun i => f i j) step (t.val / 2) (by omega) (by omega)
  refine Eq.trans ?_ key
  have go : ∀ a b (ha : a < cfg0.N) (hb : b < cfg0.N), a = b → B a ha = B b hb := by
    intro a b ha hb e
    subst e
    rfl
  exact go _ _ _ _ (by omega)

theorem array0 : (dats m 0 c).arrAt 9 cfg0.N
    = result0 (a0 m c) (a1 m c) (a2 m c) (a3 m c) (a4 m c) (scale m c) (a8 m c) := by
  refine (dats m 0 c).arrAt_eq_of_covers 9 _ (by decide +kernel) fun t hf y => ?_
  have h := (flush0_9 t).mp hf
  obtain ⟨p, j, rfl⟩ := tile_cases y
  blk_simp
  rw [after0_9, out0 m c t h]
  refine (leaving_at m c t h p j).trans ?_
  have : ((cfg0.win 9).blk t).view.emb (ix2 p j) = ix2 (at8 (tl t) p) j := by blk_ext [idx t]
  rw [this]
  rfl

theorem array1 : (dats m 0 c).arrAt 10 cfg0.N
    = result1 (a0 m c) (a1 m c) (a2 m c) (a3 m c) (a4 m c) (a6 m c) (scale m c) (a8 m c) := by
  refine (dats m 0 c).arrAt_eq_of_covers 10 _ (by decide +kernel) fun t hf y => ?_
  have h := (flush0_10 t).mp hf
  obtain ⟨p, j, rfl⟩ := tile_cases y
  blk_simp
  rw [after0_10, out1 m c t h]
  refine ((gated_at _ _ p j).trans (congrArg₂ (· * ·) (leaving_at m c t h p j) (congrFun (gate_row m c t) j))).trans ?_
  have : ((cfg0.win 10).blk t).view.emb (ix2 p j) = ix2 (at8 (tl t) p) j := by blk_ext [idx t]
  rw [this]
  have e : seq8 (tl t) = seq (at8 (tl t) p) := Fin.ext (by show t.val / 2 / 4 = (512 * (t.val / 2) + p.val) / 2048; omega)
  rw [e]
  rfl

theorem array2 : (dats m 0 c).arrAt 11 cfg0.N
    = overSeq (part2 (a0 m c) (a1 m c) (a2 m c) (a3 m c) (a4 m c) (a5 m c) (scale m c) (a8 m c)) := by
  refine (dats m 0 c).arrAt_eq_of_covers 11 _ (by decide +kernel) fun t hf y => ?_
  have h := (flush0_11 t).mp hf
  obtain ⟨j, rfl⟩ := deep_cases y
  blk_simp
  rw [after0_11]
  refine (last (fun n hn => (outsAt0 m c n hn).2.2.1 (ix3 0 0 j)) _ (step2 m c j) t h).trans ?_
  have : ((cfg0.win 11).blk t).view.emb (ix3 0 0 j) = ix3 (sq t) 0 j := by blk_ext [idx t]
  rw [this]
  rfl

theorem array3 : (dats m 0 c).arrAt 12 cfg0.N = overAll (part3 (a0 m c) (a1 m c) (a2 m c) (a4 m c) (a8 m c)) := by
  refine (dats m 0 c).arrAt_eq_of_covers 12 _ (by decide +kernel) fun t hf y => ?_
  have h := (flush0_12 t).mp hf
  obtain ⟨j, rfl⟩ := row_cases y
  blk_simp
  rw [after0_12]
  refine (last_all (fun n hn => (outsAt0 m c n hn).2.2.2.1 (ix2 0 j)) _ (step3 m c j) t h).trans ?_
  have : ((cfg0.win 12).blk t).view.emb (ix2 0 j) = ix2 0 j := by blk_ext [idx t]
  rw [this]
  rfl

theorem array4 : (dats m 0 c).arrAt 13 cfg0.N = overSeq (part4 (a0 m c) (a1 m c) (a2 m c) (a4 m c) (scale m c)) := by
  refine (dats m 0 c).arrAt_eq_of_covers 13 _ (by decide +kernel) fun t hf y => ?_
  have h := (flush0_13 t).mp hf
  obtain ⟨j, rfl⟩ := deep_cases y
  blk_simp
  rw [after0_13]
  refine (last (fun n hn => (outsAt0 m c n hn).2.2.2.2.1 (ix3 0 0 j)) _ (step4 m c j) t h).trans ?_
  have : ((cfg0.win 13).blk t).view.emb (ix3 0 0 j) = ix3 (sq t) 0 j := by blk_ext [idx t]
  rw [this]
  rfl

theorem array5 : (dats m 0 c).arrAt 14 cfg0.N = overSeq (part5 (a0 m c) (a1 m c) (a2 m c)) := by
  refine (dats m 0 c).arrAt_eq_of_covers 14 _ (by decide +kernel) fun t hf y => ?_
  have h := (flush0_14 t).mp hf
  obtain ⟨j, rfl⟩ := deep_cases y
  blk_simp
  rw [after0_14]
  refine (last (fun n hn => (outsAt0 m c n hn).2.2.2.2.2.1 (ix3 0 0 j)) _ (step5 m c j) t h).trans ?_
  have : ((cfg0.win 14).blk t).view.emb (ix3 0 0 j) = ix3 (sq t) 0 j := by blk_ext [idx t]
  rw [this]
  rfl

end Cert.UpDxKernelIdeal.Block
-- ==== Proof.UpDxReference.lean ====
/-
  The reference of the backward pass through the product with the up projection and the normalisation: its results are
  those of `UpDx`, for finite cotangents, weights and scales.
-/
module

public import proofs.«01_k».proof.Proof.UpDx
public import proofs.«01_k».proof.Proof.Gen.UpDxReferenceIdeal.Read
public import Idealize.ShloMosaic.Lib.Claim
public import Idealize.ShloMosaic.Lib.Quiescent

@[expose] public section

set_option maxRecDepth 16384

noncomputable section

namespace Cert.UpDxReferenceIdeal.Block

open Cert.UpDxReferenceIdeal Cert.UpDxReferenceIdeal.Gen Cert.UpDxReferenceIdeal.Read Cert.Chunk Cert.Norm Cert.UpDx
  Idealize.ShloMosaic Idealize.ShloMosaic.TcCoe Idealize.SL.Sem

variable (x0 x1 : FVec Ideal S4096x2816 .bf16) (x2 : FVec Ideal S5632x1024 .bf16) (x3 x4 x5 : FVec Ideal S4096x1024 .f32)
  (x6 : FVec Ideal S2x1x1024 .f32) (x7 : FVec Ideal S2x1024 .f32) (x8 : FVec Ideal S2x1x1024 .f32)

/-- The learned scale of the layer. -/
abbrev scale : Row := fun j => x7 (ix2 1 j)

/-- An index of a pair of rows. -/
theorem pair_cases (y : S2x1x1024.Idx) : ∃ (s : Fin 2) (j : Fin 1024), y = ix3 s 0 j := by
  have h : (y 1).val = 0 := Nat.lt_one_iff.1 (y 1).isLt
  refine ⟨⟨(y 0).val, (y 0).isLt⟩, ⟨(y 2).val, (y 2).isLt⟩, ?_⟩
  funext a
  apply Fin.ext
  match a with
  | ⟨0, _⟩ => rfl
  | ⟨1, _⟩ => exact h
  | ⟨2, _⟩ => rfl

/-- An index of one row. -/
theorem row_cases (y : S1x1024.Idx) : ∃ j : Fin 1024, y = ix2 0 j := by
  refine ⟨⟨(y 1).val, (y 1).isLt⟩, ?_⟩
  funext a
  apply Fin.ext
  match a with
  | ⟨0, _⟩ => exact Nat.lt_one_iff.1 (y 0).isLt
  | ⟨1, _⟩ => rfl

/-- An index of the rows. -/
theorem rows_cases (y : S4096x1024.Idx) : ∃ (s : Fin 2) (r : Fin 2048) (j : Fin 1024), y = ix2 (at2 s r) j := by
  have h : (y 0).val < 4096 := (y 0).isLt
  refine ⟨⟨(y 0).val / 2048, by omega⟩, ⟨(y 0).val % 2048, by omega⟩, ⟨(y 1).val, (y 1).isLt⟩, ?_⟩
  funext a
  apply Fin.ext
  match a with
  | ⟨0, _⟩ => show (y 0).val = 2048 * ((y 0).val / 2048) + (y 0).val % 2048; omega
  | ⟨1, _⟩ => rfl

theorem seq_at2 (s : Fin 2) (r : Fin 2048) : seq (at2 s r) = s := Fin.ext (by show (2048 * (s : ℕ) + r) / 2048 = s; omega)

/-! ## The product -/

theorem left_at (r : Fin 4096) (k : Fin 2816) : val_main_v0 (F := Ideal) x0 x1 (ix2 r ⟨k, by omega⟩) = x0 (ix2 r k) := by
  unfold val_main_v0
  refine concatenate_pair_apply_left _ _ _ _ _ (by rfl) (ix2 r k) fun b => ?_
  fin_cases b <;> rfl

theorem right_at (r : Fin 4096) (k : Fin 2816) : val_main_v0 (F := Ideal) x0 x1 (ix2 r ⟨2816 + k, by omega⟩) = x1 (ix2 r k) := by
  unfold val_main_v0
  refine concatenate_pair_apply_right _ _ _ _ _ (by rfl) (by rfl) (ix2 r k) (fun b hb => ?_) ?_
  · fin_cases b
    · rfl
    · exact absurd rfl hb
  · show (k : ℕ) + 2816 = 2816 + k
    omega

theorem weights_at (k : Fin 5632) (j : Fin 1024) : val_main_v3 (F := Ideal) x2 (ix2 j k) = x2 (ix2 k j) := by
  rw [val_main_v3_apply]
  show val_main_v2 (F := Ideal) x2 _ = _
  rw [val_main_v2_apply]
  blk_ext

theorem v6_at (r : Fin 4096) (j : Fin 1024) : val_main_v6 (F := Ideal) x0 x1 x2 (ix2 r j) = cot x0 x1 x2 r j := by
  rw [val_main_v6_apply]
  have e : ∀ k : Fin 5632, val_main_v5 (F := Ideal) x0 x1 (lidx_main_v6 (ix2 r j) k) * val_main_v3 (F := Ideal) x2 (ridx_main_v6 (ix2 r j) k)
      = val_main_v0 (F := Ideal) x0 x1 (ix2 r k) * x2 (ix2 k j) := fun k => by
    refine congrArg₂ (· * ·) ?_ ?_
    · show val_main_v0 (F := Ideal) x0 x1 _ = _
      blk_ext
    · refine Eq.trans (congrArg (val_main_v3 (F := Ideal) x2) ?_) (weights_at x2 k j)
      blk_ext
  refine (Finset.sum_congr rfl fun k _ => e k).trans ?_
  refine (Fin.sum_univ_add (a := 2816) (b := 2816) fun k : Fin 5632 => val_main_v0 (F := Ideal) x0 x1 (ix2 r k) * x2 (ix2 k j)).trans ?_
  unfold cot
  exact congrArg₂ (· + ·) (Finset.sum_congr rfl fun k _ => congrArg (· * _) (left_at x0 x1 r k))
    (Finset.sum_congr rfl fun k _ => congrArg (· * _) (right_at x0 x1 r k))

theorem v7_at (s : Fin 2) (r : Fin 2048) (j : Fin 1024) : val_main_v7 (F := Ideal) x0 x1 x2 (ix3 s r j) = cot x0 x1 x2 (at2 s r) j := by
  rw [val_main_v7_apply, ← v6_at]
  blk_ext

/-! ## The normalised rows -/

theorem v8_at (s : Fin 2) (r : Fin 2048) (j : Fin 1024) : val_main_v8 (F := Ideal) x4 (ix3 s r j) = line x4 (at2 s r) j := by
  rw [val_main_v8_apply]
  blk_ext

theorem v18_at (s : Fin 2) (r : Fin 2048) : val_main_v18 (F := Ideal) x4 (ix3 s r 0) = msq (line x4 (at2 s r)) := by
  rw [val_main_v18_apply, val_main_v16_apply, val_main_v14_apply, val_main_v13_apply, val_main_v15_apply,
    val_main_cst_1_apply, val_main_cst_2_apply, val_main_v17_apply, val_main_cst_3_apply]
  show Ideal.div (Ideal.ofBits .f32 0x00000000#32 + _) _ + cEps = _
  rw [Ideal.ofBits_zero_f32, zero_add]
  refine (congrArg (· + cEps) (div_1024 _)).trans ?_
  unfold msq
  refine congrArg (· * cMean + cEps) (Finset.sum_congr rfl fun k _ => ?_)
  rw [val_main_v12_apply]
  have e : idx_main_v13 (idx_main_v14 (ix3 s r 0)) k = ix3 s r k := by blk_ext
  rw [e, v8_at]
  rfl

theorem v19_at (s : Fin 2) (r : Fin 2048) : val_main_v19 (F := Ideal) x4 (ix3 s r 0) = rinv (line x4 (at2 s r)) := by
  rw [val_main_v19_apply, v18_at]
  rfl

theorem v22_at (s : Fin 2) (r : Fin 2048) : val_main_v22 (F := Ideal) x4 (ix3 s r 0)
    = cNeg * Ideal.div (rinv (line x4 (at2 s r))) (msq (line x4 (at2 s r))) := by
  rw [val_main_v22_apply, val_main_v21_apply, val_main_cst_4_apply, val_main_v20_apply, v18_at, v19_at]
  rfl

theorem v24_at (s : Fin 2) (r : Fin 2048) (j : Fin 1024) : val_main_v24 (F := Ideal) x4 (ix3 s r j) = xhat (line x4 (at2 s r)) j := by
  rw [val_main_v24_apply, v8_at, val_main_v23_apply]
  have e : idx_main_v23 (ix3 s r j) = ix3 s r 0 := by blk_ext
  rw [e, v19_at]
  rfl

/-! ## The scales -/

theorem v10_at (j : Fin 1024) : val_main_v10 (F := Ideal) x7 (ix1 j) = scale x7 j := by
  rw [val_main_v10_apply, val_main_v9_apply]
  blk_ext

theorem v26_at (s : Fin 2) (r : Fin 2048) (j : Fin 1024) : val_main_v26 (F := Ideal) x7 (ix3 s r j) = scale x7 j := by
  rw [val_main_v26_apply, val_main_v25_apply, ← v10_at]
  blk_ext

theorem v44_at (s : Fin 2) (r : Fin 2048) (j : Fin 1024) : val_main_v44 (F := Ideal) x7 (ix3 s r j) = scale x7 j := by
  rw [val_main_v44_apply, val_main_v25_apply, ← v10_at]
  blk_ext

theorem v39_at (s : Fin 2) (r : Fin 2048) (j : Fin 1024) : val_main_v39 (F := Ideal) x8 (ix3 s r j) = more x8 s j := by
  rw [val_main_v39_apply]
  have e : idx_main_v39 (ix3 s r j) = ix3 s 0 j := by blk_ext
  rw [e, val_main_v29_apply, val_main_v28_apply, val_main_cst_5_apply]
  rfl

theorem v40_at (s : Fin 2) (r : Fin 2048) (j : Fin 1024) : val_main_v40 (F := Ideal) x0 x1 x2 x8 (ix3 s r j)
    = cot x0 x1 x2 (at2 s r) j * more x8 s j := by
  rw [val_main_v40_apply, v7_at, v39_at]
  rfl

theorem v45_at (s : Fin 2) (r : Fin 2048) (j : Fin 1024) : val_main_v45 (F := Ideal) x0 x1 x2 x7 x8 (ix3 s r j)
    = cot x0 x1 x2 (at2 s r) j * more x8 s j * scale x7 j := by
  rw [val_main_v45_apply, v40_at, v44_at]
  rfl

/-! ## The normalisation's cotangent -/

/-- The cotangent of a normalised row. -/
abbrev coming (s : Fin 2) (r : Fin 2048) : Row := fun j => cot x0 x1 x2 (at2 s r) j * more x8 s j * scale x7 j

theorem v56_at (s : Fin 2) (r : Fin 2048) (j : Fin 1024) : val_main_v56 (F := Ideal) x0 x1 x2 x4 x7 x8 (ix3 s r j)
    = thr (line x4 (at2 s r)) (coming x0 x1 x2 x7 x8 s r) := by
  rw [val_main_v56_apply, val_main_v55_apply, val_main_cst_12_apply, Fin.sum_univ_one]
  have e : idx_main_v55 (idx_main_v56 (ix3 s r j)) 0 = ix3 s r 0 := by blk_ext
  rw [e, val_main_v54_apply, val_main_v53_apply, val_main_cst_11_apply, val_main_v52_apply, v22_at, val_main_v49_apply,
    val_main_v48_apply, val_main_cst_10_apply]
  show Ideal.ofBits .f32 0x00000000#32 + Ideal.div ((Ideal.ofBits .f32 0x00000000#32 + _) * _) _ = _
  rw [Ideal.ofBits_zero_f32, zero_add, zero_add]
  refine (div_1024 _).trans ?_
  unfold thr
  refine congrArg (· * _ * cMean) (Finset.sum_congr rfl fun k _ => ?_)
  have e : idx_main_v48 (idx_main_v49 (ix3 s r 0)) k = ix3 s r k := by blk_ext
  rw [val_main_v47_apply, e, v8_at, v45_at]
  rfl

theorem v60_at (s : Fin 2) (r : Fin 2048) (j : Fin 1024) : val_main_v60 (F := Ideal) x0 x1 x2 x4 x7 x8 (ix3 s r j)
    = deriv (line x4 (at2 s r)) (coming x0 x1 x2 x7 x8 s r) j := by
  rw [val_main_v60_apply, val_main_v58_apply, val_main_v57_apply, val_main_v59_apply, val_main_v51_apply, v45_at, v8_at, v56_at,
    val_main_v50_apply]
  have e : idx_main_v50 (ix3 s r j) = ix3 s r 0 := by blk_ext
  rw [e, v19_at]
  rfl

section
variable (h0 : ∀ y, Finite (x0 y)) (h1 : ∀ y, Finite (x1 y)) (h2 : ∀ y, Finite (x2 y)) (h7 : ∀ y, Finite (x7 y))
  (h8 : ∀ y, Finite (x8 y))
include h0 h1 h2 h7 h8

theorem v62_at (s : Fin 2) (r : Fin 2048) (j : Fin 1024) : val_main_v62 (F := Ideal) x0 x1 x2 x3 x4 x7 x8 (ix3 s r j)
    = dx x0 x1 x2 x3 x4 (scale x7) x8 (at2 s r) j := by
  rw [val_main_v62_apply, v60_at, val_main_v61_apply]
  unfold dx
  rw [seq_at2, ← deriv_eq_back _ _ _ _ (cot_finite h0 h1 h2 _) (fun _ => h7 _) (more_finite h8 s)]
  refine congrArg (· + _) ?_
  blk_ext

/-- The residual stream's cotangent. -/
theorem result0_eq : val_main_v73 (F := Ideal) x0 x1 x2 x3 x4 x7 x8 = result0 x0 x1 x2 x3 x4 (scale x7) x8 := by
  funext y
  obtain ⟨s, r, j, rfl⟩ := rows_cases y
  have e : idx_main_v73 (ix2 (at2 s r) j) = ix3 s r j := by blk_ext
  rw [val_main_v73_apply, e, v62_at x0 x1 x2 x3 x4 x7 x8 h0 h1 h2 h7 h8]
  rfl

/-- The mixer's output's. -/
theorem result1_eq : val_main_v75 (F := Ideal) x0 x1 x2 x3 x4 x6 x7 x8 = result1 x0 x1 x2 x3 x4 x6 (scale x7) x8 := by
  funext y
  obtain ⟨s, r, j, rfl⟩ := rows_cases y
  have e : idx_main_v74 (ix2 (at2 s r) j) = ix3 s r j := by blk_ext
  have e' : idx_main_v68 (ix3 s r j) = ix3 s 0 j := by blk_ext
  rw [val_main_v75_apply]
  show val_main_v74 (F := Ideal) x0 x1 x2 x3 x4 x6 x7 x8 _ = dx x0 x1 x2 x3 x4 (scale x7) x8 (at2 s r) j * own x6 (seq (at2 s r)) j
  rw [val_main_v74_apply, e, val_main_v69_apply, v62_at x0 x1 x2 x3 x4 x7 x8 h0 h1 h2 h7 h8, val_main_v68_apply, e', seq_at2]
  exact mul_comm _ _

/-- The gate's. -/
theorem result2_eq : val_main_v72 (F := Ideal) x0 x1 x2 x3 x4 x5 x7 x8 = overSeq (part2 x0 x1 x2 x3 x4 x5 (scale x7) x8) := by
  funext y
  obtain ⟨s, j, rfl⟩ := pair_cases y
  rw [val_main_v72_apply, val_main_v71_apply, val_main_cst_14_apply]
  refine (congrArg (· + _) Ideal.ofBits_zero_f32).trans ((zero_add _).trans ?_)
  refine Eq.trans (Finset.sum_congr rfl fun r _ => ?_) (sum_seq s fun r => dx x0 x1 x2 x3 x4 (scale x7) x8 r j * x5 (ix2 r j))
  have e : idx_main_v71 (idx_main_v72 (ix3 s 0 j)) r = ix3 s r j := by blk_ext
  rw [val_main_v70_apply, e, v62_at x0 x1 x2 x3 x4 x7 x8 h0 h1 h2 h7 h8, val_main_v64_apply]
  refine congrArg (dx x0 x1 x2 x3 x4 (scale x7) x8 (at2 s r) j * ·) ?_
  blk_ext

omit h7 in
/-- The learned scale's. -/
theorem result3_eq : val_main_v76 (F := Ideal) x0 x1 x2 x4 x8 = overAll (part3 x0 x1 x2 x4 x8) := by
  funext y
  obtain ⟨j, rfl⟩ := row_cases y
  have ey : idx_main_v76 (ix2 0 j) = ix1 j := by blk_ext
  rw [val_main_v76_apply, ey]
  have z : ∀ i, (val_main_cst_9 (F := Ideal)) i = (0 : EReal) := fun _ => Ideal.ofBits_zero_f32
  have z' : ∀ i, (val_main_cst_8 (F := Ideal)) i = (0 : EReal) := fun _ => Ideal.ofBits_zero_f32
  have e : idx_main_v43 (ix3 0 0 j) = ix1 j := by blk_ext
  show Ideal.hostReduceAdd reducesTo_S1x1x1024_S1024_d0_1 (val_main_v43 (F := Ideal) x0 x1 x2 x4 x8) (val_main_cst_9 (F := Ideal) _) (ix1 j) = _
  rw [z, reduce_ones, val_main_v43_apply, e]
  show Ideal.hostReduceAdd reducesTo_S2x2048x1024_S1024_d0_1 (val_main_v41 (F := Ideal) x0 x1 x2 x4 x8) (val_main_cst_8 (F := Ideal) _) (ix1 j) = _
  rw [z', reduce_rows]
  unfold part3
  refine Eq.trans (Finset.sum_congr rfl fun s _ => Finset.sum_congr rfl fun r _ => ?_) ((sum_all fun r =>
    cross x0 x1 x2 x4 r j * more x8 (seq r) j).trans (Finset.sum_congr rfl fun i _ => ?_))
  · rw [val_main_v41_apply, v24_at, v40_at]
    unfold cross
    rw [seq_at2]
    exact (mul_left_comm _ _ _).trans (mul_assoc _ _ _).symm
  · refine Eq.trans ?_ (sum_mul_finite _ (fun p => cross_finite x4 h0 h1 h2 (at8 i p) j) (more_finite h8 (seq8 i) j)).symm
    refine Finset.sum_congr rfl fun p _ => ?_
    have e : seq (at8 i p) = seq8 i := Fin.ext (by show (512 * (i : ℕ) + p) / 2048 = i / 4; omega)
    rw [e]

omit h8 in
/-- The scale's. -/
theorem result4_eq : val_main_v38 (F := Ideal) x0 x1 x2 x4 x7 = overSeq (part4 x0 x1 x2 x4 (scale x7)) := by
  funext y
  obtain ⟨s, j, rfl⟩ := pair_cases y
  rw [val_main_v38_apply, val_main_v37_apply, val_main_cst_7_apply]
  refine (congrArg (· + _) Ideal.ofBits_zero_f32).trans ((zero_add _).trans ?_)
  refine Eq.trans (Finset.sum_congr rfl fun r _ => ?_) ((sum_seq s fun r => cross x0 x1 x2 x4 r j * scale x7 j).trans
    (Finset.sum_congr rfl fun i _ => (sum_mul_finite _ (fun p => cross_finite x4 h0 h1 h2 _ _) (h7 _)).symm))
  have e : idx_main_v37 (idx_main_v38 (ix3 s 0 j)) r = ix3 s r j := by blk_ext
  rw [val_main_v36_apply, val_main_v27_apply, e, v24_at, v26_at, v7_at]
  unfold cross
  exact (mul_comm _ _).trans (mul_assoc _ _ _).symm

omit h0 h1 h2 h7 h8 in
/-- The shift's. -/
theorem result5_eq : val_main_v35 (F := Ideal) x0 x1 x2 = overSeq (part5 x0 x1 x2) := by
  funext y
  obtain ⟨s, j, rfl⟩ := pair_cases y
  rw [val_main_v35_apply, val_main_v34_apply, val_main_cst_6_apply]
  refine (congrArg (· + _) Ideal.ofBits_zero_f32).trans ((zero_add _).trans ?_)
  refine Eq.trans (Finset.sum_congr rfl fun r _ => ?_) (sum_seq s fun r => cot x0 x1 x2 r j)
  have e : idx_main_v34 (idx_main_v35 (ix3 s 0 j)) r = ix3 s r j := by blk_ext
  rw [e, v7_at]

end

variable (m : (ℓ : Loc nD τ sig) → Buf (Elt Ideal) ℓ) (ρ : Dev nD → PrngReg)

/-- Every run ends with the results at the stages' values over the arguments. -/
theorem run_stages : θ_run (defs (F := Ideal)) (onTc (τ := τ) (main (F := Ideal))) ⟨m, fun _ => 0, ρ⟩ fun r => ∀ c : Dev nD,
    r.2.mem ((c.tc : Thread nD τ).loc main_v73) = val_main_v73 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg7)) (m ((c.tc : Thread nD τ).loc main_arg8))
    ∧ r.2.mem ((c.tc : Thread nD τ).loc main_v75) = val_main_v75 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg6)) (m ((c.tc : Thread nD τ).loc main_arg7)) (m ((c.tc : Thread nD τ).loc main_arg8))
    ∧ r.2.mem ((c.tc : Thread nD τ).loc main_v72) = val_main_v72 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg7)) (m ((c.tc : Thread nD τ).loc main_arg8))
    ∧ r.2.mem ((c.tc : Thread nD τ).loc main_v76) = val_main_v76 (F := Ideal) (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg8))
    ∧ r.2.mem ((c.tc : Thread nD τ).loc main_v38) = val_main_v38 (F := Ideal) (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg7))
    ∧ r.2.mem ((c.tc : Thread nD τ).loc main_v35) = val_main_v35 (F := Ideal) (m ((c.tc : Thread nD τ).loc main_arg0)) (m ((c.tc : Thread nD τ).loc main_arg1))
        (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run (defs (F := Ideal)) _ _).mono
    (fun _ h c => ⟨(h c).1.trans (val_main_v73_eq m c), (h c).2.1.trans (val_main_v75_eq m c),
      (h c).2.2.1.trans (val_main_v72_eq m c), (h c).2.2.2.1.trans (val_main_v76_eq _ _ _ _ _),
      (h c).2.2.2.2.1.trans (val_main_v38_eq _ _ _ _ _), (h c).2.2.2.2.2.1.trans (val_main_v35_eq _ _ _), (h c).2.2.2.2.2.2⟩)
    (Cert.UpDxReferenceIdeal.Value.run m ρ)

/-- Every run leaves the arguments as they were and every counter at zero. -/
theorem run_quiescent : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
    ∧ r.2.sem = fun _ => 0 :=
  (θ_run (defs (F := Ideal)) _ _).mono
    (fun _ h => ⟨fun c => (h c).2.2.2.2.2.2, sem_eq_zero_of_no_sems (by decide) _⟩) (run_stages m ρ)

end Cert.UpDxReferenceIdeal.Block
-- ==== Proof.UpDxFinite.lean ====
/-
  What the precondition says: every entry of the cotangents, the weights and the two scales is a real number.
-/
module

public import proofs.«01_k».proof.Pre_finite
public import proofs.«01_k».proof.Proof.NormMath
public import Idealize.ShloMosaic.Lib.ReduceAll
public import Idealize.ShloMosaic.Lib.Pointwise

@[expose] public section

set_option maxRecDepth 16384

noncomputable section

namespace Cert.Pre_finite

open Cert.Norm Idealize.ShloMosaic

/-- A magnitude below infinity is a real number's. -/
theorem finite_of_lt {x : EReal} (h : max x (-x) < ⊤) : Finite x := by
  induction x with
  | bot => exact absurd h (by simp)
  | top => exact absurd h (by simp)
  | coe r => exact ⟨r, rfl⟩

theorem top_eq : Ideal.ofBits .f32 0x7F800000#32 = ⊤ := by simp [Ideal.ofBits, Ideal.ieee]

instance : Subsingleton S_.Idx := ⟨fun a b => funext fun i => i.elim0⟩

/-- An array all of whose entries are compared to be below infinity in magnitude. -/
theorem finite_of_all {S : Shape} {axes : List (Fin S.rank)} (x : FVec Ideal S .f32) (b : FVec Ideal S .f32) (hb : ∀ i, b i = (⊤ : EReal))
    (init : S_.Idx → BitVec 1) (h : S.ReducesTo axes S_) (hu : 0 < S_.numel) (j : S_.Idx)
    (e : Host.reduce IntOp.andi (cmpf .olt (Host.absf x) b) init h hu j = 1#1) (i : S.Idx) : Finite (x i) := by
  have h1 : Ideal.cmp .olt (max (x i) (-(x i)) : EReal) (b i) = 1 := Host.reduce_andi_all _ init h hu j e i
  have h2 := (Ideal.cmp_olt_eq_one _ _).1 h1
  rw [hb] at h2
  exact finite_of_lt h2

variable [Facts] (x0 x1 : FVec Ideal S4096x2816 .bf16) (x2 : FVec Ideal S5632x1024 .bf16) (x3 x4 x5 : FVec Ideal S4096x1024 .f32)
  (x6 : FVec Ideal S2x1x1024 .f32) (x7 : FVec Ideal S2x1024 .f32) (x8 : FVec Ideal S2x1x1024 .f32) (x9 : FVec Ideal S1x1 .f32)

theorem all_finite (h : fn (F := Ideal) x0 x1 x2 x3 x4 x5 x6 x7 x8 x9 = fun _ => 1#1) :
    (∀ y, Finite (x0 y)) ∧ (∀ y, Finite (x1 y)) ∧ (∀ y, Finite (x2 y)) ∧ (∀ y, Finite (x7 y)) ∧ (∀ y, Finite (x8 y)) := by
  have e := congrFun h (fun i => i.elim0)
  unfold fn fn_part1 at e
  obtain ⟨e, e8⟩ := IntOp.andi_eq_one.1 e
  obtain ⟨e, e7⟩ := IntOp.andi_eq_one.1 e
  obtain ⟨e, e2⟩ := IntOp.andi_eq_one.1 e
  obtain ⟨e0, e1⟩ := IntOp.andi_eq_one.1 e
  exact ⟨finite_of_all x0 _ (fun _ => top_eq) _ _ _ _ e0, finite_of_all x1 _ (fun _ => top_eq) _ _ _ _ e1,
    finite_of_all x2 _ (fun _ => top_eq) _ _ _ _ e2, finite_of_all x7 _ (fun _ => top_eq) _ _ _ _ e7,
    finite_of_all x8 _ (fun _ => top_eq) _ _ _ _ e8⟩

end Cert.Pre_finite
-- ==== Proof.InDx.lean ====
/-
  The backward pass through the product with the first projection and the first normalisation with its scale and shift: what
  it leaves, as functions of what it reads. Nothing here speaks of a program.
-/
module

public import proofs.«01_k».proof.Proof.UpDx

@[expose] public section

noncomputable section

namespace Cert.InDx

open Cert.Chunk Cert.Norm Cert.UpDx Idealize.ShloMosaic

/-- The product's left factor. -/
abbrev Left := (⟨2, ![4096, 5120]⟩ : Shape).Idx → EReal
/-- The product's right factor. -/
abbrev Right := (⟨2, ![5120, 1024]⟩ : Shape).Idx → EReal

/-- A row of the product. -/
def prod (x0 : Left) (x1 : Right) (r : Fin 4096) : Row := fun j => ∑ k : Fin 5120, x0 (ix2 r k) * x1 (ix2 k j)

/-- The same by halves of the summed axis. -/
theorem prod_halves (x0 : Left) (x1 : Right) (r : Fin 4096) (j : Fin 1024) : prod x0 x1 r j
    = (∑ k : Fin 2560, x0 (ix2 r ⟨k, by omega⟩) * x1 (ix2 ⟨k, by omega⟩ j))
      + ∑ k : Fin 2560, x0 (ix2 r ⟨2560 + k, by omega⟩) * x1 (ix2 ⟨2560 + k, by omega⟩ j) :=
  Fin.sum_univ_add (a := 2560) (b := 2560) fun k : Fin 5120 => x0 (ix2 r k) * x1 (ix2 k j)

theorem prod_finite {x0 : Left} {x1 : Right} (h0 : ∀ y, Finite (x0 y)) (h1 : ∀ y, Finite (x1 y)) (r : Fin 4096) (j : Fin 1024) :
    Finite (prod x0 x1 r j) := Finite.sum _ fun _ => (h0 _).mul (h1 _)

section
variable (ct : Fin 4096 → Row) (x2 x3 : Rows) (g : Row) (x5 : Pair)

/-- The cotangent of the normalisation's input, with the residual's. -/
def dx (r : Fin 4096) : Row := fun j => x2 (ix2 r j) + back (line x3 r) (ct r) g (more x5 (seq r)) j
/-- What is summed over the rows for the cotangents of the two scales. -/
def cross (r : Fin 4096) : Row := fun j => ct r j * xhat (line x3 r) j

/-- The first result: the cotangent of the residual stream. -/
def result0 : Rows := fun y => dx ct x2 x3 g x5 ⟨(y 0).val, (y 0).isLt⟩ ⟨(y 1).val, (y 1).isLt⟩

/-- A tile's part of the learned scale's cotangent. -/
def part1 (i : Fin 8) : Row := fun j => (∑ p : Fin 512, cross ct x3 (at8 i p) j) * more x5 (seq8 i) j
/-- A tile's part of the scale's cotangent. -/
def part2 (i : Fin 8) : Row := fun j => (∑ p : Fin 512, cross ct x3 (at8 i p) j) * g j
/-- A tile's part of the shift's cotangent. -/
def part3 (i : Fin 8) : Row := fun j => ∑ p : Fin 512, ct (at8 i p) j

end

theorem cross_finite {ct : Fin 4096 → Row} (x3 : Rows) (h : ∀ r j, Finite (ct r j)) (r : Fin 4096) (j : Fin 1024) :
    Finite (cross ct x3 r j) := (h r j).mul (xhat_finite _ j)

end Cert.InDx
-- ==== Proof.InDxBlocks.lean ====
/-
  The product with the first projection and the normalisation's backward pass: the values the body computes, at an index,
  and what it leaves in its blocks at a point, from the blocks that it reads. Points come in pairs, one per row tile: the
  first leaves the product over the first half of the summed axis, the second adds the other half and computes the results.
-/
module

public import proofs.«01_k».proof.Proof.UpDxValues
public import proofs.«01_k».proof.Proof.Gen.InDxKernelIdeal.Value
public import Idealize.ShloMosaic.Lib.Pipeline.ReadBack
import all proofs.«01_k».proof.Proof.Gen.InDxKernelIdeal.Frame.RunA
import all proofs.«01_k».proof.Proof.Gen.InDxKernelIdeal.Frame.RunB
import all proofs.«01_k».proof.Proof.Gen.InDxKernelIdeal.Frame.RunC
import all proofs.«01_k».proof.Proof.Gen.InDxKernelIdeal.Frame.RunD

@[expose] public section

set_option maxRecDepth 16384

noncomputable section

namespace Cert.InDxKernelIdeal.Block

open Cert.InDxKernelIdeal Cert.InDxKernelIdeal.Gen Cert.Chunk Cert.Norm Idealize.ShloMosaic Idealize.ShloMosaic.TcCoe Idealize.SL.Sem
open Cert.UpDxKernelIdeal.Block (Tile row row2 row3)

/-! ## The values -/

theorem product_at (x : FVec Ideal S512x2560 .bf16) (w : FVec Ideal S2560x1024 .bf16) (p : Fin 512) (j : Fin 1024) :
    (k0_pay1 (F := Ideal) x w (ix2 p j) : EReal) = ∑ k : Fin 2560, x (ix2 p k) * w (ix2 k j) := by
  unfold k0_pay1
  pointwise

theorem first_eq (x : FVec Ideal S512x2560 .bf16) (w : FVec Ideal S2560x1024 .bf16) : k0_pay2 (F := Ideal) x w = k0_pay1 (F := Ideal) x w := by
  unfold k0_pay2
  exact shapeCast_self _ _

theorem one_scale_at (s : FVec Ideal S1x1x1024 .f32) (j : Fin 1024) : k0_pay6 (F := Ideal) s (ix2 0 j) = cOne + row3 s j :=
  UpDxKernelIdeal.Block.one_scale_at s j

theorem norm_at (x : Tile) (p : Fin 512) (j : Fin 1024) : k0_pay8 (F := Ideal) x (ix2 p j) = xhat (row x p) j :=
  UpDxKernelIdeal.Block.norm_at x p j

theorem back_at (u v : Tile) (g : FVec Ideal S1x1024 .f32) (s : FVec Ideal S1x1x1024 .f32) (x o : Tile) (p : Fin 512) (j : Fin 1024) :
    k0_pay9 (F := Ideal) u v g s x o (ix2 p j) = o (ix2 p j)
      + back (row x p) (row (k0_pay5 (F := Ideal) u v) p) (row2 g) (fun k => cOne + row3 s k) j :=
  UpDxKernelIdeal.Block.back_at u v g s x o p j

theorem scale_at (h : Tile) (o : FVec Ideal S1x1024 .f32) (y : Tile) (a : FVec Ideal S1x1024 .f32) (j : Fin 1024) :
    k0_pay14 (F := Ideal) h o y a (ix2 0 j) = a (ix2 0 j) + (∑ p : Fin 512, h (ix2 p j) * y (ix2 p j)) * o (ix2 0 j) :=
  UpDxKernelIdeal.Block.scale_at h o y a j

theorem modulation_at (h : Tile) (g : FVec Ideal S1x1024 .f32) (y : Tile) (a : FVec Ideal S1x1x1024 .f32) (j : Fin 1024) :
    k0_pay15 (F := Ideal) h g y a (ix3 0 0 j) = a (ix3 0 0 j) + (∑ p : Fin 512, h (ix2 p j) * y (ix2 p j)) * g (ix2 0 j) :=
  UpDxKernelIdeal.Block.modulation_at h g y a j

theorem shift_at (h : Tile) (a : FVec Ideal S1x1x1024 .f32) (j : Fin 1024) :
    k0_pay4 (F := Ideal) (k0_pay16 (F := Ideal) h a) (ix3 0 0 j) = a (ix3 0 0 j) + ∑ p : Fin 512, h (ix2 p j) :=
  UpDxKernelIdeal.Block.shift_at h a j

theorem zero2_at (j : Fin 1024) : (k0_pay10 : FVec Ideal S1x1024 .f32) (ix2 0 j) = (0 : EReal) := Ideal.ofBits_zero_f32
theorem zero3_at (j : Fin 1024) : (k0_pay11 : FVec Ideal S1x1x1024 .f32) (ix3 0 0 j) = (0 : EReal) := Ideal.ofBits_zero_f32
theorem zero3_at' (j : Fin 1024) : (k0_pay12 : FVec Ideal S1x1x1024 .f32) (ix3 0 0 j) = (0 : EReal) := Ideal.ofBits_zero_f32

/-! ## The blocks -/

variable (m : (ℓ : Loc nD τ sig) → Buf (Elt Ideal) ℓ) (c : Dev nD)

theorem before (t : Fin cfg0.N) : t.val - 1 < cfg0.N := Nat.lt_of_le_of_lt (Nat.sub_le _ _) t.isLt

/-- The product of a row tile over the first half of the summed axis, left by the point before. -/
def earlier (t : Fin cfg0.N) : Tile := k0_pay1 (iblk m c 0 ⟨t.val - 1, before t⟩) (iblk m c 1 ⟨t.val - 1, before t⟩)
/-- The whole product's tile. -/
def coming (t : Fin cfg0.N) : Tile := k0_pay5 (k0_pay1 (iblk m c 0 t) (iblk m c 1 t)) (earlier m c t)
/-- The learned scale. -/
def learned (t : Fin cfg0.N) : FVec Ideal S1x1024 .f32 :=
  View.ld (iblk m c 4 t) (Rect.unit ![0, 0] ![1, 1024] inb_S2x1024_S1x1024_0_0)
/-- The cotangent's tile. -/
def leaving (t : Fin cfg0.N) : Tile :=
  k0_pay9 (k0_pay1 (iblk m c 0 t) (iblk m c 1 t)) (earlier m c t) (learned m c t) (iblk m c 5 t) (iblk m c 3 t) (iblk m c 2 t)
/-- The normalised tile. -/
def normed (t : Fin cfg0.N) : Tile := k0_pay8 (iblk m c 3 t)

set_option maxHeartbeats 2000000 in
/-- The first point of a pair leaves its product in the scratch. -/
theorem scratch (t : Fin cfg0.N) (h : t.val % 2 = 0) :
    (outsAt0 m c t.val t.isLt).2.2.2.2 = k0_pay1 (iblk m c 0 t) (iblk m c 1 t) := by
  rw [outsAt0_A m c t h (by omega)]
  frame_out
  exact first_eq _ _

/-- The second finds it there. -/
theorem scratch_read (t : Fin cfg0.N) (h : t.val % 2 = 1) (w : (Memref.whole cc0_scratch0).IsWhole) :
    View.read (Elt Ideal) (View.whole cc0_scratch0) (w.unread (outsAt0 m c (t.val - 1) (before t)).2.2.2.2) = earlier m c t :=
  (w.read_unread _).trans (scratch m c ⟨t.val - 1, before t⟩ (by show (t.val - 1) % 2 = 0; omega))

set_option maxHeartbeats 2000000 in
/-- The residual stream's block. -/
theorem out0 (t : Fin cfg0.N) (h : t.val % 2 = 1) : (outsAt0 m c t.val t.isLt).1 = leaving m c t := by
  have hs := scratch_read m c t h
  by_cases h2 : t.val < 2
  · rw [outsAt0_B m c t (by omega) h h2 (by omega)]
    frame_out
    rw [hs]
    rfl
  · by_cases h3 : t.val % 8 = 0 ∨ t.val % 8 = 1
    · rw [outsAt0_D m c t (by omega) h h2 h3]
      frame_out
      rw [hs]
      rfl
    · rw [outsAt0_C m c t (by omega) h h2 h3]
      frame_out
      rw [hs]
      rfl

set_option maxHeartbeats 2000000 in
/-- The learned scale's accumulator. -/
theorem out1 (t : Fin cfg0.N) (h : t.val % 2 = 1) : (outsAt0 m c t.val t.isLt).2.1
    = k0_pay14 (coming m c t) (k0_pay6 (iblk m c 5 t)) (normed m c t)
        (if t.val = 1 then (k0_pay10 (F := Ideal)) else (outsAt0 m c (t.val - 1) (before t)).2.1) := by
  have hs := scratch_read m c t h
  by_cases h2 : t.val < 2
  · rw [outsAt0_B m c t (by omega) h h2 (by omega)]
    rw [if_pos (by omega)]
    frame_open
    simp (disch := decide) only [↓ View.readCov_skip, ↓ View.readCov_cons_toLoadRect, ↓ View.readCov_fill]
    frame_out
    rw [hs]
    rfl
  · by_cases h3 : t.val % 8 = 0 ∨ t.val % 8 = 1
    · rw [outsAt0_D m c t (by omega) h h2 h3]
      rw [if_neg (by omega)]
      frame_out
      rw [hs]
      rfl
    · rw [outsAt0_C m c t (by omega) h h2 h3]
      rw [if_neg (by omega)]
      frame_out
      rw [hs]
      rfl

set_option maxHeartbeats 2000000 in
/-- The scale's accumulator. -/
theorem out2 (t : Fin cfg0.N) (h : t.val % 2 = 1) : (outsAt0 m c t.val t.isLt).2.2.1
    = k0_pay15 (coming m c t) (learned m c t) (normed m c t)
        (if t.val % 8 = 1 then (k0_pay11 (F := Ideal)) else (outsAt0 m c (t.val - 1) (before t)).2.2.1) := by
  have hs := scratch_read m c t h
  by_cases h2 : t.val < 2
  · rw [outsAt0_B m c t (by omega) h h2 (by omega)]
    rw [if_pos (by omega)]
    frame_open
    simp (disch := decide) only [↓ View.readCov_skip, ↓ View.readCov_cons_toLoadRect, ↓ View.readCov_fill]
    frame_out
    rw [hs]
    rfl
  · by_cases h3 : t.val % 8 = 0 ∨ t.val % 8 = 1
    · rw [outsAt0_D m c t (by omega) h h2 h3]
      rw [if_pos (by omega)]
      frame_open
      simp (disch := decide) only [↓ View.readCov_skip, ↓ View.readCov_cons_toLoadRect, ↓ View.readCov_fill]
      frame_out
      rw [hs]
      rfl
    · rw [outsAt0_C m c t (by omega) h h2 h3]
      rw [if_neg (by omega)]
      frame_out
      rw [hs]
      rfl

set_option maxHeartbeats 2000000 in
/-- The shift's accumulator. -/
theorem out3 (t : Fin cfg0.N) (h : t.val % 2 = 1) : (outsAt0 m c t.val t.isLt).2.2.2.1
    = k0_pay4 (k0_pay16 (coming m c t) (if t.val % 8 = 1 then (k0_pay12 (F := Ideal)) else (outsAt0 m c (t.val - 1) (before t)).2.2.2.1)) := by
  have hs := scratch_read m c t h
  by_cases h2 : t.val < 2
  · rw [outsAt0_B m c t (by omega) h h2 (by omega)]
    rw [if_pos (by omega)]
    frame_open
    simp (disch := decide) only [↓ View.readCov_skip, ↓ View.readCov_cons_toLoadRect, ↓ View.readCov_fill]
    frame_out
    rw [hs]
    rfl
  · by_cases h3 : t.val % 8 = 0 ∨ t.val % 8 = 1
    · rw [outsAt0_D m c t (by omega) h h2 h3]
      rw [if_pos (by omega)]
      frame_open
      simp (disch := decide) only [↓ View.readCov_skip, ↓ View.readCov_cons_toLoadRect, ↓ View.readCov_fill]
      frame_out
      rw [hs]
      rfl
    · rw [outsAt0_C m c t (by omega) h h2 h3]
      rw [if_neg (by omega)]
      frame_out
      rw [hs]
      rfl

/-- The first point of a pair keeps the learned scale's accumulator. -/
theorem kept1 (t : Fin cfg0.N) (h : t.val % 2 = 0) :
    (outsAt0 m c t.val t.isLt).2.1 = (outsAt0 m c (t.val - 1) (before t)).2.1 := by
  rw [outsAt0_A m c t h (by omega)]
  rfl

/-- The first point of a pair keeps the scale's accumulator. -/
theorem kept2 (t : Fin cfg0.N) (h : t.val % 2 = 0) :
    (outsAt0 m c t.val t.isLt).2.2.1 = (outsAt0 m c (t.val - 1) (before t)).2.2.1 := by
  rw [outsAt0_A m c t h (by omega)]
  rfl

/-- The first point of a pair keeps the shift's accumulator. -/
theorem kept3 (t : Fin cfg0.N) (h : t.val % 2 = 0) :
    (outsAt0 m c t.val t.isLt).2.2.2.1 = (outsAt0 m c (t.val - 1) (before t)).2.2.2.1 := by
  rw [outsAt0_A m c t h (by omega)]
  rfl

end Cert.InDxKernelIdeal.Block
-- ==== Proof.InDxArrays.lean ====
/-
  The product with the first projection and the normalisation's backward pass: the arrays that the kernel leaves are the
  results of `InDx`.
-/
module

public import proofs.«01_k».proof.Proof.InDx
public import proofs.«01_k».proof.Proof.InDxBlocks
public import proofs.«01_k».proof.Proof.UpDxArrays

@[expose] public section

set_option maxRecDepth 16384

noncomputable section

namespace Cert.InDxKernelIdeal.Block

open Cert.InDxKernelIdeal Cert.InDxKernelIdeal.Gen Cert.Chunk Cert.Norm Cert.InDx Idealize.ShloMosaic Idealize.ShloMosaic.TcCoe
  Idealize.SL.Sem
open Cert.UpDx hiding dx cross result0 part2 part3
open Cert.UpDxKernelIdeal.Block (Tile row row2 row3 tl sq tl_point odd_point point from_pair_before last last_all tile_cases row_cases deep_cases)

variable (m : (ℓ : Loc nD τ sig) → Buf (Elt Ideal) ℓ) (c : Dev nD)

/-! ## The arguments -/

abbrev a0 : FVec Ideal S4096x5120 .bf16 := m ((c : Thread nD τ).loc main_arg0)
abbrev a1 : FVec Ideal S5120x1024 .bf16 := m ((c : Thread nD τ).loc main_arg1)
abbrev a2 : FVec Ideal S4096x1024 .f32 := m ((c : Thread nD τ).loc main_arg2)
abbrev a3 : FVec Ideal S4096x1024 .f32 := m ((c : Thread nD τ).loc main_arg3)
abbrev a4 : FVec Ideal S2x1024 .f32 := m ((c : Thread nD τ).loc main_arg4)
abbrev a5 : FVec Ideal S2x1x1024 .f32 := m ((c : Thread nD τ).loc main_arg5)
/-- The learned scale of the layer. -/
abbrev scale : Row := fun j => a4 m c (ix2 0 j)

/-! ## The blocks -/

theorem idx : ∀ t : Fin cfg0.N, win0_0.index t = ![t.val / 2, t.val % 2] ∧ win0_1.index t = ![t.val % 2, 0]
    ∧ win0_2.index t = ![t.val / 2, 0] ∧ win0_3.index t = ![t.val / 2, 0] ∧ win0_4.index t = ![0, 0]
    ∧ win0_5.index t = ![t.val / 8, 0, 0] ∧ win0_6.index t = ![t.val / 2, 0] ∧ win0_7.index t = ![0, 0]
    ∧ win0_8.index t = ![t.val / 8, 0, 0] ∧ win0_9.index t = ![t.val / 8, 0, 0] :=
  (by decide +kernel : ∀ t : Fin grid0.N, _)

theorem left_read0 (t : Fin cfg0.N) (h : t.val % 2 = 0) (p : Fin 512) (k : Fin 2560) :
    (iblk m c 0 t : FVec Ideal S512x2560 .bf16) (ix2 p k) = a0 m c (ix2 (at8 (tl t) p) ⟨k, by omega⟩) := by
  have := (idx t).1
  rw [h] at this
  blk_ext [iblk, V, this]

theorem left_read1 (t : Fin cfg0.N) (h : t.val % 2 = 1) (p : Fin 512) (k : Fin 2560) :
    (iblk m c 0 t : FVec Ideal S512x2560 .bf16) (ix2 p k) = a0 m c (ix2 (at8 (tl t) p) ⟨2560 + k, by omega⟩) := by
  have := (idx t).1
  rw [h] at this
  blk_ext [iblk, V, this]

theorem right_read0 (t : Fin cfg0.N) (h : t.val % 2 = 0) (k : Fin 2560) (j : Fin 1024) :
    (iblk m c 1 t : FVec Ideal S2560x1024 .bf16) (ix2 k j) = a1 m c (ix2 ⟨k, by omega⟩ j) := by
  have := (idx t).2.1
  rw [h] at this
  blk_ext [iblk, V, this]

theorem right_read1 (t : Fin cfg0.N) (h : t.val % 2 = 1) (k : Fin 2560) (j : Fin 1024) :
    (iblk m c 1 t : FVec Ideal S2560x1024 .bf16) (ix2 k j) = a1 m c (ix2 ⟨2560 + k, by omega⟩ j) := by
  have := (idx t).2.1
  rw [h] at this
  blk_ext [iblk, V, this]

theorem residual_read (t : Fin cfg0.N) (p : Fin 512) (j : Fin 1024) :
    (iblk m c 2 t : Tile) (ix2 p j) = a2 m c (ix2 (at8 (tl t) p) j) := by
  blk_ext [iblk, V, (idx t).2.2.1]

theorem input_read (t : Fin cfg0.N) (p : Fin 512) : row (iblk m c 3 t) p = line (a3 m c) (at8 (tl t) p) := by
  funext j
  show (iblk m c 3 t : Tile) (ix2 p j) = a3 m c _
  blk_ext [iblk, V, (idx t).2.2.2.1]

theorem scale_row (t : Fin cfg0.N) : row3 (iblk m c 5 t) = own (a5 m c) (seq8 (tl t)) := by
  funext j
  show (iblk m c 5 t : FVec Ideal S1x1x1024 .f32) (ix3 0 0 j) = a5 m c _
  have := (idx t).2.2.2.2.2.1
  blk_ext [iblk, V, this]

theorem learned_row (t : Fin cfg0.N) : row2 (learned m c t) = scale m c := by
  funext j
  refine (View.ld_unit_apply_of _ _ _ _ _ (ix2 0 j) fun a => ?_).trans ?_
  · match a with
    | ⟨0, _⟩ => rfl
    | ⟨1, _⟩ => exact (Nat.zero_add _).symm
  · blk_ext [iblk, V, (idx t).2.2.2.2.1]

/-! ## The tiles -/

theorem coming_at (t : Fin cfg0.N) (h : t.val % 2 = 1) (p : Fin 512) (j : Fin 1024) :
    coming m c t (ix2 p j) = prod (a0 m c) (a1 m c) (at8 (tl t) p) j := by
  have h' : (t.val - 1) % 2 = 0 := by omega
  have ht : tl ⟨t.val - 1, before t⟩ = tl t := Fin.ext (by show (t.val - 1) / 2 = t.val / 2; omega)
  refine Eq.trans ?_ (prod_halves _ _ _ _).symm
  refine congrArg₂ (· + ·) ((product_at _ _ p j).trans ?_) ((product_at _ _ p j).trans ?_)
  · refine Finset.sum_congr rfl fun k _ => ?_
    rw [left_read0 m c ⟨t.val - 1, before t⟩ h', right_read0 m c ⟨t.val - 1, before t⟩ h', ht]
  · exact Finset.sum_congr rfl fun k _ => congrArg₂ (· * ·) (left_read1 m c t h p k) (right_read1 m c t h k j)

theorem coming_row (t : Fin cfg0.N) (h : t.val % 2 = 1) (p : Fin 512) :
    row (coming m c t) p = prod (a0 m c) (a1 m c) (at8 (tl t) p) := funext fun j => coming_at m c t h p j

theorem leaving_at (t : Fin cfg0.N) (h : t.val % 2 = 1) (p : Fin 512) (j : Fin 1024) : leaving m c t (ix2 p j)
    = dx (prod (a0 m c) (a1 m c)) (a2 m c) (a3 m c) (scale m c) (a5 m c) (at8 (tl t) p) j := by
  unfold leaving dx
  have e : seq (at8 (tl t) p) = seq8 (tl t) := Fin.ext (by show (512 * (t.val / 2) + p.val) / 2048 = t.val / 2 / 4; omega)
  rw [back_at, learned_row, scale_row, input_read, residual_read, e]
  refine congrArg (fun r => _ + back _ r _ _ j) ?_
  exact coming_row m c t h p

theorem cross_at (t : Fin cfg0.N) (h : t.val % 2 = 1) (p : Fin 512) (j : Fin 1024) :
    (coming m c t (ix2 p j) * normed m c t (ix2 p j) : EReal) = cross (prod (a0 m c) (a1 m c)) (a3 m c) (at8 (tl t) p) j := by
  unfold cross
  refine congrArg₂ (· * ·) (coming_at m c t h p j) ((norm_at _ p j).trans ?_)
  rw [input_read]

/-! ## The accumulators -/

/-- The learned scale's accumulator, a pair of points later. -/
theorem step1 (j : Fin 1024) (n : ℕ) (hn : n < 8) : (outsAt0 m c (2 * n + 1) (point n hn)).2.1 (ix2 0 j)
    = ((if n = 0 then 0 else (outsAt0 m c (2 * (n - 1) + 1) (point (n - 1) (by omega))).2.1 (ix2 0 j) : EReal))
      + part1 (prod (a0 m c) (a1 m c)) (a3 m c) (a5 m c) ⟨n, hn⟩ j := by
  refine (congrFun (out1 m c ⟨2 * n + 1, point n hn⟩ (odd_point n)) _).trans ((scale_at _ _ _ _ j).trans (congrArg₂ (· + ·) ?_
    (congrArg₂ (· * ·) (Finset.sum_congr rfl fun p _ => (cross_at m c _ (odd_point n) p j).trans ?_) ((one_scale_at _ j).trans ?_))))
  · by_cases h : n = 0
    · rw [if_pos h, if_pos (by show 2 * n + 1 = 1; omega)]
      exact zero2_at j
    · rw [if_neg h, if_neg (by show ¬2 * n + 1 = 1; omega)]
      exact from_pair_before (fun n hn => (outsAt0 m c n hn).2.1 (ix2 0 j)) (fun t h => congrFun (kept1 m c t h) _) n hn (by omega) _
  · rw [tl_point]
  · rw [scale_row, tl_point]

/-- The scale's accumulator, a pair of points later. -/
theorem step2 (j : Fin 1024) (n : ℕ) (hn : n < 8) : (outsAt0 m c (2 * n + 1) (point n hn)).2.2.1 (ix3 0 0 j)
    = ((if n % 4 = 0 then 0 else (outsAt0 m c (2 * (n - 1) + 1) (point (n - 1) (by omega))).2.2.1 (ix3 0 0 j) : EReal))
      + part2 (prod (a0 m c) (a1 m c)) (a3 m c) (scale m c) ⟨n, hn⟩ j := by
  refine (congrFun (out2 m c ⟨2 * n + 1, point n hn⟩ (odd_point n)) _).trans ((modulation_at _ _ _ _ j).trans (congrArg₂ (· + ·) ?_
    (congrArg₂ (· * ·) (Finset.sum_congr rfl fun p _ => (cross_at m c _ (odd_point n) p j).trans ?_) (congrFun (learned_row m c _) j))))
  · by_cases h : n % 4 = 0
    · rw [if_pos h, if_pos (by show (2 * n + 1) % 8 = 1; omega)]
      exact zero3_at j
    · rw [if_neg h, if_neg (by show ¬(2 * n + 1) % 8 = 1; omega)]
      exact from_pair_before (fun n hn => (outsAt0 m c n hn).2.2.1 (ix3 0 0 j)) (fun t h => congrFun (kept2 m c t h) _) n hn (by omega) _
  · rw [tl_point]

/-- The shift's accumulator, a pair of points later. -/
theorem step3 (j : Fin 1024) (n : ℕ) (hn : n < 8) : (outsAt0 m c (2 * n + 1) (point n hn)).2.2.2.1 (ix3 0 0 j)
    = ((if n % 4 = 0 then 0 else (outsAt0 m c (2 * (n - 1) + 1) (point (n - 1) (by omega))).2.2.2.1 (ix3 0 0 j) : EReal))
      + part3 (prod (a0 m c) (a1 m c)) ⟨n, hn⟩ j := by
  refine (congrFun (out3 m c ⟨2 * n + 1, point n hn⟩ (odd_point n)) _).trans ((shift_at _ _ j).trans (congrArg₂ (· + ·) ?_
    (Finset.sum_congr rfl fun p _ => (coming_at m c _ (odd_point n) p j).trans ?_)))
  · by_cases h : n % 4 = 0
    · rw [if_pos h, if_pos (by show (2 * n + 1) % 8 = 1; omega)]
      exact zero3_at' j
    · rw [if_neg h, if_neg (by show ¬(2 * n + 1) % 8 = 1; omega)]
      exact from_pair_before (fun n hn => (outsAt0 m c n hn).2.2.2.1 (ix3 0 0 j)) (fun t h => congrFun (kept3 m c t h) _) n hn (by omega) _
  · rw [tl_point]

/-! ## The arrays -/

theorem array0 : (dats m 0 c).arrAt 6 cfg0.N = result0 (prod (a0 m c) (a1 m c)) (a2 m c) (a3 m c) (scale m c) (a5 m c) := by
  refine (dats m 0 c).arrAt_eq_of_covers 6 _ (by decide +kernel) fun t hf y => ?_
  have h := (flush0_6 t).mp hf
  obtain ⟨p, j, rfl⟩ := tile_cases y
  blk_simp
  rw [after0_6, out0 m c t h]
  refine (leaving_at m c t h p j).trans ?_
  have : ((cfg0.win 6).blk t).view.emb (ix2 p j) = ix2 (at8 (tl t) p) j := by blk_ext [idx t]
  rw [this]
  rfl

theorem array1 : (dats m 0 c).arrAt 7 cfg0.N = overAll (part1 (prod (a0 m c) (a1 m c)) (a3 m c) (a5 m c)) := by
  refine (dats m 0 c).arrAt_eq_of_covers 7 _ (by decide +kernel) fun t hf y => ?_
  have h := (flush0_7 t).mp hf
  obtain ⟨j, rfl⟩ := row_cases y
  blk_simp
  rw [after0_7]
  refine (last_all (fun n hn => (outsAt0 m c n hn).2.1 (ix2 0 j)) _ (step1 m c j) t h).trans ?_
  have : ((cfg0.win 7).blk t).view.emb (ix2 0 j) = ix2 0 j := by blk_ext [idx t]
  rw [this]
  rfl

theorem array2 : (dats m 0 c).arrAt 8 cfg0.N = overSeq (part2 (prod (a0 m c) (a1 m c)) (a3 m c) (scale m c)) := by
  refine (dats m 0 c).arrAt_eq_of_covers 8 _ (by decide +kernel) fun t hf y => ?_
  have h := (flush0_8 t).mp hf
  obtain ⟨j, rfl⟩ := deep_cases y
  blk_simp
  rw [after0_8]
  refine (last (fun n hn => (outsAt0 m c n hn).2.2.1 (ix3 0 0 j)) _ (step2 m c j) t h).trans ?_
  have : ((cfg0.win 8).blk t).view.emb (ix3 0 0 j) = ix3 (sq t) 0 j := by blk_ext [idx t]
  rw [this]
  rfl

theorem array3 : (dats m 0 c).arrAt 9 cfg0.N = overSeq (part3 (prod (a0 m c) (a1 m c))) := by
  refine (dats m 0 c).arrAt_eq_of_covers 9 _ (by decide +kernel) fun t hf y => ?_
  have h := (flush0_9 t).mp hf
  obtain ⟨j, rfl⟩ := deep_cases y
  blk_simp
  rw [after0_9]
  refine (last (fun n hn => (outsAt0 m c n hn).2.2.2.1 (ix3 0 0 j)) _ (step3 m c j) t h).trans ?_
  have : ((cfg0.win 9).blk t).view.emb (ix3 0 0 j) = ix3 (sq t) 0 j := by blk_ext [idx t]
  rw [this]
  rfl

end Cert.InDxKernelIdeal.Block
-- ==== Proof.InDxReference.lean ====
/-
  The reference of the backward pass through the product with the first projection and the normalisation: its results are
  those of `InDx`, for finite cotangents, weights and scales.
-/
module

public import proofs.«01_k».proof.Proof.InDx
public import proofs.«01_k».proof.Proof.UpDxReference
public import proofs.«01_k».proof.Proof.Gen.InDxReferenceIdeal.Read

@[expose] public section

set_option maxRecDepth 16384

noncomputable section

namespace Cert.InDxReferenceIdeal.Block

open Cert.InDxReferenceIdeal Cert.InDxReferenceIdeal.Gen Cert.InDxReferenceIdeal.Read Cert.Chunk Cert.Norm Cert.InDx
  Idealize.ShloMosaic Idealize.ShloMosaic.TcCoe Idealize.SL.Sem
open Cert.UpDx hiding dx cross result0 part2 part3
open Cert.UpDxReferenceIdeal.Block (pair_cases row_cases rows_cases seq_at2)

variable (x0 : FVec Ideal S4096x5120 .bf16) (x1 : FVec Ideal S5120x1024 .bf16) (x2 x3 : FVec Ideal S4096x1024 .f32)
  (x4 : FVec Ideal S2x1024 .f32) (x5 : FVec Ideal S2x1x1024 .f32)

/-- The learned scale of the layer. -/
abbrev scale : Row := fun j => x4 (ix2 0 j)

/-! ## The product -/

theorem weights_at (k : Fin 5120) (j : Fin 1024) : val_main_v2 (F := Ideal) x1 (ix2 j k) = x1 (ix2 k j) := by
  rw [val_main_v2_apply]
  show val_main_v1 (F := Ideal) x1 _ = _
  rw [val_main_v1_apply]
  blk_ext

theorem v5_at (r : Fin 4096) (j : Fin 1024) : val_main_v5 (F := Ideal) x0 x1 (ix2 r j) = prod x0 x1 r j := by
  rw [val_main_v5_apply]
  refine Finset.sum_congr rfl fun k _ => congrArg₂ (· * ·) ?_ ?_
  · show x0 _ = _
    blk_ext
  · refine Eq.trans (congrArg (val_main_v2 (F := Ideal) x1) ?_) (weights_at x1 k j)
    blk_ext

theorem v6_at (s : Fin 2) (r : Fin 2048) (j : Fin 1024) : val_main_v6 (F := Ideal) x0 x1 (ix3 s r j) = prod x0 x1 (at2 s r) j := by
  rw [val_main_v6_apply, ← v5_at]
  blk_ext

/-! ## The normalised rows -/

theorem v7_at (s : Fin 2) (r : Fin 2048) (j : Fin 1024) : val_main_v7 (F := Ideal) x3 (ix3 s r j) = line x3 (at2 s r) j := by
  rw [val_main_v7_apply]
  blk_ext

theorem v17_at (s : Fin 2) (r : Fin 2048) : val_main_v17 (F := Ideal) x3 (ix3 s r 0) = msq (line x3 (at2 s r)) := by
  rw [val_main_v17_apply, val_main_v15_apply, val_main_v13_apply, val_main_v12_apply, val_main_v14_apply,
    val_main_cst_1_apply, val_main_cst_2_apply, val_main_v16_apply, val_main_cst_3_apply]
  show Ideal.div (Ideal.ofBits .f32 0x00000000#32 + _) _ + cEps = _
  rw [Ideal.ofBits_zero_f32, zero_add]
  refine (congrArg (· + cEps) (div_1024 _)).trans ?_
  unfold msq
  refine congrArg (· * cMean + cEps) (Finset.sum_congr rfl fun k _ => ?_)
  rw [val_main_v11_apply]
  have e : idx_main_v12 (idx_main_v13 (ix3 s r 0)) k = ix3 s r k := by blk_ext
  rw [e, v7_at]
  rfl

theorem v18_at (s : Fin 2) (r : Fin 2048) : val_main_v18 (F := Ideal) x3 (ix3 s r 0) = rinv (line x3 (at2 s r)) := by
  rw [val_main_v18_apply, v17_at]
  rfl

theorem v21_at (s : Fin 2) (r : Fin 2048) : val_main_v21 (F := Ideal) x3 (ix3 s r 0)
    = cNeg * Ideal.div (rinv (line x3 (at2 s r))) (msq (line x3 (at2 s r))) := by
  rw [val_main_v21_apply, val_main_v20_apply, val_main_cst_4_apply, val_main_v19_apply, v17_at, v18_at]
  rfl

theorem v23_at (s : Fin 2) (r : Fin 2048) (j : Fin 1024) : val_main_v23 (F := Ideal) x3 (ix3 s r j) = xhat (line x3 (at2 s r)) j := by
  rw [val_main_v23_apply, v7_at, val_main_v22_apply]
  have e : idx_main_v22 (ix3 s r j) = ix3 s r 0 := by blk_ext
  rw [e, v18_at]
  rfl

/-! ## The scales -/

theorem v9_at (j : Fin 1024) : val_main_v9 (F := Ideal) x4 (ix1 j) = scale x4 j := by
  rw [val_main_v9_apply, val_main_v8_apply]
  blk_ext

theorem v25_at (s : Fin 2) (r : Fin 2048) (j : Fin 1024) : val_main_v25 (F := Ideal) x4 (ix3 s r j) = scale x4 j := by
  rw [val_main_v25_apply, val_main_v24_apply, ← v9_at]
  blk_ext

theorem v43_at (s : Fin 2) (r : Fin 2048) (j : Fin 1024) : val_main_v43 (F := Ideal) x4 (ix3 s r j) = scale x4 j := by
  rw [val_main_v43_apply, val_main_v24_apply, ← v9_at]
  blk_ext

theorem v39_at (s : Fin 2) (r : Fin 2048) (j : Fin 1024) : val_main_v39 (F := Ideal) x0 x1 x5 (ix3 s r j)
    = prod x0 x1 (at2 s r) j * more x5 s j := by
  rw [val_main_v39_apply, v6_at, val_main_v38_apply]
  have e : idx_main_v38 (ix3 s r j) = ix3 s 0 j := by blk_ext
  rw [e, val_main_v28_apply, val_main_v27_apply, val_main_cst_5_apply]
  rfl

theorem v44_at (s : Fin 2) (r : Fin 2048) (j : Fin 1024) : val_main_v44 (F := Ideal) x0 x1 x4 x5 (ix3 s r j)
    = prod x0 x1 (at2 s r) j * more x5 s j * scale x4 j := by
  rw [val_main_v44_apply, v39_at, v43_at]
  rfl

/-! ## The normalisation's cotangent -/

/-- The cotangent of a normalised row. -/
abbrev coming (s : Fin 2) (r : Fin 2048) : Row := fun j => prod x0 x1 (at2 s r) j * more x5 s j * scale x4 j

theorem v55_at (s : Fin 2) (r : Fin 2048) (j : Fin 1024) : val_main_v55 (F := Ideal) x0 x1 x3 x4 x5 (ix3 s r j)
    = thr (line x3 (at2 s r)) (coming x0 x1 x4 x5 s r) := by
  rw [val_main_v55_apply, val_main_v54_apply, val_main_cst_12_apply, Fin.sum_univ_one]
  have e : idx_main_v54 (idx_main_v55 (ix3 s r j)) 0 = ix3 s r 0 := by blk_ext
  rw [e, val_main_v53_apply, val_main_v52_apply, val_main_cst_11_apply, val_main_v51_apply, v21_at, val_main_v48_apply,
    val_main_v47_apply, val_main_cst_10_apply]
  show Ideal.ofBits .f32 0x00000000#32 + Ideal.div ((Ideal.ofBits .f32 0x00000000#32 + _) * _) _ = _
  rw [Ideal.ofBits_zero_f32, zero_add, zero_add]
  refine (div_1024 _).trans ?_
  unfold thr
  refine congrArg (· * _ * cMean) (Finset.sum_congr rfl fun k _ => ?_)
  have e : idx_main_v47 (idx_main_v48 (ix3 s r 0)) k = ix3 s r k := by blk_ext
  rw [val_main_v46_apply, e, v7_at, v44_at]
  rfl

theorem v59_at (s : Fin 2) (r : Fin 2048) (j : Fin 1024) : val_main_v59 (F := Ideal) x0 x1 x3 x4 x5 (ix3 s r j)
    = deriv (line x3 (at2 s r)) (coming x0 x1 x4 x5 s r) j := by
  rw [val_main_v59_apply, val_main_v57_apply, val_main_v56_apply, val_main_v58_apply, val_main_v50_apply, v44_at, v7_at, v55_at,
    val_main_v49_apply]
  have e : idx_main_v49 (ix3 s r j) = ix3 s r 0 := by blk_ext
  rw [e, v18_at]
  rfl

section
variable (h0 : ∀ y, Finite (x0 y)) (h1 : ∀ y, Finite (x1 y)) (h4 : ∀ y, Finite (x4 y)) (h5 : ∀ y, Finite (x5 y))
include h0 h1 h4 h5

/-- The residual stream's cotangent. -/
theorem result0_eq : val_main_v62 (F := Ideal) x0 x1 x2 x3 x4 x5 = result0 (prod x0 x1) x2 x3 (scale x4) x5 := by
  funext y
  obtain ⟨s, r, j, rfl⟩ := rows_cases y
  have e : idx_main_v62 (ix2 (at2 s r) j) = ix3 s r j := by blk_ext
  rw [val_main_v62_apply]
  show val_main_v61 (F := Ideal) x0 x1 x2 x3 x4 x5 _ = dx (prod x0 x1) x2 x3 (scale x4) x5 (at2 s r) j
  rw [e, val_main_v61_apply, v59_at, val_main_v60_apply]
  unfold dx
  rw [seq_at2, ← deriv_eq_back _ _ _ _ (prod_finite h0 h1 _) (fun _ => h4 _) (more_finite h5 s)]
  refine congrArg (· + _) ?_
  blk_ext

omit h4 in
/-- The learned scale's. -/
theorem result1_eq : val_main_v63 (F := Ideal) x0 x1 x3 x5 = overAll (part1 (prod x0 x1) x3 x5) := by
  funext y
  obtain ⟨j, rfl⟩ := row_cases y
  have ey : idx_main_v63 (ix2 0 j) = ix1 j := by blk_ext
  rw [val_main_v63_apply, ey]
  have z : ∀ i, (val_main_cst_9 (F := Ideal)) i = (0 : EReal) := fun _ => Ideal.ofBits_zero_f32
  have z' : ∀ i, (val_main_cst_8 (F := Ideal)) i = (0 : EReal) := fun _ => Ideal.ofBits_zero_f32
  have e : idx_main_v42 (ix3 0 0 j) = ix1 j := by blk_ext
  show Ideal.hostReduceAdd reducesTo_S1x1x1024_S1024_d0_1 (val_main_v42 (F := Ideal) x0 x1 x3 x5) (val_main_cst_9 (F := Ideal) _) (ix1 j) = _
  rw [z, reduce_ones, val_main_v42_apply, e]
  show Ideal.hostReduceAdd reducesTo_S2x2048x1024_S1024_d0_1 (val_main_v40 (F := Ideal) x0 x1 x3 x5) (val_main_cst_8 (F := Ideal) _) (ix1 j) = _
  rw [z', reduce_rows]
  unfold part1
  refine Eq.trans (Finset.sum_congr rfl fun s _ => Finset.sum_congr rfl fun r _ => ?_) ((sum_all fun r =>
    cross (prod x0 x1) x3 r j * more x5 (seq r) j).trans (Finset.sum_congr rfl fun i _ => ?_))
  · rw [val_main_v40_apply, v23_at, v39_at]
    unfold cross
    rw [seq_at2]
    exact (mul_left_comm _ _ _).trans (mul_assoc _ _ _).symm
  · refine Eq.trans ?_ (sum_mul_finite _ (fun p => cross_finite x3 (prod_finite h0 h1) (at8 i p) j) (more_finite h5 (seq8 i) j)).symm
    refine Finset.sum_congr rfl fun p _ => ?_
    have e : seq (at8 i p) = seq8 i := Fin.ext (by show (512 * (i : ℕ) + p) / 2048 = i / 4; omega)
    rw [e]

omit h5 in
/-- The scale's. -/
theorem result2_eq : val_main_v37 (F := Ideal) x0 x1 x3 x4 = overSeq (part2 (prod x0 x1) x3 (scale x4)) := by
  funext y
  obtain ⟨s, j, rfl⟩ := pair_cases y
  rw [val_main_v37_apply, val_main_v36_apply, val_main_cst_7_apply]
  refine (congrArg (· + _) Ideal.ofBits_zero_f32).trans ((zero_add _).trans ?_)
  refine Eq.trans (Finset.sum_congr rfl fun r _ => ?_) ((sum_seq s fun r => cross (prod x0 x1) x3 r j * scale x4 j).trans
    (Finset.sum_congr rfl fun i _ => (sum_mul_finite _ (fun p => cross_finite x3 (prod_finite h0 h1) _ _) (h4 _)).symm))
  have e : idx_main_v36 (idx_main_v37 (ix3 s 0 j)) r = ix3 s r j := by blk_ext
  rw [val_main_v35_apply, val_main_v26_apply, e, v23_at, v25_at, v6_at]
  unfold cross
  exact (mul_comm _ _).trans (mul_assoc _ _ _).symm

omit h0 h1 h4 h5 in
/-- The shift's. -/
theorem result3_eq : val_main_v34 (F := Ideal) x0 x1 = overSeq (part3 (prod x0 x1)) := by
  funext y
  obtain ⟨s, j, rfl⟩ := pair_cases y
  rw [val_main_v34_apply, val_main_v33_apply, val_main_cst_6_apply]
  refine (congrArg (· + _) Ideal.ofBits_zero_f32).trans ((zero_add _).trans ?_)
  refine Eq.trans (Finset.sum_congr rfl fun r _ => ?_) (sum_seq s fun r => prod x0 x1 r j)
  have e : idx_main_v33 (idx_main_v34 (ix3 s 0 j)) r = ix3 s r j := by blk_ext
  rw [e, v6_at]

end

variable (m : (ℓ : Loc nD τ sig) → Buf (Elt Ideal) ℓ) (ρ : Dev nD → PrngReg)

/-- Every run ends with the results at the stages' values over the arguments. -/
theorem run_stages : θ_run (defs (F := Ideal)) (onTc (τ := τ) (main (F := Ideal))) ⟨m, fun _ => 0, ρ⟩ fun r => ∀ c : Dev nD,
    r.2.mem ((c.tc : Thread nD τ).loc main_v62) = val_main_v62 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
    ∧ r.2.mem ((c.tc : Thread nD τ).loc main_v63) = val_main_v63 (F := Ideal) (m ((c.tc : Thread nD τ).loc main_arg0)) (m ((c.tc : Thread nD τ).loc main_arg1))
        (m ((c.tc : Thread nD τ).loc main_arg3)) (m ((c.tc : Thread nD τ).loc main_arg5))
    ∧ r.2.mem ((c.tc : Thread nD τ).loc main_v37) = val_main_v37 (F := Ideal) (m ((c.tc : Thread nD τ).loc main_arg0)) (m ((c.tc : Thread nD τ).loc main_arg1))
        (m ((c.tc : Thread nD τ).loc main_arg3)) (m ((c.tc : Thread nD τ).loc main_arg4))
    ∧ r.2.mem ((c.tc : Thread nD τ).loc main_v34) = val_main_v34 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run (defs (F := Ideal)) _ _).mono
    (fun _ h c => ⟨(h c).1.trans (val_main_v62_eq m c), (h c).2.1.trans (val_main_v63_eq _ _ _ _),
      (h c).2.2.1.trans (val_main_v37_eq _ _ _ _), (h c).2.2.2.1.trans (val_main_v34_eq _ _), (h c).2.2.2.2⟩)
    (Cert.InDxReferenceIdeal.Value.run m ρ)

/-- Every run leaves the arguments as they were and every counter at zero. -/
theorem run_quiescent : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0 :=
  (θ_run (defs (F := Ideal)) _ _).mono
    (fun _ h => ⟨fun c => (h c).2.2.2.2, sem_eq_zero_of_no_sems (by decide) _⟩) (run_stages m ρ)

end Cert.InDxReferenceIdeal.Block
-- ==== Proof.InDxFinite.lean ====
/-
  What the precondition of the first projection's call says: every entry of the cotangent, the weights and the two scales is
  a real number.
-/
module

public import proofs.«01_k».proof.Pre_finite_in
public import proofs.«01_k».proof.Proof.UpDxFinite

@[expose] public section

set_option maxRecDepth 16384

noncomputable section

namespace Cert.Pre_finite_in

open Cert.Norm Idealize.ShloMosaic
open Cert.Pre_finite (finite_of_all top_eq)

variable [Facts] (x0 : FVec Ideal S4096x5120 .bf16) (x1 : FVec Ideal S5120x1024 .bf16) (x2 x3 : FVec Ideal S4096x1024 .f32)
  (x4 : FVec Ideal S2x1024 .f32) (x5 : FVec Ideal S2x1x1024 .f32) (x6 : FVec Ideal S1x1 .f32)

theorem all_finite (h : fn (F := Ideal) x0 x1 x2 x3 x4 x5 x6 = fun _ => 1#1) :
    (∀ y, Finite (x0 y)) ∧ (∀ y, Finite (x1 y)) ∧ (∀ y, Finite (x4 y)) ∧ (∀ y, Finite (x5 y)) := by
  have e := congrFun h (fun i => i.elim0)
  unfold fn fn_part1 at e
  obtain ⟨e, e5⟩ := IntOp.andi_eq_one.1 e
  obtain ⟨e, e4⟩ := IntOp.andi_eq_one.1 e
  obtain ⟨e0, e1⟩ := IntOp.andi_eq_one.1 e
  exact ⟨finite_of_all x0 _ (fun _ => top_eq) _ _ _ _ e0, finite_of_all x1 _ (fun _ => top_eq) _ _ _ _ e1,
    finite_of_all x4 _ (fun _ => top_eq) _ _ _ _ e4, finite_of_all x5 _ (fun _ => top_eq) _ _ _ _ e5⟩

end Cert.Pre_finite_in
-- ==== Proof.Forward.lean ====
/-
  A forward product followed by the gated residual and the next normalisation with its scale and shift: what it leaves, as
  functions of the product's rows and of what else it reads. Nothing here speaks of a program.
-/
module

public import proofs.«01_k».proof.Proof.UpDx

@[expose] public section

noncomputable section

namespace Cert.Forward

open Cert.Chunk Cert.Norm Cert.UpDx Idealize.ShloMosaic

/-- An array from its rows. -/
def flat (f : Fin 4096 → Row) : Rows := fun y => f ⟨(y 0).val, (y 0).isLt⟩ ⟨(y 1).val, (y 1).isLt⟩

/-- The rows of a product. -/
def prod {n : ℕ} (x0 : (⟨2, ![4096, n]⟩ : Shape).Idx → EReal) (x1 : (⟨2, ![n, 1024]⟩ : Shape).Idx → EReal) (r : Fin 4096) : Row :=
  fun j => ∑ k : Fin n, x0 (ix2 r k) * x1 (ix2 k j)

variable (d : Fin 4096 → Row) (x2 : Rows) (x3 : Pair) (g : Row) (x5 x6 : Pair)

/-- The residual stream with the gated product. -/
def next (r : Fin 4096) : Row := fun j => x2 (ix2 r j) + own x3 (seq r) j * d r j

/-- That stream normalised, scaled and shifted. -/
def scaled (r : Fin 4096) : Row := fun j =>
  xhat (next d x2 x3 r) j * (g j * more x5 (seq r) j) + own x6 (seq r) j

end Cert.Forward
-- ==== Proof.OutArrays.lean ====
/-
  The output projection, forward, with the gated residual and the second normalisation: the arrays that the kernel leaves
  are those of `Forward`.
-/
module

public import proofs.«01_k».proof.Proof.Forward
public import proofs.«01_k».proof.Proof.UpDxArrays
public import proofs.«01_k».proof.Proof.Gen.OutKernelIdeal.Value

@[expose] public section

set_option maxRecDepth 16384

noncomputable section

namespace Cert.OutKernelIdeal.Block

open Cert.OutKernelIdeal Cert.OutKernelIdeal.Gen Cert.Chunk Cert.Norm Cert.UpDx Cert.Forward Idealize.ShloMosaic Idealize.ShloMosaic.TcCoe
  Idealize.SL.Sem
open Cert.UpDxKernelIdeal.Block (Tile row row2 row3 tile_cases)

/-! ## The values -/

theorem product_at (a : FVec Ideal S512x2048 .bf16) (b : FVec Ideal S2048x1024 .bf16) (p : Fin 512) (j : Fin 1024) :
    (k0_pay2 (F := Ideal) a b (ix2 p j) : EReal) = ∑ k : Fin 2048, a (ix2 p k) * b (ix2 k j) := by
  unfold k0_pay2
  pointwise

theorem next_at (a : FVec Ideal S512x2048 .bf16) (b : FVec Ideal S2048x1024 .bf16) (x : Tile) (g : FVec Ideal S1x1x1024 .f32)
    (p : Fin 512) (j : Fin 1024) :
    k0_pay3 (F := Ideal) a b x g (ix2 p j) = x (ix2 p j) + row3 g j * k0_pay2 (F := Ideal) a b (ix2 p j) :=
  congrArg (x (ix2 p j) + ·) (congrArg (· * _) ((UpDxKernelIdeal.Block.spread_row _ p j).trans (UpDxKernelIdeal.Block.flat_at g j)))

theorem scaled_at (a : FVec Ideal S512x2048 .bf16) (b : FVec Ideal S2048x1024 .bf16) (x : Tile) (g : FVec Ideal S1x1x1024 .f32)
    (w : FVec Ideal S1x1024 .f32) (s h : FVec Ideal S1x1x1024 .f32) (p : Fin 512) (j : Fin 1024) :
    k0_pay1 (F := Ideal) (k0_pay4 (F := Ideal) a b x g w s) (k0_pay5 (F := Ideal) h) (ix2 p j)
      = xhat (row (k0_pay3 (F := Ideal) a b x g) p) j * (row2 w j * (cOne + row3 s j)) + row3 h j :=
  congrArg₂ (· + ·) (congrArg₂ (· * ·) (UpDxKernelIdeal.Block.norm_at (k0_pay3 (F := Ideal) a b x g) p j)
    ((UpDxKernelIdeal.Block.spread_row _ p j).trans (congrArg (row2 w j * ·) (UpDxKernelIdeal.Block.one_scale_at s j))))
    ((UpDxKernelIdeal.Block.spread_row _ p j).trans (UpDxKernelIdeal.Block.flat_at h j))

variable (m : (ℓ : Loc nD τ sig) → Buf (Elt Ideal) ℓ) (c : Dev nD)

/-! ## The arguments -/

abbrev a0 : FVec Ideal S4096x2048 .bf16 := m ((c : Thread nD τ).loc main_arg0)
abbrev a1 : FVec Ideal S2048x1024 .bf16 := m ((c : Thread nD τ).loc main_arg1)
abbrev a2 : FVec Ideal S4096x1024 .f32 := m ((c : Thread nD τ).loc main_arg2)
abbrev a3 : FVec Ideal S2x1x1024 .f32 := m ((c : Thread nD τ).loc main_arg3)
abbrev a4 : FVec Ideal S2x1024 .f32 := m ((c : Thread nD τ).loc main_arg4)
abbrev a5 : FVec Ideal S2x1x1024 .f32 := m ((c : Thread nD τ).loc main_arg5)
abbrev a6 : FVec Ideal S2x1x1024 .f32 := m ((c : Thread nD τ).loc main_arg6)
/-- The learned scale of the layer. -/
abbrev scale : Row := fun j => a4 m c (ix2 1 j)

/-! ## The blocks -/

theorem idx : ∀ t : Fin cfg0.N, win0_0.index t = ![t.val, 0] ∧ win0_1.index t = ![0, 0] ∧ win0_2.index t = ![t.val, 0]
    ∧ win0_3.index t = ![t.val / 4, 0, 0] ∧ win0_4.index t = ![0, 0] ∧ win0_5.index t = ![t.val / 4, 0, 0]
    ∧ win0_6.index t = ![t.val / 4, 0, 0] ∧ win0_7.index t = ![t.val, 0] ∧ win0_8.index t = ![t.val, 0] ∧ win0_9.index t = ![t.val, 0] :=
  (by decide +kernel : ∀ t : Fin grid0.N, _)

/-- The row tile of a point. -/
abbrev tl (t : Fin cfg0.N) : Fin 8 := ⟨t.val, lt_of_lt_of_eq t.isLt N_0⟩

theorem left_read (t : Fin cfg0.N) (p : Fin 512) (k : Fin 2048) :
    (iblk m c 0 t : FVec Ideal S512x2048 .bf16) (ix2 p k) = a0 m c (ix2 (at8 (tl t) p) k) := by
  blk_ext [iblk, V, (idx t).1]

theorem right_read (t : Fin cfg0.N) (k : Fin 2048) (j : Fin 1024) :
    (iblk m c 1 t : FVec Ideal S2048x1024 .bf16) (ix2 k j) = a1 m c (ix2 k j) := by
  blk_ext [iblk, V, (idx t).2.1]

theorem stream_read (t : Fin cfg0.N) (p : Fin 512) (j : Fin 1024) :
    (iblk m c 2 t : Tile) (ix2 p j) = a2 m c (ix2 (at8 (tl t) p) j) := by
  blk_ext [iblk, V, (idx t).2.2.1]

theorem gate_row (t : Fin cfg0.N) : row3 (iblk m c 3 t) = own (a3 m c) (seq8 (tl t)) := by
  funext j
  show (iblk m c 3 t : FVec Ideal S1x1x1024 .f32) (ix3 0 0 j) = a3 m c _
  have := (idx t).2.2.2.1
  blk_ext [iblk, V, this]

theorem scale_row (t : Fin cfg0.N) : row3 (iblk m c 5 t) = own (a5 m c) (seq8 (tl t)) := by
  funext j
  show (iblk m c 5 t : FVec Ideal S1x1x1024 .f32) (ix3 0 0 j) = a5 m c _
  have := (idx t).2.2.2.2.2.1
  blk_ext [iblk, V, this]

theorem shift_row (t : Fin cfg0.N) : row3 (iblk m c 6 t) = own (a6 m c) (seq8 (tl t)) := by
  funext j
  show (iblk m c 6 t : FVec Ideal S1x1x1024 .f32) (ix3 0 0 j) = a6 m c _
  have := (idx t).2.2.2.2.2.2.1
  blk_ext [iblk, V, this]

/-- The learned scale. -/
def learned (t : Fin cfg0.N) : FVec Ideal S1x1024 .f32 := View.ld (iblk m c 4 t) r0_4

theorem learned_row (t : Fin cfg0.N) : row2 (learned m c t) = scale m c := by
  funext j
  refine (View.ld_unit_apply_of _ _ _ _ _ (ix2 1 j) fun a => ?_).trans ?_
  · match a with
    | ⟨0, _⟩ => rfl
    | ⟨1, _⟩ => exact (Nat.zero_add _).symm
  · blk_ext [iblk, V, (idx t).2.2.2.2.1]

/-! ## The tiles -/

/-- The product's tile. -/
def tile2 (t : Fin cfg0.N) : Tile := k0_pay2 (iblk m c 0 t) (iblk m c 1 t)
/-- The stream's. -/
def tile3 (t : Fin cfg0.N) : Tile := k0_pay3 (iblk m c 0 t) (iblk m c 1 t) (iblk m c 2 t) (iblk m c 3 t)
/-- The normalised, scaled and shifted stream's. -/
def tile1 (t : Fin cfg0.N) : FVec Ideal S512x1024 .bf16 :=
  k0_pay1 (k0_pay4 (iblk m c 0 t) (iblk m c 1 t) (iblk m c 2 t) (iblk m c 3 t) (learned m c t) (iblk m c 5 t)) (k0_pay5 (iblk m c 6 t))

theorem seq_tile (t : Fin cfg0.N) (p : Fin 512) : seq (at8 (tl t) p) = seq8 (tl t) :=
  Fin.ext (by show (512 * t.val + p.val) / 2048 = t.val / 4; omega)

theorem tile2_at (t : Fin cfg0.N) (p : Fin 512) (j : Fin 1024) :
    tile2 m c t (ix2 p j) = prod (a0 m c) (a1 m c) (at8 (tl t) p) j :=
  (product_at _ _ p j).trans (Finset.sum_congr rfl fun k _ => congrArg₂ (· * ·) (left_read m c t p k) (right_read m c t k j))

theorem tile3_at (t : Fin cfg0.N) (p : Fin 512) (j : Fin 1024) :
    tile3 m c t (ix2 p j) = next (prod (a0 m c) (a1 m c)) (a2 m c) (a3 m c) (at8 (tl t) p) j := by
  unfold tile3 next
  rw [next_at, stream_read, gate_row, seq_tile]
  exact congrArg (fun v => _ + _ * v) (tile2_at m c t p j)

theorem tile1_at (t : Fin cfg0.N) (p : Fin 512) (j : Fin 1024) : tile1 m c t (ix2 p j)
    = scaled (prod (a0 m c) (a1 m c)) (a2 m c) (a3 m c) (scale m c) (a5 m c) (a6 m c) (at8 (tl t) p) j := by
  unfold tile1 scaled
  rw [scaled_at, learned_row, scale_row, shift_row, seq_tile]
  exact congrArg (fun x => xhat x j * _ + _) (funext fun k => tile3_at m c t p k)

/-! ## The arrays -/

theorem hz : (![0, 0] : Fin 2 → Nat) = fun _ => 0 := by decide
theorem hz3 : (![0, 0, 0] : Fin 3 → Nat) = fun _ => 0 := by decide

theorem out7 (t : Fin cfg0.N) : (dats m 0 c).after 7 t = tile2 m c t := by
  rw [after0_7]
  unfold out0_7
  rw [View.canon_unit_zero hz, View.ld_unit_zero (S := S512x2048) hz, View.ld_unit_zero (S := S2048x1024) hz]
  rfl

theorem out8 (t : Fin cfg0.N) : (dats m 0 c).after 8 t = tile3 m c t := by
  rw [after0_8]
  unfold out0_8
  rw [View.canon_unit_zero hz, View.ld_unit_zero (S := S512x2048) hz, View.ld_unit_zero (S := S2048x1024) hz,
    View.ld_unit_zero (S := S512x1024) hz, View.ld_unit_zero (S := S1x1x1024) hz3]
  rfl

theorem out9 (t : Fin cfg0.N) : (dats m 0 c).after 9 t = tile1 m c t := by
  rw [after0_9]
  unfold out0_9
  rw [View.canon_unit_zero hz, View.ld_unit_zero (S := S512x2048) hz, View.ld_unit_zero (S := S2048x1024) hz,
    View.ld_unit_zero (S := S512x1024) hz, View.ld_unit_zero (S := S1x1x1024) hz3, View.ld_unit_zero (S := S1x1x1024) hz3,
    View.ld_unit_zero (S := S1x1x1024) hz3]
  rfl

theorem array7 : (dats m 0 c).arrAt 7 cfg0.N = flat (prod (a0 m c) (a1 m c)) := by
  refine (dats m 0 c).arrAt_eq_of_covers 7 _ (by decide +kernel) fun t hf y => ?_
  obtain ⟨p, j, rfl⟩ := tile_cases y
  blk_simp
  rw [out7 m c t]
  refine (tile2_at m c t p j).trans ?_
  have : ((cfg0.win 7).blk t).view.emb (ix2 p j) = ix2 (at8 (tl t) p) j := by blk_ext [idx t]
  rw [this]
  rfl

theorem array8 : (dats m 0 c).arrAt 8 cfg0.N = flat (next (prod (a0 m c) (a1 m c)) (a2 m c) (a3 m c)) := by
  refine (dats m 0 c).arrAt_eq_of_covers 8 _ (by decide +kernel) fun t hf y => ?_
  obtain ⟨p, j, rfl⟩ := tile_cases y
  blk_simp
  rw [out8 m c t]
  refine (tile3_at m c t p j).trans ?_
  have : ((cfg0.win 8).blk t).view.emb (ix2 p j) = ix2 (at8 (tl t) p) j := by blk_ext [idx t]
  rw [this]
  rfl

theorem array9 : (dats m 0 c).arrAt 9 cfg0.N
    = flat (scaled (prod (a0 m c) (a1 m c)) (a2 m c) (a3 m c) (scale m c) (a5 m c) (a6 m c)) := by
  refine (dats m 0 c).arrAt_eq_of_covers 9 _ (by decide +kernel) fun t hf y => ?_
  obtain ⟨p, j, rfl⟩ := tile_cases y
  blk_simp
  rw [out9 m c t]
  refine (tile1_at m c t p j).trans ?_
  have : ((cfg0.win 9).blk t).view.emb (ix2 p j) = ix2 (at8 (tl t) p) j := by blk_ext [idx t]
  rw [this]
  rfl

end Cert.OutKernelIdeal.Block
-- ==== Proof.OutReference.lean ====
/-
  The reference of the output projection, forward, with the gated residual and the second normalisation: its results are
  those of `Forward`.
-/
module

public import proofs.«01_k».proof.Proof.Forward
public import proofs.«01_k».proof.Proof.UpDxReference
public import proofs.«01_k».proof.Proof.Gen.OutReferenceIdeal.Read

@[expose] public section

set_option maxRecDepth 16384

noncomputable section

namespace Cert.OutReferenceIdeal.Block

open Cert.OutReferenceIdeal Cert.OutReferenceIdeal.Gen Cert.OutReferenceIdeal.Read Cert.Chunk Cert.Norm Cert.UpDx Cert.Forward
  Idealize.ShloMosaic Idealize.ShloMosaic.TcCoe Idealize.SL.Sem
open Cert.UpDxReferenceIdeal.Block (rows_cases seq_at2)

variable (x0 : FVec Ideal S4096x2048 .bf16) (x1 : FVec Ideal S2048x1024 .bf16) (x2 : FVec Ideal S4096x1024 .f32)
  (x3 : FVec Ideal S2x1x1024 .f32) (x4 : FVec Ideal S2x1024 .f32) (x5 x6 : FVec Ideal S2x1x1024 .f32)

/-- The learned scale of the layer. -/
abbrev scale : Row := fun j => x4 (ix2 1 j)

theorem v2_at (r : Fin 4096) (j : Fin 1024) : val_main_v2 (F := Ideal) x0 x1 (ix2 r j) = prod x0 x1 r j := by
  rw [val_main_v2_apply]
  refine Finset.sum_congr rfl fun k _ => congrArg₂ (· * ·) ?_ ?_
  · show x0 _ = _
    blk_ext
  · show x1 _ = _
    blk_ext

/-- The stream's row. -/
abbrev stream (s : Fin 2) (r : Fin 2048) : Row := next (prod x0 x1) x2 x3 (at2 s r)

theorem v7_at (s : Fin 2) (r : Fin 2048) (j : Fin 1024) : val_main_v7 (F := Ideal) x0 x1 x2 x3 (ix3 s r j) = stream x0 x1 x2 x3 s r j := by
  have e : idx_main_v3 (ix3 s r j) = ix2 (at2 s r) j := by blk_ext
  have e' : idx_main_v4 (ix3 s r j) = ix2 (at2 s r) j := by blk_ext
  have e'' : idx_main_v5 (ix3 s r j) = ix3 s 0 j := by blk_ext
  rw [val_main_v7_apply, val_main_v6_apply, val_main_v3_apply, val_main_v4_apply, val_main_v5_apply, e, e', e'', v2_at]
  unfold stream next
  rw [seq_at2]
  rfl

theorem v16_at (s : Fin 2) (r : Fin 2048) : val_main_v16 (F := Ideal) x0 x1 x2 x3 (ix3 s r 0) = msq (stream x0 x1 x2 x3 s r) := by
  rw [val_main_v16_apply, val_main_v14_apply, val_main_v12_apply, val_main_v11_apply, val_main_v13_apply,
    val_main_cst_apply, val_main_cst_0_apply, val_main_v15_apply, val_main_cst_1_apply]
  show Ideal.div (Ideal.ofBits .f32 0x00000000#32 + _) _ + cEps = _
  rw [Ideal.ofBits_zero_f32, zero_add]
  refine (congrArg (· + cEps) (div_1024 _)).trans ?_
  unfold msq
  refine congrArg (· * cMean + cEps) (Finset.sum_congr rfl fun k _ => ?_)
  rw [val_main_v10_apply]
  have e : idx_main_v11 (idx_main_v12 (ix3 s r 0)) k = ix3 s r k := by blk_ext
  rw [e, v7_at]
  rfl

theorem v19_at (s : Fin 2) (r : Fin 2048) (j : Fin 1024) :
    val_main_v19 (F := Ideal) x0 x1 x2 x3 (ix3 s r j) = xhat (stream x0 x1 x2 x3 s r) j := by
  rw [val_main_v19_apply, v7_at, val_main_v18_apply]
  have e : idx_main_v18 (ix3 s r j) = ix3 s r 0 := by blk_ext
  rw [e, val_main_v17_apply, v16_at]
  rfl

theorem v21_at (s : Fin 2) (r : Fin 2048) (j : Fin 1024) : val_main_v21 (F := Ideal) x4 (ix3 s r j) = scale x4 j := by
  rw [val_main_v21_apply, val_main_v20_apply, val_main_v9_apply, val_main_v8_apply]
  blk_ext

theorem v28_at (s : Fin 2) (r : Fin 2048) (j : Fin 1024) : val_main_v28 (F := Ideal) x0 x1 x2 x3 x4 x5 x6 (ix3 s r j)
    = scaled (prod x0 x1) x2 x3 (scale x4) x5 x6 (at2 s r) j := by
  have e : idx_main_v25 (ix3 s r j) = ix3 s 0 j := by blk_ext
  have e' : idx_main_v27 (ix3 s r j) = ix3 s 0 j := by blk_ext
  rw [val_main_v28_apply, val_main_v26_apply, val_main_v22_apply, v19_at, v21_at, val_main_v25_apply, e, val_main_v24_apply,
    val_main_v23_apply, val_main_cst_2_apply, val_main_v27_apply, e']
  unfold scaled
  rw [seq_at2]
  exact congrArg (· + _) (mul_assoc _ _ _)

/-- The product. -/
theorem result0_eq : val_main_v2 (F := Ideal) x0 x1 = flat (prod x0 x1) := by
  funext y
  obtain ⟨s, r, j, rfl⟩ := rows_cases y
  exact v2_at x0 x1 _ j

/-- The residual stream. -/
theorem result1_eq : val_main_v29 (F := Ideal) x0 x1 x2 x3 = flat (next (prod x0 x1) x2 x3) := by
  funext y
  obtain ⟨s, r, j, rfl⟩ := rows_cases y
  have e : idx_main_v29 (ix2 (at2 s r) j) = ix3 s r j := by blk_ext
  rw [val_main_v29_apply, e, v7_at]
  rfl

/-- That stream normalised, scaled and shifted. -/
theorem result2_eq : val_main_v31 (F := Ideal) x0 x1 x2 x3 x4 x5 x6 = flat (scaled (prod x0 x1) x2 x3 (scale x4) x5 x6) := by
  funext y
  obtain ⟨s, r, j, rfl⟩ := rows_cases y
  have e : idx_main_v30 (ix2 (at2 s r) j) = ix3 s r j := by blk_ext
  show val_main_v30 (F := Ideal) x0 x1 x2 x3 x4 x5 x6 _ = _
  rw [val_main_v30_apply, e, v28_at]
  rfl

variable (m : (ℓ : Loc nD τ sig) → Buf (Elt Ideal) ℓ) (ρ : Dev nD → PrngReg)

/-- Every run of the reference ends with those results, the arguments kept and every counter at zero. -/
theorem run : θ_run (defs (F := Ideal)) (onTc (τ := τ) (main (F := Ideal))) ⟨m, fun _ => 0, ρ⟩ fun r => (∀ c : Dev nD,
      (r.2.mem ((c.tc : Thread nD τ).loc main_v2) = flat (prod (m ((c.tc : Thread nD τ).loc main_arg0) : FVec Ideal S4096x2048 .bf16)
          (m ((c.tc : Thread nD τ).loc main_arg1) : FVec Ideal S2048x1024 .bf16))
      ∧ r.2.mem ((c.tc : Thread nD τ).loc main_v29) = flat (next (prod (m ((c.tc : Thread nD τ).loc main_arg0) : FVec Ideal S4096x2048 .bf16)
          (m ((c.tc : Thread nD τ).loc main_arg1) : FVec Ideal S2048x1024 .bf16)) (m ((c.tc : Thread nD τ).loc main_arg2))
          (m ((c.tc : Thread nD τ).loc main_arg3)))
      ∧ r.2.mem ((c.tc : Thread nD τ).loc main_v31) = flat (scaled (prod (m ((c.tc : Thread nD τ).loc main_arg0) : FVec Ideal S4096x2048 .bf16)
          (m ((c.tc : Thread nD τ).loc main_arg1) : FVec Ideal S2048x1024 .bf16)) (m ((c.tc : Thread nD τ).loc main_arg2))
          (m ((c.tc : Thread nD τ).loc main_arg3)) (scale (m ((c.tc : Thread nD τ).loc main_arg4)))
          (m ((c.tc : Thread nD τ).loc main_arg5)) (m ((c.tc : Thread nD τ).loc main_arg6))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run (defs (F := Ideal)) _ _).mono (fun _ h => ⟨fun c => ⟨⟨(h c).1.trans ((val_main_v2_eq _ _).trans (result0_eq _ _)),
    (h c).2.1.trans ((val_main_v29_eq _ _ _ _).trans (result1_eq _ _ _ _)),
    (h c).2.2.1.trans ((val_main_v31_eq _ _ _ _ _ _ _).trans (result2_eq _ _ _ _ _ _ _))⟩, (h c).2.2.2⟩,
    sem_eq_zero_of_no_sems (by decide) _⟩) (Value.run m ρ)

end Cert.OutReferenceIdeal.Block
-- ==== Proof.DownArrays.lean ====
/-
  The second projection of the multilayer perceptron, forward, with the gated residual and the next layer's first
  normalisation: the arrays that the kernel leaves are those of `Forward`.
-/
module

public import proofs.«01_k».proof.Proof.Forward
public import proofs.«01_k».proof.Proof.UpDxArrays
public import proofs.«01_k».proof.Proof.Gen.DownKernelIdeal.Value

@[expose] public section

set_option maxRecDepth 16384

noncomputable section

namespace Cert.DownKernelIdeal.Block

open Cert.DownKernelIdeal Cert.DownKernelIdeal.Gen Cert.Chunk Cert.Norm Cert.UpDx Cert.Forward Idealize.ShloMosaic Idealize.ShloMosaic.TcCoe
  Idealize.SL.Sem
open Cert.UpDxKernelIdeal.Block (Tile row row2 row3 tile_cases)

/-! ## The values -/

theorem product_at (a : FVec Ideal S512x2816 .bf16) (b : FVec Ideal S2816x1024 .bf16) (p : Fin 512) (j : Fin 1024) :
    (k0_pay2 (F := Ideal) a b (ix2 p j) : EReal) = ∑ k : Fin 2816, a (ix2 p k) * b (ix2 k j) := by
  unfold k0_pay2
  pointwise

theorem next_at (a : FVec Ideal S512x2816 .bf16) (b : FVec Ideal S2816x1024 .bf16) (x : Tile) (g : FVec Ideal S1x1x1024 .f32)
    (p : Fin 512) (j : Fin 1024) :
    k0_pay3 (F := Ideal) a b x g (ix2 p j) = x (ix2 p j) + row3 g j * k0_pay2 (F := Ideal) a b (ix2 p j) :=
  congrArg (x (ix2 p j) + ·) (congrArg (· * _) ((UpDxKernelIdeal.Block.spread_row _ p j).trans (UpDxKernelIdeal.Block.flat_at g j)))

theorem scaled_at (a : FVec Ideal S512x2816 .bf16) (b : FVec Ideal S2816x1024 .bf16) (x : Tile) (g : FVec Ideal S1x1x1024 .f32)
    (w : FVec Ideal S1x1024 .f32) (s h : FVec Ideal S1x1x1024 .f32) (p : Fin 512) (j : Fin 1024) :
    k0_pay1 (F := Ideal) (k0_pay4 (F := Ideal) a b x g w s) (k0_pay5 (F := Ideal) h) (ix2 p j)
      = xhat (row (k0_pay3 (F := Ideal) a b x g) p) j * (row2 w j * (cOne + row3 s j)) + row3 h j :=
  congrArg₂ (· + ·) (congrArg₂ (· * ·) (UpDxKernelIdeal.Block.norm_at (k0_pay3 (F := Ideal) a b x g) p j)
    ((UpDxKernelIdeal.Block.spread_row _ p j).trans (congrArg (row2 w j * ·) (UpDxKernelIdeal.Block.one_scale_at s j))))
    ((UpDxKernelIdeal.Block.spread_row _ p j).trans (UpDxKernelIdeal.Block.flat_at h j))

variable (m : (ℓ : Loc nD τ sig) → Buf (Elt Ideal) ℓ) (c : Dev nD)

/-! ## The arguments -/

abbrev a0 : FVec Ideal S4096x2816 .bf16 := m ((c : Thread nD τ).loc main_arg0)
abbrev a1 : FVec Ideal S2816x1024 .bf16 := m ((c : Thread nD τ).loc main_arg1)
abbrev a2 : FVec Ideal S4096x1024 .f32 := m ((c : Thread nD τ).loc main_arg2)
abbrev a3 : FVec Ideal S2x1x1024 .f32 := m ((c : Thread nD τ).loc main_arg3)
abbrev a4 : FVec Ideal S2x1024 .f32 := m ((c : Thread nD τ).loc main_arg4)
abbrev a5 : FVec Ideal S2x1x1024 .f32 := m ((c : Thread nD τ).loc main_arg5)
abbrev a6 : FVec Ideal S2x1x1024 .f32 := m ((c : Thread nD τ).loc main_arg6)
/-- The learned scale of the layer. -/
abbrev scale : Row := fun j => a4 m c (ix2 1 j)

/-! ## The blocks -/

theorem idx : ∀ t : Fin cfg0.N, win0_0.index t = ![t.val, 0] ∧ win0_1.index t = ![0, 0] ∧ win0_2.index t = ![t.val, 0]
    ∧ win0_3.index t = ![t.val / 4, 0, 0] ∧ win0_4.index t = ![0, 0] ∧ win0_5.index t = ![t.val / 4, 0, 0]
    ∧ win0_6.index t = ![t.val / 4, 0, 0] ∧ win0_7.index t = ![t.val, 0] ∧ win0_8.index t = ![t.val, 0] ∧ win0_9.index t = ![t.val, 0] :=
  (by decide +kernel : ∀ t : Fin grid0.N, _)

/-- The row tile of a point. -/
abbrev tl (t : Fin cfg0.N) : Fin 8 := ⟨t.val, lt_of_lt_of_eq t.isLt N_0⟩

theorem left_read (t : Fin cfg0.N) (p : Fin 512) (k : Fin 2816) :
    (iblk m c 0 t : FVec Ideal S512x2816 .bf16) (ix2 p k) = a0 m c (ix2 (at8 (tl t) p) k) := by
  blk_ext [iblk, V, (idx t).1]

theorem right_read (t : Fin cfg0.N) (k : Fin 2816) (j : Fin 1024) :
    (iblk m c 1 t : FVec Ideal S2816x1024 .bf16) (ix2 k j) = a1 m c (ix2 k j) := by
  blk_ext [iblk, V, (idx t).2.1]

theorem stream_read (t : Fin cfg0.N) (p : Fin 512) (j : Fin 1024) :
    (iblk m c 2 t : Tile) (ix2 p j) = a2 m c (ix2 (at8 (tl t) p) j) := by
  blk_ext [iblk, V, (idx t).2.2.1]

theorem gate_row (t : Fin cfg0.N) : row3 (iblk m c 3 t) = own (a3 m c) (seq8 (tl t)) := by
  funext j
  show (iblk m c 3 t : FVec Ideal S1x1x1024 .f32) (ix3 0 0 j) = a3 m c _
  have := (idx t).2.2.2.1
  blk_ext [iblk, V, this]

theorem scale_row (t : Fin cfg0.N) : row3 (iblk m c 5 t) = own (a5 m c) (seq8 (tl t)) := by
  funext j
  show (iblk m c 5 t : FVec Ideal S1x1x1024 .f32) (ix3 0 0 j) = a5 m c _
  have := (idx t).2.2.2.2.2.1
  blk_ext [iblk, V, this]

theorem shift_row (t : Fin cfg0.N) : row3 (iblk m c 6 t) = own (a6 m c) (seq8 (tl t)) := by
  funext j
  show (iblk m c 6 t : FVec Ideal S1x1x1024 .f32) (ix3 0 0 j) = a6 m c _
  have := (idx t).2.2.2.2.2.2.1
  blk_ext [iblk, V, this]

/-- The learned scale. -/
def learned (t : Fin cfg0.N) : FVec Ideal S1x1024 .f32 := View.ld (iblk m c 4 t) r0_4

theorem learned_row (t : Fin cfg0.N) : row2 (learned m c t) = scale m c := by
  funext j
  refine (View.ld_unit_apply_of _ _ _ _ _ (ix2 1 j) fun a => ?_).trans ?_
  · match a with
    | ⟨0, _⟩ => rfl
    | ⟨1, _⟩ => exact (Nat.zero_add _).symm
  · blk_ext [iblk, V, (idx t).2.2.2.2.1]

/-! ## The tiles -/

/-- The product's tile. -/
def tile2 (t : Fin cfg0.N) : Tile := k0_pay2 (iblk m c 0 t) (iblk m c 1 t)
/-- The stream's. -/
def tile3 (t : Fin cfg0.N) : Tile := k0_pay3 (iblk m c 0 t) (iblk m c 1 t) (iblk m c 2 t) (iblk m c 3 t)
/-- The normalised, scaled and shifted stream's. -/
def tile1 (t : Fin cfg0.N) : FVec Ideal S512x1024 .bf16 :=
  k0_pay1 (k0_pay4 (iblk m c 0 t) (iblk m c 1 t) (iblk m c 2 t) (iblk m c 3 t) (learned m c t) (iblk m c 5 t)) (k0_pay5 (iblk m c 6 t))

theorem seq_tile (t : Fin cfg0.N) (p : Fin 512) : seq (at8 (tl t) p) = seq8 (tl t) :=
  Fin.ext (by show (512 * t.val + p.val) / 2048 = t.val / 4; omega)

theorem tile2_at (t : Fin cfg0.N) (p : Fin 512) (j : Fin 1024) :
    tile2 m c t (ix2 p j) = prod (a0 m c) (a1 m c) (at8 (tl t) p) j :=
  (product_at _ _ p j).trans (Finset.sum_congr rfl fun k _ => congrArg₂ (· * ·) (left_read m c t p k) (right_read m c t k j))

theorem tile3_at (t : Fin cfg0.N) (p : Fin 512) (j : Fin 1024) :
    tile3 m c t (ix2 p j) = next (prod (a0 m c) (a1 m c)) (a2 m c) (a3 m c) (at8 (tl t) p) j := by
  unfold tile3 next
  rw [next_at, stream_read, gate_row, seq_tile]
  exact congrArg (fun v => _ + _ * v) (tile2_at m c t p j)

theorem tile1_at (t : Fin cfg0.N) (p : Fin 512) (j : Fin 1024) : tile1 m c t (ix2 p j)
    = scaled (prod (a0 m c) (a1 m c)) (a2 m c) (a3 m c) (scale m c) (a5 m c) (a6 m c) (at8 (tl t) p) j := by
  unfold tile1 scaled
  rw [scaled_at, learned_row, scale_row, shift_row, seq_tile]
  exact congrArg (fun x => xhat x j * _ + _) (funext fun k => tile3_at m c t p k)

/-! ## The arrays -/

theorem hz : (![0, 0] : Fin 2 → Nat) = fun _ => 0 := by decide
theorem hz3 : (![0, 0, 0] : Fin 3 → Nat) = fun _ => 0 := by decide

theorem out7 (t : Fin cfg0.N) : (dats m 0 c).after 7 t = tile2 m c t := by
  rw [after0_7]
  unfold out0_7
  rw [View.canon_unit_zero hz, View.ld_unit_zero (S := S512x2816) hz, View.ld_unit_zero (S := S2816x1024) hz]
  rfl

theorem out8 (t : Fin cfg0.N) : (dats m 0 c).after 8 t = tile3 m c t := by
  rw [after0_8]
  unfold out0_8
  rw [View.canon_unit_zero hz, View.ld_unit_zero (S := S512x2816) hz, View.ld_unit_zero (S := S2816x1024) hz,
    View.ld_unit_zero (S := S512x1024) hz, View.ld_unit_zero (S := S1x1x1024) hz3]
  rfl

theorem out9 (t : Fin cfg0.N) : (dats m 0 c).after 9 t = tile1 m c t := by
  rw [after0_9]
  unfold out0_9
  rw [View.canon_unit_zero hz, View.ld_unit_zero (S := S512x2816) hz, View.ld_unit_zero (S := S2816x1024) hz,
    View.ld_unit_zero (S := S512x1024) hz, View.ld_unit_zero (S := S1x1x1024) hz3, View.ld_unit_zero (S := S1x1x1024) hz3,
    View.ld_unit_zero (S := S1x1x1024) hz3]
  rfl

theorem array7 : (dats m 0 c).arrAt 7 cfg0.N = flat (prod (a0 m c) (a1 m c)) := by
  refine (dats m 0 c).arrAt_eq_of_covers 7 _ (by decide +kernel) fun t hf y => ?_
  obtain ⟨p, j, rfl⟩ := tile_cases y
  blk_simp
  rw [out7 m c t]
  refine (tile2_at m c t p j).trans ?_
  have : ((cfg0.win 7).blk t).view.emb (ix2 p j) = ix2 (at8 (tl t) p) j := by blk_ext [idx t]
  rw [this]
  rfl

theorem array8 : (dats m 0 c).arrAt 8 cfg0.N = flat (next (prod (a0 m c) (a1 m c)) (a2 m c) (a3 m c)) := by
  refine (dats m 0 c).arrAt_eq_of_covers 8 _ (by decide +kernel) fun t hf y => ?_
  obtain ⟨p, j, rfl⟩ := tile_cases y
  blk_simp
  rw [out8 m c t]
  refine (tile3_at m c t p j).trans ?_
  have : ((cfg0.win 8).blk t).view.emb (ix2 p j) = ix2 (at8 (tl t) p) j := by blk_ext [idx t]
  rw [this]
  rfl

theorem array9 : (dats m 0 c).arrAt 9 cfg0.N
    = flat (scaled (prod (a0 m c) (a1 m c)) (a2 m c) (a3 m c) (scale m c) (a5 m c) (a6 m c)) := by
  refine (dats m 0 c).arrAt_eq_of_covers 9 _ (by decide +kernel) fun t hf y => ?_
  obtain ⟨p, j, rfl⟩ := tile_cases y
  blk_simp
  rw [out9 m c t]
  refine (tile1_at m c t p j).trans ?_
  have : ((cfg0.win 9).blk t).view.emb (ix2 p j) = ix2 (at8 (tl t) p) j := by blk_ext [idx t]
  rw [this]
  rfl

end Cert.DownKernelIdeal.Block
-- ==== Proof.DownReference.lean ====
/-
  The reference of the second projection of the multilayer perceptron, forward, with the gated residual and the next
  layer's first normalisation: its results are those of `Forward`.
-/
module

public import proofs.«01_k».proof.Proof.Forward
public import proofs.«01_k».proof.Proof.UpDxReference
public import proofs.«01_k».proof.Proof.Gen.DownReferenceIdeal.Read

@[expose] public section

set_option maxRecDepth 16384

noncomputable section

namespace Cert.DownReferenceIdeal.Block

open Cert.DownReferenceIdeal Cert.DownReferenceIdeal.Gen Cert.DownReferenceIdeal.Read Cert.Chunk Cert.Norm Cert.UpDx Cert.Forward
  Idealize.ShloMosaic Idealize.ShloMosaic.TcCoe Idealize.SL.Sem
open Cert.UpDxReferenceIdeal.Block (rows_cases seq_at2)

variable (x0 : FVec Ideal S4096x2816 .bf16) (x1 : FVec Ideal S2816x1024 .bf16) (x2 : FVec Ideal S4096x1024 .f32)
  (x3 : FVec Ideal S2x1x1024 .f32) (x4 : FVec Ideal S2x1024 .f32) (x5 x6 : FVec Ideal S2x1x1024 .f32)

/-- The learned scale of the layer. -/
abbrev scale : Row := fun j => x4 (ix2 1 j)

theorem v2_at (r : Fin 4096) (j : Fin 1024) : val_main_v2 (F := Ideal) x0 x1 (ix2 r j) = prod x0 x1 r j := by
  rw [val_main_v2_apply]
  refine Finset.sum_congr rfl fun k _ => congrArg₂ (· * ·) ?_ ?_
  · show x0 _ = _
    blk_ext
  · show x1 _ = _
    blk_ext

/-- The stream's row. -/
abbrev stream (s : Fin 2) (r : Fin 2048) : Row := next (prod x0 x1) x2 x3 (at2 s r)

theorem v7_at (s : Fin 2) (r : Fin 2048) (j : Fin 1024) : val_main_v7 (F := Ideal) x0 x1 x2 x3 (ix3 s r j) = stream x0 x1 x2 x3 s r j := by
  have e : idx_main_v3 (ix3 s r j) = ix2 (at2 s r) j := by blk_ext
  have e' : idx_main_v4 (ix3 s r j) = ix2 (at2 s r) j := by blk_ext
  have e'' : idx_main_v5 (ix3 s r j) = ix3 s 0 j := by blk_ext
  rw [val_main_v7_apply, val_main_v6_apply, val_main_v3_apply, val_main_v4_apply, val_main_v5_apply, e, e', e'', v2_at]
  unfold stream next
  rw [seq_at2]
  rfl

theorem v16_at (s : Fin 2) (r : Fin 2048) : val_main_v16 (F := Ideal) x0 x1 x2 x3 (ix3 s r 0) = msq (stream x0 x1 x2 x3 s r) := by
  rw [val_main_v16_apply, val_main_v14_apply, val_main_v12_apply, val_main_v11_apply, val_main_v13_apply,
    val_main_cst_apply, val_main_cst_0_apply, val_main_v15_apply, val_main_cst_1_apply]
  show Ideal.div (Ideal.ofBits .f32 0x00000000#32 + _) _ + cEps = _
  rw [Ideal.ofBits_zero_f32, zero_add]
  refine (congrArg (· + cEps) (div_1024 _)).trans ?_
  unfold msq
  refine congrArg (· * cMean + cEps) (Finset.sum_congr rfl fun k _ => ?_)
  rw [val_main_v10_apply]
  have e : idx_main_v11 (idx_main_v12 (ix3 s r 0)) k = ix3 s r k := by blk_ext
  rw [e, v7_at]
  rfl

theorem v19_at (s : Fin 2) (r : Fin 2048) (j : Fin 1024) :
    val_main_v19 (F := Ideal) x0 x1 x2 x3 (ix3 s r j) = xhat (stream x0 x1 x2 x3 s r) j := by
  rw [val_main_v19_apply, v7_at, val_main_v18_apply]
  have e : idx_main_v18 (ix3 s r j) = ix3 s r 0 := by blk_ext
  rw [e, val_main_v17_apply, v16_at]
  rfl

theorem v21_at (s : Fin 2) (r : Fin 2048) (j : Fin 1024) : val_main_v21 (F := Ideal) x4 (ix3 s r j) = scale x4 j := by
  rw [val_main_v21_apply, val_main_v20_apply, val_main_v9_apply, val_main_v8_apply]
  blk_ext

theorem v28_at (s : Fin 2) (r : Fin 2048) (j : Fin 1024) : val_main_v28 (F := Ideal) x0 x1 x2 x3 x4 x5 x6 (ix3 s r j)
    = scaled (prod x0 x1) x2 x3 (scale x4) x5 x6 (at2 s r) j := by
  have e : idx_main_v25 (ix3 s r j) = ix3 s 0 j := by blk_ext
  have e' : idx_main_v27 (ix3 s r j) = ix3 s 0 j := by blk_ext
  rw [val_main_v28_apply, val_main_v26_apply, val_main_v22_apply, v19_at, v21_at, val_main_v25_apply, e, val_main_v24_apply,
    val_main_v23_apply, val_main_cst_2_apply, val_main_v27_apply, e']
  unfold scaled
  rw [seq_at2]
  exact congrArg (· + _) (mul_assoc _ _ _)

/-- The product. -/
theorem result0_eq : val_main_v2 (F := Ideal) x0 x1 = flat (prod x0 x1) := by
  funext y
  obtain ⟨s, r, j, rfl⟩ := rows_cases y
  exact v2_at x0 x1 _ j

/-- The residual stream. -/
theorem result1_eq : val_main_v29 (F := Ideal) x0 x1 x2 x3 = flat (next (prod x0 x1) x2 x3) := by
  funext y
  obtain ⟨s, r, j, rfl⟩ := rows_cases y
  have e : idx_main_v29 (ix2 (at2 s r) j) = ix3 s r j := by blk_ext
  rw [val_main_v29_apply, e, v7_at]
  rfl

/-- That stream normalised, scaled and shifted. -/
theorem result2_eq : val_main_v31 (F := Ideal) x0 x1 x2 x3 x4 x5 x6 = flat (scaled (prod x0 x1) x2 x3 (scale x4) x5 x6) := by
  funext y
  obtain ⟨s, r, j, rfl⟩ := rows_cases y
  have e : idx_main_v30 (ix2 (at2 s r) j) = ix3 s r j := by blk_ext
  show val_main_v30 (F := Ideal) x0 x1 x2 x3 x4 x5 x6 _ = _
  rw [val_main_v30_apply, e, v28_at]
  rfl

variable (m : (ℓ : Loc nD τ sig) → Buf (Elt Ideal) ℓ) (ρ : Dev nD → PrngReg)

/-- Every run of the reference ends with those results, the arguments kept and every counter at zero. -/
theorem run : θ_run (defs (F := Ideal)) (onTc (τ := τ) (main (F := Ideal))) ⟨m, fun _ => 0, ρ⟩ fun r => (∀ c : Dev nD,
      (r.2.mem ((c.tc : Thread nD τ).loc main_v2) = flat (prod (m ((c.tc : Thread nD τ).loc main_arg0) : FVec Ideal S4096x2816 .bf16)
          (m ((c.tc : Thread nD τ).loc main_arg1) : FVec Ideal S2816x1024 .bf16))
      ∧ r.2.mem ((c.tc : Thread nD τ).loc main_v29) = flat (next (prod (m ((c.tc : Thread nD τ).loc main_arg0) : FVec Ideal S4096x2816 .bf16)
          (m ((c.tc : Thread nD τ).loc main_arg1) : FVec Ideal S2816x1024 .bf16)) (m ((c.tc : Thread nD τ).loc main_arg2))
          (m ((c.tc : Thread nD τ).loc main_arg3)))
      ∧ r.2.mem ((c.tc : Thread nD τ).loc main_v31) = flat (scaled (prod (m ((c.tc : Thread nD τ).loc main_arg0) : FVec Ideal S4096x2816 .bf16)
          (m ((c.tc : Thread nD τ).loc main_arg1) : FVec Ideal S2816x1024 .bf16)) (m ((c.tc : Thread nD τ).loc main_arg2))
          (m ((c.tc : Thread nD τ).loc main_arg3)) (scale (m ((c.tc : Thread nD τ).loc main_arg4)))
          (m ((c.tc : Thread nD τ).loc main_arg5)) (m ((c.tc : Thread nD τ).loc main_arg6))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run (defs (F := Ideal)) _ _).mono (fun _ h => ⟨fun c => ⟨⟨(h c).1.trans ((val_main_v2_eq _ _).trans (result0_eq _ _)),
    (h c).2.1.trans ((val_main_v29_eq _ _ _ _).trans (result1_eq _ _ _ _)),
    (h c).2.2.1.trans ((val_main_v31_eq _ _ _ _ _ _ _).trans (result2_eq _ _ _ _ _ _ _))⟩, (h c).2.2.2⟩,
    sem_eq_zero_of_no_sems (by decide) _⟩) (Value.run m ρ)

end Cert.DownReferenceIdeal.Block
-- ==== Proof.lean ====
/-
  The claim: every program ends, leaves its arguments as they were and every counter at zero, and each kernel's results
  equal its reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DownWKernel
public import proofs.«01_k».proof.Proof.Gen.DownWKernel.Skeleton
public import proofs.«01_k».proof.Proof.Gen.DownWKernel.Launch
public import proofs.«01_k».proof.Proof.Gen.DownWKernel.Points
public import proofs.«01_k».proof.Proof.Gen.DownWKernel.Frame
public import proofs.«01_k».proof.Proof.Gen.DownWKernelIdeal
public import proofs.«01_k».proof.Proof.Gen.DownWKernelIdeal.Skeleton
public import proofs.«01_k».proof.Proof.Gen.DownWKernelIdeal.Launch
public import proofs.«01_k».proof.Proof.Gen.DownWKernelIdeal.Points
public import proofs.«01_k».proof.Proof.Gen.DownWKernelIdeal.Frame
public import proofs.«01_k».proof.Proof.Gen.DownWKernelIdeal.Value
public import proofs.«01_k».proof.Proof.Gen.DownWReferenceIdeal
public import proofs.«01_k».proof.Proof.Gen.DownWReferenceIdeal.Run
public import proofs.«01_k».proof.Proof.Gen.DownWReferenceIdeal.Read
public import proofs.«01_k».proof.Proof.Gen.DownXKernel
public import proofs.«01_k».proof.Proof.Gen.DownXKernel.Skeleton
public import proofs.«01_k».proof.Proof.Gen.DownXKernel.Launch
public import proofs.«01_k».proof.Proof.Gen.DownXKernel.Points
public import proofs.«01_k».proof.Proof.Gen.DownXKernel.Frame
public import proofs.«01_k».proof.Proof.Gen.DownXKernelIdeal
public import proofs.«01_k».proof.Proof.Gen.DownXKernelIdeal.Skeleton
public import proofs.«01_k».proof.Proof.Gen.DownXKernelIdeal.Launch
public import proofs.«01_k».proof.Proof.Gen.DownXKernelIdeal.Points
public import proofs.«01_k».proof.Proof.Gen.DownXKernelIdeal.Frame
public import proofs.«01_k».proof.Proof.Gen.DownXKernelIdeal.Value
public import proofs.«01_k».proof.Proof.Gen.DownXReferenceIdeal
public import proofs.«01_k».proof.Proof.Gen.DownXReferenceIdeal.Run
public import proofs.«01_k».proof.Proof.Gen.DownXReferenceIdeal.Read
public import proofs.«01_k».proof.Proof.Gen.OutWKernel
public import proofs.«01_k».proof.Proof.Gen.OutWKernel.Skeleton
public import proofs.«01_k».proof.Proof.Gen.OutWKernel.Launch
public import proofs.«01_k».proof.Proof.Gen.OutWKernel.Points
public import proofs.«01_k».proof.Proof.Gen.OutWKernel.Frame
public import proofs.«01_k».proof.Proof.Gen.OutWKernelIdeal
public import proofs.«01_k».proof.Proof.Gen.OutWKernelIdeal.Skeleton
public import proofs.«01_k».proof.Proof.Gen.OutWKernelIdeal.Launch
public import proofs.«01_k».proof.Proof.Gen.OutWKernelIdeal.Points
public import proofs.«01_k».proof.Proof.Gen.OutWKernelIdeal.Frame
public import proofs.«01_k».proof.Proof.Gen.OutWKernelIdeal.Value
public import proofs.«01_k».proof.Proof.Gen.OutWReferenceIdeal
public import proofs.«01_k».proof.Proof.Gen.OutWReferenceIdeal.Run
public import proofs.«01_k».proof.Proof.Gen.OutWReferenceIdeal.Read
public import proofs.«01_k».proof.Proof.Gen.OutXKernel
public import proofs.«01_k».proof.Proof.Gen.OutXKernel.Skeleton
public import proofs.«01_k».proof.Proof.Gen.OutXKernel.Launch
public import proofs.«01_k».proof.Proof.Gen.OutXKernel.Points
public import proofs.«01_k».proof.Proof.Gen.OutXKernel.Frame
public import proofs.«01_k».proof.Proof.Gen.OutXKernelIdeal
public import proofs.«01_k».proof.Proof.Gen.OutXKernelIdeal.Skeleton
public import proofs.«01_k».proof.Proof.Gen.OutXKernelIdeal.Launch
public import proofs.«01_k».proof.Proof.Gen.OutXKernelIdeal.Points
public import proofs.«01_k».proof.Proof.Gen.OutXKernelIdeal.Frame
public import proofs.«01_k».proof.Proof.Gen.OutXKernelIdeal.Value
public import proofs.«01_k».proof.Proof.Gen.OutXReferenceIdeal
public import proofs.«01_k».proof.Proof.Gen.OutXReferenceIdeal.Run
public import proofs.«01_k».proof.Proof.Gen.OutXReferenceIdeal.Read
public import proofs.«01_k».proof.Proof.Gen.UpWKernel
public import proofs.«01_k».proof.Proof.Gen.UpWKernel.Skeleton
public import proofs.«01_k».proof.Proof.Gen.UpWKernel.Launch
public import proofs.«01_k».proof.Proof.Gen.UpWKernel.Points
public import proofs.«01_k».proof.Proof.Gen.UpWKernel.Frame
public import proofs.«01_k».proof.Proof.Gen.UpWKernelIdeal
public import proofs.«01_k».proof.Proof.Gen.UpWKernelIdeal.Skeleton
public import proofs.«01_k».proof.Proof.Gen.UpWKernelIdeal.Launch
public import proofs.«01_k».proof.Proof.Gen.UpWKernelIdeal.Points
public import proofs.«01_k».proof.Proof.Gen.UpWKernelIdeal.Frame
public import proofs.«01_k».proof.Proof.Gen.UpWKernelIdeal.Value
public import proofs.«01_k».proof.Proof.Gen.UpWReferenceIdeal
public import proofs.«01_k».proof.Proof.Gen.UpWReferenceIdeal.Run
public import proofs.«01_k».proof.Proof.Gen.UpWReferenceIdeal.Read
public import proofs.«01_k».proof.Proof.Gen.InWKernel
public import proofs.«01_k».proof.Proof.Gen.InWKernel.Skeleton
public import proofs.«01_k».proof.Proof.Gen.InWKernel.Launch
public import proofs.«01_k».proof.Proof.Gen.InWKernel.Points
public import proofs.«01_k».proof.Proof.Gen.InWKernel.Frame
public import proofs.«01_k».proof.Proof.Gen.InWKernelIdeal
public import proofs.«01_k».proof.Proof.Gen.InWKernelIdeal.Skeleton
public import proofs.«01_k».proof.Proof.Gen.InWKernelIdeal.Launch
public import proofs.«01_k».proof.Proof.Gen.InWKernelIdeal.Points
public import proofs.«01_k».proof.Proof.Gen.InWKernelIdeal.Frame
public import proofs.«01_k».proof.Proof.Gen.InWKernelIdeal.Value
public import proofs.«01_k».proof.Proof.Gen.InWReferenceIdeal
public import proofs.«01_k».proof.Proof.Gen.InWReferenceIdeal.Run
public import proofs.«01_k».proof.Proof.Gen.InWReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.UpDxKernel
public import proofs.«01_k».proof.Proof.Gen.UpDxKernel.Skeleton
public import proofs.«01_k».proof.Proof.Gen.UpDxKernel.Launch
public import proofs.«01_k».proof.Proof.Gen.UpDxKernel.Points
public import proofs.«01_k».proof.Proof.Gen.UpDxKernel.Frame
public import proofs.«01_k».proof.Proof.Gen.UpDxKernelIdeal
public import proofs.«01_k».proof.Proof.Gen.UpDxKernelIdeal.Skeleton
public import proofs.«01_k».proof.Proof.Gen.UpDxKernelIdeal.Launch
public import proofs.«01_k».proof.Proof.Gen.UpDxKernelIdeal.Points
public import proofs.«01_k».proof.Proof.Gen.UpDxKernelIdeal.Frame
public import proofs.«01_k».proof.Proof.Gen.UpDxKernelIdeal.Value
public import proofs.«01_k».proof.Proof.Gen.UpDxReferenceIdeal
public import proofs.«01_k».proof.Proof.Gen.UpDxReferenceIdeal.Run
public import proofs.«01_k».proof.Proof.Gen.UpDxReferenceIdeal.Read
public import proofs.«01_k».proof.Proof.Gen.Pre_finite
public import proofs.«01_k».proof.Proof.Gen.InDxKernel
public import proofs.«01_k».proof.Proof.Gen.InDxKernel.Skeleton
public import proofs.«01_k».proof.Proof.Gen.InDxKernel.Launch
public import proofs.«01_k».proof.Proof.Gen.InDxKernel.Points
public import proofs.«01_k».proof.Proof.Gen.InDxKernel.Frame
public import proofs.«01_k».proof.Proof.Gen.InDxKernelIdeal
public import proofs.«01_k».proof.Proof.Gen.InDxKernelIdeal.Skeleton
public import proofs.«01_k».proof.Proof.Gen.InDxKernelIdeal.Launch
public import proofs.«01_k».proof.Proof.Gen.InDxKernelIdeal.Points
public import proofs.«01_k».proof.Proof.Gen.InDxKernelIdeal.Frame
public import proofs.«01_k».proof.Proof.Gen.InDxKernelIdeal.Value
public import proofs.«01_k».proof.Proof.Gen.InDxReferenceIdeal
public import proofs.«01_k».proof.Proof.Gen.InDxReferenceIdeal.Run
public import proofs.«01_k».proof.Proof.Gen.InDxReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Pre_finite_in
public import proofs.«01_k».proof.Proof.Gen.AdaKernel
public import proofs.«01_k».proof.Proof.Gen.AdaKernel.Skeleton
public import proofs.«01_k».proof.Proof.Gen.AdaKernel.Launch
public import proofs.«01_k».proof.Proof.Gen.AdaKernel.Points
public import proofs.«01_k».proof.Proof.Gen.AdaKernel.Frame
public import proofs.«01_k».proof.Proof.Gen.AdaKernelIdeal
public import proofs.«01_k».proof.Proof.Gen.AdaKernelIdeal.Skeleton
public import proofs.«01_k».proof.Proof.Gen.AdaKernelIdeal.Launch
public import proofs.«01_k».proof.Proof.Gen.AdaKernelIdeal.Points
public import proofs.«01_k».proof.Proof.Gen.AdaKernelIdeal.Frame
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.ScwKernel
public import proofs.«01_k».proof.Proof.Gen.ScwKernel.Skeleton
public import proofs.«01_k».proof.Proof.Gen.ScwKernel.Launch
public import proofs.«01_k».proof.Proof.Gen.ScwKernel.Points
public import proofs.«01_k».proof.Proof.Gen.ScwKernel.Frame
public import proofs.«01_k».proof.Proof.Gen.ScwKernelIdeal
public import proofs.«01_k».proof.Proof.Gen.ScwKernelIdeal.Skeleton
public import proofs.«01_k».proof.Proof.Gen.ScwKernelIdeal.Launch
public import proofs.«01_k».proof.Proof.Gen.ScwKernelIdeal.Points
public import proofs.«01_k».proof.Proof.Gen.ScwKernelIdeal.Frame
public import proofs.«01_k».proof.Proof.Gen.ScwReferenceIdeal
public import proofs.«01_k».proof.Proof.Gen.ScwReferenceIdeal.Run
public import proofs.«01_k».proof.Proof.Gen.ScwReferenceIdeal.Read
public import proofs.«01_k».proof.Proof.Gen.FcwKernel
public import proofs.«01_k».proof.Proof.Gen.FcwKernel.Skeleton
public import proofs.«01_k».proof.Proof.Gen.FcwKernel.Launch
public import proofs.«01_k».proof.Proof.Gen.FcwKernel.Points
public import proofs.«01_k».proof.Proof.Gen.FcwKernel.Frame
public import proofs.«01_k».proof.Proof.Gen.FcwKernelIdeal
public import proofs.«01_k».proof.Proof.Gen.FcwKernelIdeal.Skeleton
public import proofs.«01_k».proof.Proof.Gen.FcwKernelIdeal.Launch
public import proofs.«01_k».proof.Proof.Gen.FcwKernelIdeal.Points
public import proofs.«01_k».proof.Proof.Gen.FcwKernelIdeal.Frame
public import proofs.«01_k».proof.Proof.Gen.FcwReferenceIdeal
public import proofs.«01_k».proof.Proof.Gen.FcwReferenceIdeal.Run
public import proofs.«01_k».proof.Proof.Gen.FcwReferenceIdeal.Read
public import proofs.«01_k».proof.Proof.AdaArrays
public import proofs.«01_k».proof.Proof.AdaReference
public import proofs.«01_k».proof.Proof.ScwArrays
public import proofs.«01_k».proof.Proof.ScwReference
public import proofs.«01_k».proof.Proof.FcwArrays
public import proofs.«01_k».proof.Proof.FcwReference
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.Pre_device_w_in
public import proofs.«01_k».proof.Proof.Gen.Pre_device_w_out
public import proofs.«01_k».proof.Proof.Gen.Pre_device_ff_up
public import proofs.«01_k».proof.Proof.Gen.Pre_device_ff_down
public import proofs.«01_k».proof.Proof.Gen.WoutKernel
public import proofs.«01_k».proof.Proof.Gen.WoutKernel.Skeleton
public import proofs.«01_k».proof.Proof.Gen.WoutKernel.Launch
public import proofs.«01_k».proof.Proof.Gen.WoutKernel.Points
public import proofs.«01_k».proof.Proof.Gen.WoutKernel.Frame
public import proofs.«01_k».proof.Proof.Gen.WoutKernelIdeal
public import proofs.«01_k».proof.Proof.Gen.WoutKernelIdeal.Skeleton
public import proofs.«01_k».proof.Proof.Gen.WoutKernelIdeal.Launch
public import proofs.«01_k».proof.Proof.Gen.WoutKernelIdeal.Points
public import proofs.«01_k».proof.Proof.Gen.WoutKernelIdeal.Frame
public import proofs.«01_k».proof.Proof.Gen.WoutReferenceIdeal
public import proofs.«01_k».proof.Proof.Gen.WoutReferenceIdeal.Run
public import proofs.«01_k».proof.Proof.Gen.WoutReferenceIdeal.Read
public import proofs.«01_k».proof.Proof.Gen.FupKernel
public import proofs.«01_k».proof.Proof.Gen.FupKernel.Skeleton
public import proofs.«01_k».proof.Proof.Gen.FupKernel.Launch
public import proofs.«01_k».proof.Proof.Gen.FupKernel.Points
public import proofs.«01_k».proof.Proof.Gen.FupKernel.Frame
public import proofs.«01_k».proof.Proof.Gen.FupKernelIdeal
public import proofs.«01_k».proof.Proof.Gen.FupKernelIdeal.Skeleton
public import proofs.«01_k».proof.Proof.Gen.FupKernelIdeal.Launch
public import proofs.«01_k».proof.Proof.Gen.FupKernelIdeal.Points
public import proofs.«01_k».proof.Proof.Gen.FupKernelIdeal.Frame
public import proofs.«01_k».proof.Proof.Gen.FupReferenceIdeal
public import proofs.«01_k».proof.Proof.Gen.FupReferenceIdeal.Run
public import proofs.«01_k».proof.Proof.Gen.FupReferenceIdeal.Read
public import proofs.«01_k».proof.Proof.Gen.FdnKernel
public import proofs.«01_k».proof.Proof.Gen.FdnKernel.Skeleton
public import proofs.«01_k».proof.Proof.Gen.FdnKernel.Launch
public import proofs.«01_k».proof.Proof.Gen.FdnKernel.Points
public import proofs.«01_k».proof.Proof.Gen.FdnKernel.Frame
public import proofs.«01_k».proof.Proof.Gen.FdnKernelIdeal
public import proofs.«01_k».proof.Proof.Gen.FdnKernelIdeal.Skeleton
public import proofs.«01_k».proof.Proof.Gen.FdnKernelIdeal.Launch
public import proofs.«01_k».proof.Proof.Gen.FdnKernelIdeal.Points
public import proofs.«01_k».proof.Proof.Gen.FdnKernelIdeal.Frame
public import proofs.«01_k».proof.Proof.Gen.FdnReferenceIdeal
public import proofs.«01_k».proof.Proof.Gen.FdnReferenceIdeal.Run
public import proofs.«01_k».proof.Proof.Gen.FdnReferenceIdeal.Read
public import proofs.«01_k».proof.Proof.Gen.AdaWKernel
public import proofs.«01_k».proof.Proof.Gen.AdaWKernel.Skeleton
public import proofs.«01_k».proof.Proof.Gen.AdaWKernel.Launch
public import proofs.«01_k».proof.Proof.Gen.AdaWKernel.Points
public import proofs.«01_k».proof.Proof.Gen.AdaWKernel.Frame
public import proofs.«01_k».proof.Proof.Gen.AdaWKernelIdeal
public import proofs.«01_k».proof.Proof.Gen.AdaWKernelIdeal.Skeleton
public import proofs.«01_k».proof.Proof.Gen.AdaWKernelIdeal.Launch
public import proofs.«01_k».proof.Proof.Gen.AdaWKernelIdeal.Points
public import proofs.«01_k».proof.Proof.Gen.AdaWKernelIdeal.Frame
public import proofs.«01_k».proof.Proof.Gen.AdaWKernelIdeal.Value
public import proofs.«01_k».proof.Proof.Gen.AdaWReferenceIdeal
public import proofs.«01_k».proof.Proof.Gen.AdaWReferenceIdeal.Run
public import proofs.«01_k».proof.Proof.Gen.AdaWReferenceIdeal.Read
public import proofs.«01_k».proof.Proof.WinArrays
public import proofs.«01_k».proof.Proof.WinReference
public import proofs.«01_k».proof.Proof.WoutArrays
public import proofs.«01_k».proof.Proof.WoutReference
public import proofs.«01_k».proof.Proof.FupArrays
public import proofs.«01_k».proof.Proof.FupReference
public import proofs.«01_k».proof.Proof.FdnArrays
public import proofs.«01_k».proof.Proof.FdnReference
public import proofs.«01_k».proof.Proof.Equal
public import proofs.«01_k».proof.Proof.RefRun
public import proofs.«01_k».proof.Proof.DownW
public import proofs.«01_k».proof.Proof.AdaW
public import proofs.«01_k».proof.Proof.DownX
public import proofs.«01_k».proof.Proof.OutW
public import proofs.«01_k».proof.Proof.OutX
public import proofs.«01_k».proof.Proof.UpW
public import proofs.«01_k».proof.Proof.InW
public import proofs.«01_k».proof.Proof.Up
public import proofs.«01_k».proof.Proof.In
public import proofs.«01_k».proof.Proof.UpDxArrays
public import proofs.«01_k».proof.Proof.UpDxReference
public import proofs.«01_k».proof.Proof.UpDxFinite
public import proofs.«01_k».proof.Proof.InDxArrays
public import proofs.«01_k».proof.Proof.InDxReference
public import proofs.«01_k».proof.Proof.InDxFinite
public import proofs.«01_k».proof.Proof.OutArrays
public import proofs.«01_k».proof.Proof.OutReference
public import proofs.«01_k».proof.Proof.DownArrays
public import proofs.«01_k».proof.Proof.DownReference
public import Idealize.ShloMosaic.Adequacy
public import Idealize.ShloMosaic.Init

@[expose] public section

noncomputable section

namespace Cert.Proof

open Idealize.ShloMosaic Idealize.SL.Sem Cert.Kernel

/-- From memories that agree on the arguments, the gMLP kernel and its reference end with equal results. -/
theorem algebraic_gmlp : Cert.algebraic_KernelIdeal_ReferenceIdeal (hKernelIdeal := Cert.KernelIdeal.Gen.facts)
    (hReferenceIdeal := Cert.ReferenceIdeal.Gen.facts) := by
  intro m g m' g' _ hagree
  refine ⟨_, _, _, _, _, Cert.KernelIdeal.Value.run_blocks m g, ?_⟩
  refine (θ_run (Cert.ReferenceIdeal.defs (F := Ideal)) _ _).mono (fun r h c => ?_) (Cert.ReferenceIdeal.Chunk.run_stages m' g')
  obtain ⟨hp, hw, hb, hg, ho, hargs⟩ := h c
  obtain ⟨h0, h1, h2, h3, h4, h5, h6⟩ := hagree c
  rw [h0, h1, h2, h3, h4, h5, h6] at hp
  rw [h0, h1, h2, h3, h4, h5] at hw hb hg
  rw [h0, h1, h2, h3, h4] at ho
  exact ⟨hp.trans (Cert.Chunk.equal_p m c), hw.trans (Cert.Chunk.equal_w m c), hb.trans (Cert.Chunk.equal_b m c),
    hg.trans (Cert.Chunk.equal_g m c), ho.trans (Cert.Chunk.equal_o m c), hargs⟩

/-- The cotangent of the down projection: kernel and reference end with the same product. -/
theorem algebraic_down_w : Cert.algebraic_DownWKernelIdeal_DownWReferenceIdeal (hDownWKernelIdeal := Cert.DownWKernelIdeal.Gen.facts)
    (hDownWReferenceIdeal := Cert.DownWReferenceIdeal.Gen.facts) := by
  intro m g m' g' _ hagree
  refine ⟨_, Cert.DownWKernelIdeal.Value.run_blocks m g, (θ_run _ _ _).mono (fun r h c => ⟨(h.1 c).1.trans ?_, (h.1 c).2⟩)
    (Cert.DownWReferenceIdeal.Product.run m' g')⟩
  rw [(hagree c).1, (hagree c).2]
  exact (Cert.DownWKernelIdeal.Product.array m c).symm

/-- The cotangent of the activation: kernel and reference end with the same product. -/
theorem algebraic_down_x : Cert.algebraic_DownXKernelIdeal_DownXReferenceIdeal (hDownXKernelIdeal := Cert.DownXKernelIdeal.Gen.facts)
    (hDownXReferenceIdeal := Cert.DownXReferenceIdeal.Gen.facts) := by
  intro m g m' g' _ hagree
  refine ⟨_, Cert.DownXKernelIdeal.Value.run_blocks m g, (θ_run _ _ _).mono (fun r h c => ⟨(h.1 c).1.trans ?_, (h.1 c).2⟩)
    (Cert.DownXReferenceIdeal.Product.run m' g')⟩
  rw [(hagree c).1, (hagree c).2]
  exact (Cert.DownXKernelIdeal.Product.array m c).symm

/-- The cotangent of the output projection: kernel and reference end with the same product. -/
theorem algebraic_out_w : Cert.algebraic_OutWKernelIdeal_OutWReferenceIdeal (hOutWKernelIdeal := Cert.OutWKernelIdeal.Gen.facts)
    (hOutWReferenceIdeal := Cert.OutWReferenceIdeal.Gen.facts) := by
  intro m g m' g' _ hagree
  refine ⟨_, Cert.OutWKernelIdeal.Value.run_blocks m g, (θ_run _ _ _).mono (fun r h c => ⟨(h.1 c).1.trans ?_, (h.1 c).2⟩)
    (Cert.OutWReferenceIdeal.Product.run m' g')⟩
  rw [(hagree c).1, (hagree c).2]
  exact (Cert.OutWKernelIdeal.Product.array m c).symm

/-- The cotangent of the mixers' outputs: kernel and reference end with the same product. -/
theorem algebraic_out_x : Cert.algebraic_OutXKernelIdeal_OutXReferenceIdeal (hOutXKernelIdeal := Cert.OutXKernelIdeal.Gen.facts)
    (hOutXReferenceIdeal := Cert.OutXReferenceIdeal.Gen.facts) := by
  intro m g m' g' _ hagree
  refine ⟨_, Cert.OutXKernelIdeal.Value.run_blocks m g, (θ_run _ _ _).mono (fun r h c => ⟨(h.1 c).1.trans ?_, (h.1 c).2⟩)
    (Cert.OutXReferenceIdeal.Product.run m' g')⟩
  rw [(hagree c).1, (hagree c).2.1]
  exact (Cert.OutXKernelIdeal.Product.array m c).symm

/-- The cotangent of the up projection: kernel and reference end with the same product. -/
theorem algebraic_up_w : Cert.algebraic_UpWKernelIdeal_UpWReferenceIdeal (hUpWKernelIdeal := Cert.UpWKernelIdeal.Gen.facts)
    (hUpWReferenceIdeal := Cert.UpWReferenceIdeal.Gen.facts) := by
  intro m g m' g' _ hagree
  refine ⟨_, Cert.UpWKernelIdeal.Value.run_blocks m g, (θ_run _ _ _).mono (fun r h c => ⟨(h.1 c).1.trans ?_, (h.1 c).2⟩)
    (Cert.UpWReferenceIdeal.Product.run m' g')⟩
  rw [(hagree c).1, (hagree c).2.1, (hagree c).2.2]
  exact (Cert.UpWKernelIdeal.Product.array m c).symm

/-- The cotangent of the input projection: kernel and reference end with the same product. -/
theorem algebraic_in_w : Cert.algebraic_InWKernelIdeal_InWReferenceIdeal (hInWKernelIdeal := Cert.InWKernelIdeal.Gen.facts)
    (hInWReferenceIdeal := Cert.InWReferenceIdeal.Gen.facts) := by
  intro m g m' g' _ hagree
  refine ⟨_, Cert.InWKernelIdeal.Value.run_blocks m g, (θ_run _ _ _).mono (fun r h c => ⟨(h.1 c).1.trans ?_, (h.1 c).2⟩)
    (Cert.InWReferenceIdeal.Product.run m' g')⟩
  rw [(hagree c).1, (hagree c).2.1]
  exact (Cert.InWKernelIdeal.Product.array m c).symm

/-- The up projection: kernel and reference end with the same product. -/
theorem algebraic_up : Cert.algebraic_UpKernelIdeal_UpReferenceIdeal (hUpKernelIdeal := Cert.UpKernelIdeal.Gen.facts)
    (hUpReferenceIdeal := Cert.UpReferenceIdeal.Gen.facts) := by
  intro m g m' g' _ hagree
  refine ⟨_, Cert.UpKernelIdeal.Value.run_blocks m g, (θ_run _ _ _).mono (fun r h c => ⟨(h.1 c).1.trans ?_, (h.1 c).2⟩)
    (Cert.UpReferenceIdeal.Product.run m' g')⟩
  rw [(hagree c).1, (hagree c).2]
  exact (Cert.UpKernelIdeal.Product.array m c).symm

/-- The input projection: kernel and reference end with the same product. -/
theorem algebraic_in : Cert.algebraic_InKernelIdeal_InReferenceIdeal (hInKernelIdeal := Cert.InKernelIdeal.Gen.facts)
    (hInReferenceIdeal := Cert.InReferenceIdeal.Gen.facts) := by
  intro m g m' g' _ hagree
  refine ⟨_, Cert.InKernelIdeal.Value.run_blocks m g, (θ_run _ _ _).mono (fun r h c => ⟨(h.1 c).1.trans ?_, (h.1 c).2⟩)
    (Cert.InReferenceIdeal.Product.run m' g')⟩
  rw [(hagree c).1, (hagree c).2]
  exact (Cert.InKernelIdeal.Product.array m c).symm

/-- The product with the up projection and the normalisation's backward pass: for finite cotangents, weights and scales, kernel
and reference end with the same six results. -/
theorem algebraic_up_dx : Cert.algebraic_UpDxKernelIdeal_UpDxReferenceIdeal_pre_finite (hUpDxKernelIdeal := Cert.UpDxKernelIdeal.Gen.facts)
    (hUpDxReferenceIdeal := Cert.UpDxReferenceIdeal.Gen.facts) (hPre_finite := Cert.Pre_finite.Gen.facts) := by
  intro m g m' g' hpre hagree
  refine ⟨_, _, _, _, _, _, Cert.UpDxKernelIdeal.Value.run_blocks m g, ?_⟩
  refine (θ_run (Cert.UpDxReferenceIdeal.defs (F := Ideal)) _ _).mono (fun r h c => ?_) (Cert.UpDxReferenceIdeal.Block.run_stages m' g')
  obtain ⟨r0, r1, r2, r3, r4, r5, hargs⟩ := h c
  obtain ⟨h0, h1, h2, h3, h4, h5, h6, h7, h8, _⟩ := hagree c
  obtain ⟨f0, f1, f2, f7, f8⟩ := Cert.Pre_finite.all_finite _ _ _ _ _ _ _ _ _ _ (hpre c)
  rw [h0, h1, h2, h3, h4, h7, h8] at r0
  rw [h0, h1, h2, h3, h4, h6, h7, h8] at r1
  rw [h0, h1, h2, h3, h4, h5, h7, h8] at r2
  rw [h0, h1, h2, h4, h8] at r3
  rw [h0, h1, h2, h4, h7] at r4
  rw [h0, h1, h2] at r5
  exact ⟨r0.trans ((Cert.UpDxReferenceIdeal.Block.result0_eq _ _ _ _ _ _ _ f0 f1 f2 f7 f8).trans (Cert.UpDxKernelIdeal.Block.array0 m c).symm),
    r1.trans ((Cert.UpDxReferenceIdeal.Block.result1_eq _ _ _ _ _ _ _ _ f0 f1 f2 f7 f8).trans (Cert.UpDxKernelIdeal.Block.array1 m c).symm),
    r2.trans ((Cert.UpDxReferenceIdeal.Block.result2_eq _ _ _ _ _ _ _ _ f0 f1 f2 f7 f8).trans (Cert.UpDxKernelIdeal.Block.array2 m c).symm),
    r3.trans ((Cert.UpDxReferenceIdeal.Block.result3_eq _ _ _ _ _ f0 f1 f2 f8).trans (Cert.UpDxKernelIdeal.Block.array3 m c).symm),
    r4.trans ((Cert.UpDxReferenceIdeal.Block.result4_eq _ _ _ _ _ f0 f1 f2 f7).trans (Cert.UpDxKernelIdeal.Block.array4 m c).symm),
    r5.trans ((Cert.UpDxReferenceIdeal.Block.result5_eq _ _ _).trans (Cert.UpDxKernelIdeal.Block.array5 m c).symm), hargs⟩

/-- The product with the input projection and the normalisation's backward pass: for finite cotangents, weights and scales,
kernel and reference end with the same four results. -/
theorem algebraic_in_dx : Cert.algebraic_InDxKernelIdeal_InDxReferenceIdeal_pre_finite_in
    (hInDxKernelIdeal := Cert.InDxKernelIdeal.Gen.facts) (hInDxReferenceIdeal := Cert.InDxReferenceIdeal.Gen.facts)
    (hPre_finite_in := Cert.Pre_finite_in.Gen.facts) := by
  intro m g m' g' hpre hagree
  refine ⟨_, _, _, _, Cert.InDxKernelIdeal.Value.run_blocks m g, ?_⟩
  refine (θ_run (Cert.InDxReferenceIdeal.defs (F := Ideal)) _ _).mono (fun r h c => ?_) (Cert.InDxReferenceIdeal.Block.run_stages m' g')
  obtain ⟨r0, r1, r2, r3, hargs⟩ := h c
  obtain ⟨h0, h1, h2, h3, h4, h5, _⟩ := hagree c
  obtain ⟨f0, f1, f4, f5⟩ := Cert.Pre_finite_in.all_finite _ _ _ _ _ _ _ (hpre c)
  rw [h0, h1, h2, h3, h4, h5] at r0
  rw [h0, h1, h3, h5] at r1
  rw [h0, h1, h3, h4] at r2
  rw [h0, h1] at r3
  exact ⟨r0.trans ((Cert.InDxReferenceIdeal.Block.result0_eq _ _ _ _ _ _ f0 f1 f4 f5).trans (Cert.InDxKernelIdeal.Block.array0 m c).symm),
    r1.trans ((Cert.InDxReferenceIdeal.Block.result1_eq _ _ _ _ f0 f1 f5).trans (Cert.InDxKernelIdeal.Block.array1 m c).symm),
    r2.trans ((Cert.InDxReferenceIdeal.Block.result2_eq _ _ _ _ f0 f1 f4).trans (Cert.InDxKernelIdeal.Block.array2 m c).symm),
    r3.trans ((Cert.InDxReferenceIdeal.Block.result3_eq _ _).trans (Cert.InDxKernelIdeal.Block.array3 m c).symm), hargs⟩

/-- The output projection with the gated residual and the second normalisation: kernel and reference end with the same three results. -/
theorem algebraic_out : Cert.algebraic_OutKernelIdeal_OutReferenceIdeal (hOutKernelIdeal := Cert.OutKernelIdeal.Gen.facts)
    (hOutReferenceIdeal := Cert.OutReferenceIdeal.Gen.facts) := by
  intro m g m' g' _ hagree
  refine ⟨_, _, _, Cert.OutKernelIdeal.Value.run_blocks m g, ?_⟩
  refine (θ_run (Cert.OutReferenceIdeal.defs (F := Ideal)) _ _).mono (fun r h c => ?_) (Cert.OutReferenceIdeal.Block.run m' g')
  obtain ⟨⟨r0, r1, r2⟩, hargs⟩ := h.1 c
  obtain ⟨h0, h1, h2, h3, h4, h5, h6⟩ := hagree c
  rw [h0, h1] at r0
  rw [h0, h1, h2, h3] at r1
  rw [h0, h1, h2, h3, h4, h5, h6] at r2
  exact ⟨r0.trans (Cert.OutKernelIdeal.Block.array7 m c).symm, r1.trans (Cert.OutKernelIdeal.Block.array8 m c).symm,
    r2.trans (Cert.OutKernelIdeal.Block.array9 m c).symm, hargs⟩

/-- The second projection of the multilayer perceptron with the gated residual and the next layer's first normalisation: kernel and reference end with the same three results. -/
theorem algebraic_down : Cert.algebraic_DownKernelIdeal_DownReferenceIdeal (hDownKernelIdeal := Cert.DownKernelIdeal.Gen.facts)
    (hDownReferenceIdeal := Cert.DownReferenceIdeal.Gen.facts) := by
  intro m g m' g' _ hagree
  refine ⟨_, _, _, Cert.DownKernelIdeal.Value.run_blocks m g, ?_⟩
  refine (θ_run (Cert.DownReferenceIdeal.defs (F := Ideal)) _ _).mono (fun r h c => ?_) (Cert.DownReferenceIdeal.Block.run m' g')
  obtain ⟨⟨r0, r1, r2⟩, hargs⟩ := h.1 c
  obtain ⟨h0, h1, h2, h3, h4, h5, h6⟩ := hagree c
  rw [h0, h1] at r0
  rw [h0, h1, h2, h3] at r1
  rw [h0, h1, h2, h3, h4, h5, h6] at r2
  exact ⟨r0.trans (Cert.DownKernelIdeal.Block.array7 m c).symm, r1.trans (Cert.DownKernelIdeal.Block.array8 m c).symm,
    r2.trans (Cert.DownKernelIdeal.Block.array9 m c).symm, hargs⟩

/-- The optimiser's call at the modulation weights: kernel and reference end with the same gradient, step and averages. -/
theorem algebraic_ada : Cert.algebraic_AdaKernelIdeal_AdaReferenceIdeal (hAdaKernelIdeal := Cert.AdaKernelIdeal.Gen.facts)
    (hAdaReferenceIdeal := Cert.AdaReferenceIdeal.Gen.facts) := by
  intro m g m' g' _ hagree
  refine ⟨_, _, _, _, (θ_run _ _ _).mono (fun _ h => h.1) (Cert.AdaKernelIdeal.Step.run m g), ?_⟩
  refine (θ_run (Cert.AdaReferenceIdeal.defs (F := Ideal)) _ _).mono (fun r h c => ?_) (Cert.AdaReferenceIdeal.Step.run m' g')
  obtain ⟨⟨r0, r1, r2, r3⟩, hargs⟩ := h.1 c
  obtain ⟨h0, h1, h2, h3, _⟩ := hagree c
  rw [h0] at r0
  rw [h0, h1, h2, h3] at r1
  rw [h0, h2] at r2
  rw [h0, h3] at r3
  exact ⟨r0, r1, r2, r3, hargs⟩

/-- The optimiser's call at the SSD convolution's weights: kernel and reference end with the same gradient, step and averages. -/
theorem algebraic_scw : Cert.algebraic_ScwKernelIdeal_ScwReferenceIdeal (hScwKernelIdeal := Cert.ScwKernelIdeal.Gen.facts)
    (hScwReferenceIdeal := Cert.ScwReferenceIdeal.Gen.facts) := by
  intro m g m' g' _ hagree
  refine ⟨_, _, _, _, (θ_run _ _ _).mono (fun _ h => h.1) (Cert.ScwKernelIdeal.Step.run m g), ?_⟩
  refine (θ_run (Cert.ScwReferenceIdeal.defs (F := Ideal)) _ _).mono (fun r h c => ?_) (Cert.ScwReferenceIdeal.Step.run m' g')
  obtain ⟨⟨r0, r1, r2, r3⟩, hargs⟩ := h.1 c
  obtain ⟨h0, h1, h2, h3, _⟩ := hagree c
  rw [h0] at r0
  rw [h0, h1, h2, h3] at r1
  rw [h0, h2] at r2
  rw [h0, h3] at r3
  exact ⟨r0, r1, r2, r3, hargs⟩

/-- The optimiser's call at the feed-forward convolution's weights: kernel and reference end with the same gradient, step and averages. -/
theorem algebraic_fcw : Cert.algebraic_FcwKernelIdeal_FcwReferenceIdeal (hFcwKernelIdeal := Cert.FcwKernelIdeal.Gen.facts)
    (hFcwReferenceIdeal := Cert.FcwReferenceIdeal.Gen.facts) := by
  intro m g m' g' _ hagree
  refine ⟨_, _, _, _, (θ_run _ _ _).mono (fun _ h => h.1) (Cert.FcwKernelIdeal.Step.run m g), ?_⟩
  refine (θ_run (Cert.FcwReferenceIdeal.defs (F := Ideal)) _ _).mono (fun r h c => ?_) (Cert.FcwReferenceIdeal.Step.run m' g')
  obtain ⟨⟨r0, r1, r2, r3⟩, hargs⟩ := h.1 c
  obtain ⟨h0, h1, h2, h3, _⟩ := hagree c
  rw [h0] at r0
  rw [h0, h1, h2, h3] at r1
  rw [h0, h2] at r2
  rw [h0, h3] at r3
  exact ⟨r0, r1, r2, r3, hargs⟩

/-- The cotangent of a layer's modulation weights: kernel and reference end with the same product. -/
theorem algebraic_ada_dw : Cert.algebraic_AdaWKernelIdeal_AdaWReferenceIdeal (hAdaWKernelIdeal := Cert.AdaWKernelIdeal.Gen.facts)
    (hAdaWReferenceIdeal := Cert.AdaWReferenceIdeal.Gen.facts) := by
  intro m g m' g' _ hagree
  refine ⟨_, Cert.AdaWKernelIdeal.Value.run_blocks m g, (θ_run _ _ _).mono (fun r h c => ⟨(h.1 c).1.trans ?_, (h.1 c).2⟩)
    (Cert.AdaWReferenceIdeal.Product.run m' g')⟩
  rw [(hagree c).1, (hagree c).2]
  exact (Cert.AdaWKernelIdeal.Product.array m c).symm

/-- The precondition of the optimiser's call at the mixers' input projection's weights: the word names one of the eight devices. -/
theorem device_win {F : FTy → Type} [FloatOps F] [Cert.Pre_device_w_in.Facts] (a0 a1 a2 a3 a4 a5 a6 a7)
    (h : Cert.Pre_device_w_in.fn (F := F) a0 a1 a2 a3 a4 a5 a6 a7 = fun _ => 1#1) :
    (a7 Shares.only).toNat < 8 := by
  have e := congrFun h Shares.only
  simp only [Cert.Pre_device_w_in.fn, andi, cmpi, broadcastInDim, constantI] at e
  exact Shares.in_range e

/-- The optimiser's call at the mixers' input projection's weights, both layers, ends well at machine floats. -/
theorem frame_win : Cert.quiescent_WinKernel (hWinKernel := Cert.WinKernel.Gen.facts) (hPre_device_w_in := Cert.Pre_device_w_in.Gen.facts) :=
  fun m g h =>
    have hw := device_win _ _ _ _ _ _ _ _ (h 0)
    Cert.WinKernel.Gen.frame m g (Cert.WinKernelIdeal.Step.ok m 0 hw)

/-- And over the extended reals. -/
theorem frame_win_ideal : Cert.quiescent_WinKernelIdeal (hWinKernelIdeal := Cert.WinKernelIdeal.Gen.facts)
    (hPre_device_w_in := Cert.Pre_device_w_in.Gen.facts) :=
  fun m g h =>
    have hw := device_win _ _ _ _ _ _ _ _ (h 0)
    Cert.WinKernelIdeal.Gen.frame m g (Cert.WinKernelIdeal.Step.ok m 0 hw)

/-- The optimiser's call at the mixers' input projection's weights, both layers: kernel and reference end with the same gradient, step and averages. -/
theorem algebraic_win : Cert.algebraic_WinKernelIdeal_WinReferenceIdeal (hWinKernelIdeal := Cert.WinKernelIdeal.Gen.facts)
    (hWinReferenceIdeal := Cert.WinReferenceIdeal.Gen.facts) (hPre_device_w_in := Cert.Pre_device_w_in.Gen.facts) := by
  intro m g m' g' hpre hagree
  have hw := fun c => device_win _ _ _ _ _ _ _ _ (hpre c)
  refine ⟨_, _, _, _, (θ_run _ _ _).mono (fun _ h => h.1) (Cert.WinKernelIdeal.Step.run m g hw), ?_⟩
  have hw' : ∀ c : Dev _, ((m' ((c.tc : Thread Cert.WinReferenceIdeal.nD Cert.WinReferenceIdeal.τ).loc Cert.WinReferenceIdeal.main_arg7) : IVec ⟨1, ![1]⟩ 32)
      Shares.only).toNat < 8 := fun c => by rw [(hagree c).2.2.2.2.2.2.2]; exact hw c
  refine (θ_run (Cert.WinReferenceIdeal.defs (F := Ideal)) _ _).mono (fun r h c => ?_) (Cert.WinReferenceIdeal.Step.run m' g' hw')
  obtain ⟨⟨r0, r1, r2, r3⟩, hargs⟩ := h c
  obtain ⟨h0, h1, h2, h3, h4, h5, h6, h7⟩ := hagree c
  unfold Cert.WinReferenceIdeal.Step.given at r0 r1 r2 r3
  rw [h0, h1, h2, h3, h7] at r0
  rw [h0, h1, h2, h3, h7, h4, h5, h6] at r1
  rw [h0, h1, h2, h3, h7, h5] at r2
  rw [h0, h1, h2, h3, h7, h6] at r3
  exact ⟨r0, r1, r2, r3, hargs⟩

/-- The precondition of the optimiser's call at the mixers' output projection's weights: the word names one of the eight devices. -/
theorem device_wout {F : FTy → Type} [FloatOps F] [Cert.Pre_device_w_out.Facts] (a0 a1 a2 a3 a4 a5 a6 a7 a8 a9)
    (h : Cert.Pre_device_w_out.fn (F := F) a0 a1 a2 a3 a4 a5 a6 a7 a8 a9 = fun _ => 1#1) :
    (a5 Shares.only).toNat < 8 := by
  have e := congrFun h Shares.only
  simp only [Cert.Pre_device_w_out.fn, andi, cmpi, broadcastInDim, constantI] at e
  exact Shares.in_range e

/-- The optimiser's call at the mixers' output projection's weights, first layer, ends well at machine floats. -/
theorem frame_wout : Cert.quiescent_WoutKernel (hWoutKernel := Cert.WoutKernel.Gen.facts) (hPre_device_w_out := Cert.Pre_device_w_out.Gen.facts) :=
  fun m g h =>
    have hw := device_wout _ _ _ _ _ _ _ _ _ _ (h 0)
    Cert.WoutKernel.Gen.frame m g (Cert.WoutKernelIdeal.Step.ok m 0 hw)

/-- And over the extended reals. -/
theorem frame_wout_ideal : Cert.quiescent_WoutKernelIdeal (hWoutKernelIdeal := Cert.WoutKernelIdeal.Gen.facts)
    (hPre_device_w_out := Cert.Pre_device_w_out.Gen.facts) :=
  fun m g h =>
    have hw := device_wout _ _ _ _ _ _ _ _ _ _ (h 0)
    Cert.WoutKernelIdeal.Gen.frame m g (Cert.WoutKernelIdeal.Step.ok m 0 hw)

/-- The optimiser's call at the mixers' output projection's weights, first layer: kernel and reference end with the same gradient, step and averages. -/
theorem algebraic_wout : Cert.algebraic_WoutKernelIdeal_WoutReferenceIdeal (hWoutKernelIdeal := Cert.WoutKernelIdeal.Gen.facts)
    (hWoutReferenceIdeal := Cert.WoutReferenceIdeal.Gen.facts) (hPre_device_w_out := Cert.Pre_device_w_out.Gen.facts) := by
  intro m g m' g' hpre hagree
  have hw := fun c => device_wout _ _ _ _ _ _ _ _ _ _ (hpre c)
  refine ⟨_, _, _, _, (θ_run _ _ _).mono (fun _ h => h.1) (Cert.WoutKernelIdeal.Step.run m g hw), ?_⟩
  have hw' : ∀ c : Dev _, ((m' ((c.tc : Thread Cert.WoutReferenceIdeal.nD Cert.WoutReferenceIdeal.τ).loc Cert.WoutReferenceIdeal.main_arg5) : IVec ⟨1, ![1]⟩ 32)
      Shares.only).toNat < 8 := fun c => by rw [(hagree c).2.2.2.2.2.1]; exact hw c
  refine (θ_run (Cert.WoutReferenceIdeal.defs (F := Ideal)) _ _).mono (fun r h c => ?_) (Cert.WoutReferenceIdeal.Step.run m' g' hw')
  obtain ⟨⟨r0, r1, r2, r3⟩, hargs⟩ := h c
  obtain ⟨h0, h1, h2, h3, h4, h5, h6, h7, h8, h9⟩ := hagree c
  rw [h0, h1, h5, h6] at r0
  rw [h0, h1, h2, h3, h4, h5, h7] at r1
  rw [h0, h1, h3, h5, h8] at r2
  rw [h0, h1, h4, h5, h9] at r3
  exact ⟨r0, r1, r2, r3, hargs⟩

/-- The precondition of the optimiser's call at the feed-forward expansion's weights: the word names one of the eight devices. -/
theorem device_fup {F : FTy → Type} [FloatOps F] [Cert.Pre_device_ff_up.Facts] (a0 a1 a2 a3 a4 a5 a6 a7 a8 a9)
    (h : Cert.Pre_device_ff_up.fn (F := F) a0 a1 a2 a3 a4 a5 a6 a7 a8 a9 = fun _ => 1#1) :
    (a5 Shares.only).toNat < 8 := by
  have e := congrFun h Shares.only
  simp only [Cert.Pre_device_ff_up.fn, andi, cmpi, broadcastInDim, constantI] at e
  exact Shares.in_range e

/-- The optimiser's call at the feed-forward expansion's weights, first layer, ends well at machine floats. -/
theorem frame_fup : Cert.quiescent_FupKernel (hFupKernel := Cert.FupKernel.Gen.facts) (hPre_device_ff_up := Cert.Pre_device_ff_up.Gen.facts) :=
  fun m g h =>
    have hw := device_fup _ _ _ _ _ _ _ _ _ _ (h 0)
    Cert.FupKernel.Gen.frame m g (Cert.FupKernelIdeal.Step.ok m 0 hw)

/-- And over the extended reals. -/
theorem frame_fup_ideal : Cert.quiescent_FupKernelIdeal (hFupKernelIdeal := Cert.FupKernelIdeal.Gen.facts)
    (hPre_device_ff_up := Cert.Pre_device_ff_up.Gen.facts) :=
  fun m g h =>
    have hw := device_fup _ _ _ _ _ _ _ _ _ _ (h 0)
    Cert.FupKernelIdeal.Gen.frame m g (Cert.FupKernelIdeal.Step.ok m 0 hw)

/-- The optimiser's call at the feed-forward expansion's weights, first layer: kernel and reference end with the same gradient, step and averages. -/
theorem algebraic_fup : Cert.algebraic_FupKernelIdeal_FupReferenceIdeal (hFupKernelIdeal := Cert.FupKernelIdeal.Gen.facts)
    (hFupReferenceIdeal := Cert.FupReferenceIdeal.Gen.facts) (hPre_device_ff_up := Cert.Pre_device_ff_up.Gen.facts) := by
  intro m g m' g' hpre hagree
  have hw := fun c => device_fup _ _ _ _ _ _ _ _ _ _ (hpre c)
  refine ⟨_, _, _, _, (θ_run _ _ _).mono (fun _ h => h.1) (Cert.FupKernelIdeal.Step.run m g hw), ?_⟩
  have hw' : ∀ c : Dev _, ((m' ((c.tc : Thread Cert.FupReferenceIdeal.nD Cert.FupReferenceIdeal.τ).loc Cert.FupReferenceIdeal.main_arg5) : IVec ⟨1, ![1]⟩ 32)
      Shares.only).toNat < 8 := fun c => by rw [(hagree c).2.2.2.2.2.1]; exact hw c
  refine (θ_run (Cert.FupReferenceIdeal.defs (F := Ideal)) _ _).mono (fun r h c => ?_) (Cert.FupReferenceIdeal.Step.run m' g' hw')
  obtain ⟨⟨r0, r1, r2, r3⟩, hargs⟩ := h c
  obtain ⟨h0, h1, h2, h3, h4, h5, h6, h7, h8, h9⟩ := hagree c
  rw [h0, h1, h5, h6] at r0
  rw [h0, h1, h2, h3, h4, h5, h7] at r1
  rw [h0, h1, h3, h5, h8] at r2
  rw [h0, h1, h4, h5, h9] at r3
  exact ⟨r0, r1, r2, r3, hargs⟩

/-- The precondition of the optimiser's call at the feed-forward contraction's weights: the word names one of the eight devices. -/
theorem device_fdn {F : FTy → Type} [FloatOps F] [Cert.Pre_device_ff_down.Facts] (a0 a1 a2 a3 a4 a5 a6 a7 a8 a9)
    (h : Cert.Pre_device_ff_down.fn (F := F) a0 a1 a2 a3 a4 a5 a6 a7 a8 a9 = fun _ => 1#1) :
    (a5 Shares.only).toNat < 8 := by
  have e := congrFun h Shares.only
  simp only [Cert.Pre_device_ff_down.fn, andi, cmpi, broadcastInDim, constantI] at e
  exact Shares.in_range e

/-- The optimiser's call at the feed-forward contraction's weights, first layer, ends well at machine floats. -/
theorem frame_fdn : Cert.quiescent_FdnKernel (hFdnKernel := Cert.FdnKernel.Gen.facts) (hPre_device_ff_down := Cert.Pre_device_ff_down.Gen.facts) :=
  fun m g h =>
    have hw := device_fdn _ _ _ _ _ _ _ _ _ _ (h 0)
    Cert.FdnKernel.Gen.frame m g (Cert.FdnKernelIdeal.Step.ok m 0 hw)

/-- And over the extended reals. -/
theorem frame_fdn_ideal : Cert.quiescent_FdnKernelIdeal (hFdnKernelIdeal := Cert.FdnKernelIdeal.Gen.facts)
    (hPre_device_ff_down := Cert.Pre_device_ff_down.Gen.facts) :=
  fun m g h =>
    have hw := device_fdn _ _ _ _ _ _ _ _ _ _ (h 0)
    Cert.FdnKernelIdeal.Gen.frame m g (Cert.FdnKernelIdeal.Step.ok m 0 hw)

/-- The optimiser's call at the feed-forward contraction's weights, first layer: kernel and reference end with the same gradient, step and averages. -/
theorem algebraic_fdn : Cert.algebraic_FdnKernelIdeal_FdnReferenceIdeal (hFdnKernelIdeal := Cert.FdnKernelIdeal.Gen.facts)
    (hFdnReferenceIdeal := Cert.FdnReferenceIdeal.Gen.facts) (hPre_device_ff_down := Cert.Pre_device_ff_down.Gen.facts) := by
  intro m g m' g' hpre hagree
  have hw := fun c => device_fdn _ _ _ _ _ _ _ _ _ _ (hpre c)
  refine ⟨_, _, _, _, (θ_run _ _ _).mono (fun _ h => h.1) (Cert.FdnKernelIdeal.Step.run m g hw), ?_⟩
  have hw' : ∀ c : Dev _, ((m' ((c.tc : Thread Cert.FdnReferenceIdeal.nD Cert.FdnReferenceIdeal.τ).loc Cert.FdnReferenceIdeal.main_arg5) : IVec ⟨1, ![1]⟩ 32)
      Shares.only).toNat < 8 := fun c => by rw [(hagree c).2.2.2.2.2.1]; exact hw c
  refine (θ_run (Cert.FdnReferenceIdeal.defs (F := Ideal)) _ _).mono (fun r h c => ?_) (Cert.FdnReferenceIdeal.Step.run m' g' hw')
  obtain ⟨⟨r0, r1, r2, r3⟩, hargs⟩ := h c
  obtain ⟨h0, h1, h2, h3, h4, h5, h6, h7, h8, h9⟩ := hagree c
  rw [h0, h1, h5, h6] at r0
  rw [h0, h1, h2, h3, h4, h5, h7] at r1
  rw [h0, h1, h3, h5, h8] at r2
  rw [h0, h1, h4, h5, h9] at r3
  exact ⟨r0, r1, r2, r3, hargs⟩

theorem claim : Cert.Claim := ⟨Cert.Kernel.Gen.facts, Cert.KernelIdeal.Gen.facts, Cert.ReferenceIdeal.Gen.facts,
  Cert.DownWKernel.Gen.facts, Cert.DownWKernelIdeal.Gen.facts, Cert.DownWReferenceIdeal.Gen.facts,
  Cert.DownXKernel.Gen.facts, Cert.DownXKernelIdeal.Gen.facts, Cert.DownXReferenceIdeal.Gen.facts,
  Cert.OutWKernel.Gen.facts, Cert.OutWKernelIdeal.Gen.facts, Cert.OutWReferenceIdeal.Gen.facts,
  Cert.OutXKernel.Gen.facts, Cert.OutXKernelIdeal.Gen.facts, Cert.OutXReferenceIdeal.Gen.facts,
  Cert.UpWKernel.Gen.facts, Cert.UpWKernelIdeal.Gen.facts, Cert.UpWReferenceIdeal.Gen.facts,
  Cert.InWKernel.Gen.facts, Cert.InWKernelIdeal.Gen.facts, Cert.InWReferenceIdeal.Gen.facts,
  Cert.UpKernel.Gen.facts, Cert.UpKernelIdeal.Gen.facts, Cert.UpReferenceIdeal.Gen.facts,
  Cert.InKernel.Gen.facts, Cert.InKernelIdeal.Gen.facts, Cert.InReferenceIdeal.Gen.facts,
  Cert.UpDxKernel.Gen.facts, Cert.UpDxKernelIdeal.Gen.facts, Cert.UpDxReferenceIdeal.Gen.facts,
  Cert.InDxKernel.Gen.facts, Cert.InDxKernelIdeal.Gen.facts, Cert.InDxReferenceIdeal.Gen.facts,
  Cert.OutKernel.Gen.facts, Cert.OutKernelIdeal.Gen.facts, Cert.OutReferenceIdeal.Gen.facts,
  Cert.DownKernel.Gen.facts, Cert.DownKernelIdeal.Gen.facts, Cert.DownReferenceIdeal.Gen.facts,
  Cert.AdaKernel.Gen.facts, Cert.AdaKernelIdeal.Gen.facts, Cert.AdaReferenceIdeal.Gen.facts,
  Cert.ScwKernel.Gen.facts, Cert.ScwKernelIdeal.Gen.facts, Cert.ScwReferenceIdeal.Gen.facts,
  Cert.FcwKernel.Gen.facts, Cert.FcwKernelIdeal.Gen.facts, Cert.FcwReferenceIdeal.Gen.facts,
  Cert.AdaWKernel.Gen.facts, Cert.AdaWKernelIdeal.Gen.facts, Cert.AdaWReferenceIdeal.Gen.facts,
  Cert.WinKernel.Gen.facts, Cert.WinKernelIdeal.Gen.facts, Cert.WinReferenceIdeal.Gen.facts,
  Cert.WoutKernel.Gen.facts, Cert.WoutKernelIdeal.Gen.facts, Cert.WoutReferenceIdeal.Gen.facts,
  Cert.FupKernel.Gen.facts, Cert.FupKernelIdeal.Gen.facts, Cert.FupReferenceIdeal.Gen.facts,
  Cert.FdnKernel.Gen.facts, Cert.FdnKernelIdeal.Gen.facts, Cert.FdnReferenceIdeal.Gen.facts,
  Cert.Pre_finite.Gen.facts, Cert.Pre_finite_in.Gen.facts, Cert.Pre_device_w_in.Gen.facts, Cert.Pre_device_w_out.Gen.facts, Cert.Pre_device_ff_up.Gen.facts,
  Cert.Pre_device_ff_down.Gen.facts,
  fun m g _ => Cert.Kernel.Gen.frame m g, fun m g _ => Cert.KernelIdeal.Gen.frame m g,
  fun m g _ => Cert.ReferenceIdeal.Chunk.run_quiescent m g,
  fun m g _ => Cert.DownWKernel.Gen.frame m g, fun m g _ => Cert.DownWKernelIdeal.Gen.frame m g,
  fun m g _ => (θ_run _ _ _).mono (fun _ h => ⟨fun c => (h.1 c).2, h.2⟩) (Cert.DownWReferenceIdeal.Product.run m g),
  fun m g _ => Cert.DownXKernel.Gen.frame m g, fun m g _ => Cert.DownXKernelIdeal.Gen.frame m g,
  fun m g _ => (θ_run _ _ _).mono (fun _ h => ⟨fun c => (h.1 c).2, h.2⟩) (Cert.DownXReferenceIdeal.Product.run m g),
  fun m g _ => Cert.OutWKernel.Gen.frame m g, fun m g _ => Cert.OutWKernelIdeal.Gen.frame m g,
  fun m g _ => (θ_run _ _ _).mono (fun _ h => ⟨fun c => (h.1 c).2, h.2⟩) (Cert.OutWReferenceIdeal.Product.run m g),
  fun m g _ => Cert.OutXKernel.Gen.frame m g, fun m g _ => Cert.OutXKernelIdeal.Gen.frame m g,
  fun m g _ => (θ_run _ _ _).mono (fun _ h => ⟨fun c => (h.1 c).2, h.2⟩) (Cert.OutXReferenceIdeal.Product.run m g),
  fun m g _ => Cert.UpWKernel.Gen.frame m g, fun m g _ => Cert.UpWKernelIdeal.Gen.frame m g,
  fun m g _ => (θ_run _ _ _).mono (fun _ h => ⟨fun c => (h.1 c).2, h.2⟩) (Cert.UpWReferenceIdeal.Product.run m g),
  fun m g _ => Cert.InWKernel.Gen.frame m g, fun m g _ => Cert.InWKernelIdeal.Gen.frame m g,
  fun m g _ => (θ_run _ _ _).mono (fun _ h => ⟨fun c => (h.1 c).2, h.2⟩) (Cert.InWReferenceIdeal.Product.run m g),
  fun m g _ => Cert.UpKernel.Gen.frame m g, fun m g _ => Cert.UpKernelIdeal.Gen.frame m g,
  fun m g _ => (θ_run _ _ _).mono (fun _ h => ⟨fun c => (h.1 c).2, h.2⟩) (Cert.UpReferenceIdeal.Product.run m g),
  fun m g _ => Cert.InKernel.Gen.frame m g, fun m g _ => Cert.InKernelIdeal.Gen.frame m g,
  fun m g _ => (θ_run _ _ _).mono (fun _ h => ⟨fun c => (h.1 c).2, h.2⟩) (Cert.InReferenceIdeal.Product.run m g),
  fun m g _ => Cert.UpDxKernel.Gen.frame m g, fun m g _ => Cert.UpDxKernelIdeal.Gen.frame m g, fun m g _ => Cert.UpDxKernelIdeal.Gen.frame m g,
  fun m g _ => Cert.UpDxReferenceIdeal.Block.run_quiescent m g, fun m g _ => Cert.UpDxReferenceIdeal.Block.run_quiescent m g,
  fun m g _ => Cert.InDxKernel.Gen.frame m g, fun m g _ => Cert.InDxKernelIdeal.Gen.frame m g, fun m g _ => Cert.InDxKernelIdeal.Gen.frame m g,
  fun m g _ => Cert.InDxReferenceIdeal.Block.run_quiescent m g, fun m g _ => Cert.InDxReferenceIdeal.Block.run_quiescent m g,
  fun m g _ => Cert.OutKernel.Gen.frame m g, fun m g _ => Cert.OutKernelIdeal.Gen.frame m g,
  fun m g _ => (θ_run _ _ _).mono (fun _ h => ⟨fun c => (h.1 c).2, h.2⟩) (Cert.OutReferenceIdeal.Block.run m g),
  fun m g _ => Cert.DownKernel.Gen.frame m g, fun m g _ => Cert.DownKernelIdeal.Gen.frame m g,
  fun m g _ => (θ_run _ _ _).mono (fun _ h => ⟨fun c => (h.1 c).2, h.2⟩) (Cert.DownReferenceIdeal.Block.run m g),
  fun m g _ => Cert.AdaKernel.Gen.frame m g trivial, fun m g _ => Cert.AdaKernelIdeal.Gen.frame m g trivial,
  fun m g _ => (θ_run _ _ _).mono (fun _ h => ⟨fun c => (h.1 c).2, h.2⟩) (Cert.AdaReferenceIdeal.Step.run m g),
  fun m g _ => Cert.ScwKernel.Gen.frame m g trivial, fun m g _ => Cert.ScwKernelIdeal.Gen.frame m g trivial,
  fun m g _ => (θ_run _ _ _).mono (fun _ h => ⟨fun c => (h.1 c).2, h.2⟩) (Cert.ScwReferenceIdeal.Step.run m g),
  fun m g _ => Cert.FcwKernel.Gen.frame m g trivial, fun m g _ => Cert.FcwKernelIdeal.Gen.frame m g trivial,
  fun m g _ => (θ_run _ _ _).mono (fun _ h => ⟨fun c => (h.1 c).2, h.2⟩) (Cert.FcwReferenceIdeal.Step.run m g),
  fun m g _ => Cert.AdaWKernel.Gen.frame m g, fun m g _ => Cert.AdaWKernelIdeal.Gen.frame m g,
  fun m g _ => (θ_run _ _ _).mono (fun _ h => ⟨fun c => (h.1 c).2, h.2⟩) (Cert.AdaWReferenceIdeal.Product.run m g),
  frame_win, frame_win_ideal,
  fun m g _ => Cert.WinReferenceIdeal.Step.frame m g, fun m g _ => Cert.WinReferenceIdeal.Step.frame m g,
  frame_wout, frame_wout_ideal,
  fun m g _ => Cert.WoutReferenceIdeal.Step.frame m g, fun m g _ => Cert.WoutReferenceIdeal.Step.frame m g,
  frame_fup, frame_fup_ideal,
  fun m g _ => Cert.FupReferenceIdeal.Step.frame m g, fun m g _ => Cert.FupReferenceIdeal.Step.frame m g,
  frame_fdn, frame_fdn_ideal,
  fun m g _ => Cert.FdnReferenceIdeal.Step.frame m g, fun m g _ => Cert.FdnReferenceIdeal.Step.frame m g,
  trivial, algebraic_gmlp, trivial, algebraic_down_w, trivial, algebraic_down_x, trivial, algebraic_out_w, trivial, algebraic_out_x,
  trivial, algebraic_up_w, trivial, algebraic_in_w, trivial, algebraic_up, trivial, algebraic_in,
  trivial, algebraic_up_dx, trivial, algebraic_in_dx, trivial, algebraic_out, trivial, algebraic_down,
  trivial, algebraic_ada, trivial, algebraic_scw, trivial, algebraic_fcw, trivial, algebraic_ada_dw,
  trivial, algebraic_win, trivial, algebraic_wout, trivial, algebraic_fup, trivial, algebraic_fdn⟩

end Cert.Proof

end
